-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![64, 1024]⟩ ⟨2, ![2048, 1024]⟩ 0 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![1024, 2048]⟩ ⟨2, ![1024, 65536]⟩ 1 32 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![1024, 2048]⟩ ⟨2, ![1024, 65536]⟩ 1 32 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![1024, 2048]⟩ ⟨2, ![1024, 65536]⟩ 1 32 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![2048, 1024]⟩ ⟨2, ![65536, 1024]⟩ 0 32 c (m' (((0 : Dev Cert.ReferenceIdeal.nD).tc : Thread Cert.ReferenceIdeal.nD Cert.ReferenceIdeal.τ).loc Cert.ReferenceIdeal.main_arg4))
      ∧ m ((c.tc : Thread Cert.KernelIdeal.nD Cert.KernelIdeal.τ).loc Cert.KernelIdeal.main_arg5) = Layout.block ⟨2, ![2048, 1024]⟩ ⟨2, ![65536, 1024]⟩ 0 32 c (m' (((0 : Dev Cert.ReferenceIdeal.nD).tc : Thread Cert.ReferenceIdeal.nD Cert.ReferenceIdeal.τ).loc Cert.ReferenceIdeal.main_arg5))
      ∧ m ((c.tc : Thread Cert.KernelIdeal.nD Cert.KernelIdeal.τ).loc Cert.KernelIdeal.main_arg6) = Layout.block ⟨2, ![2048, 1024]⟩ ⟨2, ![65536, 1024]⟩ 0 32 c (m' (((0 : Dev Cert.ReferenceIdeal.nD).tc : Thread Cert.ReferenceIdeal.nD Cert.ReferenceIdeal.τ).loc Cert.ReferenceIdeal.main_arg6))) →
    ∃ (v0 : Buf (Elt Ideal) (((0 : Dev Cert.ReferenceIdeal.nD).tc : Thread Cert.ReferenceIdeal.nD Cert.ReferenceIdeal.τ).loc Cert.ReferenceIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = Layout.block ⟨2, ![64, 1024]⟩ ⟨2, ![2048, 1024]⟩ 0 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v18) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4)
          ∧ r.2.mem (((0 : Dev Cert.ReferenceIdeal.nD).tc : Thread Cert.ReferenceIdeal.nD Cert.ReferenceIdeal.τ).loc Cert.ReferenceIdeal.main_arg5) = m' (((0 : Dev Cert.ReferenceIdeal.nD).tc : Thread Cert.ReferenceIdeal.nD Cert.ReferenceIdeal.τ).loc Cert.ReferenceIdeal.main_arg5)
          ∧ r.2.mem (((0 : Dev Cert.ReferenceIdeal.nD).tc : Thread Cert.ReferenceIdeal.nD Cert.ReferenceIdeal.τ).loc Cert.ReferenceIdeal.main_arg6) = m' (((0 : Dev Cert.ReferenceIdeal.nD).tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S64x1024 : Shape := ⟨2, ![64, 1024]⟩
abbrev S1024x2048 : Shape := ⟨2, ![1024, 2048]⟩
abbrev S2048x1024 : Shape := ⟨2, ![2048, 1024]⟩
abbrev S32 : Shape := ⟨1, ![32]⟩
abbrev S1x32 : Shape := ⟨2, ![1, 32]⟩
abbrev S960x1024 : Shape := ⟨2, ![960, 1024]⟩
abbrev S1024x1024 : Shape := ⟨2, ![1024, 1024]⟩
abbrev S2 : Shape := ⟨1, ![2]⟩
abbrev S30 : Shape := ⟨1, ![30]⟩
abbrev S1x1 : Shape := ⟨2, ![1, 1]⟩
abbrev S_ : Shape := ⟨0, ![]⟩
abbrev S1 : Shape := ⟨1, ![1]⟩
abbrev S32x1024 : Shape := ⟨2, ![32, 1024]⟩
abbrev S64x2048 : Shape := ⟨2, ![64, 2048]⟩

abbrev nBuf : Space → Nat
  | .hbm => 12
  | .vmem => 14
  | .smem => 2
  | _ => 0

abbrev bufTy : (tb : Table) → Fin (tcTables nBuf tb) → BufTy
  | .hbm, ⟨0, _⟩ => ⟨S64x1024, .bf16⟩
  | .hbm, ⟨1, _⟩ => ⟨S1024x2048, .bf16⟩
  | .hbm, ⟨2, _⟩ => ⟨S1024x2048, .bf16⟩
  | .hbm, ⟨3, _⟩ => ⟨S1024x2048, .bf16⟩
  | .hbm, ⟨4, _⟩ => ⟨S2048x1024, .bf16⟩
  | .hbm, ⟨5, _⟩ => ⟨S2048x1024, .bf16⟩
  | .hbm, ⟨6, _⟩ => ⟨S2048x1024, .bf16⟩
  | .hbm, ⟨7, _⟩ => ⟨S32, .i32⟩
  | .hbm, ⟨8, _⟩ => ⟨S32, .i32⟩
  | .hbm, ⟨9, _⟩ => ⟨S1x32, .i32⟩
  | .hbm, ⟨10, _⟩ => ⟨S1x32, .i32⟩
  | .hbm, ⟨11, _⟩ => ⟨S64x1024, .f32⟩
  | .local _ .vmem, ⟨0, _⟩ => ⟨S64x1024, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S2048x1024, .bf16⟩
  | .local _ .vmem, ⟨5, _⟩ => ⟨S2048x1024, .bf16⟩
  | .local _ .vmem, ⟨6, _⟩ => ⟨S2048x1024, .bf16⟩
  | .local _ .vmem, ⟨7, _⟩ => ⟨S64x1024, .f32⟩
  | .local _ .vmem, ⟨8, _⟩ => ⟨S2048x1024, .bf16⟩
  | .local _ .vmem, ⟨9, _⟩ => ⟨S2048x1024, .f32⟩
  | .local _ .vmem, ⟨10, _⟩ => ⟨S64x1024, .bf16⟩
  | .local _ .vmem, ⟨11, _⟩ => ⟨S64x1024, .bf16⟩
  | .local _ .vmem, ⟨12, _⟩ => ⟨S960x1024, .bf16⟩
  | .local _ .vmem, ⟨13, _⟩ => ⟨S1024x1024, .bf16⟩
  | .local _ .smem, ⟨0, _⟩ => ⟨S1x32, .i32⟩
  | .local _ .smem, ⟨1, _⟩ => ⟨S1x32, .i32⟩
  | _, _ => ⟨S64x1024, .bf16⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .smem, ⟨0, _⟩ => true
  | .smem, ⟨1, _⟩ => true
  | _, _ => false

abbrev semScoped : Fin 1 → Bool
  | ⟨0, _⟩ => false
  | _ => false

abbrev dmaSemScoped : Fin 142 → Bool
  | ⟨i, _⟩ => dmaSemScopedAt i

abbrev sig : RefSig :=
  (ofTc nBuf bufTy 1 142 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_c_0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev cc0_stg2_0 : Ref sig .tc := ⟨.vmem, 0, rfl⟩
abbrev cc0_stg3_0 : Ref sig .tc := ⟨.vmem, 1, rfl⟩
abbrev cc0_stg4_0 : Ref sig .tc := ⟨.vmem, 2, rfl⟩
abbrev cc0_stg5_0 : Ref sig .tc := ⟨.vmem, 3, rfl⟩
abbrev cc0_stg6_0 : Ref sig .tc := ⟨.vmem, 4, rfl⟩
abbrev cc0_stg7_0 : Ref sig .tc := ⟨.vmem, 5, rfl⟩
abbrev cc0_stg8_0 : Ref sig .tc := ⟨.vmem, 6, rfl⟩
abbrev cc0_stg9_0 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_scratch4 : Ref sig .tc := ⟨.vmem, 12, rfl⟩
abbrev cc0_scratch5 : Ref sig .tc := ⟨.vmem, 13, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev barrier0 : Sem sig := 0

abbrev nD : Nat := 32
abbrev τ : Topo := Topo.v7x

variable {F : FTy → Type} [FloatOps F]

abbrev grid0 : Pipeline.Grid := .none

def k0_off1 (d0 : Dev nD) : Fin 2 → Nat :=
  let c0 : Index := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v3 : Index := Scalar.indexCast v2
  ![0, v3.toNat]
def k0_off2 (v4 : BitVec 32) : Fin 2 → Nat :=
  let c0_2 : Index := 0#32
  let c1_i32_0 : BitVec 32 := 1#32
  let v5 : BitVec 32 := Scalar.subi v4 c1_i32_0
  let c64_i32 : BitVec 32 := 64#32
  let v6 : BitVec 32 := Scalar.addi v5 c64_i32
  let c32_i32_1 : BitVec 32 := 32#32
  let v7 : BitVec 32 := Scalar.remsi v6 c32_i32_1
  let v8 : Index := Scalar.indexCast v7
  ![0, v8.toNat]

def k0_off3 (v4 : BitVec 32) : Fin 2 → Nat :=
  let c0_6 : Index := 0#32
  let c1_i32_3 : BitVec 32 := 1#32
  let v10 : BitVec 32 := Scalar.addi v4 c1_i32_3
  let c64_i32_4 : BitVec 32 := 64#32
  let v11 : BitVec 32 := Scalar.addi v10 c64_i32_4
  let c32_i32_5 : BitVec 32 := 32#32
  let v12 : BitVec 32 := Scalar.remsi v11 c32_i32_5
  let v13 : Index := Scalar.indexCast v12
  ![0, v13.toNat]
def k0_dev1 (v9 : BitVec 32) : Nat :=
  let c0_i32 : BitVec 32 := 0#32
  let c1_i32_8 : BitVec 32 := 1#32
  let v16 : BitVec 32 := Scalar.muli v9 c1_i32_8
  let v17 : BitVec 32 := Scalar.addi c0_i32 v16
  v17.toNat

def k0_dev2 (v14 : BitVec 32) : Nat :=
  let c0_i32_11 : BitVec 32 := 0#32
  let c1_i32_10 : BitVec 32 := 1#32
  let v18 : BitVec 32 := Scalar.muli v14 c1_i32_10
  let v19 : BitVec 32 := Scalar.addi c0_i32_11 v18
  v19.toNat

def k0_off4 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c64_i32_14 : BitVec 32 := 64#32
  let v22 : BitVec 32 := Scalar.muli v2 c64_i32_14
  let v23 : Index := Scalar.indexCast v22
  let c0_15 : Index := 0#32
  ![v23.toNat, 0]
@[reducible] def k0_t1_loop : Scf.Loop 32 :=
  let c0_i32_16 : BitVec 32 := 0#32
  let c16_i32 : BitVec 32 := 16#32
  let v27 : BitVec 32 := Scalar.addi c0_i32_16 c16_i32
  let c1_i32_17 : BitVec 32 := 1#32
  ⟨c0_i32_16, v27, c1_i32_17⟩
def k0_cond1 (k0_t1 : Fin k0_t1_loop.trips) : BitVec 1 :=
  let c0_i32_16 : BitVec 32 := 0#32
  let c1_i32_17 : BitVec 32 := 1#32
  let arg24 : BitVec 32 := Scf.iv c0_i32_16 c1_i32_17 k0_t1
  let c0_i32_290 : BitVec 32 := 0#32
  let v298 : BitVec 1 := Scalar.cmpi .sgt arg24 c0_i32_290
  let v299 : BitVec 32 := Scalar.extui v298
  let c0_i32_291 : BitVec 32 := 0#32
  let v300 : BitVec 1 := Scalar.cmpi .ne v299 c0_i32_291
  v300

def k0_off5 (v4 : BitVec 32) (k0_t1 : Fin k0_t1_loop.trips) : Fin 2 → Nat :=
  let c0_328 : Index := 0#32
  let c0_i32_16 : BitVec 32 := 0#32
  let c1_i32_17 : BitVec 32 := 1#32
  let arg24 : BitVec 32 := Scf.iv c0_i32_16 c1_i32_17 k0_t1
  let c1_i32_325 : BitVec 32 := 1#32
  let v351 : BitVec 32 := Scalar.subi arg24 c1_i32_325
  let v352 : BitVec 32 := Scalar.subi v4 v351
  let c64_i32_326 : BitVec 32 := 64#32
  let v353 : BitVec 32 := Scalar.addi v352 c64_i32_326
  let c32_i32_327 : BitVec 32 := 32#32
  let v354 : BitVec 32 := Scalar.remsi v353 c32_i32_327
  let v355 : Index := Scalar.indexCast v354
  ![0, v355.toNat]
def k0_off6 (v356 : BitVec 32) : Fin 2 → Nat :=
  let c64_i32_329 : BitVec 32 := 64#32
  let v357 : BitVec 32 := Scalar.muli v356 c64_i32_329
  let c0_i32_330 : BitVec 32 := 0#32
  let v358 : BitVec 32 := Scalar.addi v357 c0_i32_330
  let c0_i32_334 : BitVec 32 := 0#32
  ![v358.toNat, 0]

def k0_chk4 (k0_t1 : Fin k0_t1_loop.trips) (v356 : BitVec 32) : Prop :=
  (∀ (k0_h1 : k0_cond1 k0_t1 = 1#1), ∀ a, (k0_off6 v356) a + S32x1024.size a ≤ S2048x1024.size a) ∧
  (∀ (k0_h1 : k0_cond1 k0_t1 = 1#1), ∀ (hinb : ∀ a, (k0_off6 v356) a + S32x1024.size a ≤ S2048x1024.size a), (Rect.unit (s := S2048x1024) (k0_off6 v356) S32x1024.size hinb).WholeWords (EltTy.packing .bf16))
theorem k0_off6_inb : ∀ (k0_t1 : Fin k0_t1_loop.trips) (v356 : BitVec 32) (k0_hw4 : k0_chk4 k0_t1 v356), ∀ (k0_h1 : k0_cond1 k0_t1 = 1#1), ∀ a, (k0_off6 v356) a + S32x1024.size a ≤ S2048x1024.size a := fun k0_t1 v356 k0_hw4 k0_h1 => k0_hw4.1 k0_h1
theorem k0_off6_wordsbf16 : ∀ (k0_t1 : Fin k0_t1_loop.trips) (v356 : BitVec 32) (k0_hw4 : k0_chk4 k0_t1 v356), ∀ (k0_h1 : k0_cond1 k0_t1 = 1#1), (Rect.unit (s := S2048x1024) (k0_off6 v356) S32x1024.size (k0_off6_inb k0_t1 v356 k0_hw4 k0_h1)).WholeWords (EltTy.packing .bf16) := fun k0_t1 v356 k0_hw4 k0_h1 => k0_hw4.2 k0_h1 (k0_off6_inb k0_t1 v356 k0_hw4 k0_h1)

def k0_off7 (k0_t1 : Fin k0_t1_loop.trips) : Fin 1 → Nat :=
  let c0_i32_331 : BitVec 32 := 0#32
  let c0_i32_16 : BitVec 32 := 0#32
  let c1_i32_17 : BitVec 32 := 1#32
  let arg24 : BitVec 32 := Scf.iv c0_i32_16 c1_i32_17 k0_t1
  let c1_i32_325 : BitVec 32 := 1#32
  let v351 : BitVec 32 := Scalar.subi arg24 c1_i32_325
  let v359 : BitVec 32 := Scalar.addi c0_i32_331 v351
  ![v359.toNat]
def k0_off8 (v4 : BitVec 32) (k0_t1 : Fin k0_t1_loop.trips) : Fin 2 → Nat :=
  let c0_294 : Index := 0#32
  let c0_i32_16 : BitVec 32 := 0#32
  let c1_i32_17 : BitVec 32 := 1#32
  let arg24 : BitVec 32 := Scf.iv c0_i32_16 c1_i32_17 k0_t1
  let v301 : BitVec 32 := Scalar.subi v4 arg24
  let c64_i32_292 : BitVec 32 := 64#32
  let v302 : BitVec 32 := Scalar.addi v301 c64_i32_292
  let c32_i32_293 : BitVec 32 := 32#32
  let v303 : BitVec 32 := Scalar.remsi v302 c32_i32_293
  let v304 : Index := Scalar.indexCast v303
  ![0, v304.toNat]
def k0_off9 (k0_t1 : Fin k0_t1_loop.trips) : Fin 1 → Nat :=
  let c0_i32_297 : BitVec 32 := 0#32
  let c0_i32_16 : BitVec 32 := 0#32
  let c1_i32_17 : BitVec 32 := 1#32
  let arg24 : BitVec 32 := Scf.iv c0_i32_16 c1_i32_17 k0_t1
  let v308 : BitVec 32 := Scalar.addi c0_i32_297 arg24
  ![v308.toNat]
def k0_off10 (v305 : BitVec 32) : Fin 2 → Nat :=
  let c64_i32_295 : BitVec 32 := 64#32
  let v306 : BitVec 32 := Scalar.muli v305 c64_i32_295
  let c0_i32_296 : BitVec 32 := 0#32
  let v307 : BitVec 32 := Scalar.addi v306 c0_i32_296
  let c0_i32_301 : BitVec 32 := 0#32
  ![v307.toNat, 0]

def k0_chk5 (v305 : BitVec 32) : Prop :=
  (∀ a, (k0_off10 v305) a + S32x1024.size a ≤ S2048x1024.size a) ∧
  (∀ (hinb : ∀ a, (k0_off10 v305) a + S32x1024.size a ≤ S2048x1024.size a), (Rect.unit (s := S2048x1024) (k0_off10 v305) S32x1024.size hinb).WholeWords (EltTy.packing .bf16))
theorem k0_off10_inb : ∀ (v305 : BitVec 32) (k0_hw5 : k0_chk5 v305), ∀ a, (k0_off10 v305) a + S32x1024.size a ≤ S2048x1024.size a := fun v305 k0_hw5 => k0_hw5.1
theorem k0_off10_wordsbf16 : ∀ (v305 : BitVec 32) (k0_hw5 : k0_chk5 v305), (Rect.unit (s := S2048x1024) (k0_off10 v305) S32x1024.size (k0_off10_inb v305 k0_hw5)).WholeWords (EltTy.packing .bf16) := fun v305 k0_hw5 => k0_hw5.2 (k0_off10_inb v305 k0_hw5)

def k0_dev3 (v14 : BitVec 32) : Nat :=
  let c0_i32_300 : BitVec 32 := 0#32
  let c1_i32_299 : BitVec 32 := 1#32
  let v309 : BitVec 32 := Scalar.muli v14 c1_i32_299
  let v310 : BitVec 32 := Scalar.addi c0_i32_300 v309
  v310.toNat
def k0_cond2 (k0_t1 : Fin k0_t1_loop.trips) : BitVec 1 :=
  let c0_i32_16 : BitVec 32 := 0#32
  let c1_i32_17 : BitVec 32 := 1#32
  let arg24 : BitVec 32 := Scf.iv c0_i32_16 c1_i32_17 k0_t1
  let c0_i32_303 : BitVec 32 := 0#32
  let v317 : BitVec 1 := Scalar.cmpi .sgt arg24 c0_i32_303
  let v318 : BitVec 32 := Scalar.extui v317
  let c0_i32_304 : BitVec 32 := 0#32
  let v319 : BitVec 1 := Scalar.cmpi .ne v318 c0_i32_304
  v319

def k0_off11 (v4 : BitVec 32) (k0_t1 : Fin k0_t1_loop.trips) : Fin 2 → Nat :=
  let c0_328 : Index := 0#32
  let c0_i32_16 : BitVec 32 := 0#32
  let c1_i32_17 : BitVec 32 := 1#32
  let arg24 : BitVec 32 := Scf.iv c0_i32_16 c1_i32_17 k0_t1
  let c1_i32_325 : BitVec 32 := 1#32
  let v351 : BitVec 32 := Scalar.subi arg24 c1_i32_325
  let v352 : BitVec 32 := Scalar.addi v4 v351
  let c64_i32_326 : BitVec 32 := 64#32
  let v353 : BitVec 32 := Scalar.addi v352 c64_i32_326
  let c32_i32_327 : BitVec 32 := 32#32
  let v354 : BitVec 32 := Scalar.remsi v353 c32_i32_327
  let v355 : Index := Scalar.indexCast v354
  ![0, v355.toNat]
def k0_off12 (v356 : BitVec 32) : Fin 2 → Nat :=
  let c64_i32_329 : BitVec 32 := 64#32
  let v357 : BitVec 32 := Scalar.muli v356 c64_i32_329
  let c0_i32_330 : BitVec 32 := 0#32
  let v358 : BitVec 32 := Scalar.addi v357 c0_i32_330
  let c0_i32_334 : BitVec 32 := 0#32
  ![v358.toNat, 0]

def k0_chk6 (k0_t1 : Fin k0_t1_loop.trips) (v356 : BitVec 32) : Prop :=
  (∀ (k0_h2 : k0_cond2 k0_t1 = 1#1), ∀ a, (k0_off12 v356) a + S32x1024.size a ≤ S2048x1024.size a) ∧
  (∀ (k0_h2 : k0_cond2 k0_t1 = 1#1), ∀ (hinb : ∀ a, (k0_off12 v356) a + S32x1024.size a ≤ S2048x1024.size a), (Rect.unit (s := S2048x1024) (k0_off12 v356) S32x1024.size hinb).WholeWords (EltTy.packing .bf16))
theorem k0_off12_inb : ∀ (k0_t1 : Fin k0_t1_loop.trips) (v356 : BitVec 32) (k0_hw6 : k0_chk6 k0_t1 v356), ∀ (k0_h2 : k0_cond2 k0_t1 = 1#1), ∀ a, (k0_off12 v356) a + S32x1024.size a ≤ S2048x1024.size a := fun k0_t1 v356 k0_hw6 k0_h2 => k0_hw6.1 k0_h2
theorem k0_off12_wordsbf16 : ∀ (k0_t1 : Fin k0_t1_loop.trips) (v356 : BitVec 32) (k0_hw6 : k0_chk6 k0_t1 v356), ∀ (k0_h2 : k0_cond2 k0_t1 = 1#1), (Rect.unit (s := S2048x1024) (k0_off12 v356) S32x1024.size (k0_off12_inb k0_t1 v356 k0_hw6 k0_h2)).WholeWords (EltTy.packing .bf16) := fun k0_t1 v356 k0_hw6 k0_h2 => k0_hw6.2 k0_h2 (k0_off12_inb k0_t1 v356 k0_hw6 k0_h2)

def k0_off13 (k0_t1 : Fin k0_t1_loop.trips) : Fin 1 → Nat :=
  let c0_i32_331 : BitVec 32 := 0#32
  let c0_i32_16 : BitVec 32 := 0#32
  let c1_i32_17 : BitVec 32 := 1#32
  let arg24 : BitVec 32 := Scf.iv c0_i32_16 c1_i32_17 k0_t1
  let c1_i32_325 : BitVec 32 := 1#32
  let v351 : BitVec 32 := Scalar.subi arg24 c1_i32_325
  let v359 : BitVec 32 := Scalar.addi c0_i32_331 v351
  ![v359.toNat]
def k0_cond3 (k0_t1 : Fin k0_t1_loop.trips) : BitVec 1 :=
  let c0_i32_16 : BitVec 32 := 0#32
  let c1_i32_17 : BitVec 32 := 1#32
  let arg24 : BitVec 32 := Scf.iv c0_i32_16 c1_i32_17 k0_t1
  let c15_i32_305 : BitVec 32 := 15#32
  let v320 : BitVec 1 := Scalar.cmpi .slt arg24 c15_i32_305
  let v321 : BitVec 32 := Scalar.extui v320
  let c0_i32_306 : BitVec 32 := 0#32
  let v322 : BitVec 1 := Scalar.cmpi .ne v321 c0_i32_306
  v322

def k0_off14 (v4 : BitVec 32) (k0_t1 : Fin k0_t1_loop.trips) : Fin 2 → Nat :=
  let c0_327 : Index := 0#32
  let c0_i32_16 : BitVec 32 := 0#32
  let c1_i32_17 : BitVec 32 := 1#32
  let arg24 : BitVec 32 := Scf.iv c0_i32_16 c1_i32_17 k0_t1
  let v351 : BitVec 32 := Scalar.addi v4 arg24
  let c64_i32_325 : BitVec 32 := 64#32
  let v352 : BitVec 32 := Scalar.addi v351 c64_i32_325
  let c32_i32_326 : BitVec 32 := 32#32
  let v353 : BitVec 32 := Scalar.remsi v352 c32_i32_326
  let v354 : Index := Scalar.indexCast v353
  ![0, v354.toNat]
def k0_off15 (k0_t1 : Fin k0_t1_loop.trips) : Fin 1 → Nat :=
  let c0_i32_330 : BitVec 32 := 0#32
  let c0_i32_16 : BitVec 32 := 0#32
  let c1_i32_17 : BitVec 32 := 1#32
  let arg24 : BitVec 32 := Scf.iv c0_i32_16 c1_i32_17 k0_t1
  let v358 : BitVec 32 := Scalar.addi c0_i32_330 arg24
  ![v358.toNat]
def k0_off16 (v355 : BitVec 32) : Fin 2 → Nat :=
  let c64_i32_328 : BitVec 32 := 64#32
  let v356 : BitVec 32 := Scalar.muli v355 c64_i32_328
  let c0_i32_329 : BitVec 32 := 0#32
  let v357 : BitVec 32 := Scalar.addi v356 c0_i32_329
  let c0_i32_334 : BitVec 32 := 0#32
  ![v357.toNat, 0]

def k0_chk7 (k0_t1 : Fin k0_t1_loop.trips) (v355 : BitVec 32) : Prop :=
  (∀ (k0_h3 : k0_cond3 k0_t1 = 1#1), ∀ a, (k0_off16 v355) a + S32x1024.size a ≤ S2048x1024.size a) ∧
  (∀ (k0_h3 : k0_cond3 k0_t1 = 1#1), ∀ (hinb : ∀ a, (k0_off16 v355) a + S32x1024.size a ≤ S2048x1024.size a), (Rect.unit (s := S2048x1024) (k0_off16 v355) S32x1024.size hinb).WholeWords (EltTy.packing .bf16))
theorem k0_off16_inb : ∀ (k0_t1 : Fin k0_t1_loop.trips) (v355 : BitVec 32) (k0_hw7 : k0_chk7 k0_t1 v355), ∀ (k0_h3 : k0_cond3 k0_t1 = 1#1), ∀ a, (k0_off16 v355) a + S32x1024.size a ≤ S2048x1024.size a := fun k0_t1 v355 k0_hw7 k0_h3 => k0_hw7.1 k0_h3
theorem k0_off16_wordsbf16 : ∀ (k0_t1 : Fin k0_t1_loop.trips) (v355 : BitVec 32) (k0_hw7 : k0_chk7 k0_t1 v355), ∀ (k0_h3 : k0_cond3 k0_t1 = 1#1), (Rect.unit (s := S2048x1024) (k0_off16 v355) S32x1024.size (k0_off16_inb k0_t1 v355 k0_hw7 k0_h3)).WholeWords (EltTy.packing .bf16) := fun k0_t1 v355 k0_hw7 k0_h3 => k0_hw7.2 k0_h3 (k0_off16_inb k0_t1 v355 k0_hw7 k0_h3)

def k0_dev4 (v9 : BitVec 32) : Nat :=
  let c0_i32_333 : BitVec 32 := 0#32
  let c1_i32_332 : BitVec 32 := 1#32
  let v359 : BitVec 32 := Scalar.muli v9 c1_i32_332
  let v360 : BitVec 32 := Scalar.addi c0_i32_333 v359
  v360.toNat
def k0_cond4 (k0_t1 : Fin k0_t1_loop.trips) : BitVec 1 :=
  let c0_i32_16 : BitVec 32 := 0#32
  let c1_i32_17 : BitVec 32 := 1#32
  let arg24 : BitVec 32 := Scf.iv c0_i32_16 c1_i32_17 k0_t1
  let c0_i32_307 : BitVec 32 := 0#32
  let v323 : BitVec 1 := Scalar.cmpi .sgt arg24 c0_i32_307
  let v324 : BitVec 32 := Scalar.extui v323
  let c0_i32_308 : BitVec 32 := 0#32
  let v325 : BitVec 1 := Scalar.cmpi .ne v324 c0_i32_308
  v325

def k0_off17 (v4 : BitVec 32) (k0_t1 : Fin k0_t1_loop.trips) : Fin 2 → Nat :=
  let c0_328 : Index := 0#32
  let c0_i32_16 : BitVec 32 := 0#32
  let c1_i32_17 : BitVec 32 := 1#32
  let arg24 : BitVec 32 := Scf.iv c0_i32_16 c1_i32_17 k0_t1
  let c1_i32_325 : BitVec 32 := 1#32
  let v351 : BitVec 32 := Scalar.subi arg24 c1_i32_325
  let v352 : BitVec 32 := Scalar.subi v4 v351
  let c64_i32_326 : BitVec 32 := 64#32
  let v353 : BitVec 32 := Scalar.addi v352 c64_i32_326
  let c32_i32_327 : BitVec 32 := 32#32
  let v354 : BitVec 32 := Scalar.remsi v353 c32_i32_327
  let v355 : Index := Scalar.indexCast v354
  ![0, v355.toNat]
def k0_off18 (v356 : BitVec 32) : Fin 2 → Nat :=
  let c64_i32_329 : BitVec 32 := 64#32
  let v357 : BitVec 32 := Scalar.muli v356 c64_i32_329
  let c32_i32_330 : BitVec 32 := 32#32
  let v358 : BitVec 32 := Scalar.addi v357 c32_i32_330
  let c0_i32_334 : BitVec 32 := 0#32
  ![v358.toNat, 0]

def k0_chk8 (k0_t1 : Fin k0_t1_loop.trips) (v356 : BitVec 32) : Prop :=
  (∀ (k0_h4 : k0_cond4 k0_t1 = 1#1), ∀ a, (k0_off18 v356) a + S32x1024.size a ≤ S2048x1024.size a) ∧
  (∀ (k0_h4 : k0_cond4 k0_t1 = 1#1), ∀ (hinb : ∀ a, (k0_off18 v356) a + S32x1024.size a ≤ S2048x1024.size a), (Rect.unit (s := S2048x1024) (k0_off18 v356) S32x1024.size hinb).WholeWords (EltTy.packing .bf16))
theorem k0_off18_inb : ∀ (k0_t1 : Fin k0_t1_loop.trips) (v356 : BitVec 32) (k0_hw8 : k0_chk8 k0_t1 v356), ∀ (k0_h4 : k0_cond4 k0_t1 = 1#1), ∀ a, (k0_off18 v356) a + S32x1024.size a ≤ S2048x1024.size a := fun k0_t1 v356 k0_hw8 k0_h4 => k0_hw8.1 k0_h4
theorem k0_off18_wordsbf16 : ∀ (k0_t1 : Fin k0_t1_loop.trips) (v356 : BitVec 32) (k0_hw8 : k0_chk8 k0_t1 v356), ∀ (k0_h4 : k0_cond4 k0_t1 = 1#1), (Rect.unit (s := S2048x1024) (k0_off18 v356) S32x1024.size (k0_off18_inb k0_t1 v356 k0_hw8 k0_h4)).WholeWords (EltTy.packing .bf16) := fun k0_t1 v356 k0_hw8 k0_h4 => k0_hw8.2 k0_h4 (k0_off18_inb k0_t1 v356 k0_hw8 k0_h4)

def k0_off19 (k0_t1 : Fin k0_t1_loop.trips) : Fin 1 → Nat :=
  let c16_i32_331 : BitVec 32 := 16#32
  let c0_i32_16 : BitVec 32 := 0#32
  let c1_i32_17 : BitVec 32 := 1#32
  let arg24 : BitVec 32 := Scf.iv c0_i32_16 c1_i32_17 k0_t1
  let c1_i32_325 : BitVec 32 := 1#32
  let v351 : BitVec 32 := Scalar.subi arg24 c1_i32_325
  let v359 : BitVec 32 := Scalar.addi c16_i32_331 v351
  ![v359.toNat]
def k0_off20 (v4 : BitVec 32) (k0_t1 : Fin k0_t1_loop.trips) : Fin 2 → Nat :=
  let c0_311 : Index := 0#32
  let c0_i32_16 : BitVec 32 := 0#32
  let c1_i32_17 : BitVec 32 := 1#32
  let arg24 : BitVec 32 := Scf.iv c0_i32_16 c1_i32_17 k0_t1
  let v326 : BitVec 32 := Scalar.subi v4 arg24
  let c64_i32_309 : BitVec 32 := 64#32
  let v327 : BitVec 32 := Scalar.addi v326 c64_i32_309
  let c32_i32_310 : BitVec 32 := 32#32
  let v328 : BitVec 32 := Scalar.remsi v327 c32_i32_310
  let v329 : Index := Scalar.indexCast v328
  ![0, v329.toNat]
def k0_off21 (k0_t1 : Fin k0_t1_loop.trips) : Fin 1 → Nat :=
  let c16_i32_314 : BitVec 32 := 16#32
  let c0_i32_16 : BitVec 32 := 0#32
  let c1_i32_17 : BitVec 32 := 1#32
  let arg24 : BitVec 32 := Scf.iv c0_i32_16 c1_i32_17 k0_t1
  let v333 : BitVec 32 := Scalar.addi c16_i32_314 arg24
  ![v333.toNat]
def k0_off22 (v330 : BitVec 32) : Fin 2 → Nat :=
  let c64_i32_312 : BitVec 32 := 64#32
  let v331 : BitVec 32 := Scalar.muli v330 c64_i32_312
  let c32_i32_313 : BitVec 32 := 32#32
  let v332 : BitVec 32 := Scalar.addi v331 c32_i32_313
  let c0_i32_318 : BitVec 32 := 0#32
  ![v332.toNat, 0]

def k0_chk9 (v330 : BitVec 32) : Prop :=
  (∀ a, (k0_off22 v330) a + S32x1024.size a ≤ S2048x1024.size a) ∧
  (∀ (hinb : ∀ a, (k0_off22 v330) a + S32x1024.size a ≤ S2048x1024.size a), (Rect.unit (s := S2048x1024) (k0_off22 v330) S32x1024.size hinb).WholeWords (EltTy.packing .bf16))
theorem k0_off22_inb : ∀ (v330 : BitVec 32) (k0_hw9 : k0_chk9 v330), ∀ a, (k0_off22 v330) a + S32x1024.size a ≤ S2048x1024.size a := fun v330 k0_hw9 => k0_hw9.1
theorem k0_off22_wordsbf16 : ∀ (v330 : BitVec 32) (k0_hw9 : k0_chk9 v330), (Rect.unit (s := S2048x1024) (k0_off22 v330) S32x1024.size (k0_off22_inb v330 k0_hw9)).WholeWords (EltTy.packing .bf16) := fun v330 k0_hw9 => k0_hw9.2 (k0_off22_inb v330 k0_hw9)

def k0_dev5 (v14 : BitVec 32) : Nat :=
  let c0_i32_317 : BitVec 32 := 0#32
  let c1_i32_316 : BitVec 32 := 1#32
  let v334 : BitVec 32 := Scalar.muli v14 c1_i32_316
  let v335 : BitVec 32 := Scalar.addi c0_i32_317 v334
  v335.toNat
def k0_cond5 (k0_t1 : Fin k0_t1_loop.trips) : BitVec 1 :=
  let c0_i32_16 : BitVec 32 := 0#32
  let c1_i32_17 : BitVec 32 := 1#32
  let arg24 : BitVec 32 := Scf.iv c0_i32_16 c1_i32_17 k0_t1
  let c0_i32_320 : BitVec 32 := 0#32
  let v342 : BitVec 1 := Scalar.cmpi .sgt arg24 c0_i32_320
  let v343 : BitVec 32 := Scalar.extui v342
  let c0_i32_321 : BitVec 32 := 0#32
  let v344 : BitVec 1 := Scalar.cmpi .ne v343 c0_i32_321
  v344

def k0_off23 (v4 : BitVec 32) (k0_t1 : Fin k0_t1_loop.trips) : Fin 2 → Nat :=
  let c0_328 : Index := 0#32
  let c0_i32_16 : BitVec 32 := 0#32
  let c1_i32_17 : BitVec 32 := 1#32
  let arg24 : BitVec 32 := Scf.iv c0_i32_16 c1_i32_17 k0_t1
  let c1_i32_325 : BitVec 32 := 1#32
  let v351 : BitVec 32 := Scalar.subi arg24 c1_i32_325
  let v352 : BitVec 32 := Scalar.addi v4 v351
  let c64_i32_326 : BitVec 32 := 64#32
  let v353 : BitVec 32 := Scalar.addi v352 c64_i32_326
  let c32_i32_327 : BitVec 32 := 32#32
  let v354 : BitVec 32 := Scalar.remsi v353 c32_i32_327
  let v355 : Index := Scalar.indexCast v354
  ![0, v355.toNat]
def k0_off24 (v356 : BitVec 32) : Fin 2 → Nat :=
  let c64_i32_329 : BitVec 32 := 64#32
  let v357 : BitVec 32 := Scalar.muli v356 c64_i32_329
  let c32_i32_330 : BitVec 32 := 32#32
  let v358 : BitVec 32 := Scalar.addi v357 c32_i32_330
  let c0_i32_334 : BitVec 32 := 0#32
  ![v358.toNat, 0]

def k0_chk10 (k0_t1 : Fin k0_t1_loop.trips) (v356 : BitVec 32) : Prop :=
  (∀ (k0_h5 : k0_cond5 k0_t1 = 1#1), ∀ a, (k0_off24 v356) a + S32x1024.size a ≤ S2048x1024.size a) ∧
  (∀ (k0_h5 : k0_cond5 k0_t1 = 1#1), ∀ (hinb : ∀ a, (k0_off24 v356) a + S32x1024.size a ≤ S2048x1024.size a), (Rect.unit (s := S2048x1024) (k0_off24 v356) S32x1024.size hinb).WholeWords (EltTy.packing .bf16))
theorem k0_off24_inb : ∀ (k0_t1 : Fin k0_t1_loop.trips) (v356 : BitVec 32) (k0_hw10 : k0_chk10 k0_t1 v356), ∀ (k0_h5 : k0_cond5 k0_t1 = 1#1), ∀ a, (k0_off24 v356) a + S32x1024.size a ≤ S2048x1024.size a := fun k0_t1 v356 k0_hw10 k0_h5 => k0_hw10.1 k0_h5
theorem k0_off24_wordsbf16 : ∀ (k0_t1 : Fin k0_t1_loop.trips) (v356 : BitVec 32) (k0_hw10 : k0_chk10 k0_t1 v356), ∀ (k0_h5 : k0_cond5 k0_t1 = 1#1), (Rect.unit (s := S2048x1024) (k0_off24 v356) S32x1024.size (k0_off24_inb k0_t1 v356 k0_hw10 k0_h5)).WholeWords (EltTy.packing .bf16) := fun k0_t1 v356 k0_hw10 k0_h5 => k0_hw10.2 k0_h5 (k0_off24_inb k0_t1 v356 k0_hw10 k0_h5)

def k0_off25 (k0_t1 : Fin k0_t1_loop.trips) : Fin 1 → Nat :=
  let c15_i32_331 : BitVec 32 := 15#32
  let c0_i32_16 : BitVec 32 := 0#32
  let c1_i32_17 : BitVec 32 := 1#32
  let arg24 : BitVec 32 := Scf.iv c0_i32_16 c1_i32_17 k0_t1
  let c1_i32_325 : BitVec 32 := 1#32
  let v351 : BitVec 32 := Scalar.subi arg24 c1_i32_325
  let v359 : BitVec 32 := Scalar.addi c15_i32_331 v351
  ![v359.toNat]
def k0_cond6 (k0_t1 : Fin k0_t1_loop.trips) : BitVec 1 :=
  let c0_i32_16 : BitVec 32 := 0#32
  let c1_i32_17 : BitVec 32 := 1#32
  let arg24 : BitVec 32 := Scf.iv c0_i32_16 c1_i32_17 k0_t1
  let c15_i32_322 : BitVec 32 := 15#32
  let v345 : BitVec 1 := Scalar.cmpi .slt arg24 c15_i32_322
  let v346 : BitVec 32 := Scalar.extui v345
  let c0_i32_323 : BitVec 32 := 0#32
  let v347 : BitVec 1 := Scalar.cmpi .ne v346 c0_i32_323
  v347

def k0_off26 (v4 : BitVec 32) (k0_t1 : Fin k0_t1_loop.trips) : Fin 2 → Nat :=
  let c0_327 : Index := 0#32
  let c0_i32_16 : BitVec 32 := 0#32
  let c1_i32_17 : BitVec 32 := 1#32
  let arg24 : BitVec 32 := Scf.iv c0_i32_16 c1_i32_17 k0_t1
  let v351 : BitVec 32 := Scalar.addi v4 arg24
  let c64_i32_325 : BitVec 32 := 64#32
  let v352 : BitVec 32 := Scalar.addi v351 c64_i32_325
  let c32_i32_326 : BitVec 32 := 32#32
  let v353 : BitVec 32 := Scalar.remsi v352 c32_i32_326
  let v354 : Index := Scalar.indexCast v353
  ![0, v354.toNat]
def k0_off27 (k0_t1 : Fin k0_t1_loop.trips) : Fin 1 → Nat :=
  let c15_i32_330 : BitVec 32 := 15#32
  let c0_i32_16 : BitVec 32 := 0#32
  let c1_i32_17 : BitVec 32 := 1#32
  let arg24 : BitVec 32 := Scf.iv c0_i32_16 c1_i32_17 k0_t1
  let v358 : BitVec 32 := Scalar.addi c15_i32_330 arg24
  ![v358.toNat]
def k0_off28 (v355 : BitVec 32) : Fin 2 → Nat :=
  let c64_i32_328 : BitVec 32 := 64#32
  let v356 : BitVec 32 := Scalar.muli v355 c64_i32_328
  let c32_i32_329 : BitVec 32 := 32#32
  let v357 : BitVec 32 := Scalar.addi v356 c32_i32_329
  let c0_i32_334 : BitVec 32 := 0#32
  ![v357.toNat, 0]

def k0_chk11 (k0_t1 : Fin k0_t1_loop.trips) (v355 : BitVec 32) : Prop :=
  (∀ (k0_h6 : k0_cond6 k0_t1 = 1#1), ∀ a, (k0_off28 v355) a + S32x1024.size a ≤ S2048x1024.size a) ∧
  (∀ (k0_h6 : k0_cond6 k0_t1 = 1#1), ∀ (hinb : ∀ a, (k0_off28 v355) a + S32x1024.size a ≤ S2048x1024.size a), (Rect.unit (s := S2048x1024) (k0_off28 v355) S32x1024.size hinb).WholeWords (EltTy.packing .bf16))
theorem k0_off28_inb : ∀ (k0_t1 : Fin k0_t1_loop.trips) (v355 : BitVec 32) (k0_hw11 : k0_chk11 k0_t1 v355), ∀ (k0_h6 : k0_cond6 k0_t1 = 1#1), ∀ a, (k0_off28 v355) a + S32x1024.size a ≤ S2048x1024.size a := fun k0_t1 v355 k0_hw11 k0_h6 => k0_hw11.1 k0_h6
theorem k0_off28_wordsbf16 : ∀ (k0_t1 : Fin k0_t1_loop.trips) (v355 : BitVec 32) (k0_hw11 : k0_chk11 k0_t1 v355), ∀ (k0_h6 : k0_cond6 k0_t1 = 1#1), (Rect.unit (s := S2048x1024) (k0_off28 v355) S32x1024.size (k0_off28_inb k0_t1 v355 k0_hw11 k0_h6)).WholeWords (EltTy.packing .bf16) := fun k0_t1 v355 k0_hw11 k0_h6 => k0_hw11.2 k0_h6 (k0_off28_inb k0_t1 v355 k0_hw11 k0_h6)

def k0_dev6 (v9 : BitVec 32) : Nat :=
  let c0_i32_333 : BitVec 32 := 0#32
  let c1_i32_332 : BitVec 32 := 1#32
  let v359 : BitVec 32 := Scalar.muli v9 c1_i32_332
  let v360 : BitVec 32 := Scalar.addi c0_i32_333 v359
  v360.toNat
def k0_cond7 (k0_t1 : Fin k0_t1_loop.trips) : BitVec 1 :=
  let c0_i32_16 : BitVec 32 := 0#32
  let c1_i32_17 : BitVec 32 := 1#32
  let arg24 : BitVec 32 := Scf.iv c0_i32_16 c1_i32_17 k0_t1
  let c8_i32 : BitVec 32 := 8#32
  let v348 : BitVec 1 := Scalar.cmpi .sge arg24 c8_i32
  let v349 : BitVec 32 := Scalar.extui v348
  let c0_i32_324 : BitVec 32 := 0#32
  let v350 : BitVec 1 := Scalar.cmpi .ne v349 c0_i32_324
  v350

def k0_off29 (v4 : BitVec 32) (k0_t1 : Fin k0_t1_loop.trips) : Fin 2 → Nat :=
  let c0_327 : Index := 0#32
  let c0_i32_16 : BitVec 32 := 0#32
  let c1_i32_17 : BitVec 32 := 1#32
  let arg24 : BitVec 32 := Scf.iv c0_i32_16 c1_i32_17 k0_t1
  let v351 : BitVec 32 := Scalar.subi v4 arg24
  let c64_i32_325 : BitVec 32 := 64#32
  let v352 : BitVec 32 := Scalar.addi v351 c64_i32_325
  let c32_i32_326 : BitVec 32 := 32#32
  let v353 : BitVec 32 := Scalar.remsi v352 c32_i32_326
  let v354 : Index := Scalar.indexCast v353
  ![0, v354.toNat]
def k0_off30 (v355 : BitVec 32) : Fin 2 → Nat :=
  let c64_i32_328 : BitVec 32 := 64#32
  let v356 : BitVec 32 := Scalar.muli v355 c64_i32_328
  let v357 : Index := Scalar.indexCast v356
  let c0_329 : Index := 0#32
  ![v357.toNat, 0]

def k0_chk12 (k0_t1 : Fin k0_t1_loop.trips) (v355 : BitVec 32) : Prop :=
  (∀ (k0_h7 : k0_cond7 k0_t1 = 1#1), ∀ a, (k0_off30 v355) a + S64x1024.size a ≤ S2048x1024.size a)
theorem k0_off30_inb : ∀ (k0_t1 : Fin k0_t1_loop.trips) (v355 : BitVec 32) (k0_hw12 : k0_chk12 k0_t1 v355), ∀ (k0_h7 : k0_cond7 k0_t1 = 1#1), ∀ a, (k0_off30 v355) a + S64x1024.size a ≤ S2048x1024.size a := fun k0_t1 v355 k0_hw12 k0_h7 => k0_hw12 k0_h7

def k0_off31 (v4 : BitVec 32) (k0_t1 : Fin k0_t1_loop.trips) : Fin 2 → Nat :=
  let c0_340 : Index := 0#32
  let c0_i32_16 : BitVec 32 := 0#32
  let c1_i32_17 : BitVec 32 := 1#32
  let arg24 : BitVec 32 := Scf.iv c0_i32_16 c1_i32_17 k0_t1
  let v372 : BitVec 32 := Scalar.addi v4 arg24
  let c64_i32_338 : BitVec 32 := 64#32
  let v373 : BitVec 32 := Scalar.addi v372 c64_i32_338
  let c32_i32_339 : BitVec 32 := 32#32
  let v374 : BitVec 32 := Scalar.remsi v373 c32_i32_339
  let v375 : Index := Scalar.indexCast v374
  ![0, v375.toNat]
def k0_off32 (v376 : BitVec 32) : Fin 2 → Nat :=
  let c64_i32_341 : BitVec 32 := 64#32
  let v377 : BitVec 32 := Scalar.muli v376 c64_i32_341
  let v378 : Index := Scalar.indexCast v377
  let c0_342 : Index := 0#32
  ![v378.toNat, 0]

def k0_chk13 (k0_t1 : Fin k0_t1_loop.trips) (v376 : BitVec 32) : Prop :=
  (∀ (k0_h7 : k0_cond7 k0_t1 = 1#1), ∀ a, (k0_off32 v376) a + S64x1024.size a ≤ S2048x1024.size a)
theorem k0_off32_inb : ∀ (k0_t1 : Fin k0_t1_loop.trips) (v376 : BitVec 32) (k0_hw13 : k0_chk13 k0_t1 v376), ∀ (k0_h7 : k0_cond7 k0_t1 = 1#1), ∀ a, (k0_off32 v376) a + S64x1024.size a ≤ S2048x1024.size a := fun k0_t1 v376 k0_hw13 k0_h7 => k0_hw13 k0_h7

def k0_off33 (v4 : BitVec 32) : Fin 2 → Nat :=
  let c0_21 : Index := 0#32
  let c15_i32 : BitVec 32 := 15#32
  let v28 : BitVec 32 := Scalar.subi v4 c15_i32
  let c64_i32_19 : BitVec 32 := 64#32
  let v29 : BitVec 32 := Scalar.addi v28 c64_i32_19
  let c32_i32_20 : BitVec 32 := 32#32
  let v30 : BitVec 32 := Scalar.remsi v29 c32_i32_20
  let v31 : Index := Scalar.indexCast v30
  ![0, v31.toNat]
def k0_off34 (v32 : BitVec 32) : Fin 2 → Nat :=
  let c64_i32_22 : BitVec 32 := 64#32
  let v33 : BitVec 32 := Scalar.muli v32 c64_i32_22
  let c0_i32_23 : BitVec 32 := 0#32
  let v34 : BitVec 32 := Scalar.addi v33 c0_i32_23
  let c0_i32_27 : BitVec 32 := 0#32
  ![v34.toNat, 0]

def k0_chk14 (v32 : BitVec 32) : Prop :=
  (∀ a, (k0_off34 v32) a + S32x1024.size a ≤ S2048x1024.size a) ∧
  (∀ (hinb : ∀ a, (k0_off34 v32) a + S32x1024.size a ≤ S2048x1024.size a), (Rect.unit (s := S2048x1024) (k0_off34 v32) S32x1024.size hinb).WholeWords (EltTy.packing .bf16))
theorem k0_off34_inb : ∀ (v32 : BitVec 32) (k0_hw14 : k0_chk14 v32), ∀ a, (k0_off34 v32) a + S32x1024.size a ≤ S2048x1024.size a := fun v32 k0_hw14 => k0_hw14.1
theorem k0_off34_wordsbf16 : ∀ (v32 : BitVec 32) (k0_hw14 : k0_chk14 v32), (Rect.unit (s := S2048x1024) (k0_off34 v32) S32x1024.size (k0_off34_inb v32 k0_hw14)).WholeWords (EltTy.packing .bf16) := fun v32 k0_hw14 => k0_hw14.2 (k0_off34_inb v32 k0_hw14)

def k0_off35 (v4 : BitVec 32) : Fin 2 → Nat :=
  let c0_38 : Index := 0#32
  let c15_i32_35 : BitVec 32 := 15#32
  let v45 : BitVec 32 := Scalar.subi v4 c15_i32_35
  let c64_i32_36 : BitVec 32 := 64#32
  let v46 : BitVec 32 := Scalar.addi v45 c64_i32_36
  let c32_i32_37 : BitVec 32 := 32#32
  let v47 : BitVec 32 := Scalar.remsi v46 c32_i32_37
  let v48 : Index := Scalar.indexCast v47
  ![0, v48.toNat]
def k0_off36 (v49 : BitVec 32) : Fin 2 → Nat :=
  let c64_i32_39 : BitVec 32 := 64#32
  let v50 : BitVec 32 := Scalar.muli v49 c64_i32_39
  let c32_i32_40 : BitVec 32 := 32#32
  let v51 : BitVec 32 := Scalar.addi v50 c32_i32_40
  let c0_i32_43 : BitVec 32 := 0#32
  ![v51.toNat, 0]

def k0_chk15 (v49 : BitVec 32) : Prop :=
  (∀ a, (k0_off36 v49) a + S32x1024.size a ≤ S2048x1024.size a) ∧
  (∀ (hinb : ∀ a, (k0_off36 v49) a + S32x1024.size a ≤ S2048x1024.size a), (Rect.unit (s := S2048x1024) (k0_off36 v49) S32x1024.size hinb).WholeWords (EltTy.packing .bf16))
theorem k0_off36_inb : ∀ (v49 : BitVec 32) (k0_hw15 : k0_chk15 v49), ∀ a, (k0_off36 v49) a + S32x1024.size a ≤ S2048x1024.size a := fun v49 k0_hw15 => k0_hw15.1
theorem k0_off36_wordsbf16 : ∀ (v49 : BitVec 32) (k0_hw15 : k0_chk15 v49), (Rect.unit (s := S2048x1024) (k0_off36 v49) S32x1024.size (k0_off36_inb v49 k0_hw15)).WholeWords (EltTy.packing .bf16) := fun v49 k0_hw15 => k0_hw15.2 (k0_off36_inb v49 k0_hw15)

def k0_off37 (v4 : BitVec 32) : Fin 2 → Nat :=
  let c0_54 : Index := 0#32
  let c16_i32_51 : BitVec 32 := 16#32
  let v62 : BitVec 32 := Scalar.subi v4 c16_i32_51
  let c64_i32_52 : BitVec 32 := 64#32
  let v63 : BitVec 32 := Scalar.addi v62 c64_i32_52
  let c32_i32_53 : BitVec 32 := 32#32
  let v64 : BitVec 32 := Scalar.remsi v63 c32_i32_53
  let v65 : Index := Scalar.indexCast v64
  ![0, v65.toNat]
def k0_off38 (v66 : BitVec 32) : Fin 2 → Nat :=
  let c64_i32_55 : BitVec 32 := 64#32
  let v67 : BitVec 32 := Scalar.muli v66 c64_i32_55
  let v68 : Index := Scalar.indexCast v67
  let c0_56 : Index := 0#32
  ![v68.toNat, 0]

def k0_chk16 (v66 : BitVec 32) : Prop :=
  (∀ a, (k0_off38 v66) a + S64x1024.size a ≤ S2048x1024.size a)
theorem k0_off38_inb : ∀ (v66 : BitVec 32) (k0_hw16 : k0_chk16 v66), ∀ a, (k0_off38 v66) a + S64x1024.size a ≤ S2048x1024.size a := fun v66 k0_hw16 => k0_hw16

@[reducible] def k0_t2_loop : Scf.Loop 32 :=
  let c0_i32_64 : BitVec 32 := 0#32
  let c16_i32_65 : BitVec 32 := 16#32
  let v83 : BitVec 32 := Scalar.addi c0_i32_64 c16_i32_65
  let c1_i32_66 : BitVec 32 := 1#32
  ⟨c0_i32_64, v83, c1_i32_66⟩
def k0_cond8 (k0_t2 : Fin k0_t2_loop.trips) : BitVec 1 :=
  let c0_i32_64 : BitVec 32 := 0#32
  let c1_i32_66 : BitVec 32 := 1#32
  let arg24 : BitVec 32 := Scf.iv c0_i32_64 c1_i32_66 k0_t2
  let c0_i32_290 : BitVec 32 := 0#32
  let v298 : BitVec 1 := Scalar.cmpi .sgt arg24 c0_i32_290
  let v299 : BitVec 32 := Scalar.extui v298
  let c0_i32_291 : BitVec 32 := 0#32
  let v300 : BitVec 1 := Scalar.cmpi .ne v299 c0_i32_291
  v300

def k0_off39 (k0_t2 : Fin k0_t2_loop.trips) : Fin 2 → Nat :=
  let c0_i32_64 : BitVec 32 := 0#32
  let c1_i32_66 : BitVec 32 := 1#32
  let arg24 : BitVec 32 := Scf.iv c0_i32_64 c1_i32_66 k0_t2
  let c1_i32_352 : BitVec 32 := 1#32
  let v392 : BitVec 32 := Scalar.subi arg24 c1_i32_352
  let c64_i32_353 : BitVec 32 := 64#32
  let v393 : BitVec 32 := Scalar.muli v392 c64_i32_353
  let c0_i32_354 : BitVec 32 := 0#32
  let v394 : BitVec 32 := Scalar.addi v393 c0_i32_354
  let c0_i32_360 : BitVec 32 := 0#32
  ![v394.toNat, 0]
def k0_off40 (k0_t2 : Fin k0_t2_loop.trips) : Fin 1 → Nat :=
  let c0_i32_355 : BitVec 32 := 0#32
  let c0_i32_64 : BitVec 32 := 0#32
  let c1_i32_66 : BitVec 32 := 1#32
  let arg24 : BitVec 32 := Scf.iv c0_i32_64 c1_i32_66 k0_t2
  let c1_i32_352 : BitVec 32 := 1#32
  let v392 : BitVec 32 := Scalar.subi arg24 c1_i32_352
  let v395 : BitVec 32 := Scalar.addi c0_i32_355 v392
  ![v395.toNat]
def k0_off41 (v4 : BitVec 32) (k0_t2 : Fin k0_t2_loop.trips) : Fin 2 → Nat :=
  let c0_295 : Index := 0#32
  let c16_i32_292 : BitVec 32 := 16#32
  let v301 : BitVec 32 := Scalar.subi v4 c16_i32_292
  let c0_i32_64 : BitVec 32 := 0#32
  let c1_i32_66 : BitVec 32 := 1#32
  let arg24 : BitVec 32 := Scf.iv c0_i32_64 c1_i32_66 k0_t2
  let v302 : BitVec 32 := Scalar.addi v301 arg24
  let c64_i32_293 : BitVec 32 := 64#32
  let v303 : BitVec 32 := Scalar.addi v302 c64_i32_293
  let c32_i32_294 : BitVec 32 := 32#32
  let v304 : BitVec 32 := Scalar.remsi v303 c32_i32_294
  let v305 : Index := Scalar.indexCast v304
  ![0, v305.toNat]
def k0_off42 (v306 : BitVec 32) : Fin 2 → Nat :=
  let c64_i32_296 : BitVec 32 := 64#32
  let v307 : BitVec 32 := Scalar.muli v306 c64_i32_296
  let c0_i32_297 : BitVec 32 := 0#32
  let v308 : BitVec 32 := Scalar.addi v307 c0_i32_297
  let v309 : Index := Scalar.indexCast v308
  let c0_298 : Index := 0#32
  ![v309.toNat, 0]

def k0_chk17 (v306 : BitVec 32) : Prop :=
  (∀ a, (k0_off42 v306) a + S32x1024.size a ≤ S2048x1024.size a)
theorem k0_off42_inb : ∀ (v306 : BitVec 32) (k0_hw17 : k0_chk17 v306), ∀ a, (k0_off42 v306) a + S32x1024.size a ≤ S2048x1024.size a := fun v306 k0_hw17 => k0_hw17

def k0_off43 (k0_t2 : Fin k0_t2_loop.trips) : Fin 2 → Nat :=
  let c0_i32_64 : BitVec 32 := 0#32
  let c1_i32_66 : BitVec 32 := 1#32
  let arg24 : BitVec 32 := Scf.iv c0_i32_64 c1_i32_66 k0_t2
  let c1_i32_299 : BitVec 32 := 1#32
  let v311 : BitVec 32 := Scalar.subi arg24 c1_i32_299
  let c0_i32_300 : BitVec 32 := 0#32
  let v312 : BitVec 32 := Scalar.maxsi v311 c0_i32_300
  let c64_i32_301 : BitVec 32 := 64#32
  let v313 : BitVec 32 := Scalar.muli v312 c64_i32_301
  let c0_i32_302 : BitVec 32 := 0#32
  let v314 : BitVec 32 := Scalar.addi v313 c0_i32_302
  let v315 : Index := Scalar.indexCast v314
  let c0_303 : Index := 0#32
  ![v315.toNat, 0]
def k0_off44 (k0_t2 : Fin k0_t2_loop.trips) : Fin 1 → Nat :=
  let c0_i32_309 : BitVec 32 := 0#32
  let c0_i32_64 : BitVec 32 := 0#32
  let c1_i32_66 : BitVec 32 := 1#32
  let arg24 : BitVec 32 := Scf.iv c0_i32_64 c1_i32_66 k0_t2
  let v327 : BitVec 32 := Scalar.addi c0_i32_309 arg24
  ![v327.toNat]
def k0_off45 (k0_t2 : Fin k0_t2_loop.trips) : Fin 2 → Nat :=
  let c0_i32_64 : BitVec 32 := 0#32
  let c1_i32_66 : BitVec 32 := 1#32
  let arg24 : BitVec 32 := Scf.iv c0_i32_64 c1_i32_66 k0_t2
  let c64_i32_307 : BitVec 32 := 64#32
  let v325 : BitVec 32 := Scalar.muli arg24 c64_i32_307
  let c0_i32_308 : BitVec 32 := 0#32
  let v326 : BitVec 32 := Scalar.addi v325 c0_i32_308
  let c0_i32_313 : BitVec 32 := 0#32
  ![v326.toNat, 0]
def k0_dev7 (v9 : BitVec 32) : Nat :=
  let c0_i32_312 : BitVec 32 := 0#32
  let c1_i32_311 : BitVec 32 := 1#32
  let v328 : BitVec 32 := Scalar.muli v9 c1_i32_311
  let v329 : BitVec 32 := Scalar.addi c0_i32_312 v328
  v329.toNat
def k0_cond9 (k0_t2 : Fin k0_t2_loop.trips) : BitVec 1 :=
  let c0_i32_64 : BitVec 32 := 0#32
  let c1_i32_66 : BitVec 32 := 1#32
  let arg24 : BitVec 32 := Scf.iv c0_i32_64 c1_i32_66 k0_t2
  let c0_i32_316 : BitVec 32 := 0#32
  let v336 : BitVec 1 := Scalar.cmpi .sgt arg24 c0_i32_316
  let v337 : BitVec 32 := Scalar.extui v336
  let c0_i32_317 : BitVec 32 := 0#32
  let v338 : BitVec 1 := Scalar.cmpi .ne v337 c0_i32_317
  v338

def k0_off46 (k0_t2 : Fin k0_t2_loop.trips) : Fin 2 → Nat :=
  let c0_i32_64 : BitVec 32 := 0#32
  let c1_i32_66 : BitVec 32 := 1#32
  let arg24 : BitVec 32 := Scf.iv c0_i32_64 c1_i32_66 k0_t2
  let c1_i32_352 : BitVec 32 := 1#32
  let v392 : BitVec 32 := Scalar.subi arg24 c1_i32_352
  let c64_i32_353 : BitVec 32 := 64#32
  let v393 : BitVec 32 := Scalar.muli v392 c64_i32_353
  let c0_i32_354 : BitVec 32 := 0#32
  let v394 : BitVec 32 := Scalar.addi v393 c0_i32_354
  let c0_i32_360 : BitVec 32 := 0#32
  ![v394.toNat, 0]
def k0_off47 (k0_t2 : Fin k0_t2_loop.trips) : Fin 1 → Nat :=
  let c0_i32_355 : BitVec 32 := 0#32
  let c0_i32_64 : BitVec 32 := 0#32
  let c1_i32_66 : BitVec 32 := 1#32
  let arg24 : BitVec 32 := Scf.iv c0_i32_64 c1_i32_66 k0_t2
  let c1_i32_352 : BitVec 32 := 1#32
  let v392 : BitVec 32 := Scalar.subi arg24 c1_i32_352
  let v395 : BitVec 32 := Scalar.addi c0_i32_355 v392
  ![v395.toNat]
def k0_cond10 (k0_t2 : Fin k0_t2_loop.trips) : BitVec 1 :=
  let c0_i32_64 : BitVec 32 := 0#32
  let c1_i32_66 : BitVec 32 := 1#32
  let arg24 : BitVec 32 := Scf.iv c0_i32_64 c1_i32_66 k0_t2
  let c15_i32_318 : BitVec 32 := 15#32
  let v339 : BitVec 1 := Scalar.cmpi .slt arg24 c15_i32_318
  let v340 : BitVec 32 := Scalar.extui v339
  let c0_i32_319 : BitVec 32 := 0#32
  let v341 : BitVec 1 := Scalar.cmpi .ne v340 c0_i32_319
  v341

def k0_off48 (v4 : BitVec 32) (k0_t2 : Fin k0_t2_loop.trips) : Fin 2 → Nat :=
  let c0_355 : Index := 0#32
  let c15_i32_352 : BitVec 32 := 15#32
  let v392 : BitVec 32 := Scalar.addi v4 c15_i32_352
  let c0_i32_64 : BitVec 32 := 0#32
  let c1_i32_66 : BitVec 32 := 1#32
  let arg24 : BitVec 32 := Scf.iv c0_i32_64 c1_i32_66 k0_t2
  let v393 : BitVec 32 := Scalar.subi v392 arg24
  let c64_i32_353 : BitVec 32 := 64#32
  let v394 : BitVec 32 := Scalar.addi v393 c64_i32_353
  let c32_i32_354 : BitVec 32 := 32#32
  let v395 : BitVec 32 := Scalar.remsi v394 c32_i32_354
  let v396 : Index := Scalar.indexCast v395
  ![0, v396.toNat]
def k0_off49 (v397 : BitVec 32) : Fin 2 → Nat :=
  let c64_i32_356 : BitVec 32 := 64#32
  let v398 : BitVec 32 := Scalar.muli v397 c64_i32_356
  let c0_i32_357 : BitVec 32 := 0#32
  let v399 : BitVec 32 := Scalar.addi v398 c0_i32_357
  let v400 : Index := Scalar.indexCast v399
  let c0_358 : Index := 0#32
  ![v400.toNat, 0]

def k0_chk18 (k0_t2 : Fin k0_t2_loop.trips) (v397 : BitVec 32) : Prop :=
  (∀ (k0_h10 : k0_cond10 k0_t2 = 1#1), ∀ a, (k0_off49 v397) a + S32x1024.size a ≤ S2048x1024.size a)
theorem k0_off49_inb : ∀ (k0_t2 : Fin k0_t2_loop.trips) (v397 : BitVec 32) (k0_hw18 : k0_chk18 k0_t2 v397), ∀ (k0_h10 : k0_cond10 k0_t2 = 1#1), ∀ a, (k0_off49 v397) a + S32x1024.size a ≤ S2048x1024.size a := fun k0_t2 v397 k0_hw18 k0_h10 => k0_hw18 k0_h10

def k0_off50 (k0_t2 : Fin k0_t2_loop.trips) : Fin 2 → Nat :=
  let c0_i32_64 : BitVec 32 := 0#32
  let c1_i32_66 : BitVec 32 := 1#32
  let arg24 : BitVec 32 := Scf.iv c0_i32_64 c1_i32_66 k0_t2
  let c1_i32_359 : BitVec 32 := 1#32
  let v402 : BitVec 32 := Scalar.subi arg24 c1_i32_359
  let c0_i32_360 : BitVec 32 := 0#32
  let v403 : BitVec 32 := Scalar.maxsi v402 c0_i32_360
  let c64_i32_361 : BitVec 32 := 64#32
  let v404 : BitVec 32 := Scalar.muli v403 c64_i32_361
  let c0_i32_362 : BitVec 32 := 0#32
  let v405 : BitVec 32 := Scalar.addi v404 c0_i32_362
  let v406 : Index := Scalar.indexCast v405
  let c0_363 : Index := 0#32
  ![v406.toNat, 0]
def k0_off51 (k0_t2 : Fin k0_t2_loop.trips) : Fin 1 → Nat :=
  let c0_i32_369 : BitVec 32 := 0#32
  let c0_i32_64 : BitVec 32 := 0#32
  let c1_i32_66 : BitVec 32 := 1#32
  let arg24 : BitVec 32 := Scf.iv c0_i32_64 c1_i32_66 k0_t2
  let v418 : BitVec 32 := Scalar.addi c0_i32_369 arg24
  ![v418.toNat]
def k0_off52 (k0_t2 : Fin k0_t2_loop.trips) : Fin 2 → Nat :=
  let c0_i32_64 : BitVec 32 := 0#32
  let c1_i32_66 : BitVec 32 := 1#32
  let arg24 : BitVec 32 := Scf.iv c0_i32_64 c1_i32_66 k0_t2
  let c64_i32_367 : BitVec 32 := 64#32
  let v416 : BitVec 32 := Scalar.muli arg24 c64_i32_367
  let c0_i32_368 : BitVec 32 := 0#32
  let v417 : BitVec 32 := Scalar.addi v416 c0_i32_368
  let c0_i32_373 : BitVec 32 := 0#32
  ![v417.toNat, 0]
def k0_dev8 (v14 : BitVec 32) : Nat :=
  let c0_i32_372 : BitVec 32 := 0#32
  let c1_i32_371 : BitVec 32 := 1#32
  let v419 : BitVec 32 := Scalar.muli v14 c1_i32_371
  let v420 : BitVec 32 := Scalar.addi c0_i32_372 v419
  v420.toNat
def k0_cond11 (k0_t2 : Fin k0_t2_loop.trips) : BitVec 1 :=
  let c0_i32_64 : BitVec 32 := 0#32
  let c1_i32_66 : BitVec 32 := 1#32
  let arg24 : BitVec 32 := Scf.iv c0_i32_64 c1_i32_66 k0_t2
  let c0_i32_320 : BitVec 32 := 0#32
  let v342 : BitVec 1 := Scalar.cmpi .sgt arg24 c0_i32_320
  let v343 : BitVec 32 := Scalar.extui v342
  let c0_i32_321 : BitVec 32 := 0#32
  let v344 : BitVec 1 := Scalar.cmpi .ne v343 c0_i32_321
  v344

def k0_off53 (k0_t2 : Fin k0_t2_loop.trips) : Fin 2 → Nat :=
  let c0_i32_64 : BitVec 32 := 0#32
  let c1_i32_66 : BitVec 32 := 1#32
  let arg24 : BitVec 32 := Scf.iv c0_i32_64 c1_i32_66 k0_t2
  let c1_i32_352 : BitVec 32 := 1#32
  let v392 : BitVec 32 := Scalar.subi arg24 c1_i32_352
  let c64_i32_353 : BitVec 32 := 64#32
  let v393 : BitVec 32 := Scalar.muli v392 c64_i32_353
  let c32_i32_354 : BitVec 32 := 32#32
  let v394 : BitVec 32 := Scalar.addi v393 c32_i32_354
  let c0_i32_360 : BitVec 32 := 0#32
  ![v394.toNat, 0]
def k0_off54 (k0_t2 : Fin k0_t2_loop.trips) : Fin 1 → Nat :=
  let c16_i32_355 : BitVec 32 := 16#32
  let c0_i32_64 : BitVec 32 := 0#32
  let c1_i32_66 : BitVec 32 := 1#32
  let arg24 : BitVec 32 := Scf.iv c0_i32_64 c1_i32_66 k0_t2
  let c1_i32_352 : BitVec 32 := 1#32
  let v392 : BitVec 32 := Scalar.subi arg24 c1_i32_352
  let v395 : BitVec 32 := Scalar.addi c16_i32_355 v392
  ![v395.toNat]
def k0_off55 (v4 : BitVec 32) (k0_t2 : Fin k0_t2_loop.trips) : Fin 2 → Nat :=
  let c0_325 : Index := 0#32
  let c16_i32_322 : BitVec 32 := 16#32
  let v345 : BitVec 32 := Scalar.subi v4 c16_i32_322
  let c0_i32_64 : BitVec 32 := 0#32
  let c1_i32_66 : BitVec 32 := 1#32
  let arg24 : BitVec 32 := Scf.iv c0_i32_64 c1_i32_66 k0_t2
  let v346 : BitVec 32 := Scalar.addi v345 arg24
  let c64_i32_323 : BitVec 32 := 64#32
  let v347 : BitVec 32 := Scalar.addi v346 c64_i32_323
  let c32_i32_324 : BitVec 32 := 32#32
  let v348 : BitVec 32 := Scalar.remsi v347 c32_i32_324
  let v349 : Index := Scalar.indexCast v348
  ![0, v349.toNat]
def k0_off56 (v350 : BitVec 32) : Fin 2 → Nat :=
  let c64_i32_326 : BitVec 32 := 64#32
  let v351 : BitVec 32 := Scalar.muli v350 c64_i32_326
  let c32_i32_327 : BitVec 32 := 32#32
  let v352 : BitVec 32 := Scalar.addi v351 c32_i32_327
  let v353 : Index := Scalar.indexCast v352
  let c0_328 : Index := 0#32
  ![v353.toNat, 0]

def k0_chk19 (v350 : BitVec 32) : Prop :=
  (∀ a, (k0_off56 v350) a + S32x1024.size a ≤ S2048x1024.size a)
theorem k0_off56_inb : ∀ (v350 : BitVec 32) (k0_hw19 : k0_chk19 v350), ∀ a, (k0_off56 v350) a + S32x1024.size a ≤ S2048x1024.size a := fun v350 k0_hw19 => k0_hw19

def k0_off57 (k0_t2 : Fin k0_t2_loop.trips) : Fin 2 → Nat :=
  let c0_i32_64 : BitVec 32 := 0#32
  let c1_i32_66 : BitVec 32 := 1#32
  let arg24 : BitVec 32 := Scf.iv c0_i32_64 c1_i32_66 k0_t2
  let c1_i32_329 : BitVec 32 := 1#32
  let v355 : BitVec 32 := Scalar.subi arg24 c1_i32_329
  let c0_i32_330 : BitVec 32 := 0#32
  let v356 : BitVec 32 := Scalar.maxsi v355 c0_i32_330
  let c64_i32_331 : BitVec 32 := 64#32
  let v357 : BitVec 32 := Scalar.muli v356 c64_i32_331
  let c32_i32_332 : BitVec 32 := 32#32
  let v358 : BitVec 32 := Scalar.addi v357 c32_i32_332
  let v359 : Index := Scalar.indexCast v358
  let c0_333 : Index := 0#32
  ![v359.toNat, 0]
def k0_off58 (k0_t2 : Fin k0_t2_loop.trips) : Fin 1 → Nat :=
  let c16_i32_338 : BitVec 32 := 16#32
  let c0_i32_64 : BitVec 32 := 0#32
  let c1_i32_66 : BitVec 32 := 1#32
  let arg24 : BitVec 32 := Scf.iv c0_i32_64 c1_i32_66 k0_t2
  let v371 : BitVec 32 := Scalar.addi c16_i32_338 arg24
  ![v371.toNat]
def k0_off59 (k0_t2 : Fin k0_t2_loop.trips) : Fin 2 → Nat :=
  let c0_i32_64 : BitVec 32 := 0#32
  let c1_i32_66 : BitVec 32 := 1#32
  let arg24 : BitVec 32 := Scf.iv c0_i32_64 c1_i32_66 k0_t2
  let c64_i32_336 : BitVec 32 := 64#32
  let v369 : BitVec 32 := Scalar.muli arg24 c64_i32_336
  let c32_i32_337 : BitVec 32 := 32#32
  let v370 : BitVec 32 := Scalar.addi v369 c32_i32_337
  let c0_i32_342 : BitVec 32 := 0#32
  ![v370.toNat, 0]
def k0_dev9 (v9 : BitVec 32) : Nat :=
  let c0_i32_341 : BitVec 32 := 0#32
  let c1_i32_340 : BitVec 32 := 1#32
  let v372 : BitVec 32 := Scalar.muli v9 c1_i32_340
  let v373 : BitVec 32 := Scalar.addi c0_i32_341 v372
  v373.toNat
def k0_cond12 (k0_t2 : Fin k0_t2_loop.trips) : BitVec 1 :=
  let c0_i32_64 : BitVec 32 := 0#32
  let c1_i32_66 : BitVec 32 := 1#32
  let arg24 : BitVec 32 := Scf.iv c0_i32_64 c1_i32_66 k0_t2
  let c0_i32_345 : BitVec 32 := 0#32
  let v380 : BitVec 1 := Scalar.cmpi .sgt arg24 c0_i32_345
  let v381 : BitVec 32 := Scalar.extui v380
  let c0_i32_346 : BitVec 32 := 0#32
  let v382 : BitVec 1 := Scalar.cmpi .ne v381 c0_i32_346
  v382

def k0_off60 (k0_t2 : Fin k0_t2_loop.trips) : Fin 2 → Nat :=
  let c0_i32_64 : BitVec 32 := 0#32
  let c1_i32_66 : BitVec 32 := 1#32
  let arg24 : BitVec 32 := Scf.iv c0_i32_64 c1_i32_66 k0_t2
  let c1_i32_352 : BitVec 32 := 1#32
  let v392 : BitVec 32 := Scalar.subi arg24 c1_i32_352
  let c64_i32_353 : BitVec 32 := 64#32
  let v393 : BitVec 32 := Scalar.muli v392 c64_i32_353
  let c32_i32_354 : BitVec 32 := 32#32
  let v394 : BitVec 32 := Scalar.addi v393 c32_i32_354
  let c0_i32_360 : BitVec 32 := 0#32
  ![v394.toNat, 0]
def k0_off61 (k0_t2 : Fin k0_t2_loop.trips) : Fin 1 → Nat :=
  let c15_i32_355 : BitVec 32 := 15#32
  let c0_i32_64 : BitVec 32 := 0#32
  let c1_i32_66 : BitVec 32 := 1#32
  let arg24 : BitVec 32 := Scf.iv c0_i32_64 c1_i32_66 k0_t2
  let c1_i32_352 : BitVec 32 := 1#32
  let v392 : BitVec 32 := Scalar.subi arg24 c1_i32_352
  let v395 : BitVec 32 := Scalar.addi c15_i32_355 v392
  ![v395.toNat]
def k0_cond13 (k0_t2 : Fin k0_t2_loop.trips) : BitVec 1 :=
  let c0_i32_64 : BitVec 32 := 0#32
  let c1_i32_66 : BitVec 32 := 1#32
  let arg24 : BitVec 32 := Scf.iv c0_i32_64 c1_i32_66 k0_t2
  let c15_i32_347 : BitVec 32 := 15#32
  let v383 : BitVec 1 := Scalar.cmpi .slt arg24 c15_i32_347
  let v384 : BitVec 32 := Scalar.extui v383
  let c0_i32_348 : BitVec 32 := 0#32
  let v385 : BitVec 1 := Scalar.cmpi .ne v384 c0_i32_348
  v385

def k0_off62 (v4 : BitVec 32) (k0_t2 : Fin k0_t2_loop.trips) : Fin 2 → Nat :=
  let c0_355 : Index := 0#32
  let c15_i32_352 : BitVec 32 := 15#32
  let v392 : BitVec 32 := Scalar.addi v4 c15_i32_352
  let c0_i32_64 : BitVec 32 := 0#32
  let c1_i32_66 : BitVec 32 := 1#32
  let arg24 : BitVec 32 := Scf.iv c0_i32_64 c1_i32_66 k0_t2
  let v393 : BitVec 32 := Scalar.subi v392 arg24
  let c64_i32_353 : BitVec 32 := 64#32
  let v394 : BitVec 32 := Scalar.addi v393 c64_i32_353
  let c32_i32_354 : BitVec 32 := 32#32
  let v395 : BitVec 32 := Scalar.remsi v394 c32_i32_354
  let v396 : Index := Scalar.indexCast v395
  ![0, v396.toNat]
def k0_off63 (v397 : BitVec 32) : Fin 2 → Nat :=
  let c64_i32_356 : BitVec 32 := 64#32
  let v398 : BitVec 32 := Scalar.muli v397 c64_i32_356
  let c32_i32_357 : BitVec 32 := 32#32
  let v399 : BitVec 32 := Scalar.addi v398 c32_i32_357
  let v400 : Index := Scalar.indexCast v399
  let c0_358 : Index := 0#32
  ![v400.toNat, 0]

def k0_chk20 (k0_t2 : Fin k0_t2_loop.trips) (v397 : BitVec 32) : Prop :=
  (∀ (k0_h13 : k0_cond13 k0_t2 = 1#1), ∀ a, (k0_off63 v397) a + S32x1024.size a ≤ S2048x1024.size a)
theorem k0_off63_inb : ∀ (k0_t2 : Fin k0_t2_loop.trips) (v397 : BitVec 32) (k0_hw20 : k0_chk20 k0_t2 v397), ∀ (k0_h13 : k0_cond13 k0_t2 = 1#1), ∀ a, (k0_off63 v397) a + S32x1024.size a ≤ S2048x1024.size a := fun k0_t2 v397 k0_hw20 k0_h13 => k0_hw20 k0_h13

def k0_off64 (k0_t2 : Fin k0_t2_loop.trips) : Fin 2 → Nat :=
  let c0_i32_64 : BitVec 32 := 0#32
  let c1_i32_66 : BitVec 32 := 1#32
  let arg24 : BitVec 32 := Scf.iv c0_i32_64 c1_i32_66 k0_t2
  let c1_i32_359 : BitVec 32 := 1#32
  let v402 : BitVec 32 := Scalar.subi arg24 c1_i32_359
  let c0_i32_360 : BitVec 32 := 0#32
  let v403 : BitVec 32 := Scalar.maxsi v402 c0_i32_360
  let c64_i32_361 : BitVec 32 := 64#32
  let v404 : BitVec 32 := Scalar.muli v403 c64_i32_361
  let c32_i32_362 : BitVec 32 := 32#32
  let v405 : BitVec 32 := Scalar.addi v404 c32_i32_362
  let v406 : Index := Scalar.indexCast v405
  let c0_363 : Index := 0#32
  ![v406.toNat, 0]
def k0_off65 (k0_t2 : Fin k0_t2_loop.trips) : Fin 1 → Nat :=
  let c15_i32_369 : BitVec 32 := 15#32
  let c0_i32_64 : BitVec 32 := 0#32
  let c1_i32_66 : BitVec 32 := 1#32
  let arg24 : BitVec 32 := Scf.iv c0_i32_64 c1_i32_66 k0_t2
  let v418 : BitVec 32 := Scalar.addi c15_i32_369 arg24
  ![v418.toNat]
def k0_off66 (k0_t2 : Fin k0_t2_loop.trips) : Fin 2 → Nat :=
  let c0_i32_64 : BitVec 32 := 0#32
  let c1_i32_66 : BitVec 32 := 1#32
  let arg24 : BitVec 32 := Scf.iv c0_i32_64 c1_i32_66 k0_t2
  let c64_i32_367 : BitVec 32 := 64#32
  let v416 : BitVec 32 := Scalar.muli arg24 c64_i32_367
  let c32_i32_368 : BitVec 32 := 32#32
  let v417 : BitVec 32 := Scalar.addi v416 c32_i32_368
  let c0_i32_373 : BitVec 32 := 0#32
  ![v417.toNat, 0]
def k0_dev10 (v14 : BitVec 32) : Nat :=
  let c0_i32_372 : BitVec 32 := 0#32
  let c1_i32_371 : BitVec 32 := 1#32
  let v419 : BitVec 32 := Scalar.muli v14 c1_i32_371
  let v420 : BitVec 32 := Scalar.addi c0_i32_372 v419
  v420.toNat
def k0_cond14 (k0_t2 : Fin k0_t2_loop.trips) : BitVec 1 :=
  let c0_i32_64 : BitVec 32 := 0#32
  let c1_i32_66 : BitVec 32 := 1#32
  let arg24 : BitVec 32 := Scf.iv c0_i32_64 c1_i32_66 k0_t2
  let c7_i32 : BitVec 32 := 7#32
  let v386 : BitVec 1 := Scalar.cmpi .slt arg24 c7_i32
  let v387 : BitVec 32 := Scalar.extui v386
  let c0_i32_349 : BitVec 32 := 0#32
  let v388 : BitVec 1 := Scalar.cmpi .ne v387 c0_i32_349
  v388

def k0_off67 (v4 : BitVec 32) (k0_t2 : Fin k0_t2_loop.trips) : Fin 2 → Nat :=
  let c0_355 : Index := 0#32
  let c7_i32_352 : BitVec 32 := 7#32
  let v392 : BitVec 32 := Scalar.addi v4 c7_i32_352
  let c0_i32_64 : BitVec 32 := 0#32
  let c1_i32_66 : BitVec 32 := 1#32
  let arg24 : BitVec 32 := Scf.iv c0_i32_64 c1_i32_66 k0_t2
  let v393 : BitVec 32 := Scalar.subi v392 arg24
  let c64_i32_353 : BitVec 32 := 64#32
  let v394 : BitVec 32 := Scalar.addi v393 c64_i32_353
  let c32_i32_354 : BitVec 32 := 32#32
  let v395 : BitVec 32 := Scalar.remsi v394 c32_i32_354
  let v396 : Index := Scalar.indexCast v395
  ![0, v396.toNat]
def k0_off68 (v397 : BitVec 32) : Fin 2 → Nat :=
  let c64_i32_356 : BitVec 32 := 64#32
  let v398 : BitVec 32 := Scalar.muli v397 c64_i32_356
  let v399 : Index := Scalar.indexCast v398
  let c0_357 : Index := 0#32
  ![v399.toNat, 0]

def k0_chk21 (k0_t2 : Fin k0_t2_loop.trips) (v397 : BitVec 32) : Prop :=
  (∀ (k0_h14 : k0_cond14 k0_t2 = 1#1), ∀ a, (k0_off68 v397) a + S64x1024.size a ≤ S2048x1024.size a)
theorem k0_off68_inb : ∀ (k0_t2 : Fin k0_t2_loop.trips) (v397 : BitVec 32) (k0_hw21 : k0_chk21 k0_t2 v397), ∀ (k0_h14 : k0_cond14 k0_t2 = 1#1), ∀ a, (k0_off68 v397) a + S64x1024.size a ≤ S2048x1024.size a := fun k0_t2 v397 k0_hw21 k0_h14 => k0_hw21 k0_h14

def k0_off69 (v4 : BitVec 32) (k0_t2 : Fin k0_t2_loop.trips) : Fin 2 → Nat :=
  let c0_369 : Index := 0#32
  let c7_i32_366 : BitVec 32 := 7#32
  let v414 : BitVec 32 := Scalar.subi v4 c7_i32_366
  let c0_i32_64 : BitVec 32 := 0#32
  let c1_i32_66 : BitVec 32 := 1#32
  let arg24 : BitVec 32 := Scf.iv c0_i32_64 c1_i32_66 k0_t2
  let v415 : BitVec 32 := Scalar.addi v414 arg24
  let c64_i32_367 : BitVec 32 := 64#32
  let v416 : BitVec 32 := Scalar.addi v415 c64_i32_367
  let c32_i32_368 : BitVec 32 := 32#32
  let v417 : BitVec 32 := Scalar.remsi v416 c32_i32_368
  let v418 : Index := Scalar.indexCast v417
  ![0, v418.toNat]
def k0_off70 (v419 : BitVec 32) : Fin 2 → Nat :=
  let c64_i32_370 : BitVec 32 := 64#32
  let v420 : BitVec 32 := Scalar.muli v419 c64_i32_370
  let v421 : Index := Scalar.indexCast v420
  let c0_371 : Index := 0#32
  ![v421.toNat, 0]

def k0_chk22 (k0_t2 : Fin k0_t2_loop.trips) (v419 : BitVec 32) : Prop :=
  (∀ (k0_h14 : k0_cond14 k0_t2 = 1#1), ∀ a, (k0_off70 v419) a + S64x1024.size a ≤ S2048x1024.size a)
theorem k0_off70_inb : ∀ (k0_t2 : Fin k0_t2_loop.trips) (v419 : BitVec 32) (k0_hw22 : k0_chk22 k0_t2 v419), ∀ (k0_h14 : k0_cond14 k0_t2 = 1#1), ∀ a, (k0_off70 v419) a + S64x1024.size a ≤ S2048x1024.size a := fun k0_t2 v419 k0_hw22 k0_h14 => k0_hw22 k0_h14

def k0_cond15 (k0_t2 : Fin k0_t2_loop.trips) : BitVec 1 :=
  let c0_i32_64 : BitVec 32 := 0#32
  let c1_i32_66 : BitVec 32 := 1#32
  let arg24 : BitVec 32 := Scf.iv c0_i32_64 c1_i32_66 k0_t2
  let c7_i32_350 : BitVec 32 := 7#32
  let v389 : BitVec 1 := Scalar.cmpi .eq arg24 c7_i32_350
  let v390 : BitVec 32 := Scalar.extui v389
  let c0_i32_351 : BitVec 32 := 0#32
  let v391 : BitVec 1 := Scalar.cmpi .ne v390 c0_i32_351
  v391

def k0_off71 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c64_i32_352 : BitVec 32 := 64#32
  let v392 : BitVec 32 := Scalar.muli v2 c64_i32_352
  let v393 : Index := Scalar.indexCast v392
  let c0_353 : Index := 0#32
  ![v393.toNat, 0]
def k0_off72 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c64_i32_96 : BitVec 32 := 64#32
  let v104 : BitVec 32 := Scalar.muli v2 c64_i32_96
  let v105 : Index := Scalar.indexCast v104
  let c0_97 : Index := 0#32
  ![v105.toNat, 0]
@[reducible] def k0_t3_loop : Scf.Loop 32 :=
  let c0_i32_102 : BitVec 32 := 0#32
  let c16_i32_103 : BitVec 32 := 16#32
  let v119 : BitVec 32 := Scalar.addi c0_i32_102 c16_i32_103
  let c1_i32_104 : BitVec 32 := 1#32
  ⟨c0_i32_102, v119, c1_i32_104⟩
def k0_cond16 (k0_t3 : Fin k0_t3_loop.trips) : BitVec 1 :=
  let c0_i32_102 : BitVec 32 := 0#32
  let c1_i32_104 : BitVec 32 := 1#32
  let arg24 : BitVec 32 := Scf.iv c0_i32_102 c1_i32_104 k0_t3
  let c0_i32_290 : BitVec 32 := 0#32
  let v298 : BitVec 1 := Scalar.cmpi .sgt arg24 c0_i32_290
  let v299 : BitVec 32 := Scalar.extui v298
  let c0_i32_291 : BitVec 32 := 0#32
  let v300 : BitVec 1 := Scalar.cmpi .ne v299 c0_i32_291
  v300

def k0_off73 (v4 : BitVec 32) (k0_t3 : Fin k0_t3_loop.trips) : Fin 2 → Nat :=
  let c0_328 : Index := 0#32
  let c0_i32_102 : BitVec 32 := 0#32
  let c1_i32_104 : BitVec 32 := 1#32
  let arg24 : BitVec 32 := Scf.iv c0_i32_102 c1_i32_104 k0_t3
  let c1_i32_325 : BitVec 32 := 1#32
  let v351 : BitVec 32 := Scalar.subi arg24 c1_i32_325
  let v352 : BitVec 32 := Scalar.subi v4 v351
  let c64_i32_326 : BitVec 32 := 64#32
  let v353 : BitVec 32 := Scalar.addi v352 c64_i32_326
  let c32_i32_327 : BitVec 32 := 32#32
  let v354 : BitVec 32 := Scalar.remsi v353 c32_i32_327
  let v355 : Index := Scalar.indexCast v354
  ![0, v355.toNat]
def k0_off74 (v356 : BitVec 32) : Fin 2 → Nat :=
  let c64_i32_329 : BitVec 32 := 64#32
  let v357 : BitVec 32 := Scalar.muli v356 c64_i32_329
  let c0_i32_330 : BitVec 32 := 0#32
  let v358 : BitVec 32 := Scalar.addi v357 c0_i32_330
  let c0_i32_334 : BitVec 32 := 0#32
  ![v358.toNat, 0]

def k0_chk23 (k0_t3 : Fin k0_t3_loop.trips) (v356 : BitVec 32) : Prop :=
  (∀ (k0_h16 : k0_cond16 k0_t3 = 1#1), ∀ a, (k0_off74 v356) a + S32x1024.size a ≤ S2048x1024.size a) ∧
  (∀ (k0_h16 : k0_cond16 k0_t3 = 1#1), ∀ (hinb : ∀ a, (k0_off74 v356) a + S32x1024.size a ≤ S2048x1024.size a), (Rect.unit (s := S2048x1024) (k0_off74 v356) S32x1024.size hinb).WholeWords (EltTy.packing .bf16))
theorem k0_off74_inb : ∀ (k0_t3 : Fin k0_t3_loop.trips) (v356 : BitVec 32) (k0_hw23 : k0_chk23 k0_t3 v356), ∀ (k0_h16 : k0_cond16 k0_t3 = 1#1), ∀ a, (k0_off74 v356) a + S32x1024.size a ≤ S2048x1024.size a := fun k0_t3 v356 k0_hw23 k0_h16 => k0_hw23.1 k0_h16
theorem k0_off74_wordsbf16 : ∀ (k0_t3 : Fin k0_t3_loop.trips) (v356 : BitVec 32) (k0_hw23 : k0_chk23 k0_t3 v356), ∀ (k0_h16 : k0_cond16 k0_t3 = 1#1), (Rect.unit (s := S2048x1024) (k0_off74 v356) S32x1024.size (k0_off74_inb k0_t3 v356 k0_hw23 k0_h16)).WholeWords (EltTy.packing .bf16) := fun k0_t3 v356 k0_hw23 k0_h16 => k0_hw23.2 k0_h16 (k0_off74_inb k0_t3 v356 k0_hw23 k0_h16)

def k0_off75 (k0_t3 : Fin k0_t3_loop.trips) : Fin 1 → Nat :=
  let c0_i32_331 : BitVec 32 := 0#32
  let c0_i32_102 : BitVec 32 := 0#32
  let c1_i32_104 : BitVec 32 := 1#32
  let arg24 : BitVec 32 := Scf.iv c0_i32_102 c1_i32_104 k0_t3
  let c1_i32_325 : BitVec 32 := 1#32
  let v351 : BitVec 32 := Scalar.subi arg24 c1_i32_325
  let v359 : BitVec 32 := Scalar.addi c0_i32_331 v351
  ![v359.toNat]
def k0_off76 (v4 : BitVec 32) (k0_t3 : Fin k0_t3_loop.trips) : Fin 2 → Nat :=
  let c0_294 : Index := 0#32
  let c0_i32_102 : BitVec 32 := 0#32
  let c1_i32_104 : BitVec 32 := 1#32
  let arg24 : BitVec 32 := Scf.iv c0_i32_102 c1_i32_104 k0_t3
  let v301 : BitVec 32 := Scalar.subi v4 arg24
  let c64_i32_292 : BitVec 32 := 64#32
  let v302 : BitVec 32 := Scalar.addi v301 c64_i32_292
  let c32_i32_293 : BitVec 32 := 32#32
  let v303 : BitVec 32 := Scalar.remsi v302 c32_i32_293
  let v304 : Index := Scalar.indexCast v303
  ![0, v304.toNat]
def k0_off77 (k0_t3 : Fin k0_t3_loop.trips) : Fin 1 → Nat :=
  let c0_i32_297 : BitVec 32 := 0#32
  let c0_i32_102 : BitVec 32 := 0#32
  let c1_i32_104 : BitVec 32 := 1#32
  let arg24 : BitVec 32 := Scf.iv c0_i32_102 c1_i32_104 k0_t3
  let v308 : BitVec 32 := Scalar.addi c0_i32_297 arg24
  ![v308.toNat]
def k0_off78 (v305 : BitVec 32) : Fin 2 → Nat :=
  let c64_i32_295 : BitVec 32 := 64#32
  let v306 : BitVec 32 := Scalar.muli v305 c64_i32_295
  let c0_i32_296 : BitVec 32 := 0#32
  let v307 : BitVec 32 := Scalar.addi v306 c0_i32_296
  let c0_i32_301 : BitVec 32 := 0#32
  ![v307.toNat, 0]

def k0_chk24 (v305 : BitVec 32) : Prop :=
  (∀ a, (k0_off78 v305) a + S32x1024.size a ≤ S2048x1024.size a) ∧
  (∀ (hinb : ∀ a, (k0_off78 v305) a + S32x1024.size a ≤ S2048x1024.size a), (Rect.unit (s := S2048x1024) (k0_off78 v305) S32x1024.size hinb).WholeWords (EltTy.packing .bf16))
theorem k0_off78_inb : ∀ (v305 : BitVec 32) (k0_hw24 : k0_chk24 v305), ∀ a, (k0_off78 v305) a + S32x1024.size a ≤ S2048x1024.size a := fun v305 k0_hw24 => k0_hw24.1
theorem k0_off78_wordsbf16 : ∀ (v305 : BitVec 32) (k0_hw24 : k0_chk24 v305), (Rect.unit (s := S2048x1024) (k0_off78 v305) S32x1024.size (k0_off78_inb v305 k0_hw24)).WholeWords (EltTy.packing .bf16) := fun v305 k0_hw24 => k0_hw24.2 (k0_off78_inb v305 k0_hw24)

def k0_dev11 (v14 : BitVec 32) : Nat :=
  let c0_i32_300 : BitVec 32 := 0#32
  let c1_i32_299 : BitVec 32 := 1#32
  let v309 : BitVec 32 := Scalar.muli v14 c1_i32_299
  let v310 : BitVec 32 := Scalar.addi c0_i32_300 v309
  v310.toNat
def k0_cond17 (k0_t3 : Fin k0_t3_loop.trips) : BitVec 1 :=
  let c0_i32_102 : BitVec 32 := 0#32
  let c1_i32_104 : BitVec 32 := 1#32
  let arg24 : BitVec 32 := Scf.iv c0_i32_102 c1_i32_104 k0_t3
  let c0_i32_303 : BitVec 32 := 0#32
  let v317 : BitVec 1 := Scalar.cmpi .sgt arg24 c0_i32_303
  let v318 : BitVec 32 := Scalar.extui v317
  let c0_i32_304 : BitVec 32 := 0#32
  let v319 : BitVec 1 := Scalar.cmpi .ne v318 c0_i32_304
  v319

def k0_off79 (v4 : BitVec 32) (k0_t3 : Fin k0_t3_loop.trips) : Fin 2 → Nat :=
  let c0_328 : Index := 0#32
  let c0_i32_102 : BitVec 32 := 0#32
  let c1_i32_104 : BitVec 32 := 1#32
  let arg24 : BitVec 32 := Scf.iv c0_i32_102 c1_i32_104 k0_t3
  let c1_i32_325 : BitVec 32 := 1#32
  let v351 : BitVec 32 := Scalar.subi arg24 c1_i32_325
  let v352 : BitVec 32 := Scalar.addi v4 v351
  let c64_i32_326 : BitVec 32 := 64#32
  let v353 : BitVec 32 := Scalar.addi v352 c64_i32_326
  let c32_i32_327 : BitVec 32 := 32#32
  let v354 : BitVec 32 := Scalar.remsi v353 c32_i32_327
  let v355 : Index := Scalar.indexCast v354
  ![0, v355.toNat]
def k0_off80 (v356 : BitVec 32) : Fin 2 → Nat :=
  let c64_i32_329 : BitVec 32 := 64#32
  let v357 : BitVec 32 := Scalar.muli v356 c64_i32_329
  let c0_i32_330 : BitVec 32 := 0#32
  let v358 : BitVec 32 := Scalar.addi v357 c0_i32_330
  let c0_i32_334 : BitVec 32 := 0#32
  ![v358.toNat, 0]

def k0_chk25 (k0_t3 : Fin k0_t3_loop.trips) (v356 : BitVec 32) : Prop :=
  (∀ (k0_h17 : k0_cond17 k0_t3 = 1#1), ∀ a, (k0_off80 v356) a + S32x1024.size a ≤ S2048x1024.size a) ∧
  (∀ (k0_h17 : k0_cond17 k0_t3 = 1#1), ∀ (hinb : ∀ a, (k0_off80 v356) a + S32x1024.size a ≤ S2048x1024.size a), (Rect.unit (s := S2048x1024) (k0_off80 v356) S32x1024.size hinb).WholeWords (EltTy.packing .bf16))
theorem k0_off80_inb : ∀ (k0_t3 : Fin k0_t3_loop.trips) (v356 : BitVec 32) (k0_hw25 : k0_chk25 k0_t3 v356), ∀ (k0_h17 : k0_cond17 k0_t3 = 1#1), ∀ a, (k0_off80 v356) a + S32x1024.size a ≤ S2048x1024.size a := fun k0_t3 v356 k0_hw25 k0_h17 => k0_hw25.1 k0_h17
theorem k0_off80_wordsbf16 : ∀ (k0_t3 : Fin k0_t3_loop.trips) (v356 : BitVec 32) (k0_hw25 : k0_chk25 k0_t3 v356), ∀ (k0_h17 : k0_cond17 k0_t3 = 1#1), (Rect.unit (s := S2048x1024) (k0_off80 v356) S32x1024.size (k0_off80_inb k0_t3 v356 k0_hw25 k0_h17)).WholeWords (EltTy.packing .bf16) := fun k0_t3 v356 k0_hw25 k0_h17 => k0_hw25.2 k0_h17 (k0_off80_inb k0_t3 v356 k0_hw25 k0_h17)

def k0_off81 (k0_t3 : Fin k0_t3_loop.trips) : Fin 1 → Nat :=
  let c0_i32_331 : BitVec 32 := 0#32
  let c0_i32_102 : BitVec 32 := 0#32
  let c1_i32_104 : BitVec 32 := 1#32
  let arg24 : BitVec 32 := Scf.iv c0_i32_102 c1_i32_104 k0_t3
  let c1_i32_325 : BitVec 32 := 1#32
  let v351 : BitVec 32 := Scalar.subi arg24 c1_i32_325
  let v359 : BitVec 32 := Scalar.addi c0_i32_331 v351
  ![v359.toNat]
def k0_cond18 (k0_t3 : Fin k0_t3_loop.trips) : BitVec 1 :=
  let c0_i32_102 : BitVec 32 := 0#32
  let c1_i32_104 : BitVec 32 := 1#32
  let arg24 : BitVec 32 := Scf.iv c0_i32_102 c1_i32_104 k0_t3
  let c15_i32_305 : BitVec 32 := 15#32
  let v320 : BitVec 1 := Scalar.cmpi .slt arg24 c15_i32_305
  let v321 : BitVec 32 := Scalar.extui v320
  let c0_i32_306 : BitVec 32 := 0#32
  let v322 : BitVec 1 := Scalar.cmpi .ne v321 c0_i32_306
  v322

def k0_off82 (v4 : BitVec 32) (k0_t3 : Fin k0_t3_loop.trips) : Fin 2 → Nat :=
  let c0_327 : Index := 0#32
  let c0_i32_102 : BitVec 32 := 0#32
  let c1_i32_104 : BitVec 32 := 1#32
  let arg24 : BitVec 32 := Scf.iv c0_i32_102 c1_i32_104 k0_t3
  let v351 : BitVec 32 := Scalar.addi v4 arg24
  let c64_i32_325 : BitVec 32 := 64#32
  let v352 : BitVec 32 := Scalar.addi v351 c64_i32_325
  let c32_i32_326 : BitVec 32 := 32#32
  let v353 : BitVec 32 := Scalar.remsi v352 c32_i32_326
  let v354 : Index := Scalar.indexCast v353
  ![0, v354.toNat]
def k0_off83 (k0_t3 : Fin k0_t3_loop.trips) : Fin 1 → Nat :=
  let c0_i32_330 : BitVec 32 := 0#32
  let c0_i32_102 : BitVec 32 := 0#32
  let c1_i32_104 : BitVec 32 := 1#32
  let arg24 : BitVec 32 := Scf.iv c0_i32_102 c1_i32_104 k0_t3
  let v358 : BitVec 32 := Scalar.addi c0_i32_330 arg24
  ![v358.toNat]
def k0_off84 (v355 : BitVec 32) : Fin 2 → Nat :=
  let c64_i32_328 : BitVec 32 := 64#32
  let v356 : BitVec 32 := Scalar.muli v355 c64_i32_328
  let c0_i32_329 : BitVec 32 := 0#32
  let v357 : BitVec 32 := Scalar.addi v356 c0_i32_329
  let c0_i32_334 : BitVec 32 := 0#32
  ![v357.toNat, 0]

def k0_chk26 (k0_t3 : Fin k0_t3_loop.trips) (v355 : BitVec 32) : Prop :=
  (∀ (k0_h18 : k0_cond18 k0_t3 = 1#1), ∀ a, (k0_off84 v355) a + S32x1024.size a ≤ S2048x1024.size a) ∧
  (∀ (k0_h18 : k0_cond18 k0_t3 = 1#1), ∀ (hinb : ∀ a, (k0_off84 v355) a + S32x1024.size a ≤ S2048x1024.size a), (Rect.unit (s := S2048x1024) (k0_off84 v355) S32x1024.size hinb).WholeWords (EltTy.packing .bf16))
theorem k0_off84_inb : ∀ (k0_t3 : Fin k0_t3_loop.trips) (v355 : BitVec 32) (k0_hw26 : k0_chk26 k0_t3 v355), ∀ (k0_h18 : k0_cond18 k0_t3 = 1#1), ∀ a, (k0_off84 v355) a + S32x1024.size a ≤ S2048x1024.size a := fun k0_t3 v355 k0_hw26 k0_h18 => k0_hw26.1 k0_h18
theorem k0_off84_wordsbf16 : ∀ (k0_t3 : Fin k0_t3_loop.trips) (v355 : BitVec 32) (k0_hw26 : k0_chk26 k0_t3 v355), ∀ (k0_h18 : k0_cond18 k0_t3 = 1#1), (Rect.unit (s := S2048x1024) (k0_off84 v355) S32x1024.size (k0_off84_inb k0_t3 v355 k0_hw26 k0_h18)).WholeWords (EltTy.packing .bf16) := fun k0_t3 v355 k0_hw26 k0_h18 => k0_hw26.2 k0_h18 (k0_off84_inb k0_t3 v355 k0_hw26 k0_h18)

def k0_dev12 (v9 : BitVec 32) : Nat :=
  let c0_i32_333 : BitVec 32 := 0#32
  let c1_i32_332 : BitVec 32 := 1#32
  let v359 : BitVec 32 := Scalar.muli v9 c1_i32_332
  let v360 : BitVec 32 := Scalar.addi c0_i32_333 v359
  v360.toNat
def k0_cond19 (k0_t3 : Fin k0_t3_loop.trips) : BitVec 1 :=
  let c0_i32_102 : BitVec 32 := 0#32
  let c1_i32_104 : BitVec 32 := 1#32
  let arg24 : BitVec 32 := Scf.iv c0_i32_102 c1_i32_104 k0_t3
  let c0_i32_307 : BitVec 32 := 0#32
  let v323 : BitVec 1 := Scalar.cmpi .sgt arg24 c0_i32_307
  let v324 : BitVec 32 := Scalar.extui v323
  let c0_i32_308 : BitVec 32 := 0#32
  let v325 : BitVec 1 := Scalar.cmpi .ne v324 c0_i32_308
  v325

def k0_off85 (v4 : BitVec 32) (k0_t3 : Fin k0_t3_loop.trips) : Fin 2 → Nat :=
  let c0_328 : Index := 0#32
  let c0_i32_102 : BitVec 32 := 0#32
  let c1_i32_104 : BitVec 32 := 1#32
  let arg24 : BitVec 32 := Scf.iv c0_i32_102 c1_i32_104 k0_t3
  let c1_i32_325 : BitVec 32 := 1#32
  let v351 : BitVec 32 := Scalar.subi arg24 c1_i32_325
  let v352 : BitVec 32 := Scalar.subi v4 v351
  let c64_i32_326 : BitVec 32 := 64#32
  let v353 : BitVec 32 := Scalar.addi v352 c64_i32_326
  let c32_i32_327 : BitVec 32 := 32#32
  let v354 : BitVec 32 := Scalar.remsi v353 c32_i32_327
  let v355 : Index := Scalar.indexCast v354
  ![0, v355.toNat]
def k0_off86 (v356 : BitVec 32) : Fin 2 → Nat :=
  let c64_i32_329 : BitVec 32 := 64#32
  let v357 : BitVec 32 := Scalar.muli v356 c64_i32_329
  let c32_i32_330 : BitVec 32 := 32#32
  let v358 : BitVec 32 := Scalar.addi v357 c32_i32_330
  let c0_i32_334 : BitVec 32 := 0#32
  ![v358.toNat, 0]

def k0_chk27 (k0_t3 : Fin k0_t3_loop.trips) (v356 : BitVec 32) : Prop :=
  (∀ (k0_h19 : k0_cond19 k0_t3 = 1#1), ∀ a, (k0_off86 v356) a + S32x1024.size a ≤ S2048x1024.size a) ∧
  (∀ (k0_h19 : k0_cond19 k0_t3 = 1#1), ∀ (hinb : ∀ a, (k0_off86 v356) a + S32x1024.size a ≤ S2048x1024.size a), (Rect.unit (s := S2048x1024) (k0_off86 v356) S32x1024.size hinb).WholeWords (EltTy.packing .bf16))
theorem k0_off86_inb : ∀ (k0_t3 : Fin k0_t3_loop.trips) (v356 : BitVec 32) (k0_hw27 : k0_chk27 k0_t3 v356), ∀ (k0_h19 : k0_cond19 k0_t3 = 1#1), ∀ a, (k0_off86 v356) a + S32x1024.size a ≤ S2048x1024.size a := fun k0_t3 v356 k0_hw27 k0_h19 => k0_hw27.1 k0_h19
theorem k0_off86_wordsbf16 : ∀ (k0_t3 : Fin k0_t3_loop.trips) (v356 : BitVec 32) (k0_hw27 : k0_chk27 k0_t3 v356), ∀ (k0_h19 : k0_cond19 k0_t3 = 1#1), (Rect.unit (s := S2048x1024) (k0_off86 v356) S32x1024.size (k0_off86_inb k0_t3 v356 k0_hw27 k0_h19)).WholeWords (EltTy.packing .bf16) := fun k0_t3 v356 k0_hw27 k0_h19 => k0_hw27.2 k0_h19 (k0_off86_inb k0_t3 v356 k0_hw27 k0_h19)

def k0_off87 (k0_t3 : Fin k0_t3_loop.trips) : Fin 1 → Nat :=
  let c16_i32_331 : BitVec 32 := 16#32
  let c0_i32_102 : BitVec 32 := 0#32
  let c1_i32_104 : BitVec 32 := 1#32
  let arg24 : BitVec 32 := Scf.iv c0_i32_102 c1_i32_104 k0_t3
  let c1_i32_325 : BitVec 32 := 1#32
  let v351 : BitVec 32 := Scalar.subi arg24 c1_i32_325
  let v359 : BitVec 32 := Scalar.addi c16_i32_331 v351
  ![v359.toNat]
def k0_off88 (v4 : BitVec 32) (k0_t3 : Fin k0_t3_loop.trips) : Fin 2 → Nat :=
  let c0_311 : Index := 0#32
  let c0_i32_102 : BitVec 32 := 0#32
  let c1_i32_104 : BitVec 32 := 1#32
  let arg24 : BitVec 32 := Scf.iv c0_i32_102 c1_i32_104 k0_t3
  let v326 : BitVec 32 := Scalar.subi v4 arg24
  let c64_i32_309 : BitVec 32 := 64#32
  let v327 : BitVec 32 := Scalar.addi v326 c64_i32_309
  let c32_i32_310 : BitVec 32 := 32#32
  let v328 : BitVec 32 := Scalar.remsi v327 c32_i32_310
  let v329 : Index := Scalar.indexCast v328
  ![0, v329.toNat]
def k0_off89 (k0_t3 : Fin k0_t3_loop.trips) : Fin 1 → Nat :=
  let c16_i32_314 : BitVec 32 := 16#32
  let c0_i32_102 : BitVec 32 := 0#32
  let c1_i32_104 : BitVec 32 := 1#32
  let arg24 : BitVec 32 := Scf.iv c0_i32_102 c1_i32_104 k0_t3
  let v333 : BitVec 32 := Scalar.addi c16_i32_314 arg24
  ![v333.toNat]
def k0_off90 (v330 : BitVec 32) : Fin 2 → Nat :=
  let c64_i32_312 : BitVec 32 := 64#32
  let v331 : BitVec 32 := Scalar.muli v330 c64_i32_312
  let c32_i32_313 : BitVec 32 := 32#32
  let v332 : BitVec 32 := Scalar.addi v331 c32_i32_313
  let c0_i32_318 : BitVec 32 := 0#32
  ![v332.toNat, 0]

def k0_chk28 (v330 : BitVec 32) : Prop :=
  (∀ a, (k0_off90 v330) a + S32x1024.size a ≤ S2048x1024.size a) ∧
  (∀ (hinb : ∀ a, (k0_off90 v330) a + S32x1024.size a ≤ S2048x1024.size a), (Rect.unit (s := S2048x1024) (k0_off90 v330) S32x1024.size hinb).WholeWords (EltTy.packing .bf16))
theorem k0_off90_inb : ∀ (v330 : BitVec 32) (k0_hw28 : k0_chk28 v330), ∀ a, (k0_off90 v330) a + S32x1024.size a ≤ S2048x1024.size a := fun v330 k0_hw28 => k0_hw28.1
theorem k0_off90_wordsbf16 : ∀ (v330 : BitVec 32) (k0_hw28 : k0_chk28 v330), (Rect.unit (s := S2048x1024) (k0_off90 v330) S32x1024.size (k0_off90_inb v330 k0_hw28)).WholeWords (EltTy.packing .bf16) := fun v330 k0_hw28 => k0_hw28.2 (k0_off90_inb v330 k0_hw28)

def k0_dev13 (v14 : BitVec 32) : Nat :=
  let c0_i32_317 : BitVec 32 := 0#32
  let c1_i32_316 : BitVec 32 := 1#32
  let v334 : BitVec 32 := Scalar.muli v14 c1_i32_316
  let v335 : BitVec 32 := Scalar.addi c0_i32_317 v334
  v335.toNat
def k0_cond20 (k0_t3 : Fin k0_t3_loop.trips) : BitVec 1 :=
  let c0_i32_102 : BitVec 32 := 0#32
  let c1_i32_104 : BitVec 32 := 1#32
  let arg24 : BitVec 32 := Scf.iv c0_i32_102 c1_i32_104 k0_t3
  let c0_i32_320 : BitVec 32 := 0#32
  let v342 : BitVec 1 := Scalar.cmpi .sgt arg24 c0_i32_320
  let v343 : BitVec 32 := Scalar.extui v342
  let c0_i32_321 : BitVec 32 := 0#32
  let v344 : BitVec 1 := Scalar.cmpi .ne v343 c0_i32_321
  v344

def k0_off91 (v4 : BitVec 32) (k0_t3 : Fin k0_t3_loop.trips) : Fin 2 → Nat :=
  let c0_328 : Index := 0#32
  let c0_i32_102 : BitVec 32 := 0#32
  let c1_i32_104 : BitVec 32 := 1#32
  let arg24 : BitVec 32 := Scf.iv c0_i32_102 c1_i32_104 k0_t3
  let c1_i32_325 : BitVec 32 := 1#32
  let v351 : BitVec 32 := Scalar.subi arg24 c1_i32_325
  let v352 : BitVec 32 := Scalar.addi v4 v351
  let c64_i32_326 : BitVec 32 := 64#32
  let v353 : BitVec 32 := Scalar.addi v352 c64_i32_326
  let c32_i32_327 : BitVec 32 := 32#32
  let v354 : BitVec 32 := Scalar.remsi v353 c32_i32_327
  let v355 : Index := Scalar.indexCast v354
  ![0, v355.toNat]
def k0_off92 (v356 : BitVec 32) : Fin 2 → Nat :=
  let c64_i32_329 : BitVec 32 := 64#32
  let v357 : BitVec 32 := Scalar.muli v356 c64_i32_329
  let c32_i32_330 : BitVec 32 := 32#32
  let v358 : BitVec 32 := Scalar.addi v357 c32_i32_330
  let c0_i32_334 : BitVec 32 := 0#32
  ![v358.toNat, 0]

def k0_chk29 (k0_t3 : Fin k0_t3_loop.trips) (v356 : BitVec 32) : Prop :=
  (∀ (k0_h20 : k0_cond20 k0_t3 = 1#1), ∀ a, (k0_off92 v356) a + S32x1024.size a ≤ S2048x1024.size a) ∧
  (∀ (k0_h20 : k0_cond20 k0_t3 = 1#1), ∀ (hinb : ∀ a, (k0_off92 v356) a + S32x1024.size a ≤ S2048x1024.size a), (Rect.unit (s := S2048x1024) (k0_off92 v356) S32x1024.size hinb).WholeWords (EltTy.packing .bf16))
theorem k0_off92_inb : ∀ (k0_t3 : Fin k0_t3_loop.trips) (v356 : BitVec 32) (k0_hw29 : k0_chk29 k0_t3 v356), ∀ (k0_h20 : k0_cond20 k0_t3 = 1#1), ∀ a, (k0_off92 v356) a + S32x1024.size a ≤ S2048x1024.size a := fun k0_t3 v356 k0_hw29 k0_h20 => k0_hw29.1 k0_h20
theorem k0_off92_wordsbf16 : ∀ (k0_t3 : Fin k0_t3_loop.trips) (v356 : BitVec 32) (k0_hw29 : k0_chk29 k0_t3 v356), ∀ (k0_h20 : k0_cond20 k0_t3 = 1#1), (Rect.unit (s := S2048x1024) (k0_off92 v356) S32x1024.size (k0_off92_inb k0_t3 v356 k0_hw29 k0_h20)).WholeWords (EltTy.packing .bf16) := fun k0_t3 v356 k0_hw29 k0_h20 => k0_hw29.2 k0_h20 (k0_off92_inb k0_t3 v356 k0_hw29 k0_h20)

def k0_off93 (k0_t3 : Fin k0_t3_loop.trips) : Fin 1 → Nat :=
  let c15_i32_331 : BitVec 32 := 15#32
  let c0_i32_102 : BitVec 32 := 0#32
  let c1_i32_104 : BitVec 32 := 1#32
  let arg24 : BitVec 32 := Scf.iv c0_i32_102 c1_i32_104 k0_t3
  let c1_i32_325 : BitVec 32 := 1#32
  let v351 : BitVec 32 := Scalar.subi arg24 c1_i32_325
  let v359 : BitVec 32 := Scalar.addi c15_i32_331 v351
  ![v359.toNat]
def k0_cond21 (k0_t3 : Fin k0_t3_loop.trips) : BitVec 1 :=
  let c0_i32_102 : BitVec 32 := 0#32
  let c1_i32_104 : BitVec 32 := 1#32
  let arg24 : BitVec 32 := Scf.iv c0_i32_102 c1_i32_104 k0_t3
  let c15_i32_322 : BitVec 32 := 15#32
  let v345 : BitVec 1 := Scalar.cmpi .slt arg24 c15_i32_322
  let v346 : BitVec 32 := Scalar.extui v345
  let c0_i32_323 : BitVec 32 := 0#32
  let v347 : BitVec 1 := Scalar.cmpi .ne v346 c0_i32_323
  v347

def k0_off94 (v4 : BitVec 32) (k0_t3 : Fin k0_t3_loop.trips) : Fin 2 → Nat :=
  let c0_327 : Index := 0#32
  let c0_i32_102 : BitVec 32 := 0#32
  let c1_i32_104 : BitVec 32 := 1#32
  let arg24 : BitVec 32 := Scf.iv c0_i32_102 c1_i32_104 k0_t3
  let v351 : BitVec 32 := Scalar.addi v4 arg24
  let c64_i32_325 : BitVec 32 := 64#32
  let v352 : BitVec 32 := Scalar.addi v351 c64_i32_325
  let c32_i32_326 : BitVec 32 := 32#32
  let v353 : BitVec 32 := Scalar.remsi v352 c32_i32_326
  let v354 : Index := Scalar.indexCast v353
  ![0, v354.toNat]
def k0_off95 (k0_t3 : Fin k0_t3_loop.trips) : Fin 1 → Nat :=
  let c15_i32_330 : BitVec 32 := 15#32
  let c0_i32_102 : BitVec 32 := 0#32
  let c1_i32_104 : BitVec 32 := 1#32
  let arg24 : BitVec 32 := Scf.iv c0_i32_102 c1_i32_104 k0_t3
  let v358 : BitVec 32 := Scalar.addi c15_i32_330 arg24
  ![v358.toNat]
def k0_off96 (v355 : BitVec 32) : Fin 2 → Nat :=
  let c64_i32_328 : BitVec 32 := 64#32
  let v356 : BitVec 32 := Scalar.muli v355 c64_i32_328
  let c32_i32_329 : BitVec 32 := 32#32
  let v357 : BitVec 32 := Scalar.addi v356 c32_i32_329
  let c0_i32_334 : BitVec 32 := 0#32
  ![v357.toNat, 0]

def k0_chk30 (k0_t3 : Fin k0_t3_loop.trips) (v355 : BitVec 32) : Prop :=
  (∀ (k0_h21 : k0_cond21 k0_t3 = 1#1), ∀ a, (k0_off96 v355) a + S32x1024.size a ≤ S2048x1024.size a) ∧
  (∀ (k0_h21 : k0_cond21 k0_t3 = 1#1), ∀ (hinb : ∀ a, (k0_off96 v355) a + S32x1024.size a ≤ S2048x1024.size a), (Rect.unit (s := S2048x1024) (k0_off96 v355) S32x1024.size hinb).WholeWords (EltTy.packing .bf16))
theorem k0_off96_inb : ∀ (k0_t3 : Fin k0_t3_loop.trips) (v355 : BitVec 32) (k0_hw30 : k0_chk30 k0_t3 v355), ∀ (k0_h21 : k0_cond21 k0_t3 = 1#1), ∀ a, (k0_off96 v355) a + S32x1024.size a ≤ S2048x1024.size a := fun k0_t3 v355 k0_hw30 k0_h21 => k0_hw30.1 k0_h21
theorem k0_off96_wordsbf16 : ∀ (k0_t3 : Fin k0_t3_loop.trips) (v355 : BitVec 32) (k0_hw30 : k0_chk30 k0_t3 v355), ∀ (k0_h21 : k0_cond21 k0_t3 = 1#1), (Rect.unit (s := S2048x1024) (k0_off96 v355) S32x1024.size (k0_off96_inb k0_t3 v355 k0_hw30 k0_h21)).WholeWords (EltTy.packing .bf16) := fun k0_t3 v355 k0_hw30 k0_h21 => k0_hw30.2 k0_h21 (k0_off96_inb k0_t3 v355 k0_hw30 k0_h21)

def k0_dev14 (v9 : BitVec 32) : Nat :=
  let c0_i32_333 : BitVec 32 := 0#32
  let c1_i32_332 : BitVec 32 := 1#32
  let v359 : BitVec 32 := Scalar.muli v9 c1_i32_332
  let v360 : BitVec 32 := Scalar.addi c0_i32_333 v359
  v360.toNat
def k0_cond22 (k0_t3 : Fin k0_t3_loop.trips) : BitVec 1 :=
  let c0_i32_102 : BitVec 32 := 0#32
  let c1_i32_104 : BitVec 32 := 1#32
  let arg24 : BitVec 32 := Scf.iv c0_i32_102 c1_i32_104 k0_t3
  let c8_i32 : BitVec 32 := 8#32
  let v348 : BitVec 1 := Scalar.cmpi .sge arg24 c8_i32
  let v349 : BitVec 32 := Scalar.extui v348
  let c0_i32_324 : BitVec 32 := 0#32
  let v350 : BitVec 1 := Scalar.cmpi .ne v349 c0_i32_324
  v350

def k0_off97 (v4 : BitVec 32) (k0_t3 : Fin k0_t3_loop.trips) : Fin 2 → Nat :=
  let c0_327 : Index := 0#32
  let c0_i32_102 : BitVec 32 := 0#32
  let c1_i32_104 : BitVec 32 := 1#32
  let arg24 : BitVec 32 := Scf.iv c0_i32_102 c1_i32_104 k0_t3
  let v351 : BitVec 32 := Scalar.subi v4 arg24
  let c64_i32_325 : BitVec 32 := 64#32
  let v352 : BitVec 32 := Scalar.addi v351 c64_i32_325
  let c32_i32_326 : BitVec 32 := 32#32
  let v353 : BitVec 32 := Scalar.remsi v352 c32_i32_326
  let v354 : Index := Scalar.indexCast v353
  ![0, v354.toNat]
def k0_off98 (v355 : BitVec 32) : Fin 2 → Nat :=
  let c64_i32_328 : BitVec 32 := 64#32
  let v356 : BitVec 32 := Scalar.muli v355 c64_i32_328
  let v357 : Index := Scalar.indexCast v356
  let c0_329 : Index := 0#32
  ![v357.toNat, 0]

def k0_chk31 (k0_t3 : Fin k0_t3_loop.trips) (v355 : BitVec 32) : Prop :=
  (∀ (k0_h22 : k0_cond22 k0_t3 = 1#1), ∀ a, (k0_off98 v355) a + S64x1024.size a ≤ S2048x1024.size a)
theorem k0_off98_inb : ∀ (k0_t3 : Fin k0_t3_loop.trips) (v355 : BitVec 32) (k0_hw31 : k0_chk31 k0_t3 v355), ∀ (k0_h22 : k0_cond22 k0_t3 = 1#1), ∀ a, (k0_off98 v355) a + S64x1024.size a ≤ S2048x1024.size a := fun k0_t3 v355 k0_hw31 k0_h22 => k0_hw31 k0_h22

def k0_off99 (v4 : BitVec 32) (k0_t3 : Fin k0_t3_loop.trips) : Fin 2 → Nat :=
  let c0_340 : Index := 0#32
  let c0_i32_102 : BitVec 32 := 0#32
  let c1_i32_104 : BitVec 32 := 1#32
  let arg24 : BitVec 32 := Scf.iv c0_i32_102 c1_i32_104 k0_t3
  let v372 : BitVec 32 := Scalar.addi v4 arg24
  let c64_i32_338 : BitVec 32 := 64#32
  let v373 : BitVec 32 := Scalar.addi v372 c64_i32_338
  let c32_i32_339 : BitVec 32 := 32#32
  let v374 : BitVec 32 := Scalar.remsi v373 c32_i32_339
  let v375 : Index := Scalar.indexCast v374
  ![0, v375.toNat]
def k0_off100 (v376 : BitVec 32) : Fin 2 → Nat :=
  let c64_i32_341 : BitVec 32 := 64#32
  let v377 : BitVec 32 := Scalar.muli v376 c64_i32_341
  let v378 : Index := Scalar.indexCast v377
  let c0_342 : Index := 0#32
  ![v378.toNat, 0]

def k0_chk32 (k0_t3 : Fin k0_t3_loop.trips) (v376 : BitVec 32) : Prop :=
  (∀ (k0_h22 : k0_cond22 k0_t3 = 1#1), ∀ a, (k0_off100 v376) a + S64x1024.size a ≤ S2048x1024.size a)
theorem k0_off100_inb : ∀ (k0_t3 : Fin k0_t3_loop.trips) (v376 : BitVec 32) (k0_hw32 : k0_chk32 k0_t3 v376), ∀ (k0_h22 : k0_cond22 k0_t3 = 1#1), ∀ a, (k0_off100 v376) a + S64x1024.size a ≤ S2048x1024.size a := fun k0_t3 v376 k0_hw32 k0_h22 => k0_hw32 k0_h22

def k0_off101 (v4 : BitVec 32) : Fin 2 → Nat :=
  let c0_109 : Index := 0#32
  let c15_i32_106 : BitVec 32 := 15#32
  let v120 : BitVec 32 := Scalar.subi v4 c15_i32_106
  let c64_i32_107 : BitVec 32 := 64#32
  let v121 : BitVec 32 := Scalar.addi v120 c64_i32_107
  let c32_i32_108 : BitVec 32 := 32#32
  let v122 : BitVec 32 := Scalar.remsi v121 c32_i32_108
  let v123 : Index := Scalar.indexCast v122
  ![0, v123.toNat]
def k0_off102 (v124 : BitVec 32) : Fin 2 → Nat :=
  let c64_i32_110 : BitVec 32 := 64#32
  let v125 : BitVec 32 := Scalar.muli v124 c64_i32_110
  let c0_i32_111 : BitVec 32 := 0#32
  let v126 : BitVec 32 := Scalar.addi v125 c0_i32_111
  let c0_i32_115 : BitVec 32 := 0#32
  ![v126.toNat, 0]

def k0_chk33 (v124 : BitVec 32) : Prop :=
  (∀ a, (k0_off102 v124) a + S32x1024.size a ≤ S2048x1024.size a) ∧
  (∀ (hinb : ∀ a, (k0_off102 v124) a + S32x1024.size a ≤ S2048x1024.size a), (Rect.unit (s := S2048x1024) (k0_off102 v124) S32x1024.size hinb).WholeWords (EltTy.packing .bf16))
theorem k0_off102_inb : ∀ (v124 : BitVec 32) (k0_hw33 : k0_chk33 v124), ∀ a, (k0_off102 v124) a + S32x1024.size a ≤ S2048x1024.size a := fun v124 k0_hw33 => k0_hw33.1
theorem k0_off102_wordsbf16 : ∀ (v124 : BitVec 32) (k0_hw33 : k0_chk33 v124), (Rect.unit (s := S2048x1024) (k0_off102 v124) S32x1024.size (k0_off102_inb v124 k0_hw33)).WholeWords (EltTy.packing .bf16) := fun v124 k0_hw33 => k0_hw33.2 (k0_off102_inb v124 k0_hw33)

def k0_off103 (v4 : BitVec 32) : Fin 2 → Nat :=
  let c0_126 : Index := 0#32
  let c15_i32_123 : BitVec 32 := 15#32
  let v137 : BitVec 32 := Scalar.subi v4 c15_i32_123
  let c64_i32_124 : BitVec 32 := 64#32
  let v138 : BitVec 32 := Scalar.addi v137 c64_i32_124
  let c32_i32_125 : BitVec 32 := 32#32
  let v139 : BitVec 32 := Scalar.remsi v138 c32_i32_125
  let v140 : Index := Scalar.indexCast v139
  ![0, v140.toNat]
def k0_off104 (v141 : BitVec 32) : Fin 2 → Nat :=
  let c64_i32_127 : BitVec 32 := 64#32
  let v142 : BitVec 32 := Scalar.muli v141 c64_i32_127
  let c32_i32_128 : BitVec 32 := 32#32
  let v143 : BitVec 32 := Scalar.addi v142 c32_i32_128
  let c0_i32_132 : BitVec 32 := 0#32
  ![v143.toNat, 0]

def k0_chk34 (v141 : BitVec 32) : Prop :=
  (∀ a, (k0_off104 v141) a + S32x1024.size a ≤ S2048x1024.size a) ∧
  (∀ (hinb : ∀ a, (k0_off104 v141) a + S32x1024.size a ≤ S2048x1024.size a), (Rect.unit (s := S2048x1024) (k0_off104 v141) S32x1024.size hinb).WholeWords (EltTy.packing .bf16))
theorem k0_off104_inb : ∀ (v141 : BitVec 32) (k0_hw34 : k0_chk34 v141), ∀ a, (k0_off104 v141) a + S32x1024.size a ≤ S2048x1024.size a := fun v141 k0_hw34 => k0_hw34.1
theorem k0_off104_wordsbf16 : ∀ (v141 : BitVec 32) (k0_hw34 : k0_chk34 v141), (Rect.unit (s := S2048x1024) (k0_off104 v141) S32x1024.size (k0_off104_inb v141 k0_hw34)).WholeWords (EltTy.packing .bf16) := fun v141 k0_hw34 => k0_hw34.2 (k0_off104_inb v141 k0_hw34)

def k0_off105 (v4 : BitVec 32) : Fin 2 → Nat :=
  let c0_143 : Index := 0#32
  let c16_i32_140 : BitVec 32 := 16#32
  let v154 : BitVec 32 := Scalar.subi v4 c16_i32_140
  let c64_i32_141 : BitVec 32 := 64#32
  let v155 : BitVec 32 := Scalar.addi v154 c64_i32_141
  let c32_i32_142 : BitVec 32 := 32#32
  let v156 : BitVec 32 := Scalar.remsi v155 c32_i32_142
  let v157 : Index := Scalar.indexCast v156
  ![0, v157.toNat]
def k0_off106 (v158 : BitVec 32) : Fin 2 → Nat :=
  let c64_i32_144 : BitVec 32 := 64#32
  let v159 : BitVec 32 := Scalar.muli v158 c64_i32_144
  let v160 : Index := Scalar.indexCast v159
  let c0_145 : Index := 0#32
  ![v160.toNat, 0]

def k0_chk35 (v158 : BitVec 32) : Prop :=
  (∀ a, (k0_off106 v158) a + S64x1024.size a ≤ S2048x1024.size a)
theorem k0_off106_inb : ∀ (v158 : BitVec 32) (k0_hw35 : k0_chk35 v158), ∀ a, (k0_off106 v158) a + S64x1024.size a ≤ S2048x1024.size a := fun v158 k0_hw35 => k0_hw35

@[reducible] def k0_t4_loop : Scf.Loop 32 :=
  let c0_i32_154 : BitVec 32 := 0#32
  let c16_i32_155 : BitVec 32 := 16#32
  let v175 : BitVec 32 := Scalar.addi c0_i32_154 c16_i32_155
  let c1_i32_156 : BitVec 32 := 1#32
  ⟨c0_i32_154, v175, c1_i32_156⟩
def k0_cond23 (k0_t4 : Fin k0_t4_loop.trips) : BitVec 1 :=
  let c0_i32_154 : BitVec 32 := 0#32
  let c1_i32_156 : BitVec 32 := 1#32
  let arg24 : BitVec 32 := Scf.iv c0_i32_154 c1_i32_156 k0_t4
  let c0_i32_290 : BitVec 32 := 0#32
  let v298 : BitVec 1 := Scalar.cmpi .sgt arg24 c0_i32_290
  let v299 : BitVec 32 := Scalar.extui v298
  let c0_i32_291 : BitVec 32 := 0#32
  let v300 : BitVec 1 := Scalar.cmpi .ne v299 c0_i32_291
  v300

def k0_off107 (k0_t4 : Fin k0_t4_loop.trips) : Fin 2 → Nat :=
  let c0_i32_154 : BitVec 32 := 0#32
  let c1_i32_156 : BitVec 32 := 1#32
  let arg24 : BitVec 32 := Scf.iv c0_i32_154 c1_i32_156 k0_t4
  let c1_i32_352 : BitVec 32 := 1#32
  let v392 : BitVec 32 := Scalar.subi arg24 c1_i32_352
  let c64_i32_353 : BitVec 32 := 64#32
  let v393 : BitVec 32 := Scalar.muli v392 c64_i32_353
  let c0_i32_354 : BitVec 32 := 0#32
  let v394 : BitVec 32 := Scalar.addi v393 c0_i32_354
  let c0_i32_360 : BitVec 32 := 0#32
  ![v394.toNat, 0]
def k0_off108 (k0_t4 : Fin k0_t4_loop.trips) : Fin 1 → Nat :=
  let c0_i32_355 : BitVec 32 := 0#32
  let c0_i32_154 : BitVec 32 := 0#32
  let c1_i32_156 : BitVec 32 := 1#32
  let arg24 : BitVec 32 := Scf.iv c0_i32_154 c1_i32_156 k0_t4
  let c1_i32_352 : BitVec 32 := 1#32
  let v392 : BitVec 32 := Scalar.subi arg24 c1_i32_352
  let v395 : BitVec 32 := Scalar.addi c0_i32_355 v392
  ![v395.toNat]
def k0_off109 (v4 : BitVec 32) (k0_t4 : Fin k0_t4_loop.trips) : Fin 2 → Nat :=
  let c0_295 : Index := 0#32
  let c16_i32_292 : BitVec 32 := 16#32
  let v301 : BitVec 32 := Scalar.subi v4 c16_i32_292
  let c0_i32_154 : BitVec 32 := 0#32
  let c1_i32_156 : BitVec 32 := 1#32
  let arg24 : BitVec 32 := Scf.iv c0_i32_154 c1_i32_156 k0_t4
  let v302 : BitVec 32 := Scalar.addi v301 arg24
  let c64_i32_293 : BitVec 32 := 64#32
  let v303 : BitVec 32 := Scalar.addi v302 c64_i32_293
  let c32_i32_294 : BitVec 32 := 32#32
  let v304 : BitVec 32 := Scalar.remsi v303 c32_i32_294
  let v305 : Index := Scalar.indexCast v304
  ![0, v305.toNat]
def k0_off110 (v306 : BitVec 32) : Fin 2 → Nat :=
  let c64_i32_296 : BitVec 32 := 64#32
  let v307 : BitVec 32 := Scalar.muli v306 c64_i32_296
  let c0_i32_297 : BitVec 32 := 0#32
  let v308 : BitVec 32 := Scalar.addi v307 c0_i32_297
  let v309 : Index := Scalar.indexCast v308
  let c0_298 : Index := 0#32
  ![v309.toNat, 0]

def k0_chk36 (v306 : BitVec 32) : Prop :=
  (∀ a, (k0_off110 v306) a + S32x1024.size a ≤ S2048x1024.size a)
theorem k0_off110_inb : ∀ (v306 : BitVec 32) (k0_hw36 : k0_chk36 v306), ∀ a, (k0_off110 v306) a + S32x1024.size a ≤ S2048x1024.size a := fun v306 k0_hw36 => k0_hw36

def k0_off111 (k0_t4 : Fin k0_t4_loop.trips) : Fin 2 → Nat :=
  let c0_i32_154 : BitVec 32 := 0#32
  let c1_i32_156 : BitVec 32 := 1#32
  let arg24 : BitVec 32 := Scf.iv c0_i32_154 c1_i32_156 k0_t4
  let c1_i32_299 : BitVec 32 := 1#32
  let v311 : BitVec 32 := Scalar.subi arg24 c1_i32_299
  let c0_i32_300 : BitVec 32 := 0#32
  let v312 : BitVec 32 := Scalar.maxsi v311 c0_i32_300
  let c64_i32_301 : BitVec 32 := 64#32
  let v313 : BitVec 32 := Scalar.muli v312 c64_i32_301
  let c0_i32_302 : BitVec 32 := 0#32
  let v314 : BitVec 32 := Scalar.addi v313 c0_i32_302
  let v315 : Index := Scalar.indexCast v314
  let c0_303 : Index := 0#32
  ![v315.toNat, 0]
def k0_off112 (k0_t4 : Fin k0_t4_loop.trips) : Fin 1 → Nat :=
  let c0_i32_309 : BitVec 32 := 0#32
  let c0_i32_154 : BitVec 32 := 0#32
  let c1_i32_156 : BitVec 32 := 1#32
  let arg24 : BitVec 32 := Scf.iv c0_i32_154 c1_i32_156 k0_t4
  let v327 : BitVec 32 := Scalar.addi c0_i32_309 arg24
  ![v327.toNat]
def k0_off113 (k0_t4 : Fin k0_t4_loop.trips) : Fin 2 → Nat :=
  let c0_i32_154 : BitVec 32 := 0#32
  let c1_i32_156 : BitVec 32 := 1#32
  let arg24 : BitVec 32 := Scf.iv c0_i32_154 c1_i32_156 k0_t4
  let c64_i32_307 : BitVec 32 := 64#32
  let v325 : BitVec 32 := Scalar.muli arg24 c64_i32_307
  let c0_i32_308 : BitVec 32 := 0#32
  let v326 : BitVec 32 := Scalar.addi v325 c0_i32_308
  let c0_i32_313 : BitVec 32 := 0#32
  ![v326.toNat, 0]
def k0_dev15 (v9 : BitVec 32) : Nat :=
  let c0_i32_312 : BitVec 32 := 0#32
  let c1_i32_311 : BitVec 32 := 1#32
  let v328 : BitVec 32 := Scalar.muli v9 c1_i32_311
  let v329 : BitVec 32 := Scalar.addi c0_i32_312 v328
  v329.toNat
def k0_cond24 (k0_t4 : Fin k0_t4_loop.trips) : BitVec 1 :=
  let c0_i32_154 : BitVec 32 := 0#32
  let c1_i32_156 : BitVec 32 := 1#32
  let arg24 : BitVec 32 := Scf.iv c0_i32_154 c1_i32_156 k0_t4
  let c0_i32_316 : BitVec 32 := 0#32
  let v336 : BitVec 1 := Scalar.cmpi .sgt arg24 c0_i32_316
  let v337 : BitVec 32 := Scalar.extui v336
  let c0_i32_317 : BitVec 32 := 0#32
  let v338 : BitVec 1 := Scalar.cmpi .ne v337 c0_i32_317
  v338

def k0_off114 (k0_t4 : Fin k0_t4_loop.trips) : Fin 2 → Nat :=
  let c0_i32_154 : BitVec 32 := 0#32
  let c1_i32_156 : BitVec 32 := 1#32
  let arg24 : BitVec 32 := Scf.iv c0_i32_154 c1_i32_156 k0_t4
  let c1_i32_352 : BitVec 32 := 1#32
  let v392 : BitVec 32 := Scalar.subi arg24 c1_i32_352
  let c64_i32_353 : BitVec 32 := 64#32
  let v393 : BitVec 32 := Scalar.muli v392 c64_i32_353
  let c0_i32_354 : BitVec 32 := 0#32
  let v394 : BitVec 32 := Scalar.addi v393 c0_i32_354
  let c0_i32_360 : BitVec 32 := 0#32
  ![v394.toNat, 0]
def k0_off115 (k0_t4 : Fin k0_t4_loop.trips) : Fin 1 → Nat :=
  let c0_i32_355 : BitVec 32 := 0#32
  let c0_i32_154 : BitVec 32 := 0#32
  let c1_i32_156 : BitVec 32 := 1#32
  let arg24 : BitVec 32 := Scf.iv c0_i32_154 c1_i32_156 k0_t4
  let c1_i32_352 : BitVec 32 := 1#32
  let v392 : BitVec 32 := Scalar.subi arg24 c1_i32_352
  let v395 : BitVec 32 := Scalar.addi c0_i32_355 v392
  ![v395.toNat]
def k0_cond25 (k0_t4 : Fin k0_t4_loop.trips) : BitVec 1 :=
  let c0_i32_154 : BitVec 32 := 0#32
  let c1_i32_156 : BitVec 32 := 1#32
  let arg24 : BitVec 32 := Scf.iv c0_i32_154 c1_i32_156 k0_t4
  let c15_i32_318 : BitVec 32 := 15#32
  let v339 : BitVec 1 := Scalar.cmpi .slt arg24 c15_i32_318
  let v340 : BitVec 32 := Scalar.extui v339
  let c0_i32_319 : BitVec 32 := 0#32
  let v341 : BitVec 1 := Scalar.cmpi .ne v340 c0_i32_319
  v341

def k0_off116 (v4 : BitVec 32) (k0_t4 : Fin k0_t4_loop.trips) : Fin 2 → Nat :=
  let c0_355 : Index := 0#32
  let c15_i32_352 : BitVec 32 := 15#32
  let v392 : BitVec 32 := Scalar.addi v4 c15_i32_352
  let c0_i32_154 : BitVec 32 := 0#32
  let c1_i32_156 : BitVec 32 := 1#32
  let arg24 : BitVec 32 := Scf.iv c0_i32_154 c1_i32_156 k0_t4
  let v393 : BitVec 32 := Scalar.subi v392 arg24
  let c64_i32_353 : BitVec 32 := 64#32
  let v394 : BitVec 32 := Scalar.addi v393 c64_i32_353
  let c32_i32_354 : BitVec 32 := 32#32
  let v395 : BitVec 32 := Scalar.remsi v394 c32_i32_354
  let v396 : Index := Scalar.indexCast v395
  ![0, v396.toNat]
def k0_off117 (v397 : BitVec 32) : Fin 2 → Nat :=
  let c64_i32_356 : BitVec 32 := 64#32
  let v398 : BitVec 32 := Scalar.muli v397 c64_i32_356
  let c0_i32_357 : BitVec 32 := 0#32
  let v399 : BitVec 32 := Scalar.addi v398 c0_i32_357
  let v400 : Index := Scalar.indexCast v399
  let c0_358 : Index := 0#32
  ![v400.toNat, 0]

def k0_chk37 (k0_t4 : Fin k0_t4_loop.trips) (v397 : BitVec 32) : Prop :=
  (∀ (k0_h25 : k0_cond25 k0_t4 = 1#1), ∀ a, (k0_off117 v397) a + S32x1024.size a ≤ S2048x1024.size a)
theorem k0_off117_inb : ∀ (k0_t4 : Fin k0_t4_loop.trips) (v397 : BitVec 32) (k0_hw37 : k0_chk37 k0_t4 v397), ∀ (k0_h25 : k0_cond25 k0_t4 = 1#1), ∀ a, (k0_off117 v397) a + S32x1024.size a ≤ S2048x1024.size a := fun k0_t4 v397 k0_hw37 k0_h25 => k0_hw37 k0_h25

def k0_off118 (k0_t4 : Fin k0_t4_loop.trips) : Fin 2 → Nat :=
  let c0_i32_154 : BitVec 32 := 0#32
  let c1_i32_156 : BitVec 32 := 1#32
  let arg24 : BitVec 32 := Scf.iv c0_i32_154 c1_i32_156 k0_t4
  let c1_i32_359 : BitVec 32 := 1#32
  let v402 : BitVec 32 := Scalar.subi arg24 c1_i32_359
  let c0_i32_360 : BitVec 32 := 0#32
  let v403 : BitVec 32 := Scalar.maxsi v402 c0_i32_360
  let c64_i32_361 : BitVec 32 := 64#32
  let v404 : BitVec 32 := Scalar.muli v403 c64_i32_361
  let c0_i32_362 : BitVec 32 := 0#32
  let v405 : BitVec 32 := Scalar.addi v404 c0_i32_362
  let v406 : Index := Scalar.indexCast v405
  let c0_363 : Index := 0#32
  ![v406.toNat, 0]
def k0_off119 (k0_t4 : Fin k0_t4_loop.trips) : Fin 1 → Nat :=
  let c0_i32_369 : BitVec 32 := 0#32
  let c0_i32_154 : BitVec 32 := 0#32
  let c1_i32_156 : BitVec 32 := 1#32
  let arg24 : BitVec 32 := Scf.iv c0_i32_154 c1_i32_156 k0_t4
  let v418 : BitVec 32 := Scalar.addi c0_i32_369 arg24
  ![v418.toNat]
def k0_off120 (k0_t4 : Fin k0_t4_loop.trips) : Fin 2 → Nat :=
  let c0_i32_154 : BitVec 32 := 0#32
  let c1_i32_156 : BitVec 32 := 1#32
  let arg24 : BitVec 32 := Scf.iv c0_i32_154 c1_i32_156 k0_t4
  let c64_i32_367 : BitVec 32 := 64#32
  let v416 : BitVec 32 := Scalar.muli arg24 c64_i32_367
  let c0_i32_368 : BitVec 32 := 0#32
  let v417 : BitVec 32 := Scalar.addi v416 c0_i32_368
  let c0_i32_373 : BitVec 32 := 0#32
  ![v417.toNat, 0]
def k0_dev16 (v14 : BitVec 32) : Nat :=
  let c0_i32_372 : BitVec 32 := 0#32
  let c1_i32_371 : BitVec 32 := 1#32
  let v419 : BitVec 32 := Scalar.muli v14 c1_i32_371
  let v420 : BitVec 32 := Scalar.addi c0_i32_372 v419
  v420.toNat
def k0_cond26 (k0_t4 : Fin k0_t4_loop.trips) : BitVec 1 :=
  let c0_i32_154 : BitVec 32 := 0#32
  let c1_i32_156 : BitVec 32 := 1#32
  let arg24 : BitVec 32 := Scf.iv c0_i32_154 c1_i32_156 k0_t4
  let c0_i32_320 : BitVec 32 := 0#32
  let v342 : BitVec 1 := Scalar.cmpi .sgt arg24 c0_i32_320
  let v343 : BitVec 32 := Scalar.extui v342
  let c0_i32_321 : BitVec 32 := 0#32
  let v344 : BitVec 1 := Scalar.cmpi .ne v343 c0_i32_321
  v344

def k0_off121 (k0_t4 : Fin k0_t4_loop.trips) : Fin 2 → Nat :=
  let c0_i32_154 : BitVec 32 := 0#32
  let c1_i32_156 : BitVec 32 := 1#32
  let arg24 : BitVec 32 := Scf.iv c0_i32_154 c1_i32_156 k0_t4
  let c1_i32_352 : BitVec 32 := 1#32
  let v392 : BitVec 32 := Scalar.subi arg24 c1_i32_352
  let c64_i32_353 : BitVec 32 := 64#32
  let v393 : BitVec 32 := Scalar.muli v392 c64_i32_353
  let c32_i32_354 : BitVec 32 := 32#32
  let v394 : BitVec 32 := Scalar.addi v393 c32_i32_354
  let c0_i32_360 : BitVec 32 := 0#32
  ![v394.toNat, 0]
def k0_off122 (k0_t4 : Fin k0_t4_loop.trips) : Fin 1 → Nat :=
  let c16_i32_355 : BitVec 32 := 16#32
  let c0_i32_154 : BitVec 32 := 0#32
  let c1_i32_156 : BitVec 32 := 1#32
  let arg24 : BitVec 32 := Scf.iv c0_i32_154 c1_i32_156 k0_t4
  let c1_i32_352 : BitVec 32 := 1#32
  let v392 : BitVec 32 := Scalar.subi arg24 c1_i32_352
  let v395 : BitVec 32 := Scalar.addi c16_i32_355 v392
  ![v395.toNat]
def k0_off123 (v4 : BitVec 32) (k0_t4 : Fin k0_t4_loop.trips) : Fin 2 → Nat :=
  let c0_325 : Index := 0#32
  let c16_i32_322 : BitVec 32 := 16#32
  let v345 : BitVec 32 := Scalar.subi v4 c16_i32_322
  let c0_i32_154 : BitVec 32 := 0#32
  let c1_i32_156 : BitVec 32 := 1#32
  let arg24 : BitVec 32 := Scf.iv c0_i32_154 c1_i32_156 k0_t4
  let v346 : BitVec 32 := Scalar.addi v345 arg24
  let c64_i32_323 : BitVec 32 := 64#32
  let v347 : BitVec 32 := Scalar.addi v346 c64_i32_323
  let c32_i32_324 : BitVec 32 := 32#32
  let v348 : BitVec 32 := Scalar.remsi v347 c32_i32_324
  let v349 : Index := Scalar.indexCast v348
  ![0, v349.toNat]
def k0_off124 (v350 : BitVec 32) : Fin 2 → Nat :=
  let c64_i32_326 : BitVec 32 := 64#32
  let v351 : BitVec 32 := Scalar.muli v350 c64_i32_326
  let c32_i32_327 : BitVec 32 := 32#32
  let v352 : BitVec 32 := Scalar.addi v351 c32_i32_327
  let v353 : Index := Scalar.indexCast v352
  let c0_328 : Index := 0#32
  ![v353.toNat, 0]

def k0_chk38 (v350 : BitVec 32) : Prop :=
  (∀ a, (k0_off124 v350) a + S32x1024.size a ≤ S2048x1024.size a)
theorem k0_off124_inb : ∀ (v350 : BitVec 32) (k0_hw38 : k0_chk38 v350), ∀ a, (k0_off124 v350) a + S32x1024.size a ≤ S2048x1024.size a := fun v350 k0_hw38 => k0_hw38

def k0_off125 (k0_t4 : Fin k0_t4_loop.trips) : Fin 2 → Nat :=
  let c0_i32_154 : BitVec 32 := 0#32
  let c1_i32_156 : BitVec 32 := 1#32
  let arg24 : BitVec 32 := Scf.iv c0_i32_154 c1_i32_156 k0_t4
  let c1_i32_329 : BitVec 32 := 1#32
  let v355 : BitVec 32 := Scalar.subi arg24 c1_i32_329
  let c0_i32_330 : BitVec 32 := 0#32
  let v356 : BitVec 32 := Scalar.maxsi v355 c0_i32_330
  let c64_i32_331 : BitVec 32 := 64#32
  let v357 : BitVec 32 := Scalar.muli v356 c64_i32_331
  let c32_i32_332 : BitVec 32 := 32#32
  let v358 : BitVec 32 := Scalar.addi v357 c32_i32_332
  let v359 : Index := Scalar.indexCast v358
  let c0_333 : Index := 0#32
  ![v359.toNat, 0]
def k0_off126 (k0_t4 : Fin k0_t4_loop.trips) : Fin 1 → Nat :=
  let c16_i32_338 : BitVec 32 := 16#32
  let c0_i32_154 : BitVec 32 := 0#32
  let c1_i32_156 : BitVec 32 := 1#32
  let arg24 : BitVec 32 := Scf.iv c0_i32_154 c1_i32_156 k0_t4
  let v371 : BitVec 32 := Scalar.addi c16_i32_338 arg24
  ![v371.toNat]
def k0_off127 (k0_t4 : Fin k0_t4_loop.trips) : Fin 2 → Nat :=
  let c0_i32_154 : BitVec 32 := 0#32
  let c1_i32_156 : BitVec 32 := 1#32
  let arg24 : BitVec 32 := Scf.iv c0_i32_154 c1_i32_156 k0_t4
  let c64_i32_336 : BitVec 32 := 64#32
  let v369 : BitVec 32 := Scalar.muli arg24 c64_i32_336
  let c32_i32_337 : BitVec 32 := 32#32
  let v370 : BitVec 32 := Scalar.addi v369 c32_i32_337
  let c0_i32_342 : BitVec 32 := 0#32
  ![v370.toNat, 0]
def k0_dev17 (v9 : BitVec 32) : Nat :=
  let c0_i32_341 : BitVec 32 := 0#32
  let c1_i32_340 : BitVec 32 := 1#32
  let v372 : BitVec 32 := Scalar.muli v9 c1_i32_340
  let v373 : BitVec 32 := Scalar.addi c0_i32_341 v372
  v373.toNat
def k0_cond27 (k0_t4 : Fin k0_t4_loop.trips) : BitVec 1 :=
  let c0_i32_154 : BitVec 32 := 0#32
  let c1_i32_156 : BitVec 32 := 1#32
  let arg24 : BitVec 32 := Scf.iv c0_i32_154 c1_i32_156 k0_t4
  let c0_i32_345 : BitVec 32 := 0#32
  let v380 : BitVec 1 := Scalar.cmpi .sgt arg24 c0_i32_345
  let v381 : BitVec 32 := Scalar.extui v380
  let c0_i32_346 : BitVec 32 := 0#32
  let v382 : BitVec 1 := Scalar.cmpi .ne v381 c0_i32_346
  v382

def k0_off128 (k0_t4 : Fin k0_t4_loop.trips) : Fin 2 → Nat :=
  let c0_i32_154 : BitVec 32 := 0#32
  let c1_i32_156 : BitVec 32 := 1#32
  let arg24 : BitVec 32 := Scf.iv c0_i32_154 c1_i32_156 k0_t4
  let c1_i32_352 : BitVec 32 := 1#32
  let v392 : BitVec 32 := Scalar.subi arg24 c1_i32_352
  let c64_i32_353 : BitVec 32 := 64#32
  let v393 : BitVec 32 := Scalar.muli v392 c64_i32_353
  let c32_i32_354 : BitVec 32 := 32#32
  let v394 : BitVec 32 := Scalar.addi v393 c32_i32_354
  let c0_i32_360 : BitVec 32 := 0#32
  ![v394.toNat, 0]
def k0_off129 (k0_t4 : Fin k0_t4_loop.trips) : Fin 1 → Nat :=
  let c15_i32_355 : BitVec 32 := 15#32
  let c0_i32_154 : BitVec 32 := 0#32
  let c1_i32_156 : BitVec 32 := 1#32
  let arg24 : BitVec 32 := Scf.iv c0_i32_154 c1_i32_156 k0_t4
  let c1_i32_352 : BitVec 32 := 1#32
  let v392 : BitVec 32 := Scalar.subi arg24 c1_i32_352
  let v395 : BitVec 32 := Scalar.addi c15_i32_355 v392
  ![v395.toNat]
def k0_cond28 (k0_t4 : Fin k0_t4_loop.trips) : BitVec 1 :=
  let c0_i32_154 : BitVec 32 := 0#32
  let c1_i32_156 : BitVec 32 := 1#32
  let arg24 : BitVec 32 := Scf.iv c0_i32_154 c1_i32_156 k0_t4
  let c15_i32_347 : BitVec 32 := 15#32
  let v383 : BitVec 1 := Scalar.cmpi .slt arg24 c15_i32_347
  let v384 : BitVec 32 := Scalar.extui v383
  let c0_i32_348 : BitVec 32 := 0#32
  let v385 : BitVec 1 := Scalar.cmpi .ne v384 c0_i32_348
  v385

def k0_off130 (v4 : BitVec 32) (k0_t4 : Fin k0_t4_loop.trips) : Fin 2 → Nat :=
  let c0_355 : Index := 0#32
  let c15_i32_352 : BitVec 32 := 15#32
  let v392 : BitVec 32 := Scalar.addi v4 c15_i32_352
  let c0_i32_154 : BitVec 32 := 0#32
  let c1_i32_156 : BitVec 32 := 1#32
  let arg24 : BitVec 32 := Scf.iv c0_i32_154 c1_i32_156 k0_t4
  let v393 : BitVec 32 := Scalar.subi v392 arg24
  let c64_i32_353 : BitVec 32 := 64#32
  let v394 : BitVec 32 := Scalar.addi v393 c64_i32_353
  let c32_i32_354 : BitVec 32 := 32#32
  let v395 : BitVec 32 := Scalar.remsi v394 c32_i32_354
  let v396 : Index := Scalar.indexCast v395
  ![0, v396.toNat]
def k0_off131 (v397 : BitVec 32) : Fin 2 → Nat :=
  let c64_i32_356 : BitVec 32 := 64#32
  let v398 : BitVec 32 := Scalar.muli v397 c64_i32_356
  let c32_i32_357 : BitVec 32 := 32#32
  let v399 : BitVec 32 := Scalar.addi v398 c32_i32_357
  let v400 : Index := Scalar.indexCast v399
  let c0_358 : Index := 0#32
  ![v400.toNat, 0]

def k0_chk39 (k0_t4 : Fin k0_t4_loop.trips) (v397 : BitVec 32) : Prop :=
  (∀ (k0_h28 : k0_cond28 k0_t4 = 1#1), ∀ a, (k0_off131 v397) a + S32x1024.size a ≤ S2048x1024.size a)
theorem k0_off131_inb : ∀ (k0_t4 : Fin k0_t4_loop.trips) (v397 : BitVec 32) (k0_hw39 : k0_chk39 k0_t4 v397), ∀ (k0_h28 : k0_cond28 k0_t4 = 1#1), ∀ a, (k0_off131 v397) a + S32x1024.size a ≤ S2048x1024.size a := fun k0_t4 v397 k0_hw39 k0_h28 => k0_hw39 k0_h28

def k0_off132 (k0_t4 : Fin k0_t4_loop.trips) : Fin 2 → Nat :=
  let c0_i32_154 : BitVec 32 := 0#32
  let c1_i32_156 : BitVec 32 := 1#32
  let arg24 : BitVec 32 := Scf.iv c0_i32_154 c1_i32_156 k0_t4
  let c1_i32_359 : BitVec 32 := 1#32
  let v402 : BitVec 32 := Scalar.subi arg24 c1_i32_359
  let c0_i32_360 : BitVec 32 := 0#32
  let v403 : BitVec 32 := Scalar.maxsi v402 c0_i32_360
  let c64_i32_361 : BitVec 32 := 64#32
  let v404 : BitVec 32 := Scalar.muli v403 c64_i32_361
  let c32_i32_362 : BitVec 32 := 32#32
  let v405 : BitVec 32 := Scalar.addi v404 c32_i32_362
  let v406 : Index := Scalar.indexCast v405
  let c0_363 : Index := 0#32
  ![v406.toNat, 0]
def k0_off133 (k0_t4 : Fin k0_t4_loop.trips) : Fin 1 → Nat :=
  let c15_i32_369 : BitVec 32 := 15#32
  let c0_i32_154 : BitVec 32 := 0#32
  let c1_i32_156 : BitVec 32 := 1#32
  let arg24 : BitVec 32 := Scf.iv c0_i32_154 c1_i32_156 k0_t4
  let v418 : BitVec 32 := Scalar.addi c15_i32_369 arg24
  ![v418.toNat]
def k0_off134 (k0_t4 : Fin k0_t4_loop.trips) : Fin 2 → Nat :=
  let c0_i32_154 : BitVec 32 := 0#32
  let c1_i32_156 : BitVec 32 := 1#32
  let arg24 : BitVec 32 := Scf.iv c0_i32_154 c1_i32_156 k0_t4
  let c64_i32_367 : BitVec 32 := 64#32
  let v416 : BitVec 32 := Scalar.muli arg24 c64_i32_367
  let c32_i32_368 : BitVec 32 := 32#32
  let v417 : BitVec 32 := Scalar.addi v416 c32_i32_368
  let c0_i32_373 : BitVec 32 := 0#32
  ![v417.toNat, 0]
def k0_dev18 (v14 : BitVec 32) : Nat :=
  let c0_i32_372 : BitVec 32 := 0#32
  let c1_i32_371 : BitVec 32 := 1#32
  let v419 : BitVec 32 := Scalar.muli v14 c1_i32_371
  let v420 : BitVec 32 := Scalar.addi c0_i32_372 v419
  v420.toNat
def k0_cond29 (k0_t4 : Fin k0_t4_loop.trips) : BitVec 1 :=
  let c0_i32_154 : BitVec 32 := 0#32
  let c1_i32_156 : BitVec 32 := 1#32
  let arg24 : BitVec 32 := Scf.iv c0_i32_154 c1_i32_156 k0_t4
  let c7_i32 : BitVec 32 := 7#32
  let v386 : BitVec 1 := Scalar.cmpi .slt arg24 c7_i32
  let v387 : BitVec 32 := Scalar.extui v386
  let c0_i32_349 : BitVec 32 := 0#32
  let v388 : BitVec 1 := Scalar.cmpi .ne v387 c0_i32_349
  v388

def k0_off135 (v4 : BitVec 32) (k0_t4 : Fin k0_t4_loop.trips) : Fin 2 → Nat :=
  let c0_355 : Index := 0#32
  let c7_i32_352 : BitVec 32 := 7#32
  let v392 : BitVec 32 := Scalar.addi v4 c7_i32_352
  let c0_i32_154 : BitVec 32 := 0#32
  let c1_i32_156 : BitVec 32 := 1#32
  let arg24 : BitVec 32 := Scf.iv c0_i32_154 c1_i32_156 k0_t4
  let v393 : BitVec 32 := Scalar.subi v392 arg24
  let c64_i32_353 : BitVec 32 := 64#32
  let v394 : BitVec 32 := Scalar.addi v393 c64_i32_353
  let c32_i32_354 : BitVec 32 := 32#32
  let v395 : BitVec 32 := Scalar.remsi v394 c32_i32_354
  let v396 : Index := Scalar.indexCast v395
  ![0, v396.toNat]
def k0_off136 (v397 : BitVec 32) : Fin 2 → Nat :=
  let c64_i32_356 : BitVec 32 := 64#32
  let v398 : BitVec 32 := Scalar.muli v397 c64_i32_356
  let v399 : Index := Scalar.indexCast v398
  let c0_357 : Index := 0#32
  ![v399.toNat, 0]

def k0_chk40 (k0_t4 : Fin k0_t4_loop.trips) (v397 : BitVec 32) : Prop :=
  (∀ (k0_h29 : k0_cond29 k0_t4 = 1#1), ∀ a, (k0_off136 v397) a + S64x1024.size a ≤ S2048x1024.size a)
theorem k0_off136_inb : ∀ (k0_t4 : Fin k0_t4_loop.trips) (v397 : BitVec 32) (k0_hw40 : k0_chk40 k0_t4 v397), ∀ (k0_h29 : k0_cond29 k0_t4 = 1#1), ∀ a, (k0_off136 v397) a + S64x1024.size a ≤ S2048x1024.size a := fun k0_t4 v397 k0_hw40 k0_h29 => k0_hw40 k0_h29

def k0_off137 (v4 : BitVec 32) (k0_t4 : Fin k0_t4_loop.trips) : Fin 2 → Nat :=
  let c0_369 : Index := 0#32
  let c7_i32_366 : BitVec 32 := 7#32
  let v414 : BitVec 32 := Scalar.subi v4 c7_i32_366
  let c0_i32_154 : BitVec 32 := 0#32
  let c1_i32_156 : BitVec 32 := 1#32
  let arg24 : BitVec 32 := Scf.iv c0_i32_154 c1_i32_156 k0_t4
  let v415 : BitVec 32 := Scalar.addi v414 arg24
  let c64_i32_367 : BitVec 32 := 64#32
  let v416 : BitVec 32 := Scalar.addi v415 c64_i32_367
  let c32_i32_368 : BitVec 32 := 32#32
  let v417 : BitVec 32 := Scalar.remsi v416 c32_i32_368
  let v418 : Index := Scalar.indexCast v417
  ![0, v418.toNat]
def k0_off138 (v419 : BitVec 32) : Fin 2 → Nat :=
  let c64_i32_370 : BitVec 32 := 64#32
  let v420 : BitVec 32 := Scalar.muli v419 c64_i32_370
  let v421 : Index := Scalar.indexCast v420
  let c0_371 : Index := 0#32
  ![v421.toNat, 0]

def k0_chk41 (k0_t4 : Fin k0_t4_loop.trips) (v419 : BitVec 32) : Prop :=
  (∀ (k0_h29 : k0_cond29 k0_t4 = 1#1), ∀ a, (k0_off138 v419) a + S64x1024.size a ≤ S2048x1024.size a)
theorem k0_off138_inb : ∀ (k0_t4 : Fin k0_t4_loop.trips) (v419 : BitVec 32) (k0_hw41 : k0_chk41 k0_t4 v419), ∀ (k0_h29 : k0_cond29 k0_t4 = 1#1), ∀ a, (k0_off138 v419) a + S64x1024.size a ≤ S2048x1024.size a := fun k0_t4 v419 k0_hw41 k0_h29 => k0_hw41 k0_h29

def k0_cond30 (k0_t4 : Fin k0_t4_loop.trips) : BitVec 1 :=
  let c0_i32_154 : BitVec 32 := 0#32
  let c1_i32_156 : BitVec 32 := 1#32
  let arg24 : BitVec 32 := Scf.iv c0_i32_154 c1_i32_156 k0_t4
  let c7_i32_350 : BitVec 32 := 7#32
  let v389 : BitVec 1 := Scalar.cmpi .eq arg24 c7_i32_350
  let v390 : BitVec 32 := Scalar.extui v389
  let c0_i32_351 : BitVec 32 := 0#32
  let v391 : BitVec 1 := Scalar.cmpi .ne v390 c0_i32_351
  v391

def k0_off139 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c64_i32_352 : BitVec 32 := 64#32
  let v392 : BitVec 32 := Scalar.muli v2 c64_i32_352
  let v393 : Index := Scalar.indexCast v392
  let c0_353 : Index := 0#32
  ![v393.toNat, 0]
def k0_off140 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c64_i32_188 : BitVec 32 := 64#32
  let v196 : BitVec 32 := Scalar.muli v2 c64_i32_188
  let v197 : Index := Scalar.indexCast v196
  let c0_189 : Index := 0#32
  ![v197.toNat, 0]
@[reducible] def k0_t5_loop : Scf.Loop 32 :=
  let c0_i32_196 : BitVec 32 := 0#32
  let c16_i32_197 : BitVec 32 := 16#32
  let v211 : BitVec 32 := Scalar.addi c0_i32_196 c16_i32_197
  let c1_i32_198 : BitVec 32 := 1#32
  ⟨c0_i32_196, v211, c1_i32_198⟩
def k0_cond31 (k0_t5 : Fin k0_t5_loop.trips) : BitVec 1 :=
  let c0_i32_196 : BitVec 32 := 0#32
  let c1_i32_198 : BitVec 32 := 1#32
  let arg24 : BitVec 32 := Scf.iv c0_i32_196 c1_i32_198 k0_t5
  let c0_i32_290 : BitVec 32 := 0#32
  let v298 : BitVec 1 := Scalar.cmpi .sgt arg24 c0_i32_290
  let v299 : BitVec 32 := Scalar.extui v298
  let c0_i32_291 : BitVec 32 := 0#32
  let v300 : BitVec 1 := Scalar.cmpi .ne v299 c0_i32_291
  v300

def k0_off141 (v4 : BitVec 32) (k0_t5 : Fin k0_t5_loop.trips) : Fin 2 → Nat :=
  let c0_328 : Index := 0#32
  let c0_i32_196 : BitVec 32 := 0#32
  let c1_i32_198 : BitVec 32 := 1#32
  let arg24 : BitVec 32 := Scf.iv c0_i32_196 c1_i32_198 k0_t5
  let c1_i32_325 : BitVec 32 := 1#32
  let v351 : BitVec 32 := Scalar.subi arg24 c1_i32_325
  let v352 : BitVec 32 := Scalar.subi v4 v351
  let c64_i32_326 : BitVec 32 := 64#32
  let v353 : BitVec 32 := Scalar.addi v352 c64_i32_326
  let c32_i32_327 : BitVec 32 := 32#32
  let v354 : BitVec 32 := Scalar.remsi v353 c32_i32_327
  let v355 : Index := Scalar.indexCast v354
  ![0, v355.toNat]
def k0_off142 (v356 : BitVec 32) : Fin 2 → Nat :=
  let c64_i32_329 : BitVec 32 := 64#32
  let v357 : BitVec 32 := Scalar.muli v356 c64_i32_329
  let c0_i32_330 : BitVec 32 := 0#32
  let v358 : BitVec 32 := Scalar.addi v357 c0_i32_330
  let c0_i32_334 : BitVec 32 := 0#32
  ![v358.toNat, 0]

def k0_chk42 (k0_t5 : Fin k0_t5_loop.trips) (v356 : BitVec 32) : Prop :=
  (∀ (k0_h31 : k0_cond31 k0_t5 = 1#1), ∀ a, (k0_off142 v356) a + S32x1024.size a ≤ S2048x1024.size a) ∧
  (∀ (k0_h31 : k0_cond31 k0_t5 = 1#1), ∀ (hinb : ∀ a, (k0_off142 v356) a + S32x1024.size a ≤ S2048x1024.size a), (Rect.unit (s := S2048x1024) (k0_off142 v356) S32x1024.size hinb).WholeWords (EltTy.packing .bf16))
theorem k0_off142_inb : ∀ (k0_t5 : Fin k0_t5_loop.trips) (v356 : BitVec 32) (k0_hw42 : k0_chk42 k0_t5 v356), ∀ (k0_h31 : k0_cond31 k0_t5 = 1#1), ∀ a, (k0_off142 v356) a + S32x1024.size a ≤ S2048x1024.size a := fun k0_t5 v356 k0_hw42 k0_h31 => k0_hw42.1 k0_h31
theorem k0_off142_wordsbf16 : ∀ (k0_t5 : Fin k0_t5_loop.trips) (v356 : BitVec 32) (k0_hw42 : k0_chk42 k0_t5 v356), ∀ (k0_h31 : k0_cond31 k0_t5 = 1#1), (Rect.unit (s := S2048x1024) (k0_off142 v356) S32x1024.size (k0_off142_inb k0_t5 v356 k0_hw42 k0_h31)).WholeWords (EltTy.packing .bf16) := fun k0_t5 v356 k0_hw42 k0_h31 => k0_hw42.2 k0_h31 (k0_off142_inb k0_t5 v356 k0_hw42 k0_h31)

def k0_off143 (k0_t5 : Fin k0_t5_loop.trips) : Fin 1 → Nat :=
  let c0_i32_331 : BitVec 32 := 0#32
  let c0_i32_196 : BitVec 32 := 0#32
  let c1_i32_198 : BitVec 32 := 1#32
  let arg24 : BitVec 32 := Scf.iv c0_i32_196 c1_i32_198 k0_t5
  let c1_i32_325 : BitVec 32 := 1#32
  let v351 : BitVec 32 := Scalar.subi arg24 c1_i32_325
  let v359 : BitVec 32 := Scalar.addi c0_i32_331 v351
  ![v359.toNat]
def k0_off144 (v4 : BitVec 32) (k0_t5 : Fin k0_t5_loop.trips) : Fin 2 → Nat :=
  let c0_294 : Index := 0#32
  let c0_i32_196 : BitVec 32 := 0#32
  let c1_i32_198 : BitVec 32 := 1#32
  let arg24 : BitVec 32 := Scf.iv c0_i32_196 c1_i32_198 k0_t5
  let v301 : BitVec 32 := Scalar.subi v4 arg24
  let c64_i32_292 : BitVec 32 := 64#32
  let v302 : BitVec 32 := Scalar.addi v301 c64_i32_292
  let c32_i32_293 : BitVec 32 := 32#32
  let v303 : BitVec 32 := Scalar.remsi v302 c32_i32_293
  let v304 : Index := Scalar.indexCast v303
  ![0, v304.toNat]
def k0_off145 (k0_t5 : Fin k0_t5_loop.trips) : Fin 1 → Nat :=
  let c0_i32_297 : BitVec 32 := 0#32
  let c0_i32_196 : BitVec 32 := 0#32
  let c1_i32_198 : BitVec 32 := 1#32
  let arg24 : BitVec 32 := Scf.iv c0_i32_196 c1_i32_198 k0_t5
  let v308 : BitVec 32 := Scalar.addi c0_i32_297 arg24
  ![v308.toNat]
def k0_off146 (v305 : BitVec 32) : Fin 2 → Nat :=
  let c64_i32_295 : BitVec 32 := 64#32
  let v306 : BitVec 32 := Scalar.muli v305 c64_i32_295
  let c0_i32_296 : BitVec 32 := 0#32
  let v307 : BitVec 32 := Scalar.addi v306 c0_i32_296
  let c0_i32_301 : BitVec 32 := 0#32
  ![v307.toNat, 0]

def k0_chk43 (v305 : BitVec 32) : Prop :=
  (∀ a, (k0_off146 v305) a + S32x1024.size a ≤ S2048x1024.size a) ∧
  (∀ (hinb : ∀ a, (k0_off146 v305) a + S32x1024.size a ≤ S2048x1024.size a), (Rect.unit (s := S2048x1024) (k0_off146 v305) S32x1024.size hinb).WholeWords (EltTy.packing .bf16))
theorem k0_off146_inb : ∀ (v305 : BitVec 32) (k0_hw43 : k0_chk43 v305), ∀ a, (k0_off146 v305) a + S32x1024.size a ≤ S2048x1024.size a := fun v305 k0_hw43 => k0_hw43.1
theorem k0_off146_wordsbf16 : ∀ (v305 : BitVec 32) (k0_hw43 : k0_chk43 v305), (Rect.unit (s := S2048x1024) (k0_off146 v305) S32x1024.size (k0_off146_inb v305 k0_hw43)).WholeWords (EltTy.packing .bf16) := fun v305 k0_hw43 => k0_hw43.2 (k0_off146_inb v305 k0_hw43)

def k0_dev19 (v14 : BitVec 32) : Nat :=
  let c0_i32_300 : BitVec 32 := 0#32
  let c1_i32_299 : BitVec 32 := 1#32
  let v309 : BitVec 32 := Scalar.muli v14 c1_i32_299
  let v310 : BitVec 32 := Scalar.addi c0_i32_300 v309
  v310.toNat
def k0_cond32 (k0_t5 : Fin k0_t5_loop.trips) : BitVec 1 :=
  let c0_i32_196 : BitVec 32 := 0#32
  let c1_i32_198 : BitVec 32 := 1#32
  let arg24 : BitVec 32 := Scf.iv c0_i32_196 c1_i32_198 k0_t5
  let c0_i32_303 : BitVec 32 := 0#32
  let v317 : BitVec 1 := Scalar.cmpi .sgt arg24 c0_i32_303
  let v318 : BitVec 32 := Scalar.extui v317
  let c0_i32_304 : BitVec 32 := 0#32
  let v319 : BitVec 1 := Scalar.cmpi .ne v318 c0_i32_304
  v319

def k0_off147 (v4 : BitVec 32) (k0_t5 : Fin k0_t5_loop.trips) : Fin 2 → Nat :=
  let c0_328 : Index := 0#32
  let c0_i32_196 : BitVec 32 := 0#32
  let c1_i32_198 : BitVec 32 := 1#32
  let arg24 : BitVec 32 := Scf.iv c0_i32_196 c1_i32_198 k0_t5
  let c1_i32_325 : BitVec 32 := 1#32
  let v351 : BitVec 32 := Scalar.subi arg24 c1_i32_325
  let v352 : BitVec 32 := Scalar.addi v4 v351
  let c64_i32_326 : BitVec 32 := 64#32
  let v353 : BitVec 32 := Scalar.addi v352 c64_i32_326
  let c32_i32_327 : BitVec 32 := 32#32
  let v354 : BitVec 32 := Scalar.remsi v353 c32_i32_327
  let v355 : Index := Scalar.indexCast v354
  ![0, v355.toNat]
def k0_off148 (v356 : BitVec 32) : Fin 2 → Nat :=
  let c64_i32_329 : BitVec 32 := 64#32
  let v357 : BitVec 32 := Scalar.muli v356 c64_i32_329
  let c0_i32_330 : BitVec 32 := 0#32
  let v358 : BitVec 32 := Scalar.addi v357 c0_i32_330
  let c0_i32_334 : BitVec 32 := 0#32
  ![v358.toNat, 0]

def k0_chk44 (k0_t5 : Fin k0_t5_loop.trips) (v356 : BitVec 32) : Prop :=
  (∀ (k0_h32 : k0_cond32 k0_t5 = 1#1), ∀ a, (k0_off148 v356) a + S32x1024.size a ≤ S2048x1024.size a) ∧
  (∀ (k0_h32 : k0_cond32 k0_t5 = 1#1), ∀ (hinb : ∀ a, (k0_off148 v356) a + S32x1024.size a ≤ S2048x1024.size a), (Rect.unit (s := S2048x1024) (k0_off148 v356) S32x1024.size hinb).WholeWords (EltTy.packing .bf16))
theorem k0_off148_inb : ∀ (k0_t5 : Fin k0_t5_loop.trips) (v356 : BitVec 32) (k0_hw44 : k0_chk44 k0_t5 v356), ∀ (k0_h32 : k0_cond32 k0_t5 = 1#1), ∀ a, (k0_off148 v356) a + S32x1024.size a ≤ S2048x1024.size a := fun k0_t5 v356 k0_hw44 k0_h32 => k0_hw44.1 k0_h32
theorem k0_off148_wordsbf16 : ∀ (k0_t5 : Fin k0_t5_loop.trips) (v356 : BitVec 32) (k0_hw44 : k0_chk44 k0_t5 v356), ∀ (k0_h32 : k0_cond32 k0_t5 = 1#1), (Rect.unit (s := S2048x1024) (k0_off148 v356) S32x1024.size (k0_off148_inb k0_t5 v356 k0_hw44 k0_h32)).WholeWords (EltTy.packing .bf16) := fun k0_t5 v356 k0_hw44 k0_h32 => k0_hw44.2 k0_h32 (k0_off148_inb k0_t5 v356 k0_hw44 k0_h32)

def k0_off149 (k0_t5 : Fin k0_t5_loop.trips) : Fin 1 → Nat :=
  let c0_i32_331 : BitVec 32 := 0#32
  let c0_i32_196 : BitVec 32 := 0#32
  let c1_i32_198 : BitVec 32 := 1#32
  let arg24 : BitVec 32 := Scf.iv c0_i32_196 c1_i32_198 k0_t5
  let c1_i32_325 : BitVec 32 := 1#32
  let v351 : BitVec 32 := Scalar.subi arg24 c1_i32_325
  let v359 : BitVec 32 := Scalar.addi c0_i32_331 v351
  ![v359.toNat]
def k0_cond33 (k0_t5 : Fin k0_t5_loop.trips) : BitVec 1 :=
  let c0_i32_196 : BitVec 32 := 0#32
  let c1_i32_198 : BitVec 32 := 1#32
  let arg24 : BitVec 32 := Scf.iv c0_i32_196 c1_i32_198 k0_t5
  let c15_i32_305 : BitVec 32 := 15#32
  let v320 : BitVec 1 := Scalar.cmpi .slt arg24 c15_i32_305
  let v321 : BitVec 32 := Scalar.extui v320
  let c0_i32_306 : BitVec 32 := 0#32
  let v322 : BitVec 1 := Scalar.cmpi .ne v321 c0_i32_306
  v322

def k0_off150 (v4 : BitVec 32) (k0_t5 : Fin k0_t5_loop.trips) : Fin 2 → Nat :=
  let c0_327 : Index := 0#32
  let c0_i32_196 : BitVec 32 := 0#32
  let c1_i32_198 : BitVec 32 := 1#32
  let arg24 : BitVec 32 := Scf.iv c0_i32_196 c1_i32_198 k0_t5
  let v351 : BitVec 32 := Scalar.addi v4 arg24
  let c64_i32_325 : BitVec 32 := 64#32
  let v352 : BitVec 32 := Scalar.addi v351 c64_i32_325
  let c32_i32_326 : BitVec 32 := 32#32
  let v353 : BitVec 32 := Scalar.remsi v352 c32_i32_326
  let v354 : Index := Scalar.indexCast v353
  ![0, v354.toNat]
def k0_off151 (k0_t5 : Fin k0_t5_loop.trips) : Fin 1 → Nat :=
  let c0_i32_330 : BitVec 32 := 0#32
  let c0_i32_196 : BitVec 32 := 0#32
  let c1_i32_198 : BitVec 32 := 1#32
  let arg24 : BitVec 32 := Scf.iv c0_i32_196 c1_i32_198 k0_t5
  let v358 : BitVec 32 := Scalar.addi c0_i32_330 arg24
  ![v358.toNat]
def k0_off152 (v355 : BitVec 32) : Fin 2 → Nat :=
  let c64_i32_328 : BitVec 32 := 64#32
  let v356 : BitVec 32 := Scalar.muli v355 c64_i32_328
  let c0_i32_329 : BitVec 32 := 0#32
  let v357 : BitVec 32 := Scalar.addi v356 c0_i32_329
  let c0_i32_334 : BitVec 32 := 0#32
  ![v357.toNat, 0]

def k0_chk45 (k0_t5 : Fin k0_t5_loop.trips) (v355 : BitVec 32) : Prop :=
  (∀ (k0_h33 : k0_cond33 k0_t5 = 1#1), ∀ a, (k0_off152 v355) a + S32x1024.size a ≤ S2048x1024.size a) ∧
  (∀ (k0_h33 : k0_cond33 k0_t5 = 1#1), ∀ (hinb : ∀ a, (k0_off152 v355) a + S32x1024.size a ≤ S2048x1024.size a), (Rect.unit (s := S2048x1024) (k0_off152 v355) S32x1024.size hinb).WholeWords (EltTy.packing .bf16))
theorem k0_off152_inb : ∀ (k0_t5 : Fin k0_t5_loop.trips) (v355 : BitVec 32) (k0_hw45 : k0_chk45 k0_t5 v355), ∀ (k0_h33 : k0_cond33 k0_t5 = 1#1), ∀ a, (k0_off152 v355) a + S32x1024.size a ≤ S2048x1024.size a := fun k0_t5 v355 k0_hw45 k0_h33 => k0_hw45.1 k0_h33
theorem k0_off152_wordsbf16 : ∀ (k0_t5 : Fin k0_t5_loop.trips) (v355 : BitVec 32) (k0_hw45 : k0_chk45 k0_t5 v355), ∀ (k0_h33 : k0_cond33 k0_t5 = 1#1), (Rect.unit (s := S2048x1024) (k0_off152 v355) S32x1024.size (k0_off152_inb k0_t5 v355 k0_hw45 k0_h33)).WholeWords (EltTy.packing .bf16) := fun k0_t5 v355 k0_hw45 k0_h33 => k0_hw45.2 k0_h33 (k0_off152_inb k0_t5 v355 k0_hw45 k0_h33)

def k0_dev20 (v9 : BitVec 32) : Nat :=
  let c0_i32_333 : BitVec 32 := 0#32
  let c1_i32_332 : BitVec 32 := 1#32
  let v359 : BitVec 32 := Scalar.muli v9 c1_i32_332
  let v360 : BitVec 32 := Scalar.addi c0_i32_333 v359
  v360.toNat
def k0_cond34 (k0_t5 : Fin k0_t5_loop.trips) : BitVec 1 :=
  let c0_i32_196 : BitVec 32 := 0#32
  let c1_i32_198 : BitVec 32 := 1#32
  let arg24 : BitVec 32 := Scf.iv c0_i32_196 c1_i32_198 k0_t5
  let c0_i32_307 : BitVec 32 := 0#32
  let v323 : BitVec 1 := Scalar.cmpi .sgt arg24 c0_i32_307
  let v324 : BitVec 32 := Scalar.extui v323
  let c0_i32_308 : BitVec 32 := 0#32
  let v325 : BitVec 1 := Scalar.cmpi .ne v324 c0_i32_308
  v325

def k0_off153 (v4 : BitVec 32) (k0_t5 : Fin k0_t5_loop.trips) : Fin 2 → Nat :=
  let c0_328 : Index := 0#32
  let c0_i32_196 : BitVec 32 := 0#32
  let c1_i32_198 : BitVec 32 := 1#32
  let arg24 : BitVec 32 := Scf.iv c0_i32_196 c1_i32_198 k0_t5
  let c1_i32_325 : BitVec 32 := 1#32
  let v351 : BitVec 32 := Scalar.subi arg24 c1_i32_325
  let v352 : BitVec 32 := Scalar.subi v4 v351
  let c64_i32_326 : BitVec 32 := 64#32
  let v353 : BitVec 32 := Scalar.addi v352 c64_i32_326
  let c32_i32_327 : BitVec 32 := 32#32
  let v354 : BitVec 32 := Scalar.remsi v353 c32_i32_327
  let v355 : Index := Scalar.indexCast v354
  ![0, v355.toNat]
def k0_off154 (v356 : BitVec 32) : Fin 2 → Nat :=
  let c64_i32_329 : BitVec 32 := 64#32
  let v357 : BitVec 32 := Scalar.muli v356 c64_i32_329
  let c32_i32_330 : BitVec 32 := 32#32
  let v358 : BitVec 32 := Scalar.addi v357 c32_i32_330
  let c0_i32_334 : BitVec 32 := 0#32
  ![v358.toNat, 0]

def k0_chk46 (k0_t5 : Fin k0_t5_loop.trips) (v356 : BitVec 32) : Prop :=
  (∀ (k0_h34 : k0_cond34 k0_t5 = 1#1), ∀ a, (k0_off154 v356) a + S32x1024.size a ≤ S2048x1024.size a) ∧
  (∀ (k0_h34 : k0_cond34 k0_t5 = 1#1), ∀ (hinb : ∀ a, (k0_off154 v356) a + S32x1024.size a ≤ S2048x1024.size a), (Rect.unit (s := S2048x1024) (k0_off154 v356) S32x1024.size hinb).WholeWords (EltTy.packing .bf16))
theorem k0_off154_inb : ∀ (k0_t5 : Fin k0_t5_loop.trips) (v356 : BitVec 32) (k0_hw46 : k0_chk46 k0_t5 v356), ∀ (k0_h34 : k0_cond34 k0_t5 = 1#1), ∀ a, (k0_off154 v356) a + S32x1024.size a ≤ S2048x1024.size a := fun k0_t5 v356 k0_hw46 k0_h34 => k0_hw46.1 k0_h34
theorem k0_off154_wordsbf16 : ∀ (k0_t5 : Fin k0_t5_loop.trips) (v356 : BitVec 32) (k0_hw46 : k0_chk46 k0_t5 v356), ∀ (k0_h34 : k0_cond34 k0_t5 = 1#1), (Rect.unit (s := S2048x1024) (k0_off154 v356) S32x1024.size (k0_off154_inb k0_t5 v356 k0_hw46 k0_h34)).WholeWords (EltTy.packing .bf16) := fun k0_t5 v356 k0_hw46 k0_h34 => k0_hw46.2 k0_h34 (k0_off154_inb k0_t5 v356 k0_hw46 k0_h34)

def k0_off155 (k0_t5 : Fin k0_t5_loop.trips) : Fin 1 → Nat :=
  let c16_i32_331 : BitVec 32 := 16#32
  let c0_i32_196 : BitVec 32 := 0#32
  let c1_i32_198 : BitVec 32 := 1#32
  let arg24 : BitVec 32 := Scf.iv c0_i32_196 c1_i32_198 k0_t5
  let c1_i32_325 : BitVec 32 := 1#32
  let v351 : BitVec 32 := Scalar.subi arg24 c1_i32_325
  let v359 : BitVec 32 := Scalar.addi c16_i32_331 v351
  ![v359.toNat]
def k0_off156 (v4 : BitVec 32) (k0_t5 : Fin k0_t5_loop.trips) : Fin 2 → Nat :=
  let c0_311 : Index := 0#32
  let c0_i32_196 : BitVec 32 := 0#32
  let c1_i32_198 : BitVec 32 := 1#32
  let arg24 : BitVec 32 := Scf.iv c0_i32_196 c1_i32_198 k0_t5
  let v326 : BitVec 32 := Scalar.subi v4 arg24
  let c64_i32_309 : BitVec 32 := 64#32
  let v327 : BitVec 32 := Scalar.addi v326 c64_i32_309
  let c32_i32_310 : BitVec 32 := 32#32
  let v328 : BitVec 32 := Scalar.remsi v327 c32_i32_310
  let v329 : Index := Scalar.indexCast v328
  ![0, v329.toNat]
def k0_off157 (k0_t5 : Fin k0_t5_loop.trips) : Fin 1 → Nat :=
  let c16_i32_314 : BitVec 32 := 16#32
  let c0_i32_196 : BitVec 32 := 0#32
  let c1_i32_198 : BitVec 32 := 1#32
  let arg24 : BitVec 32 := Scf.iv c0_i32_196 c1_i32_198 k0_t5
  let v333 : BitVec 32 := Scalar.addi c16_i32_314 arg24
  ![v333.toNat]
def k0_off158 (v330 : BitVec 32) : Fin 2 → Nat :=
  let c64_i32_312 : BitVec 32 := 64#32
  let v331 : BitVec 32 := Scalar.muli v330 c64_i32_312
  let c32_i32_313 : BitVec 32 := 32#32
  let v332 : BitVec 32 := Scalar.addi v331 c32_i32_313
  let c0_i32_318 : BitVec 32 := 0#32
  ![v332.toNat, 0]

def k0_chk47 (v330 : BitVec 32) : Prop :=
  (∀ a, (k0_off158 v330) a + S32x1024.size a ≤ S2048x1024.size a) ∧
  (∀ (hinb : ∀ a, (k0_off158 v330) a + S32x1024.size a ≤ S2048x1024.size a), (Rect.unit (s := S2048x1024) (k0_off158 v330) S32x1024.size hinb).WholeWords (EltTy.packing .bf16))
theorem k0_off158_inb : ∀ (v330 : BitVec 32) (k0_hw47 : k0_chk47 v330), ∀ a, (k0_off158 v330) a + S32x1024.size a ≤ S2048x1024.size a := fun v330 k0_hw47 => k0_hw47.1
theorem k0_off158_wordsbf16 : ∀ (v330 : BitVec 32) (k0_hw47 : k0_chk47 v330), (Rect.unit (s := S2048x1024) (k0_off158 v330) S32x1024.size (k0_off158_inb v330 k0_hw47)).WholeWords (EltTy.packing .bf16) := fun v330 k0_hw47 => k0_hw47.2 (k0_off158_inb v330 k0_hw47)

def k0_dev21 (v14 : BitVec 32) : Nat :=
  let c0_i32_317 : BitVec 32 := 0#32
  let c1_i32_316 : BitVec 32 := 1#32
  let v334 : BitVec 32 := Scalar.muli v14 c1_i32_316
  let v335 : BitVec 32 := Scalar.addi c0_i32_317 v334
  v335.toNat
def k0_cond35 (k0_t5 : Fin k0_t5_loop.trips) : BitVec 1 :=
  let c0_i32_196 : BitVec 32 := 0#32
  let c1_i32_198 : BitVec 32 := 1#32
  let arg24 : BitVec 32 := Scf.iv c0_i32_196 c1_i32_198 k0_t5
  let c0_i32_320 : BitVec 32 := 0#32
  let v342 : BitVec 1 := Scalar.cmpi .sgt arg24 c0_i32_320
  let v343 : BitVec 32 := Scalar.extui v342
  let c0_i32_321 : BitVec 32 := 0#32
  let v344 : BitVec 1 := Scalar.cmpi .ne v343 c0_i32_321
  v344

def k0_off159 (v4 : BitVec 32) (k0_t5 : Fin k0_t5_loop.trips) : Fin 2 → Nat :=
  let c0_328 : Index := 0#32
  let c0_i32_196 : BitVec 32 := 0#32
  let c1_i32_198 : BitVec 32 := 1#32
  let arg24 : BitVec 32 := Scf.iv c0_i32_196 c1_i32_198 k0_t5
  let c1_i32_325 : BitVec 32 := 1#32
  let v351 : BitVec 32 := Scalar.subi arg24 c1_i32_325
  let v352 : BitVec 32 := Scalar.addi v4 v351
  let c64_i32_326 : BitVec 32 := 64#32
  let v353 : BitVec 32 := Scalar.addi v352 c64_i32_326
  let c32_i32_327 : BitVec 32 := 32#32
  let v354 : BitVec 32 := Scalar.remsi v353 c32_i32_327
  let v355 : Index := Scalar.indexCast v354
  ![0, v355.toNat]
def k0_off160 (v356 : BitVec 32) : Fin 2 → Nat :=
  let c64_i32_329 : BitVec 32 := 64#32
  let v357 : BitVec 32 := Scalar.muli v356 c64_i32_329
  let c32_i32_330 : BitVec 32 := 32#32
  let v358 : BitVec 32 := Scalar.addi v357 c32_i32_330
  let c0_i32_334 : BitVec 32 := 0#32
  ![v358.toNat, 0]

def k0_chk48 (k0_t5 : Fin k0_t5_loop.trips) (v356 : BitVec 32) : Prop :=
  (∀ (k0_h35 : k0_cond35 k0_t5 = 1#1), ∀ a, (k0_off160 v356) a + S32x1024.size a ≤ S2048x1024.size a) ∧
  (∀ (k0_h35 : k0_cond35 k0_t5 = 1#1), ∀ (hinb : ∀ a, (k0_off160 v356) a + S32x1024.size a ≤ S2048x1024.size a), (Rect.unit (s := S2048x1024) (k0_off160 v356) S32x1024.size hinb).WholeWords (EltTy.packing .bf16))
theorem k0_off160_inb : ∀ (k0_t5 : Fin k0_t5_loop.trips) (v356 : BitVec 32) (k0_hw48 : k0_chk48 k0_t5 v356), ∀ (k0_h35 : k0_cond35 k0_t5 = 1#1), ∀ a, (k0_off160 v356) a + S32x1024.size a ≤ S2048x1024.size a := fun k0_t5 v356 k0_hw48 k0_h35 => k0_hw48.1 k0_h35
theorem k0_off160_wordsbf16 : ∀ (k0_t5 : Fin k0_t5_loop.trips) (v356 : BitVec 32) (k0_hw48 : k0_chk48 k0_t5 v356), ∀ (k0_h35 : k0_cond35 k0_t5 = 1#1), (Rect.unit (s := S2048x1024) (k0_off160 v356) S32x1024.size (k0_off160_inb k0_t5 v356 k0_hw48 k0_h35)).WholeWords (EltTy.packing .bf16) := fun k0_t5 v356 k0_hw48 k0_h35 => k0_hw48.2 k0_h35 (k0_off160_inb k0_t5 v356 k0_hw48 k0_h35)

def k0_off161 (k0_t5 : Fin k0_t5_loop.trips) : Fin 1 → Nat :=
  let c15_i32_331 : BitVec 32 := 15#32
  let c0_i32_196 : BitVec 32 := 0#32
  let c1_i32_198 : BitVec 32 := 1#32
  let arg24 : BitVec 32 := Scf.iv c0_i32_196 c1_i32_198 k0_t5
  let c1_i32_325 : BitVec 32 := 1#32
  let v351 : BitVec 32 := Scalar.subi arg24 c1_i32_325
  let v359 : BitVec 32 := Scalar.addi c15_i32_331 v351
  ![v359.toNat]
def k0_cond36 (k0_t5 : Fin k0_t5_loop.trips) : BitVec 1 :=
  let c0_i32_196 : BitVec 32 := 0#32
  let c1_i32_198 : BitVec 32 := 1#32
  let arg24 : BitVec 32 := Scf.iv c0_i32_196 c1_i32_198 k0_t5
  let c15_i32_322 : BitVec 32 := 15#32
  let v345 : BitVec 1 := Scalar.cmpi .slt arg24 c15_i32_322
  let v346 : BitVec 32 := Scalar.extui v345
  let c0_i32_323 : BitVec 32 := 0#32
  let v347 : BitVec 1 := Scalar.cmpi .ne v346 c0_i32_323
  v347

def k0_off162 (v4 : BitVec 32) (k0_t5 : Fin k0_t5_loop.trips) : Fin 2 → Nat :=
  let c0_327 : Index := 0#32
  let c0_i32_196 : BitVec 32 := 0#32
  let c1_i32_198 : BitVec 32 := 1#32
  let arg24 : BitVec 32 := Scf.iv c0_i32_196 c1_i32_198 k0_t5
  let v351 : BitVec 32 := Scalar.addi v4 arg24
  let c64_i32_325 : BitVec 32 := 64#32
  let v352 : BitVec 32 := Scalar.addi v351 c64_i32_325
  let c32_i32_326 : BitVec 32 := 32#32
  let v353 : BitVec 32 := Scalar.remsi v352 c32_i32_326
  let v354 : Index := Scalar.indexCast v353
  ![0, v354.toNat]
def k0_off163 (k0_t5 : Fin k0_t5_loop.trips) : Fin 1 → Nat :=
  let c15_i32_330 : BitVec 32 := 15#32
  let c0_i32_196 : BitVec 32 := 0#32
  let c1_i32_198 : BitVec 32 := 1#32
  let arg24 : BitVec 32 := Scf.iv c0_i32_196 c1_i32_198 k0_t5
  let v358 : BitVec 32 := Scalar.addi c15_i32_330 arg24
  ![v358.toNat]
def k0_off164 (v355 : BitVec 32) : Fin 2 → Nat :=
  let c64_i32_328 : BitVec 32 := 64#32
  let v356 : BitVec 32 := Scalar.muli v355 c64_i32_328
  let c32_i32_329 : BitVec 32 := 32#32
  let v357 : BitVec 32 := Scalar.addi v356 c32_i32_329
  let c0_i32_334 : BitVec 32 := 0#32
  ![v357.toNat, 0]

def k0_chk49 (k0_t5 : Fin k0_t5_loop.trips) (v355 : BitVec 32) : Prop :=
  (∀ (k0_h36 : k0_cond36 k0_t5 = 1#1), ∀ a, (k0_off164 v355) a + S32x1024.size a ≤ S2048x1024.size a) ∧
  (∀ (k0_h36 : k0_cond36 k0_t5 = 1#1), ∀ (hinb : ∀ a, (k0_off164 v355) a + S32x1024.size a ≤ S2048x1024.size a), (Rect.unit (s := S2048x1024) (k0_off164 v355) S32x1024.size hinb).WholeWords (EltTy.packing .bf16))
theorem k0_off164_inb : ∀ (k0_t5 : Fin k0_t5_loop.trips) (v355 : BitVec 32) (k0_hw49 : k0_chk49 k0_t5 v355), ∀ (k0_h36 : k0_cond36 k0_t5 = 1#1), ∀ a, (k0_off164 v355) a + S32x1024.size a ≤ S2048x1024.size a := fun k0_t5 v355 k0_hw49 k0_h36 => k0_hw49.1 k0_h36
theorem k0_off164_wordsbf16 : ∀ (k0_t5 : Fin k0_t5_loop.trips) (v355 : BitVec 32) (k0_hw49 : k0_chk49 k0_t5 v355), ∀ (k0_h36 : k0_cond36 k0_t5 = 1#1), (Rect.unit (s := S2048x1024) (k0_off164 v355) S32x1024.size (k0_off164_inb k0_t5 v355 k0_hw49 k0_h36)).WholeWords (EltTy.packing .bf16) := fun k0_t5 v355 k0_hw49 k0_h36 => k0_hw49.2 k0_h36 (k0_off164_inb k0_t5 v355 k0_hw49 k0_h36)

def k0_dev22 (v9 : BitVec 32) : Nat :=
  let c0_i32_333 : BitVec 32 := 0#32
  let c1_i32_332 : BitVec 32 := 1#32
  let v359 : BitVec 32 := Scalar.muli v9 c1_i32_332
  let v360 : BitVec 32 := Scalar.addi c0_i32_333 v359
  v360.toNat
def k0_cond37 (k0_t5 : Fin k0_t5_loop.trips) : BitVec 1 :=
  let c0_i32_196 : BitVec 32 := 0#32
  let c1_i32_198 : BitVec 32 := 1#32
  let arg24 : BitVec 32 := Scf.iv c0_i32_196 c1_i32_198 k0_t5
  let c8_i32 : BitVec 32 := 8#32
  let v348 : BitVec 1 := Scalar.cmpi .sge arg24 c8_i32
  let v349 : BitVec 32 := Scalar.extui v348
  let c0_i32_324 : BitVec 32 := 0#32
  let v350 : BitVec 1 := Scalar.cmpi .ne v349 c0_i32_324
  v350

def k0_off165 (v4 : BitVec 32) (k0_t5 : Fin k0_t5_loop.trips) : Fin 2 → Nat :=
  let c0_327 : Index := 0#32
  let c0_i32_196 : BitVec 32 := 0#32
  let c1_i32_198 : BitVec 32 := 1#32
  let arg24 : BitVec 32 := Scf.iv c0_i32_196 c1_i32_198 k0_t5
  let v351 : BitVec 32 := Scalar.subi v4 arg24
  let c64_i32_325 : BitVec 32 := 64#32
  let v352 : BitVec 32 := Scalar.addi v351 c64_i32_325
  let c32_i32_326 : BitVec 32 := 32#32
  let v353 : BitVec 32 := Scalar.remsi v352 c32_i32_326
  let v354 : Index := Scalar.indexCast v353
  ![0, v354.toNat]
def k0_off166 (v355 : BitVec 32) : Fin 2 → Nat :=
  let c64_i32_328 : BitVec 32 := 64#32
  let v356 : BitVec 32 := Scalar.muli v355 c64_i32_328
  let v357 : Index := Scalar.indexCast v356
  let c0_329 : Index := 0#32
  ![v357.toNat, 0]

def k0_chk50 (k0_t5 : Fin k0_t5_loop.trips) (v355 : BitVec 32) : Prop :=
  (∀ (k0_h37 : k0_cond37 k0_t5 = 1#1), ∀ a, (k0_off166 v355) a + S64x1024.size a ≤ S2048x1024.size a)
theorem k0_off166_inb : ∀ (k0_t5 : Fin k0_t5_loop.trips) (v355 : BitVec 32) (k0_hw50 : k0_chk50 k0_t5 v355), ∀ (k0_h37 : k0_cond37 k0_t5 = 1#1), ∀ a, (k0_off166 v355) a + S64x1024.size a ≤ S2048x1024.size a := fun k0_t5 v355 k0_hw50 k0_h37 => k0_hw50 k0_h37

def k0_off167 (v4 : BitVec 32) (k0_t5 : Fin k0_t5_loop.trips) : Fin 2 → Nat :=
  let c0_340 : Index := 0#32
  let c0_i32_196 : BitVec 32 := 0#32
  let c1_i32_198 : BitVec 32 := 1#32
  let arg24 : BitVec 32 := Scf.iv c0_i32_196 c1_i32_198 k0_t5
  let v372 : BitVec 32 := Scalar.addi v4 arg24
  let c64_i32_338 : BitVec 32 := 64#32
  let v373 : BitVec 32 := Scalar.addi v372 c64_i32_338
  let c32_i32_339 : BitVec 32 := 32#32
  let v374 : BitVec 32 := Scalar.remsi v373 c32_i32_339
  let v375 : Index := Scalar.indexCast v374
  ![0, v375.toNat]
def k0_off168 (v376 : BitVec 32) : Fin 2 → Nat :=
  let c64_i32_341 : BitVec 32 := 64#32
  let v377 : BitVec 32 := Scalar.muli v376 c64_i32_341
  let v378 : Index := Scalar.indexCast v377
  let c0_342 : Index := 0#32
  ![v378.toNat, 0]

def k0_chk51 (k0_t5 : Fin k0_t5_loop.trips) (v376 : BitVec 32) : Prop :=
  (∀ (k0_h37 : k0_cond37 k0_t5 = 1#1), ∀ a, (k0_off168 v376) a + S64x1024.size a ≤ S2048x1024.size a)
theorem k0_off168_inb : ∀ (k0_t5 : Fin k0_t5_loop.trips) (v376 : BitVec 32) (k0_hw51 : k0_chk51 k0_t5 v376), ∀ (k0_h37 : k0_cond37 k0_t5 = 1#1), ∀ a, (k0_off168 v376) a + S64x1024.size a ≤ S2048x1024.size a := fun k0_t5 v376 k0_hw51 k0_h37 => k0_hw51 k0_h37

def k0_off169 (v4 : BitVec 32) : Fin 2 → Nat :=
  let c0_203 : Index := 0#32
  let c15_i32_200 : BitVec 32 := 15#32
  let v212 : BitVec 32 := Scalar.subi v4 c15_i32_200
  let c64_i32_201 : BitVec 32 := 64#32
  let v213 : BitVec 32 := Scalar.addi v212 c64_i32_201
  let c32_i32_202 : BitVec 32 := 32#32
  let v214 : BitVec 32 := Scalar.remsi v213 c32_i32_202
  let v215 : Index := Scalar.indexCast v214
  ![0, v215.toNat]
def k0_off170 (v216 : BitVec 32) : Fin 2 → Nat :=
  let c64_i32_204 : BitVec 32 := 64#32
  let v217 : BitVec 32 := Scalar.muli v216 c64_i32_204
  let c0_i32_205 : BitVec 32 := 0#32
  let v218 : BitVec 32 := Scalar.addi v217 c0_i32_205
  let c0_i32_209 : BitVec 32 := 0#32
  ![v218.toNat, 0]

def k0_chk52 (v216 : BitVec 32) : Prop :=
  (∀ a, (k0_off170 v216) a + S32x1024.size a ≤ S2048x1024.size a) ∧
  (∀ (hinb : ∀ a, (k0_off170 v216) a + S32x1024.size a ≤ S2048x1024.size a), (Rect.unit (s := S2048x1024) (k0_off170 v216) S32x1024.size hinb).WholeWords (EltTy.packing .bf16))
theorem k0_off170_inb : ∀ (v216 : BitVec 32) (k0_hw52 : k0_chk52 v216), ∀ a, (k0_off170 v216) a + S32x1024.size a ≤ S2048x1024.size a := fun v216 k0_hw52 => k0_hw52.1
theorem k0_off170_wordsbf16 : ∀ (v216 : BitVec 32) (k0_hw52 : k0_chk52 v216), (Rect.unit (s := S2048x1024) (k0_off170 v216) S32x1024.size (k0_off170_inb v216 k0_hw52)).WholeWords (EltTy.packing .bf16) := fun v216 k0_hw52 => k0_hw52.2 (k0_off170_inb v216 k0_hw52)

def k0_off171 (v4 : BitVec 32) : Fin 2 → Nat :=
  let c0_220 : Index := 0#32
  let c15_i32_217 : BitVec 32 := 15#32
  let v229 : BitVec 32 := Scalar.subi v4 c15_i32_217
  let c64_i32_218 : BitVec 32 := 64#32
  let v230 : BitVec 32 := Scalar.addi v229 c64_i32_218
  let c32_i32_219 : BitVec 32 := 32#32
  let v231 : BitVec 32 := Scalar.remsi v230 c32_i32_219
  let v232 : Index := Scalar.indexCast v231
  ![0, v232.toNat]
def k0_off172 (v233 : BitVec 32) : Fin 2 → Nat :=
  let c64_i32_221 : BitVec 32 := 64#32
  let v234 : BitVec 32 := Scalar.muli v233 c64_i32_221
  let c32_i32_222 : BitVec 32 := 32#32
  let v235 : BitVec 32 := Scalar.addi v234 c32_i32_222
  let c0_i32_226 : BitVec 32 := 0#32
  ![v235.toNat, 0]

def k0_chk53 (v233 : BitVec 32) : Prop :=
  (∀ a, (k0_off172 v233) a + S32x1024.size a ≤ S2048x1024.size a) ∧
  (∀ (hinb : ∀ a, (k0_off172 v233) a + S32x1024.size a ≤ S2048x1024.size a), (Rect.unit (s := S2048x1024) (k0_off172 v233) S32x1024.size hinb).WholeWords (EltTy.packing .bf16))
theorem k0_off172_inb : ∀ (v233 : BitVec 32) (k0_hw53 : k0_chk53 v233), ∀ a, (k0_off172 v233) a + S32x1024.size a ≤ S2048x1024.size a := fun v233 k0_hw53 => k0_hw53.1
theorem k0_off172_wordsbf16 : ∀ (v233 : BitVec 32) (k0_hw53 : k0_chk53 v233), (Rect.unit (s := S2048x1024) (k0_off172 v233) S32x1024.size (k0_off172_inb v233 k0_hw53)).WholeWords (EltTy.packing .bf16) := fun v233 k0_hw53 => k0_hw53.2 (k0_off172_inb v233 k0_hw53)

def k0_off173 (v4 : BitVec 32) : Fin 2 → Nat :=
  let c0_237 : Index := 0#32
  let c16_i32_234 : BitVec 32 := 16#32
  let v246 : BitVec 32 := Scalar.subi v4 c16_i32_234
  let c64_i32_235 : BitVec 32 := 64#32
  let v247 : BitVec 32 := Scalar.addi v246 c64_i32_235
  let c32_i32_236 : BitVec 32 := 32#32
  let v248 : BitVec 32 := Scalar.remsi v247 c32_i32_236
  let v249 : Index := Scalar.indexCast v248
  ![0, v249.toNat]
def k0_off174 (v250 : BitVec 32) : Fin 2 → Nat :=
  let c64_i32_238 : BitVec 32 := 64#32
  let v251 : BitVec 32 := Scalar.muli v250 c64_i32_238
  let v252 : Index := Scalar.indexCast v251
  let c0_239 : Index := 0#32
  ![v252.toNat, 0]

def k0_chk54 (v250 : BitVec 32) : Prop :=
  (∀ a, (k0_off174 v250) a + S64x1024.size a ≤ S2048x1024.size a)
theorem k0_off174_inb : ∀ (v250 : BitVec 32) (k0_hw54 : k0_chk54 v250), ∀ a, (k0_off174 v250) a + S64x1024.size a ≤ S2048x1024.size a := fun v250 k0_hw54 => k0_hw54

@[reducible] def k0_t6_loop : Scf.Loop 32 :=
  let c0_i32_248 : BitVec 32 := 0#32
  let c16_i32_249 : BitVec 32 := 16#32
  let v267 : BitVec 32 := Scalar.addi c0_i32_248 c16_i32_249
  let c1_i32_250 : BitVec 32 := 1#32
  ⟨c0_i32_248, v267, c1_i32_250⟩
def k0_cond38 (k0_t6 : Fin k0_t6_loop.trips) : BitVec 1 :=
  let c0_i32_248 : BitVec 32 := 0#32
  let c1_i32_250 : BitVec 32 := 1#32
  let arg24 : BitVec 32 := Scf.iv c0_i32_248 c1_i32_250 k0_t6
  let c0_i32_290 : BitVec 32 := 0#32
  let v298 : BitVec 1 := Scalar.cmpi .sgt arg24 c0_i32_290
  let v299 : BitVec 32 := Scalar.extui v298
  let c0_i32_291 : BitVec 32 := 0#32
  let v300 : BitVec 1 := Scalar.cmpi .ne v299 c0_i32_291
  v300

def k0_off175 (k0_t6 : Fin k0_t6_loop.trips) : Fin 2 → Nat :=
  let c0_i32_248 : BitVec 32 := 0#32
  let c1_i32_250 : BitVec 32 := 1#32
  let arg24 : BitVec 32 := Scf.iv c0_i32_248 c1_i32_250 k0_t6
  let c1_i32_352 : BitVec 32 := 1#32
  let v392 : BitVec 32 := Scalar.subi arg24 c1_i32_352
  let c64_i32_353 : BitVec 32 := 64#32
  let v393 : BitVec 32 := Scalar.muli v392 c64_i32_353
  let c0_i32_354 : BitVec 32 := 0#32
  let v394 : BitVec 32 := Scalar.addi v393 c0_i32_354
  let c0_i32_360 : BitVec 32 := 0#32
  ![v394.toNat, 0]
def k0_off176 (k0_t6 : Fin k0_t6_loop.trips) : Fin 1 → Nat :=
  let c0_i32_355 : BitVec 32 := 0#32
  let c0_i32_248 : BitVec 32 := 0#32
  let c1_i32_250 : BitVec 32 := 1#32
  let arg24 : BitVec 32 := Scf.iv c0_i32_248 c1_i32_250 k0_t6
  let c1_i32_352 : BitVec 32 := 1#32
  let v392 : BitVec 32 := Scalar.subi arg24 c1_i32_352
  let v395 : BitVec 32 := Scalar.addi c0_i32_355 v392
  ![v395.toNat]
def k0_off177 (v4 : BitVec 32) (k0_t6 : Fin k0_t6_loop.trips) : Fin 2 → Nat :=
  let c0_295 : Index := 0#32
  let c16_i32_292 : BitVec 32 := 16#32
  let v301 : BitVec 32 := Scalar.subi v4 c16_i32_292
  let c0_i32_248 : BitVec 32 := 0#32
  let c1_i32_250 : BitVec 32 := 1#32
  let arg24 : BitVec 32 := Scf.iv c0_i32_248 c1_i32_250 k0_t6
  let v302 : BitVec 32 := Scalar.addi v301 arg24
  let c64_i32_293 : BitVec 32 := 64#32
  let v303 : BitVec 32 := Scalar.addi v302 c64_i32_293
  let c32_i32_294 : BitVec 32 := 32#32
  let v304 : BitVec 32 := Scalar.remsi v303 c32_i32_294
  let v305 : Index := Scalar.indexCast v304
  ![0, v305.toNat]
def k0_off178 (v306 : BitVec 32) : Fin 2 → Nat :=
  let c64_i32_296 : BitVec 32 := 64#32
  let v307 : BitVec 32 := Scalar.muli v306 c64_i32_296
  let c0_i32_297 : BitVec 32 := 0#32
  let v308 : BitVec 32 := Scalar.addi v307 c0_i32_297
  let v309 : Index := Scalar.indexCast v308
  let c0_298 : Index := 0#32
  ![v309.toNat, 0]

def k0_chk55 (v306 : BitVec 32) : Prop :=
  (∀ a, (k0_off178 v306) a + S32x1024.size a ≤ S2048x1024.size a)
theorem k0_off178_inb : ∀ (v306 : BitVec 32) (k0_hw55 : k0_chk55 v306), ∀ a, (k0_off178 v306) a + S32x1024.size a ≤ S2048x1024.size a := fun v306 k0_hw55 => k0_hw55

def k0_off179 (k0_t6 : Fin k0_t6_loop.trips) : Fin 2 → Nat :=
  let c0_i32_248 : BitVec 32 := 0#32
  let c1_i32_250 : BitVec 32 := 1#32
  let arg24 : BitVec 32 := Scf.iv c0_i32_248 c1_i32_250 k0_t6
  let c1_i32_299 : BitVec 32 := 1#32
  let v311 : BitVec 32 := Scalar.subi arg24 c1_i32_299
  let c0_i32_300 : BitVec 32 := 0#32
  let v312 : BitVec 32 := Scalar.maxsi v311 c0_i32_300
  let c64_i32_301 : BitVec 32 := 64#32
  let v313 : BitVec 32 := Scalar.muli v312 c64_i32_301
  let c0_i32_302 : BitVec 32 := 0#32
  let v314 : BitVec 32 := Scalar.addi v313 c0_i32_302
  let v315 : Index := Scalar.indexCast v314
  let c0_303 : Index := 0#32
  ![v315.toNat, 0]
def k0_off180 (k0_t6 : Fin k0_t6_loop.trips) : Fin 1 → Nat :=
  let c0_i32_309 : BitVec 32 := 0#32
  let c0_i32_248 : BitVec 32 := 0#32
  let c1_i32_250 : BitVec 32 := 1#32
  let arg24 : BitVec 32 := Scf.iv c0_i32_248 c1_i32_250 k0_t6
  let v327 : BitVec 32 := Scalar.addi c0_i32_309 arg24
  ![v327.toNat]
def k0_off181 (k0_t6 : Fin k0_t6_loop.trips) : Fin 2 → Nat :=
  let c0_i32_248 : BitVec 32 := 0#32
  let c1_i32_250 : BitVec 32 := 1#32
  let arg24 : BitVec 32 := Scf.iv c0_i32_248 c1_i32_250 k0_t6
  let c64_i32_307 : BitVec 32 := 64#32
  let v325 : BitVec 32 := Scalar.muli arg24 c64_i32_307
  let c0_i32_308 : BitVec 32 := 0#32
  let v326 : BitVec 32 := Scalar.addi v325 c0_i32_308
  let c0_i32_313 : BitVec 32 := 0#32
  ![v326.toNat, 0]
def k0_dev23 (v9 : BitVec 32) : Nat :=
  let c0_i32_312 : BitVec 32 := 0#32
  let c1_i32_311 : BitVec 32 := 1#32
  let v328 : BitVec 32 := Scalar.muli v9 c1_i32_311
  let v329 : BitVec 32 := Scalar.addi c0_i32_312 v328
  v329.toNat
def k0_cond39 (k0_t6 : Fin k0_t6_loop.trips) : BitVec 1 :=
  let c0_i32_248 : BitVec 32 := 0#32
  let c1_i32_250 : BitVec 32 := 1#32
  let arg24 : BitVec 32 := Scf.iv c0_i32_248 c1_i32_250 k0_t6
  let c0_i32_316 : BitVec 32 := 0#32
  let v336 : BitVec 1 := Scalar.cmpi .sgt arg24 c0_i32_316
  let v337 : BitVec 32 := Scalar.extui v336
  let c0_i32_317 : BitVec 32 := 0#32
  let v338 : BitVec 1 := Scalar.cmpi .ne v337 c0_i32_317
  v338

def k0_off182 (k0_t6 : Fin k0_t6_loop.trips) : Fin 2 → Nat :=
  let c0_i32_248 : BitVec 32 := 0#32
  let c1_i32_250 : BitVec 32 := 1#32
  let arg24 : BitVec 32 := Scf.iv c0_i32_248 c1_i32_250 k0_t6
  let c1_i32_352 : BitVec 32 := 1#32
  let v392 : BitVec 32 := Scalar.subi arg24 c1_i32_352
  let c64_i32_353 : BitVec 32 := 64#32
  let v393 : BitVec 32 := Scalar.muli v392 c64_i32_353
  let c0_i32_354 : BitVec 32 := 0#32
  let v394 : BitVec 32 := Scalar.addi v393 c0_i32_354
  let c0_i32_360 : BitVec 32 := 0#32
  ![v394.toNat, 0]
def k0_off183 (k0_t6 : Fin k0_t6_loop.trips) : Fin 1 → Nat :=
  let c0_i32_355 : BitVec 32 := 0#32
  let c0_i32_248 : BitVec 32 := 0#32
  let c1_i32_250 : BitVec 32 := 1#32
  let arg24 : BitVec 32 := Scf.iv c0_i32_248 c1_i32_250 k0_t6
  let c1_i32_352 : BitVec 32 := 1#32
  let v392 : BitVec 32 := Scalar.subi arg24 c1_i32_352
  let v395 : BitVec 32 := Scalar.addi c0_i32_355 v392
  ![v395.toNat]
def k0_cond40 (k0_t6 : Fin k0_t6_loop.trips) : BitVec 1 :=
  let c0_i32_248 : BitVec 32 := 0#32
  let c1_i32_250 : BitVec 32 := 1#32
  let arg24 : BitVec 32 := Scf.iv c0_i32_248 c1_i32_250 k0_t6
  let c15_i32_318 : BitVec 32 := 15#32
  let v339 : BitVec 1 := Scalar.cmpi .slt arg24 c15_i32_318
  let v340 : BitVec 32 := Scalar.extui v339
  let c0_i32_319 : BitVec 32 := 0#32
  let v341 : BitVec 1 := Scalar.cmpi .ne v340 c0_i32_319
  v341

def k0_off184 (v4 : BitVec 32) (k0_t6 : Fin k0_t6_loop.trips) : Fin 2 → Nat :=
  let c0_355 : Index := 0#32
  let c15_i32_352 : BitVec 32 := 15#32
  let v392 : BitVec 32 := Scalar.addi v4 c15_i32_352
  let c0_i32_248 : BitVec 32 := 0#32
  let c1_i32_250 : BitVec 32 := 1#32
  let arg24 : BitVec 32 := Scf.iv c0_i32_248 c1_i32_250 k0_t6
  let v393 : BitVec 32 := Scalar.subi v392 arg24
  let c64_i32_353 : BitVec 32 := 64#32
  let v394 : BitVec 32 := Scalar.addi v393 c64_i32_353
  let c32_i32_354 : BitVec 32 := 32#32
  let v395 : BitVec 32 := Scalar.remsi v394 c32_i32_354
  let v396 : Index := Scalar.indexCast v395
  ![0, v396.toNat]
def k0_off185 (v397 : BitVec 32) : Fin 2 → Nat :=
  let c64_i32_356 : BitVec 32 := 64#32
  let v398 : BitVec 32 := Scalar.muli v397 c64_i32_356
  let c0_i32_357 : BitVec 32 := 0#32
  let v399 : BitVec 32 := Scalar.addi v398 c0_i32_357
  let v400 : Index := Scalar.indexCast v399
  let c0_358 : Index := 0#32
  ![v400.toNat, 0]

def k0_chk56 (k0_t6 : Fin k0_t6_loop.trips) (v397 : BitVec 32) : Prop :=
  (∀ (k0_h40 : k0_cond40 k0_t6 = 1#1), ∀ a, (k0_off185 v397) a + S32x1024.size a ≤ S2048x1024.size a)
theorem k0_off185_inb : ∀ (k0_t6 : Fin k0_t6_loop.trips) (v397 : BitVec 32) (k0_hw56 : k0_chk56 k0_t6 v397), ∀ (k0_h40 : k0_cond40 k0_t6 = 1#1), ∀ a, (k0_off185 v397) a + S32x1024.size a ≤ S2048x1024.size a := fun k0_t6 v397 k0_hw56 k0_h40 => k0_hw56 k0_h40

def k0_off186 (k0_t6 : Fin k0_t6_loop.trips) : Fin 2 → Nat :=
  let c0_i32_248 : BitVec 32 := 0#32
  let c1_i32_250 : BitVec 32 := 1#32
  let arg24 : BitVec 32 := Scf.iv c0_i32_248 c1_i32_250 k0_t6
  let c1_i32_359 : BitVec 32 := 1#32
  let v402 : BitVec 32 := Scalar.subi arg24 c1_i32_359
  let c0_i32_360 : BitVec 32 := 0#32
  let v403 : BitVec 32 := Scalar.maxsi v402 c0_i32_360
  let c64_i32_361 : BitVec 32 := 64#32
  let v404 : BitVec 32 := Scalar.muli v403 c64_i32_361
  let c0_i32_362 : BitVec 32 := 0#32
  let v405 : BitVec 32 := Scalar.addi v404 c0_i32_362
  let v406 : Index := Scalar.indexCast v405
  let c0_363 : Index := 0#32
  ![v406.toNat, 0]
def k0_off187 (k0_t6 : Fin k0_t6_loop.trips) : Fin 1 → Nat :=
  let c0_i32_369 : BitVec 32 := 0#32
  let c0_i32_248 : BitVec 32 := 0#32
  let c1_i32_250 : BitVec 32 := 1#32
  let arg24 : BitVec 32 := Scf.iv c0_i32_248 c1_i32_250 k0_t6
  let v418 : BitVec 32 := Scalar.addi c0_i32_369 arg24
  ![v418.toNat]
def k0_off188 (k0_t6 : Fin k0_t6_loop.trips) : Fin 2 → Nat :=
  let c0_i32_248 : BitVec 32 := 0#32
  let c1_i32_250 : BitVec 32 := 1#32
  let arg24 : BitVec 32 := Scf.iv c0_i32_248 c1_i32_250 k0_t6
  let c64_i32_367 : BitVec 32 := 64#32
  let v416 : BitVec 32 := Scalar.muli arg24 c64_i32_367
  let c0_i32_368 : BitVec 32 := 0#32
  let v417 : BitVec 32 := Scalar.addi v416 c0_i32_368
  let c0_i32_373 : BitVec 32 := 0#32
  ![v417.toNat, 0]
def k0_dev24 (v14 : BitVec 32) : Nat :=
  let c0_i32_372 : BitVec 32 := 0#32
  let c1_i32_371 : BitVec 32 := 1#32
  let v419 : BitVec 32 := Scalar.muli v14 c1_i32_371
  let v420 : BitVec 32 := Scalar.addi c0_i32_372 v419
  v420.toNat
def k0_cond41 (k0_t6 : Fin k0_t6_loop.trips) : BitVec 1 :=
  let c0_i32_248 : BitVec 32 := 0#32
  let c1_i32_250 : BitVec 32 := 1#32
  let arg24 : BitVec 32 := Scf.iv c0_i32_248 c1_i32_250 k0_t6
  let c0_i32_320 : BitVec 32 := 0#32
  let v342 : BitVec 1 := Scalar.cmpi .sgt arg24 c0_i32_320
  let v343 : BitVec 32 := Scalar.extui v342
  let c0_i32_321 : BitVec 32 := 0#32
  let v344 : BitVec 1 := Scalar.cmpi .ne v343 c0_i32_321
  v344

def k0_off189 (k0_t6 : Fin k0_t6_loop.trips) : Fin 2 → Nat :=
  let c0_i32_248 : BitVec 32 := 0#32
  let c1_i32_250 : BitVec 32 := 1#32
  let arg24 : BitVec 32 := Scf.iv c0_i32_248 c1_i32_250 k0_t6
  let c1_i32_352 : BitVec 32 := 1#32
  let v392 : BitVec 32 := Scalar.subi arg24 c1_i32_352
  let c64_i32_353 : BitVec 32 := 64#32
  let v393 : BitVec 32 := Scalar.muli v392 c64_i32_353
  let c32_i32_354 : BitVec 32 := 32#32
  let v394 : BitVec 32 := Scalar.addi v393 c32_i32_354
  let c0_i32_360 : BitVec 32 := 0#32
  ![v394.toNat, 0]
def k0_off190 (k0_t6 : Fin k0_t6_loop.trips) : Fin 1 → Nat :=
  let c16_i32_355 : BitVec 32 := 16#32
  let c0_i32_248 : BitVec 32 := 0#32
  let c1_i32_250 : BitVec 32 := 1#32
  let arg24 : BitVec 32 := Scf.iv c0_i32_248 c1_i32_250 k0_t6
  let c1_i32_352 : BitVec 32 := 1#32
  let v392 : BitVec 32 := Scalar.subi arg24 c1_i32_352
  let v395 : BitVec 32 := Scalar.addi c16_i32_355 v392
  ![v395.toNat]
def k0_off191 (v4 : BitVec 32) (k0_t6 : Fin k0_t6_loop.trips) : Fin 2 → Nat :=
  let c0_325 : Index := 0#32
  let c16_i32_322 : BitVec 32 := 16#32
  let v345 : BitVec 32 := Scalar.subi v4 c16_i32_322
  let c0_i32_248 : BitVec 32 := 0#32
  let c1_i32_250 : BitVec 32 := 1#32
  let arg24 : BitVec 32 := Scf.iv c0_i32_248 c1_i32_250 k0_t6
  let v346 : BitVec 32 := Scalar.addi v345 arg24
  let c64_i32_323 : BitVec 32 := 64#32
  let v347 : BitVec 32 := Scalar.addi v346 c64_i32_323
  let c32_i32_324 : BitVec 32 := 32#32
  let v348 : BitVec 32 := Scalar.remsi v347 c32_i32_324
  let v349 : Index := Scalar.indexCast v348
  ![0, v349.toNat]
def k0_off192 (v350 : BitVec 32) : Fin 2 → Nat :=
  let c64_i32_326 : BitVec 32 := 64#32
  let v351 : BitVec 32 := Scalar.muli v350 c64_i32_326
  let c32_i32_327 : BitVec 32 := 32#32
  let v352 : BitVec 32 := Scalar.addi v351 c32_i32_327
  let v353 : Index := Scalar.indexCast v352
  let c0_328 : Index := 0#32
  ![v353.toNat, 0]

def k0_chk57 (v350 : BitVec 32) : Prop :=
  (∀ a, (k0_off192 v350) a + S32x1024.size a ≤ S2048x1024.size a)
theorem k0_off192_inb : ∀ (v350 : BitVec 32) (k0_hw57 : k0_chk57 v350), ∀ a, (k0_off192 v350) a + S32x1024.size a ≤ S2048x1024.size a := fun v350 k0_hw57 => k0_hw57

def k0_off193 (k0_t6 : Fin k0_t6_loop.trips) : Fin 2 → Nat :=
  let c0_i32_248 : BitVec 32 := 0#32
  let c1_i32_250 : BitVec 32 := 1#32
  let arg24 : BitVec 32 := Scf.iv c0_i32_248 c1_i32_250 k0_t6
  let c1_i32_329 : BitVec 32 := 1#32
  let v355 : BitVec 32 := Scalar.subi arg24 c1_i32_329
  let c0_i32_330 : BitVec 32 := 0#32
  let v356 : BitVec 32 := Scalar.maxsi v355 c0_i32_330
  let c64_i32_331 : BitVec 32 := 64#32
  let v357 : BitVec 32 := Scalar.muli v356 c64_i32_331
  let c32_i32_332 : BitVec 32 := 32#32
  let v358 : BitVec 32 := Scalar.addi v357 c32_i32_332
  let v359 : Index := Scalar.indexCast v358
  let c0_333 : Index := 0#32
  ![v359.toNat, 0]
def k0_off194 (k0_t6 : Fin k0_t6_loop.trips) : Fin 1 → Nat :=
  let c16_i32_338 : BitVec 32 := 16#32
  let c0_i32_248 : BitVec 32 := 0#32
  let c1_i32_250 : BitVec 32 := 1#32
  let arg24 : BitVec 32 := Scf.iv c0_i32_248 c1_i32_250 k0_t6
  let v371 : BitVec 32 := Scalar.addi c16_i32_338 arg24
  ![v371.toNat]
def k0_off195 (k0_t6 : Fin k0_t6_loop.trips) : Fin 2 → Nat :=
  let c0_i32_248 : BitVec 32 := 0#32
  let c1_i32_250 : BitVec 32 := 1#32
  let arg24 : BitVec 32 := Scf.iv c0_i32_248 c1_i32_250 k0_t6
  let c64_i32_336 : BitVec 32 := 64#32
  let v369 : BitVec 32 := Scalar.muli arg24 c64_i32_336
  let c32_i32_337 : BitVec 32 := 32#32
  let v370 : BitVec 32 := Scalar.addi v369 c32_i32_337
  let c0_i32_342 : BitVec 32 := 0#32
  ![v370.toNat, 0]
def k0_dev25 (v9 : BitVec 32) : Nat :=
  let c0_i32_341 : BitVec 32 := 0#32
  let c1_i32_340 : BitVec 32 := 1#32
  let v372 : BitVec 32 := Scalar.muli v9 c1_i32_340
  let v373 : BitVec 32 := Scalar.addi c0_i32_341 v372
  v373.toNat

def k0_chk2 (v9 : BitVec 32) : Prop :=
  ((k0_dev1 v9) < nD) ∧
  (∀ k0_t1 : Fin k0_t1_loop.trips, ∀ (k0_h3 : k0_cond3 k0_t1 = 1#1), (k0_dev4 v9) < nD) ∧
  (∀ k0_t1 : Fin k0_t1_loop.trips, ∀ (k0_h6 : k0_cond6 k0_t1 = 1#1), (k0_dev6 v9) < nD) ∧
  ((k0_dev7 v9) < nD) ∧
  ((k0_dev9 v9) < nD) ∧
  (∀ k0_t3 : Fin k0_t3_loop.trips, ∀ (k0_h18 : k0_cond18 k0_t3 = 1#1), (k0_dev12 v9) < nD) ∧
  (∀ k0_t3 : Fin k0_t3_loop.trips, ∀ (k0_h21 : k0_cond21 k0_t3 = 1#1), (k0_dev14 v9) < nD) ∧
  ((k0_dev15 v9) < nD) ∧
  ((k0_dev17 v9) < nD) ∧
  (∀ k0_t5 : Fin k0_t5_loop.trips, ∀ (k0_h33 : k0_cond33 k0_t5 = 1#1), (k0_dev20 v9) < nD) ∧
  (∀ k0_t5 : Fin k0_t5_loop.trips, ∀ (k0_h36 : k0_cond36 k0_t5 = 1#1), (k0_dev22 v9) < nD) ∧
  ((k0_dev23 v9) < nD) ∧
  ((k0_dev25 v9) < nD)
theorem k0_dev1_lt : ∀ (v9 : BitVec 32) (k0_hw2 : k0_chk2 v9), (k0_dev1 v9) < nD := fun v9 k0_hw2 => k0_hw2.1
theorem k0_dev4_lt : ∀ (v9 : BitVec 32) (k0_hw2 : k0_chk2 v9) (k0_t1 : Fin k0_t1_loop.trips), ∀ (k0_h3 : k0_cond3 k0_t1 = 1#1), (k0_dev4 v9) < nD := fun v9 k0_hw2 k0_t1 k0_h3 => k0_hw2.2.1 k0_t1 k0_h3
theorem k0_dev6_lt : ∀ (v9 : BitVec 32) (k0_hw2 : k0_chk2 v9) (k0_t1 : Fin k0_t1_loop.trips), ∀ (k0_h6 : k0_cond6 k0_t1 = 1#1), (k0_dev6 v9) < nD := fun v9 k0_hw2 k0_t1 k0_h6 => k0_hw2.2.2.1 k0_t1 k0_h6
theorem k0_dev7_lt : ∀ (v9 : BitVec 32) (k0_hw2 : k0_chk2 v9), (k0_dev7 v9) < nD := fun v9 k0_hw2 => k0_hw2.2.2.2.1
theorem k0_dev9_lt : ∀ (v9 : BitVec 32) (k0_hw2 : k0_chk2 v9), (k0_dev9 v9) < nD := fun v9 k0_hw2 => k0_hw2.2.2.2.2.1
theorem k0_dev12_lt : ∀ (v9 : BitVec 32) (k0_hw2 : k0_chk2 v9) (k0_t3 : Fin k0_t3_loop.trips), ∀ (k0_h18 : k0_cond18 k0_t3 = 1#1), (k0_dev12 v9) < nD := fun v9 k0_hw2 k0_t3 k0_h18 => k0_hw2.2.2.2.2.2.1 k0_t3 k0_h18
theorem k0_dev14_lt : ∀ (v9 : BitVec 32) (k0_hw2 : k0_chk2 v9) (k0_t3 : Fin k0_t3_loop.trips), ∀ (k0_h21 : k0_cond21 k0_t3 = 1#1), (k0_dev14 v9) < nD := fun v9 k0_hw2 k0_t3 k0_h21 => k0_hw2.2.2.2.2.2.2.1 k0_t3 k0_h21
theorem k0_dev15_lt : ∀ (v9 : BitVec 32) (k0_hw2 : k0_chk2 v9), (k0_dev15 v9) < nD := fun v9 k0_hw2 => k0_hw2.2.2.2.2.2.2.2.1
theorem k0_dev17_lt : ∀ (v9 : BitVec 32) (k0_hw2 : k0_chk2 v9), (k0_dev17 v9) < nD := fun v9 k0_hw2 => k0_hw2.2.2.2.2.2.2.2.2.1
theorem k0_dev20_lt : ∀ (v9 : BitVec 32) (k0_hw2 : k0_chk2 v9) (k0_t5 : Fin k0_t5_loop.trips), ∀ (k0_h33 : k0_cond33 k0_t5 = 1#1), (k0_dev20 v9) < nD := fun v9 k0_hw2 k0_t5 k0_h33 => k0_hw2.2.2.2.2.2.2.2.2.2.1 k0_t5 k0_h33
theorem k0_dev22_lt : ∀ (v9 : BitVec 32) (k0_hw2 : k0_chk2 v9) (k0_t5 : Fin k0_t5_loop.trips), ∀ (k0_h36 : k0_cond36 k0_t5 = 1#1), (k0_dev22 v9) < nD := fun v9 k0_hw2 k0_t5 k0_h36 => k0_hw2.2.2.2.2.2.2.2.2.2.2.1 k0_t5 k0_h36
theorem k0_dev23_lt : ∀ (v9 : BitVec 32) (k0_hw2 : k0_chk2 v9), (k0_dev23 v9) < nD := fun v9 k0_hw2 => k0_hw2.2.2.2.2.2.2.2.2.2.2.2.1
theorem k0_dev25_lt : ∀ (v9 : BitVec 32) (k0_hw2 : k0_chk2 v9), (k0_dev25 v9) < nD := fun v9 k0_hw2 => k0_hw2.2.2.2.2.2.2.2.2.2.2.2.2

def k0_cond42 (k0_t6 : Fin k0_t6_loop.trips) : BitVec 1 :=
  let c0_i32_248 : BitVec 32 := 0#32
  let c1_i32_250 : BitVec 32 := 1#32
  let arg24 : BitVec 32 := Scf.iv c0_i32_248 c1_i32_250 k0_t6
  let c0_i32_345 : BitVec 32 := 0#32
  let v380 : BitVec 1 := Scalar.cmpi .sgt arg24 c0_i32_345
  let v381 : BitVec 32 := Scalar.extui v380
  let c0_i32_346 : BitVec 32 := 0#32
  let v382 : BitVec 1 := Scalar.cmpi .ne v381 c0_i32_346
  v382

def k0_off196 (k0_t6 : Fin k0_t6_loop.trips) : Fin 2 → Nat :=
  let c0_i32_248 : BitVec 32 := 0#32
  let c1_i32_250 : BitVec 32 := 1#32
  let arg24 : BitVec 32 := Scf.iv c0_i32_248 c1_i32_250 k0_t6
  let c1_i32_352 : BitVec 32 := 1#32
  let v392 : BitVec 32 := Scalar.subi arg24 c1_i32_352
  let c64_i32_353 : BitVec 32 := 64#32
  let v393 : BitVec 32 := Scalar.muli v392 c64_i32_353
  let c32_i32_354 : BitVec 32 := 32#32
  let v394 : BitVec 32 := Scalar.addi v393 c32_i32_354
  let c0_i32_360 : BitVec 32 := 0#32
  ![v394.toNat, 0]
def k0_off197 (k0_t6 : Fin k0_t6_loop.trips) : Fin 1 → Nat :=
  let c15_i32_355 : BitVec 32 := 15#32
  let c0_i32_248 : BitVec 32 := 0#32
  let c1_i32_250 : BitVec 32 := 1#32
  let arg24 : BitVec 32 := Scf.iv c0_i32_248 c1_i32_250 k0_t6
  let c1_i32_352 : BitVec 32 := 1#32
  let v392 : BitVec 32 := Scalar.subi arg24 c1_i32_352
  let v395 : BitVec 32 := Scalar.addi c15_i32_355 v392
  ![v395.toNat]
def k0_cond43 (k0_t6 : Fin k0_t6_loop.trips) : BitVec 1 :=
  let c0_i32_248 : BitVec 32 := 0#32
  let c1_i32_250 : BitVec 32 := 1#32
  let arg24 : BitVec 32 := Scf.iv c0_i32_248 c1_i32_250 k0_t6
  let c15_i32_347 : BitVec 32 := 15#32
  let v383 : BitVec 1 := Scalar.cmpi .slt arg24 c15_i32_347
  let v384 : BitVec 32 := Scalar.extui v383
  let c0_i32_348 : BitVec 32 := 0#32
  let v385 : BitVec 1 := Scalar.cmpi .ne v384 c0_i32_348
  v385

def k0_off198 (v4 : BitVec 32) (k0_t6 : Fin k0_t6_loop.trips) : Fin 2 → Nat :=
  let c0_355 : Index := 0#32
  let c15_i32_352 : BitVec 32 := 15#32
  let v392 : BitVec 32 := Scalar.addi v4 c15_i32_352
  let c0_i32_248 : BitVec 32 := 0#32
  let c1_i32_250 : BitVec 32 := 1#32
  let arg24 : BitVec 32 := Scf.iv c0_i32_248 c1_i32_250 k0_t6
  let v393 : BitVec 32 := Scalar.subi v392 arg24
  let c64_i32_353 : BitVec 32 := 64#32
  let v394 : BitVec 32 := Scalar.addi v393 c64_i32_353
  let c32_i32_354 : BitVec 32 := 32#32
  let v395 : BitVec 32 := Scalar.remsi v394 c32_i32_354
  let v396 : Index := Scalar.indexCast v395
  ![0, v396.toNat]
def k0_off199 (v397 : BitVec 32) : Fin 2 → Nat :=
  let c64_i32_356 : BitVec 32 := 64#32
  let v398 : BitVec 32 := Scalar.muli v397 c64_i32_356
  let c32_i32_357 : BitVec 32 := 32#32
  let v399 : BitVec 32 := Scalar.addi v398 c32_i32_357
  let v400 : Index := Scalar.indexCast v399
  let c0_358 : Index := 0#32
  ![v400.toNat, 0]

def k0_chk58 (k0_t6 : Fin k0_t6_loop.trips) (v397 : BitVec 32) : Prop :=
  (∀ (k0_h43 : k0_cond43 k0_t6 = 1#1), ∀ a, (k0_off199 v397) a + S32x1024.size a ≤ S2048x1024.size a)
theorem k0_off199_inb : ∀ (k0_t6 : Fin k0_t6_loop.trips) (v397 : BitVec 32) (k0_hw58 : k0_chk58 k0_t6 v397), ∀ (k0_h43 : k0_cond43 k0_t6 = 1#1), ∀ a, (k0_off199 v397) a + S32x1024.size a ≤ S2048x1024.size a := fun k0_t6 v397 k0_hw58 k0_h43 => k0_hw58 k0_h43

def k0_off200 (k0_t6 : Fin k0_t6_loop.trips) : Fin 2 → Nat :=
  let c0_i32_248 : BitVec 32 := 0#32
  let c1_i32_250 : BitVec 32 := 1#32
  let arg24 : BitVec 32 := Scf.iv c0_i32_248 c1_i32_250 k0_t6
  let c1_i32_359 : BitVec 32 := 1#32
  let v402 : BitVec 32 := Scalar.subi arg24 c1_i32_359
  let c0_i32_360 : BitVec 32 := 0#32
  let v403 : BitVec 32 := Scalar.maxsi v402 c0_i32_360
  let c64_i32_361 : BitVec 32 := 64#32
  let v404 : BitVec 32 := Scalar.muli v403 c64_i32_361
  let c32_i32_362 : BitVec 32 := 32#32
  let v405 : BitVec 32 := Scalar.addi v404 c32_i32_362
  let v406 : Index := Scalar.indexCast v405
  let c0_363 : Index := 0#32
  ![v406.toNat, 0]
def k0_off201 (k0_t6 : Fin k0_t6_loop.trips) : Fin 1 → Nat :=
  let c15_i32_369 : BitVec 32 := 15#32
  let c0_i32_248 : BitVec 32 := 0#32
  let c1_i32_250 : BitVec 32 := 1#32
  let arg24 : BitVec 32 := Scf.iv c0_i32_248 c1_i32_250 k0_t6
  let v418 : BitVec 32 := Scalar.addi c15_i32_369 arg24
  ![v418.toNat]
def k0_off202 (k0_t6 : Fin k0_t6_loop.trips) : Fin 2 → Nat :=
  let c0_i32_248 : BitVec 32 := 0#32
  let c1_i32_250 : BitVec 32 := 1#32
  let arg24 : BitVec 32 := Scf.iv c0_i32_248 c1_i32_250 k0_t6
  let c64_i32_367 : BitVec 32 := 64#32
  let v416 : BitVec 32 := Scalar.muli arg24 c64_i32_367
  let c32_i32_368 : BitVec 32 := 32#32
  let v417 : BitVec 32 := Scalar.addi v416 c32_i32_368
  let c0_i32_373 : BitVec 32 := 0#32
  ![v417.toNat, 0]
def k0_dev26 (v14 : BitVec 32) : Nat :=
  let c0_i32_372 : BitVec 32 := 0#32
  let c1_i32_371 : BitVec 32 := 1#32
  let v419 : BitVec 32 := Scalar.muli v14 c1_i32_371
  let v420 : BitVec 32 := Scalar.addi c0_i32_372 v419
  v420.toNat

def k0_chk3 (v14 : BitVec 32) : Prop :=
  ((k0_dev2 v14) < nD) ∧
  ((k0_dev3 v14) < nD) ∧
  ((k0_dev5 v14) < nD) ∧
  (∀ k0_t2 : Fin k0_t2_loop.trips, ∀ (k0_h10 : k0_cond10 k0_t2 = 1#1), (k0_dev8 v14) < nD) ∧
  (∀ k0_t2 : Fin k0_t2_loop.trips, ∀ (k0_h13 : k0_cond13 k0_t2 = 1#1), (k0_dev10 v14) < nD) ∧
  ((k0_dev11 v14) < nD) ∧
  ((k0_dev13 v14) < nD) ∧
  (∀ k0_t4 : Fin k0_t4_loop.trips, ∀ (k0_h25 : k0_cond25 k0_t4 = 1#1), (k0_dev16 v14) < nD) ∧
  (∀ k0_t4 : Fin k0_t4_loop.trips, ∀ (k0_h28 : k0_cond28 k0_t4 = 1#1), (k0_dev18 v14) < nD) ∧
  ((k0_dev19 v14) < nD) ∧
  ((k0_dev21 v14) < nD) ∧
  (∀ k0_t6 : Fin k0_t6_loop.trips, ∀ (k0_h40 : k0_cond40 k0_t6 = 1#1), (k0_dev24 v14) < nD) ∧
  (∀ k0_t6 : Fin k0_t6_loop.trips, ∀ (k0_h43 : k0_cond43 k0_t6 = 1#1), (k0_dev26 v14) < nD)
theorem k0_dev2_lt : ∀ (v14 : BitVec 32) (k0_hw3 : k0_chk3 v14), (k0_dev2 v14) < nD := fun v14 k0_hw3 => k0_hw3.1
theorem k0_dev3_lt : ∀ (v14 : BitVec 32) (k0_hw3 : k0_chk3 v14), (k0_dev3 v14) < nD := fun v14 k0_hw3 => k0_hw3.2.1
theorem k0_dev5_lt : ∀ (v14 : BitVec 32) (k0_hw3 : k0_chk3 v14), (k0_dev5 v14) < nD := fun v14 k0_hw3 => k0_hw3.2.2.1
theorem k0_dev8_lt : ∀ (v14 : BitVec 32) (k0_hw3 : k0_chk3 v14) (k0_t2 : Fin k0_t2_loop.trips), ∀ (k0_h10 : k0_cond10 k0_t2 = 1#1), (k0_dev8 v14) < nD := fun v14 k0_hw3 k0_t2 k0_h10 => k0_hw3.2.2.2.1 k0_t2 k0_h10
theorem k0_dev10_lt : ∀ (v14 : BitVec 32) (k0_hw3 : k0_chk3 v14) (k0_t2 : Fin k0_t2_loop.trips), ∀ (k0_h13 : k0_cond13 k0_t2 = 1#1), (k0_dev10 v14) < nD := fun v14 k0_hw3 k0_t2 k0_h13 => k0_hw3.2.2.2.2.1 k0_t2 k0_h13
theorem k0_dev11_lt : ∀ (v14 : BitVec 32) (k0_hw3 : k0_chk3 v14), (k0_dev11 v14) < nD := fun v14 k0_hw3 => k0_hw3.2.2.2.2.2.1
theorem k0_dev13_lt : ∀ (v14 : BitVec 32) (k0_hw3 : k0_chk3 v14), (k0_dev13 v14) < nD := fun v14 k0_hw3 => k0_hw3.2.2.2.2.2.2.1
theorem k0_dev16_lt : ∀ (v14 : BitVec 32) (k0_hw3 : k0_chk3 v14) (k0_t4 : Fin k0_t4_loop.trips), ∀ (k0_h25 : k0_cond25 k0_t4 = 1#1), (k0_dev16 v14) < nD := fun v14 k0_hw3 k0_t4 k0_h25 => k0_hw3.2.2.2.2.2.2.2.1 k0_t4 k0_h25
theorem k0_dev18_lt : ∀ (v14 : BitVec 32) (k0_hw3 : k0_chk3 v14) (k0_t4 : Fin k0_t4_loop.trips), ∀ (k0_h28 : k0_cond28 k0_t4 = 1#1), (k0_dev18 v14) < nD := fun v14 k0_hw3 k0_t4 k0_h28 => k0_hw3.2.2.2.2.2.2.2.2.1 k0_t4 k0_h28
theorem k0_dev19_lt : ∀ (v14 : BitVec 32) (k0_hw3 : k0_chk3 v14), (k0_dev19 v14) < nD := fun v14 k0_hw3 => k0_hw3.2.2.2.2.2.2.2.2.2.1
theorem k0_dev21_lt : ∀ (v14 : BitVec 32) (k0_hw3 : k0_chk3 v14), (k0_dev21 v14) < nD := fun v14 k0_hw3 => k0_hw3.2.2.2.2.2.2.2.2.2.2.1
theorem k0_dev24_lt : ∀ (v14 : BitVec 32) (k0_hw3 : k0_chk3 v14) (k0_t6 : Fin k0_t6_loop.trips), ∀ (k0_h40 : k0_cond40 k0_t6 = 1#1), (k0_dev24 v14) < nD := fun v14 k0_hw3 k0_t6 k0_h40 => k0_hw3.2.2.2.2.2.2.2.2.2.2.2.1 k0_t6 k0_h40
theorem k0_dev26_lt : ∀ (v14 : BitVec 32) (k0_hw3 : k0_chk3 v14) (k0_t6 : Fin k0_t6_loop.trips), ∀ (k0_h43 : k0_cond43 k0_t6 = 1#1), (k0_dev26 v14) < nD := fun v14 k0_hw3 k0_t6 k0_h43 => k0_hw3.2.2.2.2.2.2.2.2.2.2.2.2 k0_t6 k0_h43

def k0_cond44 (k0_t6 : Fin k0_t6_loop.trips) : BitVec 1 :=
  let c0_i32_248 : BitVec 32 := 0#32
  let c1_i32_250 : BitVec 32 := 1#32
  let arg24 : BitVec 32 := Scf.iv c0_i32_248 c1_i32_250 k0_t6
  let c7_i32 : BitVec 32 := 7#32
  let v386 : BitVec 1 := Scalar.cmpi .slt arg24 c7_i32
  let v387 : BitVec 32 := Scalar.extui v386
  let c0_i32_349 : BitVec 32 := 0#32
  let v388 : BitVec 1 := Scalar.cmpi .ne v387 c0_i32_349
  v388

def k0_off203 (v4 : BitVec 32) (k0_t6 : Fin k0_t6_loop.trips) : Fin 2 → Nat :=
  let c0_355 : Index := 0#32
  let c7_i32_352 : BitVec 32 := 7#32
  let v392 : BitVec 32 := Scalar.addi v4 c7_i32_352
  let c0_i32_248 : BitVec 32 := 0#32
  let c1_i32_250 : BitVec 32 := 1#32
  let arg24 : BitVec 32 := Scf.iv c0_i32_248 c1_i32_250 k0_t6
  let v393 : BitVec 32 := Scalar.subi v392 arg24
  let c64_i32_353 : BitVec 32 := 64#32
  let v394 : BitVec 32 := Scalar.addi v393 c64_i32_353
  let c32_i32_354 : BitVec 32 := 32#32
  let v395 : BitVec 32 := Scalar.remsi v394 c32_i32_354
  let v396 : Index := Scalar.indexCast v395
  ![0, v396.toNat]
def k0_off204 (v397 : BitVec 32) : Fin 2 → Nat :=
  let c64_i32_356 : BitVec 32 := 64#32
  let v398 : BitVec 32 := Scalar.muli v397 c64_i32_356
  let v399 : Index := Scalar.indexCast v398
  let c0_357 : Index := 0#32
  ![v399.toNat, 0]

def k0_chk59 (k0_t6 : Fin k0_t6_loop.trips) (v397 : BitVec 32) : Prop :=
  (∀ (k0_h44 : k0_cond44 k0_t6 = 1#1), ∀ a, (k0_off204 v397) a + S64x1024.size a ≤ S2048x1024.size a)
theorem k0_off204_inb : ∀ (k0_t6 : Fin k0_t6_loop.trips) (v397 : BitVec 32) (k0_hw59 : k0_chk59 k0_t6 v397), ∀ (k0_h44 : k0_cond44 k0_t6 = 1#1), ∀ a, (k0_off204 v397) a + S64x1024.size a ≤ S2048x1024.size a := fun k0_t6 v397 k0_hw59 k0_h44 => k0_hw59 k0_h44

def k0_off205 (v4 : BitVec 32) (k0_t6 : Fin k0_t6_loop.trips) : Fin 2 → Nat :=
  let c0_369 : Index := 0#32
  let c7_i32_366 : BitVec 32 := 7#32
  let v414 : BitVec 32 := Scalar.subi v4 c7_i32_366
  let c0_i32_248 : BitVec 32 := 0#32
  let c1_i32_250 : BitVec 32 := 1#32
  let arg24 : BitVec 32 := Scf.iv c0_i32_248 c1_i32_250 k0_t6
  let v415 : BitVec 32 := Scalar.addi v414 arg24
  let c64_i32_367 : BitVec 32 := 64#32
  let v416 : BitVec 32 := Scalar.addi v415 c64_i32_367
  let c32_i32_368 : BitVec 32 := 32#32
  let v417 : BitVec 32 := Scalar.remsi v416 c32_i32_368
  let v418 : Index := Scalar.indexCast v417
  ![0, v418.toNat]

def k0_chk1_0 (v4 : BitVec 32) : Prop :=
  (∀ a, (k0_off2 v4) a + S1x1.size a ≤ S1x32.size a) ∧
  (∀ a, (k0_off3 v4) a + S1x1.size a ≤ S1x32.size a) ∧
  (∀ k0_t1 : Fin k0_t1_loop.trips, ∀ (k0_h1 : k0_cond1 k0_t1 = 1#1), ∀ a, (k0_off5 v4 k0_t1) a + S1x1.size a ≤ S1x32.size a) ∧
  (∀ k0_t1 : Fin k0_t1_loop.trips, ∀ a, (k0_off8 v4 k0_t1) a + S1x1.size a ≤ S1x32.size a) ∧
  (∀ k0_t1 : Fin k0_t1_loop.trips, ∀ (k0_h2 : k0_cond2 k0_t1 = 1#1), ∀ a, (k0_off11 v4 k0_t1) a + S1x1.size a ≤ S1x32.size a) ∧
  (∀ k0_t1 : Fin k0_t1_loop.trips, ∀ (k0_h3 : k0_cond3 k0_t1 = 1#1), ∀ a, (k0_off14 v4 k0_t1) a + S1x1.size a ≤ S1x32.size a) ∧
  (∀ k0_t1 : Fin k0_t1_loop.trips, ∀ (k0_h4 : k0_cond4 k0_t1 = 1#1), ∀ a, (k0_off17 v4 k0_t1) a + S1x1.size a ≤ S1x32.size a) ∧
  (∀ k0_t1 : Fin k0_t1_loop.trips, ∀ a, (k0_off20 v4 k0_t1) a + S1x1.size a ≤ S1x32.size a) ∧
  (∀ k0_t1 : Fin k0_t1_loop.trips, ∀ (k0_h5 : k0_cond5 k0_t1 = 1#1), ∀ a, (k0_off23 v4 k0_t1) a + S1x1.size a ≤ S1x32.size a) ∧
  (∀ k0_t1 : Fin k0_t1_loop.trips, ∀ (k0_h6 : k0_cond6 k0_t1 = 1#1), ∀ a, (k0_off26 v4 k0_t1) a + S1x1.size a ≤ S1x32.size a) ∧
  (∀ k0_t1 : Fin k0_t1_loop.trips, ∀ (k0_h7 : k0_cond7 k0_t1 = 1#1), ∀ a, (k0_off29 v4 k0_t1) a + S1x1.size a ≤ S1x32.size a) ∧
  (∀ k0_t1 : Fin k0_t1_loop.trips, ∀ (k0_h7 : k0_cond7 k0_t1 = 1#1), ∀ a, (k0_off31 v4 k0_t1) a + S1x1.size a ≤ S1x32.size a) ∧
  (∀ a, (k0_off33 v4) a + S1x1.size a ≤ S1x32.size a) ∧
  (∀ a, (k0_off35 v4) a + S1x1.size a ≤ S1x32.size a) ∧
  (∀ a, (k0_off37 v4) a + S1x1.size a ≤ S1x32.size a) ∧
  (∀ k0_t2 : Fin k0_t2_loop.trips, ∀ a, (k0_off41 v4 k0_t2) a + S1x1.size a ≤ S1x32.size a) ∧
  (∀ k0_t2 : Fin k0_t2_loop.trips, ∀ (k0_h10 : k0_cond10 k0_t2 = 1#1), ∀ a, (k0_off48 v4 k0_t2) a + S1x1.size a ≤ S1x32.size a) ∧
  (∀ k0_t2 : Fin k0_t2_loop.trips, ∀ a, (k0_off55 v4 k0_t2) a + S1x1.size a ≤ S1x32.size a) ∧
  (∀ k0_t2 : Fin k0_t2_loop.trips, ∀ (k0_h13 : k0_cond13 k0_t2 = 1#1), ∀ a, (k0_off62 v4 k0_t2) a + S1x1.size a ≤ S1x32.size a) ∧
  (∀ k0_t2 : Fin k0_t2_loop.trips, ∀ (k0_h14 : k0_cond14 k0_t2 = 1#1), ∀ a, (k0_off67 v4 k0_t2) a + S1x1.size a ≤ S1x32.size a) ∧
  (∀ k0_t2 : Fin k0_t2_loop.trips, ∀ (k0_h14 : k0_cond14 k0_t2 = 1#1), ∀ a, (k0_off69 v4 k0_t2) a + S1x1.size a ≤ S1x32.size a) ∧
  (∀ k0_t3 : Fin k0_t3_loop.trips, ∀ (k0_h16 : k0_cond16 k0_t3 = 1#1), ∀ a, (k0_off73 v4 k0_t3) a + S1x1.size a ≤ S1x32.size a) ∧
  (∀ k0_t3 : Fin k0_t3_loop.trips, ∀ a, (k0_off76 v4 k0_t3) a + S1x1.size a ≤ S1x32.size a) ∧
  (∀ k0_t3 : Fin k0_t3_loop.trips, ∀ (k0_h17 : k0_cond17 k0_t3 = 1#1), ∀ a, (k0_off79 v4 k0_t3) a + S1x1.size a ≤ S1x32.size a) ∧
  (∀ k0_t3 : Fin k0_t3_loop.trips, ∀ (k0_h18 : k0_cond18 k0_t3 = 1#1), ∀ a, (k0_off82 v4 k0_t3) a + S1x1.size a ≤ S1x32.size a) ∧
  (∀ k0_t3 : Fin k0_t3_loop.trips, ∀ (k0_h19 : k0_cond19 k0_t3 = 1#1), ∀ a, (k0_off85 v4 k0_t3) a + S1x1.size a ≤ S1x32.size a) ∧
  (∀ k0_t3 : Fin k0_t3_loop.trips, ∀ a, (k0_off88 v4 k0_t3) a + S1x1.size a ≤ S1x32.size a) ∧
  (∀ k0_t3 : Fin k0_t3_loop.trips, ∀ (k0_h20 : k0_cond20 k0_t3 = 1#1), ∀ a, (k0_off91 v4 k0_t3) a + S1x1.size a ≤ S1x32.size a) ∧
  (∀ k0_t3 : Fin k0_t3_loop.trips, ∀ (k0_h21 : k0_cond21 k0_t3 = 1#1), ∀ a, (k0_off94 v4 k0_t3) a + S1x1.size a ≤ S1x32.size a) ∧
  (∀ k0_t3 : Fin k0_t3_loop.trips, ∀ (k0_h22 : k0_cond22 k0_t3 = 1#1), ∀ a, (k0_off97 v4 k0_t3) a + S1x1.size a ≤ S1x32.size a) ∧
  (∀ k0_t3 : Fin k0_t3_loop.trips, ∀ (k0_h22 : k0_cond22 k0_t3 = 1#1), ∀ a, (k0_off99 v4 k0_t3) a + S1x1.size a ≤ S1x32.size a) ∧
  (∀ a, (k0_off101 v4) a + S1x1.size a ≤ S1x32.size a)
def k0_chk1_1 (v4 : BitVec 32) : Prop :=
  (∀ a, (k0_off103 v4) a + S1x1.size a ≤ S1x32.size a) ∧
  (∀ a, (k0_off105 v4) a + S1x1.size a ≤ S1x32.size a) ∧
  (∀ k0_t4 : Fin k0_t4_loop.trips, ∀ a, (k0_off109 v4 k0_t4) a + S1x1.size a ≤ S1x32.size a) ∧
  (∀ k0_t4 : Fin k0_t4_loop.trips, ∀ (k0_h25 : k0_cond25 k0_t4 = 1#1), ∀ a, (k0_off116 v4 k0_t4) a + S1x1.size a ≤ S1x32.size a) ∧
  (∀ k0_t4 : Fin k0_t4_loop.trips, ∀ a, (k0_off123 v4 k0_t4) a + S1x1.size a ≤ S1x32.size a) ∧
  (∀ k0_t4 : Fin k0_t4_loop.trips, ∀ (k0_h28 : k0_cond28 k0_t4 = 1#1), ∀ a, (k0_off130 v4 k0_t4) a + S1x1.size a ≤ S1x32.size a) ∧
  (∀ k0_t4 : Fin k0_t4_loop.trips, ∀ (k0_h29 : k0_cond29 k0_t4 = 1#1), ∀ a, (k0_off135 v4 k0_t4) a + S1x1.size a ≤ S1x32.size a) ∧
  (∀ k0_t4 : Fin k0_t4_loop.trips, ∀ (k0_h29 : k0_cond29 k0_t4 = 1#1), ∀ a, (k0_off137 v4 k0_t4) a + S1x1.size a ≤ S1x32.size a) ∧
  (∀ k0_t5 : Fin k0_t5_loop.trips, ∀ (k0_h31 : k0_cond31 k0_t5 = 1#1), ∀ a, (k0_off141 v4 k0_t5) a + S1x1.size a ≤ S1x32.size a) ∧
  (∀ k0_t5 : Fin k0_t5_loop.trips, ∀ a, (k0_off144 v4 k0_t5) a + S1x1.size a ≤ S1x32.size a) ∧
  (∀ k0_t5 : Fin k0_t5_loop.trips, ∀ (k0_h32 : k0_cond32 k0_t5 = 1#1), ∀ a, (k0_off147 v4 k0_t5) a + S1x1.size a ≤ S1x32.size a) ∧
  (∀ k0_t5 : Fin k0_t5_loop.trips, ∀ (k0_h33 : k0_cond33 k0_t5 = 1#1), ∀ a, (k0_off150 v4 k0_t5) a + S1x1.size a ≤ S1x32.size a) ∧
  (∀ k0_t5 : Fin k0_t5_loop.trips, ∀ (k0_h34 : k0_cond34 k0_t5 = 1#1), ∀ a, (k0_off153 v4 k0_t5) a + S1x1.size a ≤ S1x32.size a) ∧
  (∀ k0_t5 : Fin k0_t5_loop.trips, ∀ a, (k0_off156 v4 k0_t5) a + S1x1.size a ≤ S1x32.size a) ∧
  (∀ k0_t5 : Fin k0_t5_loop.trips, ∀ (k0_h35 : k0_cond35 k0_t5 = 1#1), ∀ a, (k0_off159 v4 k0_t5) a + S1x1.size a ≤ S1x32.size a) ∧
  (∀ k0_t5 : Fin k0_t5_loop.trips, ∀ (k0_h36 : k0_cond36 k0_t5 = 1#1), ∀ a, (k0_off162 v4 k0_t5) a + S1x1.size a ≤ S1x32.size a) ∧
  (∀ k0_t5 : Fin k0_t5_loop.trips, ∀ (k0_h37 : k0_cond37 k0_t5 = 1#1), ∀ a, (k0_off165 v4 k0_t5) a + S1x1.size a ≤ S1x32.size a) ∧
  (∀ k0_t5 : Fin k0_t5_loop.trips, ∀ (k0_h37 : k0_cond37 k0_t5 = 1#1), ∀ a, (k0_off167 v4 k0_t5) a + S1x1.size a ≤ S1x32.size a) ∧
  (∀ a, (k0_off169 v4) a + S1x1.size a ≤ S1x32.size a) ∧
  (∀ a, (k0_off171 v4) a + S1x1.size a ≤ S1x32.size a) ∧
  (∀ a, (k0_off173 v4) a + S1x1.size a ≤ S1x32.size a) ∧
  (∀ k0_t6 : Fin k0_t6_loop.trips, ∀ a, (k0_off177 v4 k0_t6) a + S1x1.size a ≤ S1x32.size a) ∧
  (∀ k0_t6 : Fin k0_t6_loop.trips, ∀ (k0_h40 : k0_cond40 k0_t6 = 1#1), ∀ a, (k0_off184 v4 k0_t6) a + S1x1.size a ≤ S1x32.size a) ∧
  (∀ k0_t6 : Fin k0_t6_loop.trips, ∀ a, (k0_off191 v4 k0_t6) a + S1x1.size a ≤ S1x32.size a) ∧
  (∀ k0_t6 : Fin k0_t6_loop.trips, ∀ (k0_h43 : k0_cond43 k0_t6 = 1#1), ∀ a, (k0_off198 v4 k0_t6) a + S1x1.size a ≤ S1x32.size a) ∧
  (∀ k0_t6 : Fin k0_t6_loop.trips, ∀ (k0_h44 : k0_cond44 k0_t6 = 1#1), ∀ a, (k0_off203 v4 k0_t6) a + S1x1.size a ≤ S1x32.size a) ∧
  (∀ k0_t6 : Fin k0_t6_loop.trips, ∀ (k0_h44 : k0_cond44 k0_t6 = 1#1), ∀ a, (k0_off205 v4 k0_t6) a + S1x1.size a ≤ S1x32.size a)
def k0_chk1 (v4 : BitVec 32) : Prop :=
  k0_chk1_0 v4 ∧
  k0_chk1_1 v4
theorem k0_off2_inb : ∀ (v4 : BitVec 32) (k0_hw1 : k0_chk1 v4), ∀ a, (k0_off2 v4) a + S1x1.size a ≤ S1x32.size a := fun v4 k0_hw1 => k0_hw1.1.1
theorem k0_off3_inb : ∀ (v4 : BitVec 32) (k0_hw1 : k0_chk1 v4), ∀ a, (k0_off3 v4) a + S1x1.size a ≤ S1x32.size a := fun v4 k0_hw1 => k0_hw1.1.2.1
theorem k0_off5_inb : ∀ (v4 : BitVec 32) (k0_hw1 : k0_chk1 v4) (k0_t1 : Fin k0_t1_loop.trips), ∀ (k0_h1 : k0_cond1 k0_t1 = 1#1), ∀ a, (k0_off5 v4 k0_t1) a + S1x1.size a ≤ S1x32.size a := fun v4 k0_hw1 k0_t1 k0_h1 => k0_hw1.1.2.2.1 k0_t1 k0_h1
theorem k0_off8_inb : ∀ (v4 : BitVec 32) (k0_hw1 : k0_chk1 v4) (k0_t1 : Fin k0_t1_loop.trips), ∀ a, (k0_off8 v4 k0_t1) a + S1x1.size a ≤ S1x32.size a := fun v4 k0_hw1 k0_t1 => k0_hw1.1.2.2.2.1 k0_t1
theorem k0_off11_inb : ∀ (v4 : BitVec 32) (k0_hw1 : k0_chk1 v4) (k0_t1 : Fin k0_t1_loop.trips), ∀ (k0_h2 : k0_cond2 k0_t1 = 1#1), ∀ a, (k0_off11 v4 k0_t1) a + S1x1.size a ≤ S1x32.size a := fun v4 k0_hw1 k0_t1 k0_h2 => k0_hw1.1.2.2.2.2.1 k0_t1 k0_h2
theorem k0_off14_inb : ∀ (v4 : BitVec 32) (k0_hw1 : k0_chk1 v4) (k0_t1 : Fin k0_t1_loop.trips), ∀ (k0_h3 : k0_cond3 k0_t1 = 1#1), ∀ a, (k0_off14 v4 k0_t1) a + S1x1.size a ≤ S1x32.size a := fun v4 k0_hw1 k0_t1 k0_h3 => k0_hw1.1.2.2.2.2.2.1 k0_t1 k0_h3
theorem k0_off17_inb : ∀ (v4 : BitVec 32) (k0_hw1 : k0_chk1 v4) (k0_t1 : Fin k0_t1_loop.trips), ∀ (k0_h4 : k0_cond4 k0_t1 = 1#1), ∀ a, (k0_off17 v4 k0_t1) a + S1x1.size a ≤ S1x32.size a := fun v4 k0_hw1 k0_t1 k0_h4 => k0_hw1.1.2.2.2.2.2.2.1 k0_t1 k0_h4
theorem k0_off20_inb : ∀ (v4 : BitVec 32) (k0_hw1 : k0_chk1 v4) (k0_t1 : Fin k0_t1_loop.trips), ∀ a, (k0_off20 v4 k0_t1) a + S1x1.size a ≤ S1x32.size a := fun v4 k0_hw1 k0_t1 => k0_hw1.1.2.2.2.2.2.2.2.1 k0_t1
theorem k0_off23_inb : ∀ (v4 : BitVec 32) (k0_hw1 : k0_chk1 v4) (k0_t1 : Fin k0_t1_loop.trips), ∀ (k0_h5 : k0_cond5 k0_t1 = 1#1), ∀ a, (k0_off23 v4 k0_t1) a + S1x1.size a ≤ S1x32.size a := fun v4 k0_hw1 k0_t1 k0_h5 => k0_hw1.1.2.2.2.2.2.2.2.2.1 k0_t1 k0_h5
theorem k0_off26_inb : ∀ (v4 : BitVec 32) (k0_hw1 : k0_chk1 v4) (k0_t1 : Fin k0_t1_loop.trips), ∀ (k0_h6 : k0_cond6 k0_t1 = 1#1), ∀ a, (k0_off26 v4 k0_t1) a + S1x1.size a ≤ S1x32.size a := fun v4 k0_hw1 k0_t1 k0_h6 => k0_hw1.1.2.2.2.2.2.2.2.2.2.1 k0_t1 k0_h6
theorem k0_off29_inb : ∀ (v4 : BitVec 32) (k0_hw1 : k0_chk1 v4) (k0_t1 : Fin k0_t1_loop.trips), ∀ (k0_h7 : k0_cond7 k0_t1 = 1#1), ∀ a, (k0_off29 v4 k0_t1) a + S1x1.size a ≤ S1x32.size a := fun v4 k0_hw1 k0_t1 k0_h7 => k0_hw1.1.2.2.2.2.2.2.2.2.2.2.1 k0_t1 k0_h7
theorem k0_off31_inb : ∀ (v4 : BitVec 32) (k0_hw1 : k0_chk1 v4) (k0_t1 : Fin k0_t1_loop.trips), ∀ (k0_h7 : k0_cond7 k0_t1 = 1#1), ∀ a, (k0_off31 v4 k0_t1) a + S1x1.size a ≤ S1x32.size a := fun v4 k0_hw1 k0_t1 k0_h7 => k0_hw1.1.2.2.2.2.2.2.2.2.2.2.2.1 k0_t1 k0_h7
theorem k0_off33_inb : ∀ (v4 : BitVec 32) (k0_hw1 : k0_chk1 v4), ∀ a, (k0_off33 v4) a + S1x1.size a ≤ S1x32.size a := fun v4 k0_hw1 => k0_hw1.1.2.2.2.2.2.2.2.2.2.2.2.2.1
theorem k0_off35_inb : ∀ (v4 : BitVec 32) (k0_hw1 : k0_chk1 v4), ∀ a, (k0_off35 v4) a + S1x1.size a ≤ S1x32.size a := fun v4 k0_hw1 => k0_hw1.1.2.2.2.2.2.2.2.2.2.2.2.2.2.1
theorem k0_off37_inb : ∀ (v4 : BitVec 32) (k0_hw1 : k0_chk1 v4), ∀ a, (k0_off37 v4) a + S1x1.size a ≤ S1x32.size a := fun v4 k0_hw1 => k0_hw1.1.2.2.2.2.2.2.2.2.2.2.2.2.2.2.1
theorem k0_off41_inb : ∀ (v4 : BitVec 32) (k0_hw1 : k0_chk1 v4) (k0_t2 : Fin k0_t2_loop.trips), ∀ a, (k0_off41 v4 k0_t2) a + S1x1.size a ≤ S1x32.size a := fun v4 k0_hw1 k0_t2 => k0_hw1.1.2.2.2.2.2.2.2.2.2.2.2.2.2.2.2.1 k0_t2
theorem k0_off48_inb : ∀ (v4 : BitVec 32) (k0_hw1 : k0_chk1 v4) (k0_t2 : Fin k0_t2_loop.trips), ∀ (k0_h10 : k0_cond10 k0_t2 = 1#1), ∀ a, (k0_off48 v4 k0_t2) a + S1x1.size a ≤ S1x32.size a := fun v4 k0_hw1 k0_t2 k0_h10 => k0_hw1.1.2.2.2.2.2.2.2.2.2.2.2.2.2.2.2.2.1 k0_t2 k0_h10
theorem k0_off55_inb : ∀ (v4 : BitVec 32) (k0_hw1 : k0_chk1 v4) (k0_t2 : Fin k0_t2_loop.trips), ∀ a, (k0_off55 v4 k0_t2) a + S1x1.size a ≤ S1x32.size a := fun v4 k0_hw1 k0_t2 => k0_hw1.1.2.2.2.2.2.2.2.2.2.2.2.2.2.2.2.2.2.1 k0_t2
theorem k0_off62_inb : ∀ (v4 : BitVec 32) (k0_hw1 : k0_chk1 v4) (k0_t2 : Fin k0_t2_loop.trips), ∀ (k0_h13 : k0_cond13 k0_t2 = 1#1), ∀ a, (k0_off62 v4 k0_t2) a + S1x1.size a ≤ S1x32.size a := fun v4 k0_hw1 k0_t2 k0_h13 => k0_hw1.1.2.2.2.2.2.2.2.2.2.2.2.2.2.2.2.2.2.2.1 k0_t2 k0_h13
theorem k0_off67_inb : ∀ (v4 : BitVec 32) (k0_hw1 : k0_chk1 v4) (k0_t2 : Fin k0_t2_loop.trips), ∀ (k0_h14 : k0_cond14 k0_t2 = 1#1), ∀ a, (k0_off67 v4 k0_t2) a + S1x1.size a ≤ S1x32.size a := fun v4 k0_hw1 k0_t2 k0_h14 => k0_hw1.1.2.2.2.2.2.2.2.2.2.2.2.2.2.2.2.2.2.2.2.1 k0_t2 k0_h14
theorem k0_off69_inb : ∀ (v4 : BitVec 32) (k0_hw1 : k0_chk1 v4) (k0_t2 : Fin k0_t2_loop.trips), ∀ (k0_h14 : k0_cond14 k0_t2 = 1#1), ∀ a, (k0_off69 v4 k0_t2) a + S1x1.size a ≤ S1x32.size a := fun v4 k0_hw1 k0_t2 k0_h14 => k0_hw1.1.2.2.2.2.2.2.2.2.2.2.2.2.2.2.2.2.2.2.2.2.1 k0_t2 k0_h14
theorem k0_off73_inb : ∀ (v4 : BitVec 32) (k0_hw1 : k0_chk1 v4) (k0_t3 : Fin k0_t3_loop.trips), ∀ (k0_h16 : k0_cond16 k0_t3 = 1#1), ∀ a, (k0_off73 v4 k0_t3) a + S1x1.size a ≤ S1x32.size a := fun v4 k0_hw1 k0_t3 k0_h16 => k0_hw1.1.2.2.2.2.2.2.2.2.2.2.2.2.2.2.2.2.2.2.2.2.2.1 k0_t3 k0_h16
theorem k0_off76_inb : ∀ (v4 : BitVec 32) (k0_hw1 : k0_chk1 v4) (k0_t3 : Fin k0_t3_loop.trips), ∀ a, (k0_off76 v4 k0_t3) a + S1x1.size a ≤ S1x32.size a := fun v4 k0_hw1 k0_t3 => k0_hw1.1.2.2.2.2.2.2.2.2.2.2.2.2.2.2.2.2.2.2.2.2.2.2.1 k0_t3
theorem k0_off79_inb : ∀ (v4 : BitVec 32) (k0_hw1 : k0_chk1 v4) (k0_t3 : Fin k0_t3_loop.trips), ∀ (k0_h17 : k0_cond17 k0_t3 = 1#1), ∀ a, (k0_off79 v4 k0_t3) a + S1x1.size a ≤ S1x32.size a := fun v4 k0_hw1 k0_t3 k0_h17 => k0_hw1.1.2.2.2.2.2.2.2.2.2.2.2.2.2.2.2.2.2.2.2.2.2.2.2.1 k0_t3 k0_h17
theorem k0_off82_inb : ∀ (v4 : BitVec 32) (k0_hw1 : k0_chk1 v4) (k0_t3 : Fin k0_t3_loop.trips), ∀ (k0_h18 : k0_cond18 k0_t3 = 1#1), ∀ a, (k0_off82 v4 k0_t3) a + S1x1.size a ≤ S1x32.size a := fun v4 k0_hw1 k0_t3 k0_h18 => k0_hw1.1.2.2.2.2.2.2.2.2.2.2.2.2.2.2.2.2.2.2.2.2.2.2.2.2.1 k0_t3 k0_h18
theorem k0_off85_inb : ∀ (v4 : BitVec 32) (k0_hw1 : k0_chk1 v4) (k0_t3 : Fin k0_t3_loop.trips), ∀ (k0_h19 : k0_cond19 k0_t3 = 1#1), ∀ a, (k0_off85 v4 k0_t3) a + S1x1.size a ≤ S1x32.size a := fun v4 k0_hw1 k0_t3 k0_h19 => k0_hw1.1.2.2.2.2.2.2.2.2.2.2.2.2.2.2.2.2.2.2.2.2.2.2.2.2.2.1 k0_t3 k0_h19
theorem k0_off88_inb : ∀ (v4 : BitVec 32) (k0_hw1 : k0_chk1 v4) (k0_t3 : Fin k0_t3_loop.trips), ∀ a, (k0_off88 v4 k0_t3) a + S1x1.size a ≤ S1x32.size a := fun v4 k0_hw1 k0_t3 => k0_hw1.1.2.2.2.2.2.2.2.2.2.2.2.2.2.2.2.2.2.2.2.2.2.2.2.2.2.2.1 k0_t3
theorem k0_off91_inb : ∀ (v4 : BitVec 32) (k0_hw1 : k0_chk1 v4) (k0_t3 : Fin k0_t3_loop.trips), ∀ (k0_h20 : k0_cond20 k0_t3 = 1#1), ∀ a, (k0_off91 v4 k0_t3) a + S1x1.size a ≤ S1x32.size a := fun v4 k0_hw1 k0_t3 k0_h20 => k0_hw1.1.2.2.2.2.2.2.2.2.2.2.2.2.2.2.2.2.2.2.2.2.2.2.2.2.2.2.2.1 k0_t3 k0_h20
theorem k0_off94_inb : ∀ (v4 : BitVec 32) (k0_hw1 : k0_chk1 v4) (k0_t3 : Fin k0_t3_loop.trips), ∀ (k0_h21 : k0_cond21 k0_t3 = 1#1), ∀ a, (k0_off94 v4 k0_t3) a + S1x1.size a ≤ S1x32.size a := fun v4 k0_hw1 k0_t3 k0_h21 => k0_hw1.1.2.2.2.2.2.2.2.2.2.2.2.2.2.2.2.2.2.2.2.2.2.2.2.2.2.2.2.2.1 k0_t3 k0_h21
theorem k0_off97_inb : ∀ (v4 : BitVec 32) (k0_hw1 : k0_chk1 v4) (k0_t3 : Fin k0_t3_loop.trips), ∀ (k0_h22 : k0_cond22 k0_t3 = 1#1), ∀ a, (k0_off97 v4 k0_t3) a + S1x1.size a ≤ S1x32.size a := fun v4 k0_hw1 k0_t3 k0_h22 => k0_hw1.1.2.2.2.2.2.2.2.2.2.2.2.2.2.2.2.2.2.2.2.2.2.2.2.2.2.2.2.2.2.1 k0_t3 k0_h22
theorem k0_off99_inb : ∀ (v4 : BitVec 32) (k0_hw1 : k0_chk1 v4) (k0_t3 : Fin k0_t3_loop.trips), ∀ (k0_h22 : k0_cond22 k0_t3 = 1#1), ∀ a, (k0_off99 v4 k0_t3) a + S1x1.size a ≤ S1x32.size a := fun v4 k0_hw1 k0_t3 k0_h22 => k0_hw1.1.2.2.2.2.2.2.2.2.2.2.2.2.2.2.2.2.2.2.2.2.2.2.2.2.2.2.2.2.2.2.1 k0_t3 k0_h22
theorem k0_off101_inb : ∀ (v4 : BitVec 32) (k0_hw1 : k0_chk1 v4), ∀ a, (k0_off101 v4) a + S1x1.size a ≤ S1x32.size a := fun v4 k0_hw1 => k0_hw1.1.2.2.2.2.2.2.2.2.2.2.2.2.2.2.2.2.2.2.2.2.2.2.2.2.2.2.2.2.2.2.2
theorem k0_off103_inb : ∀ (v4 : BitVec 32) (k0_hw1 : k0_chk1 v4), ∀ a, (k0_off103 v4) a + S1x1.size a ≤ S1x32.size a := fun v4 k0_hw1 => k0_hw1.2.1
theorem k0_off105_inb : ∀ (v4 : BitVec 32) (k0_hw1 : k0_chk1 v4), ∀ a, (k0_off105 v4) a + S1x1.size a ≤ S1x32.size a := fun v4 k0_hw1 => k0_hw1.2.2.1
theorem k0_off109_inb : ∀ (v4 : BitVec 32) (k0_hw1 : k0_chk1 v4) (k0_t4 : Fin k0_t4_loop.trips), ∀ a, (k0_off109 v4 k0_t4) a + S1x1.size a ≤ S1x32.size a := fun v4 k0_hw1 k0_t4 => k0_hw1.2.2.2.1 k0_t4
theorem k0_off116_inb : ∀ (v4 : BitVec 32) (k0_hw1 : k0_chk1 v4) (k0_t4 : Fin k0_t4_loop.trips), ∀ (k0_h25 : k0_cond25 k0_t4 = 1#1), ∀ a, (k0_off116 v4 k0_t4) a + S1x1.size a ≤ S1x32.size a := fun v4 k0_hw1 k0_t4 k0_h25 => k0_hw1.2.2.2.2.1 k0_t4 k0_h25
theorem k0_off123_inb : ∀ (v4 : BitVec 32) (k0_hw1 : k0_chk1 v4) (k0_t4 : Fin k0_t4_loop.trips), ∀ a, (k0_off123 v4 k0_t4) a + S1x1.size a ≤ S1x32.size a := fun v4 k0_hw1 k0_t4 => k0_hw1.2.2.2.2.2.1 k0_t4
theorem k0_off130_inb : ∀ (v4 : BitVec 32) (k0_hw1 : k0_chk1 v4) (k0_t4 : Fin k0_t4_loop.trips), ∀ (k0_h28 : k0_cond28 k0_t4 = 1#1), ∀ a, (k0_off130 v4 k0_t4) a + S1x1.size a ≤ S1x32.size a := fun v4 k0_hw1 k0_t4 k0_h28 => k0_hw1.2.2.2.2.2.2.1 k0_t4 k0_h28
theorem k0_off135_inb : ∀ (v4 : BitVec 32) (k0_hw1 : k0_chk1 v4) (k0_t4 : Fin k0_t4_loop.trips), ∀ (k0_h29 : k0_cond29 k0_t4 = 1#1), ∀ a, (k0_off135 v4 k0_t4) a + S1x1.size a ≤ S1x32.size a := fun v4 k0_hw1 k0_t4 k0_h29 => k0_hw1.2.2.2.2.2.2.2.1 k0_t4 k0_h29
theorem k0_off137_inb : ∀ (v4 : BitVec 32) (k0_hw1 : k0_chk1 v4) (k0_t4 : Fin k0_t4_loop.trips), ∀ (k0_h29 : k0_cond29 k0_t4 = 1#1), ∀ a, (k0_off137 v4 k0_t4) a + S1x1.size a ≤ S1x32.size a := fun v4 k0_hw1 k0_t4 k0_h29 => k0_hw1.2.2.2.2.2.2.2.2.1 k0_t4 k0_h29
theorem k0_off141_inb : ∀ (v4 : BitVec 32) (k0_hw1 : k0_chk1 v4) (k0_t5 : Fin k0_t5_loop.trips), ∀ (k0_h31 : k0_cond31 k0_t5 = 1#1), ∀ a, (k0_off141 v4 k0_t5) a + S1x1.size a ≤ S1x32.size a := fun v4 k0_hw1 k0_t5 k0_h31 => k0_hw1.2.2.2.2.2.2.2.2.2.1 k0_t5 k0_h31
theorem k0_off144_inb : ∀ (v4 : BitVec 32) (k0_hw1 : k0_chk1 v4) (k0_t5 : Fin k0_t5_loop.trips), ∀ a, (k0_off144 v4 k0_t5) a + S1x1.size a ≤ S1x32.size a := fun v4 k0_hw1 k0_t5 => k0_hw1.2.2.2.2.2.2.2.2.2.2.1 k0_t5
theorem k0_off147_inb : ∀ (v4 : BitVec 32) (k0_hw1 : k0_chk1 v4) (k0_t5 : Fin k0_t5_loop.trips), ∀ (k0_h32 : k0_cond32 k0_t5 = 1#1), ∀ a, (k0_off147 v4 k0_t5) a + S1x1.size a ≤ S1x32.size a := fun v4 k0_hw1 k0_t5 k0_h32 => k0_hw1.2.2.2.2.2.2.2.2.2.2.2.1 k0_t5 k0_h32
theorem k0_off150_inb : ∀ (v4 : BitVec 32) (k0_hw1 : k0_chk1 v4) (k0_t5 : Fin k0_t5_loop.trips), ∀ (k0_h33 : k0_cond33 k0_t5 = 1#1), ∀ a, (k0_off150 v4 k0_t5) a + S1x1.size a ≤ S1x32.size a := fun v4 k0_hw1 k0_t5 k0_h33 => k0_hw1.2.2.2.2.2.2.2.2.2.2.2.2.1 k0_t5 k0_h33
theorem k0_off153_inb : ∀ (v4 : BitVec 32) (k0_hw1 : k0_chk1 v4) (k0_t5 : Fin k0_t5_loop.trips), ∀ (k0_h34 : k0_cond34 k0_t5 = 1#1), ∀ a, (k0_off153 v4 k0_t5) a + S1x1.size a ≤ S1x32.size a := fun v4 k0_hw1 k0_t5 k0_h34 => k0_hw1.2.2.2.2.2.2.2.2.2.2.2.2.2.1 k0_t5 k0_h34
theorem k0_off156_inb : ∀ (v4 : BitVec 32) (k0_hw1 : k0_chk1 v4) (k0_t5 : Fin k0_t5_loop.trips), ∀ a, (k0_off156 v4 k0_t5) a + S1x1.size a ≤ S1x32.size a := fun v4 k0_hw1 k0_t5 => k0_hw1.2.2.2.2.2.2.2.2.2.2.2.2.2.2.1 k0_t5
theorem k0_off159_inb : ∀ (v4 : BitVec 32) (k0_hw1 : k0_chk1 v4) (k0_t5 : Fin k0_t5_loop.trips), ∀ (k0_h35 : k0_cond35 k0_t5 = 1#1), ∀ a, (k0_off159 v4 k0_t5) a + S1x1.size a ≤ S1x32.size a := fun v4 k0_hw1 k0_t5 k0_h35 => k0_hw1.2.2.2.2.2.2.2.2.2.2.2.2.2.2.2.1 k0_t5 k0_h35
theorem k0_off162_inb : ∀ (v4 : BitVec 32) (k0_hw1 : k0_chk1 v4) (k0_t5 : Fin k0_t5_loop.trips), ∀ (k0_h36 : k0_cond36 k0_t5 = 1#1), ∀ a, (k0_off162 v4 k0_t5) a + S1x1.size a ≤ S1x32.size a := fun v4 k0_hw1 k0_t5 k0_h36 => k0_hw1.2.2.2.2.2.2.2.2.2.2.2.2.2.2.2.2.1 k0_t5 k0_h36
theorem k0_off165_inb : ∀ (v4 : BitVec 32) (k0_hw1 : k0_chk1 v4) (k0_t5 : Fin k0_t5_loop.trips), ∀ (k0_h37 : k0_cond37 k0_t5 = 1#1), ∀ a, (k0_off165 v4 k0_t5) a + S1x1.size a ≤ S1x32.size a := fun v4 k0_hw1 k0_t5 k0_h37 => k0_hw1.2.2.2.2.2.2.2.2.2.2.2.2.2.2.2.2.2.1 k0_t5 k0_h37
theorem k0_off167_inb : ∀ (v4 : BitVec 32) (k0_hw1 : k0_chk1 v4) (k0_t5 : Fin k0_t5_loop.trips), ∀ (k0_h37 : k0_cond37 k0_t5 = 1#1), ∀ a, (k0_off167 v4 k0_t5) a + S1x1.size a ≤ S1x32.size a := fun v4 k0_hw1 k0_t5 k0_h37 => k0_hw1.2.2.2.2.2.2.2.2.2.2.2.2.2.2.2.2.2.2.1 k0_t5 k0_h37
theorem k0_off169_inb : ∀ (v4 : BitVec 32) (k0_hw1 : k0_chk1 v4), ∀ a, (k0_off169 v4) a + S1x1.size a ≤ S1x32.size a := fun v4 k0_hw1 => k0_hw1.2.2.2.2.2.2.2.2.2.2.2.2.2.2.2.2.2.2.2.1
theorem k0_off171_inb : ∀ (v4 : BitVec 32) (k0_hw1 : k0_chk1 v4), ∀ a, (k0_off171 v4) a + S1x1.size a ≤ S1x32.size a := fun v4 k0_hw1 => k0_hw1.2.2.2.2.2.2.2.2.2.2.2.2.2.2.2.2.2.2.2.2.1
theorem k0_off173_inb : ∀ (v4 : BitVec 32) (k0_hw1 : k0_chk1 v4), ∀ a, (k0_off173 v4) a + S1x1.size a ≤ S1x32.size a := fun v4 k0_hw1 => k0_hw1.2.2.2.2.2.2.2.2.2.2.2.2.2.2.2.2.2.2.2.2.2.1
theorem k0_off177_inb : ∀ (v4 : BitVec 32) (k0_hw1 : k0_chk1 v4) (k0_t6 : Fin k0_t6_loop.trips), ∀ a, (k0_off177 v4 k0_t6) a + S1x1.size a ≤ S1x32.size a := fun v4 k0_hw1 k0_t6 => k0_hw1.2.2.2.2.2.2.2.2.2.2.2.2.2.2.2.2.2.2.2.2.2.2.1 k0_t6
theorem k0_off184_inb : ∀ (v4 : BitVec 32) (k0_hw1 : k0_chk1 v4) (k0_t6 : Fin k0_t6_loop.trips), ∀ (k0_h40 : k0_cond40 k0_t6 = 1#1), ∀ a, (k0_off184 v4 k0_t6) a + S1x1.size a ≤ S1x32.size a := fun v4 k0_hw1 k0_t6 k0_h40 => k0_hw1.2.2.2.2.2.2.2.2.2.2.2.2.2.2.2.2.2.2.2.2.2.2.2.1 k0_t6 k0_h40
theorem k0_off191_inb : ∀ (v4 : BitVec 32) (k0_hw1 : k0_chk1 v4) (k0_t6 : Fin k0_t6_loop.trips), ∀ a, (k0_off191 v4 k0_t6) a + S1x1.size a ≤ S1x32.size a := fun v4 k0_hw1 k0_t6 => k0_hw1.2.2.2.2.2.2.2.2.2.2.2.2.2.2.2.2.2.2.2.2.2.2.2.2.1 k0_t6
theorem k0_off198_inb : ∀ (v4 : BitVec 32) (k0_hw1 : k0_chk1 v4) (k0_t6 : Fin k0_t6_loop.trips), ∀ (k0_h43 : k0_cond43 k0_t6 = 1#1), ∀ a, (k0_off198 v4 k0_t6) a + S1x1.size a ≤ S1x32.size a := fun v4 k0_hw1 k0_t6 k0_h43 => k0_hw1.2.2.2.2.2.2.2.2.2.2.2.2.2.2.2.2.2.2.2.2.2.2.2.2.2.1 k0_t6 k0_h43
theorem k0_off203_inb : ∀ (v4 : BitVec 32) (k0_hw1 : k0_chk1 v4) (k0_t6 : Fin k0_t6_loop.trips), ∀ (k0_h44 : k0_cond44 k0_t6 = 1#1), ∀ a, (k0_off203 v4 k0_t6) a + S1x1.size a ≤ S1x32.size a := fun v4 k0_hw1 k0_t6 k0_h44 => k0_hw1.2.2.2.2.2.2.2.2.2.2.2.2.2.2.2.2.2.2.2.2.2.2.2.2.2.2.1 k0_t6 k0_h44
theorem k0_off205_inb : ∀ (v4 : BitVec 32) (k0_hw1 : k0_chk1 v4) (k0_t6 : Fin k0_t6_loop.trips), ∀ (k0_h44 : k0_cond44 k0_t6 = 1#1), ∀ a, (k0_off205 v4 k0_t6) a + S1x1.size a ≤ S1x32.size a := fun v4 k0_hw1 k0_t6 k0_h44 => k0_hw1.2.2.2.2.2.2.2.2.2.2.2.2.2.2.2.2.2.2.2.2.2.2.2.2.2.2.2 k0_t6 k0_h44

def k0_off206 (v419 : BitVec 32) : Fin 2 → Nat :=
  let c64_i32_370 : BitVec 32 := 64#32
  let v420 : BitVec 32 := Scalar.muli v419 c64_i32_370
  let v421 : Index := Scalar.indexCast v420
  let c0_371 : Index := 0#32
  ![v421.toNat, 0]

def k0_chk60 (k0_t6 : Fin k0_t6_loop.trips) (v419 : BitVec 32) : Prop :=
  (∀ (k0_h44 : k0_cond44 k0_t6 = 1#1), ∀ a, (k0_off206 v419) a + S64x1024.size a ≤ S2048x1024.size a)
theorem k0_off206_inb : ∀ (k0_t6 : Fin k0_t6_loop.trips) (v419 : BitVec 32) (k0_hw60 : k0_chk60 k0_t6 v419), ∀ (k0_h44 : k0_cond44 k0_t6 = 1#1), ∀ a, (k0_off206 v419) a + S64x1024.size a ≤ S2048x1024.size a := fun k0_t6 v419 k0_hw60 k0_h44 => k0_hw60 k0_h44

def k0_cond45 (k0_t6 : Fin k0_t6_loop.trips) : BitVec 1 :=
  let c0_i32_248 : BitVec 32 := 0#32
  let c1_i32_250 : BitVec 32 := 1#32
  let arg24 : BitVec 32 := Scf.iv c0_i32_248 c1_i32_250 k0_t6
  let c7_i32_350 : BitVec 32 := 7#32
  let v389 : BitVec 1 := Scalar.cmpi .eq arg24 c7_i32_350
  let v390 : BitVec 32 := Scalar.extui v389
  let c0_i32_351 : BitVec 32 := 0#32
  let v391 : BitVec 1 := Scalar.cmpi .ne v390 c0_i32_351
  v391

def k0_off207 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c64_i32_352 : BitVec 32 := 64#32
  let v392 : BitVec 32 := Scalar.muli v2 c64_i32_352
  let v393 : Index := Scalar.indexCast v392
  let c0_353 : Index := 0#32
  ![v393.toNat, 0]
def k0_off208 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c64_i32_282 : BitVec 32 := 64#32
  let v288 : BitVec 32 := Scalar.muli v2 c64_i32_282
  let v289 : Index := Scalar.indexCast v288
  let c0_283 : Index := 0#32
  ![v289.toNat, 0]
abbrev stage0_0 : Fin 1 → Memref sig .tc .smem S1x32 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S1x32 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S64x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1024x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2048x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2048x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2048x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S64x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== ReferenceIdeal.lean ====
abbrev S2048x1024 : Shape := ⟨2, ![2048, 1024]⟩
abbrev S1024x65536 : Shape := ⟨2, ![1024, 65536]⟩
abbrev S65536x1024 : Shape := ⟨2, ![65536, 1024]⟩
abbrev S2048x65536 : Shape := ⟨2, ![2048, 65536]⟩
abbrev S_ : Shape := ⟨0, ![]⟩

abbrev nBuf : Space → Nat
  | .hbm => 29
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x65536, .bf16⟩
  | .hbm, ⟨2, _⟩ => ⟨S1024x65536, .bf16⟩
  | .hbm, ⟨3, _⟩ => ⟨S1024x65536, .bf16⟩
  | .hbm, ⟨4, _⟩ => ⟨S65536x1024, .bf16⟩
  | .hbm, ⟨5, _⟩ => ⟨S65536x1024, .bf16⟩
  | .hbm, ⟨6, _⟩ => ⟨S65536x1024, .bf16⟩
  | .hbm, ⟨7, _⟩ => ⟨S2048x1024, .f32⟩
  | .hbm, ⟨8, _⟩ => ⟨S1024x65536, .f32⟩
  | .hbm, ⟨9, _⟩ => ⟨S2048x65536, .f32⟩
  | .hbm, ⟨10, _⟩ => ⟨S_, .f32⟩
  | .hbm, ⟨11, _⟩ => ⟨S2048x65536, .f32⟩
  | .hbm, ⟨12, _⟩ => ⟨S2048x65536, .f32⟩
  | .hbm, ⟨13, _⟩ => ⟨S65536x1024, .f32⟩
  | .hbm, ⟨14, _⟩ => ⟨S2048x1024, .f32⟩
  | .hbm, ⟨15, _⟩ => ⟨S1024x65536, .f32⟩
  | .hbm, ⟨16, _⟩ => ⟨S2048x65536, .f32⟩
  | .hbm, ⟨17, _⟩ => ⟨S_, .f32⟩
  | .hbm, ⟨18, _⟩ => ⟨S2048x65536, .f32⟩
  | .hbm, ⟨19, _⟩ => ⟨S2048x65536, .f32⟩
  | .hbm, ⟨20, _⟩ => ⟨S65536x1024, .f32⟩
  | .hbm, ⟨21, _⟩ => ⟨S2048x1024, .f32⟩
  | .hbm, ⟨22, _⟩ => ⟨S1024x65536, .f32⟩
  | .hbm, ⟨23, _⟩ => ⟨S2048x65536, .f32⟩
  | .hbm, ⟨24, _⟩ => ⟨S_, .f32⟩
  | .hbm, ⟨25, _⟩ => ⟨S2048x65536, .f32⟩
  | .hbm, ⟨26, _⟩ => ⟨S2048x65536, .f32⟩
  | .hbm, ⟨27, _⟩ => ⟨S65536x1024, .f32⟩
  | .hbm, ⟨28, _⟩ => ⟨S2048x1024, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_1 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩

abbrev nD : Nat := 1
abbrev τ : Topo := Topo.v7x

variable {F : FTy → Type} [FloatOps F]
-- ==== Proof.Ring.lean ====
/-
# The ring the kernel walks, and the numbers of its copies

The kernel reads the order of the ring from two tables: position `k` of the ring is device `lit0 k`,
and device `c` stands at position `lit1 c`. `blk c k` is the device `k` places after `c` on that ring;
it is also the number of the row block which that device owns.

Every copy a device starts has a number `m < 384`: `m = 128 l + 64 ph + 4 s + 2 h + d`, where `l` is the layer,
`ph` is 0 for the gathering loop and 1 for the reducing loop, `s` is the trip, `h` the half of the rows and
`d` the direction (0: the right-going copy of the gathering loop, the left-going one of the reducing loop).
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.KernelIdeal.Mlp

open Cert.KernelIdeal Cert.KernelIdeal.Gen
open Idealize.ShloMosaic
open Idealize.ShloMosaic.TcCoe

/-! ## Places on the ring -/

/-- The position of a device on the ring. -/
def pos (c : Dev nD) : ℕ := (lit1 c).toNat

/-- The device at a position of the ring. -/
def at_ (k : ℕ) : Dev nD := ⟨(lit0 ⟨k % 32, Nat.mod_lt _ (by decide)⟩).toNat % 32, Nat.mod_lt _ (by decide)⟩

/-- The device `k` places after `c`. -/
def blk (c : Dev nD) (k : ℕ) : Dev nD := at_ (pos c + k)

theorem pos_lt (c : Dev nD) : pos c < 32 := by revert c; decide
theorem pos_at_fin : ∀ k : Fin 32, (lit1 ⟨(lit0 k).toNat % 32, Nat.mod_lt _ (by decide)⟩).toNat = k.val := by decide
theorem pos_at (k : ℕ) : pos (at_ k) = k % 32 := pos_at_fin ⟨k % 32, Nat.mod_lt _ (by decide)⟩
theorem at_pos (c : Dev nD) : at_ (pos c) = c := by revert c; decide
theorem at_mod (k : ℕ) : at_ (k % 32) = at_ k := by
  unfold at_; simp only [Nat.mod_mod]
theorem at_congr {j k : ℕ} (h : j % 32 = k % 32) : at_ j = at_ k := by rw [← at_mod j, h, at_mod]
theorem at_inj {j k : ℕ} (h : at_ j = at_ k) : j % 32 = k % 32 := by rw [← pos_at, ← pos_at, h]
theorem pos_blk (c : Dev nD) (k : ℕ) : pos (blk c k) = (pos c + k) % 32 := pos_at _
theorem blk_zero (c : Dev nD) : blk c 0 = c := at_pos c
theorem blk_add (c : Dev nD) (i j : ℕ) : blk (blk c i) j = blk c (i + j) := by
  rw [blk, pos_blk, blk]; exact at_congr (by omega)
theorem blk_congr (c : Dev nD) {j k : ℕ} (h : j % 32 = k % 32) : blk c j = blk c k := at_congr (by omega)
theorem blk_inj (c : Dev nD) {j k : ℕ} (h : blk c j = blk c k) : j % 32 = k % 32 := by
  have := at_inj h; omega
theorem blk_full (c : Dev nD) {k : ℕ} (h : k % 32 = 0) : blk c k = c := by
  rw [blk_congr c (k := 0) (by omega), blk_zero]

/-- The neighbours. -/
def rt (c : Dev nD) : Dev nD := blk c 1
def lf (c : Dev nD) : Dev nD := blk c 31
theorem rt_lf (c : Dev nD) : rt (lf c) = c := by rw [rt, lf, blk_add, blk_full _ (by decide)]
theorem lf_rt (c : Dev nD) : lf (rt c) = c := by rw [rt, lf, blk_add, blk_full _ (by decide)]
theorem rt_ne_lf (c : Dev nD) : rt c ≠ lf c := fun h => by have := blk_inj c h; omega
theorem rt_ne (c : Dev nD) : rt c ≠ c := fun h => by
  have h' : blk c 1 = blk c 0 := h.trans (blk_zero c).symm
  have := blk_inj c h'; omega
theorem lf_ne (c : Dev nD) : lf c ≠ c := fun h => by
  have h' : blk c 31 = blk c 0 := h.trans (blk_zero c).symm
  have := blk_inj c h'; omega

/-! ## The table words -/

/-- A small number as the word the kernel computes with. -/
abbrev wd (n : ℕ) : BitVec 32 := BitVec.ofNat 32 n

theorem lit0_at_fin : ∀ k : Fin 32, lit0 k = wd (at_ k.val).val := by decide
theorem lit0_eq (k : ℕ) (h : k < 32) : lit0 ⟨k, h⟩ = wd (at_ k).val := lit0_at_fin ⟨k, h⟩
theorem lit1_eq (c : Dev nD) : lit1 c = wd (pos c) := by revert c; decide

/-! ## The copies -/

/-- A number stands for a copy: the last trip starts only the copies of direction 0. -/
abbrev Valid (m : ℕ) : Prop := m % 2 = 0 ∨ m % 64 / 4 ≠ 15

/-- The device a copy goes to. -/
def tgt (c : Dev nD) (m : ℕ) : Dev nD := if m % 2 = m % 128 / 64 then rt c else lf c
/-- The device a copy comes from. -/
def org (c : Dev nD) (m : ℕ) : Dev nD := if m % 2 = m % 128 / 64 then lf c else rt c
theorem tgt_org (c : Dev nD) (m : ℕ) : tgt (org c m) m = c := by
  unfold tgt org; split
  · exact rt_lf c
  · exact lf_rt c
theorem org_tgt (c : Dev nD) (m : ℕ) : org (tgt c m) m = c := by
  unfold tgt org; split
  · exact lf_rt c
  · exact rt_lf c
theorem tgt_congr (c : Dev nD) {m k : ℕ} (h : m % 128 = k % 128) : tgt c m = tgt c k := by
  unfold tgt; rw [h, show m % 2 = k % 2 by omega]

/-- The semaphore (of 142) the sender of a copy waits for: `18 > s ≥ 10`. -/
def sendNo (m : ℕ) : ℕ := (if m % 128 / 64 = 0 then (if m % 2 = 0 then 10 else 12) else (if m % 2 = 0 then 16 else 14)) + m % 4 / 2
/-- The semaphore the receiver of a copy waits for: one per trip, half, direction and loop. -/
def recvNo (m : ℕ) : ℕ :=
  if m % 128 / 64 = 0 then (if m % 2 = 0 then 18 + m % 4 / 2 * 16 else 50 + m % 4 / 2 * 15) + m % 64 / 4
  else (if m % 2 = 0 then 110 + m % 4 / 2 * 16 else 80 + m % 4 / 2 * 15) + m % 64 / 4

theorem sendNo_lt (m : ℕ) : sendNo m < 18 := by unfold sendNo; split <;> split <;> omega
theorem sendNo_ge (m : ℕ) : 10 ≤ sendNo m := by unfold sendNo; split <;> split <;> omega
theorem recvNo_lt (m : ℕ) : recvNo m < 142 := by unfold recvNo; split <;> split <;> omega
theorem recvNo_ge (m : ℕ) : 18 ≤ recvNo m := by unfold recvNo; split <;> split <;> omega

/-- The copy (of the first layer) that a receive semaphore counts. -/
def recvOf (q : ℕ) : ℕ :=
  if q < 50 then 4 * ((q - 18) % 16) + 2 * ((q - 18) / 16)
  else if q < 80 then 4 * ((q - 50) % 15) + 2 * ((q - 50) / 15) + 1
  else if q < 110 then 64 + 4 * ((q - 80) % 15) + 2 * ((q - 80) / 15) + 1
  else 64 + 4 * ((q - 110) % 16) + 2 * ((q - 110) / 16)

theorem recvOf_recvNo {m : ℕ} (hv : Valid m) : recvOf (recvNo m) = m % 128 := by
  unfold Valid at hv
  unfold recvNo recvOf
  rcases Nat.mod_two_eq_zero_or_one (m / 2) with h2 | h2 <;>
  rcases Nat.mod_two_eq_zero_or_one m with h1 | h1 <;>
  rcases Nat.mod_two_eq_zero_or_one (m / 64) with h3 | h3 <;>
  simp only [h1, show m % 128 / 64 = m / 64 % 2 by omega, h3, show m % 4 / 2 = m / 2 % 2 by omega, h2] <;>
  simp only [reduceIte, one_ne_zero, zero_mul, one_mul] <;>
  split_ifs <;> omega

theorem recvNo_congr {m k : ℕ} (h : m % 128 = k % 128) : recvNo m = recvNo k := by
  unfold recvNo; rw [h, show m % 2 = k % 2 by omega, show m % 4 = k % 4 by omega, show m % 64 = k % 64 by omega]
theorem recvNo_inj {m k : ℕ} (hm : Valid m) (hk : Valid k) (h : recvNo m = recvNo k) : m % 128 = k % 128 := by
  rw [← recvOf_recvNo hm, h, recvOf_recvNo hk]

/-- The send semaphore's class, by number: the residue `64 ph + 2 h + d`. -/
def sendOf (q : ℕ) : ℕ :=
  if q < 12 then 2 * (q - 10) else if q < 14 then 2 * (q - 12) + 1 else if q < 16 then 64 + 2 * (q - 14) + 1 else 64 + 2 * (q - 16)
theorem sendOf_sendNo (m : ℕ) : sendOf (sendNo m) = m % 128 / 64 * 64 + m % 4 := by
  unfold sendNo sendOf
  rcases Nat.mod_two_eq_zero_or_one (m / 2) with h2 | h2 <;>
  rcases Nat.mod_two_eq_zero_or_one m with h1 | h1 <;>
  rcases Nat.mod_two_eq_zero_or_one (m / 64) with h3 | h3 <;>
  simp only [h1, show m % 128 / 64 = m / 64 % 2 by omega, h3, show m % 4 / 2 = m / 2 % 2 by omega, h2] <;>
  simp only [reduceIte, one_ne_zero, zero_mul, one_mul] <;>
  split_ifs <;> omega

/-- The round of its send semaphore in which a copy completes: the copies of a class follow one another. -/
def sendRnd (m : ℕ) : ℕ := if m % 2 = 0 then m / 128 * 16 + m % 64 / 4 else m / 128 * 15 + m % 64 / 4
/-- The copy of class `i` in round `r`. -/
def sendOp (i r : ℕ) : ℕ := if i % 2 = 0 then 128 * (r / 16) + 4 * (r % 16) + i else 128 * (r / 15) + 4 * (r % 15) + i
theorem sendOp_sendRnd {m : ℕ} (hv : Valid m) : sendOp (m % 128 / 64 * 64 + m % 4) (sendRnd m) = m := by
  unfold Valid at hv
  unfold sendOp sendRnd
  split_ifs <;> omega

/-- The copy for which the arrival of copy `m` brings leave: the opposite copy of the same trip in the reducing loop,
    the copy of the mirrored trip in the next layer's gathering loop. -/
def gr (m : ℕ) : ℕ :=
  if m % 128 / 64 = 0 then m + 64
  else if m % 2 = 0 then 128 * (m / 128) + 128 + 4 * (15 - m % 64 / 4) + m % 4
  else 128 * (m / 128) + 128 + 4 * (14 - m % 64 / 4) + m % 4
/-- The copy whose arrival brings leave for `m` (for a copy of the first gathering loop, the barrier does). -/
def grInv (m : ℕ) : ℕ :=
  if m % 128 / 64 = 1 then m - 64
  else if m % 2 = 0 then 128 * (m / 128) - 64 + 4 * (15 - m % 64 / 4) + m % 4
  else 128 * (m / 128) - 64 + 4 * (14 - m % 64 / 4) + m % 4

theorem gr_grInv {m : ℕ} (hv : Valid m) (h : 64 ≤ m) : gr (grInv m) = m := by
  unfold Valid at hv; unfold gr grInv; split_ifs <;> omega
theorem grInv_gr {m : ℕ} (hv : Valid m) : grInv (gr m) = m := by
  unfold Valid at hv; unfold gr grInv; split_ifs <;> omega
theorem valid_gr {m : ℕ} (hv : Valid m) : Valid (gr m) := by
  unfold Valid at *; unfold gr; split_ifs <;> omega
theorem valid_grInv {m : ℕ} (hv : Valid m) (h : 64 ≤ m) : Valid (grInv m) := by
  unfold Valid at *; unfold grInv; split_ifs <;> omega
theorem grInv_lt {m : ℕ} (h : 64 ≤ m) : grInv m + 4 ≤ m := by
  unfold grInv; split_ifs <;> omega
theorem gr_ge (m : ℕ) : m + 4 ≤ gr m := by
  unfold gr; split_ifs <;> omega
theorem gr_par {m : ℕ} : gr m % 2 = m % 2 := by unfold gr; split_ifs <;> omega
theorem gr_half {m : ℕ} : gr m % 4 = m % 4 := by unfold gr; split_ifs <;> omega
theorem gr_loop {m : ℕ} (hv : Valid m) : gr m % 128 / 64 = 1 - m % 128 / 64 := by
  unfold Valid at hv; unfold gr; split_ifs <;> omega
/-- The leave is for a copy in the opposite direction. -/
theorem tgt_gr (c : Dev nD) {m : ℕ} (hv : Valid m) : tgt (tgt c m) (gr m) = c := by
  have h1 := gr_par (m := m)
  have h2 := gr_loop hv
  unfold tgt
  rw [h1, h2]
  have h3 : m % 128 / 64 = 0 ∨ m % 128 / 64 = 1 := by omega
  have h4 : m % 2 = 0 ∨ m % 2 = 1 := by omega
  rcases h3 with h3 | h3 <;> rcases h4 with h4 | h4 <;> rw [h3, h4] <;> simp [rt_lf, lf_rt]

end Cert.KernelIdeal.Mlp
-- ==== Proof.Sched.lean ====
/-
# What the copies carry, and the schedule of every semaphore

Contents first: what the devices' row blocks, partial products and running sums are (`Vals`), as functions of the
arguments' blocks. Then, for each semaphore and round, what its waiter receives:

* a send semaphore hands the copy's source back;
* a receive semaphore hands over the landed rows at their contents and, where the mirrored copy needs it, leave to
  write the region of the sender which the sender has just finished with;
* the barrier hands over, from each neighbour, leave for all copies of the first gathering loop in its direction.
-/
module

public import proofs.«01_k».proof.Proof.Ring

@[expose] public section

noncomputable section

namespace Cert.KernelIdeal.Mlp

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev UB : Type := URounds (GSem nD τ sig) Bool
abbrev UU : Type := UR sig nD τ × UB

local notation "𝕄" => MT nD τ sig ℕ (Elt F) ℕ UU ℕ

abbrev EP : Emb (UR sig nD τ) (MT nD τ sig ℕ (Elt F) ℕ UU ℕ) := embL
abbrev ER : Emb UB (MT nD τ sig ℕ (Elt F) ℕ UU ℕ) := embR

/-! ## Contents -/

/-- A row block of one layer's input. -/
abbrev Row (F : FTy → Type) : Type := S64x1024.Idx → F .bf16

/-- The arguments' blocks, by device: the rows, and each layer's two weight blocks. -/
structure Vals (F : FTy → Type) where
  x : Dev nD → Row F
  wi : ℕ → Dev nD → S1024x2048.Idx → F .bf16
  wo : ℕ → Dev nD → S2048x1024.Idx → F .bf16

/-- What device `c` adds to row block `b` in layer `l`: its slice of the hidden columns. -/
def Vals.part (D : Vals F) (X : Dev nD → Row F) (l : ℕ) (c b : Dev nD) : S64x1024.Idx → F .f32 := k0_pay2 (X b) (D.wi l c) (D.wo l c)

def cut (a : F .f32) : F .bf16 := FloatOps.truncf .bf16 bitsLt_bf16_f32 a
def wide (a : F .bf16) : F .f32 := FloatOps.extf .f32 bitsLt_bf16_f32 a

/-- The running sum device `c` sends left in trip `s`: for the block 16 + s places on. -/
def Vals.sumL (D : Vals F) (X : Dev nD → Row F) (l : ℕ) : ℕ → Dev nD → Row F
  | 0, c => fun i => cut (D.part X l c (blk c 16) i)
  | s + 1, c => fun i => cut (FloatOps.addf (D.part X l c (blk c (16 + (s + 1))) i) (wide (D.sumL X l s (rt c) i)))
/-- The running sum device `c` sends right in trip `s`: for the block 15 - s places on. -/
def Vals.sumR (D : Vals F) (X : Dev nD → Row F) (l : ℕ) : ℕ → Dev nD → Row F
  | 0, c => fun i => cut (D.part X l c (blk c 15) i)
  | s + 1, c => fun i => cut (FloatOps.addf (D.part X l c (blk c (47 - (s + 1))) i) (wide (D.sumR X l s (lf c) i)))

/-- A layer's finished row block on its owner: its own part and the two running sums that reach it last. -/
def Vals.fin (D : Vals F) (X : Dev nD → Row F) (l : ℕ) (c : Dev nD) : S64x1024.Idx → F .f32 := fun i =>
  FloatOps.addf (FloatOps.addf (D.part X l c c i) (wide (D.sumR X l 14 (lf c) i))) (wide (D.sumL X l 15 (rt c) i))

/-- The input of layer `l`, by row block. -/
def Vals.X (D : Vals F) : ℕ → Dev nD → Row F
  | 0 => D.x
  | l + 1 => fun c i => cut (D.fin (D.X l) l c i)

/-! ## The buffers' rows -/

section Rows
variable {α : Type}

/-- A buffer of 2048 rows, block by block. -/
def rows2048 (f : Dev nD → S64x1024.Idx → α) : S2048x1024.Idx → α := fun i =>
  f ⟨(i 0).val / 64, (Nat.div_lt_iff_lt_mul (by decide)).2 (i 0).isLt⟩ (Shape.pair (d := ![64, 1024]) ⟨(i 0).val % 64, Nat.mod_lt _ (by decide)⟩ (i 1))
def rows1024 (f : ℕ → S64x1024.Idx → α) : S1024x1024.Idx → α := fun i =>
  f ((i 0).val / 64) (Shape.pair (d := ![64, 1024]) ⟨(i 0).val % 64, Nat.mod_lt _ (by decide)⟩ (i 1))
def rows960 (f : ℕ → S64x1024.Idx → α) : S960x1024.Idx → α := fun i =>
  f ((i 0).val / 64) (Shape.pair (d := ![64, 1024]) ⟨(i 0).val % 64, Nat.mod_lt _ (by decide)⟩ (i 1))

end Rows

/-- Half `h` of row block `b`. -/
def xReg (b : Dev nD) (h : ℕ) : Finset S2048x1024.Idx := Finset.univ.filter fun i => (i 0).val / 32 = 2 * b.val + h
def slReg (s h : ℕ) : Finset S1024x1024.Idx := Finset.univ.filter fun i => (i 0).val / 32 = 2 * s + h
def srReg (s h : ℕ) : Finset S960x1024.Idx := Finset.univ.filter fun i => (i 0).val / 32 = 2 * s + h
def sbReg (h : ℕ) : Finset S64x1024.Idx := Finset.univ.filter fun i => (i 0).val / 32 = h

def xPts (c : Dev nD) (b : Dev nD) (h : ℕ) (q : PosShare TreeShare) (f : S2048x1024.Idx → F .bf16) : sProp 𝕄 :=
  ((c : Thread nD τ).loc cc0_scratch0) ↦[xReg b h]{q} (show Buf (Elt F) ((c : Thread nD τ).loc cc0_scratch0) from f)
def slPts (c : Dev nD) (s h : ℕ) (q : PosShare TreeShare) (f : S1024x1024.Idx → F .bf16) : sProp 𝕄 :=
  ((c : Thread nD τ).loc cc0_scratch5) ↦[slReg s h]{q} (show Buf (Elt F) ((c : Thread nD τ).loc cc0_scratch5) from f)
def srPts (c : Dev nD) (s h : ℕ) (q : PosShare TreeShare) (f : S960x1024.Idx → F .bf16) : sProp 𝕄 :=
  ((c : Thread nD τ).loc cc0_scratch4) ↦[srReg s h]{q} (show Buf (Elt F) ((c : Thread nD τ).loc cc0_scratch4) from f)
/-- Half `h` of the buffer the left-going sums are sent from. -/
def blPts (c : Dev nD) (h : ℕ) (f : S64x1024.Idx → F .bf16) : sProp 𝕄 :=
  ((c : Thread nD τ).loc cc0_scratch3) ↦[sbReg h]{fullShare} (show Buf (Elt F) ((c : Thread nD τ).loc cc0_scratch3) from f)
/-- Half `h` of the buffer the right-going sums are sent from. -/
def brPts (c : Dev nD) (h : ℕ) (f : S64x1024.Idx → F .bf16) : sProp 𝕄 :=
  ((c : Thread nD τ).loc cc0_scratch2) ↦[sbReg h]{fullShare} (show Buf (Elt F) ((c : Thread nD τ).loc cc0_scratch2) from f)

/-! ## Cells, regions and what a landing hands over -/

abbrev bar (c : Dev nD) : GSem nD τ sig := ((c : Thread nD τ), .reg barrier0)
abbrev sendSem (m : ℕ) : DmaSem sig := (⟨sendNo m, (sendNo_lt m).trans (by decide)⟩ : Fin 142)
abbrev recvSem (m : ℕ) : DmaSem sig := (⟨recvNo m, recvNo_lt m⟩ : Fin 142)
abbrev sendC (c : Dev nD) (m : ℕ) : GSem nD τ sig := ((c : Thread nD τ), .dma (sendSem m))
abbrev recvC (c : Dev nD) (m : ℕ) : GSem nD τ sig := ((c : Thread nD τ), .dma (recvSem m))

/-- The block in which copy `m` lands at device `c`. -/
def xDst (c : Dev nD) (m : ℕ) : Dev nD := if m % 2 = 0 then blk c (31 - m % 64 / 4) else blk c (1 + m % 64 / 4)
/-- The block which device `c` sends as copy `m`. -/
def xSrc (c : Dev nD) (m : ℕ) : Dev nD := if m % 2 = 0 then blk c (32 - m % 64 / 4) else blk c (m % 64 / 4)

/-- The share of a landing region that its owner keeps or lends: the reducing loop's first slot is held in two halves,
    one of them in an invariant, as a device loads that slot (and drops what it read) while a copy may be landing there. -/
abbrev slotSh (m : ℕ) : PosShare TreeShare := if m % 64 / 4 = 0 then fullShare.left else fullShare
/-- The two tokens that tell which side may open the first slot's invariant. -/
def wTok (c : Dev nD) (m : ℕ) : sProp 𝕄 := dutyTok ER (recvC c m) 8 false
def tTok (c : Dev nD) (m : ℕ) : sProp 𝕄 := dutyTok ER (recvC c m) 7 false
def wIf (c : Dev nD) (m : ℕ) : sProp 𝕄 := if m % 64 / 4 = 0 then wTok (F := F) c m else iprop(emp)

/-- Copy `m`'s slot at device `c` in the reducing loop, at contents `f` (of whichever of the two buffers). -/
def slotPts (c : Dev nD) (m : ℕ) (q : PosShare TreeShare) (f : ℕ → Row F) : sProp 𝕄 :=
  if m % 2 = 0 then slPts c (m % 64 / 4) (m % 4 / 2) q (rows1024 f) else srPts c (m % 64 / 4) (m % 4 / 2) q (rows960 f)
def slotAny (c : Dev nD) (m : ℕ) (q : PosShare TreeShare) : sProp 𝕄 :=
  if m % 2 = 0 then iprop(∃ f, slPts (F := F) c (m % 64 / 4) (m % 4 / 2) q f) else iprop(∃ f, srPts (F := F) c (m % 64 / 4) (m % 4 / 2) q f)

/-- What the running sums are that reach device `c` in layer `l`, slot by slot, in copy `m`'s direction. -/
def sumTo (D : Vals F) (l : ℕ) (c : Dev nD) (m : ℕ) : ℕ → Row F := fun s =>
  if m % 2 = 0 then D.sumL (D.X l) l s (rt c) else D.sumR (D.X l) l s (lf c)

/-- The region where copy `m` lands at device `c`, as it is before. -/
def spare (c : Dev nD) (m : ℕ) : sProp 𝕄 :=
  if m % 128 / 64 = 0 then iprop(∃ f, xPts (F := F) c (xDst c m) (m % 4 / 2) fullShare f)
  else iprop(slotAny (F := F) c m (slotSh m) ∗ wIf (F := F) c m)
/-- The same once it has landed. -/
def landed (D : Vals F) (c : Dev nD) (m : ℕ) : sProp 𝕄 :=
  if m % 128 / 64 = 0 then xPts c (xDst c m) (m % 4 / 2) fullShare (rows2048 (D.X (m / 128)))
  else iprop(slotPts c m (slotSh m) (sumTo D (m / 128) c m) ∗ wIf (F := F) c m)

/-- Leave for device `c` to start copy `m`: the region it writes, and that the target waits for it. -/
def leave (m : ℕ) (c : Dev nD) : sProp 𝕄 := iprop(spare (F := F) (tgt c m) m ∗ reached ER (recvC (tgt c m) m) (m / 128))

def recvPay (D : Vals F) (c : Dev nD) (m : ℕ) : sProp 𝕄 :=
  iprop(landed D c m ∗ (if m < 320 then leave (F := F) (gr m) c else iprop(emp)))

/-- The share of its source that a copy of the gathering loop takes along. -/
abbrev srcSh (m : ℕ) : PosShare TreeShare := if m % 64 / 4 = 0 ∧ m % 2 = 1 then fullShare.right.left else fullShare.left

def sendPay (D : Vals F) (c : Dev nD) (m : ℕ) : sProp 𝕄 :=
  if m % 128 / 64 = 0 then xPts c (xSrc c m) (m % 4 / 2) (srcSh m) (rows2048 (D.X (m / 128)))
  else if m % 2 = 0 then iprop(∃ f, blPts (F := F) c (m % 4 / 2) f) else iprop(∃ f, brPts (F := F) c (m % 4 / 2) f)

/-- The copies of the first gathering loop, by direction. -/
def firstOps (d : Bool) : Finset ℕ := (Finset.range 64).filter fun m => Valid m ∧ (m % 2 = 1 ↔ d = true)
def barPay (c : Dev nD) (d : Bool) : sProp 𝕄 := bigSep (firstOps d) fun m => leave (F := F) m c

instance slotPts_storable (c : Dev nD) (m : ℕ) (q) (f : ℕ → Row F) : BI.Storable (upEmb : UEmb _ 𝕄) (slotPts c m q f) := by
  unfold slotPts slPts srPts; split <;> infer_instance
instance slotAny_storable (c : Dev nD) (m : ℕ) (q) : BI.Storable (upEmb : UEmb _ 𝕄) (slotAny (F := F) c m q) := by
  unfold slotAny slPts srPts; split <;> infer_instance
instance wTok_storable (c : Dev nD) (m : ℕ) : BI.Storable (upEmb : UEmb _ 𝕄) (wTok (F := F) c m) := by
  unfold wTok; infer_instance
instance tTok_storable (c : Dev nD) (m : ℕ) : BI.Storable (upEmb : UEmb _ 𝕄) (tTok (F := F) c m) := by
  unfold tTok; infer_instance
instance wIf_storable (c : Dev nD) (m : ℕ) : BI.Storable (upEmb : UEmb _ 𝕄) (wIf (F := F) c m) := by
  unfold wIf; split <;> infer_instance
instance spare_storable (c : Dev nD) (m : ℕ) : BI.Storable (upEmb : UEmb _ 𝕄) (spare (F := F) c m) := by
  unfold spare xPts; split <;> infer_instance
instance landed_storable (D : Vals F) (c : Dev nD) (m : ℕ) : BI.Storable (upEmb : UEmb _ 𝕄) (landed D c m) := by
  unfold landed xPts; split <;> infer_instance
instance leave_storable (m : ℕ) (c : Dev nD) : BI.Storable (upEmb : UEmb _ 𝕄) (leave (F := F) m c) := by
  unfold leave; infer_instance
instance recvPay_storable (D : Vals F) (c : Dev nD) (m : ℕ) : BI.Storable (upEmb : UEmb _ 𝕄) (recvPay D c m) := by
  unfold recvPay; split <;> infer_instance
instance sendPay_storable (D : Vals F) (c : Dev nD) (m : ℕ) : BI.Storable (upEmb : UEmb _ 𝕄) (sendPay D c m) := by
  unfold sendPay xPts blPts brPts; (repeat' split) <;> infer_instance
instance barPay_storable (c : Dev nD) (d : Bool) : BI.Storable (upEmb : UEmb _ 𝕄) (barPay (F := F) c d) := by
  unfold barPay; infer_instance

/-! ## The schedule -/

/-- What one copy of half a row block credits. -/
abbrev Nc : ℕ := ((Memref.whole cc0_scratch3).slice (Rect.unit (s := S64x1024) ![0, 0] S32x1024.size inb_S64x1024_S32x1024_0_0) (fun _ => rfl)).view.dmaCredit
theorem Nc_pos : 0 < Nc := View.dmaCredit_pos _ (by decide)

/-- How many rounds a copy semaphore has. -/
def rounds (q : ℕ) : ℕ := if q < 10 then 0 else if q < 18 then (if sendOf q % 2 = 0 then 48 else 45) else 3

def Rd (D : Vals F) : Rounds.Schedule (GSem nD τ sig) Bool 𝕄 where
  duties g r := match g.2 with
    | .reg _ => if r = 0 ∧ g.1.2 = .tc then Finset.univ else ∅
    | .dma q => if r < rounds q.val ∧ g.1.2 = .tc then {false} else ∅
  unitless _ := False
  amount g _ _ := match g.2 with
    | .reg _ => 1
    | .dma _ => Nc
  payload g r d := match g.2 with
    | .reg _ => barPay (F := F) g.1.1 d
    | .dma q => if q.val < 18 then sendPay D g.1.1 (sendOp (sendOf q.val) r) else recvPay D g.1.1 (128 * r + recvOf q.val)
  amount_pos g _ _ _ := by
    rcases g with ⟨t, s⟩; cases s
    · exact Nat.one_pos
    · exact Nc_pos

instance Rd_payload_storable (D : Vals F) (g : GSem nD τ sig) (r : ℕ) (d : Bool) :
    BI.Storable (upEmb : UEmb _ 𝕄) ((Rd D).payload g r d) := by
  rcases g with ⟨t, s⟩; cases s
  · show BI.Storable upEmb (barPay (F := F) t.1 d); infer_instance
  · rename_i q
    show BI.Storable upEmb (if q.val < 18 then sendPay D t.1 (sendOp (sendOf q.val) r) else recvPay D t.1 (128 * r + recvOf q.val))
    split <;> infer_instance

section Facts
variable (D : Vals F) (c : Dev nD)

theorem duties_bar : (Rd D).duties (bar c) 0 = Finset.univ := by dsimp only [Rd]; exact if_pos ⟨rfl, rfl⟩
theorem duties_send {m : ℕ} (hv : Valid m) (hm : m < 384) : (Rd D).duties (sendC c m) (sendRnd m) = {false} := by
  refine if_pos ⟨?_, rfl⟩
  show sendRnd m < rounds (sendNo m)
  unfold Valid at hv
  rw [rounds, if_neg (by have := sendNo_ge m; omega), if_pos (sendNo_lt m), sendOf_sendNo]
  unfold sendRnd; split_ifs <;> omega
theorem duties_recv {m : ℕ} (hm : m < 384) : (Rd D).duties (recvC c m) (m / 128) = {false} := by
  refine if_pos ⟨?_, rfl⟩
  show m / 128 < rounds (recvNo m)
  rw [rounds, if_neg (by have := recvNo_ge m; omega), if_neg (by have := recvNo_ge m; omega)]; omega
theorem duties_bar_later (r : ℕ) (hr : 1 ≤ r) : (Rd D).duties (bar c) r = ∅ := if_neg (by omega)
theorem duties_dma_later (q : DmaSem sig) (r : ℕ) (hr : rounds q.val ≤ r) : (Rd D).duties ((c : Thread nD τ), .dma q) r = ∅ :=
  if_neg (by omega)

theorem amount_bar (r : ℕ) (d : Bool) : (Rd D).amount (bar c) r d = 1 := rfl
theorem amount_dma (q : DmaSem sig) (r : ℕ) (d : Bool) : (Rd D).amount ((c : Thread nD τ), .dma q) r d = Nc := rfl
theorem expect_bar : (Rd D).expect (bar c) 0 = 2 := by
  unfold Schedule.expect Schedule.amountOf
  rw [duties_bar, Finset.sum_congr rfl fun d _ => amount_bar D c 0 d, Finset.sum_const, Finset.card_univ, Fintype.card_bool, smul_eq_mul]
theorem expect_dma (q : DmaSem sig) (r : ℕ) (h : (Rd D).duties ((c : Thread nD τ), .dma q) r = {false}) :
    (Rd D).expect ((c : Thread nD τ), .dma q) r = Nc := by
  unfold Schedule.expect Schedule.amountOf; rw [h, Finset.sum_singleton, amount_dma]

theorem payload_bar (d : Bool) : (Rd D).payload (bar c) 0 d = barPay (F := F) c d := rfl
theorem payload_send {m : ℕ} (hv : Valid m) (d : Bool) : (Rd D).payload (sendC c m) (sendRnd m) d = sendPay D c m := by
  show (if sendNo m < 18 then sendPay D c (sendOp (sendOf (sendNo m)) (sendRnd m)) else _) = _
  rw [if_pos (sendNo_lt m), sendOf_sendNo, sendOp_sendRnd hv]
theorem payload_recv {m : ℕ} (hv : Valid m) (d : Bool) : (Rd D).payload (recvC c m) (m / 128) d = recvPay D c m := by
  show (if recvNo m < 18 then _ else recvPay D c (128 * (m / 128) + recvOf (recvNo m))) = _
  rw [if_neg (by have := recvNo_ge m; omega), recvOf_recvNo hv, Nat.div_add_mod]

theorem rest_dma (q : DmaSem sig) (r : ℕ) (h : (Rd D).duties ((c : Thread nD τ), .dma q) r = {false}) :
    bigSep ((Rd D).duties ((c : Thread nD τ), .dma q) r \ ∅) (fun d => (Rd D).payload ((c : Thread nD τ), .dma q) r d)
      = (Rd D).payload ((c : Thread nD τ), .dma q) r false := by
  rw [Finset.sdiff_empty, h, bigSep_singleton]
theorem rest_bar : bigSep ((Rd D).duties (bar c) 0 \ ∅) (fun d => (Rd D).payload (bar c) 0 d) = iprop(barPay (F := F) c false ∗ barPay (F := F) c true) := by
  rw [Finset.sdiff_empty, duties_bar, bigSep_univ_eq_bigSepL [false, true] (by decide) (by decide), bigSepL_cons_cons, bigSepL_singleton]
  rfl

end Facts

/-! ## What is owed, and the levels -/

/-- The copies from number `n` on. -/
def rem (n : ℕ) : Finset ℕ := (Finset.range 384).filter fun m => n ≤ m ∧ Valid m

/-- The credit copy `m` of device `c` owes its target, indexed (and ranked) by the trip. -/
abbrev due (c : Dev nD) (m : ℕ) : CellTallies nD τ sig ℕ := tallyAt (recvC (tgt c m) m) (2 + m / 4) Nc
def owed (c : Dev nD) (n : ℕ) : CellTallies nD τ sig ℕ := ∑ m ∈ rem n, due c m

def L (g : GSem nD τ sig) : Finset ℕ := if g.1.2 = .tc then Finset.range 100 else ∅
def lv (_ : GSem nD τ sig) (i : ℕ) : ℕ := i

theorem mem_rem {n m : ℕ} : m ∈ rem n ↔ m < 384 ∧ n ≤ m ∧ Valid m := by
  unfold rem; rw [Finset.mem_filter, Finset.mem_range]
theorem rem_step {n : ℕ} (hn : n < 384) (hv : Valid n) : rem n = insert n (rem (n + 1)) := by
  ext m; rw [Finset.mem_insert, mem_rem, mem_rem]
  constructor
  · rintro ⟨h1, h2, h3⟩
    by_cases h : m = n
    · exact .inl h
    · exact .inr ⟨h1, by omega, h3⟩
  · rintro (rfl | ⟨h1, h2, h3⟩)
    · exact ⟨hn, le_refl _, hv⟩
    · exact ⟨h1, by omega, h3⟩
theorem not_mem_rem (n : ℕ) : n ∉ rem (n + 1) := fun h => by have := (mem_rem.1 h).2.1; omega
theorem rem_skip {n : ℕ} (hv : ¬Valid n) : rem n = rem (n + 1) := by
  ext m; rw [mem_rem, mem_rem]
  constructor
  · rintro ⟨h1, h2, h3⟩
    refine ⟨h1, ?_, h3⟩
    by_cases h : m = n
    · exact absurd (h ▸ h3) hv
    · omega
  · rintro ⟨h1, h2, h3⟩; exact ⟨h1, by omega, h3⟩

theorem owed_step (c : Dev nD) {n : ℕ} (hn : n < 384) (hv : Valid n) : owed c n = owed c (n + 1) + due c n := by
  unfold owed; rw [rem_step hn hv, Finset.sum_insert (not_mem_rem n), add_comm]
theorem owed_skip (c : Dev nD) {n : ℕ} (hv : ¬Valid n) : owed c n = owed c (n + 1) := by
  unfold owed; rw [rem_skip hv]
theorem owed_last (c : Dev nD) : owed c 384 = 0 := by
  unfold owed
  rw [show rem 384 = ∅ from Finset.eq_empty_of_forall_notMem fun m h => by have := mem_rem.1 h; omega, Finset.sum_empty]

theorem owed_pos {c : Dev nD} {n : ℕ} {g : GSem nD τ sig} {u : ℕ} (h : 0 < owed c n g u) :
    g.1.2 = .tc ∧ 2 + n / 4 ≤ u ∧ u < 98 := by
  unfold owed at h
  have h' : ∃ m ∈ rem n, 0 < due c m g u := by
    by_contra hn
    push Not at hn
    rw [Finset.sum_apply, Finsupp.finset_sum_apply] at h
    rw [Finset.sum_eq_zero fun m hm => Nat.le_zero.1 (hn m hm)] at h
    exact Nat.lt_irrefl 0 h
  obtain ⟨m, hm, hd⟩ := h'
  rw [tallyAt_apply] at hd
  have hm' := mem_rem.1 hm
  by_cases hg : g = recvC (tgt c m) m ∧ u = 2 + m / 4
  · obtain ⟨rfl, rfl⟩ := hg
    exact ⟨rfl, by omega, by omega⟩
  · rw [if_neg hg] at hd; exact absurd hd (Nat.lt_irrefl 0)

/-- A device may wait at a level below every credit it owes. -/
theorem mayWait (c : Dev nD) (sm : SemLoc sig) {n i : ℕ} (hi : i < 2 + n / 4) (hi' : i < 100) :
    (levAts L lv : sProp 𝕄) ⊢ MayWait (c : Thread nD τ) sm i (owed c n) :=
  MayOwe.of_cut (L := L) (lev := lv) i
    (fun p hp => by
      rw [Finset.mem_singleton.mp hp]
      show i ∈ (if _ then _ else _)
      rw [if_pos rfl]; exact Finset.mem_range.2 hi')
    (fun g u hg => by
      have h := owed_pos hg
      show u ∈ L g
      rw [L, if_pos h.1]; exact Finset.mem_range.2 (by omega))
    (fun p hp => by rw [Finset.mem_singleton.mp hp]; exact le_refl _)
    (fun g u hg => by have h := owed_pos hg; show i < u; omega)

end Cert.KernelIdeal.Mlp
-- ==== Proof.State.lean ====
/-
# What a device holds between two steps

A device's run is marked by two numbers: `n`, its next copy to start, and `k`, the next copy it waits for. Everything
it holds is a family indexed by copies, and which members it holds depends on `n` and `k` alone: the regions that have
landed and are not given away, the sources not in flight, the leave received and not used, the tokens, credits and
positions. Each section says how a family changes when a copy is started (`n` to `n + 1`) and when one is waited for
(`k` to `k + 1`).
-/
module

public import proofs.«01_k».proof.Proof.Sched

@[expose] public section

noncomputable section

namespace Cert.KernelIdeal.Mlp

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-! ## Families over a condition -/

omit [FloatOps F] in
theorem fam_take {S : Finset ℕ} {p q : ℕ → Prop} [DecidablePred p] [DecidablePred q] {Φ Ψ : ℕ → sProp 𝕄} (i : ℕ)
    (hi : i ∈ S) (hp : p i) (hq : ¬q i) (h : ∀ k ∈ S, k ≠ i → (p k ↔ q k)) (hΦ : ∀ k ∈ S, k ≠ i → p k → Φ k = Ψ k) :
    bigSep (S.filter p) Φ = iprop(Φ i ∗ bigSep (S.filter q) Ψ) := by
  have hS : S.filter p = insert i (S.filter q) := by
    ext k; rw [Finset.mem_insert, Finset.mem_filter, Finset.mem_filter]
    by_cases hk : k = i
    · subst hk; exact ⟨fun _ => .inl rfl, fun _ => ⟨hi, hp⟩⟩
    · constructor
      · rintro ⟨h1, h2⟩; exact .inr ⟨h1, (h k h1 hk).1 h2⟩
      · rintro (h1 | ⟨h1, h2⟩)
        · exact absurd h1 hk
        · exact ⟨h1, (h k h1 hk).2 h2⟩
  rw [hS, bigSep_insert (fun hm => hq (Finset.mem_filter.1 hm).2)]
  congr 1
  refine bigSep_congr fun k hk => ?_
  have h1 := Finset.mem_filter.1 hk
  have hne : k ≠ i := fun h => hq (h ▸ h1.2)
  exact hΦ k h1.1 hne ((h k h1.1 hne).2 h1.2)

omit [FloatOps F] in
theorem fam_same {S : Finset ℕ} {p q : ℕ → Prop} [DecidablePred p] [DecidablePred q] {Φ Ψ : ℕ → sProp 𝕄}
    (h : ∀ k ∈ S, (p k ↔ q k)) (hΦ : ∀ k ∈ S, p k → Φ k = Ψ k) : bigSep (S.filter p) Φ = bigSep (S.filter q) Ψ := by
  rw [Finset.filter_congr h]
  refine bigSep_congr fun k hk => ?_
  have h1 := Finset.mem_filter.1 hk
  exact hΦ k h1.1 ((h k h1.1).2 h1.2)

/-! ## The families -/

/-- How many of the copies congruent to `i` come before `n`. -/
abbrev cnt (n i : ℕ) : ℕ := (n + 127 - i) / 128
/-- The reducing loop's copy that gives away the gathering loop's region `i`, in the first layer. -/
abbrev gv (i : ℕ) : ℕ := 64 + 4 * (15 - i / 4 - i % 2) + i % 4
abbrev XHeld (n k i : ℕ) : Prop := Valid i ∧ cnt k i = 1 + min 2 (cnt n (gv i))
/-- Region `i` is the source of a copy in flight. -/
abbrev XOut (n k i : ℕ) : Prop := i + 4 < 64 ∧ Valid (i + 4) ∧ cnt n (i + 4) ≠ cnt k (i + 4)
abbrev SHeld (n k i : ℕ) : Prop := Valid i ∧ cnt k i = cnt n (i - 64)
/-- The copy from the sending buffer `j` that may be in flight. -/
abbrev cand (k j : ℕ) : ℕ := k + (j + 4 - k % 4) % 4
abbrev BHeld (n k j : ℕ) : Prop := ¬(cand k j < n ∧ 64 ≤ cand k j % 128 ∧ Valid (cand k j))
abbrev GHeld (n k m : ℕ) : Prop := n ≤ m ∧ Valid m ∧ (m < 64 ∨ grInv m < k)
abbrev sCnt (k i : ℕ) : ℕ :=
  if i % 2 = 0 then k / 128 * 16 + min 16 ((k % 128 + 3 - i) / 4) else k / 128 * 15 + min 15 ((k % 128 + 3 - i) / 4)

theorem cnt_is {n i v : ℕ} (h : 128 * v ≤ n + 127 - i ∧ n + 127 - i < 128 * v + 128) : cnt n i = v :=
  (Nat.div_eq_of_lt_le (by omega) (by omega))
theorem cnt_eq {n i : ℕ} (hi : i < 128) (h : n % 128 ≠ i) : cnt (n + 1) i = cnt n i := by simp only [cnt]; omega
theorem gv_valid : ∀ i < 64, Valid i → Valid (gv i) := by decide
theorem gv_inv : ∀ i < 64, Valid i → i = 4 * (15 - gv i % 64 / 4 - gv i % 2) + gv i % 4 := by decide
theorem gv_ge (i : ℕ) : 64 ≤ gv i := by simp only [gv]; omega
theorem gv_lt {i : ℕ} : gv i < 128 := by simp only [gv]; omega
theorem skip_ne {n j : ℕ} (hv : ¬Valid n) (hj : Valid j) : n % 128 ≠ j := fun h => hv (by simp only [Valid] at *; omega)
theorem XHeld_n {n k i : ℕ} (hi : i < 64) (h : Valid i → n % 128 ≠ gv i) : XHeld n k i ↔ XHeld (n + 1) k i :=
  and_congr_right fun hv => by rw [cnt_eq gv_lt (h hv)]
theorem XHeld_k {n k i : ℕ} (hi : i < 64) (h : Valid i → k % 128 ≠ i) : XHeld n (k + 1) i ↔ XHeld n k i :=
  and_congr_right fun hv => by rw [cnt_eq (by omega) (h hv)]
theorem XOut_n {n k i : ℕ} (h : i + 4 < 64 → Valid (i + 4) → n % 128 ≠ i + 4) : XOut n k i ↔ XOut (n + 1) k i :=
  and_congr_right fun h1 => and_congr_right fun h2 => by rw [cnt_eq (by omega) (h h1 h2)]
theorem XOut_k {n k i : ℕ} (h : i + 4 < 64 → Valid (i + 4) → k % 128 ≠ i + 4) : XOut n (k + 1) i ↔ XOut n k i :=
  and_congr_right fun h1 => and_congr_right fun h2 => by rw [cnt_eq (by omega) (h h1 h2)]

/-- The gathering loop's region that the reducing loop's copy `n` gives away. -/
abbrev g0 (n : ℕ) : ℕ := 4 * (15 - n % 64 / 4 - n % 2) + n % 4
theorem g0_valid {n : ℕ} (hv : Valid n) : Valid (g0 n) := by simp only [Valid, g0] at *; omega
theorem g0_lt {n : ℕ} : g0 n < 64 := by simp only [g0]; omega
theorem gv_g0_mod : ∀ r < 128, Valid r → 64 ≤ r → gv (g0 r) = r := by decide
theorem g0_mod (n : ℕ) : g0 (n % 128) = g0 n := by simp only [g0]; omega
theorem gv_g0 {n : ℕ} (hv : Valid n) (h0 : 64 ≤ n % 128) : gv (g0 n) = n % 128 := by
  rw [← g0_mod]; exact gv_g0_mod _ (Nat.mod_lt _ (by decide)) (by simp only [Valid] at *; omega) h0
theorem gv_ne {n i : ℕ} (hi : i < 64) (hvi : Valid i) (hne : i ≠ g0 n) : n % 128 ≠ gv i := fun h => hne (by
  rw [gv_inv i hi hvi, ← h]; simp only [g0]; omega)
theorem valid_sub {n : ℕ} (hv : Valid n) (hs : 4 ≤ n % 64) : Valid (n % 128 - 4) := by simp only [Valid] at *; omega
theorem valid_mod {n : ℕ} (hv : Valid n) : Valid (n % 128) := by simp only [Valid] at *; omega

theorem XHeld_last {n k i : ℕ} (hv : Valid n) (hn : n < 384) (hl : 320 ≤ n) (hk : k ≤ n) (hk' : n ≤ k + 3) (hi : i < 64) :
    XHeld n k i ↔ XHeld (n + 1) k i := and_congr_right fun hvi => by
  have g1 := gv_ge i
  have g2 := @gv_lt i
  have a1 : min 2 (cnt n (gv i)) = 2 := by simp only [cnt]; generalize gv i = g at *; omega
  have a2 : min 2 (cnt (n + 1) (gv i)) = 2 := by simp only [cnt]; generalize gv i = g at *; omega
  rw [a1, a2]

theorem cases8 {i : ℕ} (hi : i < 8) : i = 0 ∨ i = 1 ∨ i = 2 ∨ i = 3 ∨ i = 4 ∨ i = 5 ∨ i = 6 ∨ i = 7 := by omega
theorem sCnt_even {k i : ℕ} (h : i % 2 = 0) : sCnt k i = k / 128 * 16 + min 16 ((k % 128 + 3 - i) / 4) := if_pos h
theorem sCnt_odd {k i : ℕ} (h : i % 2 = 1) : sCnt k i = k / 128 * 15 + min 15 ((k % 128 + 3 - i) / 4) := if_neg (by omega)
theorem sCnt_ne' {k a : ℕ} (ha : a < 8) (h : k % 128 / 64 * 4 + k % 4 ≠ a ∨ ¬Valid k) :
    sCnt (k + 1) (a / 4 * 64 + a % 4) = sCnt k (a / 4 * 64 + a % 4) := by
  simp only [Valid] at h
  rcases cases8 ha with rfl | rfl | rfl | rfl | rfl | rfl | rfl | rfl
  · rw [sCnt_even (by decide), sCnt_even (by decide)]; omega
  · rw [sCnt_odd (by decide), sCnt_odd (by decide)]; omega
  · rw [sCnt_even (by decide), sCnt_even (by decide)]; omega
  · rw [sCnt_odd (by decide), sCnt_odd (by decide)]; omega
  · rw [sCnt_even (by decide), sCnt_even (by decide)]; omega
  · rw [sCnt_odd (by decide), sCnt_odd (by decide)]; omega
  · rw [sCnt_even (by decide), sCnt_even (by decide)]; omega
  · rw [sCnt_odd (by decide), sCnt_odd (by decide)]; omega
theorem sCnt_ne {k a : ℕ} (hv : Valid k) (ha : a < 8) (h : a ≠ k % 128 / 64 * 4 + k % 4) :
    sCnt (k + 1) (a / 4 * 64 + a % 4) = sCnt k (a / 4 * 64 + a % 4) := sCnt_ne' ha (.inl (Ne.symm h))
theorem sCnt_skip {k a : ℕ} (hv : ¬Valid k) (ha : a < 8) :
    sCnt (k + 1) (a / 4 * 64 + a % 4) = sCnt k (a / 4 * 64 + a % 4) := sCnt_ne' ha (.inr hv)
theorem sCnt_self {k : ℕ} (hv : Valid k) : sCnt k (k % 128 / 64 * 64 + k % 4) = sendRnd k
    ∧ sCnt (k + 1) (k % 128 / 64 * 64 + k % 4) = sendRnd k + 1 := by
  simp only [Valid] at hv
  by_cases h : k % 2 = 0
  · rw [sCnt_even (by omega), sCnt_even (by omega), sendRnd, if_pos h]; omega
  · rw [sCnt_odd (by omega), sCnt_odd (by omega), sendRnd, if_neg h]; omega

section Points
variable {n k : ℕ}

theorem ptS (hv : Valid n) (hn : n < 384) (h0 : n % 128 < 64) (hk : k ≤ n) (hk' : n ≤ k + 3) (hs : 4 ≤ n % 64) :
    (XHeld n k (n % 128 - 4) ∧ ¬XOut n k (n % 128 - 4)) ∧ ¬(XHeld (n + 1) k (n % 128 - 4) ∧ ¬XOut (n + 1) k (n % 128 - 4)) := by
  have hvi := valid_sub hv hs
  have g1 := gv_ge (n % 128 - 4)
  have a1 : cnt k (n % 128 - 4) = n / 128 + 1 := cnt_is (by clear g1; omega)
  have a2 : cnt n (gv (n % 128 - 4)) = n / 128 := cnt_is (by have := @gv_lt (n % 128 - 4); generalize gv (n % 128 - 4) = g at *; omega)
  have e : n % 128 - 4 + 4 = n % 128 := by omega
  have a3 : cnt n (n % 128) = n / 128 := cnt_is (by omega)
  have a4 : cnt k (n % 128) = n / 128 := cnt_is (by omega)
  have a5 : cnt (n + 1) (n % 128) = n / 128 + 1 := cnt_is (by omega)
  refine ⟨⟨⟨hvi, ?_⟩, fun h => h.2.2 ?_⟩, fun h => h.2 ⟨by omega, ?_, ?_⟩⟩
  · rw [a1, a2]; omega
  · rw [e, a3, a4]
  · rw [e]; exact valid_mod hv
  · rw [e, a5, a4]; omega

theorem ptR (hv : Valid n) (h0 : 64 ≤ n % 128) (hk : k ≤ n) (hk' : n ≤ k + 3) (hl : n < 320) :
    (XHeld n k (g0 n) ∧ ¬XOut n k (g0 n)) ∧ ¬XHeld (n + 1) k (g0 n) ∧ cnt k (g0 n) = n / 128 + 1 := by
  have a1 : cnt k (g0 n) = n / 128 + 1 := cnt_is (by simp only [g0]; omega)
  have a2 : cnt n (gv (g0 n)) = n / 128 := by rw [gv_g0 hv h0]; exact cnt_is (by omega)
  have a3 : cnt (n + 1) (gv (g0 n)) = n / 128 + 1 := by rw [gv_g0 hv h0]; exact cnt_is (by omega)
  refine ⟨⟨⟨g0_valid hv, ?_⟩, fun h => h.2.2 ?_⟩, fun h => ?_, a1⟩
  · rw [a1, a2]; omega
  · have h1 := h.1
    have h2 := h.2.1
    have b1 : cnt n (g0 n + 4) = n / 128 + 1 := cnt_is (by clear h2; generalize g0 n = g at *; omega)
    have b2 : cnt k (g0 n + 4) = n / 128 + 1 := cnt_is (by simp only [g0, Valid] at *; omega)
    rw [b1, b2]
  · have := h.2; rw [a1, a3] at this; omega

theorem ptW (hv : Valid k) (hn : k < 384) (h0 : k % 128 < 64) (hk : k < n) (hk' : n ≤ k + 4) :
    (XHeld n (k + 1) (k % 128) ∧ ¬XOut n k (k % 128)) ∧ ¬XHeld n k (k % 128) := by
  have a1 : cnt (k + 1) (k % 128) = k / 128 + 1 := cnt_is (by omega)
  have a2 : cnt k (k % 128) = k / 128 := cnt_is (by omega)
  have a3 : cnt n (gv (k % 128)) = k / 128 := cnt_is (by simp only [gv, Valid] at *; omega)
  have b1 : cnt n (k % 128 + 4) = k / 128 := cnt_is (by omega)
  have b2 : cnt k (k % 128 + 4) = k / 128 := cnt_is (by omega)
  refine ⟨⟨⟨valid_mod hv, ?_⟩, fun h => h.2.2 ?_⟩, fun h => ?_⟩
  · rw [a1, a3]; omega
  · rw [b1, b2]
  · have := h.2; rw [a2, a3] at this; omega

theorem ptW' (hv : Valid k) (hn : k < 384) (h0 : k % 128 < 64) (hk : k < n) (hk' : n ≤ k + 4) (hs : 4 ≤ k % 64) :
    (XHeld n (k + 1) (k % 128 - 4) ∧ ¬XOut n (k + 1) (k % 128 - 4)) ∧ ¬(XHeld n (k + 1) (k % 128 - 4) ∧ ¬XOut n k (k % 128 - 4)) := by
  have a1 : cnt (k + 1) (k % 128 - 4) = k / 128 + 1 := cnt_is (by omega)
  have a3 : cnt n (gv (k % 128 - 4)) = k / 128 := cnt_is (by simp only [gv, Valid] at *; omega)
  have e : k % 128 - 4 + 4 = k % 128 := by omega
  have b0 : cnt n (k % 128) = k / 128 + 1 := cnt_is (by omega)
  have b1 : cnt (k + 1) (k % 128) = k / 128 + 1 := cnt_is (by omega)
  have b2 : cnt k (k % 128) = k / 128 := cnt_is (by omega)
  refine ⟨⟨⟨valid_sub hv hs, ?_⟩, fun h => h.2.2 ?_⟩, fun h => h.2 ⟨by omega, ?_, ?_⟩⟩
  · rw [a1, a3]; omega
  · rw [e, b0, b1]
  · rw [e]; exact valid_mod hv
  · rw [e, b0, b2]; omega
end Points

variable (D : Vals F) (c : Dev nD)

/-- The lendable shares of the landed blocks. -/
def XA (n k : ℕ) : sProp 𝕄 := bigSep ((Finset.range 64).filter fun i => XHeld n k i ∧ ¬XOut n k i) fun i =>
  xPts c (xDst c i) (i % 4 / 2) fullShare.left (rows2048 (D.X (cnt k i - 1)))
/-- The kept shares of the landed blocks. -/
def XB (n k : ℕ) : sProp 𝕄 := bigSep ((Finset.range 64).filter fun i => XHeld n k i) fun i =>
  xPts c (xDst c i) (i % 4 / 2) fullShare.right (rows2048 (D.X (cnt k i - 1)))
/-- The lendable shares of the device's own block, which holds layer `l`'s input. -/
def XO (l n k : ℕ) : sProp 𝕄 := bigSep ((Finset.range 4).filter fun a => cnt n a = cnt k a) fun a =>
  xPts c c (a / 2) (srcSh a) (rows2048 (D.X l))
/-- Its kept share. -/
def XK (l : ℕ) : sProp 𝕄 := bigSep (Finset.range 2) fun h => xPts c c h fullShare.right.right (rows2048 (D.X l))

/-- A slot after `r` landings. -/
def slotSt (r i : ℕ) : sProp 𝕄 := if r = 0 then slotAny (F := F) c i (slotSh i) else slotPts c i (slotSh i) (sumTo D (r - 1) c i)
def SS (n k : ℕ) : sProp 𝕄 := bigSep ((Finset.Ico 64 128).filter fun i => SHeld n k i) fun i =>
  iprop(slotSt D c (cnt k i) i ∗ wIf (F := F) c i)

/-- Half a sending buffer: `j % 2 = 0` for the left-going sums, `j / 2` the half. -/
def sbAny (j : ℕ) : sProp 𝕄 := if j % 2 = 0 then iprop(∃ f, blPts (F := F) c (j % 4 / 2) f) else iprop(∃ f, brPts (F := F) c (j % 4 / 2) f)
def SB (n k : ℕ) : sProp 𝕄 := bigSep ((Finset.range 4).filter fun j => BHeld n k j) fun j => sbAny (F := F) c j

/-- The leave at hand. -/
def GR (n k : ℕ) : sProp 𝕄 := bigSep ((Finset.range 384).filter fun m => GHeld n k m) fun m => leave (F := F) m c
/-- The duty tokens of the copies still to start. -/
def TK (n : ℕ) : sProp 𝕄 := bigSep (rem n) fun m =>
  iprop(dutyTok ER (sendC c m) (sendRnd m) false ∗ dutyTok ER (recvC (tgt c m) m) (m / 128) false)
/-- The credits of the copies in flight. -/
def FL (n k : ℕ) : sProp 𝕄 := bigSep ((Finset.range 384).filter fun m => k ≤ m ∧ m < n ∧ Valid m) fun m =>
  cred (tallyAt (sendC c m) (2 + m / 4) Nc)
/-- The credits of the copies still to arrive. -/
def IC (k : ℕ) : sProp 𝕄 := bigSep (rem k) fun m => cred (tallyAt (recvC c m) (2 + m / 4) Nc)
def RP (k : ℕ) : sProp 𝕄 := bigSep ((Finset.range 128).filter fun i => Valid i) fun i =>
  iprop(atPos ER (recvC c i) (cnt k i) ∅ 0 ∗ reached ER (recvC c i) (cnt k i))
def SP (k : ℕ) : sProp 𝕄 := bigSep (Finset.range 8) fun a =>
  iprop(atPos ER (sendC c (a / 4 * 64 + a % 4)) (sCnt k (a / 4 * 64 + a % 4)) ∅ 0
    ∗ reached ER (sendC c (a / 4 * 64 + a % 4)) (sCnt k (a / 4 * 64 + a % 4)))

end Cert.KernelIdeal.Mlp
-- ==== Proof.StateStart.lean ====
/-
# How the families change when a copy is started
-/
module

public import proofs.«01_k».proof.Proof.State

@[expose] public section

noncomputable section

namespace Cert.KernelIdeal.Mlp

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (D : Vals F) (c : Dev nD)

/-! ## Starting a copy of the gathering loop -/

section StartAG
variable {n k : ℕ} (hv : Valid n) (hn : n < 384) (h0 : n % 128 < 64) (hk : k ≤ n) (hk' : n ≤ k + 3)
include hv hn h0 hk hk'

theorem XA_startAG (hs : 4 ≤ n % 64) : XA D c n k = iprop(xPts c (xSrc c n) (n % 4 / 2) (srcSh n) (rows2048 (D.X (n / 128))) ∗ XA D c (n + 1) k) := by
  unfold XA
  rw [fam_take (n % 128 - 4) (p := fun i => XHeld n k i ∧ ¬XOut n k i) (q := fun i => XHeld (n + 1) k i ∧ ¬XOut (n + 1) k i)
    (Finset.mem_range.2 (by omega)) (ptS hv hn h0 hk hk' hs).1 (ptS hv hn h0 hk hk' hs).2
    (fun i hi hne => by rw [Finset.mem_range] at hi; exact and_congr (XHeld_n hi (fun _ => by simp only [gv]; omega)) (not_congr (XOut_n (fun h1 _ => by omega)))) (fun _ _ _ _ => rfl)]
  congr 1
  have e1 : cnt k (n % 128 - 4) - 1 = n / 128 := by simp only [cnt]; omega
  have e2 : xDst c (n % 128 - 4) = xSrc c n := by
    unfold xDst xSrc
    rw [show (n % 128 - 4) % 2 = n % 2 by omega, show 31 - (n % 128 - 4) % 64 / 4 = 32 - n % 64 / 4 by omega, show 1 + (n % 128 - 4) % 64 / 4 = n % 64 / 4 by omega]
  rw [e1, e2, show (n % 128 - 4) % 4 = n % 4 by omega, srcSh, if_neg (by omega)]

theorem XA_startAG0 (hs : n % 64 < 4) : XA D c n k = XA D c (n + 1) k := by
  unfold XA
  exact fam_same (fun i hi => by rw [Finset.mem_range] at hi; exact and_congr (XHeld_n hi (fun _ => by simp only [gv]; omega)) (not_congr (XOut_n (fun h1 _ => by omega)))) (fun _ _ _ => rfl)
theorem XB_startAG : XB D c n k = XB D c (n + 1) k := by
  unfold XB
  exact fam_same (fun i hi => by rw [Finset.mem_range] at hi; exact XHeld_n hi (fun _ => by simp only [gv]; omega)) (fun _ _ _ => rfl)
theorem XO_startAG (l : ℕ) (hs : 4 ≤ n % 64) : XO D c l n k = XO D c l (n + 1) k := by
  unfold XO
  exact fam_same (fun i hi => by rw [Finset.mem_range] at hi; simp only [Valid, cnt] at *; omega) (fun _ _ _ => rfl)
theorem XO_startAG0 (hs : n % 64 < 4) :
    XO D c (n / 128) n k = iprop(xPts c (xSrc c n) (n % 4 / 2) (srcSh n) (rows2048 (D.X (n / 128))) ∗ XO D c (n / 128) (n + 1) k) := by
  unfold XO
  rw [fam_take (n % 128) (p := fun a => cnt n a = cnt k a) (q := fun a => cnt (n + 1) a = cnt k a)
    (Finset.mem_range.2 (by omega)) (by simp only [cnt]; omega) (by simp only [cnt]; omega)
    (fun i hi hne => by rw [Finset.mem_range] at hi; simp only [cnt]; omega) (fun _ _ _ _ => rfl)]
  congr 1
  have e2 : c = xSrc c n := by
    unfold xSrc; split
    · exact (blk_full c (by omega)).symm
    · exact (blk_full c (by omega)).symm
  rw [← e2, srcSh, srcSh, show n % 128 % 64 = n % 64 by omega, show n % 128 % 2 = n % 2 by omega, show n % 128 / 2 = n % 4 / 2 by omega]
theorem SS_startAG : SS D c n k = iprop((slotSt D c (cnt k (n % 128 + 64)) (n % 128 + 64) ∗ wIf (F := F) c (n % 128 + 64)) ∗ SS D c (n + 1) k) := by
  unfold SS
  exact fam_take (n % 128 + 64) (Finset.mem_Ico.2 (by omega)) (by simp only [Valid, SHeld, cnt] at *; omega) (by simp only [Valid, SHeld, cnt] at *; omega)
    (fun i hi hne => by rw [Finset.mem_Ico] at hi; simp only [Valid, SHeld, cnt] at *; omega) (fun _ _ _ _ => rfl)
theorem SB_startAG : SB c n k = SB (F := F) c (n + 1) k := by
  unfold SB
  exact fam_same (fun i hi => by rw [Finset.mem_range] at hi; simp only [Valid, BHeld, cand] at *; omega) (fun _ _ _ => rfl)
end StartAG

section Start
variable {n k : ℕ} (hv : Valid n) (hn : n < 384) (hk : k ≤ n) (hk' : n ≤ k + 3)
include hv hn hk hk'

omit [FloatOps F] in
theorem GR_start : GR c n k = iprop(leave (F := F) n c ∗ GR c (n + 1) k) := by
  unfold GR
  refine fam_take n (Finset.mem_range.2 hn) ⟨le_refl _, hv, ?_⟩ (fun h => by have := h.1; omega)
    (fun i hi hne => ?_) (fun _ _ _ _ => rfl)
  · by_cases h : n < 64
    · exact .inl h
    · exact .inr (by have := grInv_lt (m := n) (by omega); omega)
  · constructor
    · rintro ⟨h1, h2⟩; exact ⟨by omega, h2⟩
    · rintro ⟨h1, h2⟩; exact ⟨by omega, h2⟩
omit [FloatOps F] in
theorem TK_start : TK c n = iprop((dutyTok ER (sendC c n) (sendRnd n) false ∗ dutyTok ER (recvC (tgt c n) n) (n / 128) false) ∗ TK (F := F) c (n + 1)) := by
  unfold TK; rw [rem_step hn hv, bigSep_insert (not_mem_rem n)]; rfl
omit [FloatOps F] in
theorem FL_start : FL c (n + 1) k = iprop(cred (tallyAt (sendC c n) (2 + n / 4) Nc) ∗ FL (F := F) c n k) := by
  unfold FL
  exact fam_take n (Finset.mem_range.2 hn) ⟨hk, by omega, hv⟩ (fun h => by have := h.2.1; omega)
    (fun i hi hne => by simp only [Valid] at *; omega) (fun _ _ _ _ => rfl)
end Start

/-! ## Starting a copy of the reducing loop -/

section StartRS
variable {n k : ℕ} (hv : Valid n) (hn : n < 384) (h0 : 64 ≤ n % 128) (hk : k ≤ n) (hk' : n ≤ k + 3)
include hv hn h0 hk hk'

theorem XA_startRS (hl : n < 320) : XA D c n k = iprop(xPts c (xDst c (gr n)) (n % 4 / 2) fullShare.left (rows2048 (D.X (n / 128))) ∗ XA D c (n + 1) k) := by
  have hg : gr n % 128 = g0 n := by
    simp only [Valid] at hv; unfold gr; simp only [g0]; split_ifs <;> omega
  unfold XA
  rw [fam_take (g0 n) (p := fun i => XHeld n k i ∧ ¬XOut n k i) (q := fun i => XHeld (n + 1) k i ∧ ¬XOut (n + 1) k i)
    (Finset.mem_range.2 g0_lt) (ptR hv h0 hk hk' hl).1 (fun h => (ptR hv h0 hk hk' hl).2.1 h.1)
    (fun i hi hne => by rw [Finset.mem_range] at hi; exact and_congr (XHeld_n hi (fun hv' => gv_ne hi hv' hne)) (not_congr (XOut_n (fun h1 _ => by omega)))) (fun _ _ _ _ => rfl)]
  congr 1
  have e1 : cnt k (g0 n) - 1 = n / 128 := by rw [(ptR hv h0 hk hk' hl).2.2, Nat.add_sub_cancel]
  have e2 : xDst c (g0 n) = xDst c (gr n) := by
    unfold xDst
    rw [show g0 n % 2 = gr n % 2 by rw [← hg]; omega, show g0 n % 64 = gr n % 64 by rw [← hg]; omega]
  rw [e1, e2, show g0 n % 4 = n % 4 by simp only [g0]; omega]
theorem XB_startRS (hl : n < 320) : XB D c n k = iprop(xPts c (xDst c (gr n)) (n % 4 / 2) fullShare.right (rows2048 (D.X (n / 128))) ∗ XB D c (n + 1) k) := by
  have hg : gr n % 128 = g0 n := by
    simp only [Valid] at hv; unfold gr; simp only [g0]; split_ifs <;> omega
  unfold XB
  rw [fam_take (g0 n) (p := fun i => XHeld n k i) (q := fun i => XHeld (n + 1) k i)
    (Finset.mem_range.2 g0_lt) (ptR hv h0 hk hk' hl).1.1 (ptR hv h0 hk hk' hl).2.1
    (fun i hi hne => by rw [Finset.mem_range] at hi; exact XHeld_n hi (fun hv' => gv_ne hi hv' hne)) (fun _ _ _ _ => rfl)]
  congr 1
  have e1 : cnt k (g0 n) - 1 = n / 128 := by rw [(ptR hv h0 hk hk' hl).2.2, Nat.add_sub_cancel]
  have e2 : xDst c (g0 n) = xDst c (gr n) := by
    unfold xDst
    rw [show g0 n % 2 = gr n % 2 by rw [← hg]; omega, show g0 n % 64 = gr n % 64 by rw [← hg]; omega]
  rw [e1, e2, show g0 n % 4 = n % 4 by simp only [g0]; omega]
theorem XA_startRS' (hl : 320 ≤ n) : XA D c n k = XA D c (n + 1) k := by
  unfold XA
  exact fam_same (fun i hi => by rw [Finset.mem_range] at hi; exact and_congr (XHeld_last hv hn hl hk hk' hi) (not_congr (XOut_n (fun h1 _ => by omega)))) (fun _ _ _ => rfl)
theorem XB_startRS' (hl : 320 ≤ n) : XB D c n k = XB D c (n + 1) k := by
  unfold XB
  exact fam_same (fun i hi => by rw [Finset.mem_range] at hi; exact XHeld_last hv hn hl hk hk' hi) (fun _ _ _ => rfl)
theorem XO_startRS (l : ℕ) : XO D c l n k = XO D c l (n + 1) k := by
  unfold XO
  exact fam_same (fun i hi => by rw [Finset.mem_range] at hi; simp only [Valid, cnt] at *; omega) (fun _ _ _ => rfl)
theorem SS_startRS : SS D c n k = SS D c (n + 1) k := by
  unfold SS
  exact fam_same (fun i hi => by rw [Finset.mem_Ico] at hi; simp only [Valid, SHeld, cnt] at *; omega) (fun _ _ _ => rfl)
omit [FloatOps F] in
theorem SB_startRS : SB c n k = iprop(sbAny (F := F) c (n % 4) ∗ SB c (n + 1) k) := by
  unfold SB
  exact fam_take (n % 4) (Finset.mem_range.2 (by omega)) (by simp only [Valid, BHeld, cand] at *; omega) (by simp only [Valid, BHeld, cand] at *; omega)
    (fun i hi hne => by rw [Finset.mem_range] at hi; simp only [Valid, BHeld, cand] at *; omega) (fun _ _ _ _ => rfl)
end StartRS

end Cert.KernelIdeal.Mlp
-- ==== Proof.StateWait.lean ====
/-
# How the families change when a copy of the gathering loop, or any copy, is waited for
-/
module

public import proofs.«01_k».proof.Proof.State

@[expose] public section

noncomputable section

namespace Cert.KernelIdeal.Mlp

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (D : Vals F) (c : Dev nD)

/-! ## Waiting for a copy -/

section WaitAG
variable {n k : ℕ} (hv : Valid k) (hn : k < 384) (h0 : k % 128 < 64) (hk : k < n) (hk' : n ≤ k + 4)
include hv hn h0 hk hk'

theorem XB_waitAG : XB D c n (k + 1) = iprop(xPts c (xDst c k) (k % 4 / 2) fullShare.right (rows2048 (D.X (k / 128))) ∗ XB D c n k) := by
  unfold XB
  rw [fam_take (k % 128) (p := fun i => XHeld n (k + 1) i) (q := fun i => XHeld n k i)
    (Ψ := fun i => xPts c (xDst c i) (i % 4 / 2) fullShare.right (rows2048 (D.X (cnt k i - 1))))
    (Finset.mem_range.2 (by omega)) (ptW hv hn h0 hk hk').1.1 (ptW hv hn h0 hk hk').2
    (fun i hi hne => by rw [Finset.mem_range] at hi; exact XHeld_k hi (fun _ => Ne.symm hne))
    (fun i hi hne _ => by
      rw [Finset.mem_range] at hi
      try dsimp only
      rw [show cnt (k + 1) i = cnt k i by simp only [cnt]; omega])]
  congr 1
  have e1 : cnt (k + 1) (k % 128) - 1 = k / 128 := by simp only [cnt]; omega
  have e2 : xDst c (k % 128) = xDst c k := by
    unfold xDst
    rw [show k % 128 % 2 = k % 2 by omega, show k % 128 % 64 = k % 64 by omega]
  rw [e1, e2, show k % 128 % 4 = k % 4 by omega]

/-- The lendable shares after an arrival, the source of this device's own copy not yet counted back. -/
def XA' (n k : ℕ) : sProp 𝕄 := bigSep ((Finset.range 64).filter fun i => XHeld n (k + 1) i ∧ ¬XOut n k i) fun i =>
  xPts c (xDst c i) (i % 4 / 2) fullShare.left (rows2048 (D.X (cnt (k + 1) i - 1)))

theorem XA_waitAG' : XA' D c n k = iprop(xPts c (xDst c k) (k % 4 / 2) fullShare.left (rows2048 (D.X (k / 128))) ∗ XA D c n k) := by
  unfold XA XA'
  rw [fam_take (k % 128) (p := fun i => XHeld n (k + 1) i ∧ ¬XOut n k i) (q := fun i => XHeld n k i ∧ ¬XOut n k i)
    (Ψ := fun i => xPts c (xDst c i) (i % 4 / 2) fullShare.left (rows2048 (D.X (cnt k i - 1))))
    (Finset.mem_range.2 (by omega)) (ptW hv hn h0 hk hk').1 (fun h => (ptW hv hn h0 hk hk').2 h.1)
    (fun i hi hne => by rw [Finset.mem_range] at hi; exact and_congr (XHeld_k hi (fun _ => Ne.symm hne)) Iff.rfl)
    (fun i hi hne _ => by
      rw [Finset.mem_range] at hi
      try dsimp only
      rw [show cnt (k + 1) i = cnt k i by simp only [cnt]; omega])]
  congr 1
  have e1 : cnt (k + 1) (k % 128) - 1 = k / 128 := by simp only [cnt]; omega
  have e2 : xDst c (k % 128) = xDst c k := by
    unfold xDst
    rw [show k % 128 % 2 = k % 2 by omega, show k % 128 % 64 = k % 64 by omega]
  rw [e1, e2, show k % 128 % 4 = k % 4 by omega]
theorem XA_waitAG (hs : 4 ≤ k % 64) : XA D c n (k + 1) = iprop(xPts c (xSrc c k) (k % 4 / 2) (srcSh k) (rows2048 (D.X (k / 128))) ∗ XA' D c n k) := by
  unfold XA XA'
  rw [fam_take (k % 128 - 4) (p := fun i => XHeld n (k + 1) i ∧ ¬XOut n (k + 1) i) (q := fun i => XHeld n (k + 1) i ∧ ¬XOut n k i)
    (Finset.mem_range.2 (by omega)) (ptW' hv hn h0 hk hk' hs).1 (ptW' hv hn h0 hk hk' hs).2
    (fun i hi hne => by rw [Finset.mem_range] at hi; exact and_congr Iff.rfl (not_congr (XOut_k (fun h1 _ => by omega)))) (fun _ _ _ _ => rfl)]
  congr 1
  have e1 : cnt (k + 1) (k % 128 - 4) - 1 = k / 128 := by simp only [cnt]; omega
  have e2 : xDst c (k % 128 - 4) = xSrc c k := by
    unfold xDst xSrc
    rw [show (k % 128 - 4) % 2 = k % 2 by omega, show 31 - (k % 128 - 4) % 64 / 4 = 32 - k % 64 / 4 by omega, show 1 + (k % 128 - 4) % 64 / 4 = k % 64 / 4 by omega]
  rw [e1, e2, show (k % 128 - 4) % 4 = k % 4 by omega, srcSh, if_neg (by omega)]
theorem XA_waitAG0 (hs : k % 64 < 4) : XA D c n (k + 1) = XA' D c n k := by
  unfold XA XA'
  exact fam_same (fun i hi => by rw [Finset.mem_range] at hi; exact and_congr Iff.rfl (not_congr (XOut_k (fun h1 _ => by omega)))) (fun _ _ _ => rfl)
theorem XO_waitAG (l : ℕ) (hs : 4 ≤ k % 64) : XO D c l n (k + 1) = XO D c l n k := by
  unfold XO
  exact fam_same (fun i hi => by rw [Finset.mem_range] at hi; simp only [Valid, cnt] at *; omega) (fun _ _ _ => rfl)
theorem XO_waitAG0 (hs : k % 64 < 4) :
    XO D c (k / 128) n (k + 1) = iprop(xPts c (xSrc c k) (k % 4 / 2) (srcSh k) (rows2048 (D.X (k / 128))) ∗ XO D c (k / 128) n k) := by
  unfold XO
  rw [fam_take (k % 128) (p := fun a => cnt n a = cnt (k + 1) a) (q := fun a => cnt n a = cnt k a)
    (Finset.mem_range.2 (by omega)) (by simp only [cnt]; omega) (by simp only [cnt]; omega)
    (fun i hi hne => by rw [Finset.mem_range] at hi; simp only [cnt]; omega) (fun _ _ _ _ => rfl)]
  congr 1
  have e2 : c = xSrc c k := by
    unfold xSrc; split
    · exact (blk_full c (by omega)).symm
    · exact (blk_full c (by omega)).symm
  rw [← e2, srcSh, srcSh, show k % 128 % 64 = k % 64 by omega, show k % 128 % 2 = k % 2 by omega, show k % 128 / 2 = k % 4 / 2 by omega]
theorem SS_waitAG : SS D c n (k + 1) = SS D c n k := by
  unfold SS
  exact fam_same (fun i hi => by rw [Finset.mem_Ico] at hi; simp only [Valid, SHeld, cnt] at *; omega) (fun i hi _ => by
    rw [Finset.mem_Ico] at hi
    try dsimp only
    rw [show cnt (k + 1) i = cnt k i by simp only [cnt]; omega])
omit [FloatOps F] in
theorem SB_waitAG : SB c n (k + 1) = SB (F := F) c n k := by
  unfold SB
  exact fam_same (fun i hi => by rw [Finset.mem_range] at hi; simp only [Valid, BHeld, cand] at *; omega) (fun _ _ _ => rfl)
end WaitAG

section Wait
variable {n k : ℕ} (hv : Valid k) (hn : k < 384) (hk : k < n) (hk' : n ≤ k + 4)
include hv hn hk hk'

omit [FloatOps F] in
theorem GR_wait (hl : k < 320) : GR c n (k + 1) = iprop(leave (F := F) (gr k) c ∗ GR c n k) := by
  have h1 := gr_ge k
  have h2 := grInv_gr hv
  have h3 : gr k < 384 := by simp only [Valid] at hv; unfold gr; split_ifs <;> omega
  unfold GR
  refine fam_take (gr k) (Finset.mem_range.2 h3) ⟨by omega, valid_gr hv, .inr (by omega)⟩ (fun h => ?_)
    (fun i hi hne => ?_) (fun _ _ _ _ => rfl)
  · rcases h.2.2 with h | h
    · unfold gr at h; split_ifs at h <;> omega
    · omega
  · constructor
    · rintro ⟨h4, h5, h6 | h6⟩
      · exact ⟨h4, h5, .inl h6⟩
      · by_cases h7 : i < 64
        · exact ⟨h4, h5, .inl h7⟩
        · refine ⟨h4, h5, .inr ?_⟩
          have : grInv i ≠ k := fun h => hne (by rw [← h, gr_grInv h5 (by omega)])
          omega
    · rintro ⟨h4, h5, h6⟩; exact ⟨h4, h5, by omega⟩
omit [FloatOps F] in
theorem GR_wait' (hl : 320 ≤ k) : GR c n (k + 1) = GR (F := F) c n k := by
  unfold GR
  refine fam_same (fun i hi => ?_) (fun _ _ _ => rfl)
  rw [Finset.mem_range] at hi
  constructor
  · rintro ⟨h4, h5, h6 | h6⟩
    · exact ⟨h4, h5, .inl h6⟩
    · by_cases h7 : i < 64
      · exact ⟨h4, h5, .inl h7⟩
      · refine ⟨h4, h5, .inr ?_⟩
        have := grInv_lt (m := i) (by omega)
        have : grInv i ≠ k := fun h => by
          have h8 := gr_grInv h5 (by omega); rw [h] at h8
          simp only [Valid] at hv
          unfold gr at h8; split_ifs at h8 <;> omega
        omega
  · rintro ⟨h4, h5, h6⟩; exact ⟨h4, h5, by omega⟩
omit [FloatOps F] in
theorem FL_wait : FL c n k = iprop(cred (tallyAt (sendC c k) (2 + k / 4) Nc) ∗ FL (F := F) c n (k + 1)) := by
  unfold FL
  exact fam_take k (Finset.mem_range.2 hn) ⟨le_refl _, hk, hv⟩ (fun h => by have := h.1; omega)
    (fun i hi hne => by simp only [Valid] at *; omega) (fun _ _ _ _ => rfl)
omit [FloatOps F] in
theorem IC_wait : IC c k = iprop(cred (tallyAt (recvC c k) (2 + k / 4) Nc) ∗ IC (F := F) c (k + 1)) := by
  unfold IC; rw [rem_step hn hv, bigSep_insert (not_mem_rem k)]; rfl

/-- The receive positions beside copy `k`'s. -/
def RPr (k : ℕ) : sProp 𝕄 := bigSep ((Finset.range 128).filter fun i => Valid i ∧ i ≠ k % 128) fun i =>
  iprop(atPos ER (recvC c i) (cnt k i) ∅ 0 ∗ reached ER (recvC c i) (cnt k i))
omit [FloatOps F] in
theorem RP_wait : RP c k = iprop((atPos ER (recvC c k) (k / 128) ∅ 0 ∗ reached ER (recvC c k) (k / 128)) ∗ RPr (F := F) c k) := by
  unfold RP RPr
  rw [fam_take (k % 128) (p := fun i => Valid i) (q := fun i => Valid i ∧ i ≠ k % 128)
    (Finset.mem_range.2 (by omega)) (by simp only [Valid] at *; omega) (fun h => h.2 rfl)
    (fun i hi hne => ⟨fun h => ⟨h, hne⟩, fun h => h.1⟩) (fun _ _ _ _ => rfl)]
  have e : recvSem (k % 128) = recvSem k := Fin.ext (recvNo_congr (by omega))
  rw [show recvC c (k % 128) = recvC c k by unfold recvC; rw [e], show cnt k (k % 128) = k / 128 by simp only [cnt]; omega]
omit [FloatOps F] in
theorem RP_wait' : RP c (k + 1) = iprop((atPos ER (recvC c k) (k / 128 + 1) ∅ 0 ∗ reached ER (recvC c k) (k / 128 + 1)) ∗ RPr (F := F) c k) := by
  unfold RP RPr
  rw [fam_take (k % 128) (p := fun i => Valid i) (q := fun i => Valid i ∧ i ≠ k % 128)
    (Ψ := fun i => iprop(atPos ER (recvC c i) (cnt k i) ∅ 0 ∗ reached ER (recvC c i) (cnt k i)))
    (Finset.mem_range.2 (by omega)) (by simp only [Valid] at *; omega) (fun h => h.2 rfl)
    (fun i hi hne => ⟨fun h => ⟨h, hne⟩, fun h => h.1⟩) (fun i hi hne _ => by
      rw [Finset.mem_range] at hi
      try dsimp only
      rw [show cnt (k + 1) i = cnt k i by simp only [cnt]; omega])]
  have e : recvSem (k % 128) = recvSem k := Fin.ext (recvNo_congr (by omega))
  rw [show recvC c (k % 128) = recvC c k by unfold recvC; rw [e], show cnt (k + 1) (k % 128) = k / 128 + 1 by simp only [cnt]; omega]

/-- The send positions beside copy `k`'s. -/
def SPr (k : ℕ) : sProp 𝕄 := bigSep ((Finset.range 8).filter fun a => a ≠ k % 128 / 64 * 4 + k % 4) fun a =>
  iprop(atPos ER (sendC c (a / 4 * 64 + a % 4)) (sCnt k (a / 4 * 64 + a % 4)) ∅ 0
    ∗ reached ER (sendC c (a / 4 * 64 + a % 4)) (sCnt k (a / 4 * 64 + a % 4)))
omit [FloatOps F] in
theorem sendC_class : sendC c (k % 128 / 64 * 64 + k % 4) = sendC c k := by
  have e : sendSem (k % 128 / 64 * 64 + k % 4) = sendSem k := Fin.ext (by
    show sendNo _ = sendNo _
    unfold sendNo
    rw [show (k % 128 / 64 * 64 + k % 4) % 128 / 64 = k % 128 / 64 by omega, show (k % 128 / 64 * 64 + k % 4) % 2 = k % 2 by omega,
      show (k % 128 / 64 * 64 + k % 4) % 4 = k % 4 by omega])
  unfold sendC; rw [e]
omit [FloatOps F] in
theorem SP_wait : SP c k = iprop((atPos ER (sendC c k) (sendRnd k) ∅ 0 ∗ reached ER (sendC c k) (sendRnd k)) ∗ SPr (F := F) c k) := by
  unfold SP SPr
  rw [show (Finset.range 8) = (Finset.range 8).filter (fun _ => True) from (Finset.filter_true_of_mem fun _ _ => trivial).symm,
    fam_take (k % 128 / 64 * 4 + k % 4) (p := fun _ => True) (q := fun a => a ≠ k % 128 / 64 * 4 + k % 4)
    (Finset.mem_range.2 (by omega)) trivial (fun h => h rfl)
    (fun i hi hne => ⟨fun _ => hne, fun _ => trivial⟩) (fun _ _ _ _ => rfl)]
  rw [show (k % 128 / 64 * 4 + k % 4) / 4 * 64 + (k % 128 / 64 * 4 + k % 4) % 4 = k % 128 / 64 * 64 + k % 4 by omega,
    sendC_class c hv hn hk hk', show sCnt k (k % 128 / 64 * 64 + k % 4) = sendRnd k from (sCnt_self hv).1]
  simp only [Finset.filter_true]
omit [FloatOps F] in
theorem SP_wait' : SP c (k + 1) = iprop((atPos ER (sendC c k) (sendRnd k + 1) ∅ 0 ∗ reached ER (sendC c k) (sendRnd k + 1)) ∗ SPr (F := F) c k) := by
  unfold SP SPr
  rw [show (Finset.range 8) = (Finset.range 8).filter (fun _ => True) from (Finset.filter_true_of_mem fun _ _ => trivial).symm,
    fam_take (k % 128 / 64 * 4 + k % 4) (p := fun _ => True) (q := fun a => a ≠ k % 128 / 64 * 4 + k % 4)
    (Ψ := fun a => iprop(atPos ER (sendC c (a / 4 * 64 + a % 4)) (sCnt k (a / 4 * 64 + a % 4)) ∅ 0
      ∗ reached ER (sendC c (a / 4 * 64 + a % 4)) (sCnt k (a / 4 * 64 + a % 4))))
    (Finset.mem_range.2 (by omega)) trivial (fun h => h rfl)
    (fun i hi hne => ⟨fun _ => hne, fun _ => trivial⟩) (fun i hi hne _ => by
      rw [Finset.mem_range] at hi
      try dsimp only
      rw [show sCnt (k + 1) (i / 4 * 64 + i % 4) = sCnt k (i / 4 * 64 + i % 4) from sCnt_ne hv hi hne])]
  rw [show (k % 128 / 64 * 4 + k % 4) / 4 * 64 + (k % 128 / 64 * 4 + k % 4) % 4 = k % 128 / 64 * 64 + k % 4 by omega,
    sendC_class c hv hn hk hk', show sCnt (k + 1) (k % 128 / 64 * 64 + k % 4) = sendRnd k + 1 from (sCnt_self hv).2]
  simp only [Finset.filter_true]
end Wait

end Cert.KernelIdeal.Mlp
-- ==== Proof.StateSkip.lean ====
/-
# How the families change at a wait in the reducing loop and at a number that stands for no copy
-/
module

public import proofs.«01_k».proof.Proof.State

@[expose] public section

noncomputable section

namespace Cert.KernelIdeal.Mlp

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (D : Vals F) (c : Dev nD)

section WaitRS
variable {n k : ℕ} (hv : Valid k) (hn : k < 384) (h0 : 64 ≤ k % 128) (hk : k < n) (hk' : n ≤ k + 4)
include hv hn h0 hk hk'

theorem XA_waitRS : XA D c n (k + 1) = XA D c n k := by
  unfold XA
  exact fam_same (fun i hi => by rw [Finset.mem_range] at hi; exact and_congr (XHeld_k hi (fun _ => by omega)) (not_congr (XOut_k (fun h1 _ => by omega)))) (fun i hi _ => by
    rw [Finset.mem_range] at hi
    try dsimp only
    rw [show cnt (k + 1) i = cnt k i by simp only [cnt]; omega])
theorem XB_waitRS : XB D c n (k + 1) = XB D c n k := by
  unfold XB
  exact fam_same (fun i hi => by rw [Finset.mem_range] at hi; exact XHeld_k hi (fun _ => by omega)) (fun i hi _ => by
    rw [Finset.mem_range] at hi
    try dsimp only
    rw [show cnt (k + 1) i = cnt k i by simp only [cnt]; omega])
theorem XO_waitRS (l : ℕ) : XO D c l n (k + 1) = XO D c l n k := by
  unfold XO
  exact fam_same (fun i hi => by rw [Finset.mem_range] at hi; simp only [Valid, cnt] at *; omega) (fun _ _ _ => rfl)
theorem SS_waitRS : SS D c n (k + 1) = iprop((slotSt D c (k / 128 + 1) (k % 128) ∗ wIf (F := F) c (k % 128)) ∗ SS D c n k) := by
  unfold SS
  rw [fam_take (k % 128) (p := fun i => SHeld n (k + 1) i) (q := fun i => SHeld n k i)
    (Ψ := fun i => iprop(slotSt D c (cnt k i) i ∗ wIf (F := F) c i))
    (Finset.mem_Ico.2 (by omega)) (by simp only [Valid, SHeld, cnt] at *; omega) (by simp only [Valid, SHeld, cnt] at *; omega)
    (fun i hi hne => by rw [Finset.mem_Ico] at hi; simp only [Valid, SHeld, cnt] at *; omega) (fun i hi hne _ => by
      rw [Finset.mem_Ico] at hi
      try dsimp only
      rw [show cnt (k + 1) i = cnt k i by simp only [cnt]; omega])]
  rw [show cnt (k + 1) (k % 128) = k / 128 + 1 by simp only [cnt]; omega]
omit [FloatOps F] in
theorem SB_waitRS : SB c n (k + 1) = iprop(sbAny (F := F) c (k % 4) ∗ SB c n k) := by
  unfold SB
  exact fam_take (k % 4) (Finset.mem_range.2 (by omega)) (by simp only [Valid, BHeld, cand] at *; omega) (by simp only [Valid, BHeld, cand] at *; omega)
    (fun i hi hne => by rw [Finset.mem_range] at hi; simp only [Valid, BHeld, cand] at *; omega) (fun _ _ _ _ => rfl)
end WaitRS

/-! ## The numbers that stand for no copy -/

section Skip

theorem XA_skip {n k : ℕ} (hv : ¬Valid n) (hk : k ≤ n) (hk' : n ≤ k + 3) (hn : n < 384) : XA D c n k = XA D c (n + 1) k := by
  unfold XA
  exact fam_same (fun i hi => by rw [Finset.mem_range] at hi; exact and_congr (XHeld_n hi (fun hv' => skip_ne hv (gv_valid i hi hv'))) (not_congr (XOut_n (fun _ hv' => skip_ne hv hv')))) (fun _ _ _ => rfl)
theorem XB_skip {n k : ℕ} (hv : ¬Valid n) (hk : k ≤ n) (hk' : n ≤ k + 3) (hn : n < 384) : XB D c n k = XB D c (n + 1) k := by
  unfold XB
  exact fam_same (fun i hi => by rw [Finset.mem_range] at hi; exact XHeld_n hi (fun hv' => skip_ne hv (gv_valid i hi hv'))) (fun _ _ _ => rfl)
theorem XO_skip {n k : ℕ} (l : ℕ) (hv : ¬Valid n) (hk : k ≤ n) (hk' : n ≤ k + 3) (hn : n < 384) : XO D c l n k = XO D c l (n + 1) k := by
  unfold XO
  exact fam_same (fun i hi => by rw [Finset.mem_range] at hi; simp only [Valid, cnt] at *; omega) (fun _ _ _ => rfl)
theorem SS_skip {n k : ℕ} (hv : ¬Valid n) (hk : k ≤ n) (hk' : n ≤ k + 3) (hn : n < 384) : SS D c n k = SS D c (n + 1) k := by
  unfold SS
  exact fam_same (fun i hi => by rw [Finset.mem_Ico] at hi; simp only [Valid, SHeld, cnt] at *; omega) (fun _ _ _ => rfl)
omit [FloatOps F] in
theorem SB_skip {n k : ℕ} (hv : ¬Valid n) (hk : k ≤ n) (hk' : n ≤ k + 3) (hn : n < 384) : SB c n k = SB (F := F) c (n + 1) k := by
  unfold SB
  exact fam_same (fun i hi => by rw [Finset.mem_range] at hi; simp only [Valid, BHeld, cand] at *; omega) (fun _ _ _ => rfl)
omit [FloatOps F] in
theorem GR_skip {n k : ℕ} (hv : ¬Valid n) : GR c n k = GR (F := F) c (n + 1) k := by
  unfold GR
  refine fam_same (fun i hi => ?_) (fun _ _ _ => rfl)
  constructor
  · rintro ⟨h1, h2, h3⟩
    exact ⟨by by_contra h; exact hv ((show i = n by omega) ▸ h2), h2, h3⟩
  · rintro ⟨h1, h2, h3⟩; exact ⟨by omega, h2, h3⟩
omit [FloatOps F] in
theorem TK_skip {n : ℕ} (hv : ¬Valid n) : TK c n = TK (F := F) c (n + 1) := by unfold TK; rw [rem_skip hv]
omit [FloatOps F] in
theorem FL_skip {n k : ℕ} (hv : ¬Valid n) : FL c n k = FL (F := F) c (n + 1) k := by
  unfold FL
  exact fam_same (fun i hi => by simp only [Valid] at *; omega) (fun _ _ _ => rfl)

theorem XA_skip' {n k : ℕ} (hv : ¬Valid k) (hk : k < n) (hk' : n ≤ k + 4) (hn : k < 384) : XA D c n k = XA D c n (k + 1) := by
  unfold XA
  exact fam_same (fun i hi => by rw [Finset.mem_range] at hi; exact (and_congr (XHeld_k hi (fun hv' => skip_ne hv hv')) (not_congr (XOut_k (fun _ hv' => skip_ne hv hv')))).symm) (fun i hi h => by
    rw [Finset.mem_range] at hi
    have hvi := h.1.1
    try dsimp only
    rw [cnt_eq (by omega) (skip_ne hv hvi)])
theorem XB_skip' {n k : ℕ} (hv : ¬Valid k) (hk : k < n) (hk' : n ≤ k + 4) (hn : k < 384) : XB D c n k = XB D c n (k + 1) := by
  unfold XB
  exact fam_same (fun i hi => by rw [Finset.mem_range] at hi; exact (XHeld_k hi (fun hv' => skip_ne hv hv')).symm) (fun i hi h => by
    rw [Finset.mem_range] at hi
    have hvi := h.1
    try dsimp only
    rw [cnt_eq (by omega) (skip_ne hv hvi)])
theorem XO_skip' {n k : ℕ} (l : ℕ) (hv : ¬Valid k) (hk : k < n) (hk' : n ≤ k + 4) (hn : k < 384) : XO D c l n k = XO D c l n (k + 1) := by
  unfold XO
  exact fam_same (fun i hi => by rw [Finset.mem_range] at hi; simp only [Valid, cnt] at *; omega) (fun _ _ _ => rfl)
theorem SS_skip' {n k : ℕ} (hv : ¬Valid k) (hk : k < n) (hk' : n ≤ k + 4) (hn : k < 384) : SS D c n k = SS D c n (k + 1) := by
  unfold SS
  exact fam_same (fun i hi => by rw [Finset.mem_Ico] at hi; simp only [Valid, SHeld, cnt] at *; omega) (fun i hi h => by
    rw [Finset.mem_Ico] at hi
    have := h.1
    try dsimp only
    rw [show cnt (k + 1) i = cnt k i by simp only [Valid, SHeld, cnt] at *; omega])
omit [FloatOps F] in
theorem SB_skip' {n k : ℕ} (hv : ¬Valid k) (hk : k < n) (hk' : n ≤ k + 4) (hn : k < 384) : SB c n k = SB (F := F) c n (k + 1) := by
  unfold SB
  exact fam_same (fun i hi => by rw [Finset.mem_range] at hi; simp only [Valid, BHeld, cand] at *; omega) (fun _ _ _ => rfl)
omit [FloatOps F] in
theorem GR_skip' {n k : ℕ} (hv : ¬Valid k) : GR c n k = GR (F := F) c n (k + 1) := by
  unfold GR
  refine fam_same (fun i hi => ?_) (fun _ _ _ => rfl)
  constructor
  · rintro ⟨h1, h2, h3⟩; exact ⟨h1, h2, by omega⟩
  · rintro ⟨h1, h2, h3 | h3⟩
    · exact ⟨h1, h2, .inl h3⟩
    · by_cases h7 : i < 64
      · exact ⟨h1, h2, .inl h7⟩
      · refine ⟨h1, h2, .inr ?_⟩
        have : grInv i ≠ k := fun h => hv (h ▸ valid_grInv h2 (by omega))
        omega
omit [FloatOps F] in
theorem FL_skip' {n k : ℕ} (hv : ¬Valid k) : FL c n k = FL (F := F) c n (k + 1) := by
  unfold FL
  exact fam_same (fun i hi => by simp only [Valid] at *; omega) (fun _ _ _ => rfl)
omit [FloatOps F] in
theorem IC_skip' {k : ℕ} (hv : ¬Valid k) : IC c k = IC (F := F) c (k + 1) := by unfold IC; rw [rem_skip hv]
omit [FloatOps F] in
theorem RP_skip' {k : ℕ} (hv : ¬Valid k) : RP c k = RP (F := F) c (k + 1) := by
  unfold RP
  exact fam_same (fun _ _ => Iff.rfl) (fun i hi h => by
    rw [Finset.mem_range] at hi
    try dsimp only
    rw [show cnt (k + 1) i = cnt k i by simp only [Valid, cnt] at *; omega])
omit [FloatOps F] in
theorem SP_skip' {k : ℕ} (hv : ¬Valid k) : SP c k = SP (F := F) c (k + 1) := by
  unfold SP
  refine bigSep_congr fun i hi => ?_
  rw [Finset.mem_range] at hi
  rw [sCnt_skip hv hi]
end Skip

end Cert.KernelIdeal.Mlp
-- ==== Proof.Rows.lean ====
/-
# Rows of the buffers

Each access of the kernel is to whole rows of a buffer, 32 or 64 of them from a row which is a multiple of 32. Here is
which elements such a rectangle has, what a load of it reads and what a store of it leaves.
-/
module

public import proofs.«01_k».proof.Proof.State

@[expose] public section

noncomputable section

namespace Cert.KernelIdeal.Mlp

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

section Sets
variable (c : Dev nD)

theorem mem_rows2048_32 {r : ℕ} {inb} {i : S2048x1024.Idx} :
    i ∈ (Rect.unit (s := S2048x1024) ![r, 0] S32x1024.size inb).set ↔ r ≤ (i 0).val ∧ (i 0).val < r + 32 := by
  rw [Rect.mem_set_unit]
  constructor
  · intro h; exact h 0
  · intro h a
    match a with
    | 0 => exact h
    | 1 => exact ⟨Nat.zero_le _, by have h1 : (i 1).val < 1024 := (i 1).isLt; show (i 1).val < 0 + 1024; omega⟩
theorem set_scratch0_32 {r : ℕ} {inb} :
    ((Memref.whole cc0_scratch0).access (Rect.unit (s := S2048x1024) ![r, 0] S32x1024.size inb)).set
      = (Rect.unit (s := S2048x1024) ![r, 0] S32x1024.size inb).set := View.set_slice_whole _ _
theorem read_scratch0_32 {r : ℕ} {inb} (f : S2048x1024.Idx → Elt F .bf16) :
    ((Memref.whole cc0_scratch0).access (Rect.unit (s := S2048x1024) ![r, 0] S32x1024.size inb)).read (Elt F) f
      = fun j => f ((Rect.unit (s := S2048x1024) ![r, 0] S32x1024.size inb).emb j) := rfl
theorem set_scratch1_32 {r : ℕ} {inb} :
    ((Memref.whole cc0_scratch1).access (Rect.unit (s := S2048x1024) ![r, 0] S32x1024.size inb)).set
      = (Rect.unit (s := S2048x1024) ![r, 0] S32x1024.size inb).set := View.set_slice_whole _ _
theorem read_scratch1_32 {r : ℕ} {inb} (f : S2048x1024.Idx → Elt F .f32) :
    ((Memref.whole cc0_scratch1).access (Rect.unit (s := S2048x1024) ![r, 0] S32x1024.size inb)).read (Elt F) f
      = fun j => f ((Rect.unit (s := S2048x1024) ![r, 0] S32x1024.size inb).emb j) := rfl
theorem mem_rows2048_64 {r : ℕ} {inb} {i : S2048x1024.Idx} :
    i ∈ (Rect.unit (s := S2048x1024) ![r, 0] S64x1024.size inb).set ↔ r ≤ (i 0).val ∧ (i 0).val < r + 64 := by
  rw [Rect.mem_set_unit]
  constructor
  · intro h; exact h 0
  · intro h a
    match a with
    | 0 => exact h
    | 1 => exact ⟨Nat.zero_le _, by have h1 : (i 1).val < 1024 := (i 1).isLt; show (i 1).val < 0 + 1024; omega⟩
theorem set_scratch0_64 {r : ℕ} {inb} :
    ((Memref.whole cc0_scratch0).access (Rect.unit (s := S2048x1024) ![r, 0] S64x1024.size inb)).set
      = (Rect.unit (s := S2048x1024) ![r, 0] S64x1024.size inb).set := View.set_slice_whole _ _
theorem read_scratch0_64 {r : ℕ} {inb} (f : S2048x1024.Idx → Elt F .bf16) :
    ((Memref.whole cc0_scratch0).access (Rect.unit (s := S2048x1024) ![r, 0] S64x1024.size inb)).read (Elt F) f
      = fun j => f ((Rect.unit (s := S2048x1024) ![r, 0] S64x1024.size inb).emb j) := rfl
theorem set_scratch1_64 {r : ℕ} {inb} :
    ((Memref.whole cc0_scratch1).access (Rect.unit (s := S2048x1024) ![r, 0] S64x1024.size inb)).set
      = (Rect.unit (s := S2048x1024) ![r, 0] S64x1024.size inb).set := View.set_slice_whole _ _
theorem read_scratch1_64 {r : ℕ} {inb} (f : S2048x1024.Idx → Elt F .f32) :
    ((Memref.whole cc0_scratch1).access (Rect.unit (s := S2048x1024) ![r, 0] S64x1024.size inb)).read (Elt F) f
      = fun j => f ((Rect.unit (s := S2048x1024) ![r, 0] S64x1024.size inb).emb j) := rfl
theorem mem_rows64_32 {r : ℕ} {inb} {i : S64x1024.Idx} :
    i ∈ (Rect.unit (s := S64x1024) ![r, 0] S32x1024.size inb).set ↔ r ≤ (i 0).val ∧ (i 0).val < r + 32 := by
  rw [Rect.mem_set_unit]
  constructor
  · intro h; exact h 0
  · intro h a
    match a with
    | 0 => exact h
    | 1 => exact ⟨Nat.zero_le _, by have h1 : (i 1).val < 1024 := (i 1).isLt; show (i 1).val < 0 + 1024; omega⟩
theorem set_scratch2_32 {r : ℕ} {inb} :
    ((Memref.whole cc0_scratch2).access (Rect.unit (s := S64x1024) ![r, 0] S32x1024.size inb)).set
      = (Rect.unit (s := S64x1024) ![r, 0] S32x1024.size inb).set := View.set_slice_whole _ _
theorem read_scratch2_32 {r : ℕ} {inb} (f : S64x1024.Idx → Elt F .bf16) :
    ((Memref.whole cc0_scratch2).access (Rect.unit (s := S64x1024) ![r, 0] S32x1024.size inb)).read (Elt F) f
      = fun j => f ((Rect.unit (s := S64x1024) ![r, 0] S32x1024.size inb).emb j) := rfl
theorem set_scratch3_32 {r : ℕ} {inb} :
    ((Memref.whole cc0_scratch3).access (Rect.unit (s := S64x1024) ![r, 0] S32x1024.size inb)).set
      = (Rect.unit (s := S64x1024) ![r, 0] S32x1024.size inb).set := View.set_slice_whole _ _
theorem read_scratch3_32 {r : ℕ} {inb} (f : S64x1024.Idx → Elt F .bf16) :
    ((Memref.whole cc0_scratch3).access (Rect.unit (s := S64x1024) ![r, 0] S32x1024.size inb)).read (Elt F) f
      = fun j => f ((Rect.unit (s := S64x1024) ![r, 0] S32x1024.size inb).emb j) := rfl
theorem mem_rows64_64 {r : ℕ} {inb} {i : S64x1024.Idx} :
    i ∈ (Rect.unit (s := S64x1024) ![r, 0] S64x1024.size inb).set ↔ r ≤ (i 0).val ∧ (i 0).val < r + 64 := by
  rw [Rect.mem_set_unit]
  constructor
  · intro h; exact h 0
  · intro h a
    match a with
    | 0 => exact h
    | 1 => exact ⟨Nat.zero_le _, by have h1 : (i 1).val < 1024 := (i 1).isLt; show (i 1).val < 0 + 1024; omega⟩
theorem set_scratch2_64 {r : ℕ} {inb} :
    ((Memref.whole cc0_scratch2).access (Rect.unit (s := S64x1024) ![r, 0] S64x1024.size inb)).set
      = (Rect.unit (s := S64x1024) ![r, 0] S64x1024.size inb).set := View.set_slice_whole _ _
theorem read_scratch2_64 {r : ℕ} {inb} (f : S64x1024.Idx → Elt F .bf16) :
    ((Memref.whole cc0_scratch2).access (Rect.unit (s := S64x1024) ![r, 0] S64x1024.size inb)).read (Elt F) f
      = fun j => f ((Rect.unit (s := S64x1024) ![r, 0] S64x1024.size inb).emb j) := rfl
theorem set_scratch3_64 {r : ℕ} {inb} :
    ((Memref.whole cc0_scratch3).access (Rect.unit (s := S64x1024) ![r, 0] S64x1024.size inb)).set
      = (Rect.unit (s := S64x1024) ![r, 0] S64x1024.size inb).set := View.set_slice_whole _ _
theorem read_scratch3_64 {r : ℕ} {inb} (f : S64x1024.Idx → Elt F .bf16) :
    ((Memref.whole cc0_scratch3).access (Rect.unit (s := S64x1024) ![r, 0] S64x1024.size inb)).read (Elt F) f
      = fun j => f ((Rect.unit (s := S64x1024) ![r, 0] S64x1024.size inb).emb j) := rfl
theorem mem_rows960_32 {r : ℕ} {inb} {i : S960x1024.Idx} :
    i ∈ (Rect.unit (s := S960x1024) ![r, 0] S32x1024.size inb).set ↔ r ≤ (i 0).val ∧ (i 0).val < r + 32 := by
  rw [Rect.mem_set_unit]
  constructor
  · intro h; exact h 0
  · intro h a
    match a with
    | 0 => exact h
    | 1 => exact ⟨Nat.zero_le _, by have h1 : (i 1).val < 1024 := (i 1).isLt; show (i 1).val < 0 + 1024; omega⟩
theorem set_scratch4_32 {r : ℕ} {inb} :
    ((Memref.whole cc0_scratch4).access (Rect.unit (s := S960x1024) ![r, 0] S32x1024.size inb)).set
      = (Rect.unit (s := S960x1024) ![r, 0] S32x1024.size inb).set := View.set_slice_whole _ _
theorem read_scratch4_32 {r : ℕ} {inb} (f : S960x1024.Idx → Elt F .bf16) :
    ((Memref.whole cc0_scratch4).access (Rect.unit (s := S960x1024) ![r, 0] S32x1024.size inb)).read (Elt F) f
      = fun j => f ((Rect.unit (s := S960x1024) ![r, 0] S32x1024.size inb).emb j) := rfl
theorem mem_rows960_64 {r : ℕ} {inb} {i : S960x1024.Idx} :
    i ∈ (Rect.unit (s := S960x1024) ![r, 0] S64x1024.size inb).set ↔ r ≤ (i 0).val ∧ (i 0).val < r + 64 := by
  rw [Rect.mem_set_unit]
  constructor
  · intro h; exact h 0
  · intro h a
    match a with
    | 0 => exact h
    | 1 => exact ⟨Nat.zero_le _, by have h1 : (i 1).val < 1024 := (i 1).isLt; show (i 1).val < 0 + 1024; omega⟩
theorem set_scratch4_64 {r : ℕ} {inb} :
    ((Memref.whole cc0_scratch4).access (Rect.unit (s := S960x1024) ![r, 0] S64x1024.size inb)).set
      = (Rect.unit (s := S960x1024) ![r, 0] S64x1024.size inb).set := View.set_slice_whole _ _
theorem read_scratch4_64 {r : ℕ} {inb} (f : S960x1024.Idx → Elt F .bf16) :
    ((Memref.whole cc0_scratch4).access (Rect.unit (s := S960x1024) ![r, 0] S64x1024.size inb)).read (Elt F) f
      = fun j => f ((Rect.unit (s := S960x1024) ![r, 0] S64x1024.size inb).emb j) := rfl
theorem mem_rows1024_32 {r : ℕ} {inb} {i : S1024x1024.Idx} :
    i ∈ (Rect.unit (s := S1024x1024) ![r, 0] S32x1024.size inb).set ↔ r ≤ (i 0).val ∧ (i 0).val < r + 32 := by
  rw [Rect.mem_set_unit]
  constructor
  · intro h; exact h 0
  · intro h a
    match a with
    | 0 => exact h
    | 1 => exact ⟨Nat.zero_le _, by have h1 : (i 1).val < 1024 := (i 1).isLt; show (i 1).val < 0 + 1024; omega⟩
theorem set_scratch5_32 {r : ℕ} {inb} :
    ((Memref.whole cc0_scratch5).access (Rect.unit (s := S1024x1024) ![r, 0] S32x1024.size inb)).set
      = (Rect.unit (s := S1024x1024) ![r, 0] S32x1024.size inb).set := View.set_slice_whole _ _
theorem read_scratch5_32 {r : ℕ} {inb} (f : S1024x1024.Idx → Elt F .bf16) :
    ((Memref.whole cc0_scratch5).access (Rect.unit (s := S1024x1024) ![r, 0] S32x1024.size inb)).read (Elt F) f
      = fun j => f ((Rect.unit (s := S1024x1024) ![r, 0] S32x1024.size inb).emb j) := rfl
theorem mem_rows1024_64 {r : ℕ} {inb} {i : S1024x1024.Idx} :
    i ∈ (Rect.unit (s := S1024x1024) ![r, 0] S64x1024.size inb).set ↔ r ≤ (i 0).val ∧ (i 0).val < r + 64 := by
  rw [Rect.mem_set_unit]
  constructor
  · intro h; exact h 0
  · intro h a
    match a with
    | 0 => exact h
    | 1 => exact ⟨Nat.zero_le _, by have h1 : (i 1).val < 1024 := (i 1).isLt; show (i 1).val < 0 + 1024; omega⟩
theorem set_scratch5_64 {r : ℕ} {inb} :
    ((Memref.whole cc0_scratch5).access (Rect.unit (s := S1024x1024) ![r, 0] S64x1024.size inb)).set
      = (Rect.unit (s := S1024x1024) ![r, 0] S64x1024.size inb).set := View.set_slice_whole _ _
theorem read_scratch5_64 {r : ℕ} {inb} (f : S1024x1024.Idx → Elt F .bf16) :
    ((Memref.whole cc0_scratch5).access (Rect.unit (s := S1024x1024) ![r, 0] S64x1024.size inb)).read (Elt F) f
      = fun j => f ((Rect.unit (s := S1024x1024) ![r, 0] S64x1024.size inb).emb j) := rfl

end Sets

theorem unit_row {s : Shape} (off size : Fin s.rank → ℕ) (inb) (j : (Rect.unit (s := s) off size inb).shape.Idx) (a : Fin s.rank) :
    (((Rect.unit (s := s) off size inb).emb j) a).val = off a + 1 * (j a).val := rfl

end Cert.KernelIdeal.Mlp
-- ==== Proof.Hold.lean ====
/-
# A device's holdings as one assertion, and rules for the steps of its program

`SG` is everything a device holds when its next copy to start is `n` and the next it waits for is `k`, together with
what all devices share. The rules are stated as implications: to run a program from `P`, run what is left of it from
the assertion after its first step.
-/
module

public import proofs.«01_k».proof.Proof.StateStart
public import proofs.«01_k».proof.Proof.StateWait
public import proofs.«01_k».proof.Proof.StateSkip
public import proofs.«01_k».proof.Proof.Rows

@[expose] public section

noncomputable section

namespace Cert.KernelIdeal.Mlp

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

abbrev 𝒱₀ : Variants := Variants.none

abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-! ## What all devices share -/

/-- The barriers, and the copies' semaphores. -/
def barCells : Finset (GSem nD τ sig) := Finset.univ.image fun c : Dev nD => bar c
def dmaCells : Finset (GSem nD τ sig) :=
  ((Finset.univ : Finset (Dev nD × Fin 142)).filter fun p => 10 ≤ p.2.val).image fun p => ((p.1 : Thread nD τ), .dma p.2)

/-- The first slot's invariant: its second half, unless a copy or a load has it. -/
def slotBody (c : Dev nD) (m : ℕ) : sProp 𝕄 := iprop((tTok (F := F) c m ∗ wTok (F := F) c m) ∨ slotAny (F := F) c m fullShare.right)

instance slotBody_storable (c : Dev nD) (m : ℕ) : BI.Storable (upEmb : UEmb _ 𝕄) (slotBody (F := F) c m) := by
  unfold slotBody; infer_instance

structure Names where
  cell : GSem nD τ sig → ℕ
  slot : Dev nD × ℕ → ℕ

def Cx (D : Vals F) (K : Names) : sProp 𝕄 :=
  iprop(levAts L lv ∗ bigSep (barCells ∪ dmaCells) (fun g => cellInv ER (Rd D) (K.cell g) g)
    ∗ bigSep ((Finset.univ : Finset (Dev nD)) ×ˢ Finset.Ico 64 68) (fun p => inv (K.slot p) (slotBody (F := F) p.1 p.2)))

instance Cx_persistent (D : Vals F) (K : Names) : Persistent (Cx D K) := by unfold Cx; infer_instance

theorem mem_bar (c : Dev nD) : bar c ∈ barCells ∪ dmaCells :=
  Finset.mem_union_left _ (Finset.mem_image.2 ⟨c, Finset.mem_univ _, rfl⟩)
theorem mem_dma (c : Dev nD) (q : Fin 142) (h : 10 ≤ q.val) : (((c : Thread nD τ), .dma q) : GSem nD τ sig) ∈ barCells ∪ dmaCells :=
  Finset.mem_union_right _ (Finset.mem_image.2 ⟨(c, q), Finset.mem_filter.2 ⟨Finset.mem_univ _, h⟩, rfl⟩)

theorem Cx_cell (D : Vals F) (K : Names) {g : GSem nD τ sig} (h : g ∈ barCells ∪ dmaCells) : Cx D K ⊢ cellInv ER (Rd D) (K.cell g) g := by
  unfold Cx
  exact (BI.sep_and.trans BI.and_elimR).trans ((BI.sep_and.trans BI.and_elimL).trans (bigSep_elim h (Φ := fun g => cellInv ER (Rd D) (K.cell g) g)))
theorem Cx_send (D : Vals F) (K : Names) (c : Dev nD) (m : ℕ) : Cx D K ⊢ cellInv ER (Rd D) (K.cell (sendC c m)) (sendC c m) :=
  Cx_cell D K (mem_dma c _ (sendNo_ge m))
theorem Cx_recv (D : Vals F) (K : Names) (c : Dev nD) (m : ℕ) : Cx D K ⊢ cellInv ER (Rd D) (K.cell (recvC c m)) (recvC c m) :=
  Cx_cell D K (mem_dma c _ (by have := recvNo_ge m; show 10 ≤ recvNo m; omega))
theorem Cx_slot (D : Vals F) (K : Names) (c : Dev nD) {m : ℕ} (h : 64 ≤ m ∧ m < 68) : Cx D K ⊢ inv (K.slot (c, m)) (slotBody (F := F) c m) := by
  unfold Cx
  exact (BI.sep_and.trans BI.and_elimR).trans ((BI.sep_and.trans BI.and_elimR).trans (bigSep_elim (i := (c, m))
    (Finset.mem_product.2 ⟨Finset.mem_univ _, Finset.mem_Ico.2 h⟩) (Φ := fun p : Dev nD × ℕ => inv (K.slot p) (slotBody (F := F) p.1 p.2))))
theorem Cx_may (D : Vals F) (K : Names) (c : Dev nD) (sm : SemLoc sig) {n i : ℕ} (hi : i < 2 + n / 4) (hi' : i < 100) :
    Cx D K ⊢ MayWait (c : Thread nD τ) sm i (owed c n) := by
  unfold Cx
  exact (BI.sep_and.trans BI.and_elimL).trans (mayWait c sm hi hi')

/-! ## What one device holds -/

section Hold
variable (D : Vals F) (c : Dev nD)

def Ow (n : ℕ) : sProp 𝕄 := iprop(∃ W, owes (c : Thread nD τ) (owed c n) W)

/-- The partial products are right at the blocks `j` places on with `Dn j`. -/
def PbOK (l : ℕ) (Dn : ℕ → Prop) (f : S2048x1024.Idx → F .f32) : Prop :=
  ∀ j, Dn j → ∀ i : S2048x1024.Idx, (i 0).val / 64 = (blk c j).val → f i = rows2048 (D.part (D.X l) l c) i
def pPts (f : S2048x1024.Idx → F .f32) : sProp 𝕄 :=
  ((c : Thread nD τ).loc cc0_scratch1) ↦{fullShare} (show Buf (Elt F) ((c : Thread nD τ).loc cc0_scratch1) from f)
def Pb (l : ℕ) (Dn : ℕ → Prop) : sProp 𝕄 := iprop(∃ f, ⌜PbOK D c l Dn f⌝ ∗ pPts c f)

/-- The right to read the first slots. -/
def Tt : sProp 𝕄 := bigSep (Finset.Ico 64 68) fun m => tTok (F := F) c m

/-- The tables as the staging buffers hold them. -/
def cycF : S1x32.Idx → BitVec 32 := fun i => lit0 (i 1)
def invF : S1x32.Idx → BitVec 32 := fun i => lit1 (i 1)

abbrev wPts (b : Ref sig .tc) (f : Buf (Elt F) ((c : Thread nD τ).loc b)) : sProp 𝕄 := ((c : Thread nD τ).loc b) ↦{fullShare} f
def tabs : sProp 𝕄 := iprop(wPts c cc0_stg0_0 cycF ∗ wPts c cc0_stg1_0 invF)
def wiPts (j : ℕ) : sProp 𝕄 := match j with
  | 0 => wPts c cc0_stg3_0 (D.wi 0 c)
  | 1 => wPts c cc0_stg4_0 (D.wi 1 c)
  | _ => wPts c cc0_stg5_0 (D.wi 2 c)
def woPts (j : ℕ) : sProp 𝕄 := match j with
  | 0 => wPts c cc0_stg6_0 (D.wo 0 c)
  | 1 => wPts c cc0_stg7_0 (D.wo 1 c)
  | _ => wPts c cc0_stg8_0 (D.wo 2 c)
def Sg : sProp 𝕄 :=
  iprop(tabs c ∗ wPts c cc0_stg2_0 (D.x c) ∗ (wiPts D c 0 ∗ wiPts D c 1 ∗ wiPts D c 2) ∗ (woPts D c 0 ∗ woPts D c 1 ∗ woPts D c 2)
    ∗ ∃ f, wPts c cc0_stg9_0 f)

/-- Everything held of the copies; `nB` and `kS` are `n` and `k` except between the two halves of a step. -/
def SG (K : Names) (l : ℕ) (Dn : ℕ → Prop) (n k nB kS : ℕ) : sProp 𝕄 :=
  iprop(Cx D K ∗ XA D c n k ∗ XB D c n k ∗ XO D c l n k ∗ XK D c l ∗ SS D c n k ∗ SB (F := F) c nB k ∗ GR (F := F) c n k ∗ TK (F := F) c n
    ∗ FL (F := F) c n kS ∗ IC (F := F) c k ∗ RP (F := F) c k ∗ SP (F := F) c kS ∗ Ow (F := F) c n ∗ Pb D c l Dn ∗ Tt (F := F) c ∗ Sg D c)
abbrev St (K : Names) (l : ℕ) (Dn : ℕ → Prop) (n k : ℕ) : sProp 𝕄 := SG D c K l Dn n k n k
/-- Between the two waits of a step. -/
abbrev St1 (K : Names) (l : ℕ) (Dn : ℕ → Prop) (n k : ℕ) : sProp 𝕄 := iprop(sendPay D c k ∗ SG D c K l Dn n k n (k + 1))
/-- The running sum that copy `n` takes along, in its buffer. -/
def filled (n : ℕ) : sProp 𝕄 :=
  if n % 2 = 0 then blPts c (n % 4 / 2) (D.sumL (D.X (n / 128)) (n / 128) (n % 64 / 4) c)
  else brPts c (n % 4 / 2) (D.sumR (D.X (n / 128)) (n / 128) (n % 64 / 4) c)
/-- Between the store of a running sum and the start of its copy. -/
abbrev StF (K : Names) (l : ℕ) (Dn : ℕ → Prop) (n k : ℕ) : sProp 𝕄 := iprop(filled D c n ∗ SG D c K l Dn n k (n + 1) k)
end Hold

/-! ## Taking a part out and putting it back -/

section Borrow
variable {X Y Z : sProp (MT nD τ sig ℕ (Elt F) ℕ UU ℕ)}
omit [FloatOps F] in
theorem bor_refl : Z ⊢ iprop(Z ∗ (Z -∗ Z)) := by
  iintro H; isplitl [H]; · iexact H
  iintro H; iexact H
omit [FloatOps F] in
theorem bor_r (h : Y ⊢ iprop(Z ∗ (Z -∗ Y))) : iprop(X ∗ Y) ⊢ iprop(Z ∗ (Z -∗ X ∗ Y)) := by
  iintro ⟨HX, HY⟩
  ihave H := h $$ HY
  icases H with ⟨HZ, Hb⟩
  isplitl [HZ]; · iexact HZ
  iintro HZ; isplitl [HX]; · iexact HX
  iapply Hb; iexact HZ
omit [FloatOps F] in
theorem bor_l (h : X ⊢ iprop(Z ∗ (Z -∗ X))) : iprop(X ∗ Y) ⊢ iprop(Z ∗ (Z -∗ X ∗ Y)) := by
  iintro ⟨HX, HY⟩
  ihave H := h $$ HX
  icases H with ⟨HZ, Hb⟩
  isplitl [HZ]; · iexact HZ
  iintro HZ; isplitl [Hb HZ]; · iapply Hb; iexact HZ
  iexact HY
end Borrow

/-! ## Rules for any step -/

section Generic
variable {c : Dev nD} {α β : Type} {P : sProp (MT nD τ sig ℕ (Elt F) ℕ UU ℕ)} {Q : α → sProp (MT nD τ sig ℕ (Elt F) ℕ UU ℕ)}

theorem W_bind {p : Prog (TpuEff nD τ sig (Elt F) Λ₀ .tc) β} {k : β → Prog (TpuEff nD τ sig (Elt F) Λ₀ .tc) α}
    (H : P ⊢ WP c p (fun x => WP c (k x) Q)) : P ⊢ WP c (p >>= k) Q := by
  unfold WP; rw [wp_bind]; exact H
theorem W_pure {x : α} (H : P ⊢ Q x) : P ⊢ WP c (pure x) Q := by
  unfold WP; rw [Prog.pure_eq_ret, wp_ret]
  iintro HP; imodintro; iapply H; iexact HP
theorem W_assume {p : Prop} {d : Decidable p} {k : PLift p → Prog (TpuEff nD τ sig (Elt F) Λ₀ .tc) α} (h : p)
    (H : P ⊢ WP c (k ⟨h⟩) Q) : P ⊢ WP c (Prog.lift (.assume p d) >>= k) Q := by
  unfold WP
  simp only [Prog.lift, Prog.bind_op, Prog.bind_ret]
  rw [wp_assume_of _ _ _ _ (d := d) h]; exact H
/-- A conditional step whose other branch does nothing. -/
theorem W_if {p : Prop} [Decidable p] {R : sProp 𝕄} {x : Prog (TpuEff nD τ sig (Elt F) Λ₀ .tc) α} {a : p → Prog (TpuEff nD τ sig (Elt F) Λ₀ .tc) α}
    (hx : R ⊢ WP c x Q) (ha : ∀ h, (R ⊢ WP c x Q) → P ⊢ WP c (a h) Q) (hb : ¬p → P ⊢ R) : P ⊢ WP c (dite p a (fun _ => x)) Q := by
  by_cases h : p
  · rw [dif_pos h]; exact ha h hx
  · rw [dif_neg h]; exact (hb h).trans hx

theorem W_load {cs : CoreSpace} {s : Shape} {e : EltTy} {m : Memref sig .tc cs s e} {r : Rect s} {hl : m.view.LoadsAt r}
    {k : (r.shape.Idx → Elt F e) → Prog (TpuEff nD τ sig (Elt F) Λ₀ .tc) α}
    (q : PosShare TreeShare) (S : Finset (Idx ((m.access r).loc (c : Thread nD τ)))) (φ : Buf (Elt F) ((m.access r).loc (c : Thread nD τ)) → Prop)
    (hS : (m.access r).set ⊆ S)
    (hP : P ⊢ iprop(∃ f, ⌜φ f⌝ ∗ ((m.access r).loc (c : Thread nD τ) ↦[S]{q} f) ∗ (((m.access r).loc (c : Thread nD τ) ↦[S]{q} f) -∗ P)))
    (H : ∀ f, φ f → P ⊢ WP c (k ((m.access r).read (Elt F) f)) Q) : P ⊢ WP c (Prog.lift (.load m r hl) >>= k) Q := by
  unfold WP
  simp only [Prog.lift, Prog.bind_op, Prog.bind_ret]
  iintro HP
  ihave HP' := hP $$ HP
  icases HP' with ⟨%f, %hf, Hf, Hback⟩
  iapply (wp_load_rect 𝒱₀ (c : Thread nD τ) none Set.univ hS) $$ Hf
  iintro Hf
  iapply (H f hf)
  iapply Hback; iexact Hf

theorem W_store {cs : CoreSpace} {s : Shape} {e : EltTy} {m : Memref sig .tc cs s e} {r : Rect s} {w : r.shape.Idx → Elt F e} {hx : (m.access r).Stores Finset.univ}
    {hm : (Finset.univ : Finset r.shape.Idx) = Finset.univ ∨ ∀ a, r.stride a = 1} {k : PUnit → Prog (TpuEff nD τ sig (Elt F) Λ₀ .tc) α}
    (S : Finset (Idx ((m.access r).loc (c : Thread nD τ)))) (φ : Buf (Elt F) ((m.access r).loc (c : Thread nD τ)) → Prop) {P' : sProp 𝕄}
    (hS : (m.access r).set ⊆ S)
    (hP : P ⊢ iprop(∃ f, ⌜φ f⌝ ∗ ((m.access r).loc (c : Thread nD τ) ↦[S]{fullShare} f)
      ∗ (((m.access r).loc (c : Thread nD τ) ↦[S]{fullShare} ((m.access r).write (Elt F) f w Finset.univ)) -∗ P')))
    (H : P' ⊢ WP c (k ⟨⟩) Q) : P ⊢ WP c (Prog.lift (.store m r w Finset.univ hx hm) >>= k) Q := by
  unfold WP
  simp only [Prog.lift, Prog.bind_op, Prog.bind_ret]
  iintro HP
  ihave HP' := hP $$ HP
  icases HP' with ⟨%f, %hf, Hf, Hback⟩
  iapply (wp_store 𝒱₀ (c : Thread nD τ) none Set.univ ((View.setOn_subset_set _ _).trans hS)) $$ Hf
  iintro Hf
  iapply H
  iapply Hback; iexact Hf

end Generic

/-! ## Words of the table of ring positions -/

section Word
variable {D : Vals F} {c : Dev nD} {α : Type} {Q : α → sProp (MT nD τ sig ℕ (Elt F) ℕ UU ℕ)}

theorem read_word0 {off : Fin 2 → ℕ} {j : ℕ} (hj : j < 32) (hoff : off = ![0, j]) {inb} (x) :
    ((Memref.whole cc0_stg0_0).access (Rect.unit (s := S1x32) off S1x1.size inb)).read (Elt F) cycF x = wd (at_ j).val := by
  subst hoff
  refine Eq.trans (b := lit0 ⟨j, hj⟩) (congrArg lit0 (Fin.ext ?_)) (lit0_eq j hj)
  show j + 1 * (x 1).val = j
  have : (x 1).val < 1 := (x 1).isLt
  omega
theorem read_word1 {off : Fin 2 → ℕ} (d : Dev nD) (hoff : off = ![0, d.val]) {inb} (x) :
    ((Memref.whole cc0_stg1_0).access (Rect.unit (s := S1x32) off S1x1.size inb)).read (Elt F) invF x = wd (pos d) := by
  subst hoff
  refine Eq.trans (b := lit1 d) (congrArg lit1 (Fin.ext ?_)) (lit1_eq d)
  show d.val + 1 * (x 1).val = d.val
  have : (x 1).val < 1 := (x 1).isLt
  omega

theorem SG_tabs {K : Names} {l : ℕ} {Dn : ℕ → Prop} {n k nB kS : ℕ} : SG D c K l Dn n k nB kS ⊢ iprop(tabs c ∗ (tabs c -∗ SG D c K l Dn n k nB kS)) := by
  unfold SG Sg
  exact bor_r <| bor_r <| bor_r <| bor_r <| bor_r <| bor_r <| bor_r <| bor_r <| bor_r <| bor_r <| bor_r <| bor_r <| bor_r <| bor_r <| bor_r <| bor_r <| bor_l <| bor_refl

variable {P : sProp (MT nD τ sig ℕ (Elt F) ℕ UU ℕ)} (hP : P ⊢ iprop(tabs c ∗ (tabs c -∗ P)))
include hP

theorem W_word {off : Fin 2 → ℕ} (j : ℕ) (hj : j < 32) (hoff : off = ![0, j]) {inb} {h1 hp} {k : Elt F .i32 → Prog (TpuEff nD τ sig (Elt F) Λ₀ .tc) α}
    (H : P ⊢ WP c (k (wd (at_ j).val)) Q) :
    P ⊢ WP c (smemLoad (nD := nD) (τ := τ) (Λ := Λ₀) (p := .tc) (Val := Elt F) (e := .i32) (Memref.whole cc0_stg0_0) (Rect.unit (s := S1x32) off S1x1.size inb) h1 hp >>= k) Q := by
  refine W_load (m := Memref.whole cc0_stg0_0) (r := Rect.unit (s := S1x32) off S1x1.size inb)
    (k := fun f => k (f (Shape.Idx.first (h1.symm ▸ Nat.one_pos)))) fullShare Finset.univ (fun f => f = cycF) (Finset.subset_univ _) ?_ ?_
  · refine hP.trans ?_
    unfold tabs
    iintro ⟨⟨Ht, Hi⟩, Hb⟩
    iexists cycF
    isplitr; · ipureintro; rfl
    isplitl [Ht]; · iexact Ht
    iintro Ht; iapply Hb; isplitl [Ht]; · iexact Ht
    iexact Hi
  · rintro f rfl
    rw [read_word0 hj hoff]; exact H
theorem W_pos {off : Fin 2 → ℕ} (d : Dev nD) (hoff : off = ![0, d.val]) {inb} {h1 hp} {k : Elt F .i32 → Prog (TpuEff nD τ sig (Elt F) Λ₀ .tc) α}
    (H : P ⊢ WP c (k (wd (pos d))) Q) :
    P ⊢ WP c (smemLoad (nD := nD) (τ := τ) (Λ := Λ₀) (p := .tc) (Val := Elt F) (e := .i32) (Memref.whole cc0_stg1_0) (Rect.unit (s := S1x32) off S1x1.size inb) h1 hp >>= k) Q := by
  refine W_load (m := Memref.whole cc0_stg1_0) (r := Rect.unit (s := S1x32) off S1x1.size inb)
    (k := fun f => k (f (Shape.Idx.first (h1.symm ▸ Nat.one_pos)))) fullShare Finset.univ (fun f => f = invF) (Finset.subset_univ _) ?_ ?_
  · refine hP.trans ?_
    unfold tabs
    iintro ⟨⟨Ht, Hi⟩, Hb⟩
    iexists invF
    isplitr; · ipureintro; rfl
    isplitl [Hi]; · iexact Hi
    iintro Hi; iapply Hb; isplitl [Ht]; · iexact Ht
    iexact Hi
  · rintro f rfl
    rw [read_word1 d hoff]; exact H
end Word

end Cert.KernelIdeal.Mlp
-- ==== Proof.Steps.lean ====
/-
# Waiting for a copy and starting one, whatever is held besides

The two rules say what a wait and the start of a copy take and give; what else is held is carried along. Also, the numbers that stand for no copy
change nothing.
-/
module

public import proofs.«01_k».proof.Proof.Hold

@[expose] public section

noncomputable section

namespace Cert.KernelIdeal.Mlp

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

instance sep_comm_inst : _root_.Std.Commutative (α := sProp 𝕄) BIBase.sep := ⟨fun _ _ => equiv_iff.mp ⟨BI.sep_comm, BI.sep_comm⟩⟩
instance sep_assoc_inst : _root_.Std.Associative (α := sProp 𝕄) BIBase.sep := ⟨fun _ _ _ => equiv_iff.mp ⟨BI.sep_assoc, BI.sep_assoc'⟩⟩

omit [FloatOps F] in
theorem ent_of_eq {P Q : sProp 𝕄} (h : P = Q) : P ⊢ Q := h ▸ .rfl

section Core
variable {D : Vals F} {K : Names} {c : Dev nD} {α : Type} {Q : α → sProp (MT nD τ sig ℕ (Elt F) ℕ UU ℕ)}

theorem W_wait {q : DmaSem sig} {r ι n : ℕ} {sp sp' : Space} {s s' : Shape} {e e' : EltTy}
    {src : Memref sig .tc sp' s' e'} {dst : Memref sig .tc sp s e} {h1 : src.view.WordExact} {h2 : dst.view.WordExact}
    {k : PUnit → Prog (TpuEff nD τ sig (Elt F) Λ₀ .tc) α} {P P' Rst : sProp 𝕄}
    (hdut : (Rd D).duties ((c : Thread nD τ), .dma q) r = {false}) (hq : 10 ≤ q.val) (hN : dst.view.dmaCredit = Nc)
    (hι : ι < 2 + n / 4) (hι' : ι < 100)
    (hP : P = iprop(Cx D K ∗ cred (tallyAt ((c : Thread nD τ), .dma q) ι Nc) ∗ Ow c n ∗ atPos ER ((c : Thread nD τ), .dma q) r ∅ 0 ∗ Rst))
    (hP' : iprop(Cx D K ∗ Ow c n ∗ atPos ER ((c : Thread nD τ), .dma q) (r + 1) ∅ 0 ∗ reached ER ((c : Thread nD τ), .dma q) (r + 1)
      ∗ (Rd D).payload ((c : Thread nD τ), .dma q) r false ∗ Rst) ⊢ P')
    (H : P' ⊢ WP c (k ⟨⟩) Q) : P ⊢ WP c (Prog.lift (.waitDma2 q src dst h1 h2) >>= k) Q := by
  subst hP
  unfold Ow at hP'
  refine BIBase.Entails.trans ?_ (show _ ⊢ WP c (.op (.waitDma2 q src dst h1 h2) k) Q from .rfl)
  unfold Ow
  iintro ⟨#HC, Hcr, ⟨%W, HO⟩, Hat, HR⟩
  ihave #Hi := Cx_cell D K (mem_dma c q hq) $$ HC
  ihave #HM := Cx_may D K c (.dma q) hι hι' $$ HC
  iapply (wp_wait_rest_token 𝒱₀ ER (Rd D) (c : Thread nD τ) none (wpE_waitDma2_eq 𝒱₀ (c : Thread nD τ) none Set.univ) (Set.mem_univ _) ι
    (by rw [Nat.zero_add, hN, expect_dma D c q r hdut])) $$ [Hcr HO Hat]
  · isplitr; · iexact Hi
    isplitl [Hcr]; · rw [hN]; iexact Hcr
    isplitl [HO]; · iexact HO
    isplitr; · iexact HM
    iexact Hat
  iintro ⟨HO, Hat, #Hre, Hpay⟩
  iapply H
  iapply hP'
  isplitr; · iexact HC
  isplitl [HO]; · iexists _; iexact HO
  isplitl [Hat]; · iexact Hat
  isplitr; · iexact Hre
  isplitl [Hpay]
  · ihave Hpay := (ent_of_eq (rest_dma D c q r hdut)) $$ Hpay
    iexact Hpay
  iexact HR

theorem W_issue {n : ℕ} {dv : Dev nD} {sp sp' : Space} {s : Shape} {e : EltTy} {sS sem : DmaSem sig}
    {src : Memref sig .tc sp s e} {dst : Memref sig .tc sp' s e} {h0 : dst.view.ref.isScScratch = false}
    {h1 : src.view.WordExact} {h2 : dst.view.WordExact} {h3}
    {k : PUnit → Prog (TpuEff nD τ sig (Elt F) Λ₀ .tc) α} {P P' Rst R : sProp 𝕄} {q : PosShare TreeShare} {fs : Buf (Elt F) (src.view.loc (c : Thread nD τ))}
    (hv : Valid n) (hn : n < 384) (hdv : dv = tgt c n) (hsS : sS = sendSem n) (hsem : sem = recvSem n) (hN : dst.view.dmaCredit = Nc)
    (hP : P ⊢ iprop(Cx D K ∗ (src.view.loc (c : Thread nD τ) ↦[src.view.set]{q} fs)
      ∗ writeUpdate (Dev.tc (tgt c n) : Thread nD τ) dst.view (src.view.read (Elt F) fs) R ∗ Ow c n
      ∗ (dutyTok ER (sendC c n) (sendRnd n) false ∗ dutyTok ER (recvC (tgt c n) n) (n / 128) false)
      ∗ reached ER (sendC c n) (sendRnd n) ∗ reached ER (recvC (tgt c n) n) (n / 128) ∗ Rst))
    (hp1 : (src.view.loc (c : Thread nD τ) ↦[src.view.set]{q} fs) ⊢ sendPay D c n)
    (hp2 : R ⊢ recvPay D (tgt c n) n)
    (hP' : iprop(Cx D K ∗ cred (tallyAt (sendC c n) (2 + n / 4) Nc) ∗ Ow c (n + 1) ∗ Rst) ⊢ P')
    (H : P' ⊢ WP c (k ⟨⟩) Q) :
    P ⊢ WP c (Prog.lift (.enqueueDma src (.remote (Dev.tc dv) dst (.dma sS) h0) (.dma sem) h1 h2 h3) >>= k) Q := by
  subst hdv hsS hsem
  refine BIBase.Entails.trans ?_ (show _ ⊢ WP c (.op (.enqueueDma src (.remote (Dev.tc (tgt c n)) dst (.dma (sendSem n)) h0) (.dma (recvSem n)) h1 h2 h3) k) Q from .rfl)
  refine hP.trans ?_
  unfold Ow at hP' ⊢
  iintro ⟨#HC, Hs, Hd, ⟨%W, HO⟩, ⟨Ht1, Ht2⟩, #Hr1, #Hr2, HR⟩
  ihave #Hi1 := Cx_send D K c n $$ HC
  ihave #Hi2 := Cx_recv D K (tgt c n) n $$ HC
  iapply (wp_send 𝒱₀ ER (Rd D) (c : Thread nD τ) none (c' := (Dev.tc (tgt c n) : Thread nD τ)) (src := src) (dst := dst) (R := R) (q := q) (fs := fs) (r₁ := sendRnd n) (r₂ := n / 128) (d₁ := false) (d₂ := false)
    (κ₁ := K.cell (sendC c n)) (κ₂ := K.cell (recvC (tgt c n) n))
    (by rw [duties_send D c hv hn]; exact Finset.mem_singleton_self _) (by rw [duties_recv D (tgt c n) hn]; exact Finset.mem_singleton_self _)
    (2 + n / 4) (2 + n / 4) Nc (show dst.view.amount (.dma (recvSem n)) = Nc from hN) rfl rfl (owed c (n + 1)) (owed_step c hn hv)
    (by rw [payload_send D c hv]; exact hp1) (by rw [payload_recv D (tgt c n) hv]; exact hp2)) $$ [Hs Hd HO Ht1 Ht2]
  · isplitr; · iexact Hi1
    isplitr; · iexact Hi2
    isplitl [Hs]; · iexact Hs
    isplitl [Hd]; · iexact Hd
    isplitl [HO]; · iexact HO
    isplitl [Ht1]; · iexact Ht1
    isplitr; · iexact Hr1
    isplitl [Ht2]; · iexact Ht2
    iexact Hr2
  iintro ⟨Hcr, HO⟩
  iapply H
  iapply hP'
  isplitr; · iexact HC
  isplitl [Hcr]; · iexact Hcr
  isplitl [HO]; · iexists _; iexact HO
  iexact HR
end Core

/-! ## Numbers that stand for no copy -/

section Skip
variable {D : Vals F} {K : Names} {c : Dev nD} {l : ℕ} {Dn : ℕ → Prop} {n k : ℕ}

theorem Ow_skip (hv : ¬Valid n) : Ow c n = Ow (F := F) c (n + 1) := by unfold Ow; rw [owed_skip c hv]
theorem St_skip (hv : ¬Valid n) (hk : k ≤ n) (hk' : n ≤ k + 3) (hn : n < 384) : St D c K l Dn n k = St D c K l Dn (n + 1) k := by
  show SG D c K l Dn n k n k = SG D c K l Dn (n + 1) k (n + 1) k
  unfold SG
  rw [XA_skip D c hv hk hk' hn, XB_skip D c hv hk hk' hn, XO_skip D c l hv hk hk' hn, SS_skip D c hv hk hk' hn, SB_skip c hv hk hk' hn,
    GR_skip c hv, TK_skip c hv, FL_skip c hv, Ow_skip hv]
theorem St_skip' (hv : ¬Valid k) (hk : k < n) (hk' : n ≤ k + 4) (hn : k < 384) : St D c K l Dn n k = St D c K l Dn n (k + 1) := by
  show SG D c K l Dn n k n k = SG D c K l Dn n (k + 1) n (k + 1)
  unfold SG
  rw [XA_skip' D c hv hk hk' hn, XB_skip' D c hv hk hk' hn, XO_skip' D c l hv hk hk' hn, SS_skip' D c hv hk hk' hn, SB_skip' c hv hk hk' hn,
    GR_skip' c hv, FL_skip' c hv, IC_skip' c hv, RP_skip' c hv, SP_skip' c hv]
end Skip

end Cert.KernelIdeal.Mlp
-- ==== Proof.Waits.lean ====
/-
# The waits for copies

A step waits twice for copy `k`: for the copy it sent itself, which gives back the source, and for the copy that reaches it, which gives the landing
region and leave for a later copy.
-/
module

public import proofs.«01_k».proof.Proof.Steps

@[expose] public section

noncomputable section

namespace Cert.KernelIdeal.Mlp

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

omit [FloatOps F] in
theorem se (P : sProp 𝕄) : iprop(P ∗ emp) = P := equiv_iff.mp BI.sep_emp

omit [FloatOps F] in
theorem se' (P : sProp 𝕄) : iprop(emp ∗ P) = P := equiv_iff.mp BI.emp_sep

section Pieces
variable (D : Vals F) (c : Dev nD)

omit [FloatOps F] in
theorem xPts_halves (b : Dev nD) (h : ℕ) (f : S2048x1024.Idx → F .bf16) :
    xPts c b h fullShare f = iprop(xPts c b h fullShare.left f ∗ xPts c b h fullShare.right f) :=
  equiv_iff.mp ⟨(pointsTo_share (PosShare.mem_left_op_right fullShare)).1, (pointsTo_share (PosShare.mem_left_op_right fullShare)).2⟩

theorem recvPay_AG {k : ℕ} (h0 : k % 128 < 64) (hk : k < 320) : recvPay D c k
    = iprop((xPts c (xDst c k) (k % 4 / 2) fullShare.left (rows2048 (D.X (k / 128))) ∗ xPts c (xDst c k) (k % 4 / 2) fullShare.right (rows2048 (D.X (k / 128))))
      ∗ leave (F := F) (gr k) c) := by
  unfold recvPay landed
  rw [if_pos hk, if_pos (by omega), xPts_halves]
theorem recvC_mod (k : ℕ) : recvC c (k % 128) = recvC c k :=
  congrArg (fun q => (((c : Thread nD τ), .dma q) : GSem nD τ sig)) (Fin.ext (recvNo_congr (by omega)))
omit [FloatOps F] in
theorem wIf_mod (k : ℕ) : wIf c (k % 128) = wIf (F := F) c k := by
  unfold wIf wTok; rw [recvC_mod, show k % 128 % 64 / 4 = k % 64 / 4 by omega]
theorem landed_RS {k : ℕ} (h0 : 64 ≤ k % 128) : landed D c k = iprop(slotSt D c (k / 128 + 1) (k % 128) ∗ wIf (F := F) c (k % 128)) := by
  unfold landed slotSt
  rw [if_neg (by omega), if_neg (by omega), wIf_mod]
  unfold slotPts sumTo slotSh
  rw [show k % 128 % 2 = k % 2 by omega, show k % 128 % 64 / 4 = k % 64 / 4 by omega, show k % 128 % 4 / 2 = k % 4 / 2 by omega,
    Nat.add_sub_cancel]
theorem sendPay_RS {k : ℕ} (h0 : 64 ≤ k % 128) : sendPay D c k = sbAny c (k % 4) := by
  unfold sendPay sbAny
  rw [if_neg (by omega), show k % 4 % 2 = k % 2 by omega, show k % 4 % 4 / 2 = k % 4 / 2 by omega]
theorem sendPay_AG {k : ℕ} (h0 : k % 128 < 64) : sendPay D c k = xPts c (xSrc c k) (k % 4 / 2) (srcSh k) (rows2048 (D.X (k / 128))) := by
  unfold sendPay; rw [if_pos (by omega)]
end Pieces

section Waits
variable {D : Vals F} {K : Names} {c : Dev nD} {l : ℕ} {Dn : ℕ → Prop} {n k : ℕ} {α : Type} {Q : α → sProp (MT nD τ sig ℕ (Elt F) ℕ UU ℕ)}
  {q : DmaSem sig} {sp sp' : Space} {s s' : Shape} {e e' : EltTy}
  {src : Memref sig .tc sp' s' e'} {dst : Memref sig .tc sp s e} {h1 : src.view.WordExact} {h2 : dst.view.WordExact}
  {kk : PUnit → Prog (TpuEff nD τ sig (Elt F) Λ₀ .tc) α}

theorem W_waitSend (hv : Valid k) (hk : k < n) (hk' : n ≤ k + 4) (hkn : k / 4 < n / 4) (hn : k < 384) (hq : q = sendSem k) (hN : dst.view.dmaCredit = Nc)
    (H : St1 D c K l Dn n k ⊢ WP c (kk ⟨⟩) Q) : St D c K l Dn n k ⊢ WP c (Prog.lift (.waitDma2 q src dst h1 h2) >>= kk) Q := by
  subst hq
  refine W_wait (D := D) (K := K) (n := n) (r := sendRnd k) (ι := 2 + k / 4) (duties_send D c hv hn) (sendNo_ge k) hN (by omega) (by omega)
    (Rst := iprop(XA D c n k ∗ XB D c n k ∗ XO D c l n k ∗ XK D c l ∗ SS D c n k ∗ SB (F := F) c n k ∗ GR (F := F) c n k ∗ TK (F := F) c n
    ∗ FL (F := F) c n (k + 1) ∗ IC (F := F) c k ∗ RP (F := F) c k ∗ reached ER (sendC c k) (sendRnd k) ∗ SPr (F := F) c k ∗ Pb D c l Dn ∗ Tt (F := F) c ∗ Sg D c)) ?_ ?_ H
  · show SG D c K l Dn n k n k = _
    unfold SG
    rw [FL_wait c hv hn hk hk', SP_wait c hv hn hk hk']
    ac_rfl
  · rw [payload_send D c hv]
    unfold St1 SG
    rw [SP_wait' c hv hn hk hk']
    iintro ⟨HC, HO, Hat, Hre, Hpay, XA, XB, XO, XK, SS, SB, GR, TK, FL, IC, RP, -, SPr, Pb, Tt, Sg⟩
    isplitl [Hpay]; · iexact Hpay
    isplitl [HC]; · iexact HC
    isplitl [XA]; · iexact XA
    isplitl [XB]; · iexact XB
    isplitl [XO]; · iexact XO
    isplitl [XK]; · iexact XK
    isplitl [SS]; · iexact SS
    isplitl [SB]; · iexact SB
    isplitl [GR]; · iexact GR
    isplitl [TK]; · iexact TK
    isplitl [FL]; · iexact FL
    isplitl [IC]; · iexact IC
    isplitl [RP]; · iexact RP
    isplitl [Hat Hre SPr]
    · isplitl [Hat Hre]
      · isplitl [Hat]; · iexact Hat
        iexact Hre
      iexact SPr
    isplitl [HO]; · iexact HO
    isplitl [Pb]; · iexact Pb
    isplitl [Tt]; · iexact Tt
    iexact Sg

/-- The second wait, given how the arrival and the source change what is held. -/
theorem W_waitRecv (hv : Valid k) (hk : k < n) (hk' : n ≤ k + 4) (hkn : k / 4 < n / 4) (hn : k < 384) (hq : q = recvSem k) (hN : dst.view.dmaCredit = Nc)
    (h : iprop(recvPay D c k ∗ sendPay D c k ∗ XA D c n k ∗ XB D c n k ∗ XO D c l n k ∗ SS D c n k ∗ SB (F := F) c n k ∗ GR (F := F) c n k)
      = iprop(XA D c n (k + 1) ∗ XB D c n (k + 1) ∗ XO D c l n (k + 1) ∗ SS D c n (k + 1) ∗ SB (F := F) c n (k + 1) ∗ GR (F := F) c n (k + 1)))
    (H : St D c K l Dn n (k + 1) ⊢ WP c (kk ⟨⟩) Q) : St1 D c K l Dn n k ⊢ WP c (Prog.lift (.waitDma2 q src dst h1 h2) >>= kk) Q := by
  subst hq
  refine W_wait (D := D) (K := K) (n := n) (r := k / 128) (ι := 2 + k / 4) (duties_recv D c hn) (by have := recvNo_ge k; show 10 ≤ recvNo k; omega) hN (by omega) (by omega)
    (Rst := iprop((sendPay D c k ∗ XA D c n k ∗ XB D c n k ∗ XO D c l n k ∗ SS D c n k ∗ SB (F := F) c n k ∗ GR (F := F) c n k) ∗ (XK D c l ∗ TK (F := F) c n
    ∗ FL (F := F) c n (k + 1) ∗ IC (F := F) c (k + 1) ∗ RPr (F := F) c k ∗ SP (F := F) c (k + 1) ∗ Pb D c l Dn ∗ Tt (F := F) c ∗ Sg D c)
      ∗ reached ER (recvC c k) (k / 128))) ?_ ?_ H
  · show iprop(sendPay D c k ∗ SG D c K l Dn n k n (k + 1)) = _
    unfold SG
    rw [IC_wait c hv hn hk hk', RP_wait c hv hn hk hk']
    ac_rfl
  · rw [payload_recv D c hv]
    iintro ⟨HC, HO, Hat, Hre, Hpay, HX, HR, -⟩
    ihave HX := (ent_of_eq h) $$ [Hpay HX]
    · isplitl [Hpay]; · iexact Hpay
      iexact HX
    iapply (ent_of_eq (show iprop(Cx D K ∗ Ow c n ∗ (atPos ER (recvC c k) (k / 128 + 1) ∅ 0 ∗ reached ER (recvC c k) (k / 128 + 1))
      ∗ (XA D c n (k + 1) ∗ XB D c n (k + 1) ∗ XO D c l n (k + 1) ∗ SS D c n (k + 1) ∗ SB (F := F) c n (k + 1) ∗ GR (F := F) c n (k + 1))
      ∗ (XK D c l ∗ TK (F := F) c n
        ∗ FL (F := F) c n (k + 1) ∗ IC (F := F) c (k + 1) ∗ RPr (F := F) c k ∗ SP (F := F) c (k + 1) ∗ Pb D c l Dn ∗ Tt (F := F) c ∗ Sg D c))
      = SG D c K l Dn n (k + 1) n (k + 1) by
        unfold SG
        rw [RP_wait' c hv hn hk hk']
        ac_rfl))
    isplitl [HC]; · iexact HC
    isplitl [HO]; · iexact HO
    isplitl [Hat Hre]
    · isplitl [Hat]; · iexact Hat
      iexact Hre
    isplitl [HX]; · iexact HX
    iexact HR

theorem W_recvAG (hl : l = k / 128) (h0 : k % 128 < 64) (hv : Valid k) (hk : k < n) (hk' : n ≤ k + 4) (hkn : k / 4 < n / 4) (hn : k < 384)
    (hq : q = recvSem k) (hN : dst.view.dmaCredit = Nc)
    (H : St D c K l Dn n (k + 1) ⊢ WP c (kk ⟨⟩) Q) : St1 D c K l Dn n k ⊢ WP c (Prog.lift (.waitDma2 q src dst h1 h2) >>= kk) Q := by
  subst hl
  refine W_waitRecv hv hk hk' hkn hn hq hN ?_ H
  rw [recvPay_AG D c h0 (by omega), sendPay_AG D c h0, XB_waitAG D c hv hn h0 hk hk', SS_waitAG D c hv hn h0 hk hk', SB_waitAG c hv hn h0 hk hk',
    GR_wait c hv hn hk hk' (by omega)]
  by_cases hs : k % 64 < 4
  · rw [XA_waitAG0 D c hv hn h0 hk hk' hs, XA_waitAG' D c hv hn h0 hk hk', XO_waitAG0 D c hv hn h0 hk hk' hs]
    ac_rfl
  · rw [XA_waitAG D c hv hn h0 hk hk' (by omega), XA_waitAG' D c hv hn h0 hk hk', XO_waitAG D c hv hn h0 hk hk' _ (by omega)]
    ac_rfl

theorem W_recvRS (h0 : 64 ≤ k % 128) (hv : Valid k) (hk : k < n) (hk' : n ≤ k + 4) (hkn : k / 4 < n / 4) (hn : k < 384)
    (hq : q = recvSem k) (hN : dst.view.dmaCredit = Nc)
    (H : St D c K l Dn n (k + 1) ⊢ WP c (kk ⟨⟩) Q) : St1 D c K l Dn n k ⊢ WP c (Prog.lift (.waitDma2 q src dst h1 h2) >>= kk) Q := by
  refine W_waitRecv hv hk hk' hkn hn hq hN ?_ H
  unfold recvPay
  rw [landed_RS D c h0, sendPay_RS D c h0, XA_waitRS D c hv hn h0 hk hk', XB_waitRS D c hv hn h0 hk hk', XO_waitRS D c hv hn h0 hk hk',
    SS_waitRS D c hv hn h0 hk hk', SB_waitRS c hv hn h0 hk hk']
  by_cases hl : k < 320
  · rw [if_pos hl, GR_wait c hv hn hk hk' hl]
    ac_rfl
  · rw [if_neg hl, GR_wait' c hv hn hk hk' (by omega), se]
    ac_rfl
end Waits

end Cert.KernelIdeal.Mlp
-- ==== Proof.Issue.lean ====
/-
# Starting a copy

The start of copy `n` takes the source, the leave for the landing region and the two tokens; to the arrival it adds leave for a later copy the other way.
-/
module

public import proofs.«01_k».proof.Proof.Waits

@[expose] public section

noncomputable section

namespace Cert.KernelIdeal.Mlp

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

section Regions

theorem set_x {b : Dev nD} {h : ℕ} {off : Fin 2 → ℕ} (hoff : off = ![64 * b.val + 32 * h, 0]) (hh : h < 2) {inb} :
    (Rect.unit (s := S2048x1024) off S32x1024.size inb).set = xReg b h := by
  subst hoff
  ext i; rw [mem_rows2048_32, xReg, Finset.mem_filter]
  simp only [Finset.mem_univ, true_and]; omega
theorem set_sl {r h : ℕ} {off : Fin 2 → ℕ} (hoff : off = ![64 * r + 32 * h, 0]) (hh : h < 2) {inb} :
    (Rect.unit (s := S1024x1024) off S32x1024.size inb).set = slReg r h := by
  subst hoff
  ext i; rw [mem_rows1024_32, slReg, Finset.mem_filter]
  simp only [Finset.mem_univ, true_and]; omega
theorem set_sr {r h : ℕ} {off : Fin 2 → ℕ} (hoff : off = ![64 * r + 32 * h, 0]) (hh : h < 2) {inb} :
    (Rect.unit (s := S960x1024) off S32x1024.size inb).set = srReg r h := by
  subst hoff
  ext i; rw [mem_rows960_32, srReg, Finset.mem_filter]
  simp only [Finset.mem_univ, true_and]; omega
theorem set_sb {h : ℕ} {off : Fin 2 → ℕ} (hoff : off = ![32 * h, 0]) (hh : h < 2) {inb} :
    (Rect.unit (s := S64x1024) off S32x1024.size inb).set = sbReg h := by
  subst hoff
  ext i; rw [mem_rows64_32, sbReg, Finset.mem_filter]
  simp only [Finset.mem_univ, true_and]; omega

theorem view_x {off : Fin 2 → ℕ} {inb} : ((Memref.whole cc0_scratch0).slice (Rect.unit (s := S2048x1024) off S32x1024.size inb) (fun _ => rfl)).view.set
    = (Rect.unit (s := S2048x1024) off S32x1024.size inb).set := View.set_slice_whole _ _
theorem view_sl {off : Fin 2 → ℕ} {inb} : ((Memref.whole cc0_scratch5).slice (Rect.unit (s := S1024x1024) off S32x1024.size inb) (fun _ => rfl)).view.set
    = (Rect.unit (s := S1024x1024) off S32x1024.size inb).set := View.set_slice_whole _ _
theorem view_sr {off : Fin 2 → ℕ} {inb} : ((Memref.whole cc0_scratch4).slice (Rect.unit (s := S960x1024) off S32x1024.size inb) (fun _ => rfl)).view.set
    = (Rect.unit (s := S960x1024) off S32x1024.size inb).set := View.set_slice_whole _ _
theorem view_bl {off : Fin 2 → ℕ} {inb} : ((Memref.whole cc0_scratch3).slice (Rect.unit (s := S64x1024) off S32x1024.size inb) (fun _ => rfl)).view.set
    = (Rect.unit (s := S64x1024) off S32x1024.size inb).set := View.set_slice_whole _ _
theorem view_br {off : Fin 2 → ℕ} {inb} : ((Memref.whole cc0_scratch2).slice (Rect.unit (s := S64x1024) off S32x1024.size inb) (fun _ => rfl)).view.set
    = (Rect.unit (s := S64x1024) off S32x1024.size inb).set := View.set_slice_whole _ _
end Regions

section Update
omit [FloatOps F] in
theorem writeUpdate_mono {c : Thread nD τ} {sp : Space} {s : Shape} {e : EltTy} {v : View sig c.2.kind sp s e} {w : s.Idx → Elt F e} {R R' : sProp 𝕄}
    (h : R ⊢ R') : writeUpdate c v w R ⊢ writeUpdate c v w R' := by
  rw [writeUpdate, writeUpdate, writeUpdateFrom_def, writeUpdateFrom_def]
  iintro ⟨%A, HA, Hs, HR⟩
  iexists A
  isplitl [HA]; · iexact HA
  isplitl [Hs]; · iexact Hs
  iintro HA; iapply h; iapply HR; iexact HA
end Update

section Issue
variable {D : Vals F} {K : Names} {c : Dev nD} {l : ℕ} {Dn : ℕ → Prop} {n k : ℕ} {α : Type} {Q : α → sProp (MT nD τ sig ℕ (Elt F) ℕ UU ℕ)}

theorem SP_reached (hv : Valid n) (hk : k ≤ n) (hk' : n ≤ k + 3) : SP c k ⊢ reached (ER (F := F)) (sendC c n) (sendRnd n) := by
  unfold SP
  refine (bigSep_elim (i := n % 128 / 64 * 4 + n % 4) (Finset.mem_range.2 (by omega))).trans (BI.sep_and.trans BI.and_elimR |>.trans (ent_of_eq ?_))
  have e : (n % 128 / 64 * 4 + n % 4) / 4 * 64 + (n % 128 / 64 * 4 + n % 4) % 4 = n % 128 / 64 * 64 + n % 4 := by omega
  have e2 : sCnt k (n % 128 / 64 * 64 + n % 4) = sendRnd n := by
    simp only [Valid] at hv
    by_cases h : n % 2 = 0
    · rw [sCnt_even (by omega), sendRnd, if_pos h]; omega
    · rw [sCnt_odd (by omega), sendRnd, if_neg h]; omega
  rw [e, e2]
  exact congrArg (fun g => reached (ER (F := F)) g (sendRnd n)) (by
    have := sendOf_sendNo n
    exact congrArg (fun q => (((c : Thread nD τ), .dma q) : GSem nD τ sig)) (Fin.ext (by
      show sendNo _ = sendNo _
      unfold sendNo
      rw [show (n % 128 / 64 * 64 + n % 4) % 128 / 64 = n % 128 / 64 by omega, show (n % 128 / 64 * 64 + n % 4) % 2 = n % 2 by omega,
        show (n % 128 / 64 * 64 + n % 4) % 4 / 2 = n % 4 / 2 by omega])))

theorem gr_mod (hv : Valid n) (h : 64 ≤ n % 128) : gr n % 128 = g0 n := by
  simp only [Valid] at hv; unfold gr; simp only [g0]; split_ifs <;> omega
theorem cnt_gr (hv : Valid n) (hk : k ≤ n) (hk' : n ≤ k + 3) : cnt k (gr n % 128) = gr n / 128 := by
  by_cases h : n % 128 < 64
  · have e : gr n = n + 64 := by unfold gr; rw [if_pos (by omega)]
    rw [e]; exact cnt_is (by omega)
  · have e : gr n / 128 = n / 128 + 1 := by
      simp only [Valid] at hv; unfold gr; split_ifs <;> omega
    rw [gr_mod hv (by omega), e]
    simp only [Valid] at hv
    exact cnt_is (by simp only [g0]; omega)
theorem RP_reached (hv : Valid n) (hk : k ≤ n) (hk' : n ≤ k + 3) : RP c k ⊢ reached (ER (F := F)) (recvC c (gr n)) (gr n / 128) := by
  have hvg : Valid (gr n % 128) := valid_mod (valid_gr hv)
  unfold RP
  refine (bigSep_elim (i := gr n % 128) (Finset.mem_filter.2 ⟨Finset.mem_range.2 (by omega), hvg⟩)).trans (BI.sep_and.trans BI.and_elimR |>.trans (ent_of_eq ?_))
  rw [cnt_gr hv hk hk', recvC_mod]

variable {dv : Dev nD} {sp sp' : Space} {s : Shape} {e : EltTy} {sS sem : DmaSem sig}
    {src : Memref sig .tc sp s e} {dst : Memref sig .tc sp' s e} {h0 : dst.view.ref.isScScratch = false}
    {h1 : src.view.WordExact} {h2 : dst.view.WordExact} {h3}
    {kk : PUnit → Prog (TpuEff nD τ sig (Elt F) Λ₀ .tc) α}

theorem W_issueSt {P G : sProp 𝕄} {q : PosShare TreeShare} {fs : Buf (Elt F) (src.view.loc (c : Thread nD τ))}
    (hv : Valid n) (hn : n < 384) (hk : k ≤ n) (hk' : n ≤ k + 3) (hdv : dv = tgt c n) (hsS : sS = sendSem n) (hsem : sem = recvSem n) (hN : dst.view.dmaCredit = Nc)
    (hx : P = iprop((src.view.loc (c : Thread nD τ) ↦[src.view.set]{q} fs) ∗ G ∗ Cx D K ∗ (XA D c (n + 1) k ∗ XB D c (n + 1) k ∗ XO D c l (n + 1) k ∗ XK D c l
      ∗ SS D c (n + 1) k ∗ SB (F := F) c (n + 1) k) ∗ GR (F := F) c n k ∗ TK (F := F) c n ∗ FL (F := F) c n k ∗ IC (F := F) c k ∗ RP (F := F) c k ∗ SP (F := F) c k
      ∗ Ow (F := F) c n ∗ Pb D c l Dn ∗ Tt (F := F) c ∗ Sg D c))
    (hp1 : (src.view.loc (c : Thread nD τ) ↦[src.view.set]{q} fs) ⊢ sendPay D c n)
    (hG : iprop(Cx D K ∗ spare (F := F) (tgt c n) n ∗ G ∗ reached ER (recvC c (gr n)) (gr n / 128))
      ⊢ writeUpdate (Dev.tc (tgt c n) : Thread nD τ) dst.view (src.view.read (Elt F) fs) (recvPay D (tgt c n) n))
    (H : St D c K l Dn (n + 1) k ⊢ WP c (kk ⟨⟩) Q) :
    P ⊢ WP c (Prog.lift (.enqueueDma src (.remote (Dev.tc dv) dst (.dma sS) h0) (.dma sem) h1 h2 h3) >>= kk) Q := by
  subst hx
  refine W_issue (D := D) (K := K) (n := n) (R := recvPay D (tgt c n) n) (q := q) (fs := fs) hv hn hdv hsS hsem hN
    (Rst := iprop((XA D c (n + 1) k ∗ XB D c (n + 1) k ∗ XO D c l (n + 1) k ∗ XK D c l
      ∗ SS D c (n + 1) k ∗ SB (F := F) c (n + 1) k) ∗ GR (F := F) c (n + 1) k ∗ TK (F := F) c (n + 1) ∗ FL (F := F) c n k ∗ IC (F := F) c k ∗ RP (F := F) c k ∗ SP (F := F) c k
      ∗ Pb D c l Dn ∗ Tt (F := F) c ∗ Sg D c))
    ?_ hp1 .rfl (ent_of_eq ?_) H
  · rw [GR_start c hv hn hk hk', TK_start c hv hn hk hk']
    unfold leave
    iintro ⟨Hsrc, HG, #HC, HX, ⟨⟨Hsp, #Hr2⟩, HGR⟩, ⟨Htok, HTK⟩, HFL, HIC, HRP, HSP, HO, HR⟩
    ihave #Hr1 := (SP_reached (F := F) (c := c) hv hk hk') $$ HSP
    ihave #Hr3 := (RP_reached (F := F) (c := c) hv hk hk') $$ HRP
    isplitr; · iexact HC
    isplitl [Hsrc]; · iexact Hsrc
    isplitl [HG Hsp]
    · iapply hG
      isplitr; · iexact HC
      isplitl [Hsp]; · iexact Hsp
      isplitl [HG]; · iexact HG
      iexact Hr3
    isplitl [HO]; · iexact HO
    isplitl [Htok]; · iexact Htok
    isplitr; · iexact Hr1
    isplitr; · iexact Hr2
    isplitl [HX]; · iexact HX
    isplitl [HGR]; · iexact HGR
    isplitl [HTK]; · iexact HTK
    isplitl [HFL]; · iexact HFL
    isplitl [HIC]; · iexact HIC
    isplitl [HRP]; · iexact HRP
    isplitl [HSP]; · iexact HSP
    iexact HR
  · show _ = SG D c K l Dn (n + 1) k (n + 1) k
    unfold SG
    rw [FL_start c hv hn hk hk']
    ac_rfl
end Issue

end Cert.KernelIdeal.Mlp
-- ==== Proof.Mem.lean ====
/-
# Loads and stores

What a load reads of the blocks, weights, partial products and running sums that a device holds, and what a store
leaves.
-/
module

public import proofs.«01_k».proof.Proof.Issue

@[expose] public section

noncomputable section

namespace Cert.KernelIdeal.Mlp

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

section Content
variable {α : Type}

/-- Half `h` of a row block. -/
def half (f : S64x1024.Idx → α) (h : ℕ) : S32x1024.Idx → α := fun j =>
  f (Shape.pair (d := ![64, 1024]) ⟨(32 * h + (j 0).val) % 64, Nat.mod_lt _ (by decide)⟩ (j 1))

theorem get_rows2048 {f : Dev nD → S64x1024.Idx → α} {b : Dev nD} {off : Fin 2 → ℕ} {inb} (hoff : off = ![64 * b.val, 0]) :
    (fun j => rows2048 f ((Rect.unit (s := S2048x1024) off S64x1024.size inb).emb j)) = f b := by
  subst hoff
  funext j
  have x0 : (j 0).val < 64 := (j 0).isLt
  have a0 : ((Rect.unit (s := S2048x1024) ![64 * b.val, 0] S64x1024.size inb).emb j 0).val = 64 * b.val + (j 0).val := by
    show 64 * b.val + 1 * (j 0).val = _; omega
  have a1 : ((Rect.unit (s := S2048x1024) ![64 * b.val, 0] S64x1024.size inb).emb j 1).val = (j 1).val := by
    show 0 + 1 * (j 1).val = _; omega
  unfold rows2048
  refine congr (congrArg f (Fin.ext ?_)) (Eq.trans ?_ (Shape.pair_eta (d := ![64, 1024]) j))
  · show ((Rect.unit (s := S2048x1024) ![64 * b.val, 0] S64x1024.size inb).emb j 0).val / 64 = b.val
    omega
  · refine congr (congrArg _ (Fin.ext ?_)) (Fin.ext ?_)
    · show ((Rect.unit (s := S2048x1024) ![64 * b.val, 0] S64x1024.size inb).emb j 0).val % 64 = (j 0).val
      omega
    · exact a1
theorem get_rows2048_half {f : Dev nD → S64x1024.Idx → α} {b : Dev nD} {h : ℕ} (hh : h < 2) {off : Fin 2 → ℕ} {inb} (hoff : off = ![64 * b.val + 32 * h, 0]) :
    (fun j => rows2048 f ((Rect.unit (s := S2048x1024) off S32x1024.size inb).emb j)) = half (f b) h := by
  subst hoff
  funext j
  have x0 : (j 0).val < 32 := (j 0).isLt
  have a0 : ((Rect.unit (s := S2048x1024) ![64 * b.val + 32 * h, 0] S32x1024.size inb).emb j 0).val = 64 * b.val + 32 * h + (j 0).val := by
    show 64 * b.val + 32 * h + 1 * (j 0).val = _; omega
  have a1 : ((Rect.unit (s := S2048x1024) ![64 * b.val + 32 * h, 0] S32x1024.size inb).emb j 1).val = (j 1).val := by
    show 0 + 1 * (j 1).val = _; omega
  unfold rows2048 half
  refine congr (congrArg f (Fin.ext ?_)) (congr (congrArg _ (Fin.ext ?_)) (Fin.ext ?_))
  · show ((Rect.unit (s := S2048x1024) ![64 * b.val + 32 * h, 0] S32x1024.size inb).emb j 0).val / 64 = b.val
    omega
  · show ((Rect.unit (s := S2048x1024) ![64 * b.val + 32 * h, 0] S32x1024.size inb).emb j 0).val % 64 = (32 * h + (j 0).val) % 64
    omega
  · exact a1

theorem get_rows1024 {f : ℕ → S64x1024.Idx → α} {b : ℕ} {off : Fin 2 → ℕ} {inb} (hoff : off = ![64 * b, 0]) :
    (fun j => rows1024 f ((Rect.unit (s := S1024x1024) off S64x1024.size inb).emb j)) = f b := by
  subst hoff
  funext j
  have x0 : (j 0).val < 64 := (j 0).isLt
  have a0 : ((Rect.unit (s := S1024x1024) ![64 * b, 0] S64x1024.size inb).emb j 0).val = 64 * b + (j 0).val := by
    show 64 * b + 1 * (j 0).val = _; omega
  have a1 : ((Rect.unit (s := S1024x1024) ![64 * b, 0] S64x1024.size inb).emb j 1).val = (j 1).val := by
    show 0 + 1 * (j 1).val = _; omega
  unfold rows1024
  refine congr (congrArg f (?_)) (Eq.trans ?_ (Shape.pair_eta (d := ![64, 1024]) j))
  · show ((Rect.unit (s := S1024x1024) ![64 * b, 0] S64x1024.size inb).emb j 0).val / 64 = b
    omega
  · refine congr (congrArg _ (Fin.ext ?_)) (Fin.ext ?_)
    · show ((Rect.unit (s := S1024x1024) ![64 * b, 0] S64x1024.size inb).emb j 0).val % 64 = (j 0).val
      omega
    · exact a1
theorem get_rows1024_half {f : ℕ → S64x1024.Idx → α} {b : ℕ} {h : ℕ} (hh : h < 2) {off : Fin 2 → ℕ} {inb} (hoff : off = ![64 * b + 32 * h, 0]) :
    (fun j => rows1024 f ((Rect.unit (s := S1024x1024) off S32x1024.size inb).emb j)) = half (f b) h := by
  subst hoff
  funext j
  have x0 : (j 0).val < 32 := (j 0).isLt
  have a0 : ((Rect.unit (s := S1024x1024) ![64 * b + 32 * h, 0] S32x1024.size inb).emb j 0).val = 64 * b + 32 * h + (j 0).val := by
    show 64 * b + 32 * h + 1 * (j 0).val = _; omega
  have a1 : ((Rect.unit (s := S1024x1024) ![64 * b + 32 * h, 0] S32x1024.size inb).emb j 1).val = (j 1).val := by
    show 0 + 1 * (j 1).val = _; omega
  unfold rows1024 half
  refine congr (congrArg f (?_)) (congr (congrArg _ (Fin.ext ?_)) (Fin.ext ?_))
  · show ((Rect.unit (s := S1024x1024) ![64 * b + 32 * h, 0] S32x1024.size inb).emb j 0).val / 64 = b
    omega
  · show ((Rect.unit (s := S1024x1024) ![64 * b + 32 * h, 0] S32x1024.size inb).emb j 0).val % 64 = (32 * h + (j 0).val) % 64
    omega
  · exact a1

theorem get_rows960 {f : ℕ → S64x1024.Idx → α} {b : ℕ} {off : Fin 2 → ℕ} {inb} (hoff : off = ![64 * b, 0]) :
    (fun j => rows960 f ((Rect.unit (s := S960x1024) off S64x1024.size inb).emb j)) = f b := by
  subst hoff
  funext j
  have x0 : (j 0).val < 64 := (j 0).isLt
  have a0 : ((Rect.unit (s := S960x1024) ![64 * b, 0] S64x1024.size inb).emb j 0).val = 64 * b + (j 0).val := by
    show 64 * b + 1 * (j 0).val = _; omega
  have a1 : ((Rect.unit (s := S960x1024) ![64 * b, 0] S64x1024.size inb).emb j 1).val = (j 1).val := by
    show 0 + 1 * (j 1).val = _; omega
  unfold rows960
  refine congr (congrArg f (?_)) (Eq.trans ?_ (Shape.pair_eta (d := ![64, 1024]) j))
  · show ((Rect.unit (s := S960x1024) ![64 * b, 0] S64x1024.size inb).emb j 0).val / 64 = b
    omega
  · refine congr (congrArg _ (Fin.ext ?_)) (Fin.ext ?_)
    · show ((Rect.unit (s := S960x1024) ![64 * b, 0] S64x1024.size inb).emb j 0).val % 64 = (j 0).val
      omega
    · exact a1
theorem get_rows960_half {f : ℕ → S64x1024.Idx → α} {b : ℕ} {h : ℕ} (hh : h < 2) {off : Fin 2 → ℕ} {inb} (hoff : off = ![64 * b + 32 * h, 0]) :
    (fun j => rows960 f ((Rect.unit (s := S960x1024) off S32x1024.size inb).emb j)) = half (f b) h := by
  subst hoff
  funext j
  have x0 : (j 0).val < 32 := (j 0).isLt
  have a0 : ((Rect.unit (s := S960x1024) ![64 * b + 32 * h, 0] S32x1024.size inb).emb j 0).val = 64 * b + 32 * h + (j 0).val := by
    show 64 * b + 32 * h + 1 * (j 0).val = _; omega
  have a1 : ((Rect.unit (s := S960x1024) ![64 * b + 32 * h, 0] S32x1024.size inb).emb j 1).val = (j 1).val := by
    show 0 + 1 * (j 1).val = _; omega
  unfold rows960 half
  refine congr (congrArg f (?_)) (congr (congrArg _ (Fin.ext ?_)) (Fin.ext ?_))
  · show ((Rect.unit (s := S960x1024) ![64 * b + 32 * h, 0] S32x1024.size inb).emb j 0).val / 64 = b
    omega
  · show ((Rect.unit (s := S960x1024) ![64 * b + 32 * h, 0] S32x1024.size inb).emb j 0).val % 64 = (32 * h + (j 0).val) % 64
    omega
  · exact a1

theorem emb_half (f : S64x1024.Idx → α) {h : ℕ} (hh : h < 2) {off : Fin 2 → ℕ} {inb} (hoff : off = ![32 * h, 0]) :
    (fun j => f ((Rect.unit (s := S64x1024) off S32x1024.size inb).emb j)) = half f h := by
  subst hoff
  funext j
  have x0 : (j 0).val < 32 := (j 0).isLt
  unfold half
  refine congrArg f ((Shape.pair_eta (d := ![64, 1024]) _).symm.trans (congr (congrArg _ (Fin.ext ?_)) (Fin.ext ?_)))
  · show 32 * h + 1 * (j 0).val = (32 * h + (j 0).val) % 64
    omega
  · show 0 + 1 * (j 1).val = (j 1).val
    omega
end Content

section Blocks
variable {c : Dev nD}

/-- A whole row block. -/
def blkPts (c b : Dev nD) (q : PosShare TreeShare) (f : S2048x1024.Idx → F .bf16) : sProp 𝕄 :=
  ((c : Thread nD τ).loc cc0_scratch0) ↦[xReg b 0 ∪ xReg b 1]{q} (show Buf (Elt F) ((c : Thread nD τ).loc cc0_scratch0) from f)
omit [FloatOps F] in
theorem blkPts_eq (c b : Dev nD) (q : PosShare TreeShare) (f : S2048x1024.Idx → F .bf16) :
    blkPts c b q f = iprop(xPts c b 0 q f ∗ xPts c b 1 q f) := by
  have hd : Disjoint (xReg b 0) (xReg b 1) := Finset.disjoint_left.2 fun i h1 h2 => by
    have h1 := (Finset.mem_filter.1 h1).2; have h2 := (Finset.mem_filter.1 h2).2; omega
  exact equiv_iff.mp ⟨(pointsTo_union hd).1, (pointsTo_union hd).2⟩
def lPts (c : Dev nD) (s : ℕ) (f : S1024x1024.Idx → F .bf16) : sProp 𝕄 :=
  ((c : Thread nD τ).loc cc0_scratch5) ↦[slReg s 0 ∪ slReg s 1]{fullShare} (show Buf (Elt F) ((c : Thread nD τ).loc cc0_scratch5) from f)
omit [FloatOps F] in
theorem lPts_eq (c : Dev nD) (s : ℕ) (f : S1024x1024.Idx → F .bf16) :
    lPts c s f = iprop(slPts c s 0 fullShare f ∗ slPts c s 1 fullShare f) := by
  have hd : Disjoint (slReg s 0) (slReg s 1) := Finset.disjoint_left.2 fun i h1 h2 => by
    have h1 := (Finset.mem_filter.1 h1).2; have h2 := (Finset.mem_filter.1 h2).2; omega
  exact equiv_iff.mp ⟨(pointsTo_union hd).1, (pointsTo_union hd).2⟩
def rPts (c : Dev nD) (s : ℕ) (f : S960x1024.Idx → F .bf16) : sProp 𝕄 :=
  ((c : Thread nD τ).loc cc0_scratch4) ↦[srReg s 0 ∪ srReg s 1]{fullShare} (show Buf (Elt F) ((c : Thread nD τ).loc cc0_scratch4) from f)
omit [FloatOps F] in
theorem rPts_eq (c : Dev nD) (s : ℕ) (f : S960x1024.Idx → F .bf16) :
    rPts c s f = iprop(srPts c s 0 fullShare f ∗ srPts c s 1 fullShare f) := by
  have hd : Disjoint (srReg s 0) (srReg s 1) := Finset.disjoint_left.2 fun i h1 h2 => by
    have h1 := (Finset.mem_filter.1 h1).2; have h2 := (Finset.mem_filter.1 h2).2; omega
  exact equiv_iff.mp ⟨(pointsTo_union hd).1, (pointsTo_union hd).2⟩

theorem sub_x {b : Dev nD} {off : Fin 2 → ℕ} {inb} (hoff : off = ![64 * b.val, 0]) :
    ((Memref.whole cc0_scratch0).access (Rect.unit (s := S2048x1024) off S64x1024.size inb)).set ⊆ xReg b 0 ∪ xReg b 1 := by
  subst hoff
  rw [set_scratch0_64]
  intro i hi
  have := mem_rows2048_64.1 hi
  simp only [xReg, Finset.mem_union, Finset.mem_filter, Finset.mem_univ, true_and]
  omega
theorem sub_l {b : ℕ} {off : Fin 2 → ℕ} {inb} (hoff : off = ![64 * b, 0]) :
    ((Memref.whole cc0_scratch5).access (Rect.unit (s := S1024x1024) off S64x1024.size inb)).set ⊆ slReg b 0 ∪ slReg b 1 := by
  subst hoff
  rw [set_scratch5_64]
  intro i hi
  have := mem_rows1024_64.1 hi
  simp only [slReg, Finset.mem_union, Finset.mem_filter, Finset.mem_univ, true_and]
  omega
theorem sub_r {b : ℕ} {off : Fin 2 → ℕ} {inb} (hoff : off = ![64 * b, 0]) :
    ((Memref.whole cc0_scratch4).access (Rect.unit (s := S960x1024) off S64x1024.size inb)).set ⊆ srReg b 0 ∪ srReg b 1 := by
  subst hoff
  rw [set_scratch4_64]
  intro i hi
  have := mem_rows960_64.1 hi
  simp only [srReg, Finset.mem_union, Finset.mem_filter, Finset.mem_univ, true_and]
  omega
theorem sub_l32 {b h : ℕ} {off : Fin 2 → ℕ} {inb} (hoff : off = ![64 * b + 32 * h, 0]) :
    ((Memref.whole cc0_scratch5).access (Rect.unit (s := S1024x1024) off S32x1024.size inb)).set ⊆ slReg b h := by
  subst hoff
  rw [set_scratch5_32]
  intro i hi
  have := mem_rows1024_32.1 hi
  simp only [slReg, Finset.mem_filter, Finset.mem_univ, true_and]
  omega
theorem sub_r32 {b h : ℕ} {off : Fin 2 → ℕ} {inb} (hoff : off = ![64 * b + 32 * h, 0]) :
    ((Memref.whole cc0_scratch4).access (Rect.unit (s := S960x1024) off S32x1024.size inb)).set ⊆ srReg b h := by
  subst hoff
  rw [set_scratch4_32]
  intro i hi
  have := mem_rows960_32.1 hi
  simp only [srReg, Finset.mem_filter, Finset.mem_univ, true_and]
  omega
theorem set_bl32 {h : ℕ} {off : Fin 2 → ℕ} {inb} (hoff : off = ![32 * h, 0]) :
    ((Memref.whole cc0_scratch3).access (Rect.unit (s := S64x1024) off S32x1024.size inb)).set = sbReg h := by
  subst hoff
  rw [set_scratch3_32]
  ext i
  rw [mem_rows64_32]
  simp only [sbReg, Finset.mem_filter, Finset.mem_univ, true_and]
  omega
theorem set_br32 {h : ℕ} {off : Fin 2 → ℕ} {inb} (hoff : off = ![32 * h, 0]) :
    ((Memref.whole cc0_scratch2).access (Rect.unit (s := S64x1024) off S32x1024.size inb)).set = sbReg h := by
  subst hoff
  rw [set_scratch2_32]
  ext i
  rw [mem_rows64_32]
  simp only [sbReg, Finset.mem_filter, Finset.mem_univ, true_and]
  omega

variable {D : Vals F} {α : Type} {Q : α → sProp (MT nD τ sig ℕ (Elt F) ℕ UU ℕ)} {P : sProp (MT nD τ sig ℕ (Elt F) ℕ UU ℕ)}

theorem W_ldBlk {b : Dev nD} {q : PosShare TreeShare} {X : Dev nD → Row F} (hP : P ⊢ iprop(blkPts c b q (rows2048 X) ∗ (blkPts c b q (rows2048 X) -∗ P)))
    {off : Fin 2 → ℕ} {inb hl} {kk : (S64x1024.Idx → Elt F .bf16) → Prog (TpuEff nD τ sig (Elt F) Λ₀ .tc) α} (hoff : off = ![64 * b.val, 0])
    (H : P ⊢ WP c (kk (X b)) Q) :
    P ⊢ WP c (Prog.lift (.load (Memref.whole cc0_scratch0) (Rect.unit (s := S2048x1024) off S64x1024.size inb).toLoadRect hl) >>= kk) Q := by
  refine W_load (m := Memref.whole cc0_scratch0) (r := Rect.unit (s := S2048x1024) off S64x1024.size inb) q (xReg b 0 ∪ xReg b 1) (fun f => f = rows2048 X) (sub_x hoff) ?_ ?_
  · refine hP.trans ?_
    unfold blkPts
    iintro ⟨Ht, Hb⟩
    iexists rows2048 X
    isplitr; · ipureintro; rfl
    isplitl [Ht]; · iexact Ht
    iexact Hb
  · rintro f rfl
    rw [show ((Memref.whole cc0_scratch0).access (Rect.unit (s := S2048x1024) off S64x1024.size inb)).read (Elt F) (rows2048 X) = X b from get_rows2048 hoff]
    exact H

theorem W_ldL {b : ℕ} {f : ℕ → Row F} (hP : P ⊢ iprop(lPts c b (rows1024 f) ∗ (lPts c b (rows1024 f) -∗ P)))
    {off : Fin 2 → ℕ} {inb hl} {kk : (S64x1024.Idx → Elt F .bf16) → Prog (TpuEff nD τ sig (Elt F) Λ₀ .tc) α} (hoff : off = ![64 * b, 0])
    (H : P ⊢ WP c (kk (f b)) Q) :
    P ⊢ WP c (Prog.lift (.load (Memref.whole cc0_scratch5) (Rect.unit (s := S1024x1024) off S64x1024.size inb).toLoadRect hl) >>= kk) Q := by
  refine W_load (m := Memref.whole cc0_scratch5) (r := Rect.unit (s := S1024x1024) off S64x1024.size inb) fullShare (slReg b 0 ∪ slReg b 1) (fun g => g = rows1024 f) (sub_l hoff) ?_ ?_
  · refine hP.trans ?_
    unfold lPts
    iintro ⟨Ht, Hb⟩
    iexists rows1024 f
    isplitr; · ipureintro; rfl
    isplitl [Ht]; · iexact Ht
    iexact Hb
  · rintro g rfl
    rw [show ((Memref.whole cc0_scratch5).access (Rect.unit (s := S1024x1024) off S64x1024.size inb)).read (Elt F) (rows1024 f) = f b from get_rows1024 hoff]
    exact H
theorem W_ldR {b : ℕ} {f : ℕ → Row F} (hP : P ⊢ iprop(rPts c b (rows960 f) ∗ (rPts c b (rows960 f) -∗ P)))
    {off : Fin 2 → ℕ} {inb hl} {kk : (S64x1024.Idx → Elt F .bf16) → Prog (TpuEff nD τ sig (Elt F) Λ₀ .tc) α} (hoff : off = ![64 * b, 0])
    (H : P ⊢ WP c (kk (f b)) Q) :
    P ⊢ WP c (Prog.lift (.load (Memref.whole cc0_scratch4) (Rect.unit (s := S960x1024) off S64x1024.size inb).toLoadRect hl) >>= kk) Q := by
  refine W_load (m := Memref.whole cc0_scratch4) (r := Rect.unit (s := S960x1024) off S64x1024.size inb) fullShare (srReg b 0 ∪ srReg b 1) (fun g => g = rows960 f) (sub_r hoff) ?_ ?_
  · refine hP.trans ?_
    unfold rPts
    iintro ⟨Ht, Hb⟩
    iexists rows960 f
    isplitr; · ipureintro; rfl
    isplitl [Ht]; · iexact Ht
    iexact Hb
  · rintro g rfl
    rw [show ((Memref.whole cc0_scratch4).access (Rect.unit (s := S960x1024) off S64x1024.size inb)).read (Elt F) (rows960 f) = f b from get_rows960 hoff]
    exact H

theorem W_ldL32 {b h : ℕ} {q : PosShare TreeShare} (hh : h < 2) {f : ℕ → Row F} (hP : P ⊢ iprop(slPts c b h q (rows1024 f) ∗ (slPts c b h q (rows1024 f) -∗ P)))
    {off : Fin 2 → ℕ} {inb hl} {kk : (S32x1024.Idx → Elt F .bf16) → Prog (TpuEff nD τ sig (Elt F) Λ₀ .tc) α} (hoff : off = ![64 * b + 32 * h, 0])
    (H : P ⊢ WP c (kk (half (f b) h)) Q) :
    P ⊢ WP c (Prog.lift (.load (Memref.whole cc0_scratch5) (Rect.unit (s := S1024x1024) off S32x1024.size inb).toLoadRect hl) >>= kk) Q := by
  refine W_load (m := Memref.whole cc0_scratch5) (r := Rect.unit (s := S1024x1024) off S32x1024.size inb) q (slReg b h) (fun g => g = rows1024 f) (sub_l32 hoff) ?_ ?_
  · refine hP.trans ?_
    unfold slPts
    iintro ⟨Ht, Hb⟩
    iexists rows1024 f
    isplitr; · ipureintro; rfl
    isplitl [Ht]; · iexact Ht
    iexact Hb
  · rintro g rfl
    rw [show ((Memref.whole cc0_scratch5).access (Rect.unit (s := S1024x1024) off S32x1024.size inb)).read (Elt F) (rows1024 f) = half (f b) h from get_rows1024_half hh hoff]
    exact H
theorem W_ldR32 {b h : ℕ} {q : PosShare TreeShare} (hh : h < 2) {f : ℕ → Row F} (hP : P ⊢ iprop(srPts c b h q (rows960 f) ∗ (srPts c b h q (rows960 f) -∗ P)))
    {off : Fin 2 → ℕ} {inb hl} {kk : (S32x1024.Idx → Elt F .bf16) → Prog (TpuEff nD τ sig (Elt F) Λ₀ .tc) α} (hoff : off = ![64 * b + 32 * h, 0])
    (H : P ⊢ WP c (kk (half (f b) h)) Q) :
    P ⊢ WP c (Prog.lift (.load (Memref.whole cc0_scratch4) (Rect.unit (s := S960x1024) off S32x1024.size inb).toLoadRect hl) >>= kk) Q := by
  refine W_load (m := Memref.whole cc0_scratch4) (r := Rect.unit (s := S960x1024) off S32x1024.size inb) q (srReg b h) (fun g => g = rows960 f) (sub_r32 hoff) ?_ ?_
  · refine hP.trans ?_
    unfold srPts
    iintro ⟨Ht, Hb⟩
    iexists rows960 f
    isplitr; · ipureintro; rfl
    isplitl [Ht]; · iexact Ht
    iexact Hb
  · rintro g rfl
    rw [show ((Memref.whole cc0_scratch4).access (Rect.unit (s := S960x1024) off S32x1024.size inb)).read (Elt F) (rows960 f) = half (f b) h from get_rows960_half hh hoff]
    exact H
end Blocks

section Held
variable {D : Vals F} {K : Names} {c : Dev nD} {l : ℕ} {Dn : ℕ → Prop} {n k nB kS : ℕ} {α : Type} {Q : α → sProp (MT nD τ sig ℕ (Elt F) ℕ UU ℕ)}

theorem fam_two {S : Finset ℕ} {Φ : ℕ → sProp 𝕄} {i j : ℕ} (hi : i ∈ S) (hj : j ∈ S) (hne : i ≠ j) :
    bigSep S Φ ⊢ iprop((Φ i ∗ Φ j) ∗ ((Φ i ∗ Φ j) -∗ bigSep S Φ)) := by
  have e : bigSep S Φ = iprop(Φ i ∗ Φ j ∗ bigSep ((S.erase i).erase j) Φ) := by
    rw [bigSep_erase hi, bigSep_erase (Finset.mem_erase.2 ⟨hne.symm, hj⟩)]; rfl
  rw [e]
  iintro ⟨H1, H2, H3⟩
  isplitl [H1 H2]; · isplitl [H1]; · iexact H1
                     iexact H2
  iintro ⟨H1, H2⟩
  isplitl [H1]; · iexact H1
  isplitl [H2]; · iexact H2
  iexact H3
theorem fam_one {S : Finset ℕ} {Φ : ℕ → sProp 𝕄} {i : ℕ} (hi : i ∈ S) :
    bigSep S Φ ⊢ iprop(Φ i ∗ (Φ i -∗ bigSep S Φ)) := by
  rw [bigSep_erase hi]
  exact bor_l bor_refl

/-- A gathered block of the layer's input. -/
theorem SG_blk {i : ℕ} (hi : i + 2 < 64) (hi4 : i % 4 < 2) (h1 : XHeld n k i) (h2 : XHeld n k (i + 2)) (hc : cnt k i = l + 1) (hc' : cnt k (i + 2) = l + 1) :
    SG D c K l Dn n k nB kS ⊢ iprop(blkPts c (xDst c i) fullShare.right (rows2048 (D.X l)) ∗ (blkPts c (xDst c i) fullShare.right (rows2048 (D.X l)) -∗ SG D c K l Dn n k nB kS)) := by
  unfold SG
  refine bor_r <| bor_r <| bor_l ?_
  unfold XB
  refine (fam_two (Φ := fun i => xPts c (xDst c i) (i % 4 / 2) fullShare.right (rows2048 (D.X (cnt k i - 1))))
    (Finset.mem_filter.2 ⟨Finset.mem_range.2 (by omega), h1⟩) (Finset.mem_filter.2 ⟨Finset.mem_range.2 (by omega), h2⟩) (by omega)).trans (ent_of_eq ?_)
  have e : xDst c (i + 2) = xDst c i := by
    unfold xDst
    rw [show (i + 2) % 2 = i % 2 by omega, show (i + 2) % 64 / 4 = i % 64 / 4 by omega]
  rw [e, hc, hc', show i % 4 / 2 = 0 by omega, show (i + 2) % 4 / 2 = 1 by omega, blkPts_eq]
  rfl
/-- The device's own block of the layer's input. -/
theorem SG_own : SG D c K l Dn n k nB kS ⊢ iprop(blkPts c c fullShare.right.right (rows2048 (D.X l)) ∗ (blkPts c c fullShare.right.right (rows2048 (D.X l)) -∗ SG D c K l Dn n k nB kS)) := by
  unfold SG
  refine bor_r <| bor_r <| bor_r <| bor_r <| bor_l ?_
  unfold XK
  refine (fam_two (Φ := fun h => xPts c c h fullShare.right.right (rows2048 (D.X l))) (i := 0) (j := 1) (by decide) (by decide) (by decide)).trans (ent_of_eq ?_)
  rw [blkPts_eq]

theorem slotSt_eq {i : ℕ} (hc : cnt k i = l + 1) : slotSt D c (cnt k i) i = slotPts c i (slotSh i) (sumTo D l c i) := by
  unfold slotSt
  rw [if_neg (by omega), hc]
  rfl
/-- A landed running sum. -/
theorem SG_slot {i : ℕ} (hi : 64 ≤ i ∧ i < 128) (h1 : SHeld n k i) (hc : cnt k i = l + 1) :
    SG D c K l Dn n k nB kS ⊢ iprop(slotPts c i (slotSh i) (sumTo D l c i) ∗ (slotPts c i (slotSh i) (sumTo D l c i) -∗ SG D c K l Dn n k nB kS)) := by
  unfold SG
  refine bor_r <| bor_r <| bor_r <| bor_r <| bor_r <| bor_l ?_
  unfold SS
  refine (fam_one (Φ := fun i => iprop(slotSt D c (cnt k i) i ∗ wIf (F := F) c i)) (Finset.mem_filter.2 ⟨Finset.mem_Ico.2 hi, h1⟩)).trans ?_
  rw [slotSt_eq hc]
  iintro ⟨⟨Hs, Hw⟩, HR⟩
  isplitl [Hs]; · iexact Hs
  iintro Hs
  iapply HR
  isplitl [Hs]; · iexact Hs
  iexact Hw
theorem SG_slots {i : ℕ} (hi : 64 ≤ i ∧ i + 2 < 128) (hi4 : i % 64 / 4 ≠ 0) (hi2 : i % 4 < 2) (h1 : SHeld n k i) (h2 : SHeld n k (i + 2)) (hc : cnt k i = l + 1) (hc' : cnt k (i + 2) = l + 1) :
    SG D c K l Dn n k nB kS ⊢ iprop((slotPts c i fullShare (sumTo D l c i) ∗ slotPts c (i + 2) fullShare (sumTo D l c (i + 2)))
      ∗ ((slotPts c i fullShare (sumTo D l c i) ∗ slotPts c (i + 2) fullShare (sumTo D l c (i + 2))) -∗ SG D c K l Dn n k nB kS)) := by
  unfold SG
  refine bor_r <| bor_r <| bor_r <| bor_r <| bor_r <| bor_l ?_
  unfold SS
  refine (fam_two (Φ := fun i => iprop(slotSt D c (cnt k i) i ∗ wIf (F := F) c i)) (Finset.mem_filter.2 ⟨Finset.mem_Ico.2 ⟨hi.1, by omega⟩, h1⟩)
    (Finset.mem_filter.2 ⟨Finset.mem_Ico.2 ⟨by omega, hi.2⟩, h2⟩) (by omega)).trans (ent_of_eq ?_)
  show iprop(((slotSt D c (cnt k i) i ∗ wIf (F := F) c i) ∗ slotSt D c (cnt k (i + 2)) (i + 2) ∗ wIf (F := F) c (i + 2))
    ∗ (((slotSt D c (cnt k i) i ∗ wIf (F := F) c i) ∗ slotSt D c (cnt k (i + 2)) (i + 2) ∗ wIf (F := F) c (i + 2)) -∗ _)) = _
  rw [slotSt_eq hc, slotSt_eq hc', show slotSh i = fullShare from if_neg hi4, show slotSh (i + 2) = fullShare from if_neg (by omega),
    show wIf (F := F) c i = iprop(emp) from if_neg hi4, show wIf (F := F) c (i + 2) = iprop(emp) from if_neg (by omega), se, se]

theorem SG_wi0 : SG D c K l Dn n k nB kS ⊢ iprop(wPts c cc0_stg3_0 (D.wi 0 c) ∗ (wPts c cc0_stg3_0 (D.wi 0 c) -∗ SG D c K l Dn n k nB kS)) := by
  unfold SG Sg
  exact bor_r <| bor_r <| bor_r <| bor_r <| bor_r <| bor_r <| bor_r <| bor_r <| bor_r <| bor_r <| bor_r <| bor_r <| bor_r <| bor_r <| bor_r <| bor_r <| bor_r <| bor_r <| bor_l <| bor_l bor_refl
theorem W_ld_wi0 {P : sProp 𝕄} (hP : P ⊢ iprop(wPts c cc0_stg3_0 (D.wi 0 c) ∗ (wPts c cc0_stg3_0 (D.wi 0 c) -∗ P)))
    {inb hl} {kk : (S1024x2048.Idx → Elt F .bf16) → Prog (TpuEff nD τ sig (Elt F) Λ₀ .tc) α} (H : P ⊢ WP c (kk (D.wi 0 c)) Q) :
    P ⊢ WP c (Prog.lift (.load (Memref.whole cc0_stg3_0) (Rect.unit (s := S1024x2048) ![0, 0] S1024x2048.size inb).toLoadRect hl) >>= kk) Q := by
  refine W_load (m := Memref.whole cc0_stg3_0) (r := Rect.unit (s := S1024x2048) ![0, 0] S1024x2048.size inb) fullShare Finset.univ (fun f => f = D.wi 0 c) (Finset.subset_univ _) ?_ ?_
  · refine hP.trans ?_
    iintro ⟨Ht, Hb⟩
    iexists D.wi 0 c
    isplitr; · ipureintro; rfl
    isplitl [Ht]; · iexact Ht
    iexact Hb
  · rintro f rfl
    rw [show ((Memref.whole cc0_stg3_0).access (Rect.unit (s := S1024x2048) ![0, 0] S1024x2048.size inb)).read (Elt F) (D.wi 0 c) = D.wi 0 c from by
      funext j
      exact congrArg (D.wi 0 c) (funext fun a => Fin.ext (by
        show (![0, 0] : Fin 2 → ℕ) a + 1 * (j a).val = (j a).val
        match a with
        | 0 => show 0 + 1 * (j 0).val = _; omega
        | 1 => show 0 + 1 * (j 1).val = _; omega))]
    exact H

theorem SG_wi1 : SG D c K l Dn n k nB kS ⊢ iprop(wPts c cc0_stg4_0 (D.wi 1 c) ∗ (wPts c cc0_stg4_0 (D.wi 1 c) -∗ SG D c K l Dn n k nB kS)) := by
  unfold SG Sg
  exact bor_r <| bor_r <| bor_r <| bor_r <| bor_r <| bor_r <| bor_r <| bor_r <| bor_r <| bor_r <| bor_r <| bor_r <| bor_r <| bor_r <| bor_r <| bor_r <| bor_r <| bor_r <| bor_l <| bor_r <| bor_l bor_refl
theorem W_ld_wi1 {P : sProp 𝕄} (hP : P ⊢ iprop(wPts c cc0_stg4_0 (D.wi 1 c) ∗ (wPts c cc0_stg4_0 (D.wi 1 c) -∗ P)))
    {inb hl} {kk : (S1024x2048.Idx → Elt F .bf16) → Prog (TpuEff nD τ sig (Elt F) Λ₀ .tc) α} (H : P ⊢ WP c (kk (D.wi 1 c)) Q) :
    P ⊢ WP c (Prog.lift (.load (Memref.whole cc0_stg4_0) (Rect.unit (s := S1024x2048) ![0, 0] S1024x2048.size inb).toLoadRect hl) >>= kk) Q := by
  refine W_load (m := Memref.whole cc0_stg4_0) (r := Rect.unit (s := S1024x2048) ![0, 0] S1024x2048.size inb) fullShare Finset.univ (fun f => f = D.wi 1 c) (Finset.subset_univ _) ?_ ?_
  · refine hP.trans ?_
    iintro ⟨Ht, Hb⟩
    iexists D.wi 1 c
    isplitr; · ipureintro; rfl
    isplitl [Ht]; · iexact Ht
    iexact Hb
  · rintro f rfl
    rw [show ((Memref.whole cc0_stg4_0).access (Rect.unit (s := S1024x2048) ![0, 0] S1024x2048.size inb)).read (Elt F) (D.wi 1 c) = D.wi 1 c from by
      funext j
      exact congrArg (D.wi 1 c) (funext fun a => Fin.ext (by
        show (![0, 0] : Fin 2 → ℕ) a + 1 * (j a).val = (j a).val
        match a with
        | 0 => show 0 + 1 * (j 0).val = _; omega
        | 1 => show 0 + 1 * (j 1).val = _; omega))]
    exact H

theorem SG_wi2 : SG D c K l Dn n k nB kS ⊢ iprop(wPts c cc0_stg5_0 (D.wi 2 c) ∗ (wPts c cc0_stg5_0 (D.wi 2 c) -∗ SG D c K l Dn n k nB kS)) := by
  unfold SG Sg
  exact bor_r <| bor_r <| bor_r <| bor_r <| bor_r <| bor_r <| bor_r <| bor_r <| bor_r <| bor_r <| bor_r <| bor_r <| bor_r <| bor_r <| bor_r <| bor_r <| bor_r <| bor_r <| bor_l <| bor_r <| bor_r bor_refl
theorem W_ld_wi2 {P : sProp 𝕄} (hP : P ⊢ iprop(wPts c cc0_stg5_0 (D.wi 2 c) ∗ (wPts c cc0_stg5_0 (D.wi 2 c) -∗ P)))
    {inb hl} {kk : (S1024x2048.Idx → Elt F .bf16) → Prog (TpuEff nD τ sig (Elt F) Λ₀ .tc) α} (H : P ⊢ WP c (kk (D.wi 2 c)) Q) :
    P ⊢ WP c (Prog.lift (.load (Memref.whole cc0_stg5_0) (Rect.unit (s := S1024x2048) ![0, 0] S1024x2048.size inb).toLoadRect hl) >>= kk) Q := by
  refine W_load (m := Memref.whole cc0_stg5_0) (r := Rect.unit (s := S1024x2048) ![0, 0] S1024x2048.size inb) fullShare Finset.univ (fun f => f = D.wi 2 c) (Finset.subset_univ _) ?_ ?_
  · refine hP.trans ?_
    iintro ⟨Ht, Hb⟩
    iexists D.wi 2 c
    isplitr; · ipureintro; rfl
    isplitl [Ht]; · iexact Ht
    iexact Hb
  · rintro f rfl
    rw [show ((Memref.whole cc0_stg5_0).access (Rect.unit (s := S1024x2048) ![0, 0] S1024x2048.size inb)).read (Elt F) (D.wi 2 c) = D.wi 2 c from by
      funext j
      exact congrArg (D.wi 2 c) (funext fun a => Fin.ext (by
        show (![0, 0] : Fin 2 → ℕ) a + 1 * (j a).val = (j a).val
        match a with
        | 0 => show 0 + 1 * (j 0).val = _; omega
        | 1 => show 0 + 1 * (j 1).val = _; omega))]
    exact H

theorem SG_wo0 : SG D c K l Dn n k nB kS ⊢ iprop(wPts c cc0_stg6_0 (D.wo 0 c) ∗ (wPts c cc0_stg6_0 (D.wo 0 c) -∗ SG D c K l Dn n k nB kS)) := by
  unfold SG Sg
  exact bor_r <| bor_r <| bor_r <| bor_r <| bor_r <| bor_r <| bor_r <| bor_r <| bor_r <| bor_r <| bor_r <| bor_r <| bor_r <| bor_r <| bor_r <| bor_r <| bor_r <| bor_r <| bor_r <| bor_l <| bor_l bor_refl
theorem W_ld_wo0 {P : sProp 𝕄} (hP : P ⊢ iprop(wPts c cc0_stg6_0 (D.wo 0 c) ∗ (wPts c cc0_stg6_0 (D.wo 0 c) -∗ P)))
    {inb hl} {kk : (S2048x1024.Idx → Elt F .bf16) → Prog (TpuEff nD τ sig (Elt F) Λ₀ .tc) α} (H : P ⊢ WP c (kk (D.wo 0 c)) Q) :
    P ⊢ WP c (Prog.lift (.load (Memref.whole cc0_stg6_0) (Rect.unit (s := S2048x1024) ![0, 0] S2048x1024.size inb).toLoadRect hl) >>= kk) Q := by
  refine W_load (m := Memref.whole cc0_stg6_0) (r := Rect.unit (s := S2048x1024) ![0, 0] S2048x1024.size inb) fullShare Finset.univ (fun f => f = D.wo 0 c) (Finset.subset_univ _) ?_ ?_
  · refine hP.trans ?_
    iintro ⟨Ht, Hb⟩
    iexists D.wo 0 c
    isplitr; · ipureintro; rfl
    isplitl [Ht]; · iexact Ht
    iexact Hb
  · rintro f rfl
    rw [show ((Memref.whole cc0_stg6_0).access (Rect.unit (s := S2048x1024) ![0, 0] S2048x1024.size inb)).read (Elt F) (D.wo 0 c) = D.wo 0 c from by
      funext j
      exact congrArg (D.wo 0 c) (funext fun a => Fin.ext (by
        show (![0, 0] : Fin 2 → ℕ) a + 1 * (j a).val = (j a).val
        match a with
        | 0 => show 0 + 1 * (j 0).val = _; omega
        | 1 => show 0 + 1 * (j 1).val = _; omega))]
    exact H

theorem SG_wo1 : SG D c K l Dn n k nB kS ⊢ iprop(wPts c cc0_stg7_0 (D.wo 1 c) ∗ (wPts c cc0_stg7_0 (D.wo 1 c) -∗ SG D c K l Dn n k nB kS)) := by
  unfold SG Sg
  exact bor_r <| bor_r <| bor_r <| bor_r <| bor_r <| bor_r <| bor_r <| bor_r <| bor_r <| bor_r <| bor_r <| bor_r <| bor_r <| bor_r <| bor_r <| bor_r <| bor_r <| bor_r <| bor_r <| bor_l <| bor_r <| bor_l bor_refl
theorem W_ld_wo1 {P : sProp 𝕄} (hP : P ⊢ iprop(wPts c cc0_stg7_0 (D.wo 1 c) ∗ (wPts c cc0_stg7_0 (D.wo 1 c) -∗ P)))
    {inb hl} {kk : (S2048x1024.Idx → Elt F .bf16) → Prog (TpuEff nD τ sig (Elt F) Λ₀ .tc) α} (H : P ⊢ WP c (kk (D.wo 1 c)) Q) :
    P ⊢ WP c (Prog.lift (.load (Memref.whole cc0_stg7_0) (Rect.unit (s := S2048x1024) ![0, 0] S2048x1024.size inb).toLoadRect hl) >>= kk) Q := by
  refine W_load (m := Memref.whole cc0_stg7_0) (r := Rect.unit (s := S2048x1024) ![0, 0] S2048x1024.size inb) fullShare Finset.univ (fun f => f = D.wo 1 c) (Finset.subset_univ _) ?_ ?_
  · refine hP.trans ?_
    iintro ⟨Ht, Hb⟩
    iexists D.wo 1 c
    isplitr; · ipureintro; rfl
    isplitl [Ht]; · iexact Ht
    iexact Hb
  · rintro f rfl
    rw [show ((Memref.whole cc0_stg7_0).access (Rect.unit (s := S2048x1024) ![0, 0] S2048x1024.size inb)).read (Elt F) (D.wo 1 c) = D.wo 1 c from by
      funext j
      exact congrArg (D.wo 1 c) (funext fun a => Fin.ext (by
        show (![0, 0] : Fin 2 → ℕ) a + 1 * (j a).val = (j a).val
        match a with
        | 0 => show 0 + 1 * (j 0).val = _; omega
        | 1 => show 0 + 1 * (j 1).val = _; omega))]
    exact H

theorem SG_wo2 : SG D c K l Dn n k nB kS ⊢ iprop(wPts c cc0_stg8_0 (D.wo 2 c) ∗ (wPts c cc0_stg8_0 (D.wo 2 c) -∗ SG D c K l Dn n k nB kS)) := by
  unfold SG Sg
  exact bor_r <| bor_r <| bor_r <| bor_r <| bor_r <| bor_r <| bor_r <| bor_r <| bor_r <| bor_r <| bor_r <| bor_r <| bor_r <| bor_r <| bor_r <| bor_r <| bor_r <| bor_r <| bor_r <| bor_l <| bor_r <| bor_r bor_refl
theorem W_ld_wo2 {P : sProp 𝕄} (hP : P ⊢ iprop(wPts c cc0_stg8_0 (D.wo 2 c) ∗ (wPts c cc0_stg8_0 (D.wo 2 c) -∗ P)))
    {inb hl} {kk : (S2048x1024.Idx → Elt F .bf16) → Prog (TpuEff nD τ sig (Elt F) Λ₀ .tc) α} (H : P ⊢ WP c (kk (D.wo 2 c)) Q) :
    P ⊢ WP c (Prog.lift (.load (Memref.whole cc0_stg8_0) (Rect.unit (s := S2048x1024) ![0, 0] S2048x1024.size inb).toLoadRect hl) >>= kk) Q := by
  refine W_load (m := Memref.whole cc0_stg8_0) (r := Rect.unit (s := S2048x1024) ![0, 0] S2048x1024.size inb) fullShare Finset.univ (fun f => f = D.wo 2 c) (Finset.subset_univ _) ?_ ?_
  · refine hP.trans ?_
    iintro ⟨Ht, Hb⟩
    iexists D.wo 2 c
    isplitr; · ipureintro; rfl
    isplitl [Ht]; · iexact Ht
    iexact Hb
  · rintro f rfl
    rw [show ((Memref.whole cc0_stg8_0).access (Rect.unit (s := S2048x1024) ![0, 0] S2048x1024.size inb)).read (Elt F) (D.wo 2 c) = D.wo 2 c from by
      funext j
      exact congrArg (D.wo 2 c) (funext fun a => Fin.ext (by
        show (![0, 0] : Fin 2 → ℕ) a + 1 * (j a).val = (j a).val
        match a with
        | 0 => show 0 + 1 * (j 0).val = _; omega
        | 1 => show 0 + 1 * (j 1).val = _; omega))]
    exact H
end Held

end Cert.KernelIdeal.Mlp
-- ==== Proof.Mem2.lean ====
/-
# Loads and stores of the partial products, the sums under way, the first slots and the own block
-/
module

public import proofs.«01_k».proof.Proof.Mem

@[expose] public section

noncomputable section

namespace Cert.KernelIdeal.Mlp

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

section Parts
variable {D : Vals F} {K : Names} {c : Dev nD} {l : ℕ} {Dn : ℕ → Prop} {n k nB kS : ℕ} {α : Type} {Q : α → sProp (MT nD τ sig ℕ (Elt F) ℕ UU ℕ)}

/-- What is held besides the partial products. -/
def SGp (D : Vals F) (c : Dev nD) (K : Names) (l n k nB kS : ℕ) : sProp 𝕄 :=
  iprop(Cx D K ∗ XA D c n k ∗ XB D c n k ∗ XO D c l n k ∗ XK D c l ∗ SS D c n k ∗ SB (F := F) c nB k ∗ GR (F := F) c n k ∗ TK (F := F) c n
    ∗ FL (F := F) c n kS ∗ IC (F := F) c k ∗ RP (F := F) c k ∗ SP (F := F) c kS ∗ Ow (F := F) c n ∗ Tt (F := F) c ∗ Sg D c)
theorem SG_Pb : SG D c K l Dn n k nB kS = iprop(Pb D c l Dn ∗ SGp D c K l n k nB kS) := by unfold SG SGp; ac_rfl

theorem SG_p : SG D c K l Dn n k nB kS ⊢ iprop(∃ f, ⌜PbOK D c l Dn f⌝ ∗ pPts c f ∗ (pPts c f -∗ SG D c K l Dn n k nB kS)) := by
  rw [SG_Pb]; unfold Pb
  iintro ⟨⟨%f, %hf, Hf⟩, HR⟩
  iexists f
  isplitr; · ipureintro; exact hf
  isplitl [Hf]; · iexact Hf
  iintro Hf
  isplitl [Hf]
  · iexists f
    isplitr; · ipureintro; exact hf
    iexact Hf
  iexact HR

theorem sub_p {S : Finset S2048x1024.Idx} : S ⊆ (Finset.univ : Finset (Idx ((c : Thread nD τ).loc cc0_scratch1))) := fun _ _ => Finset.mem_univ _

variable {P : sProp (MT nD τ sig ℕ (Elt F) ℕ UU ℕ)}
/-- A load of partial products that nothing is made of. -/
theorem W_ldPany (hP : P ⊢ iprop(∃ f, ⌜PbOK D c l Dn f⌝ ∗ pPts c f ∗ (pPts c f -∗ P))) {off : Fin 2 → ℕ} {inb hl} {kk : (S64x1024.Idx → Elt F .f32) → Prog (TpuEff nD τ sig (Elt F) Λ₀ .tc) α}
    (H : ∀ v, P ⊢ WP c (kk v) Q) :
    P ⊢ WP c (Prog.lift (.load (Memref.whole cc0_scratch1) (Rect.unit (s := S2048x1024) off S64x1024.size inb).toLoadRect hl) >>= kk) Q := by
  refine W_load (m := Memref.whole cc0_scratch1) (r := Rect.unit (s := S2048x1024) off S64x1024.size inb) fullShare Finset.univ (fun _ => True) (Finset.subset_univ _) ?_ (fun f _ => H _)
  refine hP.trans ?_
  unfold pPts
  iintro ⟨%f, %hf, Hf, HR⟩
  iexists f
  isplitr; · ipureintro; trivial
  isplitl [Hf]; · iexact Hf
  iexact HR
theorem W_ldP {j : ℕ} (hj : Dn j) (hP : P ⊢ iprop(∃ f, ⌜PbOK D c l Dn f⌝ ∗ pPts c f ∗ (pPts c f -∗ P))) {off : Fin 2 → ℕ} {inb hl} {kk : (S64x1024.Idx → Elt F .f32) → Prog (TpuEff nD τ sig (Elt F) Λ₀ .tc) α}
    (hoff : off = ![64 * (blk c j).val, 0]) (H : P ⊢ WP c (kk (D.part (D.X l) l c (blk c j))) Q) :
    P ⊢ WP c (Prog.lift (.load (Memref.whole cc0_scratch1) (Rect.unit (s := S2048x1024) off S64x1024.size inb).toLoadRect hl) >>= kk) Q := by
  refine W_load (m := Memref.whole cc0_scratch1) (r := Rect.unit (s := S2048x1024) off S64x1024.size inb) fullShare Finset.univ (PbOK D c l Dn) (Finset.subset_univ _) ?_ (fun f hf => ?_)
  · refine hP.trans ?_
    unfold pPts
    iintro ⟨%f, %hf, Hf, HR⟩
    iexists f
    isplitr; · ipureintro; exact hf
    isplitl [Hf]; · iexact Hf
    iexact HR
  · rw [show ((Memref.whole cc0_scratch1).access (Rect.unit (s := S2048x1024) off S64x1024.size inb)).read (Elt F) f = D.part (D.X l) l c (blk c j) from by
      refine Eq.trans ?_ (get_rows2048 (f := D.part (D.X l) l c) (inb := inb) hoff)
      refine funext fun x => hf j hj _ ?_
      subst hoff
      have x0 : (x 0).val < 64 := (x 0).isLt
      show (64 * (blk c j).val + 1 * (x 0).val) / 64 = _
      omega]
    exact H
theorem W_ldP32 {j h : ℕ} (hh : h < 2) (hj : Dn j) (hP : P ⊢ iprop(∃ f, ⌜PbOK D c l Dn f⌝ ∗ pPts c f ∗ (pPts c f -∗ P))) {off : Fin 2 → ℕ} {inb hl} {kk : (S32x1024.Idx → Elt F .f32) → Prog (TpuEff nD τ sig (Elt F) Λ₀ .tc) α}
    (hoff : off = ![64 * (blk c j).val + 32 * h, 0]) (H : P ⊢ WP c (kk (half (D.part (D.X l) l c (blk c j)) h)) Q) :
    P ⊢ WP c (Prog.lift (.load (Memref.whole cc0_scratch1) (Rect.unit (s := S2048x1024) off S32x1024.size inb).toLoadRect hl) >>= kk) Q := by
  refine W_load (m := Memref.whole cc0_scratch1) (r := Rect.unit (s := S2048x1024) off S32x1024.size inb) fullShare Finset.univ (PbOK D c l Dn) (Finset.subset_univ _) ?_ (fun f hf => ?_)
  · refine hP.trans ?_
    unfold pPts
    iintro ⟨%f, %hf, Hf, HR⟩
    iexists f
    isplitr; · ipureintro; exact hf
    isplitl [Hf]; · iexact Hf
    iexact HR
  · rw [show ((Memref.whole cc0_scratch1).access (Rect.unit (s := S2048x1024) off S32x1024.size inb)).read (Elt F) f = half (D.part (D.X l) l c (blk c j)) h from by
      refine Eq.trans ?_ (get_rows2048_half (f := D.part (D.X l) l c) (inb := inb) hh hoff)
      refine funext fun x => hf j hj _ ?_
      subst hoff
      have x0 : (x 0).val < 32 := (x 0).isLt
      show (64 * (blk c j).val + 32 * h + 1 * (x 0).val) / 64 = _
      omega]
    exact H

/-- A store of the partial product of one more block. -/
theorem W_stP (j : ℕ) (Dn' : ℕ → Prop) (hD : ∀ i, Dn' i → Dn i ∨ i = j) {off : Fin 2 → ℕ} {inb hx hm} {w : S64x1024.Idx → Elt F .f32} {kk : PUnit → Prog (TpuEff nD τ sig (Elt F) Λ₀ .tc) α}
    (hoff : off = ![64 * (blk c j).val, 0]) (hw : w = D.part (D.X l) l c (blk c j)) (H : SG D c K l Dn' n k nB kS ⊢ WP c (kk ⟨⟩) Q) :
    SG D c K l Dn n k nB kS ⊢ WP c (Prog.lift (.store (Memref.whole cc0_scratch1) (Rect.unit (s := S2048x1024) off S64x1024.size inb) w Finset.univ hx hm) >>= kk) Q := by
  refine W_store (m := Memref.whole cc0_scratch1) (r := Rect.unit (s := S2048x1024) off S64x1024.size inb) Finset.univ (PbOK D c l Dn) (Finset.subset_univ _) ?_ H
  rw [SG_Pb, SG_Pb]
  unfold Pb pPts
  iintro ⟨⟨%f, %hf, Hf⟩, HR⟩
  iexists f
  isplitr; · ipureintro; exact hf
  isplitl [Hf]; · iexact Hf
  iintro Hf
  isplitl [Hf]
  · iexists ((Memref.whole cc0_scratch1).access (Rect.unit (s := S2048x1024) off S64x1024.size inb)).write (Elt F) f w Finset.univ
    isplitr
    · ipureintro
      intro i hi x hx
      by_cases hm : x ∈ ((Memref.whole cc0_scratch1).access (Rect.unit (s := S2048x1024) off S64x1024.size inb)).set
      · obtain ⟨y, -, rfl⟩ := Finset.mem_map.mp hm
        rw [View.write_emb_of_mem _ _ (Finset.mem_univ y), hw]
        exact (congrFun (get_rows2048 (f := D.part (D.X l) l c) (inb := inb) hoff) y).symm
      · refine (View.write_of_not_mem (v := (Memref.whole cc0_scratch1).access (Rect.unit (s := S2048x1024) off S64x1024.size inb)) f w Finset.univ (fun h => hm ((View.setOn_univ _).subset h))).trans ?_
        have hne : (blk c i).val ≠ (blk c j).val := fun he => hm (by
          subst hoff
          rw [set_scratch1_64]
          exact mem_rows2048_64.2 (by omega))
        refine hf i ?_ x hx
        rcases hD i hi with h | rfl
        · exact h
        · exact absurd rfl hne
    iexact Hf
  iexact HR
end Parts

section Sums
variable {D : Vals F} {K : Names} {c : Dev nD} {l : ℕ} {Dn : ℕ → Prop} {n k : ℕ} {α : Type} {Q : α → sProp (MT nD τ sig ℕ (Elt F) ℕ UU ℕ)}

theorem St_SB (hv : Valid n) (hn : n < 384) (h0 : 64 ≤ n % 128) (hk : k ≤ n) (hk' : n ≤ k + 3) :
    St D c K l Dn n k = iprop(sbAny (F := F) c (n % 4) ∗ SG D c K l Dn n k (n + 1) k) := by
  show SG D c K l Dn n k n k = _
  unfold SG
  rw [SB_startRS c hv hn h0 hk hk']
  ac_rfl

theorem W_ldBL (hp : n % 2 = 0) (hv : Valid n) (hn : n < 384) (h0 : 64 ≤ n % 128) (hk : k ≤ n) (hk' : n ≤ k + 3) {off : Fin 2 → ℕ} {inb hl} {kk : (S32x1024.Idx → Elt F .bf16) → Prog (TpuEff nD τ sig (Elt F) Λ₀ .tc) α}
    (hoff : off = ![32 * (n % 4 / 2), 0]) (H : ∀ v, St D c K l Dn n k ⊢ WP c (kk v) Q) :
    St D c K l Dn n k ⊢ WP c (Prog.lift (.load (Memref.whole cc0_scratch3) (Rect.unit (s := S64x1024) off S32x1024.size inb).toLoadRect hl) >>= kk) Q := by
  refine W_load (m := Memref.whole cc0_scratch3) (r := Rect.unit (s := S64x1024) off S32x1024.size inb) fullShare (sbReg (n % 4 / 2)) (fun _ => True) (subset_of_eq (set_bl32 hoff)) ?_ (fun f _ => H _)
  rw [St_SB hv hn h0 hk hk']
  unfold sbAny blPts
  rw [if_pos (show n % 4 % 2 = 0 by omega), show n % 4 % 4 / 2 = n % 4 / 2 by omega]
  iintro ⟨⟨%f, Hf⟩, HR⟩
  iexists f
  isplitr; · ipureintro; trivial
  isplitl [Hf]; · iexact Hf
  iintro Hf
  isplitl [Hf]; · iexists f; iexact Hf
  iexact HR
theorem W_stBL (hp : n % 2 = 0) (hv : Valid n) (hn : n < 384) (h0 : 64 ≤ n % 128) (hk : k ≤ n) (hk' : n ≤ k + 3) {off : Fin 2 → ℕ} {inb hx hm} {w : S32x1024.Idx → Elt F .bf16} {kk : PUnit → Prog (TpuEff nD τ sig (Elt F) Λ₀ .tc) α}
    (hoff : off = ![32 * (n % 4 / 2), 0]) (hw : w = half (D.sumL (D.X (n / 128)) (n / 128) (n % 64 / 4) c) (n % 4 / 2)) (H : StF D c K l Dn n k ⊢ WP c (kk ⟨⟩) Q) :
    St D c K l Dn n k ⊢ WP c (Prog.lift (.store (Memref.whole cc0_scratch3) (Rect.unit (s := S64x1024) off S32x1024.size inb) w Finset.univ hx hm) >>= kk) Q := by
  refine W_store (m := Memref.whole cc0_scratch3) (r := Rect.unit (s := S64x1024) off S32x1024.size inb) (sbReg (n % 4 / 2)) (fun _ => True)
    (P' := iprop(filled D c n ∗ SG D c K l Dn n k (n + 1) k)) (subset_of_eq (set_bl32 hoff)) ?_ H
  rw [St_SB hv hn h0 hk hk']
  unfold sbAny filled blPts
  rw [if_pos (show n % 4 % 2 = 0 by omega), if_pos hp, show n % 4 % 4 / 2 = n % 4 / 2 by omega]
  iintro ⟨⟨%f, Hf⟩, HR⟩
  iexists f
  isplitr; · ipureintro; trivial
  isplitl [Hf]; · iexact Hf
  iintro Hf
  isplitl [Hf]
  · iapply (ent_of_eq (pointsTo_congr fun i hi => ?_))
    rotate_left
    · iexact Hf
    · have hi' : i ∈ ((Memref.whole cc0_scratch3).access (Rect.unit (s := S64x1024) off S32x1024.size inb)).set := by rw [set_bl32 hoff]; exact hi
      obtain ⟨y, -, rfl⟩ := Finset.mem_map.mp hi'
      rw [View.write_emb_of_mem _ _ (Finset.mem_univ y), hw]
      exact (congrFun (emb_half (D.sumL (D.X (n / 128)) (n / 128) (n % 64 / 4) c) (inb := inb) (by omega) hoff) y).symm
  iexact HR

theorem W_ldBR (hp : n % 2 = 1) (hv : Valid n) (hn : n < 384) (h0 : 64 ≤ n % 128) (hk : k ≤ n) (hk' : n ≤ k + 3) {off : Fin 2 → ℕ} {inb hl} {kk : (S32x1024.Idx → Elt F .bf16) → Prog (TpuEff nD τ sig (Elt F) Λ₀ .tc) α}
    (hoff : off = ![32 * (n % 4 / 2), 0]) (H : ∀ v, St D c K l Dn n k ⊢ WP c (kk v) Q) :
    St D c K l Dn n k ⊢ WP c (Prog.lift (.load (Memref.whole cc0_scratch2) (Rect.unit (s := S64x1024) off S32x1024.size inb).toLoadRect hl) >>= kk) Q := by
  refine W_load (m := Memref.whole cc0_scratch2) (r := Rect.unit (s := S64x1024) off S32x1024.size inb) fullShare (sbReg (n % 4 / 2)) (fun _ => True) (subset_of_eq (set_br32 hoff)) ?_ (fun f _ => H _)
  rw [St_SB hv hn h0 hk hk']
  unfold sbAny brPts
  rw [if_neg (show ¬n % 4 % 2 = 0 by omega), show n % 4 % 4 / 2 = n % 4 / 2 by omega]
  iintro ⟨⟨%f, Hf⟩, HR⟩
  iexists f
  isplitr; · ipureintro; trivial
  isplitl [Hf]; · iexact Hf
  iintro Hf
  isplitl [Hf]; · iexists f; iexact Hf
  iexact HR
theorem W_stBR (hp : n % 2 = 1) (hv : Valid n) (hn : n < 384) (h0 : 64 ≤ n % 128) (hk : k ≤ n) (hk' : n ≤ k + 3) {off : Fin 2 → ℕ} {inb hx hm} {w : S32x1024.Idx → Elt F .bf16} {kk : PUnit → Prog (TpuEff nD τ sig (Elt F) Λ₀ .tc) α}
    (hoff : off = ![32 * (n % 4 / 2), 0]) (hw : w = half (D.sumR (D.X (n / 128)) (n / 128) (n % 64 / 4) c) (n % 4 / 2)) (H : StF D c K l Dn n k ⊢ WP c (kk ⟨⟩) Q) :
    St D c K l Dn n k ⊢ WP c (Prog.lift (.store (Memref.whole cc0_scratch2) (Rect.unit (s := S64x1024) off S32x1024.size inb) w Finset.univ hx hm) >>= kk) Q := by
  refine W_store (m := Memref.whole cc0_scratch2) (r := Rect.unit (s := S64x1024) off S32x1024.size inb) (sbReg (n % 4 / 2)) (fun _ => True)
    (P' := iprop(filled D c n ∗ SG D c K l Dn n k (n + 1) k)) (subset_of_eq (set_br32 hoff)) ?_ H
  rw [St_SB hv hn h0 hk hk']
  unfold sbAny filled brPts
  rw [if_neg (show ¬n % 4 % 2 = 0 by omega), if_neg (show ¬n % 2 = 0 by omega), show n % 4 % 4 / 2 = n % 4 / 2 by omega]
  iintro ⟨⟨%f, Hf⟩, HR⟩
  iexists f
  isplitr; · ipureintro; trivial
  isplitl [Hf]; · iexact Hf
  iintro Hf
  isplitl [Hf]
  · iapply (ent_of_eq (pointsTo_congr fun i hi => ?_))
    rotate_left
    · iexact Hf
    · have hi' : i ∈ ((Memref.whole cc0_scratch2).access (Rect.unit (s := S64x1024) off S32x1024.size inb)).set := by rw [set_br32 hoff]; exact hi
      obtain ⟨y, -, rfl⟩ := Finset.mem_map.mp hi'
      rw [View.write_emb_of_mem _ _ (Finset.mem_univ y), hw]
      exact (congrFun (emb_half (D.sumR (D.X (n / 128)) (n / 128) (n % 64 / 4) c) (inb := inb) (by omega) hoff) y).symm
  iexact HR

end Sums

section First
variable {D : Vals F} {K : Names} {c : Dev nD} {l : ℕ} {Dn : ℕ → Prop} {n k nB kS : ℕ} {α : Type} {Q : α → sProp (MT nD τ sig ℕ (Elt F) ℕ UU ℕ)}

/-- What is held besides the rights to read the first slots. -/
def SGt (D : Vals F) (c : Dev nD) (K : Names) (l : ℕ) (Dn : ℕ → Prop) (n k nB kS : ℕ) : sProp 𝕄 :=
  iprop(XA D c n k ∗ XB D c n k ∗ XO D c l n k ∗ XK D c l ∗ SS D c n k ∗ SB (F := F) c nB k ∗ GR (F := F) c n k ∗ TK (F := F) c n
    ∗ FL (F := F) c n kS ∗ IC (F := F) c k ∗ RP (F := F) c k ∗ SP (F := F) c kS ∗ Ow (F := F) c n ∗ Pb D c l Dn ∗ Sg D c)
theorem SG_Tt {m : ℕ} (hm : 64 ≤ m ∧ m < 68) : SG D c K l Dn n k nB kS
    = iprop(Cx D K ∗ tTok (F := F) c m ∗ bigSep ((Finset.Ico 64 68).erase m) (fun m => tTok (F := F) c m) ∗ SGt D c K l Dn n k nB kS) := by
  unfold SG SGt Tt
  have e : bigSep (Finset.Ico 64 68) (fun m => tTok (F := F) c m) = iprop(tTok (F := F) c m ∗ bigSep ((Finset.Ico 64 68).erase m) (fun m => tTok (F := F) c m)) :=
    bigSep_erase (Finset.mem_Ico.2 hm)
  rw [e]
  ac_rfl
/-- A load from inside an invariant. -/
theorem W_loadOpen {P : sProp 𝕄} {cs : CoreSpace} {s : Shape} {e : EltTy} {m : Memref sig .tc cs s e} {r : Rect s} {hl : m.view.LoadsAt r}
    {k : (r.shape.Idx → Elt F e) → Prog (TpuEff nD τ sig (Elt F) Λ₀ .tc) α}
    (q : PosShare TreeShare) (S : Finset (Idx ((m.access r).loc (c : Thread nD τ)))) (E' : Set ℕ) (hS : (m.access r).set ⊆ S)
    (hP : P ⊢ iprop(|={Set.univ, E'}=> ∃ f, ((m.access r).loc (c : Thread nD τ) ↦[S]{q} f)
      ∗ (((m.access r).loc (c : Thread nD τ) ↦[S]{q} f) -∗ |={E', Set.univ}=> P)))
    (H : ∀ v, P ⊢ WP c (k v) Q) : P ⊢ WP c (Prog.lift (.load m r hl) >>= k) Q := by
  unfold WP at H ⊢
  simp only [Prog.lift, Prog.bind_op, Prog.bind_ret]
  iintro HP
  imod hP $$ HP with ⟨%f, Hf, Hback⟩
  iapply (atomically_intro frame _ (fp (c : Thread nD τ) (.load m r hl)) _)
  have hS' : m.view.setOn r.toLoadRect.set ⊆ S := by rwa [View.set_slice] at hS
  iapply (fp_load (c : Thread nD τ) hS') $$ Hf
  iintro Hf
  imod Hback $$ Hf with HP
  imodintro
  iapply (H _); iexact HP

omit [FloatOps F] in
theorem tTok_twice (t : Dev nD) (m : ℕ) : iprop(tTok (F := F) t m ∗ tTok (F := F) t m) ⊢ (iprop(False) : sProp 𝕄) := by
  unfold tTok; exact dutyTok_dutyTok_false (E := ER)

/-- A load of a first slot, of which nothing is known. -/
theorem W_ld0L {m : ℕ} (hm : 64 ≤ m ∧ m < 68) (hp : m % 2 = 0) {off : Fin 2 → ℕ} {inb hl} {kk : (S32x1024.Idx → Elt F .bf16) → Prog (TpuEff nD τ sig (Elt F) Λ₀ .tc) α}
    (hoff : off = ![64 * 0 + 32 * (m % 4 / 2), 0]) (H : ∀ v, SG D c K l Dn n k nB kS ⊢ WP c (kk v) Q) :
    SG D c K l Dn n k nB kS ⊢ WP c (Prog.lift (.load (Memref.whole cc0_scratch5) (Rect.unit (s := S1024x1024) off S32x1024.size inb).toLoadRect hl) >>= kk) Q := by
  have hz : m % 64 / 4 = 0 := by omega
  refine W_loadOpen (m := Memref.whole cc0_scratch5) (r := Rect.unit (s := S1024x1024) off S32x1024.size inb) fullShare.right
    (slReg 0 (m % 4 / 2)) (Set.univ \ {K.slot (c, m)}) (sub_l32 hoff) ?_ H
  rw [SG_Tt hm]
  iintro ⟨#HC, Ht, HR⟩
  ihave #Hinv := (Cx_slot D K c hm) $$ HC
  imod (inv_acc (E := Set.univ) (Set.mem_univ (K.slot (c, m)))) $$ Hinv with ⟨HI, Hclose⟩
  unfold slotBody slotAny
  rw [if_pos hp, hz]
  unfold slPts
  icases HI with (⟨Ht', -⟩ | ⟨%f, Hf⟩)
  · ihave Hx := (tTok_twice (F := F) c m) $$ [Ht Ht']
    · isplitl [Ht]; · iexact Ht
      iexact Ht'
    iexfalso; iexact Hx
  imodintro
  iexists f
  isplitl [Hf]; · iexact Hf
  iintro Hf
  imod Hclose $$ [Hf]
  · iright; iexists f; iexact Hf
  imodintro
  isplitr; · iexact HC
  isplitl [Ht]; · iexact Ht
  iexact HR

/-- A load of a first slot, of which nothing is known. -/
theorem W_ld0R {m : ℕ} (hm : 64 ≤ m ∧ m < 68) (hp : m % 2 = 1) {off : Fin 2 → ℕ} {inb hl} {kk : (S32x1024.Idx → Elt F .bf16) → Prog (TpuEff nD τ sig (Elt F) Λ₀ .tc) α}
    (hoff : off = ![64 * 0 + 32 * (m % 4 / 2), 0]) (H : ∀ v, SG D c K l Dn n k nB kS ⊢ WP c (kk v) Q) :
    SG D c K l Dn n k nB kS ⊢ WP c (Prog.lift (.load (Memref.whole cc0_scratch4) (Rect.unit (s := S960x1024) off S32x1024.size inb).toLoadRect hl) >>= kk) Q := by
  have hz : m % 64 / 4 = 0 := by omega
  refine W_loadOpen (m := Memref.whole cc0_scratch4) (r := Rect.unit (s := S960x1024) off S32x1024.size inb) fullShare.right
    (srReg 0 (m % 4 / 2)) (Set.univ \ {K.slot (c, m)}) (sub_r32 hoff) ?_ H
  rw [SG_Tt hm]
  iintro ⟨#HC, Ht, HR⟩
  ihave #Hinv := (Cx_slot D K c hm) $$ HC
  imod (inv_acc (E := Set.univ) (Set.mem_univ (K.slot (c, m)))) $$ Hinv with ⟨HI, Hclose⟩
  unfold slotBody slotAny
  rw [if_neg (show ¬m % 2 = 0 by omega), hz]
  unfold srPts
  icases HI with (⟨Ht', -⟩ | ⟨%f, Hf⟩)
  · ihave Hx := (tTok_twice (F := F) c m) $$ [Ht Ht']
    · isplitl [Ht]; · iexact Ht
      iexact Ht'
    iexfalso; iexact Hx
  imodintro
  iexists f
  isplitl [Hf]; · iexact Hf
  iintro Hf
  imod Hclose $$ [Hf]
  · iright; iexists f; iexact Hf
  imodintro
  isplitr; · iexact HC
  isplitl [Ht]; · iexact Ht
  iexact HR

end First

end Cert.KernelIdeal.Mlp
-- ==== Proof.IssueGather.lean ====
/-
# Starting a copy of the gathering loop and of the reducing loop

In the reducing loop's first step the landing region is held by half: the other half is in an invariant, which the copy opens at every element it writes.
-/
module

public import proofs.«01_k».proof.Proof.Issue

@[expose] public section

noncomputable section

namespace Cert.KernelIdeal.Mlp

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

section Gather
variable {D : Vals F} {K : Names} {c : Dev nD} {l : ℕ} {Dn : ℕ → Prop} {n k : ℕ} {α : Type} {Q : α → sProp (MT nD τ sig ℕ (Elt F) ℕ UU ℕ)}

abbrev mX (off : Fin 2 → ℕ) (inb : ∀ a, off a + S32x1024.size a ≤ S2048x1024.size a) : Memref sig .tc .vmem S32x1024 .bf16 :=
  (Memref.whole cc0_scratch0).slice (Rect.unit (s := S2048x1024) off S32x1024.size inb) (fun _ => rfl)
abbrev mSl (off : Fin 2 → ℕ) (inb : ∀ a, off a + S32x1024.size a ≤ S1024x1024.size a) : Memref sig .tc .vmem S32x1024 .bf16 :=
  (Memref.whole cc0_scratch5).slice (Rect.unit (s := S1024x1024) off S32x1024.size inb) (fun _ => rfl)
abbrev mSr (off : Fin 2 → ℕ) (inb : ∀ a, off a + S32x1024.size a ≤ S960x1024.size a) : Memref sig .tc .vmem S32x1024 .bf16 :=
  (Memref.whole cc0_scratch4).slice (Rect.unit (s := S960x1024) off S32x1024.size inb) (fun _ => rfl)
abbrev mBl (off : Fin 2 → ℕ) (inb : ∀ a, off a + S32x1024.size a ≤ S64x1024.size a) : Memref sig .tc .vmem S32x1024 .bf16 :=
  (Memref.whole cc0_scratch3).slice (Rect.unit (s := S64x1024) off S32x1024.size inb) (fun _ => rfl)
abbrev mBr (off : Fin 2 → ℕ) (inb : ∀ a, off a + S32x1024.size a ≤ S64x1024.size a) : Memref sig .tc .vmem S32x1024 .bf16 :=
  (Memref.whole cc0_scratch2).slice (Rect.unit (s := S64x1024) off S32x1024.size inb) (fun _ => rfl)

theorem pts_x {b : Dev nD} {h : ℕ} {off : Fin 2 → ℕ} {inb} (hoff : off = ![64 * b.val + 32 * h, 0]) (hh : h < 2) (c : Dev nD) (q : PosShare TreeShare) (f : S2048x1024.Idx → F .bf16) :
    iprop((mX off inb).view.loc (c : Thread nD τ) ↦[(mX off inb).view.set]{q} f) = xPts c b h q f := by
  unfold xPts; rw [view_x, set_x hoff hh]
theorem pts_sl {r h : ℕ} {off : Fin 2 → ℕ} {inb} (hoff : off = ![64 * r + 32 * h, 0]) (hh : h < 2) (c : Dev nD) (q : PosShare TreeShare) (f : S1024x1024.Idx → F .bf16) :
    iprop((mSl off inb).view.loc (c : Thread nD τ) ↦[(mSl off inb).view.set]{q} f) = slPts c r h q f := by
  unfold slPts; rw [view_sl, set_sl hoff hh]
theorem pts_sr {r h : ℕ} {off : Fin 2 → ℕ} {inb} (hoff : off = ![64 * r + 32 * h, 0]) (hh : h < 2) (c : Dev nD) (q : PosShare TreeShare) (f : S960x1024.Idx → F .bf16) :
    iprop((mSr off inb).view.loc (c : Thread nD τ) ↦[(mSr off inb).view.set]{q} f) = srPts c r h q f := by
  unfold srPts; rw [view_sr, set_sr hoff hh]
theorem pts_bl {h : ℕ} {off : Fin 2 → ℕ} {inb} (hoff : off = ![32 * h, 0]) (hh : h < 2) (c : Dev nD) (f : S64x1024.Idx → F .bf16) :
    iprop((mBl off inb).view.loc (c : Thread nD τ) ↦[(mBl off inb).view.set]{fullShare} f) = blPts c h f := by
  unfold blPts; rw [view_bl, set_sb hoff hh]
theorem pts_br {h : ℕ} {off : Fin 2 → ℕ} {inb} (hoff : off = ![32 * h, 0]) (hh : h < 2) (c : Dev nD) (f : S64x1024.Idx → F .bf16) :
    iprop((mBr off inb).view.loc (c : Thread nD τ) ↦[(mBr off inb).view.set]{fullShare} f) = brPts c h f := by
  unfold brPts; rw [view_br, set_sb hoff hh]

theorem xDst_tgt (h0 : n % 128 < 64) : xDst (tgt c n) n = xSrc c n := by
  unfold xDst xSrc tgt rt lf
  by_cases h : n % 2 = 0
  · rw [if_pos h, if_pos h, if_pos (by omega), blk_add]; exact blk_congr c (by omega)
  · rw [if_neg h, if_neg h, if_neg (by omega), blk_add]; exact blk_congr c (by omega)

theorem slotAny_mod (c : Dev nD) (i : ℕ) : slotAny c (n % 128 + 64) (slotSh (n % 128 + 64)) = slotAny (F := F) c (n + 64) (slotSh (n + 64)) := by
  unfold slotAny slotSh
  rw [show (n % 128 + 64) % 2 = (n + 64) % 2 by omega, show (n % 128 + 64) % 64 / 4 = (n + 64) % 64 / 4 by omega,
    show (n % 128 + 64) % 4 / 2 = (n + 64) % 4 / 2 by omega]
theorem slotSt_any (r i : ℕ) : slotSt D c r i ⊢ slotAny (F := F) c i (slotSh i) := by
  unfold slotSt slotPts slotAny
  split
  · exact .rfl
  · split
    · iintro H; iexists _; iexact H
    · iintro H; iexists _; iexact H

theorem spare_AG (h0 : n % 128 < 64) : spare (F := F) c n = iprop(∃ f, xPts (F := F) c (xDst c n) (n % 4 / 2) fullShare f) := by
  unfold spare; rw [if_pos (by omega)]
theorem spare_RS (h0 : 64 ≤ n % 128) : spare (F := F) c n = iprop(slotAny (F := F) c n (slotSh n) ∗ wIf (F := F) c n) := by
  unfold spare; rw [if_neg (by omega)]

variable {dv : Dev nD} {sS sem : DmaSem sig} {off : Fin 2 → ℕ} {inb inb'} {h0' : (mX off inb').view.ref.isScScratch = false}
    {h1 : (mX off inb).view.WordExact} {h2 : (mX off inb').view.WordExact} {h3}
    {kk : PUnit → Prog (TpuEff nD τ sig (Elt F) Λ₀ .tc) α}

theorem W_issueAG (hv : Valid n) (hn : n < 384) (h0 : n % 128 < 64) (hl : l = n / 128) (hk : k ≤ n) (hk' : n ≤ k + 3)
    (hdv : dv = tgt c n) (hsS : sS = sendSem n) (hsem : sem = recvSem n)
    (hoff : off = ![64 * (xSrc c n).val + 32 * (n % 4 / 2), 0])
    (H : St D c K l Dn (n + 1) k ⊢ WP c (kk ⟨⟩) Q) :
    St D c K l Dn n k ⊢ WP c (Prog.lift (.enqueueDma (mX off inb) (.remote (Dev.tc dv) (mX off inb') (.dma sS) h0') (.dma sem) h1 h2 h3) >>= kk) Q := by
  subst hl
  refine W_issueSt (K := K) (l := n / 128) (Dn := Dn) (G := iprop(slotSt D c (cnt k (n % 128 + 64)) (n % 128 + 64) ∗ wIf (F := F) c (n % 128 + 64)))
    (q := srcSh n) (fs := rows2048 (D.X (n / 128))) hv hn hk hk' hdv hsS hsem rfl ?_ ?_ ?_ H
  · rw [pts_x hoff (by omega)]
    show SG D c K (n / 128) Dn n k n k = _
    unfold SG
    rw [XB_startAG D c hv hn h0 hk hk', SS_startAG D c hv hn h0 hk hk', SB_startAG c hv hn h0 hk hk']
    by_cases hs : n % 64 < 4
    · rw [XA_startAG0 D c hv hn h0 hk hk' hs, XO_startAG0 D c hv hn h0 hk hk' hs]
      ac_rfl
    · rw [XA_startAG D c hv hn h0 hk hk' (by omega), XO_startAG D c hv hn h0 hk hk' _ (by omega)]
      ac_rfl
  · rw [pts_x hoff (by omega), sendPay_AG D c h0]
  · have eg : gr n = n + 64 := by unfold gr; rw [if_pos (by omega)]
    have hval : Valid (n + 64) := by simp only [Valid] at *; omega
    unfold recvPay landed leave
    rw [if_pos (show n < 320 by omega), if_pos (show n % 128 / 64 = 0 by omega), spare_AG h0, xDst_tgt h0, tgt_gr c hv, eg,
      spare_RS (by omega)]
    iintro ⟨-, ⟨%fd, Hd⟩, ⟨Hs, Hw⟩, Hr⟩
    ihave Hd := (ent_of_eq (pts_x (inb := inb') hoff (by omega) (tgt c n) fullShare fd).symm) $$ Hd
    iapply (writeUpdate_mono (R := iprop(((mX off inb').view.loc (tgt c n : Thread nD τ) ↦[(mX off inb').view.set]{fullShare}
      ((mX off inb').view.write (Elt F) fd ((mX off inb).view.read (Elt F) (rows2048 (D.X (n / 128)))) Finset.univ))
      ∗ (slotAny (F := F) c (n + 64) (slotSh (n + 64)) ∗ wIf (F := F) c (n + 64)) ∗ reached ER (recvC c (n + 64)) ((n + 64) / 128))) (sep_mono_left ?_))
    · rw [View.write_read_eq_piecewise (v := (mX off inb').view), View.setOn_univ]
      refine (ent_of_eq ?_).trans (ent_of_eq (pts_x (inb := inb') hoff (by omega) (tgt c n) fullShare (rows2048 (D.X (n / 128)))))
      exact pointsTo_congr fun i hi => Finset.piecewise_eq_of_mem _ _ _ hi
    iapply (writeUpdate_frame (tgt c n : Thread nD τ))
    isplitl [Hd]
    · iapply (pointsTo_writeUpdate (tgt c n : Thread nD τ) subset_rfl); iexact Hd
    isplitl [Hs Hw]
    · isplitl [Hs]
      · ihave Hs := (slotSt_any _ _) $$ Hs
        iapply (ent_of_eq (slotAny_mod (n := n) c 0)); iexact Hs
      · iapply (ent_of_eq (show wIf (F := F) c (n % 128 + 64) = wIf (F := F) c (n + 64) by
          rw [← wIf_mod c (n + 64)]; congr 1; omega))
        iexact Hw
    iexact Hr
end Gather

section Slot
/-- A write into a region held by half, the other half being in an invariant with two tokens for a key. -/
theorem slot_update {c' : Thread nD τ} {sp : Space} {s : Shape} {e : EltTy} {v : View sig c'.2.kind sp s e} {w : s.Idx → Elt F e} {ι : ℕ} {B T Wt : sProp 𝕄}
    (hB : B = iprop((T ∗ Wt) ∨ ∃ f, v.loc c' ↦[v.set]{fullShare.right} f)) (hW : iprop(Wt ∗ Wt) ⊢ (iprop(False) : sProp 𝕄)) (fd : Buf (Elt F) (v.loc c')) :
    iprop(inv ι B ∗ Wt ∗ (v.loc c' ↦[v.set]{fullShare.left} fd))
      ⊢ writeUpdate c' v w iprop((v.loc c' ↦[v.set]{fullShare.left} (v.write (Elt F) fd w Finset.univ)) ∗ Wt) := by
  subst hB
  rw [writeUpdate, writeUpdateFrom_def]
  iintro ⟨#Hinv, Hw, Hl⟩
  iexists (fun M => iprop((v.loc c' ↦[v.set]{fullShare.left} (v.write (Elt F) fd w M)) ∗ Wt))
  simp only [View.write_empty]
  isplitl [Hw Hl]
  · isplitl [Hl]; · iexact Hl
    iexact Hw
  isplitr
  · rw [writeSteps_def]
    imodintro
    iintro %M %M' ⟨Hl, Hw⟩
    imod (inv_acc (Set.mem_univ ι)) $$ Hinv with ⟨HI, Hclose⟩
    icases HI with (⟨-, Hw'⟩ | ⟨%f, Hr⟩)
    · ihave HF := hW $$ [Hw Hw']
      · isplitl [Hw]; · iexact Hw
        iexact Hw'
      iexfalso; iexact HF
    ihave %hag := pointsTo_agree $$ [Hl Hr]
    · isplitl [Hl]; · iexact Hl
      iexact Hr
    ihave Hr := (ent_of_eq (pointsTo_congr (g := v.write (Elt F) fd w M) fun i hi => ((hag i (Finset.mem_inter.2 ⟨hi, hi⟩)).1).symm)) $$ Hr
    ihave Hf := (pointsTo_share (PosShare.mem_left_op_right fullShare)).2 $$ [Hl Hr]
    · isplitl [Hl]; · iexact Hl
      iexact Hr
    iapply (atomically_intro frame _ (storeSpec c' v w M') _)
    rw [storeSpec_apply]
    iexists v.set, (v.write (Elt F) fd w M)
    isplitl [Hf]; · iexact Hf
    isplitr; · ipureintro; exact v.setOn_subset_set _
    iintro Hf
    rw [View.write_write_union]
    ihave Hf := (pointsTo_share (PosShare.mem_left_op_right fullShare)).1 $$ Hf
    icases Hf with ⟨Hl, Hr⟩
    imod Hclose $$ [Hr] with -
    · iright; iexists _; iexact Hr
    imodintro
    isplitl [Hl]; · iexact Hl
    iexact Hw
  · iintro H; iexact H
end Slot

end Cert.KernelIdeal.Mlp
-- ==== Proof.IssueReduce.lean ====
/-
# Starting a copy of the reducing loop
-/
module

public import proofs.«01_k».proof.Proof.IssueGather

@[expose] public section

noncomputable section

namespace Cert.KernelIdeal.Mlp

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

section Content

theorem cont_sl {r h : ℕ} {off off' : Fin 2 → ℕ} {inb inb'} (hoff : off = ![32 * h, 0]) (hoff' : off' = ![64 * r + 32 * h, 0]) (hh : h < 2)
    {fs : S64x1024.Idx → F .bf16} {fd : S1024x1024.Idx → F .bf16} {f : ℕ → Row F} (hf : f r = fs) :
    ∀ i ∈ (mSl off' inb').view.set, (mSl off' inb').view.write (Elt F) fd ((mBl off inb).view.read (Elt F) fs) Finset.univ i = rows1024 f i := by
  intro i hi
  obtain ⟨x, -, rfl⟩ := Finset.mem_map.mp hi
  rw [View.write_emb_of_mem _ _ (Finset.mem_univ x)]
  show fs ((Rect.unit (s := S64x1024) off S32x1024.size inb).emb x) = rows1024 f ((Rect.unit (s := S1024x1024) off' S32x1024.size inb').emb x)
  subst hoff hoff'
  have x0 : (x 0).val < 32 := (x 0).isLt
  have a0 : ((Rect.unit (s := S64x1024) ![32 * h, 0] S32x1024.size inb).emb x 0).val = 32 * h + (x 0).val := by
    show 32 * h + 1 * (x 0).val = _; omega
  have b0 : ((Rect.unit (s := S1024x1024) ![64 * r + 32 * h, 0] S32x1024.size inb').emb x 0).val = 64 * r + 32 * h + (x 0).val := by
    show 64 * r + 32 * h + 1 * (x 0).val = _; omega
  unfold rows1024
  rw [show ((Rect.unit (s := S1024x1024) ![64 * r + 32 * h, 0] S32x1024.size inb').emb x 0).val / 64 = r by omega, hf,
    ← Shape.pair_eta ((Rect.unit (s := S64x1024) ![32 * h, 0] S32x1024.size inb).emb x)]
  refine congrArg fs ?_
  congr 1
  · exact Fin.ext (show ((Rect.unit (s := S64x1024) ![32 * h, 0] S32x1024.size inb).emb x 0).val = ((Rect.unit (s := S1024x1024) ![64 * r + 32 * h, 0] S32x1024.size inb').emb x 0).val % 64 by omega)

theorem cont_sr {r h : ℕ} {off off' : Fin 2 → ℕ} {inb inb'} (hoff : off = ![32 * h, 0]) (hoff' : off' = ![64 * r + 32 * h, 0]) (hh : h < 2)
    {fs : S64x1024.Idx → F .bf16} {fd : S960x1024.Idx → F .bf16} {f : ℕ → Row F} (hf : f r = fs) :
    ∀ i ∈ (mSr off' inb').view.set, (mSr off' inb').view.write (Elt F) fd ((mBr off inb).view.read (Elt F) fs) Finset.univ i = rows960 f i := by
  intro i hi
  obtain ⟨x, -, rfl⟩ := Finset.mem_map.mp hi
  rw [View.write_emb_of_mem _ _ (Finset.mem_univ x)]
  show fs ((Rect.unit (s := S64x1024) off S32x1024.size inb).emb x) = rows960 f ((Rect.unit (s := S960x1024) off' S32x1024.size inb').emb x)
  subst hoff hoff'
  have x0 : (x 0).val < 32 := (x 0).isLt
  have a0 : ((Rect.unit (s := S64x1024) ![32 * h, 0] S32x1024.size inb).emb x 0).val = 32 * h + (x 0).val := by
    show 32 * h + 1 * (x 0).val = _; omega
  have b0 : ((Rect.unit (s := S960x1024) ![64 * r + 32 * h, 0] S32x1024.size inb').emb x 0).val = 64 * r + 32 * h + (x 0).val := by
    show 64 * r + 32 * h + 1 * (x 0).val = _; omega
  unfold rows960
  rw [show ((Rect.unit (s := S960x1024) ![64 * r + 32 * h, 0] S32x1024.size inb').emb x 0).val / 64 = r by omega, hf,
    ← Shape.pair_eta ((Rect.unit (s := S64x1024) ![32 * h, 0] S32x1024.size inb).emb x)]
  refine congrArg fs ?_
  congr 1
  · exact Fin.ext (show ((Rect.unit (s := S64x1024) ![32 * h, 0] S32x1024.size inb).emb x 0).val = ((Rect.unit (s := S960x1024) ![64 * r + 32 * h, 0] S32x1024.size inb').emb x 0).val % 64 by omega)

end Content

section Reduce
variable {D : Vals F} {K : Names} {c : Dev nD} {l : ℕ} {Dn : ℕ → Prop} {n k : ℕ} {α : Type} {Q : α → sProp (MT nD τ sig ℕ (Elt F) ℕ UU ℕ)}

omit [FloatOps F] in
theorem wTok_twice (t : Dev nD) (m : ℕ) : iprop(wTok (F := F) t m ∗ wTok (F := F) t m) ⊢ (iprop(False) : sProp 𝕄) := by
  unfold wTok; exact dutyTok_dutyTok_false (E := ER)
omit [FloatOps F] in
theorem wTok_mod (t : Dev nD) (m : ℕ) : wTok (F := F) t (m % 128) = wTok (F := F) t m := by unfold wTok; rw [recvC_mod]

theorem gr_leave (hv : Valid n) (h0 : 64 ≤ n % 128) :
    iprop((if n < 320 then xPts c (xDst c (gr n)) (n % 4 / 2) fullShare (rows2048 (D.X (n / 128))) else iprop(emp)) ∗ reached ER (recvC c (gr n)) (gr n / 128))
      ⊢ (if n < 320 then leave (F := F) (gr n) (tgt c n) else iprop(emp)) := by
  by_cases hl : n < 320
  · rw [if_pos hl, if_pos hl]
    have := gr_loop hv
    unfold leave
    rw [tgt_gr c hv, spare_AG (by omega), gr_half]
    iintro ⟨HX, Hr⟩
    isplitl [HX]; · iexists _; iexact HX
    iexact Hr
  · rw [if_neg hl, if_neg hl]
    iintro ⟨H, -⟩; iexact H

variable {dv : Dev nD} {sS sem : DmaSem sig} {off off' : Fin 2 → ℕ} {inb inb'}
    {kk : PUnit → Prog (TpuEff nD τ sig (Elt F) Λ₀ .tc) α}

theorem upd_sl {t : Dev nD} (hp : n % 2 = 0) (h0 : 64 ≤ n % 128) (hoff' : off' = ![64 * (n % 64 / 4) + 32 * (n % 4 / 2), 0]) {w : S32x1024.Idx → F .bf16} :
    iprop(Cx D K ∗ slotAny (F := F) t n (slotSh n) ∗ wIf (F := F) t n)
      ⊢ writeUpdate (t : Thread nD τ) (mSl off' inb').view w
        iprop(∃ fd, ((mSl off' inb').view.loc (t : Thread nD τ) ↦[(mSl off' inb').view.set]{slotSh n} ((mSl off' inb').view.write (Elt F) fd w Finset.univ)) ∗ wIf (F := F) t n) := by
  unfold slotAny
  rw [if_pos hp]
  by_cases hs : n % 64 / 4 = 0
  · have e : slotSh n = fullShare.left := if_pos hs
    have e1 : wIf (F := F) t n = wTok (F := F) t n := if_pos hs
    rw [e, e1]
    iintro ⟨#HC, ⟨%fd, Hd⟩, Hw⟩
    ihave #Hi := (Cx_slot D K t (m := n % 128) (by omega)) $$ HC
    ihave Hd := (ent_of_eq (pts_sl (inb := inb') hoff' (by omega) t fullShare.left fd).symm) $$ Hd
    iapply (writeUpdate_mono (R := iprop(((mSl off' inb').view.loc (t : Thread nD τ) ↦[(mSl off' inb').view.set]{fullShare.left} ((mSl off' inb').view.write (Elt F) fd w Finset.univ)) ∗ wTok (F := F) t n)) ?_)
    · iintro H; iexists fd; iexact H
    iapply (slot_update (c' := (t : Thread nD τ)) (v := (mSl off' inb').view) (w := w) (ι := K.slot (t, n % 128)) (B := slotBody (F := F) t (n % 128)) (T := tTok (F := F) t (n % 128)) ?_ (wTok_twice t n) fd)
    · unfold slotBody slotAny
      rw [wTok_mod, if_pos (show n % 128 % 2 = 0 by omega), show n % 128 % 64 / 4 = n % 64 / 4 by omega, show n % 128 % 4 / 2 = n % 4 / 2 by omega]
      refine congrArg (fun Z => iprop((tTok (F := F) t (n % 128) ∗ wTok (F := F) t n) ∨ Z)) ?_
      exact congrArg BIBase.exists (funext fun f => (pts_sl (inb := inb') hoff' (by omega) t fullShare.right f).symm)
    isplitr; · iexact Hi
    isplitl [Hw]; · iexact Hw
    iexact Hd
  · have e : slotSh n = fullShare := if_neg hs
    rw [e]
    iintro ⟨-, ⟨%fd, Hd⟩, Hw⟩
    ihave Hd := (ent_of_eq (pts_sl (inb := inb') hoff' (by omega) t fullShare fd).symm) $$ Hd
    iapply (writeUpdate_mono (R := iprop(((mSl off' inb').view.loc (t : Thread nD τ) ↦[(mSl off' inb').view.set]{fullShare} ((mSl off' inb').view.write (Elt F) fd w Finset.univ)) ∗ wIf (F := F) t n)) ?_)
    · iintro H; iexists fd; iexact H
    iapply (writeUpdate_frame (t : Thread nD τ))
    isplitl [Hd]
    · iapply (pointsTo_writeUpdate (t : Thread nD τ) subset_rfl); iexact Hd
    iexact Hw

theorem W_issue_sl {h0' : (mSl off' inb').view.ref.isScScratch = false} {h1 : (mBl off inb).view.WordExact} {h2 : (mSl off' inb').view.WordExact} {h3}
    (hp : n % 2 = 0) (hv : Valid n) (hn : n < 384) (h0 : 64 ≤ n % 128) (hk : k ≤ n) (hk' : n ≤ k + 3)
    (hdv : dv = tgt c n) (hsS : sS = sendSem n) (hsem : sem = recvSem n)
    (hoff : off = ![32 * (n % 4 / 2), 0]) (hoff' : off' = ![64 * (n % 64 / 4) + 32 * (n % 4 / 2), 0])
    (H : St D c K l Dn (n + 1) k ⊢ WP c (kk ⟨⟩) Q) :
    StF D c K l Dn n k ⊢ WP c (Prog.lift (.enqueueDma (mBl off inb) (.remote (Dev.tc dv) (mSl off' inb') (.dma sS) h0') (.dma sem) h1 h2 h3) >>= kk) Q := by
  refine W_issueSt (K := K) (l := l) (Dn := Dn) (G := (if n < 320 then xPts c (xDst c (gr n)) (n % 4 / 2) fullShare (rows2048 (D.X (n / 128))) else iprop(emp)))
    (q := fullShare) (fs := D.sumL (D.X (n / 128)) (n / 128) (n % 64 / 4) c) hv hn hk hk' hdv hsS hsem rfl ?_ ?_ ?_ H
  · rw [pts_bl hoff (by omega)]
    show iprop(filled D c n ∗ SG D c K l Dn n k (n + 1) k) = _
    unfold filled SG
    rw [if_pos hp, XO_startRS D c hv hn h0 hk hk', SS_startRS D c hv hn h0 hk hk']
    by_cases hl : n < 320
    · rw [if_pos hl, XA_startRS D c hv hn h0 hk hk' hl, XB_startRS D c hv hn h0 hk hk' hl, xPts_halves c _ _ (rows2048 (D.X (n / 128)))]
      ac_rfl
    · rw [if_neg hl, XA_startRS' D c hv hn h0 hk hk' (by omega), XB_startRS' D c hv hn h0 hk hk' (by omega), se']
      ac_rfl
  · rw [pts_bl hoff (by omega)]
    unfold sendPay
    rw [if_neg (show ¬n % 128 / 64 = 0 by omega), if_pos hp]
    iintro H; iexists _; iexact H
  · have hsum : sumTo D (n / 128) (tgt c n) n (n % 64 / 4) = D.sumL (D.X (n / 128)) (n / 128) (n % 64 / 4) c := by
      unfold sumTo tgt
      rw [if_pos hp, if_neg (by omega), rt_lf]
    rw [spare_RS h0]
    iintro ⟨HC, Hs, HG, Hr⟩
    iapply (writeUpdate_mono (R := iprop((∃ fd, ((mSl off' inb').view.loc (tgt c n : Thread nD τ) ↦[(mSl off' inb').view.set]{slotSh n}
      ((mSl off' inb').view.write (Elt F) fd ((mBl off inb).view.read (Elt F) (D.sumL (D.X (n / 128)) (n / 128) (n % 64 / 4) c)) Finset.univ)) ∗ wIf (F := F) (tgt c n) n)
        ∗ (if n < 320 then leave (F := F) (gr n) (tgt c n) else iprop(emp)))) ?_)
    · unfold recvPay
      refine sep_mono_left ?_
      unfold landed slotPts
      rw [if_neg (show ¬n % 128 / 64 = 0 by omega), if_pos hp]
      iintro ⟨%fd, Hd, Hw⟩
      isplitl [Hd]
      · iapply (ent_of_eq (pts_sl (inb := inb') hoff' (by omega) (tgt c n) (slotSh n) (rows1024 (sumTo D (n / 128) (tgt c n) n))))
        iapply (ent_of_eq (pointsTo_congr (cont_sl (inb := inb) (inb' := inb') hoff hoff' (by omega) (fd := fd) (f := sumTo D (n / 128) (tgt c n) n) hsum)))
        iexact Hd
      iexact Hw
    iapply (writeUpdate_frame (tgt c n : Thread nD τ))
    isplitl [HC Hs]
    · iapply (upd_sl (K := K) (D := D) (n := n) hp h0 hoff')
      isplitl [HC]; · iexact HC
      iexact Hs
    · iapply (gr_leave hv h0)
      isplitl [HG]; · iexact HG
      iexact Hr

theorem upd_sr {t : Dev nD} (hp : n % 2 = 1) (h0 : 64 ≤ n % 128) (hoff' : off' = ![64 * (n % 64 / 4) + 32 * (n % 4 / 2), 0]) {w : S32x1024.Idx → F .bf16} :
    iprop(Cx D K ∗ slotAny (F := F) t n (slotSh n) ∗ wIf (F := F) t n)
      ⊢ writeUpdate (t : Thread nD τ) (mSr off' inb').view w
        iprop(∃ fd, ((mSr off' inb').view.loc (t : Thread nD τ) ↦[(mSr off' inb').view.set]{slotSh n} ((mSr off' inb').view.write (Elt F) fd w Finset.univ)) ∗ wIf (F := F) t n) := by
  unfold slotAny
  rw [if_neg (show ¬n % 2 = 0 by omega)]
  by_cases hs : n % 64 / 4 = 0
  · have e : slotSh n = fullShare.left := if_pos hs
    have e1 : wIf (F := F) t n = wTok (F := F) t n := if_pos hs
    rw [e, e1]
    iintro ⟨#HC, ⟨%fd, Hd⟩, Hw⟩
    ihave #Hi := (Cx_slot D K t (m := n % 128) (by omega)) $$ HC
    ihave Hd := (ent_of_eq (pts_sr (inb := inb') hoff' (by omega) t fullShare.left fd).symm) $$ Hd
    iapply (writeUpdate_mono (R := iprop(((mSr off' inb').view.loc (t : Thread nD τ) ↦[(mSr off' inb').view.set]{fullShare.left} ((mSr off' inb').view.write (Elt F) fd w Finset.univ)) ∗ wTok (F := F) t n)) ?_)
    · iintro H; iexists fd; iexact H
    iapply (slot_update (c' := (t : Thread nD τ)) (v := (mSr off' inb').view) (w := w) (ι := K.slot (t, n % 128)) (B := slotBody (F := F) t (n % 128)) (T := tTok (F := F) t (n % 128)) ?_ (wTok_twice t n) fd)
    · unfold slotBody slotAny
      rw [wTok_mod, if_neg (show ¬n % 128 % 2 = 0 by omega), show n % 128 % 64 / 4 = n % 64 / 4 by omega, show n % 128 % 4 / 2 = n % 4 / 2 by omega]
      refine congrArg (fun Z => iprop((tTok (F := F) t (n % 128) ∗ wTok (F := F) t n) ∨ Z)) ?_
      exact congrArg BIBase.exists (funext fun f => (pts_sr (inb := inb') hoff' (by omega) t fullShare.right f).symm)
    isplitr; · iexact Hi
    isplitl [Hw]; · iexact Hw
    iexact Hd
  · have e : slotSh n = fullShare := if_neg hs
    rw [e]
    iintro ⟨-, ⟨%fd, Hd⟩, Hw⟩
    ihave Hd := (ent_of_eq (pts_sr (inb := inb') hoff' (by omega) t fullShare fd).symm) $$ Hd
    iapply (writeUpdate_mono (R := iprop(((mSr off' inb').view.loc (t : Thread nD τ) ↦[(mSr off' inb').view.set]{fullShare} ((mSr off' inb').view.write (Elt F) fd w Finset.univ)) ∗ wIf (F := F) t n)) ?_)
    · iintro H; iexists fd; iexact H
    iapply (writeUpdate_frame (t : Thread nD τ))
    isplitl [Hd]
    · iapply (pointsTo_writeUpdate (t : Thread nD τ) subset_rfl); iexact Hd
    iexact Hw

theorem W_issue_sr {h0' : (mSr off' inb').view.ref.isScScratch = false} {h1 : (mBr off inb).view.WordExact} {h2 : (mSr off' inb').view.WordExact} {h3}
    (hp : n % 2 = 1) (hv : Valid n) (hn : n < 384) (h0 : 64 ≤ n % 128) (hk : k ≤ n) (hk' : n ≤ k + 3)
    (hdv : dv = tgt c n) (hsS : sS = sendSem n) (hsem : sem = recvSem n)
    (hoff : off = ![32 * (n % 4 / 2), 0]) (hoff' : off' = ![64 * (n % 64 / 4) + 32 * (n % 4 / 2), 0])
    (H : St D c K l Dn (n + 1) k ⊢ WP c (kk ⟨⟩) Q) :
    StF D c K l Dn n k ⊢ WP c (Prog.lift (.enqueueDma (mBr off inb) (.remote (Dev.tc dv) (mSr off' inb') (.dma sS) h0') (.dma sem) h1 h2 h3) >>= kk) Q := by
  refine W_issueSt (K := K) (l := l) (Dn := Dn) (G := (if n < 320 then xPts c (xDst c (gr n)) (n % 4 / 2) fullShare (rows2048 (D.X (n / 128))) else iprop(emp)))
    (q := fullShare) (fs := D.sumR (D.X (n / 128)) (n / 128) (n % 64 / 4) c) hv hn hk hk' hdv hsS hsem rfl ?_ ?_ ?_ H
  · rw [pts_br hoff (by omega)]
    show iprop(filled D c n ∗ SG D c K l Dn n k (n + 1) k) = _
    unfold filled SG
    rw [if_neg (show ¬n % 2 = 0 by omega), XO_startRS D c hv hn h0 hk hk', SS_startRS D c hv hn h0 hk hk']
    by_cases hl : n < 320
    · rw [if_pos hl, XA_startRS D c hv hn h0 hk hk' hl, XB_startRS D c hv hn h0 hk hk' hl, xPts_halves c _ _ (rows2048 (D.X (n / 128)))]
      ac_rfl
    · rw [if_neg hl, XA_startRS' D c hv hn h0 hk hk' (by omega), XB_startRS' D c hv hn h0 hk hk' (by omega), se']
      ac_rfl
  · rw [pts_br hoff (by omega)]
    unfold sendPay
    rw [if_neg (show ¬n % 128 / 64 = 0 by omega), if_neg (show ¬n % 2 = 0 by omega)]
    iintro H; iexists _; iexact H
  · have hsum : sumTo D (n / 128) (tgt c n) n (n % 64 / 4) = D.sumR (D.X (n / 128)) (n / 128) (n % 64 / 4) c := by
      unfold sumTo tgt
      rw [if_neg (show ¬n % 2 = 0 by omega), if_pos (by omega), lf_rt]
    rw [spare_RS h0]
    iintro ⟨HC, Hs, HG, Hr⟩
    iapply (writeUpdate_mono (R := iprop((∃ fd, ((mSr off' inb').view.loc (tgt c n : Thread nD τ) ↦[(mSr off' inb').view.set]{slotSh n}
      ((mSr off' inb').view.write (Elt F) fd ((mBr off inb).view.read (Elt F) (D.sumR (D.X (n / 128)) (n / 128) (n % 64 / 4) c)) Finset.univ)) ∗ wIf (F := F) (tgt c n) n)
        ∗ (if n < 320 then leave (F := F) (gr n) (tgt c n) else iprop(emp)))) ?_)
    · unfold recvPay
      refine sep_mono_left ?_
      unfold landed slotPts
      rw [if_neg (show ¬n % 128 / 64 = 0 by omega), if_neg (show ¬n % 2 = 0 by omega)]
      iintro ⟨%fd, Hd, Hw⟩
      isplitl [Hd]
      · iapply (ent_of_eq (pts_sr (inb := inb') hoff' (by omega) (tgt c n) (slotSh n) (rows960 (sumTo D (n / 128) (tgt c n) n))))
        iapply (ent_of_eq (pointsTo_congr (cont_sr (inb := inb) (inb' := inb') hoff hoff' (by omega) (fd := fd) (f := sumTo D (n / 128) (tgt c n) n) hsum)))
        iexact Hd
      iexact Hw
    iapply (writeUpdate_frame (tgt c n : Thread nD τ))
    isplitl [HC Hs]
    · iapply (upd_sr (K := K) (D := D) (n := n) hp h0 hoff')
      isplitl [HC]; · iexact HC
      iexact Hs
    · iapply (gr_leave hv h0)
      isplitl [HG]; · iexact HG
      iexact Hr
end Reduce

end Cert.KernelIdeal.Mlp
-- ==== Proof.Own.lean ====
/-
# The own block, the argument and the result, and what the stores write

Between two layers a device holds its own block of the gathered rows in full, and overwrites it with the next layer's
input. The second half says that the vectors which the kernel stores are the ones of `Vals`.
-/
module

public import proofs.«01_k».proof.Proof.Mem2
public import proofs.«01_k».proof.Proof.IssueReduce

@[expose] public section

noncomputable section

namespace Cert.KernelIdeal.Mlp

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

section Own
variable {D : Vals F} {K : Names} {c : Dev nD} {l : ℕ} {Dn : ℕ → Prop} {n k : ℕ} {α : Type} {Q : α → sProp (MT nD τ sig ℕ (Elt F) ℕ UU ℕ)}
  {R : sProp (MT nD τ sig ℕ (Elt F) ℕ UU ℕ)}

/-- What is held besides the own block. -/
def SGo (D : Vals F) (c : Dev nD) (K : Names) (l : ℕ) (Dn : ℕ → Prop) (n k : ℕ) : sProp 𝕄 :=
  iprop(Cx D K ∗ XA D c n k ∗ XB D c n k ∗ SS D c n k ∗ SB (F := F) c n k ∗ GR (F := F) c n k ∗ TK (F := F) c n
    ∗ FL (F := F) c n k ∗ IC (F := F) c k ∗ RP (F := F) c k ∗ SP (F := F) c k ∗ Ow (F := F) c n ∗ Pb D c l Dn ∗ Tt (F := F) c ∗ Sg D c)
def ownAny (c : Dev nD) : sProp 𝕄 := iprop(∃ f, blkPts (F := F) c c fullShare f)

omit [FloatOps F] in
theorem xPts_kept (b : Dev nD) (h : ℕ) (f : S2048x1024.Idx → F .bf16) :
    xPts c b h fullShare.right f = iprop(xPts c b h fullShare.right.left f ∗ xPts c b h fullShare.right.right f) :=
  equiv_iff.mp ⟨(pointsTo_share (PosShare.mem_left_op_right fullShare.right)).1, (pointsTo_share (PosShare.mem_left_op_right fullShare.right)).2⟩

theorem XO_full : iprop(XO D c l n n ∗ XK D c l) = blkPts c c fullShare (rows2048 (D.X l)) := by
  unfold XO XK
  rw [Finset.filter_true_of_mem (fun _ _ => rfl), show Finset.range 4 = {0, 1, 2, 3} by decide, show Finset.range 2 = {0, 1} by decide,
    bigSep_insert (by decide), bigSep_insert (by decide), bigSep_insert (by decide), bigSep_singleton, bigSep_insert (by decide), bigSep_singleton,
    blkPts_eq, xPts_halves, xPts_halves, xPts_kept, xPts_kept]
  show iprop((xPts c c 0 fullShare.left (rows2048 (D.X l)) ∗ xPts c c 0 fullShare.right.left (rows2048 (D.X l)) ∗ xPts c c 1 fullShare.left (rows2048 (D.X l)) ∗ xPts c c 1 fullShare.right.left (rows2048 (D.X l)))
    ∗ (xPts c c 0 fullShare.right.right (rows2048 (D.X l)) ∗ xPts c c 1 fullShare.right.right (rows2048 (D.X l)))) = _
  ac_rfl

theorem St_own : St D c K l Dn n n = iprop(blkPts c c fullShare (rows2048 (D.X l)) ∗ SGo D c K l Dn n n) := by
  rw [← XO_full (n := n)]
  show SG D c K l Dn n n n n = _
  unfold SG SGo
  ac_rfl
theorem SGo_next : SGo D c K l Dn n k ⊢ SGo D c K (l + 1) (fun _ => False) n k := by
  unfold SGo
  refine sep_mono_right <| sep_mono_right <| sep_mono_right <| sep_mono_right <| sep_mono_right <| sep_mono_right <| sep_mono_right
    <| sep_mono_right <| sep_mono_right <| sep_mono_right <| sep_mono_right <| sep_mono_right <| sep_mono_left ?_
  unfold Pb
  iintro ⟨%f, -, Hf⟩
  iexists f
  isplitr
  · ipureintro; intro j hj; exact absurd hj id
  iexact Hf
theorem St_ownAny : St D c K l Dn n n ⊢ iprop(ownAny (F := F) c ∗ SGo D c K (l + 1) (fun _ => False) n n) := by
  rw [St_own]
  unfold ownAny
  iintro ⟨H, HR⟩
  isplitl [H]; · iexists _; iexact H
  iapply SGo_next; iexact HR

theorem set_x64 {b : Dev nD} {off : Fin 2 → ℕ} {inb} (hoff : off = ![64 * b.val, 0]) :
    ((Memref.whole cc0_scratch0).access (Rect.unit (s := S2048x1024) off S64x1024.size inb)).set = xReg b 0 ∪ xReg b 1 := by
  refine Finset.Subset.antisymm (sub_x hoff) ?_
  subst hoff
  rw [set_scratch0_64]
  intro i hi
  refine mem_rows2048_64.2 ?_
  simp only [xReg, Finset.mem_union, Finset.mem_filter, Finset.mem_univ, true_and] at hi
  omega

theorem W_ldOwn {off : Fin 2 → ℕ} {inb hl} {kk : (S64x1024.Idx → Elt F .bf16) → Prog (TpuEff nD τ sig (Elt F) Λ₀ .tc) α} (hoff : off = ![64 * c.val, 0])
    (H : ∀ v, iprop(ownAny (F := F) c ∗ R) ⊢ WP c (kk v) Q) :
    iprop(ownAny (F := F) c ∗ R) ⊢ WP c (Prog.lift (.load (Memref.whole cc0_scratch0) (Rect.unit (s := S2048x1024) off S64x1024.size inb).toLoadRect hl) >>= kk) Q := by
  refine W_load (m := Memref.whole cc0_scratch0) (r := Rect.unit (s := S2048x1024) off S64x1024.size inb) fullShare (xReg c 0 ∪ xReg c 1) (fun _ => True) (sub_x hoff) ?_ (fun f _ => H _)
  unfold ownAny blkPts
  iintro ⟨⟨%f, Hf⟩, HR⟩
  iexists f
  isplitr; · ipureintro; trivial
  isplitl [Hf]; · iexact Hf
  iintro Hf
  isplitl [Hf]; · iexists f; iexact Hf
  iexact HR
theorem W_stOwn {off : Fin 2 → ℕ} {inb hx hm} {w : S64x1024.Idx → Elt F .bf16} {kk : PUnit → Prog (TpuEff nD τ sig (Elt F) Λ₀ .tc) α} (hoff : off = ![64 * c.val, 0])
    (hw : w = D.X l c) (H : St D c K l Dn n n ⊢ WP c (kk ⟨⟩) Q) :
    iprop(ownAny (F := F) c ∗ SGo D c K l Dn n n) ⊢ WP c (Prog.lift (.store (Memref.whole cc0_scratch0) (Rect.unit (s := S2048x1024) off S64x1024.size inb) w Finset.univ hx hm) >>= kk) Q := by
  rw [St_own] at H
  refine W_store (m := Memref.whole cc0_scratch0) (r := Rect.unit (s := S2048x1024) off S64x1024.size inb) (xReg c 0 ∪ xReg c 1) (fun _ => True) (sub_x hoff) ?_ H
  unfold ownAny blkPts
  iintro ⟨⟨%f, Hf⟩, HR⟩
  iexists f
  isplitr; · ipureintro; trivial
  isplitl [Hf]; · iexact Hf
  iintro Hf
  isplitl [Hf]
  · iapply (ent_of_eq (pointsTo_congr fun i hi => ?_))
    rotate_left
    · iexact Hf
    · have hi' : i ∈ ((Memref.whole cc0_scratch0).access (Rect.unit (s := S2048x1024) off S64x1024.size inb)).set := by rw [set_x64 hoff]; exact hi
      obtain ⟨y, -, rfl⟩ := Finset.mem_map.mp hi'
      rw [View.write_emb_of_mem _ _ (Finset.mem_univ y), hw]
      exact (congrFun (get_rows2048 (f := D.X l) (inb := inb) hoff) y).symm
  iexact HR

theorem whole64 {β : Type} (f : S64x1024.Idx → β) {inb} : (fun j => f ((Rect.unit (s := S64x1024) ![0, 0] S64x1024.size inb).emb j)) = f := by
  funext j
  exact congrArg f (funext fun a => Fin.ext (by
    show (![0, 0] : Fin 2 → ℕ) a + 1 * (j a).val = (j a).val
    match a with
    | 0 => show 0 + 1 * (j 0).val = _; omega
    | 1 => show 0 + 1 * (j 1).val = _; omega))
theorem W_ldArg {P : sProp 𝕄} (hP : P ⊢ iprop(wPts c cc0_stg2_0 (D.x c) ∗ (wPts c cc0_stg2_0 (D.x c) -∗ P)))
    {inb hl} {kk : (S64x1024.Idx → Elt F .bf16) → Prog (TpuEff nD τ sig (Elt F) Λ₀ .tc) α} (H : P ⊢ WP c (kk (D.x c)) Q) :
    P ⊢ WP c (Prog.lift (.load (Memref.whole cc0_stg2_0) (Rect.unit (s := S64x1024) ![0, 0] S64x1024.size inb).toLoadRect hl) >>= kk) Q := by
  refine W_load (m := Memref.whole cc0_stg2_0) (r := Rect.unit (s := S64x1024) ![0, 0] S64x1024.size inb) fullShare Finset.univ (fun f => f = D.x c) (Finset.subset_univ _) ?_ ?_
  · refine hP.trans ?_
    iintro ⟨Ht, Hb⟩
    iexists D.x c
    isplitr; · ipureintro; rfl
    isplitl [Ht]; · iexact Ht
    iexact Hb
  · rintro f rfl
    rw [show ((Memref.whole cc0_stg2_0).access (Rect.unit (s := S64x1024) ![0, 0] S64x1024.size inb)).read (Elt F) (D.x c) = D.x c from whole64 (D.x c)]
    exact H

/-- The argument blocks, without the result's. -/
def Sgi (D : Vals F) (c : Dev nD) : sProp 𝕄 :=
  iprop(tabs c ∗ wPts c cc0_stg2_0 (D.x c) ∗ (wiPts D c 0 ∗ wiPts D c 1 ∗ wiPts D c 2) ∗ (woPts D c 0 ∗ woPts D c 1 ∗ woPts D c 2))
def SGe (D : Vals F) (c : Dev nD) (K : Names) (l : ℕ) (Dn : ℕ → Prop) (n k : ℕ) : sProp 𝕄 :=
  iprop(Cx D K ∗ XA D c n k ∗ XB D c n k ∗ XO D c l n k ∗ XK D c l ∗ SS D c n k ∗ SB (F := F) c n k ∗ GR (F := F) c n k ∗ TK (F := F) c n
    ∗ FL (F := F) c n k ∗ IC (F := F) c k ∗ RP (F := F) c k ∗ SP (F := F) c k ∗ Ow (F := F) c n ∗ Pb D c l Dn ∗ Tt (F := F) c ∗ Sgi D c)
theorem St_out : St D c K l Dn n k = iprop((∃ f, wPts c cc0_stg9_0 f) ∗ SGe D c K l Dn n k) := by
  show SG D c K l Dn n k n k = _
  unfold SG SGe Sg Sgi
  ac_rfl
theorem W_ldOut {inb hl} {kk : (S64x1024.Idx → Elt F .f32) → Prog (TpuEff nD τ sig (Elt F) Λ₀ .tc) α} (H : ∀ v, St D c K l Dn n k ⊢ WP c (kk v) Q) :
    St D c K l Dn n k ⊢ WP c (Prog.lift (.load (Memref.whole cc0_stg9_0) (Rect.unit (s := S64x1024) ![0, 0] S64x1024.size inb).toLoadRect hl) >>= kk) Q := by
  refine W_load (m := Memref.whole cc0_stg9_0) (r := Rect.unit (s := S64x1024) ![0, 0] S64x1024.size inb) fullShare Finset.univ (fun _ => True) (Finset.subset_univ _) ?_ (fun f _ => H _)
  rw [St_out]
  iintro ⟨⟨%f, Hf⟩, HR⟩
  iexists f
  isplitr; · ipureintro; trivial
  isplitl [Hf]; · iexact Hf
  iintro Hf
  isplitl [Hf]; · iexists f; iexact Hf
  iexact HR
theorem W_stOut {inb hx hm} {w : S64x1024.Idx → Elt F .f32} {kk : PUnit → Prog (TpuEff nD τ sig (Elt F) Λ₀ .tc) α}
    (H : iprop(wPts c cc0_stg9_0 w ∗ SGe D c K l Dn n k) ⊢ WP c (kk ⟨⟩) Q) :
    St D c K l Dn n k ⊢ WP c (Prog.lift (.store (Memref.whole cc0_stg9_0) (Rect.unit (s := S64x1024) ![0, 0] S64x1024.size inb) w Finset.univ hx hm) >>= kk) Q := by
  refine W_store (m := Memref.whole cc0_stg9_0) (r := Rect.unit (s := S64x1024) ![0, 0] S64x1024.size inb) Finset.univ (fun _ => True) (Finset.subset_univ _) ?_ H
  rw [St_out]
  iintro ⟨⟨%f, Hf⟩, HR⟩
  iexists f
  isplitr; · ipureintro; trivial
  isplitl [Hf]; · iexact Hf
  iintro Hf
  isplitl [Hf]
  · iapply (ent_of_eq (pointsTo_congr fun i hi => ?_))
    rotate_left
    · iexact Hf
    · have e := congrFun (whole64 (inb := inb) id) i
      refine Eq.trans ?_ (View.write_emb_of_mem (v := (Memref.whole cc0_stg9_0).access (Rect.unit (s := S64x1024) ![0, 0] S64x1024.size inb)) f w (Finset.mem_univ i)).symm.symm
      exact congrArg (((Memref.whole cc0_stg9_0).access (Rect.unit (s := S64x1024) ![0, 0] S64x1024.size inb)).write (Elt F) f w Finset.univ) e.symm
  iexact HR
end Own

section Payloads
variable (D : Vals F) (c : Dev nD)

/-- One step of a running sum: what a device cuts and sends on. -/
def stepSum (t : ℕ) (p : S32x1024.Idx → F .f32) (r : S32x1024.Idx → F .bf16) : S32x1024.Idx → F .bf16 := fun i =>
  if t = 0 then cut (p i) else cut (FloatOps.addf (p i) (wide (r i)))

theorem is_zero : ∀ t : Fin 16, Scalar.cmpi .eq (BitVec.ofNat 32 t.val) 0#32 = if t.val = 0 then 1#1 else 0#1 := by decide
theorem iv_eq (t : Fin 16) : Scf.iv 0#32 1#32 t.val = BitVec.ofNat 32 t.val := by
  revert t; decide

/-- A cast to the same shape changes nothing. -/
theorem castSelf {s : Shape} {α : Type} (v : s.Idx → α) (h : s.ShapeCasts s) : shapeCast s v h = v :=
  funext fun i => congrArg v (Shape.reshapeEquiv_self _ i)

theorem stepSum_sel (t : Fin 16) (p : S32x1024.Idx → F .f32) (r : S32x1024.Idx → F .bf16) :
    shapeCast S32x1024 (truncf .bf16 (Scalar.select (Scalar.cmpi .eq (BitVec.ofNat 32 t.val) 0#32) p (addf p (extf .f32 r bitsLt_bf16_f32))) bitsLt_bf16_f32)
      shapeCasts_S32x1024_S32x1024 = stepSum t.val p r := by
  rw [castSelf, is_zero]
  unfold stepSum
  by_cases h : t.val = 0
  · rw [if_pos h]; funext i; rw [if_pos h]; rfl
  · rw [if_neg h]; funext i; rw [if_neg h]; rfl

theorem sum_pay4 (t : Fin 16) (p : S32x1024.Idx → F .f32) (r : S32x1024.Idx → F .bf16) : k0_pay4 (BitVec.ofNat 32 t.val) p r = stepSum t.val p r := stepSum_sel t p r

theorem sum_pay5 (t : Fin 16) (p : S32x1024.Idx → F .f32) (r : S32x1024.Idx → F .bf16) : k0_pay5 (BitVec.ofNat 32 t.val) p r = stepSum t.val p r := stepSum_sel t p r

theorem sum_pay12 (t : Fin 16) (p : S32x1024.Idx → F .f32) (r : S32x1024.Idx → F .bf16) : k0_pay12 (BitVec.ofNat 32 t.val) p r = stepSum t.val p r := stepSum_sel t p r

theorem sum_pay13 (t : Fin 16) (p : S32x1024.Idx → F .f32) (r : S32x1024.Idx → F .bf16) : k0_pay13 (BitVec.ofNat 32 t.val) p r = stepSum t.val p r := stepSum_sel t p r

theorem sum_pay20 (t : Fin 16) (p : S32x1024.Idx → F .f32) (r : S32x1024.Idx → F .bf16) : k0_pay20 (BitVec.ofNat 32 t.val) p r = stepSum t.val p r := stepSum_sel t p r

theorem sum_pay21 (t : Fin 16) (p : S32x1024.Idx → F .f32) (r : S32x1024.Idx → F .bf16) : k0_pay21 (BitVec.ofNat 32 t.val) p r = stepSum t.val p r := stepSum_sel t p r

theorem sum_pay8 (t : Fin k0_t2_loop.trips) (p : S32x1024.Idx → F .f32) (r : S32x1024.Idx → F .bf16) : k0_pay8 0#32 1#32 t p r = stepSum t.val p r := by
  refine Eq.trans ?_ (stepSum_sel (show Fin 16 from t) p r)
  rw [← iv_eq (show Fin 16 from t)]
  rfl

theorem sum_pay16 (t : Fin k0_t4_loop.trips) (p : S32x1024.Idx → F .f32) (r : S32x1024.Idx → F .bf16) : k0_pay16 0#32 1#32 t p r = stepSum t.val p r := by
  refine Eq.trans ?_ (stepSum_sel (show Fin 16 from t) p r)
  rw [← iv_eq (show Fin 16 from t)]
  rfl

theorem sum_pay24 (t : Fin k0_t6_loop.trips) (p : S32x1024.Idx → F .f32) (r : S32x1024.Idx → F .bf16) : k0_pay24 0#32 1#32 t p r = stepSum t.val p r := by
  refine Eq.trans ?_ (stepSum_sel (show Fin 16 from t) p r)
  rw [← iv_eq (show Fin 16 from t)]
  rfl

theorem sum_left {l s h m : ℕ} (hm : m % 2 = 0) {r : S32x1024.Idx → F .bf16} (hr : s ≠ 0 → r = half (sumTo D l c m (s - 1)) h) :
    stepSum s (half (D.part (D.X l) l c (blk c (16 + s))) h) r = half (D.sumL (D.X l) l s c) h := by
  cases s with
  | zero => rfl
  | succ s =>
    rw [hr (by omega)]
    unfold sumTo
    rw [if_pos hm]
    rfl
theorem sum_right {l s h m : ℕ} (hm : m % 2 = 1) (hs : s < 15) {r : S32x1024.Idx → F .bf16} (hr : s ≠ 0 → r = half (sumTo D l c m (s - 1)) h) :
    stepSum s (half (D.part (D.X l) l c (blk c (if s = 0 then 15 else 47 - s))) h) r = half (D.sumR (D.X l) l s c) h := by
  cases s with
  | zero => rfl
  | succ s =>
    rw [hr (by omega), if_neg (by omega)]
    unfold sumTo
    rw [if_neg (by omega)]
    rfl

end Payloads

end Cert.KernelIdeal.Mlp
-- ==== Proof.Walk.lean ====
/-
# Small facts about the places of a trip

Which semaphore, device and row a trip names, and the loads of table words.
-/
module

public import proofs.«01_k».proof.Proof.Own

@[expose] public section

noncomputable section

namespace Cert.KernelIdeal.Mlp

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-! ## Semaphores -/

theorem sgR_fin : ∀ j : Fin 2, ((cc0_scratch6.slice (Rect.unit (s := S2) ![j.val] S1.size (by
    intro i; have := j.isLt; revert i; exact Fin.forall_fin_one.mpr (by show j.val + 1 ≤ 2; omega)))).squeeze S_ squeezes_S1_S_).sem = (⟨10 + j.val, by omega⟩ : Fin 142) := by decide +kernel
theorem sgR {m j : ℕ} {off : Fin 1 → ℕ} {inb} (h4 : m % 128 < 64 ∧ m % 2 = 0) (hoff : off = ![j]) (hj : j = m % 4 / 2) :
    ((cc0_scratch6.slice (Rect.unit (s := S2) off S1.size inb)).squeeze S_ squeezes_S1_S_).sem = sendSem m := by
  subst hoff
  have hl : j < 2 := by omega
  refine (sgR_fin ⟨j, hl⟩).trans (Fin.ext ?_)
  show 10 + j = sendNo m
  unfold sendNo
  obtain ⟨h0, h1⟩ := h4
  split_ifs <;> omega
theorem sgL_fin : ∀ j : Fin 2, ((cc0_scratch7.slice (Rect.unit (s := S2) ![j.val] S1.size (by
    intro i; have := j.isLt; revert i; exact Fin.forall_fin_one.mpr (by show j.val + 1 ≤ 2; omega)))).squeeze S_ squeezes_S1_S_).sem = (⟨12 + j.val, by omega⟩ : Fin 142) := by decide +kernel
theorem sgL {m j : ℕ} {off : Fin 1 → ℕ} {inb} (h4 : m % 128 < 64 ∧ m % 2 = 1) (hoff : off = ![j]) (hj : j = m % 4 / 2) :
    ((cc0_scratch7.slice (Rect.unit (s := S2) off S1.size inb)).squeeze S_ squeezes_S1_S_).sem = sendSem m := by
  subst hoff
  have hl : j < 2 := by omega
  refine (sgL_fin ⟨j, hl⟩).trans (Fin.ext ?_)
  show 12 + j = sendNo m
  unfold sendNo
  obtain ⟨h0, h1⟩ := h4
  split_ifs <;> omega
theorem srR_fin : ∀ j : Fin 2, ((cc0_scratch8.slice (Rect.unit (s := S2) ![j.val] S1.size (by
    intro i; have := j.isLt; revert i; exact Fin.forall_fin_one.mpr (by show j.val + 1 ≤ 2; omega)))).squeeze S_ squeezes_S1_S_).sem = (⟨14 + j.val, by omega⟩ : Fin 142) := by decide +kernel
theorem srR {m j : ℕ} {off : Fin 1 → ℕ} {inb} (h4 : 64 ≤ m % 128 ∧ m % 2 = 1) (hoff : off = ![j]) (hj : j = m % 4 / 2) :
    ((cc0_scratch8.slice (Rect.unit (s := S2) off S1.size inb)).squeeze S_ squeezes_S1_S_).sem = sendSem m := by
  subst hoff
  have hl : j < 2 := by omega
  refine (srR_fin ⟨j, hl⟩).trans (Fin.ext ?_)
  show 14 + j = sendNo m
  unfold sendNo
  obtain ⟨h0, h1⟩ := h4
  split_ifs <;> omega
theorem srL_fin : ∀ j : Fin 2, ((cc0_scratch9.slice (Rect.unit (s := S2) ![j.val] S1.size (by
    intro i; have := j.isLt; revert i; exact Fin.forall_fin_one.mpr (by show j.val + 1 ≤ 2; omega)))).squeeze S_ squeezes_S1_S_).sem = (⟨16 + j.val, by omega⟩ : Fin 142) := by decide +kernel
theorem srL {m j : ℕ} {off : Fin 1 → ℕ} {inb} (h4 : 64 ≤ m % 128 ∧ m % 2 = 0) (hoff : off = ![j]) (hj : j = m % 4 / 2) :
    ((cc0_scratch9.slice (Rect.unit (s := S2) off S1.size inb)).squeeze S_ squeezes_S1_S_).sem = sendSem m := by
  subst hoff
  have hl : j < 2 := by omega
  refine (srL_fin ⟨j, hl⟩).trans (Fin.ext ?_)
  show 16 + j = sendNo m
  unfold sendNo
  obtain ⟨h0, h1⟩ := h4
  split_ifs <;> omega
theorem rgR_fin : ∀ j : Fin 32, ((cc0_scratch10.slice (Rect.unit (s := S32) ![j.val] S1.size (by
    intro i; have := j.isLt; revert i; exact Fin.forall_fin_one.mpr (by show j.val + 1 ≤ 32; omega)))).squeeze S_ squeezes_S1_S_).sem = (⟨18 + j.val, by omega⟩ : Fin 142) := by decide +kernel
theorem rgR {m j : ℕ} {off : Fin 1 → ℕ} {inb} (h4 : m % 128 < 64 ∧ m % 2 = 0) (hoff : off = ![j]) (hj : j = m % 64 / 4 + m % 4 / 2 * 16) :
    ((cc0_scratch10.slice (Rect.unit (s := S32) off S1.size inb)).squeeze S_ squeezes_S1_S_).sem = recvSem m := by
  subst hoff
  have hl : j < 32 := by omega
  refine (rgR_fin ⟨j, hl⟩).trans (Fin.ext ?_)
  show 18 + j = recvNo m
  unfold recvNo
  obtain ⟨h0, h1⟩ := h4
  split_ifs <;> omega
theorem rgL_fin : ∀ j : Fin 30, ((cc0_scratch11.slice (Rect.unit (s := S30) ![j.val] S1.size (by
    intro i; have := j.isLt; revert i; exact Fin.forall_fin_one.mpr (by show j.val + 1 ≤ 30; omega)))).squeeze S_ squeezes_S1_S_).sem = (⟨50 + j.val, by omega⟩ : Fin 142) := by decide +kernel
theorem rgL {m j : ℕ} {off : Fin 1 → ℕ} {inb} (h4 : m % 128 < 64 ∧ m % 2 = 1 ∧ m % 64 / 4 < 15) (hoff : off = ![j]) (hj : j = m % 64 / 4 + m % 4 / 2 * 15) :
    ((cc0_scratch11.slice (Rect.unit (s := S30) off S1.size inb)).squeeze S_ squeezes_S1_S_).sem = recvSem m := by
  subst hoff
  have hl : j < 30 := by omega
  refine (rgL_fin ⟨j, hl⟩).trans (Fin.ext ?_)
  show 50 + j = recvNo m
  unfold recvNo
  obtain ⟨h0, h1, h2⟩ := h4
  split_ifs <;> omega
theorem rrR_fin : ∀ j : Fin 30, ((cc0_scratch12.slice (Rect.unit (s := S30) ![j.val] S1.size (by
    intro i; have := j.isLt; revert i; exact Fin.forall_fin_one.mpr (by show j.val + 1 ≤ 30; omega)))).squeeze S_ squeezes_S1_S_).sem = (⟨80 + j.val, by omega⟩ : Fin 142) := by decide +kernel
theorem rrR {m j : ℕ} {off : Fin 1 → ℕ} {inb} (h4 : 64 ≤ m % 128 ∧ m % 2 = 1 ∧ m % 64 / 4 < 15) (hoff : off = ![j]) (hj : j = m % 64 / 4 + m % 4 / 2 * 15) :
    ((cc0_scratch12.slice (Rect.unit (s := S30) off S1.size inb)).squeeze S_ squeezes_S1_S_).sem = recvSem m := by
  subst hoff
  have hl : j < 30 := by omega
  refine (rrR_fin ⟨j, hl⟩).trans (Fin.ext ?_)
  show 80 + j = recvNo m
  unfold recvNo
  obtain ⟨h0, h1, h2⟩ := h4
  split_ifs <;> omega
theorem rrL_fin : ∀ j : Fin 32, ((cc0_scratch13.slice (Rect.unit (s := S32) ![j.val] S1.size (by
    intro i; have := j.isLt; revert i; exact Fin.forall_fin_one.mpr (by show j.val + 1 ≤ 32; omega)))).squeeze S_ squeezes_S1_S_).sem = (⟨110 + j.val, by omega⟩ : Fin 142) := by decide +kernel
theorem rrL {m j : ℕ} {off : Fin 1 → ℕ} {inb} (h4 : 64 ≤ m % 128 ∧ m % 2 = 0) (hoff : off = ![j]) (hj : j = m % 64 / 4 + m % 4 / 2 * 16) :
    ((cc0_scratch13.slice (Rect.unit (s := S32) off S1.size inb)).squeeze S_ squeezes_S1_S_).sem = recvSem m := by
  subst hoff
  have hl : j < 32 := by omega
  refine (rrL_fin ⟨j, hl⟩).trans (Fin.ext ?_)
  show 110 + j = recvNo m
  unfold recvNo
  obtain ⟨h0, h1⟩ := h4
  split_ifs <;> omega

/-! ## Devices and rows -/

theorem dv_rt {c : Dev nD} {v m : ℕ} {h : v < nD} (hv : v = (rt c).val) (hm : m % 2 = m % 128 / 64) : (⟨v, h⟩ : Dev nD) = tgt c m :=
  Fin.ext (hv.trans (congrArg Fin.val (if_pos hm).symm))
theorem dv_lf {c : Dev nD} {v m : ℕ} {h : v < nD} (hv : v = (lf c).val) (hm : m % 2 ≠ m % 128 / 64) : (⟨v, h⟩ : Dev nD) = tgt c m :=
  Fin.ext (hv.trans (congrArg Fin.val (if_neg hm).symm))
theorem xSrc_e {c : Dev nD} {m j : ℕ} (h : m % 2 = 0) (hj : j % 32 = (32 - m % 64 / 4) % 32) : blk c j = xSrc c m := by
  rw [xSrc, if_pos h]; exact blk_congr c hj
theorem xSrc_o {c : Dev nD} {m j : ℕ} (h : m % 2 = 1) (hj : j % 32 = (m % 64 / 4) % 32) : blk c j = xSrc c m := by
  rw [xSrc, if_neg (by omega)]; exact blk_congr c hj
theorem xDst_e {c : Dev nD} {m j : ℕ} (h : m % 2 = 0) (hj : j % 32 = (31 - m % 64 / 4) % 32) : xDst c m = blk c j := by
  rw [xDst, if_pos h]; exact (blk_congr c hj).symm
theorem xDst_o {c : Dev nD} {m j : ℕ} (h : m % 2 = 1) (hj : j % 32 = (1 + m % 64 / 4) % 32) : xDst c m = blk c j := by
  rw [xDst, if_neg (by omega)]; exact (blk_congr c hj).symm
theorem row0 {x m : ℕ} {off : Fin 2 → ℕ} (h : off = ![x, 0]) (hm : m % 4 / 2 = 0) : off = ![x + 32 * (m % 4 / 2), 0] := by rw [hm]; exact h
theorem row1 {x m : ℕ} {off : Fin 2 → ℕ} (h : off = ![x + 32, 0]) (hm : m % 4 / 2 = 1) : off = ![x + 32 * (m % 4 / 2), 0] := by rw [hm]; exact h

/-- How far the waits have come at place `j` of trip `t`. -/
def kj (t j : ℕ) : ℕ := if t = 0 then 0 else 4 * (t - 1) + j
theorem kj_zero {t : ℕ} (h : t = 0) (i j : ℕ) : kj t i = kj t j := by unfold kj; rw [if_pos h, if_pos h]
theorem kj_pos {t : ℕ} (h : t ≠ 0) (j : ℕ) : kj t j = 4 * (t - 1) + j := if_neg h
theorem kj_all (t : ℕ) : ∀ j, kj t j = if t = 0 then 0 else 4 * (t - 1) + j := fun _ => rfl
theorem kj_le (t : ℕ) {j : ℕ} (h : j ≤ 4) : 4 * t + j ≤ kj t j + 4 ∧ kj t j ≤ 4 * t := by unfold kj; split_ifs <;> omega
theorem kj_four (t : ℕ) : kj t 4 = 4 * t := by unfold kj; split_ifs <;> omega
theorem kj_first (t : ℕ) : kj t 0 = 4 * (t - 1) := by unfold kj; split_ifs <;> omega

section Walk
variable {D : Vals F} {K : Names} {c : Dev nD} {l : ℕ} {Dn Dn' : ℕ → Prop} {n k nB kS n' k' : ℕ} {α : Type} {Q : α → sProp (MT nD τ sig ℕ (Elt F) ℕ UU ℕ)}
variable {P : sProp (MT nD τ sig ℕ (Elt F) ℕ UU ℕ)}

theorem W_blk (hP : P ⊢ iprop(tabs c ∗ (tabs c -∗ P))) {b : Dev nD} {off : Fin 2 → ℕ} (d : ℕ) (hoff : off = ![0, (pos c + d) % 32]) (hb : blk c d = b) {inb} {h1 hp}
    {k : Elt F .i32 → Prog (TpuEff nD τ sig (Elt F) Λ₀ .tc) α} (H : P ⊢ WP c (k (wd b.val)) Q) :
    P ⊢ WP c (smemLoad (nD := nD) (τ := τ) (Λ := Λ₀) (p := .tc) (Val := Elt F) (e := .i32) (Memref.whole cc0_stg0_0) (Rect.unit (s := S1x32) off S1x1.size inb) h1 hp >>= k) Q := by
  refine W_word hP ((pos c + d) % 32) (Nat.mod_lt _ (by decide)) hoff ?_
  rw [at_mod]
  subst hb
  exact H

theorem St_to (hn : n = n') (hk : k = k') : St D c K l Dn n k ⊢ St D c K l Dn n' k' := by subst hn hk; exact .rfl
theorem SG_mono (h : ∀ j, Dn' j → Dn j) : SG D c K l Dn n k nB kS ⊢ SG D c K l Dn' n k nB kS := by
  rw [SG_Pb, SG_Pb]
  refine sep_mono_left ?_
  unfold Pb
  iintro ⟨%f, %hf, Hf⟩
  iexists f
  isplitr
  · ipureintro; exact fun j hj => hf j (h j hj)
  iexact Hf
theorem St_mono (h : ∀ j, Dn' j → Dn j) (hn : n = n') (hk : k = k') : St D c K l Dn n k ⊢ St D c K l Dn' n' k' := by
  subst hn hk; exact SG_mono h
theorem W_pre {x : Prog (TpuEff nD τ sig (Elt F) Λ₀ .tc) α} {R : sProp 𝕄} (h : P ⊢ R) (H : R ⊢ WP c x Q) : P ⊢ WP c x Q := h.trans H

/-- A gathered block, under its place on the ring. -/
theorem SG_at {i j : ℕ} (hb : xDst c i = blk c j) (hi : i + 2 < 64) (hi4 : i % 4 < 2) (h1 : XHeld n k i) (h2 : XHeld n k (i + 2)) (hc : cnt k i = l + 1) (hc' : cnt k (i + 2) = l + 1) :
    SG D c K l Dn n k nB kS ⊢ iprop(blkPts c (blk c j) fullShare.right (rows2048 (D.X l)) ∗ (blkPts c (blk c j) fullShare.right (rows2048 (D.X l)) -∗ SG D c K l Dn n k nB kS)) := by
  rw [← hb]; exact SG_blk hi hi4 h1 h2 hc hc'

/-- The blocks whose products the gathering loop has left after `t` trips. -/
def DnA (t j : ℕ) : Prop := (8 ≤ j ∧ j < t) ∨ (32 - t < j ∧ j ≤ 24)
/-- The blocks whose products are there before trip `s` of the reducing loop. -/
def DnB (s j : ℕ) : Prop := (8 ≤ j ∧ j ≤ 24) ∨ (7 - s < j ∧ j < 8) ∨ (24 < j ∧ j < 25 + s ∧ j < 32) ∨ (7 < s ∧ j = 0)
end Walk

end Cert.KernelIdeal.Mlp
-- ==== Proof.Walk2.lean ====
/-
# The loads and sums of the reducing loop
-/
module

public import proofs.«01_k».proof.Proof.Walk

@[expose] public section

noncomputable section

namespace Cert.KernelIdeal.Mlp

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

section Sums
variable {D : Vals F} {K : Names} {c : Dev nD} {l : ℕ} {Dn : ℕ → Prop} {n k nB kS : ℕ} {α : Type} {Q : α → sProp (MT nD τ sig ℕ (Elt F) ℕ UU ℕ)}

theorem offb {m h : ℕ} (hm : m % 4 / 2 = h) : (![32 * h, 0] : Fin 2 → ℕ) = ![32 * (m % 4 / 2), 0] := by rw [hm]
theorem row_h0 {x : ℕ} {off : Fin 2 → ℕ} (h : off = ![x, 0]) : off = ![x + 32 * 0, 0] := h
theorem row_s0 {t m : ℕ} {off : Fin 2 → ℕ} (h : off = ![64 * t, 0]) (ht : m % 64 / 4 = t) (hm : m % 4 / 2 = 0) : off = ![64 * (m % 64 / 4) + 32 * (m % 4 / 2), 0] := by
  rw [ht, hm]; exact h
theorem row_s1 {t m : ℕ} {off : Fin 2 → ℕ} (h : off = ![64 * t + 32, 0]) (ht : m % 64 / 4 = t) (hm : m % 4 / 2 = 1) : off = ![64 * (m % 64 / 4) + 32 * (m % 4 / 2), 0] := by
  rw [ht, hm]; exact h

theorem sum_right' {l s h m : ℕ} (hm : m % 2 = 1) (hs : s < 15) {r : S32x1024.Idx → F .bf16} (hr : s ≠ 0 → r = half (sumTo D l c m (s - 1)) h) :
    stepSum s (half (D.part (D.X l) l c (blk c (15 - s))) h) r = half (D.sumR (D.X l) l s c) h := by
  rw [← sum_right D c hm hs hr, blk_congr c (show (15 - s) % 32 = (if s = 0 then 15 else 47 - s) % 32 by split_ifs <;> omega)]

/-- The load of what arrived on the step before; on the first step nothing is known of it. -/
theorem W_ldSumL {t j : ℕ} (hj : j = 0 ∨ j = 2) (ht : t < 16) (hS : t ≠ 0 → SHeld n k (64 + 4 * (t - 1) + j)) (hc : t ≠ 0 → cnt k (64 + 4 * (t - 1) + j) = l + 1)
    {off : Fin 2 → ℕ} {inb hl} {kk : (S32x1024.Idx → Elt F .bf16) → Prog (TpuEff nD τ sig (Elt F) Λ₀ .tc) α}
    (hoff : off = ![64 * (t - 1) + 32 * (j / 2), 0])
    (H : ∀ r, (t ≠ 0 → r = half (sumTo D l c (64 + 4 * (t - 1) + j) (t - 1)) (j / 2)) → SG D c K l Dn n k nB kS ⊢ WP c (kk r) Q) :
    SG D c K l Dn n k nB kS ⊢ WP c (Prog.lift (.load (Memref.whole cc0_scratch5) (Rect.unit (s := S1024x1024) off S32x1024.size inb).toLoadRect hl) >>= kk) Q := by
  by_cases h : t = 0
  · subst h
    exact W_ld0L (m := 64 + j) (by omega) (by omega) (by rw [hoff, show (64 + j) % 4 / 2 = j / 2 by omega]) (fun v => H v (fun h => absurd rfl h))
  · have hs := SG_slot (D := D) (c := c) (K := K) (Dn := Dn) (nB := nB) (kS := kS) (i := 64 + 4 * (t - 1) + j) (l := l) (by omega) (hS h) (hc h)
    unfold slotPts at hs
    rw [if_pos (by omega), show (64 + 4 * (t - 1) + j) % 64 / 4 = t - 1 by omega, show (64 + 4 * (t - 1) + j) % 4 / 2 = j / 2 by omega] at hs
    exact W_ldL32 (b := t - 1) (h := j / 2) (f := sumTo D l c (64 + 4 * (t - 1) + j)) (by omega) hs hoff (H _ (fun _ => rfl))

/-- The load of what arrived on the step before; on the first step nothing is known of it. -/
theorem W_ldSumR {t j : ℕ} (hj : j = 1 ∨ j = 3) (ht : t < 16) (hS : t ≠ 0 → SHeld n k (64 + 4 * (t - 1) + j)) (hc : t ≠ 0 → cnt k (64 + 4 * (t - 1) + j) = l + 1)
    {off : Fin 2 → ℕ} {inb hl} {kk : (S32x1024.Idx → Elt F .bf16) → Prog (TpuEff nD τ sig (Elt F) Λ₀ .tc) α}
    (hoff : off = ![64 * (t - 1) + 32 * (j / 2), 0])
    (H : ∀ r, (t ≠ 0 → r = half (sumTo D l c (64 + 4 * (t - 1) + j) (t - 1)) (j / 2)) → SG D c K l Dn n k nB kS ⊢ WP c (kk r) Q) :
    SG D c K l Dn n k nB kS ⊢ WP c (Prog.lift (.load (Memref.whole cc0_scratch4) (Rect.unit (s := S960x1024) off S32x1024.size inb).toLoadRect hl) >>= kk) Q := by
  by_cases h : t = 0
  · subst h
    exact W_ld0R (m := 64 + j) (by omega) (by omega) (by rw [hoff, show (64 + j) % 4 / 2 = j / 2 by omega]) (fun v => H v (fun h => absurd rfl h))
  · have hs := SG_slot (D := D) (c := c) (K := K) (Dn := Dn) (nB := nB) (kS := kS) (i := 64 + 4 * (t - 1) + j) (l := l) (by omega) (hS h) (hc h)
    unfold slotPts at hs
    rw [if_neg (by omega), show (64 + 4 * (t - 1) + j) % 64 / 4 = t - 1 by omega, show (64 + 4 * (t - 1) + j) % 4 / 2 = j / 2 by omega] at hs
    exact W_ldR32 (b := t - 1) (h := j / 2) (f := sumTo D l c (64 + 4 * (t - 1) + j)) (by omega) hs hoff (H _ (fun _ => rfl))

end Sums

end Cert.KernelIdeal.Mlp
-- ==== Proof.Walk3.lean ====
/-
# Between the loops

A counted loop as one step, and the three loads of a layer's last sum.
-/
module

public import proofs.«01_k».proof.Proof.Walk2

@[expose] public section

noncomputable section

namespace Cert.KernelIdeal.Mlp

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

section
variable {D : Vals F} {K : Names} {c : Dev nD} {l : ℕ} {Dn Dn' : ℕ → Prop} {n k nB kS n' k' : ℕ} {α : Type} {Q : α → sProp (MT nD τ sig ℕ (Elt F) ℕ UU ℕ)}
variable {P : sProp (MT nD τ sig ℕ (Elt F) ℕ UU ℕ)}

theorem W_loop {lp : Scf.Loop 32} {ok : lp.OK} {body : Fin lp.trips → Unit → Prog (TpuEff nD τ sig (Elt F) Λ₀ .tc) Unit}
    {kk : Unit → Prog (TpuEff nD τ sig (Elt F) Λ₀ .tc) α} {I : ℕ → sProp 𝕄} {N : ℕ} (hN : lp.trips = N)
    (hb : ∀ t : Fin lp.trips, I t.val ⊢ WP c (body t ⟨⟩) (fun _ => I (t.val + 1))) (H : I N ⊢ WP c (kk ⟨⟩) Q) :
    I 0 ⊢ WP c (Scf.Loop.for lp ok ⟨⟩ body >>= kk) Q := by
  subst hN
  iintro HI
  iapply (Scf.wp_for_bind frame (wpE (defs₀ (F := F)) 𝒱₀ (c : Thread nD τ) none) Set.univ lp.lb lp.ub lp.st ok ⟨⟩ body (fun t _ => I t) (fun t _ => hb t) (kk := kk) (Q := Q)) $$ HI
  iintro %a Ha
  iapply H
  iexact Ha

theorem W_ldP0 (hj : Dn 0) {off : Fin 2 → ℕ} {inb hl} {kk : (S64x1024.Idx → Elt F .f32) → Prog (TpuEff nD τ sig (Elt F) Λ₀ .tc) α}
    (hoff : off = ![64 * c.val, 0]) (H : St D c K l Dn n k ⊢ WP c (kk (D.part (D.X l) l c c)) Q) :
    St D c K l Dn n k ⊢ WP c (Prog.lift (.load (Memref.whole cc0_scratch1) (Rect.unit (s := S2048x1024) off S64x1024.size inb).toLoadRect hl) >>= kk) Q := by
  refine W_ldP hj SG_p (by rw [blk_zero]; exact hoff) ?_
  rw [blk_zero]
  exact H

/-- The last running sums that reached a device, before it adds them up. -/
theorem W_ldLast_r (hn : n = 128 * (l + 1)) {off : Fin 2 → ℕ} {inb hl} {kk : (S64x1024.Idx → Elt F .bf16) → Prog (TpuEff nD τ sig (Elt F) Λ₀ .tc) α}
    (hoff : off = ![896, 0]) (H : St D c K l Dn n n ⊢ WP c (kk (D.sumR (D.X l) l 14 (lf c))) Q) :
    St D c K l Dn n n ⊢ WP c (Prog.lift (.load (Memref.whole cc0_scratch4) (Rect.unit (s := S960x1024) off S64x1024.size inb).toLoadRect hl) >>= kk) Q := by
  have h := SG_slots (D := D) (c := c) (K := K) (l := l) (Dn := Dn) (n := n) (k := n) (nB := n) (kS := n) (i := 121) (by omega) (by omega) (by omega)
    ⟨by decide, by simp only [cnt]; omega⟩ ⟨by decide, by simp only [cnt]; omega⟩ (by simp only [cnt]; omega) (by simp only [cnt]; omega)
  have e : iprop(slotPts c 121 fullShare (sumTo D l c 121) ∗ slotPts c (121 + 2) fullShare (sumTo D l c (121 + 2))) = rPts c 14 (rows960 (sumTo D l c 121)) := by
    rw [rPts_eq]; rfl
  rw [e] at h
  exact W_ldR h hoff H

theorem W_ldLast_l (hn : n = 128 * (l + 1)) {off : Fin 2 → ℕ} {inb hl} {kk : (S64x1024.Idx → Elt F .bf16) → Prog (TpuEff nD τ sig (Elt F) Λ₀ .tc) α}
    (hoff : off = ![960, 0]) (H : St D c K l Dn n n ⊢ WP c (kk (D.sumL (D.X l) l 15 (rt c))) Q) :
    St D c K l Dn n n ⊢ WP c (Prog.lift (.load (Memref.whole cc0_scratch5) (Rect.unit (s := S1024x1024) off S64x1024.size inb).toLoadRect hl) >>= kk) Q := by
  have h := SG_slots (D := D) (c := c) (K := K) (l := l) (Dn := Dn) (n := n) (k := n) (nB := n) (kS := n) (i := 124) (by omega) (by omega) (by omega)
    ⟨by decide, by simp only [cnt]; omega⟩ ⟨by decide, by simp only [cnt]; omega⟩ (by simp only [cnt]; omega) (by simp only [cnt]; omega)
  have e : iprop(slotPts c 124 fullShare (sumTo D l c 124) ∗ slotPts c (124 + 2) fullShare (sumTo D l c (124 + 2))) = lPts c 15 (rows1024 (sumTo D l c 124)) := by
    rw [lPts_eq]; rfl
  rw [e] at h
  exact W_ldL h hoff H

theorem fin_pay32 : k0_pay32 (D.part (D.X l) l c c) (D.sumR (D.X l) l 14 (lf c)) (D.sumL (D.X l) l 15 (rt c)) = D.X (l + 1) c := by
  refine Eq.trans (castSelf _ _) ?_
  rfl
theorem fin_pay39 : k0_pay39 (D.part (D.X l) l c c) (D.sumR (D.X l) l 14 (lf c)) (D.sumL (D.X l) l 15 (rt c)) = D.X (l + 1) c := by
  refine Eq.trans (castSelf _ _) ?_
  rfl
theorem fin_pay1 : k0_pay1 (k0_pay45 (D.part (D.X l) l c c) (D.sumR (D.X l) l 14 (lf c))) (D.sumL (D.X l) l 15 (rt c)) = D.fin (D.X l) l c := by
  rfl
theorem first_pay26 (v : S64x1024.Idx → F .bf16) : k0_pay26 v = v := by
  refine Eq.trans (castSelf _ _) ?_
  first | rfl | exact castSelf _ _
end

end Cert.KernelIdeal.Mlp
-- ==== Proof.Words3.lean ====
/-
# The words outside the loops

What the kernel computes of its device's number and of its place on the ring before the first loop.
-/
module

public import proofs.«01_k».proof.Proof.Hold

@[expose] public section

noncomputable section

namespace Cert.KernelIdeal.Mlp

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

theorem k0_chk1_at : ∀ b : Fin 32, k0_chk1 (wd b.val) := by decide +kernel
theorem k0_chk2_at : ∀ b : Fin 32, k0_chk2 (wd b.val) := by decide +kernel
theorem k0_chk3_at : ∀ b : Fin 32, k0_chk3 (wd b.val) := by decide +kernel
theorem k0_dev1_at : ∀ b : Fin 32, k0_dev1 (wd b.val) = b.val := by decide +kernel
theorem k0_dev2_at : ∀ b : Fin 32, k0_dev2 (wd b.val) = b.val := by decide +kernel
theorem k0_off1_at : ∀ c : Dev nD, k0_off1 c = ![0, c.val] := by decide +kernel
theorem k0_off2_at : ∀ b : Fin 32, k0_off2 (wd b.val) = ![0, (b.val + 31) % 32] := by decide +kernel
theorem k0_off3_at : ∀ b : Fin 32, k0_off3 (wd b.val) = ![0, (b.val + 1) % 32] := by decide +kernel
theorem k0_off4_at : ∀ c : Dev nD, k0_off4 c = ![64 * c.val, 0] := by decide +kernel
theorem k0_off72_at : ∀ c : Dev nD, k0_off72 c = ![64 * c.val, 0] := by decide +kernel
theorem k0_off140_at : ∀ c : Dev nD, k0_off140 c = ![64 * c.val, 0] := by decide +kernel
theorem k0_off208_at : ∀ c : Dev nD, k0_off208 c = ![64 * c.val, 0] := by decide +kernel

end Cert.KernelIdeal.Mlp
-- ==== Proof.Head.lean ====
/-
# The barrier and the first layer's input

What a device holds when it enters the kernel. It gives its neighbours leave to write its gathering buffer by
signalling them, waits for theirs, and stores its own rows.
-/
module

public import proofs.«01_k».proof.Proof.Walk3
public import proofs.«01_k».proof.Proof.Words3

@[expose] public section

noncomputable section

namespace Cert.KernelIdeal.Mlp

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

section
variable {D : Vals F} {K : Names} {c : Dev nD} {l : ℕ} {α : Type} {Q : α → sProp (MT nD τ sig ℕ (Elt F) ℕ UU ℕ)}
variable {P : sProp (MT nD τ sig ℕ (Elt F) ℕ UU ℕ)}

/-! ## Before the first copy -/

theorem cnt_zero {i : ℕ} : cnt 0 i = 0 := by simp only [cnt]; omega
theorem XA_nil : XA D c 0 0 = iprop(emp) := by
  unfold XA
  rw [Finset.filter_false_of_mem (fun i _ h => by have h2 := h.1.2; rw [cnt_zero] at h2; omega), bigSep_empty]; rfl
theorem XB_nil : XB D c 0 0 = iprop(emp) := by
  unfold XB
  rw [Finset.filter_false_of_mem (fun i _ h => by have h2 := h.2; rw [cnt_zero] at h2; omega), bigSep_empty]; rfl
omit [FloatOps F] in
theorem FL_nil (n : ℕ) : FL (F := F) c n n = iprop(emp) := by
  unfold FL
  rw [Finset.filter_false_of_mem (fun i _ h => by omega), bigSep_empty]; rfl

theorem GR_first : iprop(barPay (F := F) c false ∗ barPay c true) = GR c 0 0 := by
  unfold barPay GR
  refine (bigSep_union (s := firstOps false) (t := firstOps true) (Φ := fun m => (leave m c : sProp 𝕄)) (Finset.disjoint_left.2 fun m h1 h2 => by
    have a := (Finset.mem_filter.1 h1).2.2; have b := (Finset.mem_filter.1 h2).2.2
    exact absurd (a.1 (b.2 rfl)) (by decide))).symm.trans ?_
  congr 1
  ext m
  simp only [firstOps, Finset.mem_union, Finset.mem_filter, Finset.mem_range, GHeld]
  constructor
  · rintro (⟨h1, h2, -⟩ | ⟨h1, h2, -⟩) <;> exact ⟨by omega, Nat.zero_le _, h2, .inl h1⟩
  · rintro ⟨h1, -, h2, h3⟩
    have h4 : m < 64 := h3.resolve_right (Nat.not_lt_zero _)
    by_cases h : m % 2 = 1
    · exact .inr ⟨h4, h2, by simp [h]⟩
    · exact .inl ⟨h4, h2, by simp [h]⟩

/-- The gathering buffer but for the own block, as leave to be given. -/
def give (c : Dev nD) (d : Bool) : sProp 𝕄 := bigSep (firstOps d) fun m => spare (F := F) c m
/-- That the arrivals at `c` are at their first round. -/
def fresh (c : Dev nD) : sProp 𝕄 := bigSep ((Finset.range 128).filter fun i => Valid i) fun i => reached (ER (F := F)) (recvC c i) 0
instance fresh_persistent (c : Dev nD) : Persistent (fresh (F := F) c) := by unfold fresh; infer_instance

theorem RP_fresh : RP (F := F) c 0 = iprop((bigSep ((Finset.range 128).filter fun i => Valid i) fun i => atPos ER (recvC c i) 0 ∅ 0) ∗ fresh c) := by
  unfold RP fresh
  have e := bigSep_sep ((Finset.range 128).filter fun i => Valid i) (fun i => (atPos ER (recvC c i) 0 ∅ 0 : sProp 𝕄)) (fun i => (reached (ER (F := F)) (recvC c i) 0 : sProp 𝕄))
  refine Eq.trans ?_ e
  exact bigSep_congr fun i _ => by rw [cnt_zero]; rfl

theorem give_pay (dst : Dev nD) (d : Bool) (h : ∀ m ∈ firstOps d, tgt dst m = c) : iprop(fresh (F := F) c ∗ give c d) ⊢ barPay dst d := by
  unfold give barPay
  refine bigSep_with_persistent (R := fresh (F := F) c) (Φ := fun m => spare (F := F) c m) (fun m hm => ?_)
  have hm' := Finset.mem_filter.1 hm
  have h64 := Finset.mem_range.1 hm'.1
  unfold leave
  rw [h m hm, show m / 128 = 0 by omega]
  iintro ⟨#Hf, Hs⟩
  isplitl [Hs]; · iexact Hs
  unfold fresh
  have e : iprop(bigSep ((Finset.range 128).filter fun i => Valid i) fun i => (reached (ER (F := F)) (recvC c i) 0 : sProp 𝕄)) ⊢ reached (ER (F := F)) (recvC c m) 0 := bigSep_elim (Finset.mem_filter.2 ⟨Finset.mem_range.2 (show m < 128 by omega), hm'.2.1⟩)
  iapply e
  iexact Hf

theorem tgt_first {m : ℕ} {d : Bool} (hm : m ∈ firstOps d) : tgt c m = if d = true then lf c else rt c := by
  have h := (Finset.mem_filter.1 hm)
  have h64 := Finset.mem_range.1 h.1
  unfold tgt
  cases d
  · have h2 : ¬m % 2 = 1 := fun hh => absurd (h.2.2.1 hh) (by decide)
    rw [if_pos (by omega), if_neg (by decide)]
  · have h2 : m % 2 = 1 := h.2.2.2 rfl
    rw [if_neg (by omega), if_pos rfl]

/-! ## The barrier -/

abbrev owedAll (c : Dev nD) : CellTallies nD τ sig ℕ := owed c 0 + tallyAt (bar (rt c)) 1 1 + tallyAt (bar (lf c)) 1 1

def barToks (c : Dev nD) : sProp 𝕄 :=
  iprop(dutyTok ER (bar (lf c)) 0 false ∗ dutyTok ER (bar (rt c)) 0 true ∗ reached (ER (F := F)) (bar (lf c)) 0 ∗ reached (ER (F := F)) (bar (rt c)) 0
    ∗ atPos (ER (F := F)) (bar c) 0 ∅ 0 ∗ cred (tallyAt (bar c) 1 2))

def Bars (D : Vals F) (K : Names) (c : Dev nD) : sProp 𝕄 :=
  iprop(Cx D K ∗ fresh (F := F) c ∗ (give c false ∗ give c true) ∗ barToks (F := F) c ∗ ∃ W, owes (c : Thread nD τ) (owedAll c) W)

theorem W_barrier {R : sProp 𝕄} {d1 d2 : Dev nD} {s : Sem sig} (h1 : d1 = lf c) (h2 : d2 = rt c) (hs : s = barrier0)
    {kk : PUnit → Prog (TpuEff nD τ sig (Elt F) Λ₀ .tc) α} (H : iprop((Ow (F := F) c 0 ∗ GR (F := F) c 0 0) ∗ semVal (bar c) 0 ∗ R) ⊢ WP c (kk ⟨⟩) Q) :
    iprop(Bars D K c ∗ R) ⊢ WP c (semSignalWord d1 s 1#32 >>= fun _ => semSignalWord d2 s 1#32 >>= fun _ => semWaitWord s 2#32 >>= kk) Q := by
  subst h1 h2 hs
  refine BIBase.Entails.trans ?_ (show _ ⊢ WP c (.op (.semSignal (lf c : Thread nD τ) barrier0 ((1 : ℕ) : ℤ)) fun _ => .op (.semSignal (rt c : Thread nD τ) barrier0 ((1 : ℕ) : ℤ)) fun _ => .op (.semWait barrier0 ((2 : ℕ) : ℤ)) kk) Q from .rfl)
  unfold Bars barToks
  iintro ⟨⟨#HC, #Hf, ⟨Hg1, Hg2⟩, ⟨Ht1, Ht2, #Hr1, #Hr2, Hat, Hcr⟩, ⟨%W, HO⟩⟩, HR⟩
  ihave #Hi1 := Cx_cell D K (mem_bar (lf c)) $$ HC
  ihave #Hi2 := Cx_cell D K (mem_bar (rt c)) $$ HC
  ihave #Hi := Cx_cell D K (mem_bar c) $$ HC
  ihave #HM := Cx_may D K c (.reg barrier0) (n := 0) (i := 1) (by omega) (by omega) $$ HC
  iapply (wp_signal 𝒱₀ ER (Rd D) (c : Thread nD τ) none (dst := (lf c : Thread nD τ)) (κ := K.cell (bar (lf c))) (d := false) (k' := 1)
      (by rw [duties_bar]; exact Finset.mem_univ _) (amount_bar D (lf c) 0 false) 1 (owed c 0 + tallyAt (bar (rt c)) 1 1) rfl) $$ [HO Ht1 Hg1]
  · isplitr; · iexact Hi1
    isplitl [HO]; · iexact HO
    isplitl [Ht1]; · iexact Ht1
    isplitl [Hg1]
    · rw [payload_bar]
      iapply (give_pay (lf c) false fun m hm => by rw [tgt_first hm, if_neg (by decide), rt_lf])
      isplitr; · iexact Hf
      iexact Hg1
    · iexact Hr1
  iintro HO
  iapply (wp_signal 𝒱₀ ER (Rd D) (c : Thread nD τ) none (dst := (rt c : Thread nD τ)) (κ := K.cell (bar (rt c))) (d := true) (k' := 1)
      (by rw [duties_bar]; exact Finset.mem_univ _) (amount_bar D (rt c) 0 true) 1 (owed c 0) rfl) $$ [HO Ht2 Hg2]
  · isplitr; · iexact Hi2
    isplitl [HO]; · iexact HO
    isplitl [Ht2]; · iexact Ht2
    isplitl [Hg2]
    · rw [payload_bar]
      iapply (give_pay (rt c) true fun m hm => by rw [tgt_first hm, if_pos rfl, lf_rt])
      isplitr; · iexact Hf
      iexact Hg2
    · iexact Hr2
  iintro HO
  iapply (wp_wait_rest_token 𝒱₀ ER (Rd D) (c : Thread nD τ) none (κ := K.cell (bar c)) (wpE_semWait_eq 𝒱₀ (c : Thread nD τ) none Set.univ) (Set.mem_univ _) 1
      (O := owed c 0) (R := 0) (m := 0) (T := ∅) (by rw [expect_bar])) $$ [Hcr HO Hat]
  · isplitr; · iexact Hi
    isplitl [Hcr]; · iexact Hcr
    isplitl [HO]; · iexact HO
    isplitr; · iexact HM
    iexact Hat
  iintro ⟨HO, Hat, -, Hpay⟩
  imod (Rounds.cell_close ER (Rd D) (Set.mem_univ (K.cell (bar c))) (fun h => h) (R := 0 + 1) (fun r hr => duties_bar_later D c r (by omega))) $$ [Hat] with Hz
  · isplitr; · iexact Hi
    iexact Hat
  iapply H
  isplitr [HR Hz]
  · isplitl [HO]; · unfold Ow; iexists _; iexact HO
    ihave Hpay := (ent_of_eq (rest_bar D c)) $$ Hpay
    iapply (ent_of_eq (GR_first (F := F) (c := c)))
    iexact Hpay
  isplitl [Hz]; · iexact Hz
  iexact HR

theorem W_frame {A : sProp 𝕄} {p : Prog (TpuEff nD τ sig (Elt F) Λ₀ .tc) α} (H : P ⊢ WP c p fun x => iprop(A -∗ Q x)) : iprop(A ∗ P) ⊢ WP c p Q := by
  refine (sep_mono_right H).trans ?_
  unfold WP
  refine (wp_frame_l _ _ _).trans (wp_mono _ _ _ fun x => ?_)
  iintro ⟨HA, H⟩
  iapply H; iexact HA

/-! ## The start -/

/-- What the barrier leaves alone. -/
def Sx (D : Vals F) (c : Dev nD) : sProp 𝕄 :=
  iprop(SS D c 0 0 ∗ SB (F := F) c 0 0 ∗ TK (F := F) c 0 ∗ IC (F := F) c 0 ∗ RP (F := F) c 0 ∗ SP (F := F) c 0 ∗ Pb D c 0 (fun _ => False) ∗ Tt (F := F) c
    ∗ ownAny (F := F) c)
def Start (D : Vals F) (K : Names) (c : Dev nD) : sProp 𝕄 := iprop(Bars D K c ∗ Sg D c ∗ Sx D c)

theorem Start_tabs : Start D K c ⊢ iprop(tabs c ∗ (tabs c -∗ Start D K c)) := by
  unfold Start Sg
  exact bor_r <| bor_l <| bor_l <| bor_refl

theorem SGo_first : iprop(Cx D K ∗ (Ow (F := F) c 0 ∗ GR (F := F) c 0 0) ∗ Sg D c ∗ Sx D c) ⊢ iprop(ownAny (F := F) c ∗ SGo D c K 0 (fun _ => False) 0 0) := by
  unfold SGo Sx
  rw [XA_nil, XB_nil, FL_nil]
  iintro ⟨HC, ⟨HO, HG⟩, Hs, H1, H2, H3, H4, H5, H6, H7, H8, Ho⟩
  isplitl [Ho]; · iexact Ho
  isplitl [HC]; · iexact HC
  isplitr; · iempintro
  isplitr; · iempintro
  isplitl [H1]; · iexact H1
  isplitl [H2]; · iexact H2
  isplitl [HG]; · iexact HG
  isplitl [H3]; · iexact H3
  isplitr; · iempintro
  isplitl [H4]; · iexact H4
  isplitl [H5]; · iexact H5
  isplitl [H6]; · iexact H6
  isplitl [HO]; · iexact HO
  isplitl [H7]; · iexact H7
  isplitl [H8]; · iexact H8
  iexact Hs

theorem SGo_arg {n k : ℕ} {Dn : ℕ → Prop} : iprop(ownAny (F := F) c ∗ SGo D c K l Dn n k) ⊢ iprop(wPts c cc0_stg2_0 (D.x c) ∗ (wPts c cc0_stg2_0 (D.x c) -∗ iprop(ownAny (F := F) c ∗ SGo D c K l Dn n k))) := by
  unfold SGo Sg
  exact bor_r <| bor_r <| bor_r <| bor_r <| bor_r <| bor_r <| bor_r <| bor_r <| bor_r <| bor_r <| bor_r <| bor_r <| bor_r <| bor_r <| bor_r <| bor_r <| bor_l <| bor_refl

theorem W_dev {kk : Dev nD → Prog (TpuEff nD τ sig (Elt F) Λ₀ .tc) α} (H : P ⊢ WP c (kk c) Q) : P ⊢ WP c (Prog.lift .deviceId >>= kk) Q := by
  show P ⊢ WP c (.op .deviceId kk) Q
  refine H.trans (ent_of_eq ?_)
  exact (wp_deviceId 𝒱₀ (c : Thread nD τ) none Set.univ (k := kk) (Q := Q)).symm

set_option maxHeartbeats 4000000 in
theorem run_part22 (D : Vals F) (K : Names) (c : Dev nD)
    {Q : (Σ' (d0 : Dev nD) (v2 : BitVec 32) (v4 : Elt F .i32) (k0_hw1 : k0_chk1 v4) (v9 : Elt F .i32) (k0_hw2 : k0_chk2 v9) (v14 : Elt F .i32) (k0_hw3 : k0_chk3 v14) (c0_i32_16 : BitVec 32), BitVec 32) → sProp 𝕄}
    (H : ∀ v2 h1 h2 h3, iprop(semVal (bar c) 0 ∗ St D c K 0 (fun _ => False) 0 0) ⊢ Q ⟨c, v2, wd (pos c), h1, wd (lf c).val, h2, wd (rt c).val, h3, 0#32, 16#32⟩) :
    Start D K c ⊢ WP c (k0_part22 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_stg8_0) (Memref.isWhole_whole _) (Memref.whole cc0_stg9_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 cc0_scratch13) Q := by
  rw [k0_part22_eq_skeleton]
  unfold k0_part22_skel
  refine W_dev ?_
  refine W_pos Start_tabs c (k0_off1_at c) ?_
  refine W_assume (k0_chk1_at ⟨pos c, pos_lt c⟩) ?_
  refine W_blk Start_tabs 31 (k0_off2_at ⟨pos c, pos_lt c⟩) rfl ?_
  refine W_assume (k0_chk2_at (blk c 31)) ?_
  refine W_blk Start_tabs 1 (k0_off3_at ⟨pos c, pos_lt c⟩) rfl ?_
  refine W_assume (k0_chk3_at (blk c 1)) ?_
  refine W_pre (R := iprop(Bars D K c ∗ (Cx D K ∗ Sg D c ∗ Sx D c))) ?_ ?_
  · unfold Start Bars
    iintro ⟨⟨#HC, H⟩, H2⟩
    isplitl [H]
    · isplitr; · iexact HC
      iexact H
    isplitr; · iexact HC
    iexact H2
  refine W_barrier (Fin.ext (k0_dev1_at (blk c 31))) (Fin.ext (k0_dev2_at (blk c 1))) rfl ?_
  refine W_pre (R := iprop(semVal (bar c) 0 ∗ (ownAny (F := F) c ∗ SGo D c K 0 (fun _ => False) 0 0))) ?_ ?_
  · refine BIBase.Entails.trans (ent_of_eq ?_) (sep_mono_right SGo_first)
    ac_rfl
  refine W_frame ?_
  refine W_ldArg SGo_arg ?_
  refine W_ldOwn (k0_off4_at c) (fun _ => ?_)
  refine W_stOwn (k0_off4_at c) (first_pay26 _) ?_
  refine W_pure (BI.wand_intro ?_)
  refine BIBase.Entails.trans (ent_of_eq ?_) (H _ _ _ _)
  ac_rfl
end

end Cert.KernelIdeal.Mlp
-- ==== Proof.Words.lean ====
/-
# What the words of the first layer say

Offsets, conditions, devices and side conditions as functions of the words read from the tables, decided over the ring.
-/
module

public import proofs.«01_k».proof.Proof.Hold

@[expose] public section

noncomputable section

namespace Cert.KernelIdeal.Mlp

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

theorem k0_off5_at : ∀ (b : Fin 32) (t : Fin k0_t1_loop.trips), k0_off5 (wd b.val) t = ![0, (b.val + (33 - t.val)) % 32] := by decide +kernel
theorem k0_off17_at : ∀ (b : Fin 32) (t : Fin k0_t1_loop.trips), k0_off17 (wd b.val) t = ![0, (b.val + (33 - t.val)) % 32] := by decide +kernel
theorem k0_off8_at : ∀ (b : Fin 32) (t : Fin k0_t1_loop.trips), k0_off8 (wd b.val) t = ![0, (b.val + (32 - t.val)) % 32] := by decide +kernel
theorem k0_off20_at : ∀ (b : Fin 32) (t : Fin k0_t1_loop.trips), k0_off20 (wd b.val) t = ![0, (b.val + (32 - t.val)) % 32] := by decide +kernel
theorem k0_off29_at : ∀ (b : Fin 32) (t : Fin k0_t1_loop.trips), k0_off29 (wd b.val) t = ![0, (b.val + (32 - t.val)) % 32] := by decide +kernel
theorem k0_off11_at : ∀ (b : Fin 32) (t : Fin k0_t1_loop.trips), k0_off11 (wd b.val) t = ![0, (b.val + (31 + t.val)) % 32] := by decide +kernel
theorem k0_off23_at : ∀ (b : Fin 32) (t : Fin k0_t1_loop.trips), k0_off23 (wd b.val) t = ![0, (b.val + (31 + t.val)) % 32] := by decide +kernel
theorem k0_off14_at : ∀ (b : Fin 32) (t : Fin k0_t1_loop.trips), k0_off14 (wd b.val) t = ![0, (b.val + (t.val)) % 32] := by decide +kernel
theorem k0_off26_at : ∀ (b : Fin 32) (t : Fin k0_t1_loop.trips), k0_off26 (wd b.val) t = ![0, (b.val + (t.val)) % 32] := by decide +kernel
theorem k0_off31_at : ∀ (b : Fin 32) (t : Fin k0_t1_loop.trips), k0_off31 (wd b.val) t = ![0, (b.val + (t.val)) % 32] := by decide +kernel
theorem k0_off41_at : ∀ (b : Fin 32) (t : Fin k0_t2_loop.trips), k0_off41 (wd b.val) t = ![0, (b.val + (16 + t.val)) % 32] := by decide +kernel
theorem k0_off55_at : ∀ (b : Fin 32) (t : Fin k0_t2_loop.trips), k0_off55 (wd b.val) t = ![0, (b.val + (16 + t.val)) % 32] := by decide +kernel
theorem k0_off48_at : ∀ (b : Fin 32) (t : Fin k0_t2_loop.trips), k0_off48 (wd b.val) t = ![0, (b.val + (47 - t.val)) % 32] := by decide +kernel
theorem k0_off62_at : ∀ (b : Fin 32) (t : Fin k0_t2_loop.trips), k0_off62 (wd b.val) t = ![0, (b.val + (47 - t.val)) % 32] := by decide +kernel
theorem k0_off67_at : ∀ (b : Fin 32) (t : Fin k0_t2_loop.trips), k0_off67 (wd b.val) t = ![0, (b.val + (39 - t.val)) % 32] := by decide +kernel
theorem k0_off69_at : ∀ (b : Fin 32) (t : Fin k0_t2_loop.trips), k0_off69 (wd b.val) t = ![0, (b.val + (25 + t.val)) % 32] := by decide +kernel
theorem k0_off33_at : ∀ b : Fin 32, k0_off33 (wd b.val) = ![0, (b.val + 17) % 32] := by decide +kernel
theorem k0_off35_at : ∀ b : Fin 32, k0_off35 (wd b.val) = ![0, (b.val + 17) % 32] := by decide +kernel
theorem k0_off37_at : ∀ b : Fin 32, k0_off37 (wd b.val) = ![0, (b.val + 16) % 32] := by decide +kernel
theorem k0_off6_at : ∀ b : Fin 32, k0_off6 (wd b.val) = ![64 * b.val, 0] := by decide +kernel
theorem k0_off10_at : ∀ b : Fin 32, k0_off10 (wd b.val) = ![64 * b.val, 0] := by decide +kernel
theorem k0_off12_at : ∀ b : Fin 32, k0_off12 (wd b.val) = ![64 * b.val, 0] := by decide +kernel
theorem k0_off16_at : ∀ b : Fin 32, k0_off16 (wd b.val) = ![64 * b.val, 0] := by decide +kernel
theorem k0_off30_at : ∀ b : Fin 32, k0_off30 (wd b.val) = ![64 * b.val, 0] := by decide +kernel
theorem k0_off32_at : ∀ b : Fin 32, k0_off32 (wd b.val) = ![64 * b.val, 0] := by decide +kernel
theorem k0_off34_at : ∀ b : Fin 32, k0_off34 (wd b.val) = ![64 * b.val, 0] := by decide +kernel
theorem k0_off38_at : ∀ b : Fin 32, k0_off38 (wd b.val) = ![64 * b.val, 0] := by decide +kernel
theorem k0_off42_at : ∀ b : Fin 32, k0_off42 (wd b.val) = ![64 * b.val, 0] := by decide +kernel
theorem k0_off49_at : ∀ b : Fin 32, k0_off49 (wd b.val) = ![64 * b.val, 0] := by decide +kernel
theorem k0_off68_at : ∀ b : Fin 32, k0_off68 (wd b.val) = ![64 * b.val, 0] := by decide +kernel
theorem k0_off70_at : ∀ b : Fin 32, k0_off70 (wd b.val) = ![64 * b.val, 0] := by decide +kernel
theorem k0_off18_at : ∀ b : Fin 32, k0_off18 (wd b.val) = ![64 * b.val + 32, 0] := by decide +kernel
theorem k0_off22_at : ∀ b : Fin 32, k0_off22 (wd b.val) = ![64 * b.val + 32, 0] := by decide +kernel
theorem k0_off24_at : ∀ b : Fin 32, k0_off24 (wd b.val) = ![64 * b.val + 32, 0] := by decide +kernel
theorem k0_off28_at : ∀ b : Fin 32, k0_off28 (wd b.val) = ![64 * b.val + 32, 0] := by decide +kernel
theorem k0_off36_at : ∀ b : Fin 32, k0_off36 (wd b.val) = ![64 * b.val + 32, 0] := by decide +kernel
theorem k0_off56_at : ∀ b : Fin 32, k0_off56 (wd b.val) = ![64 * b.val + 32, 0] := by decide +kernel
theorem k0_off63_at : ∀ b : Fin 32, k0_off63 (wd b.val) = ![64 * b.val + 32, 0] := by decide +kernel
theorem k0_off7_at : ∀ t : Fin k0_t1_loop.trips, t.val ≠ 0 → k0_off7 t = ![t.val - 1] := by decide +kernel
theorem k0_off9_at : ∀ t : Fin k0_t1_loop.trips, k0_off9 t = ![t.val] := by decide +kernel
theorem k0_off13_at : ∀ t : Fin k0_t1_loop.trips, t.val ≠ 0 → k0_off13 t = ![t.val - 1] := by decide +kernel
theorem k0_off15_at : ∀ t : Fin k0_t1_loop.trips, k0_off15 t = ![t.val] := by decide +kernel
theorem k0_off19_at : ∀ t : Fin k0_t1_loop.trips, t.val ≠ 0 → k0_off19 t = ![t.val + 15] := by decide +kernel
theorem k0_off21_at : ∀ t : Fin k0_t1_loop.trips, k0_off21 t = ![t.val + 16] := by decide +kernel
theorem k0_off25_at : ∀ t : Fin k0_t1_loop.trips, t.val ≠ 0 → k0_off25 t = ![t.val + 14] := by decide +kernel
theorem k0_off27_at : ∀ t : Fin k0_t1_loop.trips, k0_off27 t = ![t.val + 15] := by decide +kernel
theorem k0_off40_at : ∀ t : Fin k0_t2_loop.trips, t.val ≠ 0 → k0_off40 t = ![t.val - 1] := by decide +kernel
theorem k0_off44_at : ∀ t : Fin k0_t2_loop.trips, k0_off44 t = ![t.val] := by decide +kernel
theorem k0_off47_at : ∀ t : Fin k0_t2_loop.trips, t.val ≠ 0 → k0_off47 t = ![t.val - 1] := by decide +kernel
theorem k0_off51_at : ∀ t : Fin k0_t2_loop.trips, k0_off51 t = ![t.val] := by decide +kernel
theorem k0_off54_at : ∀ t : Fin k0_t2_loop.trips, t.val ≠ 0 → k0_off54 t = ![t.val + 15] := by decide +kernel
theorem k0_off58_at : ∀ t : Fin k0_t2_loop.trips, k0_off58 t = ![t.val + 16] := by decide +kernel
theorem k0_off61_at : ∀ t : Fin k0_t2_loop.trips, t.val ≠ 0 → k0_off61 t = ![t.val + 14] := by decide +kernel
theorem k0_off65_at : ∀ t : Fin k0_t2_loop.trips, k0_off65 t = ![t.val + 15] := by decide +kernel
theorem k0_off39_at : ∀ t : Fin k0_t2_loop.trips, t.val ≠ 0 → k0_off39 t = ![64 * (t.val - 1), 0] := by decide +kernel
theorem k0_off46_at : ∀ t : Fin k0_t2_loop.trips, t.val ≠ 0 → k0_off46 t = ![64 * (t.val - 1), 0] := by decide +kernel
theorem k0_off43_at : ∀ t : Fin k0_t2_loop.trips, k0_off43 t = ![64 * (t.val - 1), 0] := by decide +kernel
theorem k0_off50_at : ∀ t : Fin k0_t2_loop.trips, k0_off50 t = ![64 * (t.val - 1), 0] := by decide +kernel
theorem k0_off45_at : ∀ t : Fin k0_t2_loop.trips, k0_off45 t = ![64 * t.val, 0] := by decide +kernel
theorem k0_off52_at : ∀ t : Fin k0_t2_loop.trips, k0_off52 t = ![64 * t.val, 0] := by decide +kernel
theorem k0_off53_at : ∀ t : Fin k0_t2_loop.trips, t.val ≠ 0 → k0_off53 t = ![64 * (t.val - 1) + 32, 0] := by decide +kernel
theorem k0_off60_at : ∀ t : Fin k0_t2_loop.trips, t.val ≠ 0 → k0_off60 t = ![64 * (t.val - 1) + 32, 0] := by decide +kernel
theorem k0_off57_at : ∀ t : Fin k0_t2_loop.trips, k0_off57 t = ![64 * (t.val - 1) + 32, 0] := by decide +kernel
theorem k0_off64_at : ∀ t : Fin k0_t2_loop.trips, k0_off64 t = ![64 * (t.val - 1) + 32, 0] := by decide +kernel
theorem k0_off59_at : ∀ t : Fin k0_t2_loop.trips, k0_off59 t = ![64 * t.val + 32, 0] := by decide +kernel
theorem k0_off66_at : ∀ t : Fin k0_t2_loop.trips, k0_off66 t = ![64 * t.val + 32, 0] := by decide +kernel
theorem k0_cond1_at : ∀ t : Fin k0_t1_loop.trips, (k0_cond1 t = 1#1 ↔ t.val ≠ 0) := by decide +kernel
theorem k0_cond2_at : ∀ t : Fin k0_t1_loop.trips, (k0_cond2 t = 1#1 ↔ t.val ≠ 0) := by decide +kernel
theorem k0_cond4_at : ∀ t : Fin k0_t1_loop.trips, (k0_cond4 t = 1#1 ↔ t.val ≠ 0) := by decide +kernel
theorem k0_cond5_at : ∀ t : Fin k0_t1_loop.trips, (k0_cond5 t = 1#1 ↔ t.val ≠ 0) := by decide +kernel
theorem k0_cond8_at : ∀ t : Fin k0_t2_loop.trips, (k0_cond8 t = 1#1 ↔ t.val ≠ 0) := by decide +kernel
theorem k0_cond9_at : ∀ t : Fin k0_t2_loop.trips, (k0_cond9 t = 1#1 ↔ t.val ≠ 0) := by decide +kernel
theorem k0_cond11_at : ∀ t : Fin k0_t2_loop.trips, (k0_cond11 t = 1#1 ↔ t.val ≠ 0) := by decide +kernel
theorem k0_cond12_at : ∀ t : Fin k0_t2_loop.trips, (k0_cond12 t = 1#1 ↔ t.val ≠ 0) := by decide +kernel
theorem k0_cond3_at : ∀ t : Fin k0_t1_loop.trips, (k0_cond3 t = 1#1 ↔ t.val < 15) := by decide +kernel
theorem k0_cond6_at : ∀ t : Fin k0_t1_loop.trips, (k0_cond6 t = 1#1 ↔ t.val < 15) := by decide +kernel
theorem k0_cond10_at : ∀ t : Fin k0_t2_loop.trips, (k0_cond10 t = 1#1 ↔ t.val < 15) := by decide +kernel
theorem k0_cond13_at : ∀ t : Fin k0_t2_loop.trips, (k0_cond13 t = 1#1 ↔ t.val < 15) := by decide +kernel
theorem k0_cond7_at : ∀ t : Fin k0_t1_loop.trips, (k0_cond7 t = 1#1 ↔ 8 ≤ t.val) := by decide +kernel
theorem k0_cond14_at : ∀ t : Fin k0_t2_loop.trips, (k0_cond14 t = 1#1 ↔ t.val < 7) := by decide +kernel
theorem k0_cond15_at : ∀ t : Fin k0_t2_loop.trips, (k0_cond15 t = 1#1 ↔ t.val = 7) := by decide +kernel
theorem k0_chk4_at : ∀ (b : Fin 32) (t : Fin k0_t1_loop.trips), k0_chk4 t (wd b.val) := by decide +kernel
theorem k0_chk6_at : ∀ (b : Fin 32) (t : Fin k0_t1_loop.trips), k0_chk6 t (wd b.val) := by decide +kernel
theorem k0_chk7_at : ∀ (b : Fin 32) (t : Fin k0_t1_loop.trips), k0_chk7 t (wd b.val) := by decide +kernel
theorem k0_chk8_at : ∀ (b : Fin 32) (t : Fin k0_t1_loop.trips), k0_chk8 t (wd b.val) := by decide +kernel
theorem k0_chk10_at : ∀ (b : Fin 32) (t : Fin k0_t1_loop.trips), k0_chk10 t (wd b.val) := by decide +kernel
theorem k0_chk11_at : ∀ (b : Fin 32) (t : Fin k0_t1_loop.trips), k0_chk11 t (wd b.val) := by decide +kernel
theorem k0_chk12_at : ∀ (b : Fin 32) (t : Fin k0_t1_loop.trips), k0_chk12 t (wd b.val) := by decide +kernel
theorem k0_chk13_at : ∀ (b : Fin 32) (t : Fin k0_t1_loop.trips), k0_chk13 t (wd b.val) := by decide +kernel
theorem k0_chk18_at : ∀ (b : Fin 32) (t : Fin k0_t2_loop.trips), k0_chk18 t (wd b.val) := by decide +kernel
theorem k0_chk20_at : ∀ (b : Fin 32) (t : Fin k0_t2_loop.trips), k0_chk20 t (wd b.val) := by decide +kernel
theorem k0_chk21_at : ∀ (b : Fin 32) (t : Fin k0_t2_loop.trips), k0_chk21 t (wd b.val) := by decide +kernel
theorem k0_chk22_at : ∀ (b : Fin 32) (t : Fin k0_t2_loop.trips), k0_chk22 t (wd b.val) := by decide +kernel
theorem k0_chk5_at : ∀ b : Fin 32, k0_chk5 (wd b.val) := by decide +kernel
theorem k0_chk9_at : ∀ b : Fin 32, k0_chk9 (wd b.val) := by decide +kernel
theorem k0_chk14_at : ∀ b : Fin 32, k0_chk14 (wd b.val) := by decide +kernel
theorem k0_chk15_at : ∀ b : Fin 32, k0_chk15 (wd b.val) := by decide +kernel
theorem k0_chk16_at : ∀ b : Fin 32, k0_chk16 (wd b.val) := by decide +kernel
theorem k0_chk17_at : ∀ b : Fin 32, k0_chk17 (wd b.val) := by decide +kernel
theorem k0_chk19_at : ∀ b : Fin 32, k0_chk19 (wd b.val) := by decide +kernel
theorem k0_dev3_at : ∀ b : Fin 32, k0_dev3 (wd b.val) = b.val := by decide +kernel
theorem k0_dev4_at : ∀ b : Fin 32, k0_dev4 (wd b.val) = b.val := by decide +kernel
theorem k0_dev5_at : ∀ b : Fin 32, k0_dev5 (wd b.val) = b.val := by decide +kernel
theorem k0_dev6_at : ∀ b : Fin 32, k0_dev6 (wd b.val) = b.val := by decide +kernel
theorem k0_dev7_at : ∀ b : Fin 32, k0_dev7 (wd b.val) = b.val := by decide +kernel
theorem k0_dev8_at : ∀ b : Fin 32, k0_dev8 (wd b.val) = b.val := by decide +kernel
theorem k0_dev9_at : ∀ b : Fin 32, k0_dev9 (wd b.val) = b.val := by decide +kernel
theorem k0_dev10_at : ∀ b : Fin 32, k0_dev10 (wd b.val) = b.val := by decide +kernel

end Cert.KernelIdeal.Mlp
-- ==== Proof.Gather0.lean ====
/-
# A trip of the gathering loop of layer 1
-/
module

public import proofs.«01_k».proof.Proof.Walk
public import proofs.«01_k».proof.Proof.Words

@[expose] public section

noncomputable section

namespace Cert.KernelIdeal.Mlp

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

set_option maxHeartbeats 4000000 in
theorem gather_trip0 (D : Vals F) (K : Names) (c : Dev nD) (k0_hw1 : k0_chk1 (wd (pos c))) (k0_hw2 : k0_chk2 (wd (lf c).val)) (k0_hw3 : k0_chk3 (wd (rt c).val)) (c0 c1 : BitVec 32) (t : Fin k0_t1_loop.trips) :
    St D c K 0 (DnA t.val) (0 + 4 * t.val) (0 + 4 * (t.val - 1)) ⊢ WP c (k0_t1_body (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_stg8_0) (Memref.isWhole_whole _) (Memref.whole cc0_stg9_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 cc0_scratch13 (wd (pos c)) k0_hw1 (wd (lf c).val) k0_hw2 (wd (rt c).val) k0_hw3 c0 c1 t ⟨⟩)
      (fun _ => St D c K 0 (DnA (t.val + 1)) (0 + 4 * (t.val + 1)) (0 + 4 * t.val)) := by
  have ht : t.val < 16 := t.isLt
  refine W_pre (R := St D c K 0 (DnA t.val) (0 + 4 * t.val + 0) (0 + kj t.val 0)) (St_to rfl (by rw [kj_first])) ?_
  have hb0 := kj_le t.val (show 0 ≤ 4 by omega)
  have hb1 := kj_le t.val (show 1 ≤ 4 by omega)
  have hb2 := kj_le t.val (show 2 ≤ 4 by omega)
  have hb3 := kj_le t.val (show 3 ≤ 4 by omega)
  have hb4 := kj_le t.val (show 4 ≤ 4 by omega)
  refine W_bind ?_
  rw [k0_part2_eq_skeleton]
  unfold k0_part2_skel
  refine W_if (R := St D c K 0 (DnA t.val) (0 + 4 * t.val + 0) (0 + kj t.val 1)) ?_ (fun h hx => ?_) (fun h => ?_)
  rotate_left
  · have h0 := (k0_cond1_at t).mp h
    have hk := kj_pos h0 0
    have hk' := kj_pos h0 1
    have e : 0 + kj t.val 1 = 0 + kj t.val 0 + 1 := by omega
    rw [e] at hx
    clear hk'
    refine W_blk SG_tabs (33 - t.val) (k0_off5_at ⟨pos c, pos_lt c⟩ t) rfl ?_
    refine W_assume (k0_chk4_at (blk c (33 - t.val)) t) ?_
    refine W_waitSend (by simp only [Valid]; omega) (by omega) (by omega) (by omega) (by omega) (sgR ⟨by omega, by omega⟩ rfl (by omega)) rfl ?_
    refine W_recvAG (by omega) (by omega) (by simp only [Valid]; omega) (by omega) (by omega) (by omega) (by omega) (rgR ⟨by omega, by omega⟩ (k0_off7_at t h0) (by omega)) rfl ?_
    exact hx
  · have h0 : t.val = 0 := by
      by_cases h0 : t.val = 0
      · exact h0
      · exact absurd ((k0_cond1_at t).mpr h0) h
    exact St_to rfl (congrArg (0 + ·) (kj_zero h0 0 1))
  refine W_blk (b := xSrc c (0 + 4 * t.val + 0)) SG_tabs (32 - t.val) (k0_off8_at ⟨pos c, pos_lt c⟩ t) (xSrc_e (by omega) (by omega)) ?_
  refine W_assume (k0_chk5_at (xSrc c (0 + 4 * t.val + 0))) ?_
  refine W_issueAG (by simp only [Valid]; omega) (by omega) (by omega) (by omega) (by omega) (by omega) (dv_rt (k0_dev3_at (rt c)) (by omega)) (sgR ⟨by omega, by omega⟩ rfl (by omega)) (rgR ⟨by omega, by omega⟩ (k0_off9_at t) (by omega)) (row0 (k0_off10_at (xSrc c (0 + 4 * t.val + 0))) (by omega)) ?_
  refine W_if (R := St D c K 0 (DnA t.val) (0 + 4 * t.val + 1) (0 + kj t.val 2)) ?_ (fun h hx => ?_) (fun h => ?_)
  rotate_left
  · have h0 := (k0_cond2_at t).mp h
    have hk := kj_pos h0 1
    have hk' := kj_pos h0 2
    have e : 0 + kj t.val 2 = 0 + kj t.val 1 + 1 := by omega
    rw [e] at hx
    clear hk'
    refine W_blk SG_tabs (31 + t.val) (k0_off11_at ⟨pos c, pos_lt c⟩ t) rfl ?_
    refine W_assume (k0_chk6_at (blk c (31 + t.val)) t) ?_
    refine W_waitSend (by simp only [Valid]; omega) (by omega) (by omega) (by omega) (by omega) (sgL ⟨by omega, by omega⟩ rfl (by omega)) rfl ?_
    refine W_recvAG (by omega) (by omega) (by simp only [Valid]; omega) (by omega) (by omega) (by omega) (by omega) (rgL ⟨by omega, by omega, by omega⟩ (k0_off13_at t h0) (by omega)) rfl ?_
    exact hx
  · have h0 : t.val = 0 := by
      by_cases h0 : t.val = 0
      · exact h0
      · exact absurd ((k0_cond2_at t).mpr h0) h
    exact St_to rfl (congrArg (0 + ·) (kj_zero h0 1 2))
  refine W_if (R := St D c K 0 (DnA t.val) (0 + 4 * t.val + 2) (0 + kj t.val 2)) ?_ (fun h hx => ?_) (fun h => ?_)
  rotate_left
  · have h0 := (k0_cond3_at t).mp h
    refine W_blk (b := xSrc c (0 + 4 * t.val + 1)) SG_tabs (t.val) (k0_off14_at ⟨pos c, pos_lt c⟩ t) (xSrc_o (by omega) (by omega)) ?_
    refine W_assume (k0_chk7_at (xSrc c (0 + 4 * t.val + 1)) t) ?_
    refine W_issueAG (by simp only [Valid]; omega) (by omega) (by omega) (by omega) (by omega) (by omega) (dv_lf (k0_dev4_at (lf c)) (by omega)) (sgL ⟨by omega, by omega⟩ rfl (by omega)) (rgL ⟨by omega, by omega, by omega⟩ (k0_off15_at t) (by omega)) (row0 (k0_off16_at (xSrc c (0 + 4 * t.val + 1))) (by omega)) ?_
    exact hx
  · have h0 : t.val = 15 := by
      by_cases h0 : t.val < 15
      · exact absurd ((k0_cond3_at t).mpr h0) h
      · omega
    exact ent_of_eq (St_skip (by simp only [Valid]; omega) (by omega) (by omega) (by omega))
  refine W_if (R := St D c K 0 (DnA t.val) (0 + 4 * t.val + 2) (0 + kj t.val 3)) ?_ (fun h hx => ?_) (fun h => ?_)
  rotate_left
  · have h0 := (k0_cond4_at t).mp h
    have hk := kj_pos h0 2
    have hk' := kj_pos h0 3
    have e : 0 + kj t.val 3 = 0 + kj t.val 2 + 1 := by omega
    rw [e] at hx
    clear hk'
    refine W_blk SG_tabs (33 - t.val) (k0_off17_at ⟨pos c, pos_lt c⟩ t) rfl ?_
    refine W_assume (k0_chk8_at (blk c (33 - t.val)) t) ?_
    refine W_waitSend (by simp only [Valid]; omega) (by omega) (by omega) (by omega) (by omega) (sgR ⟨by omega, by omega⟩ rfl (by omega)) rfl ?_
    refine W_recvAG (by omega) (by omega) (by simp only [Valid]; omega) (by omega) (by omega) (by omega) (by omega) (rgR ⟨by omega, by omega⟩ (k0_off19_at t h0) (by omega)) rfl ?_
    exact hx
  · have h0 : t.val = 0 := by
      by_cases h0 : t.val = 0
      · exact h0
      · exact absurd ((k0_cond4_at t).mpr h0) h
    exact St_to rfl (congrArg (0 + ·) (kj_zero h0 2 3))
  refine W_pure ?_
  refine W_blk (b := xSrc c (0 + 4 * t.val + 2)) SG_tabs (32 - t.val) (k0_off20_at ⟨pos c, pos_lt c⟩ t) (xSrc_e (by omega) (by omega)) ?_
  refine W_assume (k0_chk9_at (xSrc c (0 + 4 * t.val + 2))) ?_
  refine W_issueAG (by simp only [Valid]; omega) (by omega) (by omega) (by omega) (by omega) (by omega) (dv_rt (k0_dev5_at (rt c)) (by omega)) (sgR ⟨by omega, by omega⟩ rfl (by omega)) (rgR ⟨by omega, by omega⟩ (k0_off21_at t) (by omega)) (row1 (k0_off22_at (xSrc c (0 + 4 * t.val + 2))) (by omega)) ?_
  refine W_if (R := St D c K 0 (DnA t.val) (0 + 4 * t.val + 3) (0 + kj t.val 4)) ?_ (fun h hx => ?_) (fun h => ?_)
  rotate_left
  · have h0 := (k0_cond5_at t).mp h
    have hk := kj_pos h0 3
    have hk' := kj_pos h0 4
    have e : 0 + kj t.val 4 = 0 + kj t.val 3 + 1 := by omega
    rw [e] at hx
    clear hk'
    refine W_blk SG_tabs (31 + t.val) (k0_off23_at ⟨pos c, pos_lt c⟩ t) rfl ?_
    refine W_assume (k0_chk10_at (blk c (31 + t.val)) t) ?_
    refine W_waitSend (by simp only [Valid]; omega) (by omega) (by omega) (by omega) (by omega) (sgL ⟨by omega, by omega⟩ rfl (by omega)) rfl ?_
    refine W_recvAG (by omega) (by omega) (by simp only [Valid]; omega) (by omega) (by omega) (by omega) (by omega) (rgL ⟨by omega, by omega, by omega⟩ (k0_off25_at t h0) (by omega)) rfl ?_
    exact hx
  · have h0 : t.val = 0 := by
      by_cases h0 : t.val = 0
      · exact h0
      · exact absurd ((k0_cond5_at t).mpr h0) h
    exact St_to rfl (congrArg (0 + ·) (kj_zero h0 3 4))
  refine W_if (R := St D c K 0 (DnA t.val) (0 + 4 * t.val + 4) (0 + kj t.val 4)) ?_ (fun h hx => ?_) (fun h => ?_)
  rotate_left
  · have h0 := (k0_cond6_at t).mp h
    refine W_blk (b := xSrc c (0 + 4 * t.val + 3)) SG_tabs (t.val) (k0_off26_at ⟨pos c, pos_lt c⟩ t) (xSrc_o (by omega) (by omega)) ?_
    refine W_assume (k0_chk11_at (xSrc c (0 + 4 * t.val + 3)) t) ?_
    refine W_issueAG (by simp only [Valid]; omega) (by omega) (by omega) (by omega) (by omega) (by omega) (dv_lf (k0_dev6_at (lf c)) (by omega)) (sgL ⟨by omega, by omega⟩ rfl (by omega)) (rgL ⟨by omega, by omega, by omega⟩ (k0_off27_at t) (by omega)) (row1 (k0_off28_at (xSrc c (0 + 4 * t.val + 3))) (by omega)) ?_
    exact hx
  · have h0 : t.val = 15 := by
      by_cases h0 : t.val < 15
      · exact absurd ((k0_cond6_at t).mpr h0) h
      · omega
    exact ent_of_eq (St_skip (by simp only [Valid]; omega) (by omega) (by omega) (by omega))
  have h4 := kj_four t.val
  refine W_if (R := St D c K 0 (DnA (t.val + 1)) (0 + 4 * (t.val + 1)) (0 + kj t.val 4)) ?_ (fun h hx => ?_) (fun h => ?_)
  rotate_left
  · have h0 := (k0_cond7_at t).mp h
    refine W_bind ?_
    rw [k0_part1_eq_skeleton]
    unfold k0_part1_skel
    refine W_blk SG_tabs (32 - t.val) (k0_off29_at ⟨pos c, pos_lt c⟩ t) rfl ?_
    refine W_assume (k0_chk12_at (blk c (32 - t.val)) t) ?_
    refine W_ldBlk (SG_at (j := 32 - t.val) (i := 4 * (t.val - 1)) (xDst_e (by omega) (by omega)) (by omega) (by omega) (by simp only [XHeld, Valid, cnt, gv]; omega) (by simp only [XHeld, Valid, cnt, gv]; omega) (by simp only [cnt]; omega) (by simp only [cnt]; omega)) (k0_off30_at (blk c (32 - t.val))) ?_
    refine W_ld_wi0 SG_wi0 ?_
    refine W_ld_wo0 SG_wo0 ?_
    refine W_ldPany SG_p (fun _ => ?_)
    refine W_stP (32 - t.val) (fun j => DnA t.val j ∨ j = 32 - t.val) (fun _ h => h) (k0_off30_at (blk c (32 - t.val))) rfl ?_
    refine W_blk SG_tabs t.val (k0_off31_at ⟨pos c, pos_lt c⟩ t) rfl ?_
    refine W_assume (k0_chk13_at (blk c t.val) t) ?_
    refine W_ldBlk (SG_at (j := t.val) (i := 4 * (t.val - 1) + 1) (xDst_o (by omega) (by omega)) (by omega) (by omega) (by simp only [XHeld, Valid, cnt, gv]; omega) (by simp only [XHeld, Valid, cnt, gv]; omega) (by simp only [cnt]; omega) (by simp only [cnt]; omega)) (k0_off32_at (blk c t.val)) ?_
    refine W_ld_wi0 SG_wi0 ?_
    refine W_pure ?_
    refine W_ld_wo0 SG_wo0 ?_
    refine W_ldPany SG_p (fun _ => ?_)
    refine W_stP t.val (DnA (t.val + 1)) (fun j hj => ?_) (k0_off32_at (blk c t.val)) rfl ?_
    · simp only [DnA] at hj ⊢; omega
    exact hx
  · have h0 : t.val < 8 := by
      by_cases h0 : 8 ≤ t.val
      · exact absurd ((k0_cond7_at t).mpr h0) h
      · omega
    refine St_mono (fun j hj => ?_) rfl rfl
    simp only [DnA] at hj ⊢; omega
  exact W_pure (St_to rfl (by rw [kj_four]))

end Cert.KernelIdeal.Mlp
-- ==== Proof.Reduce0.lean ====
/-
# A trip of the reducing loop of layer 1
-/
module

public import proofs.«01_k».proof.Proof.Walk2
public import proofs.«01_k».proof.Proof.Words

@[expose] public section

noncomputable section

namespace Cert.KernelIdeal.Mlp

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

theorem sum_pay29 (t : Fin k0_t2_loop.trips) (p : S32x1024.Idx → F .f32) (r : S32x1024.Idx → F .bf16) :
    k0_pay29 p (Scalar.cmpi .eq (Scf.iv 0#32 1#32 t.val) 0#32) (k0_pay9 p r) = stepSum t.val p r := by
  refine Eq.trans ?_ (stepSum_sel (show Fin 16 from t) p r)
  rw [← iv_eq (show Fin 16 from t)]
  rfl
theorem k0_off71_at : ∀ b : Dev nD, k0_off71 b = ![64 * b.val, 0] := by decide +kernel

set_option maxHeartbeats 8000000 in
theorem reduce_trip0 (D : Vals F) (K : Names) (c : Dev nD) (v2 : BitVec 32) (k0_hw1 : k0_chk1 (wd (pos c))) (k0_hw2 : k0_chk2 (wd (lf c).val)) (k0_hw3 : k0_chk3 (wd (rt c).val)) (v49 : Elt F .i32) (k0_hw15 : k0_chk15 v49) (t : Fin k0_t2_loop.trips) :
    St D c K 0 (DnB t.val) (64 + 4 * t.val) (64 + 4 * (t.val - 1)) ⊢ WP c (k0_t2_body (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_stg8_0) (Memref.isWhole_whole _) (Memref.whole cc0_stg9_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 cc0_scratch13 c v2 (wd (pos c)) k0_hw1 (wd (lf c).val) k0_hw2 (wd (rt c).val) k0_hw3 v49 k0_hw15 t ⟨⟩)
      (fun _ => St D c K 0 (DnB (t.val + 1)) (64 + 4 * (t.val + 1)) (64 + 4 * t.val)) := by
  have ht : t.val < 16 := t.isLt
  refine W_pre (R := St D c K 0 (DnB t.val) (64 + 4 * t.val + 0) (64 + kj t.val 0)) (St_to rfl (by rw [kj_first])) ?_
  have hb0 := kj_le t.val (show 0 ≤ 4 by omega)
  have hb1 := kj_le t.val (show 1 ≤ 4 by omega)
  have hb2 := kj_le t.val (show 2 ≤ 4 by omega)
  have hb3 := kj_le t.val (show 3 ≤ 4 by omega)
  have hb4 := kj_le t.val (show 4 ≤ 4 by omega)
  refine W_bind ?_
  rw [k0_part6_eq_skeleton]
  unfold k0_part6_skel
  refine W_if (R := St D c K 0 (DnB t.val) (64 + 4 * t.val + 0) (64 + kj t.val 1)) ?_ (fun h hx => ?_) (fun h => ?_)
  rotate_left
  · have h0 := (k0_cond8_at t).mp h
    have hk := kj_pos h0 0
    have hk' := kj_pos h0 1
    have e : 64 + kj t.val 1 = 64 + kj t.val 0 + 1 := by omega
    rw [e] at hx
    clear hk'
    refine W_waitSend (by simp only [Valid]; omega) (by omega) (by omega) (by omega) (by omega) (srL ⟨by omega, by omega⟩ rfl (by omega)) rfl ?_
    refine W_recvRS (by omega) (by simp only [Valid]; omega) (by omega) (by omega) (by omega) (by omega) (rrL ⟨by omega, by omega⟩ (k0_off40_at t h0) (by omega)) rfl ?_
    exact hx
  · have h0 : t.val = 0 := by
      by_cases h0 : t.val = 0
      · exact h0
      · exact absurd ((k0_cond8_at t).mpr h0) h
    exact St_to rfl (congrArg (64 + ·) (kj_zero h0 0 1))
  refine W_blk (b := blk c (16 + t.val)) SG_tabs (16 + t.val) (k0_off41_at ⟨pos c, pos_lt c⟩ t) rfl ?_
  refine W_assume (k0_chk17_at (blk c (16 + t.val))) ?_
  refine W_ldP32 (j := 16 + t.val) (h := 0) (by omega) (by simp only [DnB]; omega) SG_p (row_h0 (k0_off42_at (blk c (16 + t.val)))) ?_
  refine W_ldSumL (t := t.val) (j := 0) (by omega) ht (fun h0 => ?_) (fun h0 => ?_) (k0_off43_at t) (fun r hr => ?_)
  · have hk := kj_pos h0 1
    simp only [SHeld, Valid, cnt]; omega
  · have hk := kj_pos h0 1
    simp only [cnt]; omega
  refine W_ldBL (by omega) (by simp only [Valid]; omega) (by omega) (by omega) (by omega) (by omega) (offb (h := 0) (by omega)) (fun _ => ?_)
  refine W_stBL (by omega) (by simp only [Valid]; omega) (by omega) (by omega) (by omega) (by omega) (offb (h := 0) (by omega)) ?_ ?_
  · rw [show (64 + 4 * t.val + 0) / 128 = 0 by omega, show (64 + 4 * t.val + 0) % 64 / 4 = t.val by omega, show (64 + 4 * t.val + 0) % 4 / 2 = 0 by omega]
    refine (sum_pay8 t _ _).trans ?_
    exact sum_left D c (m := 64 + 4 * (t.val - 1) + 0) (by omega) hr
  refine W_pure ?_
  refine W_bind ?_
  rw [k0_part7_eq_skeleton]
  unfold k0_part7_skel
  refine W_issue_sl (by omega) (by simp only [Valid]; omega) (by omega) (by omega) (by omega) (by omega) (dv_lf (k0_dev7_at (lf c)) (by omega)) (srL ⟨by omega, by omega⟩ rfl (by omega)) (rrL ⟨by omega, by omega⟩ (k0_off44_at t) (by omega)) (offb (h := 0) (by omega)) (row_s0 (k0_off45_at t) (by omega) (by omega)) ?_
  refine W_if (R := St D c K 0 (DnB t.val) (64 + 4 * t.val + 1) (64 + kj t.val 2)) ?_ (fun h hx => ?_) (fun h => ?_)
  rotate_left
  · have h0 := (k0_cond9_at t).mp h
    have hk := kj_pos h0 1
    have hk' := kj_pos h0 2
    have e : 64 + kj t.val 2 = 64 + kj t.val 1 + 1 := by omega
    rw [e] at hx
    clear hk'
    refine W_waitSend (by simp only [Valid]; omega) (by omega) (by omega) (by omega) (by omega) (srR ⟨by omega, by omega⟩ rfl (by omega)) rfl ?_
    refine W_recvRS (by omega) (by simp only [Valid]; omega) (by omega) (by omega) (by omega) (by omega) (rrR ⟨by omega, by omega, by omega⟩ (k0_off47_at t h0) (by omega)) rfl ?_
    exact hx
  · have h0 : t.val = 0 := by
      by_cases h0 : t.val = 0
      · exact h0
      · exact absurd ((k0_cond9_at t).mpr h0) h
    exact St_to rfl (congrArg (64 + ·) (kj_zero h0 1 2))
  refine W_if (R := St D c K 0 (DnB t.val) (64 + 4 * t.val + 2) (64 + kj t.val 2)) ?_ (fun h hx => ?_) (fun h => ?_)
  rotate_left
  · have h0 := (k0_cond10_at t).mp h
    refine W_bind ?_
    rw [k0_part3_eq_skeleton]
    unfold k0_part3_skel
    refine W_blk (b := blk c (15 - t.val)) SG_tabs (47 - t.val) (k0_off48_at ⟨pos c, pos_lt c⟩ t) (blk_congr c (by omega)) ?_
    refine W_assume (k0_chk18_at (blk c (15 - t.val)) t) ?_
    refine W_ldP32 (j := 15 - t.val) (h := 0) (by omega) (by simp only [DnB]; omega) SG_p (row_h0 (k0_off49_at (blk c (15 - t.val)))) ?_
    refine W_ldSumR (t := t.val) (j := 1) (by omega) ht (fun h0 => ?_) (fun h0 => ?_) (k0_off50_at t) (fun r hr => ?_)
    · have hk := kj_pos h0 2
      simp only [SHeld, Valid, cnt]; omega
    · have hk := kj_pos h0 2
      simp only [cnt]; omega
    refine W_ldBR (by omega) (by simp only [Valid]; omega) (by omega) (by omega) (by omega) (by omega) (offb (h := 0) (by omega)) (fun _ => ?_)
    refine W_stBR (by omega) (by simp only [Valid]; omega) (by omega) (by omega) (by omega) (by omega) (offb (h := 0) (by omega)) ?_ ?_
    · rw [show (64 + 4 * t.val + 1) / 128 = 0 by omega, show (64 + 4 * t.val + 1) % 64 / 4 = t.val by omega, show (64 + 4 * t.val + 1) % 4 / 2 = 0 by omega]
      rw [iv_eq (show Fin 16 from t)]; refine (sum_pay4 (show Fin 16 from t) _ _).trans ?_
      exact sum_right' (m := 64 + 4 * (t.val - 1) + 1) (by omega) (by omega) hr
    refine W_pure ?_
    refine W_issue_sr (by omega) (by simp only [Valid]; omega) (by omega) (by omega) (by omega) (by omega) (dv_rt (k0_dev8_at (rt c)) (by omega)) (srR ⟨by omega, by omega⟩ rfl (by omega)) (rrR ⟨by omega, by omega, by omega⟩ (k0_off51_at t) (by omega)) (offb (h := 0) (by omega)) (row_s0 (k0_off52_at t) (by omega) (by omega)) ?_
    exact hx
  · have h0 : t.val = 15 := by
      by_cases h0 : t.val < 15
      · exact absurd ((k0_cond10_at t).mpr h0) h
      · omega
    exact ent_of_eq (St_skip (by simp only [Valid]; omega) (by omega) (by omega) (by omega))
  refine W_if (R := St D c K 0 (DnB t.val) (64 + 4 * t.val + 2) (64 + kj t.val 3)) ?_ (fun h hx => ?_) (fun h => ?_)
  rotate_left
  · have h0 := (k0_cond11_at t).mp h
    have hk := kj_pos h0 2
    have hk' := kj_pos h0 3
    have e : 64 + kj t.val 3 = 64 + kj t.val 2 + 1 := by omega
    rw [e] at hx
    clear hk'
    refine W_waitSend (by simp only [Valid]; omega) (by omega) (by omega) (by omega) (by omega) (srL ⟨by omega, by omega⟩ rfl (by omega)) rfl ?_
    refine W_recvRS (by omega) (by simp only [Valid]; omega) (by omega) (by omega) (by omega) (by omega) (rrL ⟨by omega, by omega⟩ (k0_off54_at t h0) (by omega)) rfl ?_
    exact hx
  · have h0 : t.val = 0 := by
      by_cases h0 : t.val = 0
      · exact h0
      · exact absurd ((k0_cond11_at t).mpr h0) h
    exact St_to rfl (congrArg (64 + ·) (kj_zero h0 2 3))
  refine W_blk (b := blk c (16 + t.val)) SG_tabs (16 + t.val) (k0_off55_at ⟨pos c, pos_lt c⟩ t) rfl ?_
  refine W_assume (k0_chk19_at (blk c (16 + t.val))) ?_
  refine W_ldP32 (j := 16 + t.val) (h := 1) (by omega) (by simp only [DnB]; omega) SG_p (k0_off56_at (blk c (16 + t.val))) ?_
  refine W_ldSumL (t := t.val) (j := 2) (by omega) ht (fun h0 => ?_) (fun h0 => ?_) (k0_off57_at t) (fun r hr => ?_)
  · have hk := kj_pos h0 3
    simp only [SHeld, Valid, cnt]; omega
  · have hk := kj_pos h0 3
    simp only [cnt]; omega
  refine W_pure ?_
  refine W_ldBL (by omega) (by simp only [Valid]; omega) (by omega) (by omega) (by omega) (by omega) (offb (h := 1) (by omega)) (fun _ => ?_)
  refine W_stBL (by omega) (by simp only [Valid]; omega) (by omega) (by omega) (by omega) (by omega) (offb (h := 1) (by omega)) ?_ ?_
  · rw [show (64 + 4 * t.val + 2) / 128 = 0 by omega, show (64 + 4 * t.val + 2) % 64 / 4 = t.val by omega, show (64 + 4 * t.val + 2) % 4 / 2 = 1 by omega]
    refine (sum_pay29 t _ _).trans ?_
    exact sum_left D c (m := 64 + 4 * (t.val - 1) + 2) (by omega) hr
  refine W_issue_sl (by omega) (by simp only [Valid]; omega) (by omega) (by omega) (by omega) (by omega) (dv_lf (k0_dev9_at (lf c)) (by omega)) (srL ⟨by omega, by omega⟩ rfl (by omega)) (rrL ⟨by omega, by omega⟩ (k0_off58_at t) (by omega)) (offb (h := 1) (by omega)) (row_s1 (k0_off59_at t) (by omega) (by omega)) ?_
  refine W_if (R := St D c K 0 (DnB t.val) (64 + 4 * t.val + 3) (64 + kj t.val 4)) ?_ (fun h hx => ?_) (fun h => ?_)
  rotate_left
  · have h0 := (k0_cond12_at t).mp h
    have hk := kj_pos h0 3
    have hk' := kj_pos h0 4
    have e : 64 + kj t.val 4 = 64 + kj t.val 3 + 1 := by omega
    rw [e] at hx
    clear hk'
    refine W_waitSend (by simp only [Valid]; omega) (by omega) (by omega) (by omega) (by omega) (srR ⟨by omega, by omega⟩ rfl (by omega)) rfl ?_
    refine W_recvRS (by omega) (by simp only [Valid]; omega) (by omega) (by omega) (by omega) (by omega) (rrR ⟨by omega, by omega, by omega⟩ (k0_off61_at t h0) (by omega)) rfl ?_
    exact hx
  · have h0 : t.val = 0 := by
      by_cases h0 : t.val = 0
      · exact h0
      · exact absurd ((k0_cond12_at t).mpr h0) h
    exact St_to rfl (congrArg (64 + ·) (kj_zero h0 3 4))
  refine W_if (R := St D c K 0 (DnB t.val) (64 + 4 * t.val + 4) (64 + kj t.val 4)) ?_ (fun h hx => ?_) (fun h => ?_)
  rotate_left
  · have h0 := (k0_cond13_at t).mp h
    refine W_bind ?_
    rw [k0_part4_eq_skeleton]
    unfold k0_part4_skel
    refine W_blk (b := blk c (15 - t.val)) SG_tabs (47 - t.val) (k0_off62_at ⟨pos c, pos_lt c⟩ t) (blk_congr c (by omega)) ?_
    refine W_assume (k0_chk20_at (blk c (15 - t.val)) t) ?_
    refine W_ldP32 (j := 15 - t.val) (h := 1) (by omega) (by simp only [DnB]; omega) SG_p (k0_off63_at (blk c (15 - t.val))) ?_
    refine W_ldSumR (t := t.val) (j := 3) (by omega) ht (fun h0 => ?_) (fun h0 => ?_) (k0_off64_at t) (fun r hr => ?_)
    · have hk := kj_pos h0 4
      simp only [SHeld, Valid, cnt]; omega
    · have hk := kj_pos h0 4
      simp only [cnt]; omega
    refine W_ldBR (by omega) (by simp only [Valid]; omega) (by omega) (by omega) (by omega) (by omega) (offb (h := 1) (by omega)) (fun _ => ?_)
    refine W_stBR (by omega) (by simp only [Valid]; omega) (by omega) (by omega) (by omega) (by omega) (offb (h := 1) (by omega)) ?_ ?_
    · rw [show (64 + 4 * t.val + 3) / 128 = 0 by omega, show (64 + 4 * t.val + 3) % 64 / 4 = t.val by omega, show (64 + 4 * t.val + 3) % 4 / 2 = 1 by omega]
      rw [iv_eq (show Fin 16 from t)]; refine (sum_pay5 (show Fin 16 from t) _ _).trans ?_
      exact sum_right' (m := 64 + 4 * (t.val - 1) + 3) (by omega) (by omega) hr
    refine W_pure ?_
    refine W_issue_sr (by omega) (by simp only [Valid]; omega) (by omega) (by omega) (by omega) (by omega) (dv_rt (k0_dev10_at (rt c)) (by omega)) (srR ⟨by omega, by omega⟩ rfl (by omega)) (rrR ⟨by omega, by omega, by omega⟩ (k0_off65_at t) (by omega)) (offb (h := 1) (by omega)) (row_s1 (k0_off66_at t) (by omega) (by omega)) ?_
    exact hx
  · have h0 : t.val = 15 := by
      by_cases h0 : t.val < 15
      · exact absurd ((k0_cond13_at t).mpr h0) h
      · omega
    exact ent_of_eq (St_skip (by simp only [Valid]; omega) (by omega) (by omega) (by omega))
  have h4 := kj_four t.val
  refine W_if (R := St D c K 0 (fun j => DnB t.val j ∨ (t.val < 7 ∧ (j = 7 - t.val ∨ j = 25 + t.val))) (64 + 4 * (t.val + 1)) (64 + kj t.val 4)) ?_ (fun h hx => ?_) (fun h => ?_)
  rotate_left
  · have h0 := (k0_cond14_at t).mp h
    refine W_bind ?_
    rw [k0_part5_eq_skeleton]
    unfold k0_part5_skel
    refine W_blk (b := blk c (7 - t.val)) SG_tabs (39 - t.val) (k0_off67_at ⟨pos c, pos_lt c⟩ t) (blk_congr c (by omega)) ?_
    refine W_assume (k0_chk21_at (blk c (7 - t.val)) t) ?_
    refine W_ldBlk (SG_at (j := 7 - t.val) (i := 4 * (6 - t.val) + 1) (xDst_o (by omega) (by omega)) (by omega) (by omega) (by simp only [XHeld, Valid, cnt, gv]; omega) (by simp only [XHeld, Valid, cnt, gv]; omega) (by simp only [cnt]; omega) (by simp only [cnt]; omega)) (k0_off68_at (blk c (7 - t.val))) ?_
    refine W_ld_wi0 SG_wi0 ?_
    refine W_ld_wo0 SG_wo0 ?_
    refine W_ldPany SG_p (fun _ => ?_)
    refine W_stP (7 - t.val) (fun j => DnB t.val j ∨ j = 7 - t.val) (fun _ h => h) (k0_off68_at (blk c (7 - t.val))) rfl ?_
    refine W_blk SG_tabs (25 + t.val) (k0_off69_at ⟨pos c, pos_lt c⟩ t) rfl ?_
    refine W_assume (k0_chk22_at (blk c (25 + t.val)) t) ?_
    refine W_ldBlk (SG_at (j := 25 + t.val) (i := 4 * (6 - t.val)) (xDst_e (by omega) (by omega)) (by omega) (by omega) (by simp only [XHeld, Valid, cnt, gv]; omega) (by simp only [XHeld, Valid, cnt, gv]; omega) (by simp only [cnt]; omega) (by simp only [cnt]; omega)) (k0_off70_at (blk c (25 + t.val))) ?_
    refine W_ld_wi0 SG_wi0 ?_
    refine W_pure ?_
    refine W_ld_wo0 SG_wo0 ?_
    refine W_ldPany SG_p (fun _ => ?_)
    refine W_stP (25 + t.val) (fun j => DnB t.val j ∨ (t.val < 7 ∧ (j = 7 - t.val ∨ j = 25 + t.val))) (fun j hj => ?_) (k0_off70_at (blk c (25 + t.val))) rfl ?_
    · simp only [DnB] at hj ⊢; omega
    exact hx
  · have h0 : ¬t.val < 7 := fun h0 => absurd ((k0_cond14_at t).mpr h0) h
    refine St_mono (fun j hj => ?_) rfl rfl
    simp only [DnB] at hj ⊢; omega
  refine W_if (R := St D c K 0 (DnB (t.val + 1)) (64 + 4 * (t.val + 1)) (64 + kj t.val 4)) ?_ (fun h hx => ?_) (fun h => ?_)
  rotate_left
  · have h0 := (k0_cond15_at t).mp h
    refine W_ldBlk SG_own (k0_off71_at c) ?_
    refine W_ld_wi0 SG_wi0 ?_
    refine W_ld_wo0 SG_wo0 ?_
    refine W_ldPany SG_p (fun _ => ?_)
    refine W_stP 0 (DnB (t.val + 1)) (fun j hj => ?_) (by rw [blk_zero]; exact k0_off71_at c) (by rw [blk_zero]; rfl) ?_
    · simp only [DnB] at hj ⊢; omega
    exact hx
  · have h0 : ¬t.val = 7 := fun h0 => absurd ((k0_cond15_at t).mpr h0) h
    refine St_mono (fun j hj => ?_) rfl rfl
    simp only [DnB] at hj ⊢; omega
  exact W_pure (St_to rfl (by rw [kj_four]))

end Cert.KernelIdeal.Mlp
-- ==== Proof.Layer0.lean ====
/-
# The first layer, loop by loop
-/
module

public import proofs.«01_k».proof.Proof.Walk3
public import proofs.«01_k».proof.Proof.Words3
public import proofs.«01_k».proof.Proof.Gather0
public import proofs.«01_k».proof.Proof.Reduce0

@[expose] public section

noncomputable section

namespace Cert.KernelIdeal.Mlp

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

set_option maxHeartbeats 4000000 in
theorem run_part23 (D : Vals F) (K : Names) (c : Dev nD) (k0_hw1 : k0_chk1 (wd (pos c))) (k0_hw2 : k0_chk2 (wd (lf c).val)) (k0_hw3 : k0_chk3 (wd (rt c).val)) (c0 c1 : BitVec 32)
    {Q : (Σ' (v49 : Elt F .i32), k0_chk15 v49) → sProp 𝕄} (H : ∀ h, St D c K 0 (DnA 16) 64 62 ⊢ Q ⟨wd (blk c 17).val, h⟩) :
    St D c K 0 (fun _ => False) 0 0 ⊢ WP c (k0_part23 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_stg8_0) (Memref.isWhole_whole _) (Memref.whole cc0_stg9_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 cc0_scratch13 (wd (pos c)) k0_hw1 (wd (lf c).val) k0_hw2 (wd (rt c).val) k0_hw3 c0 c1) Q := by
  rw [k0_part23_eq_skeleton]
  unfold k0_part23_skel
  refine W_pre (R := St D c K 0 (DnA 0) (0 + 4 * 0) (0 + 4 * (0 - 1))) (St_mono (fun j hj => by simp only [DnA] at hj; omega) rfl rfl) ?_
  refine W_loop (I := fun t => St D c K 0 (DnA t) (0 + 4 * t) (0 + 4 * (t - 1))) (N := 16) rfl (fun t => gather_trip0 D K c k0_hw1 k0_hw2 k0_hw3 c0 c1 t) ?_
  refine W_pre (St_to (n' := 64) (k' := 60) rfl rfl) ?_
  refine W_blk SG_tabs 17 (k0_off33_at ⟨pos c, pos_lt c⟩) rfl ?_
  refine W_assume (k0_chk14_at (blk c 17)) ?_
  refine W_waitSend (by decide) (by omega) (by omega) (by omega) (by omega) (sgR (m := 60) ⟨by omega, by omega⟩ rfl (by omega)) rfl ?_
  refine W_recvAG (by omega) (by omega) (by decide) (by omega) (by omega) (by omega) (by omega) (rgR (m := 60) ⟨by omega, by omega⟩ rfl (by omega)) rfl ?_
  refine W_pre (ent_of_eq (St_skip' (n := 64) (k := 61) (by decide) (by omega) (by omega) (by omega))) ?_
  refine W_blk SG_tabs 17 (k0_off35_at ⟨pos c, pos_lt c⟩) rfl ?_
  refine W_assume (k0_chk15_at (blk c 17)) ?_
  exact W_pure (H _)

set_option maxHeartbeats 4000000 in
theorem run_part24 (D : Vals F) (K : Names) (c : Dev nD) (v2 : BitVec 32) (k0_hw1 : k0_chk1 (wd (pos c))) (k0_hw2 : k0_chk2 (wd (lf c).val)) (k0_hw3 : k0_chk3 (wd (rt c).val)) (k0_hw15 : k0_chk15 (wd (blk c 17).val))
    {Q : PUnit → sProp 𝕄} (H : St D c K 0 (DnB 16) 128 124 ⊢ Q ⟨⟩) :
    St D c K 0 (DnA 16) 64 62 ⊢ WP c (k0_part24 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_stg8_0) (Memref.isWhole_whole _) (Memref.whole cc0_stg9_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 cc0_scratch13 c v2 (wd (pos c)) k0_hw1 (wd (lf c).val) k0_hw2 (wd (rt c).val) k0_hw3 (wd (blk c 17).val) k0_hw15) Q := by
  rw [k0_part24_eq_skeleton]
  unfold k0_part24_skel
  refine W_waitSend (by decide) (by omega) (by omega) (by omega) (by omega) (sgR (m := 62) ⟨by omega, by omega⟩ rfl (by omega)) rfl ?_
  refine W_recvAG (by omega) (by omega) (by decide) (by omega) (by omega) (by omega) (by omega) (rgR (m := 62) ⟨by omega, by omega⟩ rfl (by omega)) rfl ?_
  refine W_pre (ent_of_eq (St_skip' (n := 64) (k := 63) (by decide) (by omega) (by omega) (by omega))) ?_
  refine W_blk SG_tabs 16 (k0_off37_at ⟨pos c, pos_lt c⟩) rfl ?_
  refine W_assume (k0_chk16_at (blk c 16)) ?_
  refine W_ldBlk (SG_at (j := 16) (i := 60) (xDst_e (by omega) (by omega)) (by omega) (by omega) (by decide) (by decide) (by decide) (by decide)) (k0_off38_at (blk c 16)) ?_
  refine W_ld_wi0 SG_wi0 ?_
  refine W_ld_wo0 SG_wo0 ?_
  refine W_ldPany SG_p (fun _ => ?_)
  refine W_stP 16 (DnB 0) (fun j hj => ?_) (k0_off38_at (blk c 16)) rfl ?_
  · simp only [DnA, DnB] at hj ⊢; omega
  refine W_pre (R := St D c K 0 (DnB 0) (64 + 4 * 0) (64 + 4 * (0 - 1))) (St_to rfl rfl) ?_
  refine W_loop (I := fun t => St D c K 0 (DnB t) (64 + 4 * t) (64 + 4 * (t - 1))) (N := 16) rfl (fun t => reduce_trip0 D K c v2 k0_hw1 k0_hw2 k0_hw3 (wd (blk c 17).val) k0_hw15 t) ?_
  refine W_pre (St_to (n' := 128) (k' := 124) rfl rfl) ?_
  exact W_pure H

set_option maxHeartbeats 4000000 in
theorem run_part25 (D : Vals F) (K : Names) (c : Dev nD) (v2 v9 : BitVec 32)
    {Q : (Vec F S64x1024 .f32) → sProp 𝕄} (H : St D c K 0 (DnB 16) 128 128 ⊢ Q (D.part (D.X 0) 0 c c)) :
    St D c K 0 (DnB 16) 128 124 ⊢ WP c (k0_part25 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_stg8_0) (Memref.isWhole_whole _) (Memref.whole cc0_stg9_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 cc0_scratch13 c v2 v9) Q := by
  rw [k0_part25_eq_skeleton]
  unfold k0_part25_skel
  refine W_waitSend (by decide) (by omega) (by omega) (by omega) (by omega) (srL (m := 124) ⟨by omega, by omega⟩ rfl (by omega)) rfl ?_
  refine W_recvRS (by omega) (by decide) (by omega) (by omega) (by omega) (by omega) (rrL (m := 124) ⟨by omega, by omega⟩ rfl (by omega)) rfl ?_
  refine W_pre (ent_of_eq (St_skip' (n := 128) (k := 125) (by decide) (by omega) (by omega) (by omega))) ?_
  refine W_waitSend (by decide) (by omega) (by omega) (by omega) (by omega) (srL (m := 126) ⟨by omega, by omega⟩ rfl (by omega)) rfl ?_
  refine W_recvRS (by omega) (by decide) (by omega) (by omega) (by omega) (by omega) (rrL (m := 126) ⟨by omega, by omega⟩ rfl (by omega)) rfl ?_
  refine W_pre (ent_of_eq (St_skip' (n := 128) (k := 127) (by decide) (by omega) (by omega) (by omega))) ?_
  refine W_ldP0 (.inr (.inr (.inr ⟨by decide, rfl⟩))) (k0_off72_at c) ?_
  exact W_pure H

end Cert.KernelIdeal.Mlp
-- ==== Proof.Words1.lean ====
/-
# What the words of layer 2 say

The same facts as those of the first layer, of the text printed for this one.
-/
module

public import proofs.«01_k».proof.Proof.Hold

@[expose] public section

noncomputable section

namespace Cert.KernelIdeal.Mlp

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

theorem k0_off73_at : ∀ (b : Fin 32) (t : Fin k0_t3_loop.trips), k0_off73 (wd b.val) t = ![0, (b.val + (33 - t.val)) % 32] := by decide +kernel
theorem k0_off85_at : ∀ (b : Fin 32) (t : Fin k0_t3_loop.trips), k0_off85 (wd b.val) t = ![0, (b.val + (33 - t.val)) % 32] := by decide +kernel
theorem k0_off76_at : ∀ (b : Fin 32) (t : Fin k0_t3_loop.trips), k0_off76 (wd b.val) t = ![0, (b.val + (32 - t.val)) % 32] := by decide +kernel
theorem k0_off88_at : ∀ (b : Fin 32) (t : Fin k0_t3_loop.trips), k0_off88 (wd b.val) t = ![0, (b.val + (32 - t.val)) % 32] := by decide +kernel
theorem k0_off97_at : ∀ (b : Fin 32) (t : Fin k0_t3_loop.trips), k0_off97 (wd b.val) t = ![0, (b.val + (32 - t.val)) % 32] := by decide +kernel
theorem k0_off79_at : ∀ (b : Fin 32) (t : Fin k0_t3_loop.trips), k0_off79 (wd b.val) t = ![0, (b.val + (31 + t.val)) % 32] := by decide +kernel
theorem k0_off91_at : ∀ (b : Fin 32) (t : Fin k0_t3_loop.trips), k0_off91 (wd b.val) t = ![0, (b.val + (31 + t.val)) % 32] := by decide +kernel
theorem k0_off82_at : ∀ (b : Fin 32) (t : Fin k0_t3_loop.trips), k0_off82 (wd b.val) t = ![0, (b.val + (t.val)) % 32] := by decide +kernel
theorem k0_off94_at : ∀ (b : Fin 32) (t : Fin k0_t3_loop.trips), k0_off94 (wd b.val) t = ![0, (b.val + (t.val)) % 32] := by decide +kernel
theorem k0_off99_at : ∀ (b : Fin 32) (t : Fin k0_t3_loop.trips), k0_off99 (wd b.val) t = ![0, (b.val + (t.val)) % 32] := by decide +kernel
theorem k0_off109_at : ∀ (b : Fin 32) (t : Fin k0_t4_loop.trips), k0_off109 (wd b.val) t = ![0, (b.val + (16 + t.val)) % 32] := by decide +kernel
theorem k0_off123_at : ∀ (b : Fin 32) (t : Fin k0_t4_loop.trips), k0_off123 (wd b.val) t = ![0, (b.val + (16 + t.val)) % 32] := by decide +kernel
theorem k0_off116_at : ∀ (b : Fin 32) (t : Fin k0_t4_loop.trips), k0_off116 (wd b.val) t = ![0, (b.val + (47 - t.val)) % 32] := by decide +kernel
theorem k0_off130_at : ∀ (b : Fin 32) (t : Fin k0_t4_loop.trips), k0_off130 (wd b.val) t = ![0, (b.val + (47 - t.val)) % 32] := by decide +kernel
theorem k0_off135_at : ∀ (b : Fin 32) (t : Fin k0_t4_loop.trips), k0_off135 (wd b.val) t = ![0, (b.val + (39 - t.val)) % 32] := by decide +kernel
theorem k0_off137_at : ∀ (b : Fin 32) (t : Fin k0_t4_loop.trips), k0_off137 (wd b.val) t = ![0, (b.val + (25 + t.val)) % 32] := by decide +kernel
theorem k0_off101_at : ∀ b : Fin 32, k0_off101 (wd b.val) = ![0, (b.val + 17) % 32] := by decide +kernel
theorem k0_off103_at : ∀ b : Fin 32, k0_off103 (wd b.val) = ![0, (b.val + 17) % 32] := by decide +kernel
theorem k0_off105_at : ∀ b : Fin 32, k0_off105 (wd b.val) = ![0, (b.val + 16) % 32] := by decide +kernel
theorem k0_off74_at : ∀ b : Fin 32, k0_off74 (wd b.val) = ![64 * b.val, 0] := by decide +kernel
theorem k0_off78_at : ∀ b : Fin 32, k0_off78 (wd b.val) = ![64 * b.val, 0] := by decide +kernel
theorem k0_off80_at : ∀ b : Fin 32, k0_off80 (wd b.val) = ![64 * b.val, 0] := by decide +kernel
theorem k0_off84_at : ∀ b : Fin 32, k0_off84 (wd b.val) = ![64 * b.val, 0] := by decide +kernel
theorem k0_off98_at : ∀ b : Fin 32, k0_off98 (wd b.val) = ![64 * b.val, 0] := by decide +kernel
theorem k0_off100_at : ∀ b : Fin 32, k0_off100 (wd b.val) = ![64 * b.val, 0] := by decide +kernel
theorem k0_off102_at : ∀ b : Fin 32, k0_off102 (wd b.val) = ![64 * b.val, 0] := by decide +kernel
theorem k0_off106_at : ∀ b : Fin 32, k0_off106 (wd b.val) = ![64 * b.val, 0] := by decide +kernel
theorem k0_off110_at : ∀ b : Fin 32, k0_off110 (wd b.val) = ![64 * b.val, 0] := by decide +kernel
theorem k0_off117_at : ∀ b : Fin 32, k0_off117 (wd b.val) = ![64 * b.val, 0] := by decide +kernel
theorem k0_off136_at : ∀ b : Fin 32, k0_off136 (wd b.val) = ![64 * b.val, 0] := by decide +kernel
theorem k0_off138_at : ∀ b : Fin 32, k0_off138 (wd b.val) = ![64 * b.val, 0] := by decide +kernel
theorem k0_off86_at : ∀ b : Fin 32, k0_off86 (wd b.val) = ![64 * b.val + 32, 0] := by decide +kernel
theorem k0_off90_at : ∀ b : Fin 32, k0_off90 (wd b.val) = ![64 * b.val + 32, 0] := by decide +kernel
theorem k0_off92_at : ∀ b : Fin 32, k0_off92 (wd b.val) = ![64 * b.val + 32, 0] := by decide +kernel
theorem k0_off96_at : ∀ b : Fin 32, k0_off96 (wd b.val) = ![64 * b.val + 32, 0] := by decide +kernel
theorem k0_off104_at : ∀ b : Fin 32, k0_off104 (wd b.val) = ![64 * b.val + 32, 0] := by decide +kernel
theorem k0_off124_at : ∀ b : Fin 32, k0_off124 (wd b.val) = ![64 * b.val + 32, 0] := by decide +kernel
theorem k0_off131_at : ∀ b : Fin 32, k0_off131 (wd b.val) = ![64 * b.val + 32, 0] := by decide +kernel
theorem k0_off75_at : ∀ t : Fin k0_t3_loop.trips, t.val ≠ 0 → k0_off75 t = ![t.val - 1] := by decide +kernel
theorem k0_off77_at : ∀ t : Fin k0_t3_loop.trips, k0_off77 t = ![t.val] := by decide +kernel
theorem k0_off81_at : ∀ t : Fin k0_t3_loop.trips, t.val ≠ 0 → k0_off81 t = ![t.val - 1] := by decide +kernel
theorem k0_off83_at : ∀ t : Fin k0_t3_loop.trips, k0_off83 t = ![t.val] := by decide +kernel
theorem k0_off87_at : ∀ t : Fin k0_t3_loop.trips, t.val ≠ 0 → k0_off87 t = ![t.val + 15] := by decide +kernel
theorem k0_off89_at : ∀ t : Fin k0_t3_loop.trips, k0_off89 t = ![t.val + 16] := by decide +kernel
theorem k0_off93_at : ∀ t : Fin k0_t3_loop.trips, t.val ≠ 0 → k0_off93 t = ![t.val + 14] := by decide +kernel
theorem k0_off95_at : ∀ t : Fin k0_t3_loop.trips, k0_off95 t = ![t.val + 15] := by decide +kernel
theorem k0_off108_at : ∀ t : Fin k0_t4_loop.trips, t.val ≠ 0 → k0_off108 t = ![t.val - 1] := by decide +kernel
theorem k0_off112_at : ∀ t : Fin k0_t4_loop.trips, k0_off112 t = ![t.val] := by decide +kernel
theorem k0_off115_at : ∀ t : Fin k0_t4_loop.trips, t.val ≠ 0 → k0_off115 t = ![t.val - 1] := by decide +kernel
theorem k0_off119_at : ∀ t : Fin k0_t4_loop.trips, k0_off119 t = ![t.val] := by decide +kernel
theorem k0_off122_at : ∀ t : Fin k0_t4_loop.trips, t.val ≠ 0 → k0_off122 t = ![t.val + 15] := by decide +kernel
theorem k0_off126_at : ∀ t : Fin k0_t4_loop.trips, k0_off126 t = ![t.val + 16] := by decide +kernel
theorem k0_off129_at : ∀ t : Fin k0_t4_loop.trips, t.val ≠ 0 → k0_off129 t = ![t.val + 14] := by decide +kernel
theorem k0_off133_at : ∀ t : Fin k0_t4_loop.trips, k0_off133 t = ![t.val + 15] := by decide +kernel
theorem k0_off107_at : ∀ t : Fin k0_t4_loop.trips, t.val ≠ 0 → k0_off107 t = ![64 * (t.val - 1), 0] := by decide +kernel
theorem k0_off114_at : ∀ t : Fin k0_t4_loop.trips, t.val ≠ 0 → k0_off114 t = ![64 * (t.val - 1), 0] := by decide +kernel
theorem k0_off111_at : ∀ t : Fin k0_t4_loop.trips, k0_off111 t = ![64 * (t.val - 1), 0] := by decide +kernel
theorem k0_off118_at : ∀ t : Fin k0_t4_loop.trips, k0_off118 t = ![64 * (t.val - 1), 0] := by decide +kernel
theorem k0_off113_at : ∀ t : Fin k0_t4_loop.trips, k0_off113 t = ![64 * t.val, 0] := by decide +kernel
theorem k0_off120_at : ∀ t : Fin k0_t4_loop.trips, k0_off120 t = ![64 * t.val, 0] := by decide +kernel
theorem k0_off121_at : ∀ t : Fin k0_t4_loop.trips, t.val ≠ 0 → k0_off121 t = ![64 * (t.val - 1) + 32, 0] := by decide +kernel
theorem k0_off128_at : ∀ t : Fin k0_t4_loop.trips, t.val ≠ 0 → k0_off128 t = ![64 * (t.val - 1) + 32, 0] := by decide +kernel
theorem k0_off125_at : ∀ t : Fin k0_t4_loop.trips, k0_off125 t = ![64 * (t.val - 1) + 32, 0] := by decide +kernel
theorem k0_off132_at : ∀ t : Fin k0_t4_loop.trips, k0_off132 t = ![64 * (t.val - 1) + 32, 0] := by decide +kernel
theorem k0_off127_at : ∀ t : Fin k0_t4_loop.trips, k0_off127 t = ![64 * t.val + 32, 0] := by decide +kernel
theorem k0_off134_at : ∀ t : Fin k0_t4_loop.trips, k0_off134 t = ![64 * t.val + 32, 0] := by decide +kernel
theorem k0_cond16_at : ∀ t : Fin k0_t3_loop.trips, (k0_cond16 t = 1#1 ↔ t.val ≠ 0) := by decide +kernel
theorem k0_cond17_at : ∀ t : Fin k0_t3_loop.trips, (k0_cond17 t = 1#1 ↔ t.val ≠ 0) := by decide +kernel
theorem k0_cond19_at : ∀ t : Fin k0_t3_loop.trips, (k0_cond19 t = 1#1 ↔ t.val ≠ 0) := by decide +kernel
theorem k0_cond20_at : ∀ t : Fin k0_t3_loop.trips, (k0_cond20 t = 1#1 ↔ t.val ≠ 0) := by decide +kernel
theorem k0_cond23_at : ∀ t : Fin k0_t4_loop.trips, (k0_cond23 t = 1#1 ↔ t.val ≠ 0) := by decide +kernel
theorem k0_cond24_at : ∀ t : Fin k0_t4_loop.trips, (k0_cond24 t = 1#1 ↔ t.val ≠ 0) := by decide +kernel
theorem k0_cond26_at : ∀ t : Fin k0_t4_loop.trips, (k0_cond26 t = 1#1 ↔ t.val ≠ 0) := by decide +kernel
theorem k0_cond27_at : ∀ t : Fin k0_t4_loop.trips, (k0_cond27 t = 1#1 ↔ t.val ≠ 0) := by decide +kernel
theorem k0_cond18_at : ∀ t : Fin k0_t3_loop.trips, (k0_cond18 t = 1#1 ↔ t.val < 15) := by decide +kernel
theorem k0_cond21_at : ∀ t : Fin k0_t3_loop.trips, (k0_cond21 t = 1#1 ↔ t.val < 15) := by decide +kernel
theorem k0_cond25_at : ∀ t : Fin k0_t4_loop.trips, (k0_cond25 t = 1#1 ↔ t.val < 15) := by decide +kernel
theorem k0_cond28_at : ∀ t : Fin k0_t4_loop.trips, (k0_cond28 t = 1#1 ↔ t.val < 15) := by decide +kernel
theorem k0_cond22_at : ∀ t : Fin k0_t3_loop.trips, (k0_cond22 t = 1#1 ↔ 8 ≤ t.val) := by decide +kernel
theorem k0_cond29_at : ∀ t : Fin k0_t4_loop.trips, (k0_cond29 t = 1#1 ↔ t.val < 7) := by decide +kernel
theorem k0_cond30_at : ∀ t : Fin k0_t4_loop.trips, (k0_cond30 t = 1#1 ↔ t.val = 7) := by decide +kernel
theorem k0_chk23_at : ∀ (b : Fin 32) (t : Fin k0_t3_loop.trips), k0_chk23 t (wd b.val) := by decide +kernel
theorem k0_chk25_at : ∀ (b : Fin 32) (t : Fin k0_t3_loop.trips), k0_chk25 t (wd b.val) := by decide +kernel
theorem k0_chk26_at : ∀ (b : Fin 32) (t : Fin k0_t3_loop.trips), k0_chk26 t (wd b.val) := by decide +kernel
theorem k0_chk27_at : ∀ (b : Fin 32) (t : Fin k0_t3_loop.trips), k0_chk27 t (wd b.val) := by decide +kernel
theorem k0_chk29_at : ∀ (b : Fin 32) (t : Fin k0_t3_loop.trips), k0_chk29 t (wd b.val) := by decide +kernel
theorem k0_chk30_at : ∀ (b : Fin 32) (t : Fin k0_t3_loop.trips), k0_chk30 t (wd b.val) := by decide +kernel
theorem k0_chk31_at : ∀ (b : Fin 32) (t : Fin k0_t3_loop.trips), k0_chk31 t (wd b.val) := by decide +kernel
theorem k0_chk32_at : ∀ (b : Fin 32) (t : Fin k0_t3_loop.trips), k0_chk32 t (wd b.val) := by decide +kernel
theorem k0_chk37_at : ∀ (b : Fin 32) (t : Fin k0_t4_loop.trips), k0_chk37 t (wd b.val) := by decide +kernel
theorem k0_chk39_at : ∀ (b : Fin 32) (t : Fin k0_t4_loop.trips), k0_chk39 t (wd b.val) := by decide +kernel
theorem k0_chk40_at : ∀ (b : Fin 32) (t : Fin k0_t4_loop.trips), k0_chk40 t (wd b.val) := by decide +kernel
theorem k0_chk41_at : ∀ (b : Fin 32) (t : Fin k0_t4_loop.trips), k0_chk41 t (wd b.val) := by decide +kernel
theorem k0_chk24_at : ∀ b : Fin 32, k0_chk24 (wd b.val) := by decide +kernel
theorem k0_chk28_at : ∀ b : Fin 32, k0_chk28 (wd b.val) := by decide +kernel
theorem k0_chk33_at : ∀ b : Fin 32, k0_chk33 (wd b.val) := by decide +kernel
theorem k0_chk34_at : ∀ b : Fin 32, k0_chk34 (wd b.val) := by decide +kernel
theorem k0_chk35_at : ∀ b : Fin 32, k0_chk35 (wd b.val) := by decide +kernel
theorem k0_chk36_at : ∀ b : Fin 32, k0_chk36 (wd b.val) := by decide +kernel
theorem k0_chk38_at : ∀ b : Fin 32, k0_chk38 (wd b.val) := by decide +kernel
theorem k0_dev11_at : ∀ b : Fin 32, k0_dev11 (wd b.val) = b.val := by decide +kernel
theorem k0_dev12_at : ∀ b : Fin 32, k0_dev12 (wd b.val) = b.val := by decide +kernel
theorem k0_dev13_at : ∀ b : Fin 32, k0_dev13 (wd b.val) = b.val := by decide +kernel
theorem k0_dev14_at : ∀ b : Fin 32, k0_dev14 (wd b.val) = b.val := by decide +kernel
theorem k0_dev15_at : ∀ b : Fin 32, k0_dev15 (wd b.val) = b.val := by decide +kernel
theorem k0_dev16_at : ∀ b : Fin 32, k0_dev16 (wd b.val) = b.val := by decide +kernel
theorem k0_dev17_at : ∀ b : Fin 32, k0_dev17 (wd b.val) = b.val := by decide +kernel
theorem k0_dev18_at : ∀ b : Fin 32, k0_dev18 (wd b.val) = b.val := by decide +kernel

end Cert.KernelIdeal.Mlp
-- ==== Proof.Gather1.lean ====
/-
# A trip of the gathering loop of layer 2
-/
module

public import proofs.«01_k».proof.Proof.Walk
public import proofs.«01_k».proof.Proof.Words1

@[expose] public section

noncomputable section

namespace Cert.KernelIdeal.Mlp

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

set_option maxHeartbeats 4000000 in
theorem gather_trip1 (D : Vals F) (K : Names) (c : Dev nD) (v2 : BitVec 32) (k0_hw1 : k0_chk1 (wd (pos c))) (k0_hw2 : k0_chk2 (wd (lf c).val)) (k0_hw3 : k0_chk3 (wd (rt c).val)) (v106 : Vec F S64x1024 .f32) (t : Fin k0_t3_loop.trips) :
    St D c K 1 (DnA t.val) (128 + 4 * t.val) (128 + 4 * (t.val - 1)) ⊢ WP c (k0_t3_body (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_stg8_0) (Memref.isWhole_whole _) (Memref.whole cc0_stg9_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 cc0_scratch13 c v2 (wd (pos c)) k0_hw1 (wd (lf c).val) k0_hw2 (wd (rt c).val) k0_hw3 v106 t ⟨⟩)
      (fun _ => St D c K 1 (DnA (t.val + 1)) (128 + 4 * (t.val + 1)) (128 + 4 * t.val)) := by
  have ht : t.val < 16 := t.isLt
  refine W_pre (R := St D c K 1 (DnA t.val) (128 + 4 * t.val + 0) (128 + kj t.val 0)) (St_to rfl (by rw [kj_first])) ?_
  have hb0 := kj_le t.val (show 0 ≤ 4 by omega)
  have hb1 := kj_le t.val (show 1 ≤ 4 by omega)
  have hb2 := kj_le t.val (show 2 ≤ 4 by omega)
  have hb3 := kj_le t.val (show 3 ≤ 4 by omega)
  have hb4 := kj_le t.val (show 4 ≤ 4 by omega)
  refine W_bind ?_
  rw [k0_part9_eq_skeleton]
  unfold k0_part9_skel
  refine W_if (R := St D c K 1 (DnA t.val) (128 + 4 * t.val + 0) (128 + kj t.val 1)) ?_ (fun h hx => ?_) (fun h => ?_)
  rotate_left
  · have h0 := (k0_cond16_at t).mp h
    have hk := kj_pos h0 0
    have hk' := kj_pos h0 1
    have e : 128 + kj t.val 1 = 128 + kj t.val 0 + 1 := by omega
    rw [e] at hx
    clear hk'
    refine W_blk SG_tabs (33 - t.val) (k0_off73_at ⟨pos c, pos_lt c⟩ t) rfl ?_
    refine W_assume (k0_chk23_at (blk c (33 - t.val)) t) ?_
    refine W_waitSend (by simp only [Valid]; omega) (by omega) (by omega) (by omega) (by omega) (sgR ⟨by omega, by omega⟩ rfl (by omega)) rfl ?_
    refine W_recvAG (by omega) (by omega) (by simp only [Valid]; omega) (by omega) (by omega) (by omega) (by omega) (rgR ⟨by omega, by omega⟩ (k0_off75_at t h0) (by omega)) rfl ?_
    exact hx
  · have h0 : t.val = 0 := by
      by_cases h0 : t.val = 0
      · exact h0
      · exact absurd ((k0_cond16_at t).mpr h0) h
    exact St_to rfl (congrArg (128 + ·) (kj_zero h0 0 1))
  refine W_blk (b := xSrc c (128 + 4 * t.val + 0)) SG_tabs (32 - t.val) (k0_off76_at ⟨pos c, pos_lt c⟩ t) (xSrc_e (by omega) (by omega)) ?_
  refine W_assume (k0_chk24_at (xSrc c (128 + 4 * t.val + 0))) ?_
  refine W_issueAG (by simp only [Valid]; omega) (by omega) (by omega) (by omega) (by omega) (by omega) (dv_rt (k0_dev11_at (rt c)) (by omega)) (sgR ⟨by omega, by omega⟩ rfl (by omega)) (rgR ⟨by omega, by omega⟩ (k0_off77_at t) (by omega)) (row0 (k0_off78_at (xSrc c (128 + 4 * t.val + 0))) (by omega)) ?_
  refine W_if (R := St D c K 1 (DnA t.val) (128 + 4 * t.val + 1) (128 + kj t.val 2)) ?_ (fun h hx => ?_) (fun h => ?_)
  rotate_left
  · have h0 := (k0_cond17_at t).mp h
    have hk := kj_pos h0 1
    have hk' := kj_pos h0 2
    have e : 128 + kj t.val 2 = 128 + kj t.val 1 + 1 := by omega
    rw [e] at hx
    clear hk'
    refine W_blk SG_tabs (31 + t.val) (k0_off79_at ⟨pos c, pos_lt c⟩ t) rfl ?_
    refine W_assume (k0_chk25_at (blk c (31 + t.val)) t) ?_
    refine W_waitSend (by simp only [Valid]; omega) (by omega) (by omega) (by omega) (by omega) (sgL ⟨by omega, by omega⟩ rfl (by omega)) rfl ?_
    refine W_recvAG (by omega) (by omega) (by simp only [Valid]; omega) (by omega) (by omega) (by omega) (by omega) (rgL ⟨by omega, by omega, by omega⟩ (k0_off81_at t h0) (by omega)) rfl ?_
    exact hx
  · have h0 : t.val = 0 := by
      by_cases h0 : t.val = 0
      · exact h0
      · exact absurd ((k0_cond17_at t).mpr h0) h
    exact St_to rfl (congrArg (128 + ·) (kj_zero h0 1 2))
  refine W_if (R := St D c K 1 (DnA t.val) (128 + 4 * t.val + 2) (128 + kj t.val 2)) ?_ (fun h hx => ?_) (fun h => ?_)
  rotate_left
  · have h0 := (k0_cond18_at t).mp h
    refine W_blk (b := xSrc c (128 + 4 * t.val + 1)) SG_tabs (t.val) (k0_off82_at ⟨pos c, pos_lt c⟩ t) (xSrc_o (by omega) (by omega)) ?_
    refine W_assume (k0_chk26_at (xSrc c (128 + 4 * t.val + 1)) t) ?_
    refine W_issueAG (by simp only [Valid]; omega) (by omega) (by omega) (by omega) (by omega) (by omega) (dv_lf (k0_dev12_at (lf c)) (by omega)) (sgL ⟨by omega, by omega⟩ rfl (by omega)) (rgL ⟨by omega, by omega, by omega⟩ (k0_off83_at t) (by omega)) (row0 (k0_off84_at (xSrc c (128 + 4 * t.val + 1))) (by omega)) ?_
    exact hx
  · have h0 : t.val = 15 := by
      by_cases h0 : t.val < 15
      · exact absurd ((k0_cond18_at t).mpr h0) h
      · omega
    exact ent_of_eq (St_skip (by simp only [Valid]; omega) (by omega) (by omega) (by omega))
  refine W_if (R := St D c K 1 (DnA t.val) (128 + 4 * t.val + 2) (128 + kj t.val 3)) ?_ (fun h hx => ?_) (fun h => ?_)
  rotate_left
  · have h0 := (k0_cond19_at t).mp h
    have hk := kj_pos h0 2
    have hk' := kj_pos h0 3
    have e : 128 + kj t.val 3 = 128 + kj t.val 2 + 1 := by omega
    rw [e] at hx
    clear hk'
    refine W_blk SG_tabs (33 - t.val) (k0_off85_at ⟨pos c, pos_lt c⟩ t) rfl ?_
    refine W_assume (k0_chk27_at (blk c (33 - t.val)) t) ?_
    refine W_waitSend (by simp only [Valid]; omega) (by omega) (by omega) (by omega) (by omega) (sgR ⟨by omega, by omega⟩ rfl (by omega)) rfl ?_
    refine W_recvAG (by omega) (by omega) (by simp only [Valid]; omega) (by omega) (by omega) (by omega) (by omega) (rgR ⟨by omega, by omega⟩ (k0_off87_at t h0) (by omega)) rfl ?_
    exact hx
  · have h0 : t.val = 0 := by
      by_cases h0 : t.val = 0
      · exact h0
      · exact absurd ((k0_cond19_at t).mpr h0) h
    exact St_to rfl (congrArg (128 + ·) (kj_zero h0 2 3))
  refine W_pure ?_
  refine W_blk (b := xSrc c (128 + 4 * t.val + 2)) SG_tabs (32 - t.val) (k0_off88_at ⟨pos c, pos_lt c⟩ t) (xSrc_e (by omega) (by omega)) ?_
  refine W_assume (k0_chk28_at (xSrc c (128 + 4 * t.val + 2))) ?_
  refine W_issueAG (by simp only [Valid]; omega) (by omega) (by omega) (by omega) (by omega) (by omega) (dv_rt (k0_dev13_at (rt c)) (by omega)) (sgR ⟨by omega, by omega⟩ rfl (by omega)) (rgR ⟨by omega, by omega⟩ (k0_off89_at t) (by omega)) (row1 (k0_off90_at (xSrc c (128 + 4 * t.val + 2))) (by omega)) ?_
  refine W_if (R := St D c K 1 (DnA t.val) (128 + 4 * t.val + 3) (128 + kj t.val 4)) ?_ (fun h hx => ?_) (fun h => ?_)
  rotate_left
  · have h0 := (k0_cond20_at t).mp h
    have hk := kj_pos h0 3
    have hk' := kj_pos h0 4
    have e : 128 + kj t.val 4 = 128 + kj t.val 3 + 1 := by omega
    rw [e] at hx
    clear hk'
    refine W_blk SG_tabs (31 + t.val) (k0_off91_at ⟨pos c, pos_lt c⟩ t) rfl ?_
    refine W_assume (k0_chk29_at (blk c (31 + t.val)) t) ?_
    refine W_waitSend (by simp only [Valid]; omega) (by omega) (by omega) (by omega) (by omega) (sgL ⟨by omega, by omega⟩ rfl (by omega)) rfl ?_
    refine W_recvAG (by omega) (by omega) (by simp only [Valid]; omega) (by omega) (by omega) (by omega) (by omega) (rgL ⟨by omega, by omega, by omega⟩ (k0_off93_at t h0) (by omega)) rfl ?_
    exact hx
  · have h0 : t.val = 0 := by
      by_cases h0 : t.val = 0
      · exact h0
      · exact absurd ((k0_cond20_at t).mpr h0) h
    exact St_to rfl (congrArg (128 + ·) (kj_zero h0 3 4))
  refine W_if (R := St D c K 1 (DnA t.val) (128 + 4 * t.val + 4) (128 + kj t.val 4)) ?_ (fun h hx => ?_) (fun h => ?_)
  rotate_left
  · have h0 := (k0_cond21_at t).mp h
    refine W_blk (b := xSrc c (128 + 4 * t.val + 3)) SG_tabs (t.val) (k0_off94_at ⟨pos c, pos_lt c⟩ t) (xSrc_o (by omega) (by omega)) ?_
    refine W_assume (k0_chk30_at (xSrc c (128 + 4 * t.val + 3)) t) ?_
    refine W_issueAG (by simp only [Valid]; omega) (by omega) (by omega) (by omega) (by omega) (by omega) (dv_lf (k0_dev14_at (lf c)) (by omega)) (sgL ⟨by omega, by omega⟩ rfl (by omega)) (rgL ⟨by omega, by omega, by omega⟩ (k0_off95_at t) (by omega)) (row1 (k0_off96_at (xSrc c (128 + 4 * t.val + 3))) (by omega)) ?_
    exact hx
  · have h0 : t.val = 15 := by
      by_cases h0 : t.val < 15
      · exact absurd ((k0_cond21_at t).mpr h0) h
      · omega
    exact ent_of_eq (St_skip (by simp only [Valid]; omega) (by omega) (by omega) (by omega))
  have h4 := kj_four t.val
  refine W_if (R := St D c K 1 (DnA (t.val + 1)) (128 + 4 * (t.val + 1)) (128 + kj t.val 4)) ?_ (fun h hx => ?_) (fun h => ?_)
  rotate_left
  · have h0 := (k0_cond22_at t).mp h
    refine W_bind ?_
    rw [k0_part8_eq_skeleton]
    unfold k0_part8_skel
    refine W_blk SG_tabs (32 - t.val) (k0_off97_at ⟨pos c, pos_lt c⟩ t) rfl ?_
    refine W_assume (k0_chk31_at (blk c (32 - t.val)) t) ?_
    refine W_ldBlk (SG_at (j := 32 - t.val) (i := 4 * (t.val - 1)) (xDst_e (by omega) (by omega)) (by omega) (by omega) (by simp only [XHeld, Valid, cnt, gv]; omega) (by simp only [XHeld, Valid, cnt, gv]; omega) (by simp only [cnt]; omega) (by simp only [cnt]; omega)) (k0_off98_at (blk c (32 - t.val))) ?_
    refine W_ld_wi1 SG_wi1 ?_
    refine W_ld_wo1 SG_wo1 ?_
    refine W_ldPany SG_p (fun _ => ?_)
    refine W_stP (32 - t.val) (fun j => DnA t.val j ∨ j = 32 - t.val) (fun _ h => h) (k0_off98_at (blk c (32 - t.val))) rfl ?_
    refine W_blk SG_tabs t.val (k0_off99_at ⟨pos c, pos_lt c⟩ t) rfl ?_
    refine W_assume (k0_chk32_at (blk c t.val) t) ?_
    refine W_ldBlk (SG_at (j := t.val) (i := 4 * (t.val - 1) + 1) (xDst_o (by omega) (by omega)) (by omega) (by omega) (by simp only [XHeld, Valid, cnt, gv]; omega) (by simp only [XHeld, Valid, cnt, gv]; omega) (by simp only [cnt]; omega) (by simp only [cnt]; omega)) (k0_off100_at (blk c t.val)) ?_
    refine W_ld_wi1 SG_wi1 ?_
    refine W_pure ?_
    refine W_ld_wo1 SG_wo1 ?_
    refine W_ldPany SG_p (fun _ => ?_)
    refine W_stP t.val (DnA (t.val + 1)) (fun j hj => ?_) (k0_off100_at (blk c t.val)) rfl ?_
    · simp only [DnA] at hj ⊢; omega
    exact hx
  · have h0 : t.val < 8 := by
      by_cases h0 : 8 ≤ t.val
      · exact absurd ((k0_cond22_at t).mpr h0) h
      · omega
    refine St_mono (fun j hj => ?_) rfl rfl
    simp only [DnA] at hj ⊢; omega
  exact W_pure (St_to rfl (by rw [kj_four]))

end Cert.KernelIdeal.Mlp
-- ==== Proof.Reduce1.lean ====
/-
# A trip of the reducing loop of layer 2
-/
module

public import proofs.«01_k».proof.Proof.Walk2
public import proofs.«01_k».proof.Proof.Words1

@[expose] public section

noncomputable section

namespace Cert.KernelIdeal.Mlp

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

theorem sum_pay36 (t : Fin k0_t4_loop.trips) (p : S32x1024.Idx → F .f32) (r : S32x1024.Idx → F .bf16) :
    k0_pay36 p (Scalar.cmpi .eq (Scf.iv 0#32 1#32 t.val) 0#32) (k0_pay17 p r) = stepSum t.val p r := by
  refine Eq.trans ?_ (stepSum_sel (show Fin 16 from t) p r)
  rw [← iv_eq (show Fin 16 from t)]
  rfl
theorem k0_off139_at : ∀ b : Dev nD, k0_off139 b = ![64 * b.val, 0] := by decide +kernel

set_option maxHeartbeats 8000000 in
theorem reduce_trip1 (D : Vals F) (K : Names) (c : Dev nD) (v2 : BitVec 32) (k0_hw1 : k0_chk1 (wd (pos c))) (k0_hw2 : k0_chk2 (wd (lf c).val)) (k0_hw3 : k0_chk3 (wd (rt c).val)) (v158 : Elt F .i32) (k0_hw35 : k0_chk35 v158) (v159 : BitVec 32) (v164 : FVec F S64x2048 .f32) (t : Fin k0_t4_loop.trips) :
    St D c K 1 (DnB t.val) (192 + 4 * t.val) (192 + 4 * (t.val - 1)) ⊢ WP c (k0_t4_body (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_stg8_0) (Memref.isWhole_whole _) (Memref.whole cc0_stg9_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 cc0_scratch13 c v2 (wd (pos c)) k0_hw1 (wd (lf c).val) k0_hw2 (wd (rt c).val) k0_hw3 v158 k0_hw35 v159 v164 t ⟨⟩)
      (fun _ => St D c K 1 (DnB (t.val + 1)) (192 + 4 * (t.val + 1)) (192 + 4 * t.val)) := by
  have ht : t.val < 16 := t.isLt
  refine W_pre (R := St D c K 1 (DnB t.val) (192 + 4 * t.val + 0) (192 + kj t.val 0)) (St_to rfl (by rw [kj_first])) ?_
  have hb0 := kj_le t.val (show 0 ≤ 4 by omega)
  have hb1 := kj_le t.val (show 1 ≤ 4 by omega)
  have hb2 := kj_le t.val (show 2 ≤ 4 by omega)
  have hb3 := kj_le t.val (show 3 ≤ 4 by omega)
  have hb4 := kj_le t.val (show 4 ≤ 4 by omega)
  refine W_bind ?_
  rw [k0_part13_eq_skeleton]
  unfold k0_part13_skel
  refine W_if (R := St D c K 1 (DnB t.val) (192 + 4 * t.val + 0) (192 + kj t.val 1)) ?_ (fun h hx => ?_) (fun h => ?_)
  rotate_left
  · have h0 := (k0_cond23_at t).mp h
    have hk := kj_pos h0 0
    have hk' := kj_pos h0 1
    have e : 192 + kj t.val 1 = 192 + kj t.val 0 + 1 := by omega
    rw [e] at hx
    clear hk'
    refine W_waitSend (by simp only [Valid]; omega) (by omega) (by omega) (by omega) (by omega) (srL ⟨by omega, by omega⟩ rfl (by omega)) rfl ?_
    refine W_recvRS (by omega) (by simp only [Valid]; omega) (by omega) (by omega) (by omega) (by omega) (rrL ⟨by omega, by omega⟩ (k0_off108_at t h0) (by omega)) rfl ?_
    exact hx
  · have h0 : t.val = 0 := by
      by_cases h0 : t.val = 0
      · exact h0
      · exact absurd ((k0_cond23_at t).mpr h0) h
    exact St_to rfl (congrArg (192 + ·) (kj_zero h0 0 1))
  refine W_blk (b := blk c (16 + t.val)) SG_tabs (16 + t.val) (k0_off109_at ⟨pos c, pos_lt c⟩ t) rfl ?_
  refine W_assume (k0_chk36_at (blk c (16 + t.val))) ?_
  refine W_ldP32 (j := 16 + t.val) (h := 0) (by omega) (by simp only [DnB]; omega) SG_p (row_h0 (k0_off110_at (blk c (16 + t.val)))) ?_
  refine W_ldSumL (t := t.val) (j := 0) (by omega) ht (fun h0 => ?_) (fun h0 => ?_) (k0_off111_at t) (fun r hr => ?_)
  · have hk := kj_pos h0 1
    simp only [SHeld, Valid, cnt]; omega
  · have hk := kj_pos h0 1
    simp only [cnt]; omega
  refine W_ldBL (by omega) (by simp only [Valid]; omega) (by omega) (by omega) (by omega) (by omega) (offb (h := 0) (by omega)) (fun _ => ?_)
  refine W_stBL (by omega) (by simp only [Valid]; omega) (by omega) (by omega) (by omega) (by omega) (offb (h := 0) (by omega)) ?_ ?_
  · rw [show (192 + 4 * t.val + 0) / 128 = 1 by omega, show (192 + 4 * t.val + 0) % 64 / 4 = t.val by omega, show (192 + 4 * t.val + 0) % 4 / 2 = 0 by omega]
    refine (sum_pay16 t _ _).trans ?_
    exact sum_left D c (m := 64 + 4 * (t.val - 1) + 0) (by omega) hr
  refine W_pure ?_
  refine W_bind ?_
  rw [k0_part14_eq_skeleton]
  unfold k0_part14_skel
  refine W_issue_sl (by omega) (by simp only [Valid]; omega) (by omega) (by omega) (by omega) (by omega) (dv_lf (k0_dev15_at (lf c)) (by omega)) (srL ⟨by omega, by omega⟩ rfl (by omega)) (rrL ⟨by omega, by omega⟩ (k0_off112_at t) (by omega)) (offb (h := 0) (by omega)) (row_s0 (k0_off113_at t) (by omega) (by omega)) ?_
  refine W_if (R := St D c K 1 (DnB t.val) (192 + 4 * t.val + 1) (192 + kj t.val 2)) ?_ (fun h hx => ?_) (fun h => ?_)
  rotate_left
  · have h0 := (k0_cond24_at t).mp h
    have hk := kj_pos h0 1
    have hk' := kj_pos h0 2
    have e : 192 + kj t.val 2 = 192 + kj t.val 1 + 1 := by omega
    rw [e] at hx
    clear hk'
    refine W_waitSend (by simp only [Valid]; omega) (by omega) (by omega) (by omega) (by omega) (srR ⟨by omega, by omega⟩ rfl (by omega)) rfl ?_
    refine W_recvRS (by omega) (by simp only [Valid]; omega) (by omega) (by omega) (by omega) (by omega) (rrR ⟨by omega, by omega, by omega⟩ (k0_off115_at t h0) (by omega)) rfl ?_
    exact hx
  · have h0 : t.val = 0 := by
      by_cases h0 : t.val = 0
      · exact h0
      · exact absurd ((k0_cond24_at t).mpr h0) h
    exact St_to rfl (congrArg (192 + ·) (kj_zero h0 1 2))
  refine W_if (R := St D c K 1 (DnB t.val) (192 + 4 * t.val + 2) (192 + kj t.val 2)) ?_ (fun h hx => ?_) (fun h => ?_)
  rotate_left
  · have h0 := (k0_cond25_at t).mp h
    refine W_bind ?_
    rw [k0_part10_eq_skeleton]
    unfold k0_part10_skel
    refine W_blk (b := blk c (15 - t.val)) SG_tabs (47 - t.val) (k0_off116_at ⟨pos c, pos_lt c⟩ t) (blk_congr c (by omega)) ?_
    refine W_assume (k0_chk37_at (blk c (15 - t.val)) t) ?_
    refine W_ldP32 (j := 15 - t.val) (h := 0) (by omega) (by simp only [DnB]; omega) SG_p (row_h0 (k0_off117_at (blk c (15 - t.val)))) ?_
    refine W_ldSumR (t := t.val) (j := 1) (by omega) ht (fun h0 => ?_) (fun h0 => ?_) (k0_off118_at t) (fun r hr => ?_)
    · have hk := kj_pos h0 2
      simp only [SHeld, Valid, cnt]; omega
    · have hk := kj_pos h0 2
      simp only [cnt]; omega
    refine W_ldBR (by omega) (by simp only [Valid]; omega) (by omega) (by omega) (by omega) (by omega) (offb (h := 0) (by omega)) (fun _ => ?_)
    refine W_stBR (by omega) (by simp only [Valid]; omega) (by omega) (by omega) (by omega) (by omega) (offb (h := 0) (by omega)) ?_ ?_
    · rw [show (192 + 4 * t.val + 1) / 128 = 1 by omega, show (192 + 4 * t.val + 1) % 64 / 4 = t.val by omega, show (192 + 4 * t.val + 1) % 4 / 2 = 0 by omega]
      rw [iv_eq (show Fin 16 from t)]; refine (sum_pay12 (show Fin 16 from t) _ _).trans ?_
      exact sum_right' (m := 64 + 4 * (t.val - 1) + 1) (by omega) (by omega) hr
    refine W_pure ?_
    refine W_issue_sr (by omega) (by simp only [Valid]; omega) (by omega) (by omega) (by omega) (by omega) (dv_rt (k0_dev16_at (rt c)) (by omega)) (srR ⟨by omega, by omega⟩ rfl (by omega)) (rrR ⟨by omega, by omega, by omega⟩ (k0_off119_at t) (by omega)) (offb (h := 0) (by omega)) (row_s0 (k0_off120_at t) (by omega) (by omega)) ?_
    exact hx
  · have h0 : t.val = 15 := by
      by_cases h0 : t.val < 15
      · exact absurd ((k0_cond25_at t).mpr h0) h
      · omega
    exact ent_of_eq (St_skip (by simp only [Valid]; omega) (by omega) (by omega) (by omega))
  refine W_if (R := St D c K 1 (DnB t.val) (192 + 4 * t.val + 2) (192 + kj t.val 3)) ?_ (fun h hx => ?_) (fun h => ?_)
  rotate_left
  · have h0 := (k0_cond26_at t).mp h
    have hk := kj_pos h0 2
    have hk' := kj_pos h0 3
    have e : 192 + kj t.val 3 = 192 + kj t.val 2 + 1 := by omega
    rw [e] at hx
    clear hk'
    refine W_waitSend (by simp only [Valid]; omega) (by omega) (by omega) (by omega) (by omega) (srL ⟨by omega, by omega⟩ rfl (by omega)) rfl ?_
    refine W_recvRS (by omega) (by simp only [Valid]; omega) (by omega) (by omega) (by omega) (by omega) (rrL ⟨by omega, by omega⟩ (k0_off122_at t h0) (by omega)) rfl ?_
    exact hx
  · have h0 : t.val = 0 := by
      by_cases h0 : t.val = 0
      · exact h0
      · exact absurd ((k0_cond26_at t).mpr h0) h
    exact St_to rfl (congrArg (192 + ·) (kj_zero h0 2 3))
  refine W_blk (b := blk c (16 + t.val)) SG_tabs (16 + t.val) (k0_off123_at ⟨pos c, pos_lt c⟩ t) rfl ?_
  refine W_assume (k0_chk38_at (blk c (16 + t.val))) ?_
  refine W_ldP32 (j := 16 + t.val) (h := 1) (by omega) (by simp only [DnB]; omega) SG_p (k0_off124_at (blk c (16 + t.val))) ?_
  refine W_ldSumL (t := t.val) (j := 2) (by omega) ht (fun h0 => ?_) (fun h0 => ?_) (k0_off125_at t) (fun r hr => ?_)
  · have hk := kj_pos h0 3
    simp only [SHeld, Valid, cnt]; omega
  · have hk := kj_pos h0 3
    simp only [cnt]; omega
  refine W_pure ?_
  refine W_ldBL (by omega) (by simp only [Valid]; omega) (by omega) (by omega) (by omega) (by omega) (offb (h := 1) (by omega)) (fun _ => ?_)
  refine W_stBL (by omega) (by simp only [Valid]; omega) (by omega) (by omega) (by omega) (by omega) (offb (h := 1) (by omega)) ?_ ?_
  · rw [show (192 + 4 * t.val + 2) / 128 = 1 by omega, show (192 + 4 * t.val + 2) % 64 / 4 = t.val by omega, show (192 + 4 * t.val + 2) % 4 / 2 = 1 by omega]
    refine (sum_pay36 t _ _).trans ?_
    exact sum_left D c (m := 64 + 4 * (t.val - 1) + 2) (by omega) hr
  refine W_issue_sl (by omega) (by simp only [Valid]; omega) (by omega) (by omega) (by omega) (by omega) (dv_lf (k0_dev17_at (lf c)) (by omega)) (srL ⟨by omega, by omega⟩ rfl (by omega)) (rrL ⟨by omega, by omega⟩ (k0_off126_at t) (by omega)) (offb (h := 1) (by omega)) (row_s1 (k0_off127_at t) (by omega) (by omega)) ?_
  refine W_if (R := St D c K 1 (DnB t.val) (192 + 4 * t.val + 3) (192 + kj t.val 4)) ?_ (fun h hx => ?_) (fun h => ?_)
  rotate_left
  · have h0 := (k0_cond27_at t).mp h
    have hk := kj_pos h0 3
    have hk' := kj_pos h0 4
    have e : 192 + kj t.val 4 = 192 + kj t.val 3 + 1 := by omega
    rw [e] at hx
    clear hk'
    refine W_waitSend (by simp only [Valid]; omega) (by omega) (by omega) (by omega) (by omega) (srR ⟨by omega, by omega⟩ rfl (by omega)) rfl ?_
    refine W_recvRS (by omega) (by simp only [Valid]; omega) (by omega) (by omega) (by omega) (by omega) (rrR ⟨by omega, by omega, by omega⟩ (k0_off129_at t h0) (by omega)) rfl ?_
    exact hx
  · have h0 : t.val = 0 := by
      by_cases h0 : t.val = 0
      · exact h0
      · exact absurd ((k0_cond27_at t).mpr h0) h
    exact St_to rfl (congrArg (192 + ·) (kj_zero h0 3 4))
  refine W_if (R := St D c K 1 (DnB t.val) (192 + 4 * t.val + 4) (192 + kj t.val 4)) ?_ (fun h hx => ?_) (fun h => ?_)
  rotate_left
  · have h0 := (k0_cond28_at t).mp h
    refine W_bind ?_
    rw [k0_part11_eq_skeleton]
    unfold k0_part11_skel
    refine W_blk (b := blk c (15 - t.val)) SG_tabs (47 - t.val) (k0_off130_at ⟨pos c, pos_lt c⟩ t) (blk_congr c (by omega)) ?_
    refine W_assume (k0_chk39_at (blk c (15 - t.val)) t) ?_
    refine W_ldP32 (j := 15 - t.val) (h := 1) (by omega) (by simp only [DnB]; omega) SG_p (k0_off131_at (blk c (15 - t.val))) ?_
    refine W_ldSumR (t := t.val) (j := 3) (by omega) ht (fun h0 => ?_) (fun h0 => ?_) (k0_off132_at t) (fun r hr => ?_)
    · have hk := kj_pos h0 4
      simp only [SHeld, Valid, cnt]; omega
    · have hk := kj_pos h0 4
      simp only [cnt]; omega
    refine W_ldBR (by omega) (by simp only [Valid]; omega) (by omega) (by omega) (by omega) (by omega) (offb (h := 1) (by omega)) (fun _ => ?_)
    refine W_stBR (by omega) (by simp only [Valid]; omega) (by omega) (by omega) (by omega) (by omega) (offb (h := 1) (by omega)) ?_ ?_
    · rw [show (192 + 4 * t.val + 3) / 128 = 1 by omega, show (192 + 4 * t.val + 3) % 64 / 4 = t.val by omega, show (192 + 4 * t.val + 3) % 4 / 2 = 1 by omega]
      rw [iv_eq (show Fin 16 from t)]; refine (sum_pay13 (show Fin 16 from t) _ _).trans ?_
      exact sum_right' (m := 64 + 4 * (t.val - 1) + 3) (by omega) (by omega) hr
    refine W_pure ?_
    refine W_issue_sr (by omega) (by simp only [Valid]; omega) (by omega) (by omega) (by omega) (by omega) (dv_rt (k0_dev18_at (rt c)) (by omega)) (srR ⟨by omega, by omega⟩ rfl (by omega)) (rrR ⟨by omega, by omega, by omega⟩ (k0_off133_at t) (by omega)) (offb (h := 1) (by omega)) (row_s1 (k0_off134_at t) (by omega) (by omega)) ?_
    exact hx
  · have h0 : t.val = 15 := by
      by_cases h0 : t.val < 15
      · exact absurd ((k0_cond28_at t).mpr h0) h
      · omega
    exact ent_of_eq (St_skip (by simp only [Valid]; omega) (by omega) (by omega) (by omega))
  have h4 := kj_four t.val
  refine W_if (R := St D c K 1 (fun j => DnB t.val j ∨ (t.val < 7 ∧ (j = 7 - t.val ∨ j = 25 + t.val))) (192 + 4 * (t.val + 1)) (192 + kj t.val 4)) ?_ (fun h hx => ?_) (fun h => ?_)
  rotate_left
  · have h0 := (k0_cond29_at t).mp h
    refine W_bind ?_
    rw [k0_part12_eq_skeleton]
    unfold k0_part12_skel
    refine W_blk (b := blk c (7 - t.val)) SG_tabs (39 - t.val) (k0_off135_at ⟨pos c, pos_lt c⟩ t) (blk_congr c (by omega)) ?_
    refine W_assume (k0_chk40_at (blk c (7 - t.val)) t) ?_
    refine W_ldBlk (SG_at (j := 7 - t.val) (i := 4 * (6 - t.val) + 1) (xDst_o (by omega) (by omega)) (by omega) (by omega) (by simp only [XHeld, Valid, cnt, gv]; omega) (by simp only [XHeld, Valid, cnt, gv]; omega) (by simp only [cnt]; omega) (by simp only [cnt]; omega)) (k0_off136_at (blk c (7 - t.val))) ?_
    refine W_ld_wi1 SG_wi1 ?_
    refine W_ld_wo1 SG_wo1 ?_
    refine W_ldPany SG_p (fun _ => ?_)
    refine W_stP (7 - t.val) (fun j => DnB t.val j ∨ j = 7 - t.val) (fun _ h => h) (k0_off136_at (blk c (7 - t.val))) rfl ?_
    refine W_blk SG_tabs (25 + t.val) (k0_off137_at ⟨pos c, pos_lt c⟩ t) rfl ?_
    refine W_assume (k0_chk41_at (blk c (25 + t.val)) t) ?_
    refine W_ldBlk (SG_at (j := 25 + t.val) (i := 4 * (6 - t.val)) (xDst_e (by omega) (by omega)) (by omega) (by omega) (by simp only [XHeld, Valid, cnt, gv]; omega) (by simp only [XHeld, Valid, cnt, gv]; omega) (by simp only [cnt]; omega) (by simp only [cnt]; omega)) (k0_off138_at (blk c (25 + t.val))) ?_
    refine W_ld_wi1 SG_wi1 ?_
    refine W_pure ?_
    refine W_ld_wo1 SG_wo1 ?_
    refine W_ldPany SG_p (fun _ => ?_)
    refine W_stP (25 + t.val) (fun j => DnB t.val j ∨ (t.val < 7 ∧ (j = 7 - t.val ∨ j = 25 + t.val))) (fun j hj => ?_) (k0_off138_at (blk c (25 + t.val))) rfl ?_
    · simp only [DnB] at hj ⊢; omega
    exact hx
  · have h0 : ¬t.val < 7 := fun h0 => absurd ((k0_cond29_at t).mpr h0) h
    refine St_mono (fun j hj => ?_) rfl rfl
    simp only [DnB] at hj ⊢; omega
  refine W_if (R := St D c K 1 (DnB (t.val + 1)) (192 + 4 * (t.val + 1)) (192 + kj t.val 4)) ?_ (fun h hx => ?_) (fun h => ?_)
  rotate_left
  · have h0 := (k0_cond30_at t).mp h
    refine W_ldBlk SG_own (k0_off139_at c) ?_
    refine W_ld_wi1 SG_wi1 ?_
    refine W_ld_wo1 SG_wo1 ?_
    refine W_ldPany SG_p (fun _ => ?_)
    refine W_stP 0 (DnB (t.val + 1)) (fun j hj => ?_) (by rw [blk_zero]; exact k0_off139_at c) (by rw [blk_zero]; rfl) ?_
    · simp only [DnB] at hj ⊢; omega
    exact hx
  · have h0 : ¬t.val = 7 := fun h0 => absurd ((k0_cond30_at t).mpr h0) h
    refine St_mono (fun j hj => ?_) rfl rfl
    simp only [DnB] at hj ⊢; omega
  exact W_pure (St_to rfl (by rw [kj_four]))

end Cert.KernelIdeal.Mlp
-- ==== Proof.Layer1.lean ====
/-
# The second layer, loop by loop
-/
module

public import proofs.«01_k».proof.Proof.Walk3
public import proofs.«01_k».proof.Proof.Words3
public import proofs.«01_k».proof.Proof.Gather1
public import proofs.«01_k».proof.Proof.Reduce1

@[expose] public section

noncomputable section

namespace Cert.KernelIdeal.Mlp

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

set_option maxHeartbeats 4000000 in
theorem run_part26 (D : Vals F) (K : Names) (c : Dev nD) (v2 : BitVec 32) (k0_hw1 : k0_chk1 (wd (pos c))) (k0_hw2 : k0_chk2 (wd (lf c).val)) (k0_hw3 : k0_chk3 (wd (rt c).val))
    {Q : (Σ' (v124 : Elt F .i32), k0_chk33 v124) → sProp 𝕄} (H : ∀ h, St1 D c K 1 (DnA 16) 192 188 ⊢ Q ⟨wd (blk c 17).val, h⟩) :
    St D c K 0 (DnB 16) 128 128 ⊢ WP c (k0_part26 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_stg8_0) (Memref.isWhole_whole _) (Memref.whole cc0_stg9_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 cc0_scratch13 c v2 (wd (pos c)) k0_hw1 (wd (lf c).val) k0_hw2 (wd (rt c).val) k0_hw3 (D.part (D.X 0) 0 c c)) Q := by
  rw [k0_part26_eq_skeleton]
  unfold k0_part26_skel
  refine W_ldLast_r (by omega) rfl ?_
  refine W_ldLast_l (by omega) rfl ?_
  refine W_pre St_ownAny ?_
  refine W_ldOwn (k0_off72_at c) (fun _ => ?_)
  refine W_stOwn (k0_off72_at c) fin_pay32 ?_
  refine W_pre (R := St D c K 1 (DnA 0) (128 + 4 * 0) (128 + 4 * (0 - 1))) (St_mono (fun j hj => by simp only [DnA] at hj; omega) rfl rfl) ?_
  refine W_loop (I := fun t => St D c K 1 (DnA t) (128 + 4 * t) (128 + 4 * (t - 1))) (N := 16) rfl (fun t => gather_trip1 D K c v2 k0_hw1 k0_hw2 k0_hw3 _ t) ?_
  refine W_pre (St_to (n' := 192) (k' := 188) rfl rfl) ?_
  refine W_blk SG_tabs 17 (k0_off101_at ⟨pos c, pos_lt c⟩) rfl ?_
  refine W_assume (k0_chk33_at (blk c 17)) ?_
  refine W_waitSend (by decide) (by omega) (by omega) (by omega) (by omega) (sgR (m := 188) ⟨by omega, by omega⟩ rfl (by omega)) rfl ?_
  exact W_pure (H _)

set_option maxHeartbeats 4000000 in
theorem run_part27 (D : Vals F) (K : Names) (c : Dev nD) (v14 : BitVec 32) (k0_hw1 : k0_chk1 (wd (pos c))) (k0_hw33 : k0_chk33 (wd (blk c 17).val))
    {Q : (Σ' (v158 : Elt F .i32) (k0_hw35 : k0_chk35 v158) (v159 : BitVec 32), FVec F S64x2048 .f32) → sProp 𝕄} (H : ∀ h v, St D c K 1 (DnA 16) 192 192 ⊢ Q ⟨wd (blk c 16).val, h, v, k0_pay34 (D.X 1 (blk c 16)) (D.wi 1 c)⟩) :
    St1 D c K 1 (DnA 16) 192 188 ⊢ WP c (k0_part27 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_stg8_0) (Memref.isWhole_whole _) (Memref.whole cc0_stg9_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 cc0_scratch13 (wd (pos c)) k0_hw1 v14 (wd (blk c 17).val) k0_hw33) Q := by
  rw [k0_part27_eq_skeleton]
  unfold k0_part27_skel
  refine W_recvAG (by omega) (by omega) (by decide) (by omega) (by omega) (by omega) (by omega) (rgR (m := 188) ⟨by omega, by omega⟩ rfl (by omega)) rfl ?_
  refine W_pre (ent_of_eq (St_skip' (n := 192) (k := 189) (by decide) (by omega) (by omega) (by omega))) ?_
  refine W_blk SG_tabs 17 (k0_off103_at ⟨pos c, pos_lt c⟩) rfl ?_
  refine W_assume (k0_chk34_at (blk c 17)) ?_
  refine W_waitSend (by decide) (by omega) (by omega) (by omega) (by omega) (sgR (m := 190) ⟨by omega, by omega⟩ rfl (by omega)) rfl ?_
  refine W_recvAG (by omega) (by omega) (by decide) (by omega) (by omega) (by omega) (by omega) (rgR (m := 190) ⟨by omega, by omega⟩ rfl (by omega)) rfl ?_
  refine W_pre (ent_of_eq (St_skip' (n := 192) (k := 191) (by decide) (by omega) (by omega) (by omega))) ?_
  refine W_blk SG_tabs 16 (k0_off105_at ⟨pos c, pos_lt c⟩) rfl ?_
  refine W_assume (k0_chk35_at (blk c 16)) ?_
  refine W_ldBlk (SG_at (j := 16) (i := 60) (xDst_e (by omega) (by omega)) (by omega) (by omega) (by decide) (by decide) (by decide) (by decide)) (k0_off106_at (blk c 16)) ?_
  refine W_ld_wi1 SG_wi1 ?_
  exact W_pure (H _ _)

set_option maxHeartbeats 4000000 in
theorem run_part28 (D : Vals F) (K : Names) (c : Dev nD) (v2 : BitVec 32) (k0_hw1 : k0_chk1 (wd (pos c))) (k0_hw2 : k0_chk2 (wd (lf c).val)) (k0_hw3 : k0_chk3 (wd (rt c).val)) (k0_hw35 : k0_chk35 (wd (blk c 16).val)) (v159 : BitVec 32)
    {Q : PUnit → sProp 𝕄} (H : St D c K 1 (DnB 16) 256 254 ⊢ Q ⟨⟩) :
    St D c K 1 (DnA 16) 192 192 ⊢ WP c (k0_part28 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_stg8_0) (Memref.isWhole_whole _) (Memref.whole cc0_stg9_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 cc0_scratch13 c v2 (wd (pos c)) k0_hw1 (wd (lf c).val) k0_hw2 (wd (rt c).val) k0_hw3 (wd (blk c 16).val) k0_hw35 v159 (k0_pay34 (D.X 1 (blk c 16)) (D.wi 1 c))) Q := by
  rw [k0_part28_eq_skeleton]
  unfold k0_part28_skel
  refine W_ld_wo1 SG_wo1 ?_
  refine W_ldPany SG_p (fun _ => ?_)
  refine W_stP 16 (DnB 0) (fun j hj => ?_) (k0_off106_at (blk c 16)) rfl ?_
  · simp only [DnA, DnB] at hj ⊢; omega
  refine W_pre (R := St D c K 1 (DnB 0) (192 + 4 * 0) (192 + 4 * (0 - 1))) (St_to rfl rfl) ?_
  refine W_loop (I := fun t => St D c K 1 (DnB t) (192 + 4 * t) (192 + 4 * (t - 1))) (N := 16) rfl (fun t => reduce_trip1 D K c v2 k0_hw1 k0_hw2 k0_hw3 (wd (blk c 16).val) k0_hw35 v159 _ t) ?_
  refine W_pre (St_to (n' := 256) (k' := 252) rfl rfl) ?_
  refine W_waitSend (by decide) (by omega) (by omega) (by omega) (by omega) (srL (m := 252) ⟨by omega, by omega⟩ rfl (by omega)) rfl ?_
  refine W_recvRS (by omega) (by decide) (by omega) (by omega) (by omega) (by omega) (rrL (m := 252) ⟨by omega, by omega⟩ rfl (by omega)) rfl ?_
  refine W_pre (ent_of_eq (St_skip' (n := 256) (k := 253) (by decide) (by omega) (by omega) (by omega))) ?_
  exact W_pure H

end Cert.KernelIdeal.Mlp
-- ==== Proof.Words2.lean ====
/-
# What the words of layer 3 say

The same facts as those of the first layer, of the text printed for this one.
-/
module

public import proofs.«01_k».proof.Proof.Hold

@[expose] public section

noncomputable section

namespace Cert.KernelIdeal.Mlp

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

theorem k0_off141_at : ∀ (b : Fin 32) (t : Fin k0_t5_loop.trips), k0_off141 (wd b.val) t = ![0, (b.val + (33 - t.val)) % 32] := by decide +kernel
theorem k0_off153_at : ∀ (b : Fin 32) (t : Fin k0_t5_loop.trips), k0_off153 (wd b.val) t = ![0, (b.val + (33 - t.val)) % 32] := by decide +kernel
theorem k0_off144_at : ∀ (b : Fin 32) (t : Fin k0_t5_loop.trips), k0_off144 (wd b.val) t = ![0, (b.val + (32 - t.val)) % 32] := by decide +kernel
theorem k0_off156_at : ∀ (b : Fin 32) (t : Fin k0_t5_loop.trips), k0_off156 (wd b.val) t = ![0, (b.val + (32 - t.val)) % 32] := by decide +kernel
theorem k0_off165_at : ∀ (b : Fin 32) (t : Fin k0_t5_loop.trips), k0_off165 (wd b.val) t = ![0, (b.val + (32 - t.val)) % 32] := by decide +kernel
theorem k0_off147_at : ∀ (b : Fin 32) (t : Fin k0_t5_loop.trips), k0_off147 (wd b.val) t = ![0, (b.val + (31 + t.val)) % 32] := by decide +kernel
theorem k0_off159_at : ∀ (b : Fin 32) (t : Fin k0_t5_loop.trips), k0_off159 (wd b.val) t = ![0, (b.val + (31 + t.val)) % 32] := by decide +kernel
theorem k0_off150_at : ∀ (b : Fin 32) (t : Fin k0_t5_loop.trips), k0_off150 (wd b.val) t = ![0, (b.val + (t.val)) % 32] := by decide +kernel
theorem k0_off162_at : ∀ (b : Fin 32) (t : Fin k0_t5_loop.trips), k0_off162 (wd b.val) t = ![0, (b.val + (t.val)) % 32] := by decide +kernel
theorem k0_off167_at : ∀ (b : Fin 32) (t : Fin k0_t5_loop.trips), k0_off167 (wd b.val) t = ![0, (b.val + (t.val)) % 32] := by decide +kernel
theorem k0_off177_at : ∀ (b : Fin 32) (t : Fin k0_t6_loop.trips), k0_off177 (wd b.val) t = ![0, (b.val + (16 + t.val)) % 32] := by decide +kernel
theorem k0_off191_at : ∀ (b : Fin 32) (t : Fin k0_t6_loop.trips), k0_off191 (wd b.val) t = ![0, (b.val + (16 + t.val)) % 32] := by decide +kernel
theorem k0_off184_at : ∀ (b : Fin 32) (t : Fin k0_t6_loop.trips), k0_off184 (wd b.val) t = ![0, (b.val + (47 - t.val)) % 32] := by decide +kernel
theorem k0_off198_at : ∀ (b : Fin 32) (t : Fin k0_t6_loop.trips), k0_off198 (wd b.val) t = ![0, (b.val + (47 - t.val)) % 32] := by decide +kernel
theorem k0_off203_at : ∀ (b : Fin 32) (t : Fin k0_t6_loop.trips), k0_off203 (wd b.val) t = ![0, (b.val + (39 - t.val)) % 32] := by decide +kernel
theorem k0_off205_at : ∀ (b : Fin 32) (t : Fin k0_t6_loop.trips), k0_off205 (wd b.val) t = ![0, (b.val + (25 + t.val)) % 32] := by decide +kernel
theorem k0_off169_at : ∀ b : Fin 32, k0_off169 (wd b.val) = ![0, (b.val + 17) % 32] := by decide +kernel
theorem k0_off171_at : ∀ b : Fin 32, k0_off171 (wd b.val) = ![0, (b.val + 17) % 32] := by decide +kernel
theorem k0_off173_at : ∀ b : Fin 32, k0_off173 (wd b.val) = ![0, (b.val + 16) % 32] := by decide +kernel
theorem k0_off142_at : ∀ b : Fin 32, k0_off142 (wd b.val) = ![64 * b.val, 0] := by decide +kernel
theorem k0_off146_at : ∀ b : Fin 32, k0_off146 (wd b.val) = ![64 * b.val, 0] := by decide +kernel
theorem k0_off148_at : ∀ b : Fin 32, k0_off148 (wd b.val) = ![64 * b.val, 0] := by decide +kernel
theorem k0_off152_at : ∀ b : Fin 32, k0_off152 (wd b.val) = ![64 * b.val, 0] := by decide +kernel
theorem k0_off166_at : ∀ b : Fin 32, k0_off166 (wd b.val) = ![64 * b.val, 0] := by decide +kernel
theorem k0_off168_at : ∀ b : Fin 32, k0_off168 (wd b.val) = ![64 * b.val, 0] := by decide +kernel
theorem k0_off170_at : ∀ b : Fin 32, k0_off170 (wd b.val) = ![64 * b.val, 0] := by decide +kernel
theorem k0_off174_at : ∀ b : Fin 32, k0_off174 (wd b.val) = ![64 * b.val, 0] := by decide +kernel
theorem k0_off178_at : ∀ b : Fin 32, k0_off178 (wd b.val) = ![64 * b.val, 0] := by decide +kernel
theorem k0_off185_at : ∀ b : Fin 32, k0_off185 (wd b.val) = ![64 * b.val, 0] := by decide +kernel
theorem k0_off204_at : ∀ b : Fin 32, k0_off204 (wd b.val) = ![64 * b.val, 0] := by decide +kernel
theorem k0_off206_at : ∀ b : Fin 32, k0_off206 (wd b.val) = ![64 * b.val, 0] := by decide +kernel
theorem k0_off154_at : ∀ b : Fin 32, k0_off154 (wd b.val) = ![64 * b.val + 32, 0] := by decide +kernel
theorem k0_off158_at : ∀ b : Fin 32, k0_off158 (wd b.val) = ![64 * b.val + 32, 0] := by decide +kernel
theorem k0_off160_at : ∀ b : Fin 32, k0_off160 (wd b.val) = ![64 * b.val + 32, 0] := by decide +kernel
theorem k0_off164_at : ∀ b : Fin 32, k0_off164 (wd b.val) = ![64 * b.val + 32, 0] := by decide +kernel
theorem k0_off172_at : ∀ b : Fin 32, k0_off172 (wd b.val) = ![64 * b.val + 32, 0] := by decide +kernel
theorem k0_off192_at : ∀ b : Fin 32, k0_off192 (wd b.val) = ![64 * b.val + 32, 0] := by decide +kernel
theorem k0_off199_at : ∀ b : Fin 32, k0_off199 (wd b.val) = ![64 * b.val + 32, 0] := by decide +kernel
theorem k0_off143_at : ∀ t : Fin k0_t5_loop.trips, t.val ≠ 0 → k0_off143 t = ![t.val - 1] := by decide +kernel
theorem k0_off145_at : ∀ t : Fin k0_t5_loop.trips, k0_off145 t = ![t.val] := by decide +kernel
theorem k0_off149_at : ∀ t : Fin k0_t5_loop.trips, t.val ≠ 0 → k0_off149 t = ![t.val - 1] := by decide +kernel
theorem k0_off151_at : ∀ t : Fin k0_t5_loop.trips, k0_off151 t = ![t.val] := by decide +kernel
theorem k0_off155_at : ∀ t : Fin k0_t5_loop.trips, t.val ≠ 0 → k0_off155 t = ![t.val + 15] := by decide +kernel
theorem k0_off157_at : ∀ t : Fin k0_t5_loop.trips, k0_off157 t = ![t.val + 16] := by decide +kernel
theorem k0_off161_at : ∀ t : Fin k0_t5_loop.trips, t.val ≠ 0 → k0_off161 t = ![t.val + 14] := by decide +kernel
theorem k0_off163_at : ∀ t : Fin k0_t5_loop.trips, k0_off163 t = ![t.val + 15] := by decide +kernel
theorem k0_off176_at : ∀ t : Fin k0_t6_loop.trips, t.val ≠ 0 → k0_off176 t = ![t.val - 1] := by decide +kernel
theorem k0_off180_at : ∀ t : Fin k0_t6_loop.trips, k0_off180 t = ![t.val] := by decide +kernel
theorem k0_off183_at : ∀ t : Fin k0_t6_loop.trips, t.val ≠ 0 → k0_off183 t = ![t.val - 1] := by decide +kernel
theorem k0_off187_at : ∀ t : Fin k0_t6_loop.trips, k0_off187 t = ![t.val] := by decide +kernel
theorem k0_off190_at : ∀ t : Fin k0_t6_loop.trips, t.val ≠ 0 → k0_off190 t = ![t.val + 15] := by decide +kernel
theorem k0_off194_at : ∀ t : Fin k0_t6_loop.trips, k0_off194 t = ![t.val + 16] := by decide +kernel
theorem k0_off197_at : ∀ t : Fin k0_t6_loop.trips, t.val ≠ 0 → k0_off197 t = ![t.val + 14] := by decide +kernel
theorem k0_off201_at : ∀ t : Fin k0_t6_loop.trips, k0_off201 t = ![t.val + 15] := by decide +kernel
theorem k0_off175_at : ∀ t : Fin k0_t6_loop.trips, t.val ≠ 0 → k0_off175 t = ![64 * (t.val - 1), 0] := by decide +kernel
theorem k0_off182_at : ∀ t : Fin k0_t6_loop.trips, t.val ≠ 0 → k0_off182 t = ![64 * (t.val - 1), 0] := by decide +kernel
theorem k0_off179_at : ∀ t : Fin k0_t6_loop.trips, k0_off179 t = ![64 * (t.val - 1), 0] := by decide +kernel
theorem k0_off186_at : ∀ t : Fin k0_t6_loop.trips, k0_off186 t = ![64 * (t.val - 1), 0] := by decide +kernel
theorem k0_off181_at : ∀ t : Fin k0_t6_loop.trips, k0_off181 t = ![64 * t.val, 0] := by decide +kernel
theorem k0_off188_at : ∀ t : Fin k0_t6_loop.trips, k0_off188 t = ![64 * t.val, 0] := by decide +kernel
theorem k0_off189_at : ∀ t : Fin k0_t6_loop.trips, t.val ≠ 0 → k0_off189 t = ![64 * (t.val - 1) + 32, 0] := by decide +kernel
theorem k0_off196_at : ∀ t : Fin k0_t6_loop.trips, t.val ≠ 0 → k0_off196 t = ![64 * (t.val - 1) + 32, 0] := by decide +kernel
theorem k0_off193_at : ∀ t : Fin k0_t6_loop.trips, k0_off193 t = ![64 * (t.val - 1) + 32, 0] := by decide +kernel
theorem k0_off200_at : ∀ t : Fin k0_t6_loop.trips, k0_off200 t = ![64 * (t.val - 1) + 32, 0] := by decide +kernel
theorem k0_off195_at : ∀ t : Fin k0_t6_loop.trips, k0_off195 t = ![64 * t.val + 32, 0] := by decide +kernel
theorem k0_off202_at : ∀ t : Fin k0_t6_loop.trips, k0_off202 t = ![64 * t.val + 32, 0] := by decide +kernel
theorem k0_cond31_at : ∀ t : Fin k0_t5_loop.trips, (k0_cond31 t = 1#1 ↔ t.val ≠ 0) := by decide +kernel
theorem k0_cond32_at : ∀ t : Fin k0_t5_loop.trips, (k0_cond32 t = 1#1 ↔ t.val ≠ 0) := by decide +kernel
theorem k0_cond34_at : ∀ t : Fin k0_t5_loop.trips, (k0_cond34 t = 1#1 ↔ t.val ≠ 0) := by decide +kernel
theorem k0_cond35_at : ∀ t : Fin k0_t5_loop.trips, (k0_cond35 t = 1#1 ↔ t.val ≠ 0) := by decide +kernel
theorem k0_cond38_at : ∀ t : Fin k0_t6_loop.trips, (k0_cond38 t = 1#1 ↔ t.val ≠ 0) := by decide +kernel
theorem k0_cond39_at : ∀ t : Fin k0_t6_loop.trips, (k0_cond39 t = 1#1 ↔ t.val ≠ 0) := by decide +kernel
theorem k0_cond41_at : ∀ t : Fin k0_t6_loop.trips, (k0_cond41 t = 1#1 ↔ t.val ≠ 0) := by decide +kernel
theorem k0_cond42_at : ∀ t : Fin k0_t6_loop.trips, (k0_cond42 t = 1#1 ↔ t.val ≠ 0) := by decide +kernel
theorem k0_cond33_at : ∀ t : Fin k0_t5_loop.trips, (k0_cond33 t = 1#1 ↔ t.val < 15) := by decide +kernel
theorem k0_cond36_at : ∀ t : Fin k0_t5_loop.trips, (k0_cond36 t = 1#1 ↔ t.val < 15) := by decide +kernel
theorem k0_cond40_at : ∀ t : Fin k0_t6_loop.trips, (k0_cond40 t = 1#1 ↔ t.val < 15) := by decide +kernel
theorem k0_cond43_at : ∀ t : Fin k0_t6_loop.trips, (k0_cond43 t = 1#1 ↔ t.val < 15) := by decide +kernel
theorem k0_cond37_at : ∀ t : Fin k0_t5_loop.trips, (k0_cond37 t = 1#1 ↔ 8 ≤ t.val) := by decide +kernel
theorem k0_cond44_at : ∀ t : Fin k0_t6_loop.trips, (k0_cond44 t = 1#1 ↔ t.val < 7) := by decide +kernel
theorem k0_cond45_at : ∀ t : Fin k0_t6_loop.trips, (k0_cond45 t = 1#1 ↔ t.val = 7) := by decide +kernel
theorem k0_chk42_at : ∀ (b : Fin 32) (t : Fin k0_t5_loop.trips), k0_chk42 t (wd b.val) := by decide +kernel
theorem k0_chk44_at : ∀ (b : Fin 32) (t : Fin k0_t5_loop.trips), k0_chk44 t (wd b.val) := by decide +kernel
theorem k0_chk45_at : ∀ (b : Fin 32) (t : Fin k0_t5_loop.trips), k0_chk45 t (wd b.val) := by decide +kernel
theorem k0_chk46_at : ∀ (b : Fin 32) (t : Fin k0_t5_loop.trips), k0_chk46 t (wd b.val) := by decide +kernel
theorem k0_chk48_at : ∀ (b : Fin 32) (t : Fin k0_t5_loop.trips), k0_chk48 t (wd b.val) := by decide +kernel
theorem k0_chk49_at : ∀ (b : Fin 32) (t : Fin k0_t5_loop.trips), k0_chk49 t (wd b.val) := by decide +kernel
theorem k0_chk50_at : ∀ (b : Fin 32) (t : Fin k0_t5_loop.trips), k0_chk50 t (wd b.val) := by decide +kernel
theorem k0_chk51_at : ∀ (b : Fin 32) (t : Fin k0_t5_loop.trips), k0_chk51 t (wd b.val) := by decide +kernel
theorem k0_chk56_at : ∀ (b : Fin 32) (t : Fin k0_t6_loop.trips), k0_chk56 t (wd b.val) := by decide +kernel
theorem k0_chk58_at : ∀ (b : Fin 32) (t : Fin k0_t6_loop.trips), k0_chk58 t (wd b.val) := by decide +kernel
theorem k0_chk59_at : ∀ (b : Fin 32) (t : Fin k0_t6_loop.trips), k0_chk59 t (wd b.val) := by decide +kernel
theorem k0_chk60_at : ∀ (b : Fin 32) (t : Fin k0_t6_loop.trips), k0_chk60 t (wd b.val) := by decide +kernel
theorem k0_chk43_at : ∀ b : Fin 32, k0_chk43 (wd b.val) := by decide +kernel
theorem k0_chk47_at : ∀ b : Fin 32, k0_chk47 (wd b.val) := by decide +kernel
theorem k0_chk52_at : ∀ b : Fin 32, k0_chk52 (wd b.val) := by decide +kernel
theorem k0_chk53_at : ∀ b : Fin 32, k0_chk53 (wd b.val) := by decide +kernel
theorem k0_chk54_at : ∀ b : Fin 32, k0_chk54 (wd b.val) := by decide +kernel
theorem k0_chk55_at : ∀ b : Fin 32, k0_chk55 (wd b.val) := by decide +kernel
theorem k0_chk57_at : ∀ b : Fin 32, k0_chk57 (wd b.val) := by decide +kernel
theorem k0_dev19_at : ∀ b : Fin 32, k0_dev19 (wd b.val) = b.val := by decide +kernel
theorem k0_dev20_at : ∀ b : Fin 32, k0_dev20 (wd b.val) = b.val := by decide +kernel
theorem k0_dev21_at : ∀ b : Fin 32, k0_dev21 (wd b.val) = b.val := by decide +kernel
theorem k0_dev22_at : ∀ b : Fin 32, k0_dev22 (wd b.val) = b.val := by decide +kernel
theorem k0_dev23_at : ∀ b : Fin 32, k0_dev23 (wd b.val) = b.val := by decide +kernel
theorem k0_dev24_at : ∀ b : Fin 32, k0_dev24 (wd b.val) = b.val := by decide +kernel
theorem k0_dev25_at : ∀ b : Fin 32, k0_dev25 (wd b.val) = b.val := by decide +kernel
theorem k0_dev26_at : ∀ b : Fin 32, k0_dev26 (wd b.val) = b.val := by decide +kernel

end Cert.KernelIdeal.Mlp
-- ==== Proof.Gather2.lean ====
/-
# A trip of the gathering loop of layer 3
-/
module

public import proofs.«01_k».proof.Proof.Walk
public import proofs.«01_k».proof.Proof.Words2

@[expose] public section

noncomputable section

namespace Cert.KernelIdeal.Mlp

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

set_option maxHeartbeats 4000000 in
theorem gather_trip2 (D : Vals F) (K : Names) (c : Dev nD) (v2 : BitVec 32) (k0_hw1 : k0_chk1 (wd (pos c))) (k0_hw2 : k0_chk2 (wd (lf c).val)) (k0_hw3 : k0_chk3 (wd (rt c).val)) (t : Fin k0_t5_loop.trips) :
    St D c K 2 (DnA t.val) (256 + 4 * t.val) (256 + 4 * (t.val - 1)) ⊢ WP c (k0_t5_body (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_stg8_0) (Memref.isWhole_whole _) (Memref.whole cc0_stg9_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 cc0_scratch13 c v2 (wd (pos c)) k0_hw1 (wd (lf c).val) k0_hw2 (wd (rt c).val) k0_hw3 t ⟨⟩)
      (fun _ => St D c K 2 (DnA (t.val + 1)) (256 + 4 * (t.val + 1)) (256 + 4 * t.val)) := by
  have ht : t.val < 16 := t.isLt
  refine W_pre (R := St D c K 2 (DnA t.val) (256 + 4 * t.val + 0) (256 + kj t.val 0)) (St_to rfl (by rw [kj_first])) ?_
  have hb0 := kj_le t.val (show 0 ≤ 4 by omega)
  have hb1 := kj_le t.val (show 1 ≤ 4 by omega)
  have hb2 := kj_le t.val (show 2 ≤ 4 by omega)
  have hb3 := kj_le t.val (show 3 ≤ 4 by omega)
  have hb4 := kj_le t.val (show 4 ≤ 4 by omega)
  refine W_bind ?_
  rw [k0_part16_eq_skeleton]
  unfold k0_part16_skel
  refine W_if (R := St D c K 2 (DnA t.val) (256 + 4 * t.val + 0) (256 + kj t.val 1)) ?_ (fun h hx => ?_) (fun h => ?_)
  rotate_left
  · have h0 := (k0_cond31_at t).mp h
    have hk := kj_pos h0 0
    have hk' := kj_pos h0 1
    have e : 256 + kj t.val 1 = 256 + kj t.val 0 + 1 := by omega
    rw [e] at hx
    clear hk'
    refine W_blk SG_tabs (33 - t.val) (k0_off141_at ⟨pos c, pos_lt c⟩ t) rfl ?_
    refine W_assume (k0_chk42_at (blk c (33 - t.val)) t) ?_
    refine W_waitSend (by simp only [Valid]; omega) (by omega) (by omega) (by omega) (by omega) (sgR ⟨by omega, by omega⟩ rfl (by omega)) rfl ?_
    refine W_recvAG (by omega) (by omega) (by simp only [Valid]; omega) (by omega) (by omega) (by omega) (by omega) (rgR ⟨by omega, by omega⟩ (k0_off143_at t h0) (by omega)) rfl ?_
    exact hx
  · have h0 : t.val = 0 := by
      by_cases h0 : t.val = 0
      · exact h0
      · exact absurd ((k0_cond31_at t).mpr h0) h
    exact St_to rfl (congrArg (256 + ·) (kj_zero h0 0 1))
  refine W_blk (b := xSrc c (256 + 4 * t.val + 0)) SG_tabs (32 - t.val) (k0_off144_at ⟨pos c, pos_lt c⟩ t) (xSrc_e (by omega) (by omega)) ?_
  refine W_assume (k0_chk43_at (xSrc c (256 + 4 * t.val + 0))) ?_
  refine W_issueAG (by simp only [Valid]; omega) (by omega) (by omega) (by omega) (by omega) (by omega) (dv_rt (k0_dev19_at (rt c)) (by omega)) (sgR ⟨by omega, by omega⟩ rfl (by omega)) (rgR ⟨by omega, by omega⟩ (k0_off145_at t) (by omega)) (row0 (k0_off146_at (xSrc c (256 + 4 * t.val + 0))) (by omega)) ?_
  refine W_if (R := St D c K 2 (DnA t.val) (256 + 4 * t.val + 1) (256 + kj t.val 2)) ?_ (fun h hx => ?_) (fun h => ?_)
  rotate_left
  · have h0 := (k0_cond32_at t).mp h
    have hk := kj_pos h0 1
    have hk' := kj_pos h0 2
    have e : 256 + kj t.val 2 = 256 + kj t.val 1 + 1 := by omega
    rw [e] at hx
    clear hk'
    refine W_blk SG_tabs (31 + t.val) (k0_off147_at ⟨pos c, pos_lt c⟩ t) rfl ?_
    refine W_assume (k0_chk44_at (blk c (31 + t.val)) t) ?_
    refine W_waitSend (by simp only [Valid]; omega) (by omega) (by omega) (by omega) (by omega) (sgL ⟨by omega, by omega⟩ rfl (by omega)) rfl ?_
    refine W_recvAG (by omega) (by omega) (by simp only [Valid]; omega) (by omega) (by omega) (by omega) (by omega) (rgL ⟨by omega, by omega, by omega⟩ (k0_off149_at t h0) (by omega)) rfl ?_
    exact hx
  · have h0 : t.val = 0 := by
      by_cases h0 : t.val = 0
      · exact h0
      · exact absurd ((k0_cond32_at t).mpr h0) h
    exact St_to rfl (congrArg (256 + ·) (kj_zero h0 1 2))
  refine W_if (R := St D c K 2 (DnA t.val) (256 + 4 * t.val + 2) (256 + kj t.val 2)) ?_ (fun h hx => ?_) (fun h => ?_)
  rotate_left
  · have h0 := (k0_cond33_at t).mp h
    refine W_blk (b := xSrc c (256 + 4 * t.val + 1)) SG_tabs (t.val) (k0_off150_at ⟨pos c, pos_lt c⟩ t) (xSrc_o (by omega) (by omega)) ?_
    refine W_assume (k0_chk45_at (xSrc c (256 + 4 * t.val + 1)) t) ?_
    refine W_issueAG (by simp only [Valid]; omega) (by omega) (by omega) (by omega) (by omega) (by omega) (dv_lf (k0_dev20_at (lf c)) (by omega)) (sgL ⟨by omega, by omega⟩ rfl (by omega)) (rgL ⟨by omega, by omega, by omega⟩ (k0_off151_at t) (by omega)) (row0 (k0_off152_at (xSrc c (256 + 4 * t.val + 1))) (by omega)) ?_
    exact hx
  · have h0 : t.val = 15 := by
      by_cases h0 : t.val < 15
      · exact absurd ((k0_cond33_at t).mpr h0) h
      · omega
    exact ent_of_eq (St_skip (by simp only [Valid]; omega) (by omega) (by omega) (by omega))
  refine W_if (R := St D c K 2 (DnA t.val) (256 + 4 * t.val + 2) (256 + kj t.val 3)) ?_ (fun h hx => ?_) (fun h => ?_)
  rotate_left
  · have h0 := (k0_cond34_at t).mp h
    have hk := kj_pos h0 2
    have hk' := kj_pos h0 3
    have e : 256 + kj t.val 3 = 256 + kj t.val 2 + 1 := by omega
    rw [e] at hx
    clear hk'
    refine W_blk SG_tabs (33 - t.val) (k0_off153_at ⟨pos c, pos_lt c⟩ t) rfl ?_
    refine W_assume (k0_chk46_at (blk c (33 - t.val)) t) ?_
    refine W_waitSend (by simp only [Valid]; omega) (by omega) (by omega) (by omega) (by omega) (sgR ⟨by omega, by omega⟩ rfl (by omega)) rfl ?_
    refine W_recvAG (by omega) (by omega) (by simp only [Valid]; omega) (by omega) (by omega) (by omega) (by omega) (rgR ⟨by omega, by omega⟩ (k0_off155_at t h0) (by omega)) rfl ?_
    exact hx
  · have h0 : t.val = 0 := by
      by_cases h0 : t.val = 0
      · exact h0
      · exact absurd ((k0_cond34_at t).mpr h0) h
    exact St_to rfl (congrArg (256 + ·) (kj_zero h0 2 3))
  refine W_pure ?_
  refine W_blk (b := xSrc c (256 + 4 * t.val + 2)) SG_tabs (32 - t.val) (k0_off156_at ⟨pos c, pos_lt c⟩ t) (xSrc_e (by omega) (by omega)) ?_
  refine W_assume (k0_chk47_at (xSrc c (256 + 4 * t.val + 2))) ?_
  refine W_issueAG (by simp only [Valid]; omega) (by omega) (by omega) (by omega) (by omega) (by omega) (dv_rt (k0_dev21_at (rt c)) (by omega)) (sgR ⟨by omega, by omega⟩ rfl (by omega)) (rgR ⟨by omega, by omega⟩ (k0_off157_at t) (by omega)) (row1 (k0_off158_at (xSrc c (256 + 4 * t.val + 2))) (by omega)) ?_
  refine W_if (R := St D c K 2 (DnA t.val) (256 + 4 * t.val + 3) (256 + kj t.val 4)) ?_ (fun h hx => ?_) (fun h => ?_)
  rotate_left
  · have h0 := (k0_cond35_at t).mp h
    have hk := kj_pos h0 3
    have hk' := kj_pos h0 4
    have e : 256 + kj t.val 4 = 256 + kj t.val 3 + 1 := by omega
    rw [e] at hx
    clear hk'
    refine W_blk SG_tabs (31 + t.val) (k0_off159_at ⟨pos c, pos_lt c⟩ t) rfl ?_
    refine W_assume (k0_chk48_at (blk c (31 + t.val)) t) ?_
    refine W_waitSend (by simp only [Valid]; omega) (by omega) (by omega) (by omega) (by omega) (sgL ⟨by omega, by omega⟩ rfl (by omega)) rfl ?_
    refine W_recvAG (by omega) (by omega) (by simp only [Valid]; omega) (by omega) (by omega) (by omega) (by omega) (rgL ⟨by omega, by omega, by omega⟩ (k0_off161_at t h0) (by omega)) rfl ?_
    exact hx
  · have h0 : t.val = 0 := by
      by_cases h0 : t.val = 0
      · exact h0
      · exact absurd ((k0_cond35_at t).mpr h0) h
    exact St_to rfl (congrArg (256 + ·) (kj_zero h0 3 4))
  refine W_if (R := St D c K 2 (DnA t.val) (256 + 4 * t.val + 4) (256 + kj t.val 4)) ?_ (fun h hx => ?_) (fun h => ?_)
  rotate_left
  · have h0 := (k0_cond36_at t).mp h
    refine W_blk (b := xSrc c (256 + 4 * t.val + 3)) SG_tabs (t.val) (k0_off162_at ⟨pos c, pos_lt c⟩ t) (xSrc_o (by omega) (by omega)) ?_
    refine W_assume (k0_chk49_at (xSrc c (256 + 4 * t.val + 3)) t) ?_
    refine W_issueAG (by simp only [Valid]; omega) (by omega) (by omega) (by omega) (by omega) (by omega) (dv_lf (k0_dev22_at (lf c)) (by omega)) (sgL ⟨by omega, by omega⟩ rfl (by omega)) (rgL ⟨by omega, by omega, by omega⟩ (k0_off163_at t) (by omega)) (row1 (k0_off164_at (xSrc c (256 + 4 * t.val + 3))) (by omega)) ?_
    exact hx
  · have h0 : t.val = 15 := by
      by_cases h0 : t.val < 15
      · exact absurd ((k0_cond36_at t).mpr h0) h
      · omega
    exact ent_of_eq (St_skip (by simp only [Valid]; omega) (by omega) (by omega) (by omega))
  have h4 := kj_four t.val
  refine W_if (R := St D c K 2 (DnA (t.val + 1)) (256 + 4 * (t.val + 1)) (256 + kj t.val 4)) ?_ (fun h hx => ?_) (fun h => ?_)
  rotate_left
  · have h0 := (k0_cond37_at t).mp h
    refine W_bind ?_
    rw [k0_part15_eq_skeleton]
    unfold k0_part15_skel
    refine W_blk SG_tabs (32 - t.val) (k0_off165_at ⟨pos c, pos_lt c⟩ t) rfl ?_
    refine W_assume (k0_chk50_at (blk c (32 - t.val)) t) ?_
    refine W_ldBlk (SG_at (j := 32 - t.val) (i := 4 * (t.val - 1)) (xDst_e (by omega) (by omega)) (by omega) (by omega) (by simp only [XHeld, Valid, cnt, gv]; omega) (by simp only [XHeld, Valid, cnt, gv]; omega) (by simp only [cnt]; omega) (by simp only [cnt]; omega)) (k0_off166_at (blk c (32 - t.val))) ?_
    refine W_ld_wi2 SG_wi2 ?_
    refine W_ld_wo2 SG_wo2 ?_
    refine W_ldPany SG_p (fun _ => ?_)
    refine W_stP (32 - t.val) (fun j => DnA t.val j ∨ j = 32 - t.val) (fun _ h => h) (k0_off166_at (blk c (32 - t.val))) rfl ?_
    refine W_blk SG_tabs t.val (k0_off167_at ⟨pos c, pos_lt c⟩ t) rfl ?_
    refine W_assume (k0_chk51_at (blk c t.val) t) ?_
    refine W_ldBlk (SG_at (j := t.val) (i := 4 * (t.val - 1) + 1) (xDst_o (by omega) (by omega)) (by omega) (by omega) (by simp only [XHeld, Valid, cnt, gv]; omega) (by simp only [XHeld, Valid, cnt, gv]; omega) (by simp only [cnt]; omega) (by simp only [cnt]; omega)) (k0_off168_at (blk c t.val)) ?_
    refine W_ld_wi2 SG_wi2 ?_
    refine W_pure ?_
    refine W_ld_wo2 SG_wo2 ?_
    refine W_ldPany SG_p (fun _ => ?_)
    refine W_stP t.val (DnA (t.val + 1)) (fun j hj => ?_) (k0_off168_at (blk c t.val)) rfl ?_
    · simp only [DnA] at hj ⊢; omega
    exact hx
  · have h0 : t.val < 8 := by
      by_cases h0 : 8 ≤ t.val
      · exact absurd ((k0_cond37_at t).mpr h0) h
      · omega
    refine St_mono (fun j hj => ?_) rfl rfl
    simp only [DnA] at hj ⊢; omega
  exact W_pure (St_to rfl (by rw [kj_four]))

end Cert.KernelIdeal.Mlp
-- ==== Proof.Reduce2.lean ====
/-
# A trip of the reducing loop of layer 3
-/
module

public import proofs.«01_k».proof.Proof.Walk2
public import proofs.«01_k».proof.Proof.Words2

@[expose] public section

noncomputable section

namespace Cert.KernelIdeal.Mlp

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

theorem sum_pay42 (t : Fin k0_t6_loop.trips) (p : S32x1024.Idx → F .f32) (r : S32x1024.Idx → F .bf16) :
    k0_pay42 p (Scalar.cmpi .eq (Scf.iv 0#32 1#32 t.val) 0#32) (k0_pay25 p r) = stepSum t.val p r := by
  refine Eq.trans ?_ (stepSum_sel (show Fin 16 from t) p r)
  rw [← iv_eq (show Fin 16 from t)]
  rfl
theorem k0_off207_at : ∀ b : Dev nD, k0_off207 b = ![64 * b.val, 0] := by decide +kernel

set_option maxHeartbeats 8000000 in
theorem reduce_trip2 (D : Vals F) (K : Names) (c : Dev nD) (v2 : BitVec 32) (k0_hw1 : k0_chk1 (wd (pos c))) (k0_hw2 : k0_chk2 (wd (lf c).val)) (k0_hw3 : k0_chk3 (wd (rt c).val)) (t : Fin k0_t6_loop.trips) :
    St D c K 2 (DnB t.val) (320 + 4 * t.val) (320 + 4 * (t.val - 1)) ⊢ WP c (k0_t6_body (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_stg8_0) (Memref.isWhole_whole _) (Memref.whole cc0_stg9_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 cc0_scratch13 c v2 (wd (pos c)) k0_hw1 (wd (lf c).val) k0_hw2 (wd (rt c).val) k0_hw3 t ⟨⟩)
      (fun _ => St D c K 2 (DnB (t.val + 1)) (320 + 4 * (t.val + 1)) (320 + 4 * t.val)) := by
  have ht : t.val < 16 := t.isLt
  refine W_pre (R := St D c K 2 (DnB t.val) (320 + 4 * t.val + 0) (320 + kj t.val 0)) (St_to rfl (by rw [kj_first])) ?_
  have hb0 := kj_le t.val (show 0 ≤ 4 by omega)
  have hb1 := kj_le t.val (show 1 ≤ 4 by omega)
  have hb2 := kj_le t.val (show 2 ≤ 4 by omega)
  have hb3 := kj_le t.val (show 3 ≤ 4 by omega)
  have hb4 := kj_le t.val (show 4 ≤ 4 by omega)
  refine W_bind ?_
  rw [k0_part20_eq_skeleton]
  unfold k0_part20_skel
  refine W_if (R := St D c K 2 (DnB t.val) (320 + 4 * t.val + 0) (320 + kj t.val 1)) ?_ (fun h hx => ?_) (fun h => ?_)
  rotate_left
  · have h0 := (k0_cond38_at t).mp h
    have hk := kj_pos h0 0
    have hk' := kj_pos h0 1
    have e : 320 + kj t.val 1 = 320 + kj t.val 0 + 1 := by omega
    rw [e] at hx
    clear hk'
    refine W_waitSend (by simp only [Valid]; omega) (by omega) (by omega) (by omega) (by omega) (srL ⟨by omega, by omega⟩ rfl (by omega)) rfl ?_
    refine W_recvRS (by omega) (by simp only [Valid]; omega) (by omega) (by omega) (by omega) (by omega) (rrL ⟨by omega, by omega⟩ (k0_off176_at t h0) (by omega)) rfl ?_
    exact hx
  · have h0 : t.val = 0 := by
      by_cases h0 : t.val = 0
      · exact h0
      · exact absurd ((k0_cond38_at t).mpr h0) h
    exact St_to rfl (congrArg (320 + ·) (kj_zero h0 0 1))
  refine W_blk (b := blk c (16 + t.val)) SG_tabs (16 + t.val) (k0_off177_at ⟨pos c, pos_lt c⟩ t) rfl ?_
  refine W_assume (k0_chk55_at (blk c (16 + t.val))) ?_
  refine W_ldP32 (j := 16 + t.val) (h := 0) (by omega) (by simp only [DnB]; omega) SG_p (row_h0 (k0_off178_at (blk c (16 + t.val)))) ?_
  refine W_ldSumL (t := t.val) (j := 0) (by omega) ht (fun h0 => ?_) (fun h0 => ?_) (k0_off179_at t) (fun r hr => ?_)
  · have hk := kj_pos h0 1
    simp only [SHeld, Valid, cnt]; omega
  · have hk := kj_pos h0 1
    simp only [cnt]; omega
  refine W_ldBL (by omega) (by simp only [Valid]; omega) (by omega) (by omega) (by omega) (by omega) (offb (h := 0) (by omega)) (fun _ => ?_)
  refine W_stBL (by omega) (by simp only [Valid]; omega) (by omega) (by omega) (by omega) (by omega) (offb (h := 0) (by omega)) ?_ ?_
  · rw [show (320 + 4 * t.val + 0) / 128 = 2 by omega, show (320 + 4 * t.val + 0) % 64 / 4 = t.val by omega, show (320 + 4 * t.val + 0) % 4 / 2 = 0 by omega]
    refine (sum_pay24 t _ _).trans ?_
    exact sum_left D c (m := 64 + 4 * (t.val - 1) + 0) (by omega) hr
  refine W_pure ?_
  refine W_bind ?_
  rw [k0_part21_eq_skeleton]
  unfold k0_part21_skel
  refine W_issue_sl (by omega) (by simp only [Valid]; omega) (by omega) (by omega) (by omega) (by omega) (dv_lf (k0_dev23_at (lf c)) (by omega)) (srL ⟨by omega, by omega⟩ rfl (by omega)) (rrL ⟨by omega, by omega⟩ (k0_off180_at t) (by omega)) (offb (h := 0) (by omega)) (row_s0 (k0_off181_at t) (by omega) (by omega)) ?_
  refine W_if (R := St D c K 2 (DnB t.val) (320 + 4 * t.val + 1) (320 + kj t.val 2)) ?_ (fun h hx => ?_) (fun h => ?_)
  rotate_left
  · have h0 := (k0_cond39_at t).mp h
    have hk := kj_pos h0 1
    have hk' := kj_pos h0 2
    have e : 320 + kj t.val 2 = 320 + kj t.val 1 + 1 := by omega
    rw [e] at hx
    clear hk'
    refine W_waitSend (by simp only [Valid]; omega) (by omega) (by omega) (by omega) (by omega) (srR ⟨by omega, by omega⟩ rfl (by omega)) rfl ?_
    refine W_recvRS (by omega) (by simp only [Valid]; omega) (by omega) (by omega) (by omega) (by omega) (rrR ⟨by omega, by omega, by omega⟩ (k0_off183_at t h0) (by omega)) rfl ?_
    exact hx
  · have h0 : t.val = 0 := by
      by_cases h0 : t.val = 0
      · exact h0
      · exact absurd ((k0_cond39_at t).mpr h0) h
    exact St_to rfl (congrArg (320 + ·) (kj_zero h0 1 2))
  refine W_if (R := St D c K 2 (DnB t.val) (320 + 4 * t.val + 2) (320 + kj t.val 2)) ?_ (fun h hx => ?_) (fun h => ?_)
  rotate_left
  · have h0 := (k0_cond40_at t).mp h
    refine W_bind ?_
    rw [k0_part17_eq_skeleton]
    unfold k0_part17_skel
    refine W_blk (b := blk c (15 - t.val)) SG_tabs (47 - t.val) (k0_off184_at ⟨pos c, pos_lt c⟩ t) (blk_congr c (by omega)) ?_
    refine W_assume (k0_chk56_at (blk c (15 - t.val)) t) ?_
    refine W_ldP32 (j := 15 - t.val) (h := 0) (by omega) (by simp only [DnB]; omega) SG_p (row_h0 (k0_off185_at (blk c (15 - t.val)))) ?_
    refine W_ldSumR (t := t.val) (j := 1) (by omega) ht (fun h0 => ?_) (fun h0 => ?_) (k0_off186_at t) (fun r hr => ?_)
    · have hk := kj_pos h0 2
      simp only [SHeld, Valid, cnt]; omega
    · have hk := kj_pos h0 2
      simp only [cnt]; omega
    refine W_ldBR (by omega) (by simp only [Valid]; omega) (by omega) (by omega) (by omega) (by omega) (offb (h := 0) (by omega)) (fun _ => ?_)
    refine W_stBR (by omega) (by simp only [Valid]; omega) (by omega) (by omega) (by omega) (by omega) (offb (h := 0) (by omega)) ?_ ?_
    · rw [show (320 + 4 * t.val + 1) / 128 = 2 by omega, show (320 + 4 * t.val + 1) % 64 / 4 = t.val by omega, show (320 + 4 * t.val + 1) % 4 / 2 = 0 by omega]
      rw [iv_eq (show Fin 16 from t)]; refine (sum_pay20 (show Fin 16 from t) _ _).trans ?_
      exact sum_right' (m := 64 + 4 * (t.val - 1) + 1) (by omega) (by omega) hr
    refine W_pure ?_
    refine W_issue_sr (by omega) (by simp only [Valid]; omega) (by omega) (by omega) (by omega) (by omega) (dv_rt (k0_dev24_at (rt c)) (by omega)) (srR ⟨by omega, by omega⟩ rfl (by omega)) (rrR ⟨by omega, by omega, by omega⟩ (k0_off187_at t) (by omega)) (offb (h := 0) (by omega)) (row_s0 (k0_off188_at t) (by omega) (by omega)) ?_
    exact hx
  · have h0 : t.val = 15 := by
      by_cases h0 : t.val < 15
      · exact absurd ((k0_cond40_at t).mpr h0) h
      · omega
    exact ent_of_eq (St_skip (by simp only [Valid]; omega) (by omega) (by omega) (by omega))
  refine W_if (R := St D c K 2 (DnB t.val) (320 + 4 * t.val + 2) (320 + kj t.val 3)) ?_ (fun h hx => ?_) (fun h => ?_)
  rotate_left
  · have h0 := (k0_cond41_at t).mp h
    have hk := kj_pos h0 2
    have hk' := kj_pos h0 3
    have e : 320 + kj t.val 3 = 320 + kj t.val 2 + 1 := by omega
    rw [e] at hx
    clear hk'
    refine W_waitSend (by simp only [Valid]; omega) (by omega) (by omega) (by omega) (by omega) (srL ⟨by omega, by omega⟩ rfl (by omega)) rfl ?_
    refine W_recvRS (by omega) (by simp only [Valid]; omega) (by omega) (by omega) (by omega) (by omega) (rrL ⟨by omega, by omega⟩ (k0_off190_at t h0) (by omega)) rfl ?_
    exact hx
  · have h0 : t.val = 0 := by
      by_cases h0 : t.val = 0
      · exact h0
      · exact absurd ((k0_cond41_at t).mpr h0) h
    exact St_to rfl (congrArg (320 + ·) (kj_zero h0 2 3))
  refine W_blk (b := blk c (16 + t.val)) SG_tabs (16 + t.val) (k0_off191_at ⟨pos c, pos_lt c⟩ t) rfl ?_
  refine W_assume (k0_chk57_at (blk c (16 + t.val))) ?_
  refine W_ldP32 (j := 16 + t.val) (h := 1) (by omega) (by simp only [DnB]; omega) SG_p (k0_off192_at (blk c (16 + t.val))) ?_
  refine W_ldSumL (t := t.val) (j := 2) (by omega) ht (fun h0 => ?_) (fun h0 => ?_) (k0_off193_at t) (fun r hr => ?_)
  · have hk := kj_pos h0 3
    simp only [SHeld, Valid, cnt]; omega
  · have hk := kj_pos h0 3
    simp only [cnt]; omega
  refine W_pure ?_
  refine W_ldBL (by omega) (by simp only [Valid]; omega) (by omega) (by omega) (by omega) (by omega) (offb (h := 1) (by omega)) (fun _ => ?_)
  refine W_stBL (by omega) (by simp only [Valid]; omega) (by omega) (by omega) (by omega) (by omega) (offb (h := 1) (by omega)) ?_ ?_
  · rw [show (320 + 4 * t.val + 2) / 128 = 2 by omega, show (320 + 4 * t.val + 2) % 64 / 4 = t.val by omega, show (320 + 4 * t.val + 2) % 4 / 2 = 1 by omega]
    refine (sum_pay42 t _ _).trans ?_
    exact sum_left D c (m := 64 + 4 * (t.val - 1) + 2) (by omega) hr
  refine W_issue_sl (by omega) (by simp only [Valid]; omega) (by omega) (by omega) (by omega) (by omega) (dv_lf (k0_dev25_at (lf c)) (by omega)) (srL ⟨by omega, by omega⟩ rfl (by omega)) (rrL ⟨by omega, by omega⟩ (k0_off194_at t) (by omega)) (offb (h := 1) (by omega)) (row_s1 (k0_off195_at t) (by omega) (by omega)) ?_
  refine W_if (R := St D c K 2 (DnB t.val) (320 + 4 * t.val + 3) (320 + kj t.val 4)) ?_ (fun h hx => ?_) (fun h => ?_)
  rotate_left
  · have h0 := (k0_cond42_at t).mp h
    have hk := kj_pos h0 3
    have hk' := kj_pos h0 4
    have e : 320 + kj t.val 4 = 320 + kj t.val 3 + 1 := by omega
    rw [e] at hx
    clear hk'
    refine W_waitSend (by simp only [Valid]; omega) (by omega) (by omega) (by omega) (by omega) (srR ⟨by omega, by omega⟩ rfl (by omega)) rfl ?_
    refine W_recvRS (by omega) (by simp only [Valid]; omega) (by omega) (by omega) (by omega) (by omega) (rrR ⟨by omega, by omega, by omega⟩ (k0_off197_at t h0) (by omega)) rfl ?_
    exact hx
  · have h0 : t.val = 0 := by
      by_cases h0 : t.val = 0
      · exact h0
      · exact absurd ((k0_cond42_at t).mpr h0) h
    exact St_to rfl (congrArg (320 + ·) (kj_zero h0 3 4))
  refine W_if (R := St D c K 2 (DnB t.val) (320 + 4 * t.val + 4) (320 + kj t.val 4)) ?_ (fun h hx => ?_) (fun h => ?_)
  rotate_left
  · have h0 := (k0_cond43_at t).mp h
    refine W_bind ?_
    rw [k0_part18_eq_skeleton]
    unfold k0_part18_skel
    refine W_blk (b := blk c (15 - t.val)) SG_tabs (47 - t.val) (k0_off198_at ⟨pos c, pos_lt c⟩ t) (blk_congr c (by omega)) ?_
    refine W_assume (k0_chk58_at (blk c (15 - t.val)) t) ?_
    refine W_ldP32 (j := 15 - t.val) (h := 1) (by omega) (by simp only [DnB]; omega) SG_p (k0_off199_at (blk c (15 - t.val))) ?_
    refine W_ldSumR (t := t.val) (j := 3) (by omega) ht (fun h0 => ?_) (fun h0 => ?_) (k0_off200_at t) (fun r hr => ?_)
    · have hk := kj_pos h0 4
      simp only [SHeld, Valid, cnt]; omega
    · have hk := kj_pos h0 4
      simp only [cnt]; omega
    refine W_ldBR (by omega) (by simp only [Valid]; omega) (by omega) (by omega) (by omega) (by omega) (offb (h := 1) (by omega)) (fun _ => ?_)
    refine W_stBR (by omega) (by simp only [Valid]; omega) (by omega) (by omega) (by omega) (by omega) (offb (h := 1) (by omega)) ?_ ?_
    · rw [show (320 + 4 * t.val + 3) / 128 = 2 by omega, show (320 + 4 * t.val + 3) % 64 / 4 = t.val by omega, show (320 + 4 * t.val + 3) % 4 / 2 = 1 by omega]
      rw [iv_eq (show Fin 16 from t)]; refine (sum_pay21 (show Fin 16 from t) _ _).trans ?_
      exact sum_right' (m := 64 + 4 * (t.val - 1) + 3) (by omega) (by omega) hr
    refine W_pure ?_
    refine W_issue_sr (by omega) (by simp only [Valid]; omega) (by omega) (by omega) (by omega) (by omega) (dv_rt (k0_dev26_at (rt c)) (by omega)) (srR ⟨by omega, by omega⟩ rfl (by omega)) (rrR ⟨by omega, by omega, by omega⟩ (k0_off201_at t) (by omega)) (offb (h := 1) (by omega)) (row_s1 (k0_off202_at t) (by omega) (by omega)) ?_
    exact hx
  · have h0 : t.val = 15 := by
      by_cases h0 : t.val < 15
      · exact absurd ((k0_cond43_at t).mpr h0) h
      · omega
    exact ent_of_eq (St_skip (by simp only [Valid]; omega) (by omega) (by omega) (by omega))
  have h4 := kj_four t.val
  refine W_if (R := St D c K 2 (fun j => DnB t.val j ∨ (t.val < 7 ∧ (j = 7 - t.val ∨ j = 25 + t.val))) (320 + 4 * (t.val + 1)) (320 + kj t.val 4)) ?_ (fun h hx => ?_) (fun h => ?_)
  rotate_left
  · have h0 := (k0_cond44_at t).mp h
    refine W_bind ?_
    rw [k0_part19_eq_skeleton]
    unfold k0_part19_skel
    refine W_blk (b := blk c (7 - t.val)) SG_tabs (39 - t.val) (k0_off203_at ⟨pos c, pos_lt c⟩ t) (blk_congr c (by omega)) ?_
    refine W_assume (k0_chk59_at (blk c (7 - t.val)) t) ?_
    refine W_ldBlk (SG_at (j := 7 - t.val) (i := 4 * (6 - t.val) + 1) (xDst_o (by omega) (by omega)) (by omega) (by omega) (by simp only [XHeld, Valid, cnt, gv]; omega) (by simp only [XHeld, Valid, cnt, gv]; omega) (by simp only [cnt]; omega) (by simp only [cnt]; omega)) (k0_off204_at (blk c (7 - t.val))) ?_
    refine W_ld_wi2 SG_wi2 ?_
    refine W_ld_wo2 SG_wo2 ?_
    refine W_ldPany SG_p (fun _ => ?_)
    refine W_stP (7 - t.val) (fun j => DnB t.val j ∨ j = 7 - t.val) (fun _ h => h) (k0_off204_at (blk c (7 - t.val))) rfl ?_
    refine W_blk SG_tabs (25 + t.val) (k0_off205_at ⟨pos c, pos_lt c⟩ t) rfl ?_
    refine W_assume (k0_chk60_at (blk c (25 + t.val)) t) ?_
    refine W_ldBlk (SG_at (j := 25 + t.val) (i := 4 * (6 - t.val)) (xDst_e (by omega) (by omega)) (by omega) (by omega) (by simp only [XHeld, Valid, cnt, gv]; omega) (by simp only [XHeld, Valid, cnt, gv]; omega) (by simp only [cnt]; omega) (by simp only [cnt]; omega)) (k0_off206_at (blk c (25 + t.val))) ?_
    refine W_ld_wi2 SG_wi2 ?_
    refine W_pure ?_
    refine W_ld_wo2 SG_wo2 ?_
    refine W_ldPany SG_p (fun _ => ?_)
    refine W_stP (25 + t.val) (fun j => DnB t.val j ∨ (t.val < 7 ∧ (j = 7 - t.val ∨ j = 25 + t.val))) (fun j hj => ?_) (k0_off206_at (blk c (25 + t.val))) rfl ?_
    · simp only [DnB] at hj ⊢; omega
    exact hx
  · have h0 : ¬t.val < 7 := fun h0 => absurd ((k0_cond44_at t).mpr h0) h
    refine St_mono (fun j hj => ?_) rfl rfl
    simp only [DnB] at hj ⊢; omega
  refine W_if (R := St D c K 2 (DnB (t.val + 1)) (320 + 4 * (t.val + 1)) (320 + kj t.val 4)) ?_ (fun h hx => ?_) (fun h => ?_)
  rotate_left
  · have h0 := (k0_cond45_at t).mp h
    refine W_ldBlk SG_own (k0_off207_at c) ?_
    refine W_ld_wi2 SG_wi2 ?_
    refine W_ld_wo2 SG_wo2 ?_
    refine W_ldPany SG_p (fun _ => ?_)
    refine W_stP 0 (DnB (t.val + 1)) (fun j hj => ?_) (by rw [blk_zero]; exact k0_off207_at c) (by rw [blk_zero]; rfl) ?_
    · simp only [DnB] at hj ⊢; omega
    exact hx
  · have h0 : ¬t.val = 7 := fun h0 => absurd ((k0_cond45_at t).mpr h0) h
    refine St_mono (fun j hj => ?_) rfl rfl
    simp only [DnB] at hj ⊢; omega
  exact W_pure (St_to rfl (by rw [kj_four]))

end Cert.KernelIdeal.Mlp
-- ==== Proof.Layer2.lean ====
/-
# The third layer, loop by loop
-/
module

public import proofs.«01_k».proof.Proof.Walk3
public import proofs.«01_k».proof.Proof.Words3
public import proofs.«01_k».proof.Proof.Gather2
public import proofs.«01_k».proof.Proof.Reduce2
public import proofs.«01_k».proof.Proof.Words1

@[expose] public section

noncomputable section

namespace Cert.KernelIdeal.Mlp

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

set_option maxHeartbeats 4000000 in
theorem run_part29 (D : Vals F) (K : Names) (c : Dev nD) (v2 : BitVec 32) (k0_hw1 : k0_chk1 (wd (pos c))) (k0_hw2 : k0_chk2 (wd (lf c).val)) (k0_hw3 : k0_chk3 (wd (rt c).val))
    {Q : (Σ' (v216 : Elt F .i32), k0_chk52 v216) → sProp 𝕄} (H : ∀ h, St D c K 2 (DnA 16) 320 316 ⊢ Q ⟨wd (blk c 17).val, h⟩) :
    St D c K 1 (DnB 16) 256 254 ⊢ WP c (k0_part29 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_stg8_0) (Memref.isWhole_whole _) (Memref.whole cc0_stg9_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 cc0_scratch13 c v2 (wd (pos c)) k0_hw1 (wd (lf c).val) k0_hw2 (wd (rt c).val) k0_hw3) Q := by
  rw [k0_part29_eq_skeleton]
  unfold k0_part29_skel
  refine W_waitSend (by decide) (by omega) (by omega) (by omega) (by omega) (srL (m := 254) ⟨by omega, by omega⟩ rfl (by omega)) rfl ?_
  refine W_recvRS (by omega) (by decide) (by omega) (by omega) (by omega) (by omega) (rrL (m := 254) ⟨by omega, by omega⟩ rfl (by omega)) rfl ?_
  refine W_pre (ent_of_eq (St_skip' (n := 256) (k := 255) (by decide) (by omega) (by omega) (by omega))) ?_
  refine W_ldP0 (.inr (.inr (.inr ⟨by decide, rfl⟩))) (k0_off140_at c) ?_
  refine W_ldLast_r (by omega) rfl ?_
  refine W_ldLast_l (by omega) rfl ?_
  refine W_pre St_ownAny ?_
  refine W_ldOwn (k0_off140_at c) (fun _ => ?_)
  refine W_stOwn (k0_off140_at c) fin_pay39 ?_
  refine W_pre (R := St D c K 2 (DnA 0) (256 + 4 * 0) (256 + 4 * (0 - 1))) (St_mono (fun j hj => by simp only [DnA] at hj; omega) rfl rfl) ?_
  refine W_loop (I := fun t => St D c K 2 (DnA t) (256 + 4 * t) (256 + 4 * (t - 1))) (N := 16) rfl (fun t => gather_trip2 D K c v2 k0_hw1 k0_hw2 k0_hw3 t) ?_
  refine W_pre (St_to (n' := 320) (k' := 316) rfl rfl) ?_
  refine W_blk SG_tabs 17 (k0_off169_at ⟨pos c, pos_lt c⟩) rfl ?_
  refine W_assume (k0_chk52_at (blk c 17)) ?_
  exact W_pure (H _)

set_option maxHeartbeats 4000000 in
theorem run_part30 (D : Vals F) (K : Names) (c : Dev nD) (v14 : BitVec 32) (k0_hw1 : k0_chk1 (wd (pos c))) (k0_hw52 : k0_chk52 (wd (blk c 17).val))
    {Q : PUnit → sProp 𝕄} (H : St D c K 2 (DnA 16) 320 320 ⊢ Q ⟨⟩) :
    St D c K 2 (DnA 16) 320 316 ⊢ WP c (k0_part30 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_stg8_0) (Memref.isWhole_whole _) (Memref.whole cc0_stg9_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 cc0_scratch13 (wd (pos c)) k0_hw1 v14 (wd (blk c 17).val) k0_hw52) Q := by
  rw [k0_part30_eq_skeleton]
  unfold k0_part30_skel
  refine W_waitSend (by decide) (by omega) (by omega) (by omega) (by omega) (sgR (m := 316) ⟨by omega, by omega⟩ rfl (by omega)) rfl ?_
  refine W_recvAG (by omega) (by omega) (by decide) (by omega) (by omega) (by omega) (by omega) (rgR (m := 316) ⟨by omega, by omega⟩ rfl (by omega)) rfl ?_
  refine W_pre (ent_of_eq (St_skip' (n := 320) (k := 317) (by decide) (by omega) (by omega) (by omega))) ?_
  refine W_blk SG_tabs 17 (k0_off171_at ⟨pos c, pos_lt c⟩) rfl ?_
  refine W_assume (k0_chk53_at (blk c 17)) ?_
  refine W_waitSend (by decide) (by omega) (by omega) (by omega) (by omega) (sgR (m := 318) ⟨by omega, by omega⟩ rfl (by omega)) rfl ?_
  refine W_recvAG (by omega) (by omega) (by decide) (by omega) (by omega) (by omega) (by omega) (rgR (m := 318) ⟨by omega, by omega⟩ rfl (by omega)) rfl ?_
  refine W_pre (ent_of_eq (St_skip' (n := 320) (k := 319) (by decide) (by omega) (by omega) (by omega))) ?_
  exact W_pure H

set_option maxHeartbeats 4000000 in
theorem run_part31 (D : Vals F) (K : Names) (c : Dev nD) (v2 : BitVec 32) (k0_hw1 : k0_chk1 (wd (pos c))) (k0_hw2 : k0_chk2 (wd (lf c).val)) (k0_hw3 : k0_chk3 (wd (rt c).val))
    {Q : (Σ' (v272 : BitVec 32), BitVec 32) → sProp 𝕄} (H : ∀ a b, St1 D c K 2 (DnB 16) 384 380 ⊢ Q ⟨a, b⟩) :
    St D c K 2 (DnA 16) 320 320 ⊢ WP c (k0_part31 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_stg8_0) (Memref.isWhole_whole _) (Memref.whole cc0_stg9_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 cc0_scratch13 c v2 (wd (pos c)) k0_hw1 (wd (lf c).val) k0_hw2 (wd (rt c).val) k0_hw3) Q := by
  rw [k0_part31_eq_skeleton]
  unfold k0_part31_skel
  refine W_blk SG_tabs 16 (k0_off173_at ⟨pos c, pos_lt c⟩) rfl ?_
  refine W_assume (k0_chk54_at (blk c 16)) ?_
  refine W_ldBlk (SG_at (j := 16) (i := 60) (xDst_e (by omega) (by omega)) (by omega) (by omega) (by decide) (by decide) (by decide) (by decide)) (k0_off174_at (blk c 16)) ?_
  refine W_ld_wi2 SG_wi2 ?_
  refine W_ld_wo2 SG_wo2 ?_
  refine W_ldPany SG_p (fun _ => ?_)
  refine W_stP 16 (DnB 0) (fun j hj => ?_) (k0_off174_at (blk c 16)) rfl ?_
  · simp only [DnA, DnB] at hj ⊢; omega
  refine W_pre (R := St D c K 2 (DnB 0) (320 + 4 * 0) (320 + 4 * (0 - 1))) (St_to rfl rfl) ?_
  refine W_loop (I := fun t => St D c K 2 (DnB t) (320 + 4 * t) (320 + 4 * (t - 1))) (N := 16) rfl (fun t => reduce_trip2 D K c v2 k0_hw1 k0_hw2 k0_hw3 t) ?_
  refine W_pre (St_to (n' := 384) (k' := 380) rfl rfl) ?_
  refine W_waitSend (by decide) (by omega) (by omega) (by omega) (by omega) (srL (m := 380) ⟨by omega, by omega⟩ rfl (by omega)) rfl ?_
  exact W_pure (H _ _)

end Cert.KernelIdeal.Mlp
-- ==== Proof.Body.lean ====
/-
# The kernel on one device

The parts run in turn, from the barrier to the result stored.
-/
module

public import proofs.«01_k».proof.Proof.Head
public import proofs.«01_k».proof.Proof.Layer0
public import proofs.«01_k».proof.Proof.Layer1
public import proofs.«01_k».proof.Proof.Layer2

@[expose] public section

noncomputable section

namespace Cert.KernelIdeal.Mlp

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

set_option maxHeartbeats 4000000 in
theorem run_part32 (D : Vals F) (K : Names) (c : Dev nD)
    {Q : (Σ' (v293 : FVec F S64x1024 .f32), Vec F S64x1024 .bf16) → sProp 𝕄} (H : iprop(semVal (bar c) 0 ∗ St D c K 2 (DnB 16) 384 384) ⊢ Q ⟨k0_pay45 (D.part (D.X 2) 2 c c) (D.sumR (D.X 2) 2 14 (lf c)), D.sumL (D.X 2) 2 15 (rt c)⟩) :
    Start D K c ⊢ WP c (k0_part32 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_stg8_0) (Memref.isWhole_whole _) (Memref.whole cc0_stg9_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 cc0_scratch13 ) Q := by
  rw [k0_part32_eq_skeleton]
  unfold k0_part32_skel
  refine W_bind ?_
  refine run_part22 D K c (fun v2 h1 h2 h3 => ?_)
  refine W_frame ?_
  refine W_bind ?_
  refine run_part23 D K c h1 h2 h3 _ _ (fun h15 => ?_)
  refine W_bind ?_
  refine run_part24 D K c v2 h1 h2 h3 h15 ?_
  refine W_bind ?_
  refine run_part25 D K c v2 _ ?_
  refine W_bind ?_
  refine run_part26 D K c v2 h1 h2 h3 (fun h33 => ?_)
  refine W_bind ?_
  refine run_part27 D K c _ h1 h33 (fun h35 v159 => ?_)
  refine W_bind ?_
  refine run_part28 D K c v2 h1 h2 h3 h35 v159 ?_
  refine W_bind ?_
  refine run_part29 D K c v2 h1 h2 h3 (fun h52 => ?_)
  refine W_bind ?_
  refine run_part30 D K c _ h1 h52 ?_
  refine W_bind ?_
  refine run_part31 D K c v2 h1 h2 h3 (fun a b => ?_)
  refine W_recvRS (by omega) (by decide) (by omega) (by omega) (by omega) (by omega) (rrL (m := 380) ⟨by omega, by omega⟩ rfl (by omega)) rfl ?_
  refine W_pre (ent_of_eq (St_skip' (n := 384) (k := 381) (by decide) (by omega) (by omega) (by omega))) ?_
  refine W_waitSend (by decide) (by omega) (by omega) (by omega) (by omega) (srL (m := 382) ⟨by omega, by omega⟩ rfl (by omega)) rfl ?_
  refine W_recvRS (by omega) (by decide) (by omega) (by omega) (by omega) (by omega) (rrL (m := 382) ⟨by omega, by omega⟩ rfl (by omega)) rfl ?_
  refine W_pre (ent_of_eq (St_skip' (n := 384) (k := 383) (by decide) (by omega) (by omega) (by omega))) ?_
  refine W_ldP0 (.inr (.inr (.inr ⟨by decide, rfl⟩))) (k0_off208_at c) ?_
  refine W_ldLast_r (by omega) rfl ?_
  refine W_ldLast_l (by omega) rfl ?_
  exact W_pure (BI.wand_intro ((ent_of_eq (by ac_rfl)).trans H))

/-- The kernel on device `c`: what it stores is `fin` of the third layer. -/
theorem run_body (D : Vals F) (K : Names) (c : Dev nD) {Q : PUnit → sProp 𝕄}
    (H : iprop(semVal (bar c) 0 ∗ wPts c cc0_stg9_0 (D.fin (D.X 2) 2 c) ∗ SGe D c K 2 (DnB 16) 384 384) ⊢ Q ⟨⟩) :
    Start D K c ⊢ WP c (cc0_body (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_stg8_0) (Memref.isWhole_whole _) (Memref.whole cc0_stg9_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 cc0_scratch13) Q := by
  rw [cc0_body_eq_skeleton]
  unfold cc0_body_skel
  refine W_bind ?_
  refine run_part32 D K c ?_
  refine W_frame ?_
  refine W_ldOut (fun _ => ?_)
  refine W_stOut ?_
  refine W_pure (BI.wand_intro (BI.sep_comm.trans ?_))
  rw [fin_pay1]
  exact H

end Cert.KernelIdeal.Mlp
-- ==== Proof.Buffers.lean ====
/-
# The scratch buffers, region by region

A device enters the kernel with its six scratch buffers whole, at some contents, and leaves it so. Here each is cut into
the regions which the copies read and write, and put together again. The first slots' second halves are put into their
invariants and taken back.
-/
module

public import proofs.«01_k».proof.Proof.Body

@[expose] public section

noncomputable section

namespace Cert.KernelIdeal.Mlp

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-! ## A buffer and a family of regions -/

section Cut
variable {ℓ : Loc nD τ sig} {q : PosShare TreeShare} (S : Finset ℕ) (R : ℕ → Finset (Idx ℓ))
    (hd : ∀ m ∈ S, ∀ m' ∈ S, m ≠ m' → Disjoint (R m) (R m')) (hU : ∀ i, ∃ m ∈ S, i ∈ R m)
include hd hU

omit [FloatOps F] in
theorem cut_any : iprop(∃ f : Buf (Elt F) ℓ, ℓ ↦{q} f) ⊢ (bigSep S fun m => iprop(∃ f : Buf (Elt F) ℓ, ℓ ↦[R m]{q} f) : sProp 𝕄) := by
  iintro ⟨%f, H⟩
  have e : (ℓ ↦{q} f : sProp 𝕄) = bigSep S fun m => ℓ ↦[R m]{q} f := by
    rw [← pointsTo_biUnion S R hd]
    congr 1
    exact (Finset.eq_univ_iff_forall.2 fun i => Finset.mem_biUnion.2 (hU i)).symm
  have h1 : ∀ m, (ℓ ↦[R m]{q} f : sProp 𝕄) ⊢ iprop(∃ f : Buf (Elt F) ℓ, ℓ ↦[R m]{q} f) := fun m => by iintro H; iexists f; iexact H
  have h : (bigSep S fun m => ℓ ↦[R m]{q} f : sProp 𝕄) ⊢ bigSep S fun m => iprop(∃ f : Buf (Elt F) ℓ, ℓ ↦[R m]{q} f) :=
    bigSep_mono fun m _ => h1 m
  iapply h
  iapply (ent_of_eq e)
  iexact H
omit [FloatOps F] in
theorem join_any (f₀ : Buf (Elt F) ℓ) : (bigSep S fun m => iprop(∃ f : Buf (Elt F) ℓ, ℓ ↦[R m]{q} f) : sProp 𝕄) ⊢ iprop(∃ f : Buf (Elt F) ℓ, ℓ ↦{q} f) := by
  have : Nonempty (Buf (Elt F) ℓ) := ⟨f₀⟩
  refine (bigSep_exists_pi S (fun m (f : Buf (Elt F) ℓ) => (ℓ ↦[R m]{q} f : sProp 𝕄))).trans ?_
  iintro ⟨%fs, H⟩
  have h := pointsTo_biUnion_join (q := q) (Ix := ℕ) (Name := ℕ) (U := UU) (Lvl := ℕ) S R fs f₀ hd
  rw [Finset.eq_univ_iff_forall.2 fun i => Finset.mem_biUnion.2 (hU i)] at h
  ihave H := h $$ H
  icases H with ⟨%g, -, H⟩
  iexists g; iexact H
end Cut

/-! ## The gathering buffer -/

/-- The copies into the gathering buffer, and two numbers for the halves of the own block. -/
def xSet : Finset ℕ := ((Finset.range 64).filter fun m => Valid m) ∪ {64, 66}
def xOff (m : ℕ) : ℕ := if m < 64 then (if m % 2 = 0 then 31 - m % 64 / 4 else 1 + m % 64 / 4) else 0
def xAt (c : Dev nD) (m : ℕ) : Finset S2048x1024.Idx := xReg (blk c (xOff m)) (m % 4 / 2)

theorem mem_xSet {m : ℕ} : m ∈ xSet ↔ (m < 64 ∧ Valid m) ∨ m = 64 ∨ m = 66 := by
  simp only [xSet, Finset.mem_union, Finset.mem_filter, Finset.mem_range, Finset.mem_insert, Finset.mem_singleton]
theorem xAt_disj (c : Dev nD) : ∀ m ∈ xSet, ∀ m' ∈ xSet, m ≠ m' → Disjoint (xAt c m) (xAt c m') := fun m hm m' hm' hne =>
  Finset.disjoint_left.2 fun i h1 h2 => hne (by
    have h1 := (Finset.mem_filter.1 h1).2
    have h2 := (Finset.mem_filter.1 h2).2
    have hb : blk c (xOff m) = blk c (xOff m') := Fin.ext (by omega)
    have ho := blk_inj c hb
    rw [hb] at h1
    rw [mem_xSet] at hm hm'
    unfold xOff at ho
    simp only [Valid] at hm hm'
    split_ifs at ho <;> omega)
theorem xAt_all (c : Dev nD) (i : S2048x1024.Idx) : ∃ m ∈ xSet, i ∈ xAt c m := by
  have hi : (i 0).val < 2048 := (i 0).isLt
  have hp := pos_lt c
  obtain ⟨b, hb⟩ : ∃ b : Dev nD, b.val = (i 0).val / 64 := ⟨⟨(i 0).val / 64, by show (i 0).val / 64 < 32; omega⟩, rfl⟩
  have hq := pos_lt b
  obtain ⟨o, ho⟩ : ∃ o, o = (pos b + 32 - pos c) % 32 := ⟨_, rfl⟩
  have e : blk c o = b := (at_congr (show (pos c + o) % 32 = pos b % 32 by omega)).trans (at_pos b)
  have key : ∀ m, m ∈ xSet → xOff m = o → m % 4 / 2 = (i 0).val / 32 % 2 → ∃ m ∈ xSet, i ∈ xAt c m := fun m h1 h2 h3 =>
    ⟨m, h1, Finset.mem_filter.2 ⟨Finset.mem_univ _, by rw [h2, e, h3]; omega⟩⟩
  by_cases h0 : o = 0
  · refine key (64 + 2 * ((i 0).val / 32 % 2)) (mem_xSet.2 (by omega)) ?_ (by omega)
    rw [xOff, if_neg (by omega), h0]
  · by_cases h1 : o ≤ 15
    · refine key (4 * (o - 1) + 1 + 2 * ((i 0).val / 32 % 2)) (mem_xSet.2 (.inl ⟨by omega, .inr (by omega)⟩)) ?_ (by omega)
      rw [xOff, if_pos (by omega), if_neg (by omega)]; omega
    · refine key (4 * (31 - o) + 2 * ((i 0).val / 32 % 2)) (mem_xSet.2 (.inl ⟨by omega, .inl (by omega)⟩)) ?_ (by omega)
      rw [xOff, if_pos (by omega), if_pos (by omega)]; omega

def xAny (c b : Dev nD) (h : ℕ) : sProp 𝕄 := iprop(∃ f, xPts (F := F) c b h fullShare f)
abbrev anyBuf (c : Dev nD) (b : Ref sig .tc) : sProp 𝕄 := iprop(∃ f : Buf (Elt F) ((c : Thread nD τ).loc b), ((c : Thread nD τ).loc b) ↦{fullShare} f)

omit [FloatOps F] in
theorem xSet_split (c : Dev nD) : (bigSep xSet fun m => xAny (F := F) c (blk c (xOff m)) (m % 4 / 2) : sProp 𝕄)
    = iprop((bigSep ((Finset.range 64).filter fun m => Valid m) fun m => xAny c (xDst c m) (m % 4 / 2)) ∗ (xAny c c 0 ∗ xAny c c 1)) := by
  unfold xSet
  have hd : Disjoint ((Finset.range 64).filter fun m => Valid m) ({64, 66} : Finset ℕ) := by decide
  have e1 : ∀ m ∈ (Finset.range 64).filter (fun m => Valid m), xAny (F := F) c (blk c (xOff m)) (m % 4 / 2) = xAny c (xDst c m) (m % 4 / 2) := fun m hm => by
    have h64 := Finset.mem_range.1 (Finset.mem_filter.1 hm).1
    have e : blk c (xOff m) = xDst c m := by
      rw [xOff, if_pos h64, xDst]
      split_ifs <;> rfl
    rw [e]
  have e2 : (bigSep ({64, 66} : Finset ℕ) fun m => xAny (F := F) c (blk c (xOff m)) (m % 4 / 2) : sProp 𝕄) = iprop(xAny c c 0 ∗ xAny c c 1) := by
    rw [bigSep_insert (by decide), bigSep_singleton]
    show iprop(xAny c (blk c 0) 0 ∗ xAny c (blk c 0) 1) = _
    rw [blk_zero]
  refine (bigSep_union hd).trans ?_
  rw [bigSep_congr e1, e2]
  rfl

omit [FloatOps F] in
theorem x_cut (c : Dev nD) : anyBuf (F := F) c cc0_scratch0
    ⊢ iprop((bigSep ((Finset.range 64).filter fun m => Valid m) fun m => xAny c (xDst c m) (m % 4 / 2)) ∗ (xAny c c 0 ∗ xAny c c 1)) :=
  (cut_any (ℓ := (c : Thread nD τ).loc cc0_scratch0) xSet (xAt c) (xAt_disj c) (xAt_all c)).trans (ent_of_eq (xSet_split c))
theorem x_join (c : Dev nD) : iprop((bigSep ((Finset.range 64).filter fun m => Valid m) fun m => xAny c (xDst c m) (m % 4 / 2)) ∗ (xAny c c 0 ∗ xAny c c 1))
    ⊢ anyBuf (F := F) c cc0_scratch0 :=
  (ent_of_eq (xSet_split c).symm).trans (join_any (ℓ := (c : Thread nD τ).loc cc0_scratch0) xSet (xAt c) (xAt_disj c) (xAt_all c) (fun _ => FloatOps.ofBits .bf16 0))

theorem own_join (c : Dev nD) : iprop(xAny c c 0 ∗ xAny c c 1) ⊢ ownAny (F := F) c := by
  unfold xAny xPts ownAny blkPts
  iintro ⟨⟨%f, Hf⟩, ⟨%g, Hg⟩⟩
  iexists _
  have hd : Disjoint (xReg c 0) (xReg c 1) := Finset.disjoint_left.2 fun i h1 h2 => by
    have h1 := (Finset.mem_filter.1 h1).2; have h2 := (Finset.mem_filter.1 h2).2; omega
  iapply (pointsTo_join hd)
  isplitl [Hf] <;> iassumption

/-- The leave for the neighbours' first copies, and the own block. -/
theorem give_own (c : Dev nD) : anyBuf (F := F) c cc0_scratch0 ⊢ iprop((give c false ∗ give c true) ∗ ownAny c) := by
  refine (x_cut c).trans (BI.sep_mono (ent_of_eq ?_) (own_join c))
  have hd : Disjoint (firstOps false) (firstOps true) := by decide
  have e : (Finset.range 64).filter (fun m => Valid m) = firstOps false ∪ firstOps true := by decide
  unfold give
  rw [e]
  refine (bigSep_congr fun m hm => ?_).trans (bigSep_union hd (Φ := fun m => (spare c m : sProp 𝕄)))
  have h64 : m < 64 := by rw [← e] at hm; exact Finset.mem_range.1 (Finset.mem_filter.1 hm).1
  unfold spare xAny
  rw [if_pos (by omega)]

/-! ## The slots of the reducing loop -/

abbrev VS : Finset ℕ := (Finset.Ico 64 128).filter fun m => Valid m
def evenS : Finset ℕ := (Finset.Ico 64 128).filter fun m => m % 2 = 0
def oddS : Finset ℕ := (Finset.Ico 64 128).filter fun m => m % 2 = 1 ∧ Valid m
theorem VS_eq : VS = evenS ∪ oddS := by decide
theorem evenS_oddS : Disjoint evenS oddS := by decide

theorem l_disj : ∀ m ∈ evenS, ∀ m' ∈ evenS, m ≠ m' → Disjoint (slReg (m % 64 / 4) (m % 4 / 2)) (slReg (m' % 64 / 4) (m' % 4 / 2)) := fun m hm m' hm' hne =>
  Finset.disjoint_left.2 fun i h1 h2 => hne (by
    have h1 := (Finset.mem_filter.1 h1).2
    have h2 := (Finset.mem_filter.1 h2).2
    simp only [evenS, Finset.mem_filter, Finset.mem_Ico] at hm hm'
    omega)
theorem l_all (i : S1024x1024.Idx) : ∃ m ∈ evenS, i ∈ slReg (m % 64 / 4) (m % 4 / 2) := by
  have hi : (i 0).val < 1024 := (i 0).isLt
  refine ⟨64 + 4 * ((i 0).val / 64) + 2 * ((i 0).val / 32 % 2), ?_, Finset.mem_filter.2 ⟨Finset.mem_univ _, by omega⟩⟩
  simp only [evenS, Finset.mem_filter, Finset.mem_Ico]; omega
theorem r_disj : ∀ m ∈ oddS, ∀ m' ∈ oddS, m ≠ m' → Disjoint (srReg (m % 64 / 4) (m % 4 / 2)) (srReg (m' % 64 / 4) (m' % 4 / 2)) := fun m hm m' hm' hne =>
  Finset.disjoint_left.2 fun i h1 h2 => hne (by
    have h1 := (Finset.mem_filter.1 h1).2
    have h2 := (Finset.mem_filter.1 h2).2
    simp only [oddS, Finset.mem_filter, Finset.mem_Ico] at hm hm'
    omega)
theorem r_all (i : S960x1024.Idx) : ∃ m ∈ oddS, i ∈ srReg (m % 64 / 4) (m % 4 / 2) := by
  have hi : (i 0).val < 960 := (i 0).isLt
  refine ⟨65 + 4 * ((i 0).val / 64) + 2 * ((i 0).val / 32 % 2), ?_, Finset.mem_filter.2 ⟨Finset.mem_univ _, by omega⟩⟩
  simp only [oddS, Finset.mem_filter, Finset.mem_Ico, Valid]; omega

theorem slotAny_even (c : Dev nD) (q : PosShare TreeShare) : (bigSep evenS fun m => slotAny (F := F) c m q : sProp 𝕄)
    = bigSep evenS fun m => iprop(∃ f : Buf (Elt F) ((c : Thread nD τ).loc cc0_scratch5), ((c : Thread nD τ).loc cc0_scratch5) ↦[slReg (m % 64 / 4) (m % 4 / 2)]{q} f) :=
  bigSep_congr fun m hm => by
    have h : m % 2 = 0 := (Finset.mem_filter.1 hm).2
    unfold slotAny; rw [if_pos h]; rfl
theorem slotAny_odd (c : Dev nD) (q : PosShare TreeShare) : (bigSep oddS fun m => slotAny (F := F) c m q : sProp 𝕄)
    = bigSep oddS fun m => iprop(∃ f : Buf (Elt F) ((c : Thread nD τ).loc cc0_scratch4), ((c : Thread nD τ).loc cc0_scratch4) ↦[srReg (m % 64 / 4) (m % 4 / 2)]{q} f) :=
  bigSep_congr fun m hm => by
    have h : m % 2 = 1 := (Finset.mem_filter.1 hm).2.1
    unfold slotAny; rw [if_neg (by omega)]; rfl

theorem slots_cut (c : Dev nD) : iprop(anyBuf (F := F) c cc0_scratch5 ∗ anyBuf (F := F) c cc0_scratch4) ⊢ bigSep VS fun m => slotAny c m fullShare := by
  rw [VS_eq]
  refine BIBase.Entails.trans ?_ (ent_of_eq (bigSep_union evenS_oddS).symm)
  rw [slotAny_even, slotAny_odd]
  exact BI.sep_mono (cut_any (ℓ := (c : Thread nD τ).loc cc0_scratch5) evenS (fun m => slReg (m % 64 / 4) (m % 4 / 2)) l_disj l_all)
    (cut_any (ℓ := (c : Thread nD τ).loc cc0_scratch4) oddS (fun m => srReg (m % 64 / 4) (m % 4 / 2)) r_disj r_all)
theorem slots_join (c : Dev nD) : (bigSep VS fun m => slotAny (F := F) c m fullShare : sProp 𝕄) ⊢ iprop(anyBuf (F := F) c cc0_scratch5 ∗ anyBuf (F := F) c cc0_scratch4) := by
  rw [VS_eq]
  refine BIBase.Entails.trans (ent_of_eq (bigSep_union evenS_oddS)) ?_
  rw [slotAny_even, slotAny_odd]
  exact BI.sep_mono (join_any (ℓ := (c : Thread nD τ).loc cc0_scratch5) evenS (fun m => slReg (m % 64 / 4) (m % 4 / 2)) l_disj l_all (fun _ => FloatOps.ofBits .bf16 0))
    (join_any (ℓ := (c : Thread nD τ).loc cc0_scratch4) oddS (fun m => srReg (m % 64 / 4) (m % 4 / 2)) r_disj r_all (fun _ => FloatOps.ofBits .bf16 0))

/-- Two halves of a slot, at whatever contents. -/
theorem slot_halves (c : Dev nD) (m : ℕ) : slotAny (F := F) c m fullShare ⊢ iprop(slotAny (F := F) c m fullShare.left ∗ slotAny (F := F) c m fullShare.right) := by
  unfold slotAny slPts srPts
  split_ifs
  · iintro ⟨%f, H⟩
    ihave H := (pointsTo_share (PosShare.mem_left_op_right fullShare)).1 $$ H
    icases H with ⟨H1, H2⟩
    isplitl [H1] <;> iexists f <;> iassumption
  · iintro ⟨%f, H⟩
    ihave H := (pointsTo_share (PosShare.mem_left_op_right fullShare)).1 $$ H
    icases H with ⟨H1, H2⟩
    isplitl [H1] <;> iexists f <;> iassumption

omit [FloatOps F] in
theorem halves_any {ℓ : Loc nD τ sig} {I : Finset (Idx ℓ)} (f g : Buf (Elt F) ℓ) :
    iprop((ℓ ↦[I]{fullShare.left} f) ∗ (ℓ ↦[I]{fullShare.right} g)) ⊢ (iprop(ℓ ↦[I]{fullShare} f) : sProp 𝕄) := by
  refine pure_elim _ pointsTo_agree fun h => ?_
  rw [pointsTo_congr (f := g) (g := f) fun i hi => (h i (Finset.mem_inter.2 ⟨hi, hi⟩)).1.symm]
  exact (pointsTo_share (PosShare.mem_left_op_right fullShare)).2
theorem slot_whole (c : Dev nD) (m : ℕ) : iprop(slotAny (F := F) c m fullShare.left ∗ slotAny (F := F) c m fullShare.right) ⊢ slotAny (F := F) c m fullShare := by
  unfold slotAny slPts srPts
  split_ifs
  · iintro ⟨⟨%f, Hf⟩, ⟨%g, Hg⟩⟩
    iexists f
    iapply halves_any f g
    isplitl [Hf] <;> iassumption
  · iintro ⟨⟨%f, Hf⟩, ⟨%g, Hg⟩⟩
    iexists f
    iapply halves_any f g
    isplitl [Hf] <;> iassumption

theorem slot_two (c : Dev nD) {m : ℕ} (hm : m ∈ Finset.Ico 64 68) : iprop(slotAny (F := F) c m fullShare.right ∗ slotAny (F := F) c m fullShare.right) ⊢ (iprop(False) : sProp 𝕄) := by
  have hm := Finset.mem_Ico.1 hm
  have hz : m % 64 / 4 = 0 := by omega
  unfold slotAny slPts srPts
  rw [hz]
  split_ifs
  · iintro ⟨⟨%f, Hf⟩, ⟨%g, Hg⟩⟩
    have hi : Shape.pair (d := ![1024, 1024]) ⟨32 * (m % 4 / 2), by show _ < 1024; omega⟩ ⟨0, by decide⟩ ∈ slReg 0 (m % 4 / 2) :=
      Finset.mem_filter.2 ⟨Finset.mem_univ _, by show 32 * (m % 4 / 2) / 32 = _; omega⟩
    iapply (pointsTo_overlap_false (ℓ := (c : Thread nD τ).loc cc0_scratch5) (f := f) (g := g) (q := fullShare.right) hi hi)
    isplitl [Hf] <;> iassumption
  · iintro ⟨⟨%f, Hf⟩, ⟨%g, Hg⟩⟩
    have hi : Shape.pair (d := ![960, 1024]) ⟨32 * (m % 4 / 2), by show _ < 960; omega⟩ ⟨0, by decide⟩ ∈ srReg 0 (m % 4 / 2) :=
      Finset.mem_filter.2 ⟨Finset.mem_univ _, by show 32 * (m % 4 / 2) / 32 = _; omega⟩
    iapply (pointsTo_overlap_false (ℓ := (c : Thread nD τ).loc cc0_scratch4) (f := f) (g := g) (q := fullShare.right) hi hi)
    isplitl [Hf] <;> iassumption

/-! ## The first slots' invariants -/

theorem swap_in (D : Vals F) (K : Names) (c : Dev nD) : iprop(Cx D K ∗ bigSep (Finset.Ico 64 68) fun m => slotAny (F := F) c m fullShare.right)
    ⊢ iprop(|={Set.univ}=> bigSep (Finset.Ico 64 68) fun m => iprop(tTok (F := F) c m ∗ wTok (F := F) c m)) := by
  refine (bigSep_with_persistent (R := Cx D K) (Φ := fun m => slotAny (F := F) c m fullShare.right)
    (Ψ := fun m => iprop(|={Set.univ}=> (tTok (F := F) c m ∗ wTok (F := F) c m))) fun m hm => ?_).trans (bigSep_fupd _ _)
  iintro ⟨#HC, Hs⟩
  ihave #Hinv := (Cx_slot D K c (Finset.mem_Ico.1 hm)) $$ HC
  imod (inv_acc (E := Set.univ) (Set.mem_univ (K.slot (c, m)))) $$ Hinv with ⟨HI, Hclose⟩
  unfold slotBody
  icases HI with (⟨Ht, Hw⟩ | Hs')
  · imod Hclose $$ [Hs]
    · iright; iexact Hs
    imodintro
    isplitl [Ht] <;> iassumption
  · iexfalso
    iapply (slot_two (F := F) c hm)
    isplitl [Hs] <;> iassumption
theorem swap_out (D : Vals F) (K : Names) (c : Dev nD) : iprop(Cx D K ∗ bigSep (Finset.Ico 64 68) fun m => iprop(tTok (F := F) c m ∗ wTok (F := F) c m))
    ⊢ iprop(|={Set.univ}=> bigSep (Finset.Ico 64 68) fun m => slotAny (F := F) c m fullShare.right) := by
  refine (bigSep_with_persistent (R := Cx D K) (Φ := fun m => iprop(tTok (F := F) c m ∗ wTok (F := F) c m))
    (Ψ := fun m => iprop(|={Set.univ}=> slotAny (F := F) c m fullShare.right)) fun m hm => ?_).trans (bigSep_fupd _ _)
  iintro ⟨#HC, ⟨Ht, Hw⟩⟩
  ihave #Hinv := (Cx_slot D K c (Finset.mem_Ico.1 hm)) $$ HC
  imod (inv_acc (E := Set.univ) (Set.mem_univ (K.slot (c, m)))) $$ Hinv with ⟨HI, Hclose⟩
  unfold slotBody
  icases HI with (⟨Ht', -⟩ | Hs')
  · iexfalso
    iapply (tTok_twice (F := F) c m)
    isplitl [Ht] <;> iassumption
  · imod Hclose $$ [Ht Hw]
    · ileft; isplitl [Ht] <;> iassumption
    imodintro
    iexact Hs'

theorem VS_first : VS = Finset.Ico 64 68 ∪ VS.filter (fun m => m % 64 / 4 ≠ 0) := by decide
theorem VS_first_disj : Disjoint (Finset.Ico 64 68) (VS.filter (fun m => m % 64 / 4 ≠ 0)) := by decide
theorem mod_first {m : ℕ} (hm : m ∈ Finset.Ico 64 68) : m % 64 / 4 = 0 := by rw [Finset.mem_Ico] at hm; omega

omit [FloatOps F] in
theorem wIf_all (c : Dev nD) : (bigSep VS fun m => wIf (F := F) c m : sProp 𝕄) = bigSep (Finset.Ico 64 68) fun m => wTok c m := by
  rw [VS_first]
  refine (bigSep_union VS_first_disj).trans ?_
  have e1 : (bigSep (Finset.Ico 64 68) fun m => wIf (F := F) c m : sProp 𝕄) = bigSep (Finset.Ico 64 68) fun m => wTok c m :=
    bigSep_congr fun m hm => by unfold wIf; rw [if_pos (mod_first hm)]
  have e2 : (bigSep (VS.filter (fun m => m % 64 / 4 ≠ 0)) fun m => wIf (F := F) c m : sProp 𝕄) = bigSep (VS.filter (fun m => m % 64 / 4 ≠ 0)) fun _ => iprop(emp) :=
    bigSep_congr fun m hm => by unfold wIf; rw [if_neg (Finset.mem_filter.1 hm).2]
  rw [e1, e2, show (bigSep (VS.filter (fun m => m % 64 / 4 ≠ 0)) fun _ => iprop(emp) : sProp 𝕄) = iprop(emp) from bigSep_emp_const _]
  exact equiv_iff.mp ⟨BI.sep_emp.1, BI.sep_emp.2⟩
/-- All slots, and the first ones' second halves apart. -/
theorem slots_sh (c : Dev nD) : (bigSep VS fun m => slotAny (F := F) c m fullShare : sProp 𝕄)
    ⊣⊢ iprop((bigSep VS fun m => slotAny (F := F) c m (slotSh m)) ∗ bigSep (Finset.Ico 64 68) fun m => slotAny (F := F) c m fullShare.right) := by
  have e2 : (bigSep (VS.filter (fun m => m % 64 / 4 ≠ 0)) fun m => slotAny (F := F) c m (slotSh m) : sProp 𝕄) = bigSep (VS.filter (fun m => m % 64 / 4 ≠ 0)) fun m => slotAny c m fullShare :=
    bigSep_congr fun m hm => by unfold slotSh; rw [if_neg (Finset.mem_filter.1 hm).2]
  have e1 : (bigSep (Finset.Ico 64 68) fun m => slotAny (F := F) c m (slotSh m) : sProp 𝕄) = bigSep (Finset.Ico 64 68) fun m => slotAny c m fullShare.left :=
    bigSep_congr fun m hm => by unfold slotSh; rw [if_pos (mod_first hm)]
  have e3 : (bigSep (Finset.Ico 64 68) fun m => iprop(slotAny (F := F) c m fullShare.left ∗ slotAny (F := F) c m fullShare.right) : sProp 𝕄)
      = iprop((bigSep (Finset.Ico 64 68) fun m => slotAny (F := F) c m fullShare.left) ∗ bigSep (Finset.Ico 64 68) fun m => slotAny (F := F) c m fullShare.right) :=
    bigSep_sep _ (fun m => slotAny (F := F) c m fullShare.left) (fun m => slotAny (F := F) c m fullShare.right)
  have a : (bigSep VS fun m => slotAny (F := F) c m fullShare : sProp 𝕄) = iprop((bigSep (Finset.Ico 64 68) fun m => slotAny c m fullShare)
      ∗ bigSep (VS.filter (fun m => m % 64 / 4 ≠ 0)) fun m => slotAny c m fullShare) := by rw [VS_first]; exact bigSep_union VS_first_disj
  have b : (bigSep VS fun m => slotAny (F := F) c m (slotSh m) : sProp 𝕄) = iprop((bigSep (Finset.Ico 64 68) fun m => slotAny c m fullShare.left)
      ∗ bigSep (VS.filter (fun m => m % 64 / 4 ≠ 0)) fun m => slotAny c m fullShare) := by
    rw [← e1, ← e2]; rw [VS_first]; exact bigSep_union VS_first_disj
  have h1 : (bigSep (Finset.Ico 64 68) fun m => slotAny (F := F) c m fullShare : sProp 𝕄) ⊢ bigSep (Finset.Ico 64 68) fun m => iprop(slotAny (F := F) c m fullShare.left ∗ slotAny (F := F) c m fullShare.right) := bigSep_mono fun m _ => slot_halves (F := F) c m
  have h2 : (bigSep (Finset.Ico 64 68) fun m => iprop(slotAny (F := F) c m fullShare.left ∗ slotAny (F := F) c m fullShare.right) : sProp 𝕄) ⊢ bigSep (Finset.Ico 64 68) fun m => slotAny (F := F) c m fullShare := bigSep_mono fun m _ => slot_whole (F := F) c m
  rw [e3] at h1 h2
  rw [a, b]
  constructor
  · iintro ⟨H1, H2⟩
    ihave H1 := h1 $$ H1
    icases H1 with ⟨H1, H3⟩
    isplitr [H3]
    · isplitl [H1] <;> iassumption
    · iexact H3
  · iintro ⟨⟨H1, H2⟩, H3⟩
    isplitr [H2]
    · iapply h2
      isplitl [H1] <;> iassumption
    · iexact H2

end Cert.KernelIdeal.Mlp
-- ==== Proof.Ends.lean ====
/-
# What a device holds on entry and on exit

From its scratch buffers, its semaphores' positions and its tokens a device has what the kernel starts from; from what it
has at the kernel's end it gets the scratch buffers and the semaphores back.
-/
module

public import proofs.«01_k».proof.Proof.Buffers

@[expose] public section

noncomputable section

namespace Cert.KernelIdeal.Mlp

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

section
variable (D : Vals F) (c : Dev nD)

theorem VS_zero : ((Finset.Ico 64 128).filter fun i => SHeld 0 0 i) = VS :=
  Finset.filter_congr fun i _ => ⟨fun h => h.1, fun h => ⟨h, by rw [cnt_zero, cnt_zero]⟩⟩
theorem VS_end : ((Finset.Ico 64 128).filter fun i => SHeld 384 384 i) = VS :=
  Finset.filter_congr fun i hi => ⟨fun h => h.1, fun h => ⟨h, by
    have hi := Finset.mem_Ico.1 hi
    simp only [cnt]; omega⟩⟩

theorem SS_first : iprop((bigSep VS fun m => slotAny (F := F) c m (slotSh m)) ∗ (bigSep (Finset.Ico 64 68) fun m => wTok (F := F) c m)) ⊢ SS D c 0 0 := by
  have e : (bigSep VS fun i => iprop(slotSt D c (cnt 0 i) i ∗ wIf (F := F) c i) : sProp 𝕄) = bigSep VS fun i => iprop(slotAny (F := F) c i (slotSh i) ∗ wIf (F := F) c i) :=
    bigSep_congr fun i _ => by rw [cnt_zero]; unfold slotSt; rw [if_pos rfl]
  unfold SS
  rw [VS_zero, ← wIf_all, e]
  exact ent_of_eq (bigSep_sep VS (fun i => slotAny (F := F) c i (slotSh i)) (fun i => wIf (F := F) c i)).symm
theorem SS_last : SS D c 384 384 ⊢ iprop((bigSep VS fun m => slotAny (F := F) c m (slotSh m)) ∗ (bigSep (Finset.Ico 64 68) fun m => wTok (F := F) c m)) := by
  have h : (bigSep VS fun i => iprop(slotSt D c (cnt 384 i) i ∗ wIf (F := F) c i) : sProp 𝕄) ⊢ bigSep VS fun i => iprop(slotAny (F := F) c i (slotSh i) ∗ wIf (F := F) c i) :=
    bigSep_mono fun i _ => sep_mono_left (slotSt_any _ _)
  unfold SS
  rw [VS_end, ← wIf_all]
  exact h.trans (ent_of_eq (bigSep_sep VS (fun i => slotAny (F := F) c i (slotSh i)) (fun i => wIf (F := F) c i)))

theorem sb_disj : ∀ m ∈ Finset.range 2, ∀ m' ∈ Finset.range 2, m ≠ m' → Disjoint (sbReg m) (sbReg m') := fun m _ m' _ hne =>
  Finset.disjoint_left.2 fun i h1 h2 => hne (by
    have h1 := (Finset.mem_filter.1 h1).2
    have h2 := (Finset.mem_filter.1 h2).2
    omega)
theorem sb_all (i : S64x1024.Idx) : ∃ m ∈ Finset.range 2, i ∈ sbReg m := by
  have hi : (i 0).val < 64 := (i 0).isLt
  exact ⟨(i 0).val / 32, Finset.mem_range.2 (by omega), Finset.mem_filter.2 ⟨Finset.mem_univ _, rfl⟩⟩
omit [FloatOps F] in
theorem SB_all (n : ℕ) (h : ∀ j ∈ Finset.range 4, BHeld n n j) : SB (F := F) c n n = iprop((sbAny c 0 ∗ sbAny c 2) ∗ (sbAny c 1 ∗ sbAny c 3)) := by
  unfold SB
  rw [Finset.filter_true_of_mem h, show Finset.range 4 = {0, 1, 2, 3} by decide, bigSep_insert (by decide), bigSep_insert (by decide), bigSep_insert (by decide), bigSep_singleton]
  show iprop(sbAny c 0 ∗ sbAny c 1 ∗ sbAny c 2 ∗ sbAny c 3) = _
  ac_rfl
omit [FloatOps F] in
theorem range2 (Φ : ℕ → sProp 𝕄) : bigSep (Finset.range 2) Φ = iprop(Φ 0 ∗ Φ 1) := by
  rw [show Finset.range 2 = {0, 1} by decide, bigSep_insert (by decide), bigSep_singleton]; rfl
omit [FloatOps F] in
theorem BHeld_zero : ∀ j ∈ Finset.range 4, BHeld 0 0 j := fun j _ h => absurd h.1 (Nat.not_lt_zero _)
theorem BHeld_end : ∀ j ∈ Finset.range 4, BHeld 384 384 j := fun j _ h => by have h1 := h.1; simp only [cand] at h1; omega
theorem SB_first : iprop(anyBuf (F := F) c cc0_scratch3 ∗ anyBuf (F := F) c cc0_scratch2) ⊢ SB (F := F) c 0 0 := by
  rw [SB_all c 0 BHeld_zero]
  have a := cut_any (F := F) (ℓ := (c : Thread nD τ).loc cc0_scratch3) (q := fullShare) (Finset.range 2) sbReg sb_disj sb_all
  have b := cut_any (F := F) (ℓ := (c : Thread nD τ).loc cc0_scratch2) (q := fullShare) (Finset.range 2) sbReg sb_disj sb_all
  exact BI.sep_mono (a.trans (ent_of_eq (range2 _))) (b.trans (ent_of_eq (range2 _)))
theorem SB_last : SB (F := F) c 384 384 ⊢ iprop(anyBuf (F := F) c cc0_scratch3 ∗ anyBuf (F := F) c cc0_scratch2) := by
  rw [SB_all c 384 BHeld_end]
  have a := join_any (F := F) (ℓ := (c : Thread nD τ).loc cc0_scratch3) (q := fullShare) (Finset.range 2) sbReg sb_disj sb_all (fun _ => FloatOps.ofBits .bf16 0)
  have b := join_any (F := F) (ℓ := (c : Thread nD τ).loc cc0_scratch2) (q := fullShare) (Finset.range 2) sbReg sb_disj sb_all (fun _ => FloatOps.ofBits .bf16 0)
  exact BI.sep_mono ((ent_of_eq (range2 _).symm).trans a) ((ent_of_eq (range2 _).symm).trans b)

theorem Pb_first : anyBuf (F := F) c cc0_scratch1 ⊢ Pb D c 0 (fun _ => False) := by
  unfold Pb pPts
  iintro ⟨%f, H⟩
  iexists f
  isplitr
  · ipureintro; intro j hj; exact absurd hj id
  iexact H
theorem Pb_last (l : ℕ) (Dn : ℕ → Prop) : Pb D c l Dn ⊢ anyBuf (F := F) c cc0_scratch1 := by
  unfold Pb pPts
  iintro ⟨%f, -, H⟩
  iexists f; iexact H

theorem XH_end {i : ℕ} (hi : i ∈ Finset.range 64) : XHeld 384 384 i ↔ Valid i := by
  have hi := Finset.mem_range.1 hi
  refine ⟨fun h => h.1, fun h => ⟨h, ?_⟩⟩
  have a : cnt 384 i = 3 := cnt_is (by omega)
  have b : cnt 384 (gv i) = 3 := cnt_is (by have g1 := gv_ge i; have g2 := @gv_lt i; generalize gv i = g at *; omega)
  rw [a, b]; rfl
theorem x_last : iprop(XA D c 384 384 ∗ XB D c 384 384) ⊢ bigSep ((Finset.range 64).filter fun m => Valid m) fun m => xAny (F := F) c (xDst c m) (m % 4 / 2) := by
  unfold XA XB
  have e1 : ((Finset.range 64).filter fun i => XHeld 384 384 i ∧ ¬XOut 384 384 i) = (Finset.range 64).filter fun m => Valid m :=
    Finset.filter_congr fun i hi => ⟨fun h => h.1.1, fun h => ⟨(XH_end hi).2 h, fun h => h.2.2 rfl⟩⟩
  have e2 : ((Finset.range 64).filter fun i => XHeld 384 384 i) = (Finset.range 64).filter fun m => Valid m := Finset.filter_congr fun i hi => XH_end hi
  rw [e1, e2]
  refine BIBase.Entails.trans (ent_of_eq (bigSep_sep _ (fun i => xPts c (xDst c i) (i % 4 / 2) fullShare.left (rows2048 (D.X (cnt 384 i - 1))))
    (fun i => xPts c (xDst c i) (i % 4 / 2) fullShare.right (rows2048 (D.X (cnt 384 i - 1))))).symm) (bigSep_mono fun i _ => ?_)
  unfold xAny
  refine BIBase.Entails.trans (ent_of_eq (xPts_halves c _ _ _).symm) ?_
  iintro H; iexists _; iexact H
theorem own_last : iprop(XO D c 2 384 384 ∗ XK D c 2) ⊢ iprop(xAny (F := F) c c 0 ∗ xAny c c 1) := by
  rw [XO_full, blkPts_eq]
  unfold xAny
  iintro ⟨H1, H2⟩
  isplitl [H1] <;> iexists _ <;> iassumption

/-- The scratch buffers. -/
def scratch : sProp 𝕄 := iprop(anyBuf (F := F) c cc0_scratch0 ∗ anyBuf (F := F) c cc0_scratch1 ∗ anyBuf (F := F) c cc0_scratch2 ∗ anyBuf (F := F) c cc0_scratch3
  ∗ anyBuf (F := F) c cc0_scratch4 ∗ anyBuf (F := F) c cc0_scratch5)

theorem RP_freshen : RP (F := F) c 0 ⊢ iprop(RP c 0 ∗ fresh (F := F) c) := by
  rw [RP_fresh]
  iintro ⟨H, #Hf⟩
  isplitl [H]
  · isplitl [H]; · iexact H
    iexact Hf
  · iexact Hf

/-- The entry. -/
theorem enter (K : Names) : iprop(Cx D K ∗ scratch (F := F) c ∗ (RP (F := F) c 0 ∗ SP (F := F) c 0) ∗ TK (F := F) c 0 ∗ IC (F := F) c 0 ∗ barToks (F := F) c
      ∗ (∃ W, owes (c : Thread nD τ) (owedAll c) W) ∗ Sg D c)
    ⊢ iprop(|={Set.univ}=> Start D K c) := by
  unfold scratch
  iintro ⟨#HC, ⟨H0, H1, H2, H3, H4, H5⟩, ⟨HRP, HSP⟩, HTK, HIC, HB, HO, HS⟩
  ihave Hsl := (slots_cut (F := F) c) $$ [H5 H4]
  · isplitl [H5] <;> iassumption
  ihave Hsl := (slots_sh (F := F) c).1 $$ Hsl
  icases Hsl with ⟨Hsl, Hrt⟩
  imod (swap_in D K c) $$ [Hrt] with Htk
  · isplitr; · iexact HC
    iexact Hrt
  imodintro
  have etw : (bigSep (Finset.Ico 64 68) fun m => iprop(tTok (F := F) c m ∗ wTok (F := F) c m) : sProp 𝕄)
      ⊢ iprop((bigSep (Finset.Ico 64 68) fun m => tTok (F := F) c m) ∗ bigSep (Finset.Ico 64 68) fun m => wTok (F := F) c m) :=
    ent_of_eq (bigSep_sep _ (fun m => tTok (F := F) c m) (fun m => wTok (F := F) c m))
  ihave Htk := etw $$ Htk
  icases Htk with ⟨Ht, Hw⟩
  ihave HSS := (SS_first D c) $$ [Hsl Hw]
  · isplitl [Hsl] <;> iassumption
  ihave HSB := (SB_first (F := F) c) $$ [H2 H3]
  · isplitl [H3] <;> iassumption
  ihave HPb := (Pb_first D c) $$ H1
  ihave Hgo := (give_own (F := F) c) $$ H0
  icases Hgo with ⟨Hg, Hown⟩
  ihave HRP := (RP_freshen (F := F) c) $$ HRP
  icases HRP with ⟨HRP, #Hf⟩
  unfold Start Bars Sx Tt
  isplitl [Hg HB HO]
  · isplitr; · iexact HC
    isplitr; · iexact Hf
    isplitl [Hg]; · iexact Hg
    isplitl [HB]; · iexact HB
    iexact HO
  isplitl [HS]; · iexact HS
  isplitl [HSS]; · iexact HSS
  isplitl [HSB]; · iexact HSB
  isplitl [HTK]; · iexact HTK
  isplitl [HIC]; · iexact HIC
  isplitl [HRP]; · iexact HRP
  isplitl [HSP]; · iexact HSP
  isplitl [HPb]; · iexact HPb
  isplitl [Ht]; · iexact Ht
  iexact Hown

/-- The exit, but for the semaphores. -/
theorem exit (K : Names) (Dn : ℕ → Prop) : SGe D c K 2 Dn 384 384
    ⊢ iprop(|={Set.univ}=> (Cx D K ∗ scratch (F := F) c ∗ (RP (F := F) c 384 ∗ SP (F := F) c 384) ∗ Ow (F := F) c 384 ∗ Sgi D c)) := by
  unfold SGe Tt
  iintro ⟨#HC, HXA, HXB, HXO, HXK, HSS, HSB, -, -, -, -, HRP, HSP, HO, HPb, Ht, HS⟩
  ihave HX := (x_last D c) $$ [HXA HXB]
  · isplitl [HXA] <;> iassumption
  ihave Hown := (own_last D c) $$ [HXO HXK]
  · isplitl [HXO] <;> iassumption
  ihave H0 := (x_join (F := F) c) $$ [HX Hown]
  · isplitl [HX] <;> iassumption
  ihave HSS := (SS_last D c) $$ HSS
  icases HSS with ⟨Hsl, Hw⟩
  have etw : iprop((bigSep (Finset.Ico 64 68) fun m => tTok (F := F) c m) ∗ bigSep (Finset.Ico 64 68) fun m => wTok (F := F) c m)
      ⊢ (bigSep (Finset.Ico 64 68) fun m => iprop(tTok (F := F) c m ∗ wTok (F := F) c m) : sProp 𝕄) :=
    ent_of_eq (bigSep_sep _ (fun m => tTok (F := F) c m) (fun m => wTok (F := F) c m)).symm
  ihave Htw := etw $$ [Ht Hw]
  · isplitl [Ht] <;> iassumption
  imod (swap_out D K c) $$ [Htw] with Hrt
  · isplitr; · iexact HC
    iexact Htw
  imodintro
  ihave Hsl := (slots_sh (F := F) c).2 $$ [Hsl Hrt]
  · isplitl [Hsl] <;> iassumption
  ihave H45 := (slots_join (F := F) c) $$ Hsl
  icases H45 with ⟨H5, H4⟩
  ihave HSB := (SB_last (F := F) c) $$ HSB
  icases HSB with ⟨H3, H2⟩
  ihave H1 := (Pb_last D c _ _) $$ HPb
  isplitr; · iexact HC
  unfold scratch
  isplitl [H0 H1 H2 H3 H4 H5]
  · isplitl [H0]; · iexact H0
    isplitl [H1]; · iexact H1
    isplitl [H2]; · iexact H2
    isplitl [H3]; · iexact H3
    isplitl [H4] <;> iassumption
  isplitl [HRP HSP]
  · isplitl [HRP] <;> iassumption
  isplitl [HO]; · iexact HO
  iexact HS
end

end Cert.KernelIdeal.Mlp
-- ==== Proof.Cells.lean ====
/-
# The copies' semaphores at the kernel's start and end

A device has 132 semaphores for its copies, eight to send and 124 to receive. Their protocol starts when the kernel does,
from counters at zero, and is over when it ends, which gives the counters back at zero.
-/
module

public import proofs.«01_k».proof.Proof.Buffers

@[expose] public section

noncomputable section

namespace Cert.KernelIdeal.Mlp

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-- The copies' semaphores. -/
def osem (k : Fin 132) : SemLoc sig := .dma (⟨10 + k.val, by have := k.isLt; omega⟩ : Fin 142)

abbrev VR : Finset ℕ := (Finset.range 128).filter fun m => Valid m
theorem cells_union : (Finset.univ.image fun k : Fin 132 => 10 + k.val)
    = (Finset.range 8).image (fun a => sendNo (a / 4 * 64 + a % 4)) ∪ VR.image recvNo := by decide +kernel
theorem send_inj : Set.InjOn (fun a => sendNo (a / 4 * 64 + a % 4)) (Finset.range 8 : Finset ℕ) := by
  have h : ∀ a ∈ Finset.range 8, ∀ b ∈ Finset.range 8, sendNo (a / 4 * 64 + a % 4) = sendNo (b / 4 * 64 + b % 4) → a = b := by decide
  exact fun a ha b hb => h a ha b hb
theorem recv_inj : Set.InjOn recvNo (VR : Finset ℕ) := fun a ha b hb h => by
  have ha := Finset.mem_filter.1 ha
  have hb := Finset.mem_filter.1 hb
  have h1 := Finset.mem_range.1 ha.1
  have h2 := Finset.mem_range.1 hb.1
  have := recvNo_inj ha.2 hb.2 h
  omega
theorem send_recv_disj : Disjoint ((Finset.range 8).image fun a => sendNo (a / 4 * 64 + a % 4)) (VR.image recvNo) := by
  rw [Finset.disjoint_left]
  intro q h1 h2
  obtain ⟨a, -, rfl⟩ := Finset.mem_image.1 h1
  obtain ⟨b, -, hb⟩ := Finset.mem_image.1 h2
  have := sendNo_lt (a / 4 * 64 + a % 4)
  have := recvNo_ge b
  omega

omit [FloatOps F] in
theorem own_split (Φ : SemLoc sig → sProp 𝕄) : (bigSep Finset.univ fun k => Φ (osem k))
    = iprop((bigSep (Finset.range 8) fun a => Φ (.dma (sendSem (a / 4 * 64 + a % 4)))) ∗ bigSep VR fun i => Φ (.dma (recvSem i))) := by
  let Ψ : ℕ → sProp 𝕄 := fun n => if h : n < 142 then Φ (.dma (⟨n, h⟩ : Fin 142)) else iprop(emp)
  have e0 : (bigSep Finset.univ fun k => Φ (osem k)) = bigSep (Finset.univ.image fun k : Fin 132 => 10 + k.val) Ψ := by
    rw [bigSep_image_of_injOn (fun a _ b _ h => Fin.ext (by simpa using h))]
    refine bigSep_congr fun k _ => ?_
    have h : 10 + k.val < 142 := by have := k.isLt; omega
    show Φ (osem k) = if h : 10 + k.val < 142 then Φ (.dma (⟨10 + k.val, h⟩ : Fin 142)) else iprop(emp)
    rw [dif_pos h]; rfl
  have e1 : bigSep ((Finset.range 8).image fun a => sendNo (a / 4 * 64 + a % 4)) Ψ = bigSep (Finset.range 8) fun a => Φ (.dma (sendSem (a / 4 * 64 + a % 4))) := by
    rw [bigSep_image_of_injOn send_inj]
    exact bigSep_congr fun a _ => dif_pos ((sendNo_lt _).trans (by decide))
  have e2 : bigSep (VR.image recvNo) Ψ = bigSep VR fun i => Φ (.dma (recvSem i)) := by
    rw [bigSep_image_of_injOn recv_inj]
    exact bigSep_congr fun a _ => dif_pos (recvNo_lt _)
  rw [e0, cells_union]
  refine (bigSep_union send_recv_disj).trans ?_
  rw [e1, e2]
  rfl

theorem sCnt_first : ∀ a ∈ Finset.range 8, sCnt 0 (a / 4 * 64 + a % 4) = 0 := by decide
theorem sCnt_last : ∀ a ∈ Finset.range 8, sCnt 384 (a / 4 * 64 + a % 4) = rounds (sendNo (a / 4 * 64 + a % 4)) := by decide
theorem cnt_last : ∀ i < 128, cnt 384 i = 3 := fun i hi => by simp only [cnt]; omega
theorem rounds_recv (m : ℕ) : rounds (recvNo m) = 3 := by
  have := recvNo_ge m
  rw [rounds, if_neg (by omega), if_neg (by omega)]

section
variable (D : Vals F) (K : Names) (c : Dev nD)

theorem osem_mem (k : Fin 132) : (((c : Thread nD τ), osem k) : GSem nD τ sig) ∈ barCells ∪ dmaCells := mem_dma c _ (Nat.le_add_right 10 k.val)

theorem own_open : iprop(Cx D K ∗ (bigSep Finset.univ fun k => openTok (ER (F := F)) (((c : Thread nD τ), osem k) : GSem nD τ sig))
      ∗ bigSep Finset.univ fun k => semVal (((c : Thread nD τ), osem k) : GSem nD τ sig) 0)
    ⊢ iprop(|={Set.univ}=> (RP (F := F) c 0 ∗ SP (F := F) c 0)) := by
  have e1 : iprop((bigSep Finset.univ fun k => openTok (ER (F := F)) (((c : Thread nD τ), osem k) : GSem nD τ sig)) ∗ bigSep Finset.univ fun k => semVal (((c : Thread nD τ), osem k) : GSem nD τ sig) 0)
      ⊢ (bigSep Finset.univ fun k : Fin 132 => iprop(openTok (ER (F := F)) (((c : Thread nD τ), osem k) : GSem nD τ sig) ∗ semVal (((c : Thread nD τ), osem k) : GSem nD τ sig) 0) : sProp 𝕄) :=
    ent_of_eq (bigSep_sep _ _ _).symm
  have e2 : iprop(Cx D K ∗ bigSep Finset.univ fun k : Fin 132 => iprop(openTok (ER (F := F)) (((c : Thread nD τ), osem k) : GSem nD τ sig) ∗ semVal (((c : Thread nD τ), osem k) : GSem nD τ sig) 0))
      ⊢ iprop(|={Set.univ}=> bigSep Finset.univ fun k : Fin 132 => iprop(atPos (ER (F := F)) (((c : Thread nD τ), osem k) : GSem nD τ sig) 0 ∅ 0 ∗ reached (ER (F := F)) (((c : Thread nD τ), osem k) : GSem nD τ sig) 0)) := by
    refine (bigSep_with_persistent (R := Cx D K) (Φ := fun k : Fin 132 => iprop(openTok (ER (F := F)) (((c : Thread nD τ), osem k) : GSem nD τ sig) ∗ semVal (((c : Thread nD τ), osem k) : GSem nD τ sig) 0))
      (Ψ := fun k : Fin 132 => iprop(|={Set.univ}=> (atPos (ER (F := F)) (((c : Thread nD τ), osem k) : GSem nD τ sig) 0 ∅ 0 ∗ reached (ER (F := F)) (((c : Thread nD τ), osem k) : GSem nD τ sig) 0))) fun k _ => ?_).trans (bigSep_fupd _ _)
    iintro ⟨#HC, Ho, Hv⟩
    ihave #Hi := Cx_cell D K (osem_mem c k) $$ HC
    iapply (Rounds.cell_open ER (Rd D) (Set.mem_univ (K.cell ((c : Thread nD τ), osem k))))
    isplitr; · iexact Hi
    isplitl [Ho] <;> iassumption
  have e3 : (bigSep Finset.univ fun k : Fin 132 => iprop(atPos (ER (F := F)) (((c : Thread nD τ), osem k) : GSem nD τ sig) 0 ∅ 0 ∗ reached (ER (F := F)) (((c : Thread nD τ), osem k) : GSem nD τ sig) 0) : sProp 𝕄)
      = iprop(SP (F := F) c 0 ∗ RP (F := F) c 0) := by
    rw [own_split (fun sm => iprop(atPos (ER (F := F)) (((c : Thread nD τ), sm) : GSem nD τ sig) 0 ∅ 0 ∗ reached (ER (F := F)) (((c : Thread nD τ), sm) : GSem nD τ sig) 0))]
    unfold SP RP
    congr 1
  rw [e3] at e2
  iintro ⟨#HC, H1, H2⟩
  ihave H := e1 $$ [H1 H2]
  · isplitl [H1] <;> iassumption
  imod e2 $$ [H] with H
  · isplitr; · iexact HC
    iexact H
  imodintro
  icases H with ⟨H1, H2⟩
  isplitl [H2] <;> iassumption

/-- The position of a semaphore whose protocol is over. -/
def over (sm : SemLoc sig) : sProp 𝕄 := match sm with
  | .dma q => atPos (ER (F := F)) (((c : Thread nD τ), .dma q) : GSem nD τ sig) (rounds q.val) ∅ 0
  | .reg _ => iprop(emp)
theorem over_all : iprop(RP (F := F) c 384 ∗ SP (F := F) c 384) ⊢ bigSep Finset.univ fun k => over (F := F) c (osem k) := by
  rw [own_split (over c)]
  have a : RP (F := F) c 384 ⊢ bigSep VR fun i => over (F := F) c (.dma (recvSem i)) := by
    unfold RP
    refine bigSep_mono fun i hi => ?_
    rw [cnt_last i (Finset.mem_range.1 (Finset.mem_filter.1 hi).1)]
    show _ ⊢ atPos (ER (F := F)) (recvC c i) (rounds (recvNo i)) ∅ 0
    rw [rounds_recv]
    iintro ⟨H, -⟩; iexact H
  have b : SP (F := F) c 384 ⊢ bigSep (Finset.range 8) fun i => over (F := F) c (.dma (sendSem (i / 4 * 64 + i % 4))) := by
    unfold SP
    refine bigSep_mono fun i hi => ?_
    rw [sCnt_last i hi]
    show _ ⊢ atPos (ER (F := F)) (sendC c (i / 4 * 64 + i % 4)) (rounds (sendNo (i / 4 * 64 + i % 4))) ∅ 0
    iintro ⟨H, -⟩; iexact H
  iintro ⟨H1, H2⟩
  isplitl [H2]
  · iapply b; iexact H2
  · iapply a; iexact H1
theorem own_close : iprop(Cx D K ∗ (RP (F := F) c 384 ∗ SP (F := F) c 384)) ⊢ iprop(|={Set.univ}=> bigSep Finset.univ fun k => semVal (((c : Thread nD τ), osem k) : GSem nD τ sig) 0) := by
  refine (sep_mono_right (over_all c)).trans ((bigSep_with_persistent (R := Cx D K) (Φ := fun k => over (F := F) c (osem k))
    (Ψ := fun k : Fin 132 => iprop(|={Set.univ}=> semVal (((c : Thread nD τ), osem k) : GSem nD τ sig) 0)) fun k _ => ?_).trans (bigSep_fupd _ _))
  iintro ⟨#HC, Hat⟩
  ihave #Hi := Cx_cell D K (osem_mem c k) $$ HC
  iapply (Rounds.cell_close ER (Rd D) (Set.mem_univ (K.cell ((c : Thread nD τ), osem k))) (fun h => h) (R := rounds (10 + k.val)) (fun r hr => duties_dma_later D c _ r hr))
  isplitr; · iexact Hi
  iapply (ent_of_eq (show over (F := F) c (osem k) = atPos (ER (F := F)) (((c : Thread nD τ), osem k) : GSem nD τ sig) (rounds (10 + k.val)) ∅ 0 from rfl))
  iexact Hat
end

end Cert.KernelIdeal.Mlp
-- ==== Proof.Region.lean ====
/-
The proof data of the kernel's one region: what the windows' arrays hold when it is entered and when it is left,
and what the staging buffers hold before and after the body.
-/
module

public import proofs.«01_k».proof.Proof.Ends
public import proofs.«01_k».proof.Proof.Cells
public import proofs.«01_k».proof.Proof.Gen.KernelIdeal.Frame
public import Idealize.ShloMosaic.Lib.Pipeline.RegionTalk
public import Idealize.ShloMosaic.Lib.Pipeline.ValueKit
public import Idealize.ShloMosaic.Lib.StableHlo.RunRead

@[expose] public section

noncomputable section

namespace Cert.KernelIdeal.Mlp

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ)

/-- The values the devices start with: their blocks of the argument arrays. -/
def vals : Vals F where
  x c := m ((c : Thread nD τ).loc main_arg0)
  wi l c := match l with
    | 0 => m ((c : Thread nD τ).loc main_arg1)
    | 1 => m ((c : Thread nD τ).loc main_arg2)
    | _ => m ((c : Thread nD τ).loc main_arg3)
  wo l c := match l with
    | 0 => m ((c : Thread nD τ).loc main_arg4)
    | 1 => m ((c : Thread nD τ).loc main_arg5)
    | _ => m ((c : Thread nD τ).loc main_arg6)

/-- What device `c` stores at the end. -/
def outF (c : Dev nD) : S64x1024.Idx → F .f32 := (vals m).fin ((vals m).X 2) 2 c

/-- The buffers of device `c` when the region is entered. -/
def W₁ (c : Dev nD) : Valuation τ sig (Elt F) := StableHlo.after hostOps0 (fun b => m (c, b))
/-- And when it is left: the result array holds `outF`. -/
def W₂ (c : Dev nD) : Valuation τ sig (Elt F) :=
  Function.update (W₁ m c) (Proc.devRef .tc main_v3) (show (Proc.devRef (τ := τ) .tc (main_v3 : Ref sig .tc)).ty.Contents (Elt F) from outF m c)

theorem rowMajor_cast (i : S1x32.Idx) : S32.rowMajor (Shape.reshapeEquiv shapeCasts_S32_S1x32 i) = i 1 := by
  refine Fin.ext ((Shape.rowMajor_reshapeEquiv (s := S32) (s' := S1x32) shapeCasts_S32_S1x32 i).trans ?_)
  unfold Shape.rowMajor
  have h0 : (i 0 : ℕ) = 0 := by have h : (i 0 : ℕ) < 1 := (i 0).isLt; omega
  refine (Shape.rowMajorPi_succ_val _ _).trans ?_
  rw [h0]
  refine (Nat.zero_mul _ ▸ Nat.zero_add _ : 0 * _ + _ = _).trans ?_
  refine (Shape.rowMajorPi_succ_val _ _).trans ?_
  simp

theorem W₁_v1 (c : Dev nD) : W₁ m c (Proc.devRef .tc main_v1) = cycF := by
  have h : W₁ m c (Proc.devRef .tc main_v1) = fun i => lit0 (S32.rowMajor (Shape.reshapeEquiv shapeCasts_S32_S1x32 i)) := by
    unfold W₁ hostOps0
    after_reads_simp
    rfl
  rw [h]; funext i; exact congrArg lit0 (rowMajor_cast i)
theorem W₁_v2 (c : Dev nD) : W₁ m c (Proc.devRef .tc main_v2) = invF := by
  have h : W₁ m c (Proc.devRef .tc main_v2) = fun i => lit1 (S32.rowMajor (Shape.reshapeEquiv shapeCasts_S32_S1x32 i)) := by
    unfold W₁ hostOps0
    after_reads_simp
    rfl
  rw [h]; funext i; exact congrArg lit1 (rowMajor_cast i)

abbrev adm : (p : Fin 1) → (pcfgs (F := F) p).Adm := fun p => (cfgs p).toPCfg_adm

/-- What device `c` holds of the copies when it enters the region, beside the scratch buffers. -/
def Xk (c : Dev nD) : sProp 𝕄 :=
  iprop(∃ K, Cx (vals m) K ∗ barToks (F := F) c ∗ (RP (F := F) c 0 ∗ SP (F := F) c 0) ∗ TK (F := F) c 0 ∗ IC (F := F) c 0)
def Yk (c : Dev nD) : sProp 𝕄 := semVal (bar c) 0

/-- The region's proof data. -/
def dat0 (c : Dev nD) : Dat τ (Elt F) ℕ ℕ UU ℕ cfg0 c where
  A w := W₁ m c (Proc.devRef .tc (Pipeline.arrRef spec0 w))
  after w _ := match w with
    | ⟨0, _⟩ => cycF
    | ⟨1, _⟩ => invF
    | ⟨2, _⟩ => (vals m).x c
    | ⟨3, _⟩ => (vals m).wi 0 c
    | ⟨4, _⟩ => (vals m).wi 1 c
    | ⟨5, _⟩ => (vals m).wi 2 c
    | ⟨6, _⟩ => (vals m).wo 0 c
    | ⟨7, _⟩ => (vals m).wo 1 c
    | ⟨8, _⟩ => (vals m).wo 2 c
    | ⟨9, _⟩ => outF m c
  Φ t := match t with
    | ⟨0, _⟩ => iprop(scratch (F := F) c ∗ (∃ r, prngReg c r) ∗ Xk m c)
    | ⟨_ + 1, _⟩ => iprop(scratch (F := F) c ∗ (∃ r, prngReg c r) ∗ Pipeline.ownSems0 osem c ∗ Yk (F := F) c)
  q _ := fullShare
  owed t := match t with
    | ⟨0, _⟩ => owedAll c
    | ⟨_ + 1, _⟩ => 0
def pdats : (p : Fin 1) → (c : Dev nD) → Dat τ (Elt F) ℕ ℕ UU ℕ (Pipeline.pin (pcfgs (F := F)) adm p) c
  | 0 => dat0 m

/-- Every window's block index at the one point. -/
theorem index_0 : ∀ t : Fin cfg0.N, win0_0.index t = ![0, 0] ∧ win0_1.index t = ![0, 0] ∧ win0_2.index t = ![0, 0] ∧ win0_3.index t = ![0, 0]
    ∧ win0_4.index t = ![0, 0] ∧ win0_5.index t = ![0, 0] ∧ win0_6.index t = ![0, 0] ∧ win0_7.index t = ![0, 0] ∧ win0_8.index t = ![0, 0] :=
  (by decide +kernel : ∀ t : Fin grid0.N, _)
theorem block_0 (c : Dev nD) : iblk m c 0 t0_0 = V m c main_v1 := by blk_ext! [iblk, index_0 t0_0]
theorem block_1 (c : Dev nD) : iblk m c 1 t0_0 = V m c main_v2 := by blk_ext! [iblk, index_0 t0_0]
theorem block_2 (c : Dev nD) : iblk m c 2 t0_0 = V m c main_arg0 := by blk_ext! [iblk, index_0 t0_0]
theorem block_3 (c : Dev nD) : iblk m c 3 t0_0 = V m c main_arg1 := by blk_ext! [iblk, index_0 t0_0]
theorem block_4 (c : Dev nD) : iblk m c 4 t0_0 = V m c main_arg2 := by blk_ext! [iblk, index_0 t0_0]
theorem block_5 (c : Dev nD) : iblk m c 5 t0_0 = V m c main_arg3 := by blk_ext! [iblk, index_0 t0_0]
theorem block_6 (c : Dev nD) : iblk m c 6 t0_0 = V m c main_arg4 := by blk_ext! [iblk, index_0 t0_0]
theorem block_7 (c : Dev nD) : iblk m c 7 t0_0 = V m c main_arg5 := by blk_ext! [iblk, index_0 t0_0]
theorem block_8 (c : Dev nD) : iblk m c 8 t0_0 = V m c main_arg6 := by blk_ext! [iblk, index_0 t0_0]

theorem before_0 (c : Dev nD) (d) : (dat0 m c).before (0 : Fin 10) t0_0 d = cycF := by
  unfold Dat.before; rw [if_pos (fetch0_0 t0_0)]; exact (block_0 m c).trans (W₁_v1 m c)
theorem before_1 (c : Dev nD) (d) : (dat0 m c).before (1 : Fin 10) t0_0 d = invF := by
  unfold Dat.before; rw [if_pos (fetch0_1 t0_0)]; exact (block_1 m c).trans (W₁_v2 m c)
theorem before_2 (c : Dev nD) (d) : (dat0 m c).before (2 : Fin 10) t0_0 d = (vals m).x c := by
  unfold Dat.before; rw [if_pos (fetch0_2 t0_0)]; exact (block_2 m c).trans (V_main_arg0 m c)
theorem before_3 (c : Dev nD) (d) : (dat0 m c).before (3 : Fin 10) t0_0 d = (vals m).wi 0 c := by
  unfold Dat.before; rw [if_pos (fetch0_3 t0_0)]; exact (block_3 m c).trans (V_main_arg1 m c)
theorem before_4 (c : Dev nD) (d) : (dat0 m c).before (4 : Fin 10) t0_0 d = (vals m).wi 1 c := by
  unfold Dat.before; rw [if_pos (fetch0_4 t0_0)]; exact (block_4 m c).trans (V_main_arg2 m c)
theorem before_5 (c : Dev nD) (d) : (dat0 m c).before (5 : Fin 10) t0_0 d = (vals m).wi 2 c := by
  unfold Dat.before; rw [if_pos (fetch0_5 t0_0)]; exact (block_5 m c).trans (V_main_arg3 m c)
theorem before_6 (c : Dev nD) (d) : (dat0 m c).before (6 : Fin 10) t0_0 d = (vals m).wo 0 c := by
  unfold Dat.before; rw [if_pos (fetch0_6 t0_0)]; exact (block_6 m c).trans (V_main_arg4 m c)
theorem before_7 (c : Dev nD) (d) : (dat0 m c).before (7 : Fin 10) t0_0 d = (vals m).wo 1 c := by
  unfold Dat.before; rw [if_pos (fetch0_7 t0_0)]; exact (block_7 m c).trans (V_main_arg5 m c)
theorem before_8 (c : Dev nD) (d) : (dat0 m c).before (8 : Fin 10) t0_0 d = (vals m).wo 2 c := by
  unfold Dat.before; rw [if_pos (fetch0_8 t0_0)]; exact (block_8 m c).trans (V_main_arg6 m c)

theorem arr_in (c : Dev nD) (w : Fin 10) (hw : w ≠ 9) (n : ℕ) : (dat0 m c).arrAt w n = W₁ m c (Proc.devRef .tc (Pipeline.arrRef spec0 w)) := by
  refine (dat0 m c).arrAt_in w ?_ n
  revert w; decide
theorem arr_out (c : Dev nD) : (dat0 m c).arrAt (9 : Fin 10) cfg0.N = outF m c :=
  (dat0 m c).arrAt_eq_of_after_last (9 : Fin 10) t0_0 (by decide +kernel) _ fun j => rfl

theorem W₂_v3 (c : Dev nD) : W₂ m c (Proc.devRef .tc main_v3) = outF m c := by
  unfold W₂; exact Function.update_self _ _ _
theorem W₂_ne (c : Dev nD) {b : DevRef τ sig} (h : b ≠ Proc.devRef .tc main_v3) : W₂ m c b = W₁ m c b := by
  unfold W₂; exact Function.update_of_ne h _ _

theorem arr_first (c : Dev nD) (w : Fin 10) : (dat0 m c).arrAt w 0 = W₁ m c (Proc.devRef .tc (Pipeline.arrRef spec0 w)) := rfl
theorem arr_last (c : Dev nD) (w : Fin 10) : (dat0 m c).arrAt w cfg0.N = W₂ m c (Proc.devRef .tc (Pipeline.arrRef spec0 w)) := by
  by_cases hw : w = 9
  · subst hw; exact (arr_out m c).trans (W₂_v3 m c).symm
  · rw [arr_in m c w hw, W₂_ne]
    revert w; decide

theorem dat_owed0 (c : Dev nD) : (dat0 m c).owed 0 = owedAll c := rfl
theorem dat_owedN (c : Dev nD) : (dat0 m c).owed (Fin.last _) = 0 := rfl

end Cert.KernelIdeal.Mlp
-- ==== Proof.Segment.lean ====
/-
The region as a segment of the program: the body's obligation at a symbolic device, and what the region takes and gives back.
-/
module

public import proofs.«01_k».proof.Proof.Region

@[expose] public section

noncomputable section

namespace Cert.KernelIdeal.Mlp

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ)

theorem owes_in (c : Dev nD) (t : Fin (cfg0.N + 1)) (O : CellTallies nD τ sig ℕ) (h : (dat0 m c).owed t = O) (W : Waits sig ℕ) :
    (owes (c : Thread nD τ) O W : sProp 𝕄) ⊢ (dat0 m c).owesAt 0 t := by
  unfold Dat.owesAt Pipeline.owesWithin Dat.bound
  rw [h, show (dat0 m c).recorded t = Set.univ from rfl]
  iintro HO; iexists W
  isplitr
  · ipureintro; exact fun _ _ => Or.inl trivial
  iexact HO
theorem owes_out (c : Dev nD) (t : Fin (cfg0.N + 1)) (O : CellTallies nD τ sig ℕ) (h : (dat0 m c).owed t = O) :
    (dat0 m c).owesAt 0 t ⊢ (iprop(∃ W, owes (c : Thread nD τ) O W) : sProp 𝕄) := by
  unfold Dat.owesAt Pipeline.owesWithin
  rw [h]
  iintro ⟨%W, -, HO⟩; iexists W; iexact HO

/-- A staging buffer held whole. -/
abbrev stg (c : Dev nD) (b : Ref sig .tc) (X : b.ty.Contents (Elt F)) : sProp 𝕄 :=
  owns (c : Thread nD τ) (Memref.whole b) fullShare X
theorem stg_eq (c : Dev nD) (b : Ref sig .tc) (X : b.ty.Contents (Elt F)) :
    stg c b X = iprop(∃ f : Buf (Elt F) ((c : Thread nD τ).loc b), ⌜f = X⌝ ∗ ((c : Thread nD τ).loc b) ↦{fullShare} f) := by
  unfold stg owns; simp only [Memref.view_whole, View.read_whole, View.set_whole]
theorem stg_pts (c : Dev nD) (b : Ref sig .tc) (X : b.ty.Contents (Elt F)) :
    stg c b X = (wPts c b (show Buf (Elt F) ((c : Thread nD τ).loc b) from X) : sProp 𝕄) := by
  rw [stg_eq]
  have h1 : (iprop(∃ f : Buf (Elt F) ((c : Thread nD τ).loc b), ⌜f = X⌝ ∗ ((c : Thread nD τ).loc b) ↦{fullShare} f) : sProp 𝕄)
      ⊢ (((c : Thread nD τ).loc b) ↦{fullShare} (show Buf (Elt F) ((c : Thread nD τ).loc b) from X)) := by
    iintro ⟨%f, %h, H⟩; subst h; iexact H
  have h2 : ((((c : Thread nD τ).loc b) ↦{fullShare} (show Buf (Elt F) ((c : Thread nD τ).loc b) from X)) : sProp 𝕄)
      ⊢ iprop(∃ f : Buf (Elt F) ((c : Thread nD τ).loc b), ⌜f = X⌝ ∗ ((c : Thread nD τ).loc b) ↦{fullShare} f) := by
    iintro H; iexists _
    isplitr
    · ipureintro; rfl
    iexact H
  exact equiv_iff.mp ⟨h1, h2⟩

def bodyPre (c : Dev nD) : sProp 𝕄 :=
  iprop((scratch (F := F) c ∗ (∃ r, prngReg c r) ∗ Xk m c) ∗ (dat0 m c).owesAt 0 t0_0.castSucc
    ∗ (∃ d, stg c cc0_stg0_0 ((dat0 m c).before (0 : Fin 10) t0_0 d)) ∗ (∃ d, stg c cc0_stg1_0 ((dat0 m c).before (1 : Fin 10) t0_0 d))
    ∗ (∃ d, stg c cc0_stg2_0 ((dat0 m c).before (2 : Fin 10) t0_0 d)) ∗ (∃ d, stg c cc0_stg3_0 ((dat0 m c).before (3 : Fin 10) t0_0 d))
    ∗ (∃ d, stg c cc0_stg4_0 ((dat0 m c).before (4 : Fin 10) t0_0 d)) ∗ (∃ d, stg c cc0_stg5_0 ((dat0 m c).before (5 : Fin 10) t0_0 d))
    ∗ (∃ d, stg c cc0_stg6_0 ((dat0 m c).before (6 : Fin 10) t0_0 d)) ∗ (∃ d, stg c cc0_stg7_0 ((dat0 m c).before (7 : Fin 10) t0_0 d))
    ∗ (∃ d, stg c cc0_stg8_0 ((dat0 m c).before (8 : Fin 10) t0_0 d)) ∗ (∃ d, stg c cc0_stg9_0 ((dat0 m c).before (9 : Fin 10) t0_0 d)))
def bodyPost (c : Dev nD) : sProp 𝕄 :=
  iprop((scratch (F := F) c ∗ (∃ r, prngReg c r) ∗ Pipeline.ownSems0 osem c ∗ Yk (F := F) c) ∗ (dat0 m c).owesAt 0 t0_0.succ
    ∗ stg c cc0_stg0_0 cycF ∗ stg c cc0_stg1_0 invF ∗ stg c cc0_stg2_0 ((vals m).x c)
    ∗ stg c cc0_stg3_0 ((vals m).wi 0 c) ∗ stg c cc0_stg4_0 ((vals m).wi 1 c) ∗ stg c cc0_stg5_0 ((vals m).wi 2 c)
    ∗ stg c cc0_stg6_0 ((vals m).wo 0 c) ∗ stg c cc0_stg7_0 ((vals m).wo 1 c) ∗ stg c cc0_stg8_0 ((vals m).wo 2 c)
    ∗ stg c cc0_stg9_0 (outF m c))

/-- The staging buffers before the body hold what the kernel starts from. -/
theorem staged (c : Dev nD) :
    iprop((∃ d, stg c cc0_stg0_0 ((dat0 m c).before (0 : Fin 10) t0_0 d)) ∗ (∃ d, stg c cc0_stg1_0 ((dat0 m c).before (1 : Fin 10) t0_0 d))
    ∗ (∃ d, stg c cc0_stg2_0 ((dat0 m c).before (2 : Fin 10) t0_0 d)) ∗ (∃ d, stg c cc0_stg3_0 ((dat0 m c).before (3 : Fin 10) t0_0 d))
    ∗ (∃ d, stg c cc0_stg4_0 ((dat0 m c).before (4 : Fin 10) t0_0 d)) ∗ (∃ d, stg c cc0_stg5_0 ((dat0 m c).before (5 : Fin 10) t0_0 d))
    ∗ (∃ d, stg c cc0_stg6_0 ((dat0 m c).before (6 : Fin 10) t0_0 d)) ∗ (∃ d, stg c cc0_stg7_0 ((dat0 m c).before (7 : Fin 10) t0_0 d))
    ∗ (∃ d, stg c cc0_stg8_0 ((dat0 m c).before (8 : Fin 10) t0_0 d)) ∗ (∃ d, stg c cc0_stg9_0 ((dat0 m c).before (9 : Fin 10) t0_0 d)))
    ⊢ (Sg (vals m) c : sProp 𝕄) := by
  simp only [before_0, before_1, before_2, before_3, before_4, before_5, before_6, before_7, before_8]
  simp only [stg_pts]
  unfold Sg tabs wiPts woPts
  iintro ⟨⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  isplitl [H0 H1]; · isplitl [H0] <;> iassumption
  isplitl [H2]; · iexact H2
  isplitl [H3 H4 H5]
  · isplitl [H3]; · iexact H3
    isplitl [H4] <;> iassumption
  isplitl [H6 H7 H8]
  · isplitl [H6]; · iexact H6
    isplitl [H7] <;> iassumption
  iexists _; iexact H9

/-- What is held when the body ends makes the region's post. -/
theorem body_ends (c : Dev nD) (K : Names) :
    iprop((∃ r, prngReg c r) ∗ semVal (bar c) 0 ∗ wPts c cc0_stg9_0 (outF m c) ∗ SGe (vals m) c K 2 (DnB 16) 384 384)
    ⊢ (iprop(|={Set.univ}=> bodyPost m c) : sProp 𝕄) := by
  iintro ⟨Hp, Hb, Ho, HE⟩
  imod (exit (vals m) c K (DnB 16)) $$ HE with ⟨#HC, Hsc, HRS, HO, HS⟩
  imod (own_close (vals m) K c) $$ [HRS] with Hs
  · isplitr; · iexact HC
    iexact HRS
  imodintro
  unfold bodyPost
  simp only [stg_pts]
  unfold Sgi tabs wiPts woPts Ow
  icases HS with ⟨⟨H0, H1⟩, H2, ⟨H3, H4, H5⟩, ⟨H6, H7, H8⟩⟩
  icases HO with ⟨%W, HO⟩
  isplitl [Hsc Hp Hs Hb]
  · isplitl [Hsc]; · iexact Hsc
    isplitl [Hp]; · iexact Hp
    isplitl [Hs]; · unfold Pipeline.ownSems0; iexact Hs
    unfold Yk; iexact Hb
  isplitl [HO]
  · iapply (owes_in m c t0_0.succ (owed c 384) (owed_last c).symm W) $$ HO
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact Ho

theorem body_runs (c : Dev nD) (K : Names) : (iprop((∃ r, prngReg c r) ∗ Start (vals m) K c) : sProp 𝕄)
    ⊢ WP c (cc0_body (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_stg8_0) (Memref.isWhole_whole _) (Memref.whole cc0_stg9_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 cc0_scratch13) (fun _ => iprop(|={Set.univ}=> bodyPost m c)) :=
  (sep_mono_right (run_body (vals m) K c (Q := fun _ => iprop(semVal (bar c) 0 ∗ wPts c cc0_stg9_0 (outF m c) ∗ SGe (vals m) c K 2 (DnB 16) 384 384)) .rfl)).trans
    ((wp_frame_l frame (wpE (defs₀ (F := F)) 𝒱₀ (c : Thread nD τ) none) Set.univ).trans
      (wp_mono frame (wpE (defs₀ (F := F)) 𝒱₀ (c : Thread nD τ) none) Set.univ fun _ => body_ends m c K))

theorem body_run (c : Dev nD) : bodyPre m c ⊢ WP c (cc0_body (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_stg8_0) (Memref.isWhole_whole _) (Memref.whole cc0_stg9_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 cc0_scratch13) (fun _ => bodyPost m c) := by
  refine BIBase.Entails.trans ?_ (fupd_wp frame (wpE (defs₀ (F := F)) 𝒱₀ (c : Thread nD τ) none) Set.univ _ _)
  unfold bodyPre Xk
  iintro ⟨⟨Hsc, Hp, ⟨%K, #HC, HB, HRS, HTK, HIC⟩⟩, HO, HS⟩
  ihave HS := (staged m c) $$ HS
  ihave HO := (owes_out m c t0_0.castSucc (owedAll c) rfl) $$ HO
  imod (enter (vals m) c K) $$ [Hsc HB HRS HTK HIC HS HO] with H
  · isplitr; · iexact HC
    isplitl [Hsc]; · iexact Hsc
    isplitl [HRS]; · iexact HRS
    isplitl [HTK]; · iexact HTK
    isplitl [HIC]; · iexact HIC
    isplitl [HB]; · iexact HB
    isplitl [HO]; · iexact HO
    iexact HS
  imodintro
  iapply ((body_runs m c K).trans (wp_fupd frame (wpE (defs₀ (F := F)) 𝒱₀ (c : Thread nD τ) none) Set.univ _ _))
  isplitl [Hp]; · iexact Hp
  iexact H

set_option maxRecDepth 4000 in
theorem body (c : Dev nD) : BodyObligation (dat0 m c) defs₀ 𝒱₀ 0 Set.univ := fun t => by
  rw [fin_N0 t, bigSep_W0, bigSep_W0]
  exact body_run m c

theorem kitP : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

theorem due_level {c : Dev nD} {g : GSem nD τ sig} {i : ℕ} (h : 0 < owedAll c g i) : i ∈ L g ∧ 0 < lv g i := by
  unfold owedAll at h
  simp only [Pi.add_apply, Finsupp.add_apply] at h
  have hb : ∀ d : Dev nD, 0 < tallyAt (bar d) 1 1 g i → i ∈ L g ∧ 0 < lv g i := fun d hd => by
    rw [tallyAt_apply] at hd
    split at hd
    · next hg =>
      obtain ⟨rfl, rfl⟩ := hg
      exact ⟨by unfold L; rw [if_pos rfl]; decide, by unfold lv; decide⟩
    · exact absurd hd (Nat.lt_irrefl 0)
  rcases Nat.add_pos_iff_pos_or_pos.mp h with h | h
  · rcases Nat.add_pos_iff_pos_or_pos.mp h with h | h
    · obtain ⟨h1, h2, h3⟩ := owed_pos h
      refine ⟨?_, by unfold lv; omega⟩
      unfold L; rw [if_pos h1]; exact Finset.mem_range.2 (by omega)
    · exact hb _ h
  · exact hb _ h

theorem dat_level (c : Dev nD) (t : Fin ((Pipeline.pin (pcfgs (F := F)) adm 0).N + 1)) (g : GSem nD τ sig) (i : ℕ)
    (h : 0 < (pdats m 0 c).owed t g i) : i ∈ L g ∧ 0 < lv g i := by
  obtain ⟨t, ht⟩ := t
  match t, ht with
  | 0, _ => exact due_level h
  | _ + 1, _ => exact absurd h (Nat.lt_irrefl 0)

theorem share_full (c : Dev nD) (w) : (pdats m 0 c).share w = fullShare := by
  unfold Dat.share; split <;> rfl

/-- What the launch keeps for the region. -/
def Tk (c : Dev nD) : sProp 𝕄 :=
  iprop(∃ K, Cx (vals m) K ∗ barToks (F := F) c ∗ (bigSep Finset.univ fun k => openTok (ER (F := F)) (((c : Thread nD τ), osem k) : GSem nD τ sig))
    ∗ TK (F := F) c 0 ∗ IC (F := F) c 0)

theorem opens (c : Dev nD) : iprop(Tk m c ∗ Pipeline.ownSems0 osem c ∗ levAts L lv) ⊢ (|={Set.univ}=> Xk m c : sProp 𝕄) := by
  unfold Tk Xk Pipeline.ownSems0
  iintro ⟨⟨%K, #HC, HB, Ho, HTK, HIC⟩, Hs, -⟩
  imod (own_open (vals m) K c) $$ [Ho Hs] with H
  · isplitr; · iexact HC
    isplitl [Ho] <;> iassumption
  imodintro
  iexists K
  isplitr; · iexact HC
  isplitl [HB]; · iexact HB
  isplitl [H]; · iexact H
  isplitl [HTK] <;> iassumption

/-- The unscoped buffers that are no window's array. -/
def Sr : Finset (DevRef τ sig) := Pipeline.ucRefs τ sig \ Pipeline.arrRefs (τ := τ) spec0

theorem held_none (c : Dev nD) (W : Valuation τ sig (Elt F)) : (StableHlo.held (c.tc : Thread nD τ) ∅ W : sProp 𝕄) = BI.emp := by
  unfold StableHlo.held; exact BI.bigSep_empty

theorem scratch_rest (c : Dev nD) : (Pipeline.scopedRest (Pipeline.pin (pcfgs (F := F)) adm 0).spec c : sProp 𝕄) = scratch (F := F) c :=
  scopedRest0_eq c

theorem comes_in (c : Dev nD) : iprop(Pipeline.scopedRest (Pipeline.pin (pcfgs (F := F)) adm 0).spec c ∗ (∃ r, prngReg c r)
    ∗ StableHlo.held (c.tc : Thread nD τ) ∅ (W₁ m c) ∗ Xk m c) ⊢ (pdats m 0 c).Φ 0 := by
  rw [show (pdats m 0 c).Φ 0 = iprop(scratch (F := F) c ∗ (∃ r, prngReg c r) ∗ Xk m c) from rfl, scratch_rest]
  iintro ⟨Hs, Hp, -, HX⟩
  isplitl [Hs]; · iexact Hs
  isplitl [Hp] <;> iassumption

theorem goes_out (c : Dev nD) : (pdats m 0 c).Φ (Fin.last (Pipeline.pin (pcfgs (F := F)) adm 0).N)
    ⊢ iprop(Pipeline.scopedRest (Pipeline.pin (pcfgs (F := F)) adm 0).spec c ∗ (∃ r, prngReg c r)
      ∗ StableHlo.held (c.tc : Thread nD τ) ∅ (W₂ m c) ∗ Pipeline.ownSems0 osem c ∗ Yk (F := F) c) := by
  rw [show (pdats m 0 c).Φ (Fin.last _) = iprop(scratch (F := F) c ∗ (∃ r, prngReg c r) ∗ Pipeline.ownSems0 osem c ∗ Yk (F := F) c) from rfl,
    scratch_rest, held_none]
  iintro ⟨Hs, Hp, Ho, HY⟩
  isplitl [Hs]; · iexact Hs
  isplitl [Hp]; · iexact Hp
  isplitr; · iempintro
  isplitl [Ho] <;> iassumption

theorem rest_same (c : Dev nD) : ∀ b ∈ Sr \ ∅, W₂ m c b = W₁ m c b := fun b hb => by
  refine W₂_ne m c fun h => ?_
  subst h
  revert hb
  unfold Sr
  rw [Finset.sdiff_empty]
  decide

theorem osem_facts : Pipeline.OwnSemFacts spec0 osem := by decide

theorem stage_cell (c : Dev nD) (q : Fin 142) : (0 : ℕ) ∈ L ((c : Thread nD τ), .dma q) := by
  unfold L; rw [if_pos rfl]; decide

local notation "ℝ𝕊" => Pipeline.RegionSeg (pcfgs (F := F)) adm (pdats m) 0 defs₀ 𝒱₀ L lv

set_option backward.isDefEq.respectTransparency.types false in
/-- The region. -/
def reg : ℝ𝕊 0 :=
  Pipeline.RegionSeg.ofTalk (pcfgs (F := F)) adm (pdats m) 0 defs₀ 𝒱₀ L lv 0 osem osem_facts
    ∅ Sr (Finset.empty_subset _) kitP rfl (fun c => (body m c).loose)
    (fun _ => 0) owedAll (fun c => (dat_owed0 m c).trans (zero_add _).symm) (dat_owedN m) (fun _ => rfl) (share_full m)
    (W₁ m) (W₂ m) (rest_same m)
    (Tk m) (Yk (F := F)) (Xk m) (Yk (F := F)) (opens m) (comes_in m) (goes_out m)
    (fun c => by iintro H; imodintro; iexact H)
    (fun _ => 0)
    ⟨fun c w s => stage_cell c _, fun _ w s => Nat.le_refl _, fun c t g i h => dat_level m c t g i h⟩
    (fun _ => iprop(emp))
    (arr_first m) (arr_last m)

end Cert.KernelIdeal.Mlp
-- ==== Proof.Launch.lean ====
/-
What the launch sets up before any device runs: the tokens of all the copies and of the barrier, each handed to the
device that spends it, the credits a device waits on, and the invariants of the slots that two sides share.
-/
module

public import proofs.«01_k».proof.Proof.Segment

@[expose] public section

noncomputable section

namespace Cert.KernelIdeal.Mlp

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (ρ : Dev nD → PrngReg)

theorem bigSep_img {α β : Type} [DecidableEq α] [DecidableEq β] {f : α → β} {S : Finset α} (h : Set.InjOn f S) (Φ : β → sProp 𝕄) :
    bigSep (S.image f) Φ = bigSep S fun a => Φ (f a) := by
  have key : ∀ T : Finset α, T ⊆ S → bigSep (T.image f) Φ = bigSep T fun a => Φ (f a) := by
    intro T
    induction T using Finset.induction_on with
    | empty => intro _; rw [Finset.image_empty, bigSep_empty, bigSep_empty]
    | insert a T ha ih =>
      intro hT
      have hfa : f a ∉ T.image f := fun hm => by
        obtain ⟨b, hb, e⟩ := Finset.mem_image.1 hm
        exact ha (h (hT (Finset.mem_insert_of_mem hb)) (hT (Finset.mem_insert_self a T)) e ▸ hb)
      rw [Finset.image_insert, bigSep_insert hfa, bigSep_insert ha, ih fun x hx => hT (Finset.mem_insert_of_mem hx)]
  exact key S (Finset.Subset.refl S)

theorem bigSep_prod {α β : Type} [DecidableEq α] [DecidableEq β] (S : Finset α) (T : Finset β) (Φ : α × β → sProp 𝕄) :
    bigSep (S ×ˢ T) Φ = bigSep S fun a => bigSep T fun b => Φ (a, b) := by
  induction S using Finset.induction_on with
  | empty => rw [Finset.empty_product, bigSep_empty, bigSep_empty]
  | insert a S ha ih =>
    have e : (insert a S) ×ˢ T = (T.image fun b => (a, b)) ∪ S ×ˢ T := by
      ext ⟨x, y⟩
      simp only [Finset.mem_product, Finset.mem_insert, Finset.mem_union, Finset.mem_image, Prod.mk.injEq]
      constructor
      · rintro ⟨rfl | h, hy⟩
        · exact .inl ⟨y, hy, rfl, rfl⟩
        · exact .inr ⟨h, hy⟩
      · rintro (⟨b, hb, rfl, rfl⟩ | ⟨h, hy⟩)
        · exact ⟨.inl rfl, hb⟩
        · exact ⟨.inr h, hy⟩
    have hd : Disjoint (T.image fun b => (a, b)) (S ×ˢ T) := Finset.disjoint_left.2 fun x h1 h2 => by
      obtain ⟨b, -, rfl⟩ := Finset.mem_image.1 h1
      exact ha (Finset.mem_product.1 h2).1
    rw [e, bigSep_union hd, bigSep_img (fun x _ y _ hxy => (Prod.mk.inj hxy).2), ih, bigSep_insert ha]

theorem bigSep_swap {α β : Type} [DecidableEq α] [DecidableEq β] (S : Finset α) (T : Finset β) (Φ : α → β → sProp 𝕄) :
    (bigSep S fun a => bigSep T fun b => Φ a b) = bigSep T fun b => bigSep S fun a => Φ a b := by
  induction S using Finset.induction_on with
  | empty =>
    rw [bigSep_empty]
    exact ((bigSep_congr fun b _ => bigSep_empty).trans (bigSep_emp_const (s := T))).symm
  | insert a S ha ih =>
    rw [bigSep_insert ha, ih]
    rw [bigSep_congr (s := T) (Φ := fun b => bigSep (insert a S) fun a => Φ a b) (Ψ := fun b => iprop(Φ a b ∗ bigSep S fun a => Φ a b)) fun b _ => bigSep_insert ha, bigSep_sep']
    rfl

/-! ## The tokens -/

/-- A token's kind and the copy it is for: the two sides of the barrier, the sending and the landing of a copy, and the
    two tokens of a shared slot. -/
def tags : Finset (ℕ × ℕ) :=
  ({0} ×ˢ {0}) ∪ (({1} ×ˢ {0}) ∪ (({2} ×ˢ rem 0) ∪ (({3} ×ˢ rem 0) ∪ (({4} ×ˢ Finset.Ico 64 68) ∪ ({5} ×ˢ Finset.Ico 64 68)))))

def tagTok (t : ℕ × ℕ) : SemLoc sig × ℕ × Bool := match t.1 with
  | 0 => (.reg barrier0, 0, false)
  | 1 => (.reg barrier0, 0, true)
  | 2 => (.dma (sendSem t.2), sendRnd t.2, false)
  | 3 => (.dma (recvSem t.2), t.2 / 128, false)
  | 4 => (.dma (recvSem t.2), 7, false)
  | _ => (.dma (recvSem t.2), 8, false)

/-- The tag is read back off the token. -/
def dmaTag (q r : ℕ) : ℕ × ℕ := if q < 18 then (2, sendOp (sendOf q) r)
  else if r = 7 then (4, recvOf q) else if r = 8 then (5, recvOf q) else (3, 128 * r + recvOf q)
def tokTag (x : SemLoc sig × ℕ × Bool) : ℕ × ℕ := match x.1 with
  | .reg _ => if x.2.2 then (1, 0) else (0, 0)
  | .dma q => dmaTag q.val x.2.1

theorem slot_valid {n : ℕ} (h : n ∈ Finset.Ico 64 68) : Valid n ∧ n % 128 = n := by
  rw [Finset.mem_Ico] at h
  unfold Valid; omega

theorem dmaTag_recv {n r : ℕ} (hv : Valid n) : dmaTag (recvNo n) r = if r = 7 then (4, n % 128) else if r = 8 then (5, n % 128) else (3, 128 * r + n % 128) := by
  have := recvNo_ge n
  unfold dmaTag
  rw [if_neg (by omega), recvOf_recvNo hv]

theorem tokTag_tagTok {t : ℕ × ℕ} (h : t ∈ tags) : tokTag (tagTok t) = t := by
  obtain ⟨k, n⟩ := t
  simp only [tags, Finset.mem_union, Finset.mem_product, Finset.mem_singleton] at h
  rcases h with ⟨rfl, rfl⟩ | ⟨rfl, rfl⟩ | ⟨rfl, h⟩ | ⟨rfl, h⟩ | ⟨rfl, h⟩ | ⟨rfl, h⟩
  · rfl
  · rfl
  · have hv := (mem_rem.1 h).2.2
    show dmaTag (sendNo n) (sendRnd n) = _
    unfold dmaTag
    rw [if_pos (sendNo_lt n), sendOf_sendNo, sendOp_sendRnd hv]
  · obtain ⟨h1, -, hv⟩ := mem_rem.1 h
    show dmaTag (recvNo n) (n / 128) = _
    rw [dmaTag_recv hv, if_neg (by omega), if_neg (by omega), Nat.div_add_mod]
  · obtain ⟨hv, hm⟩ := slot_valid h
    show dmaTag (recvNo n) 7 = _
    rw [dmaTag_recv hv, if_pos rfl, hm]
  · obtain ⟨hv, hm⟩ := slot_valid h
    show dmaTag (recvNo n) 8 = _
    rw [dmaTag_recv hv, if_neg (by decide), if_pos rfl, hm]

def tokOf (p : Dev nD × (ℕ × ℕ)) : GSem nD τ sig × ℕ × Bool := (((p.1 : Thread nD τ), (tagTok p.2).1), (tagTok p.2).2)
def toks : Finset (GSem nD τ sig × ℕ × Bool) := (Finset.univ ×ˢ tags).image tokOf

theorem tokOf_inj : Set.InjOn tokOf (((Finset.univ : Finset (Dev nD)) ×ˢ tags : Finset (Dev nD × (ℕ × ℕ))) : Set (Dev nD × (ℕ × ℕ))) := by
  rintro ⟨c, t⟩ h ⟨c', t'⟩ h' e
  have h1 : c = c' := congrArg (fun x : GSem nD τ sig × ℕ × Bool => x.1.1.1) e
  have h2 : tagTok t = tagTok t' := Prod.ext (congrArg (fun x : GSem nD τ sig × ℕ × Bool => x.1.2) e) (congrArg (fun x : GSem nD τ sig × ℕ × Bool => x.2) e)
  have h3 : t = t' := by
    exact ((tokTag_tagTok (Finset.mem_product.1 h).2).symm.trans (congrArg tokTag h2)).trans (tokTag_tagTok (Finset.mem_product.1 h').2)
  rw [h1, h3]

theorem bigSep_kind (k : ℕ) (S : Finset ℕ) (Φ : ℕ × ℕ → sProp 𝕄) : bigSep ({k} ×ˢ S) Φ = bigSep S fun n => Φ (k, n) := by
  rw [bigSep_prod, bigSep_singleton]

theorem bigSep_tags (Φ : ℕ × ℕ → sProp 𝕄) : bigSep tags Φ = iprop(Φ (0, 0) ∗ Φ (1, 0) ∗ (bigSep (rem 0) fun n => Φ (2, n)) ∗ (bigSep (rem 0) fun n => Φ (3, n))
    ∗ (bigSep (Finset.Ico 64 68) fun n => Φ (4, n)) ∗ bigSep (Finset.Ico 64 68) fun n => Φ (5, n)) := by
  have hd : ∀ {S T : Finset (ℕ × ℕ)} (k : ℕ), (∀ x ∈ S, x.1 = k) → (∀ x ∈ T, k < x.1) → Disjoint S T := fun k hs ht =>
    Finset.disjoint_left.2 fun x h1 h2 => by have := hs x h1; have := ht x h2; omega
  have hk : ∀ (k : ℕ) (S : Finset ℕ), ∀ x ∈ ({k} ×ˢ S : Finset (ℕ × ℕ)), x.1 = k := fun k S x h => Finset.mem_singleton.1 (Finset.mem_product.1 h).1
  unfold tags
  rw [bigSep_union (hd 0 (hk _ _) ?_), bigSep_union (hd 1 (hk _ _) ?_), bigSep_union (hd 2 (hk _ _) ?_), bigSep_union (hd 3 (hk _ _) ?_),
    bigSep_union (hd 4 (hk _ _) ?_), bigSep_kind, bigSep_kind, bigSep_kind, bigSep_kind, bigSep_kind, bigSep_kind, bigSep_singleton, bigSep_singleton]
  · rfl
  all_goals
    intro x h
    simp only [Finset.mem_union, Finset.mem_product, Finset.mem_singleton] at h
    omega

/-- All the tokens by device and kind. -/
theorem toks_split : bigSep toks (fun x => (dutyTok ER x.1 x.2.1 x.2.2 : sProp 𝕄))
    = iprop((bigSep Finset.univ fun c : Dev nD => dutyTok ER (bar c) 0 false) ∗ (bigSep Finset.univ fun c : Dev nD => dutyTok ER (bar c) 0 true)
      ∗ (bigSep Finset.univ fun c : Dev nD => bigSep (rem 0) fun n => dutyTok ER (sendC c n) (sendRnd n) false)
      ∗ (bigSep Finset.univ fun c : Dev nD => bigSep (rem 0) fun n => dutyTok ER (recvC c n) (n / 128) false)
      ∗ (bigSep Finset.univ fun c : Dev nD => bigSep (Finset.Ico 64 68) fun n => tTok (F := F) c n)
      ∗ bigSep Finset.univ fun c : Dev nD => bigSep (Finset.Ico 64 68) fun n => wTok (F := F) c n) := by
  unfold toks
  rw [bigSep_img tokOf_inj, bigSep_prod]
  refine (bigSep_congr fun c _ => bigSep_tags _).trans ?_
  rw [bigSep_sep', bigSep_sep', bigSep_sep', bigSep_sep', bigSep_sep']
  rfl

def lfEquiv : Dev nD ≃ Dev nD := ⟨lf, rt, rt_lf, lf_rt⟩
def rtEquiv : Dev nD ≃ Dev nD := ⟨rt, lf, lf_rt, rt_lf⟩
def tgtEquiv (n : ℕ) : Dev nD ≃ Dev nD := ⟨fun c => tgt c n, fun c => org c n, fun c => org_tgt c n, fun c => tgt_org c n⟩

theorem recv_around : (bigSep Finset.univ fun c : Dev nD => bigSep (rem 0) fun n => (dutyTok ER (recvC c n) (n / 128) false : sProp 𝕄))
    = bigSep Finset.univ fun c : Dev nD => bigSep (rem 0) fun n => dutyTok ER (recvC (tgt c n) n) (n / 128) false := by
  rw [bigSep_swap]
  refine (bigSep_congr fun n _ => bigSep_univ_equiv (tgtEquiv n) (fun c : Dev nD => (dutyTok ER (recvC c n) (n / 128) false : sProp 𝕄))).trans ?_
  exact bigSep_swap _ _ _

/-- Each token with the device that spends it. -/
def spent (c : Dev nD) : sProp 𝕄 := iprop(dutyTok ER (bar (lf c)) 0 false ∗ dutyTok ER (bar (rt c)) 0 true ∗ TK (F := F) c 0)

theorem toks_spent : bigSep toks (fun x => (dutyTok ER x.1 x.2.1 x.2.2 : sProp 𝕄))
    ⊢ iprop((bigSep Finset.univ fun c : Dev nD => spent (F := F) c) ∗ bigSep (Finset.univ ×ˢ Finset.Ico 64 68) fun p : Dev nD × ℕ => iprop(tTok (F := F) p.1 p.2 ∗ wTok (F := F) p.1 p.2)) := by
  have e : (bigSep Finset.univ fun c : Dev nD => spent (F := F) c) = iprop((bigSep Finset.univ fun c : Dev nD => dutyTok (ER (F := F)) (bar c) 0 false) ∗ (bigSep Finset.univ fun c : Dev nD => dutyTok (ER (F := F)) (bar c) 0 true)
      ∗ (bigSep Finset.univ fun c : Dev nD => bigSep (rem 0) fun n => dutyTok (ER (F := F)) (sendC c n) (sendRnd n) false)
      ∗ (bigSep Finset.univ fun c : Dev nD => bigSep (rem 0) fun n => dutyTok (ER (F := F)) (recvC c n) (n / 128) false)) := by
    rw [recv_around, bigSep_univ_equiv lfEquiv (fun c : Dev nD => (dutyTok (ER (F := F)) (bar c) 0 false : sProp 𝕄)),
      bigSep_univ_equiv rtEquiv (fun c : Dev nD => (dutyTok (ER (F := F)) (bar c) 0 true : sProp 𝕄)), ← bigSep_sep', ← bigSep_sep', ← bigSep_sep']
    refine bigSep_congr fun c _ => ?_
    unfold spent TK
    rw [bigSep_sep']
    rfl
  rw [toks_split, e, bigSep_prod]
  have e2 : (bigSep Finset.univ fun c : Dev nD => bigSep (Finset.Ico 64 68) fun n => iprop(tTok (F := F) c n ∗ wTok (F := F) c n))
      = iprop((bigSep Finset.univ fun c : Dev nD => bigSep (Finset.Ico 64 68) fun n => tTok (F := F) c n) ∗ bigSep Finset.univ fun c : Dev nD => bigSep (Finset.Ico 64 68) fun n => wTok (F := F) c n) := by
    rw [← bigSep_sep']
    exact bigSep_congr fun c _ => bigSep_sep' _ _ _
  rw [e2]
  exact ent_of_eq (by ac_rfl)

/-! ## The slots' invariants -/

theorem slots_alloc : (bigSep (Finset.univ ×ˢ Finset.Ico 64 68) fun p : Dev nD × ℕ => iprop(tTok (F := F) p.1 p.2 ∗ wTok (F := F) p.1 p.2))
    ⊢ iprop(|={Set.univ}=> ∃ κ : Dev nD × ℕ → ℕ, bigSep ((Finset.univ : Finset (Dev nD)) ×ˢ Finset.Ico 64 68) fun p => inv (κ p) (slotBody (F := F) p.1 p.2)) := by
  have h1 : (bigSep (Finset.univ ×ˢ Finset.Ico 64 68) fun p : Dev nD × ℕ => iprop(tTok (F := F) p.1 p.2 ∗ wTok (F := F) p.1 p.2))
      ⊢ (bigSep ((Finset.univ : Finset (Dev nD)) ×ˢ Finset.Ico 64 68) fun p => iprop(|={Set.univ}=> ∃ κ : ℕ, inv κ (slotBody (F := F) p.1 p.2)) : sProp 𝕄) :=
    bigSep_mono fun p _ => (show iprop(tTok (F := F) p.1 p.2 ∗ wTok (F := F) p.1 p.2) ⊢ slotBody (F := F) p.1 p.2 from by unfold slotBody; iintro H; ileft; iexact H).trans inv_alloc
  exact h1.trans ((bigSep_fupd _ _).trans (BI.fupd_mono (bigSep_exists_pi _ _)))

/-! ## The credits -/

theorem creds_sum (s : Finset ℕ) (c : Dev nD) : (Pipeline.launchCred (fun d => ∑ n ∈ s, due d n) c : sProp 𝕄)
    ⊢ bigSep s fun n => cred (tallyAt (recvC c n) (2 + n / 4) Nc) := by
  induction s using Finset.induction_on with
  | empty => rw [bigSep_empty]; iintro -; iempintro
  | insert n s hn ih =>
    rw [bigSep_insert hn]
    have e : (fun d : Dev nD => ∑ n ∈ insert n s, due d n) = fun d => due d n + ∑ n ∈ s, due d n := funext fun d => Finset.sum_insert hn
    rw [e, Pipeline.launchCred_add]
    exact BI.sep_mono (Pipeline.launchCred_tallyAt (.dma (recvSem n)) (fun d => tgt d n) (fun d => org d n) (fun d => tgt_org d n) (fun d => org_tgt d n) _ _ c) ih

theorem creds (c : Dev nD) : (Pipeline.launchCred owedAll c : sProp 𝕄) ⊢ iprop(cred (tallyAt (bar c) 1 2) ∗ IC (F := F) c 0) := by
  have e : (owedAll : Dev nD → CellTallies nD τ sig ℕ) = fun d => ((fun d => owed d 0 + tallyAt (bar (rt d)) 1 1) d) + (fun d => tallyAt (bar (lf d)) 1 1) d := rfl
  rw [e, Pipeline.launchCred_add, Pipeline.launchCred_add (fun d => owed d 0)]
  have h1 := Pipeline.launchCred_tallyAt (τ := τ) (Val := Elt F) (Name := ℕ) (U := UU) (Lvl := ℕ) (.reg barrier0 : SemLoc sig) rt lf rt_lf lf_rt (1 : ℕ) 1 c
  have h2 := Pipeline.launchCred_tallyAt (τ := τ) (Val := Elt F) (Name := ℕ) (U := UU) (Lvl := ℕ) (.reg barrier0 : SemLoc sig) lf rt lf_rt rt_lf (1 : ℕ) 1 c
  have h3 : (Pipeline.launchCred (fun d => owed d 0) c : sProp 𝕄) ⊢ IC (F := F) c 0 := creds_sum (rem 0) c
  rw [show (tallyAt (bar c) 1 2 : CellTallies nD τ sig ℕ) = tallyAt (bar c) 1 1 + tallyAt (bar c) 1 1 from (tallyAt_add _ _ 1 1).symm]
  iintro ⟨⟨H3, H1⟩, H2⟩
  ihave H1 := h1 $$ H1
  ihave H2 := h2 $$ H2
  ihave H3 := h3 $$ H3
  isplitl [H1 H2]
  · iapply (cred_add _ _).2
    isplitl [H1] <;> iassumption
  iexact H3

end Cert.KernelIdeal.Mlp
-- ==== Proof.Run.lean ====
/-
The run of the whole program on the ring, over any float values: it ends, nothing it was given is changed, every
semaphore is back at zero, and each device's result is the closed value of its inputs.
-/
module

public import proofs.«01_k».proof.Proof.Launch

@[expose] public section

noncomputable section

namespace Cert.KernelIdeal.Mlp

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (ρ : Dev nD → PrngReg)

theorem L_of_ne (g : GSem nD τ sig) (h : g.1.2 ≠ .tc) : L g = ∅ := if_neg h

theorem osem_inj : Function.Injective osem := by decide

theorem dmaCells_eq : dmaCells = ((Finset.univ : Finset (Dev nD)) ×ˢ (Finset.univ : Finset (Fin 132))).image
    fun p => (((p.1 : Thread nD τ), osem p.2) : GSem nD τ sig) := by
  ext g
  simp only [dmaCells, Finset.mem_image, Finset.mem_filter, Finset.mem_univ, true_and, Finset.mem_product, Prod.exists]
  constructor
  · rintro ⟨c, q, hq, rfl⟩
    refine ⟨c, ⟨q.val - 10, by have := q.isLt; omega⟩, ?_⟩
    have e : (⟨10 + (q.val - 10), by have := q.isLt; omega⟩ : Fin 142) = q := Fin.ext (by show 10 + (q.val - 10) = q.val; omega)
    exact congrArg (fun z : Fin 142 => (((c : Thread nD τ), SemLoc.dma z) : GSem nD τ sig)) e
  · rintro ⟨c, k, -, rfl⟩
    exact ⟨c, ⟨10 + k.val, by have := k.isLt; omega⟩, Nat.le_add_right _ _, rfl⟩

theorem bigSep_dma (Φ : GSem nD τ sig → sProp 𝕄) : bigSep dmaCells Φ = bigSep Finset.univ fun c : Dev nD => bigSep Finset.univ fun k => Φ (((c : Thread nD τ), osem k)) := by
  rw [dmaCells_eq, bigSep_img, bigSep_prod]
  rintro ⟨c, k⟩ - ⟨c', k'⟩ - e
  have h1 : c = c' := congrArg (fun g : GSem nD τ sig => g.1.1) e
  have h2 : k = k' := osem_inj (congrArg Prod.snd e)
  rw [h1, h2]

theorem bigSep_bar (Φ : GSem nD τ sig → sProp 𝕄) : bigSep barCells Φ = bigSep Finset.univ fun c : Dev nD => Φ (bar c) := by
  unfold barCells
  exact bigSep_img (fun c _ c' _ e => congrArg (fun g : GSem nD τ sig => g.1.1) e) Φ

theorem disjoint_cells : Disjoint barCells dmaCells := by
  rw [Finset.disjoint_left]
  intro g h1 h2
  obtain ⟨c, -, rfl⟩ := Finset.mem_image.1 h1
  obtain ⟨p, -, h⟩ := Finset.mem_image.1 h2
  exact absurd (congrArg Prod.snd h) (by intro e; cases e)

/-- The launch's element: the staging cells' and the protocol's. -/
def u₀ : UU :=
  (initOf (Pipeline.cells (Pipeline.pin (pcfgs (F := F)) adm) cellOf_inj) (Pipeline.launchToks (Pipeline.pin (pcfgs (F := F)) adm) cellOf_inj),
    launchOf barCells dmaCells toks)

/-- The protocol's element, kept by the first device until every device's share is dealt at once. -/
def pool : sProp 𝕄 := BI.own (ER (launchOf barCells dmaCells toks))
def G (c : Dev nD) : sProp 𝕄 := if c = 0 then pool else BI.emp

theorem G_all : bigSep Finset.univ (G (F := F)) = pool := by
  have h : ∀ c ∈ (Finset.univ : Finset (Dev nD)).erase 0, G (F := F) c = (BI.emp : sProp 𝕄) := fun c hc => if_neg (Finset.ne_of_mem_erase hc)
  rw [bigSep_univ_at _ (0 : Dev nD), bigSep_congr h, BI.bigSep_emp_const, show G (F := F) 0 = pool from if_pos rfl]
  exact BI.equiv_iff.mp sep_emp

/-- What every device may look at. -/
def records (K : Names) : sProp 𝕄 := iprop(Cx (vals m) K ∗ bigSep Finset.univ fun c : Dev nD => reached (ER (F := F)) (bar c) 0)

instance records_persistent (K : Names) : Persistent (records m K) := by unfold records; infer_instance

/-- What a device alone holds of the protocol. -/
def alone (c : Dev nD) : sProp 𝕄 :=
  iprop(atPos (ER (F := F)) (bar c) 0 ∅ 0 ∗ (bigSep Finset.univ fun k => openTok (ER (F := F)) (((c : Thread nD τ), osem k) : GSem nD τ sig)) ∗ spent (F := F) c)

/-- The rest of what a device holds at the launch. -/
def bundle (c : Dev nD) : sProp 𝕄 :=
  iprop(StableHlo.held (c : Thread nD τ) (Pipeline.ucRefs τ sig) (fun b => m (c, b)) ∗ (cred (tallyAt (bar c) 1 2) ∗ IC (F := F) c 0)
    ∗ owes (c : Thread nD τ) (owedAll c) ∅ ∗ ∃ r, prngReg c r)

def Rest (c : Dev nD) : sProp 𝕄 := iprop((∃ r, prngReg c r) ∗ Tk m c ∗ ∃ W, owes (c : Thread nD τ) (owedAll c) W)
def T₀ (c : Dev nD) : sProp 𝕄 := iprop(StableHlo.held (c : Thread nD τ) (Pipeline.ucRefs τ sig) (fun b => m (c, b)) ∗ Rest m c)
def Tₙ (c : Dev nD) : sProp 𝕄 := iprop(StableHlo.held (c : Thread nD τ) (Pipeline.arrRefs (τ := τ) spec0) (W₂ m c) ∗ semVal (bar c) 0)

theorem reached_at (c : Dev nD) : (bigSep Finset.univ fun c : Dev nD => (reached (ER (F := F)) (bar c) 0 : sProp 𝕄)) ⊢ reached (ER (F := F)) (bar c) 0 :=
  bigSep_elim (Finset.mem_univ c)

theorem T₀_intro (K : Names) (c : Dev nD) : iprop(records m K ∗ (alone (F := F) c ∗ bundle m c)) ⊢ T₀ m c := by
  unfold records alone bundle T₀ Rest Tk barToks spent
  iintro ⟨⟨#HC, #HR⟩, ⟨Hat, Ho, Hl, Hr, HT⟩, Hh, ⟨Hc, HI⟩, HO, Hp⟩
  isplitl [Hh]; · iexact Hh
  isplitl [Hp]; · iexact Hp
  isplitr [HO]
  · iexists K
    isplitr; · iexact HC
    isplitl [Hat Hl Hr Hc]
    · isplitl [Hl]; · iexact Hl
      isplitl [Hr]; · iexact Hr
      isplitr
      · iapply (reached_at (F := F) (lf c)); iexact HR
      isplitr
      · iapply (reached_at (F := F) (rt c)); iexact HR
      isplitl [Hat] <;> iassumption
    isplitl [Ho]; · iexact Ho
    isplitl [HT] <;> iassumption
  iexists ∅; iexact HO

theorem unscopedSems0_eq (c : Dev nD) : (unscopedSems0 c : sProp 𝕄) = semVal (bar c) 0 := by
  unfold unscopedSems0
  rw [show (Finset.univ.filter fun sm : SemLoc sig => ¬ sm.isScoped .tc) = {SemLoc.reg barrier0} from by decide, BI.bigSep_singleton]

theorem core (c : Dev nD) : iprop(unscopedBufs c (fun b => m ((c : Thread nD τ).loc b)) ∗ unscopedSems0 c
      ∗ owes (c : Thread nD τ) (owedAll c) ∅ ∗ Pipeline.launchCred owedAll c ∗ prngReg c (ρ c) ∗ G (F := F) c)
    ⊢ (iprop(bundle m c ∗ (semVal (bar c) 0 ∗ G (F := F) c)) : sProp 𝕄) := by
  rw [show (unscopedBufs c (fun b => m ((c : Thread nD τ).loc b)) : sProp 𝕄) = StableHlo.held (c : Thread nD τ) (Pipeline.ucRefs τ sig) (fun b => m (c, b))
    from Pipeline.unscopedBufs_held c (fun b => m (c, b)), unscopedSems0_eq]
  unfold bundle
  iintro ⟨Hh, Hs, HO, Hc, Hp, HG⟩
  ihave Hc := (creds (F := F) c) $$ Hc
  isplitl [Hh HO Hc Hp]
  · isplitl [Hh]; · iexact Hh
    isplitl [Hc]; · iexact Hc
    isplitl [HO]; · iexact HO
    iexists (ρ c); iexact Hp
  isplitl [Hs] <;> iassumption

theorem fund : iprop((bigSep barCells fun g => semVal g 0) ∗ pool (F := F))
    ⊢ (iprop(|={Set.univ}=> ∃ κ : GSem nD τ sig → ℕ, bigSep (barCells ∪ dmaCells) (fun g => cellInv ER (Rd (vals m)) (κ g) g) ∗ bigSep barCells (fun g => reached (ER (F := F)) g 0)
      ∗ bigSep barCells (fun g => atPos (ER (F := F)) g 0 ∅ 0) ∗ bigSep dmaCells (fun g => openTok (ER (F := F)) g)
      ∗ bigSep toks fun x => dutyTok (ER (F := F)) x.1 x.2.1 x.2.2) : sProp 𝕄) := by
  unfold pool
  refine (Rounds.fund_launch ER (Rd (vals m)) disjoint_cells (fun g _ h => h) toks).trans (BI.fupd_mono ?_)
  iintro ⟨%κ, -, Hinv, Hr, Hat, Hopen, Htok⟩
  iexists κ
  isplitl [Hinv]; · iexact Hinv
  isplitl [Hr]; · iexact Hr
  isplitl [Hat]; · iexact Hat
  isplitl [Hopen] <;> iassumption

theorem init_start : (bigSep Finset.univ fun c : Dev nD => iprop(unscopedBufs c (fun b => m ((c : Thread nD τ).loc b)) ∗ unscopedSems0 c
      ∗ owes (c : Thread nD τ) (owedAll c) ∅ ∗ Pipeline.launchCred owedAll c ∗ prngReg c (ρ c) ∗ G (F := F) c))
    ⊢ (iprop((bigSep Finset.univ fun c => bundle m c) ∗ (bigSep barCells fun g => semVal g 0) ∗ pool (F := F)) : sProp 𝕄) := by
  refine (bigSep_mono fun c _ => core m ρ c).trans ?_
  rw [bigSep_sep', bigSep_sep', G_all, bigSep_bar]
  exact BI.Entails.refl _

theorem init_alone : iprop(bigSep barCells (fun g => atPos (ER (F := F)) g 0 ∅ 0) ∗ bigSep dmaCells (fun g => openTok (ER (F := F)) g)
      ∗ bigSep Finset.univ fun c : Dev nD => spent (F := F) c) ⊢ (bigSep Finset.univ fun c : Dev nD => alone (F := F) c : sProp 𝕄) := by
  unfold alone
  rw [bigSep_sep', bigSep_sep', bigSep_bar, bigSep_dma]

theorem init_rec (κ : GSem nD τ sig → ℕ) (κs : Dev nD × ℕ → ℕ) :
    iprop(levAts L lv ∗ bigSep (barCells ∪ dmaCells) (fun g => cellInv ER (Rd (vals m)) (κ g) g) ∗ bigSep barCells (fun g => reached (ER (F := F)) g 0)
      ∗ bigSep ((Finset.univ : Finset (Dev nD)) ×ˢ Finset.Ico 64 68) fun p => inv (κs p) (slotBody (F := F) p.1 p.2)) ⊢ (records m ⟨κ, κs⟩ : sProp 𝕄) := by
  unfold records Cx
  rw [bigSep_bar]
  iintro ⟨H1, H2, H3, H4⟩
  isplitr [H3]
  · isplitl [H1]; · iexact H1
    isplitl [H2] <;> iassumption
  iexact H3

theorem init_end (K : Names) : iprop(records m K ∗ (bigSep Finset.univ fun c => alone (F := F) c) ∗ bigSep Finset.univ fun c => bundle m c)
    ⊢ (bigSep Finset.univ (T₀ m) : sProp 𝕄) := by
  rw [← bigSep_sep']
  exact bigSep_with_persistent fun c _ => T₀_intro m K c

theorem init : iprop((bigSep Finset.univ fun c : Dev nD => iprop(unscopedBufs c (fun b => m ((c : Thread nD τ).loc b)) ∗ unscopedSems0 c
      ∗ owes (c : Thread nD τ) (owedAll c) ∅ ∗ Pipeline.launchCred owedAll c ∗ prngReg c (ρ c) ∗ G (F := F) c)) ∗ levAts L lv)
    ⊢ (|={Set.univ}=> bigSep Finset.univ (T₀ m) : sProp 𝕄) := by
  iintro ⟨H, #Hlev⟩
  ihave H := (init_start m ρ) $$ H
  icases H with ⟨HB, HF⟩
  imod (fund m) $$ HF with ⟨%κ, Hinv, Hr, Hat, Hopen, Htok⟩
  ihave Htok := (toks_spent (F := F)) $$ Htok
  icases Htok with ⟨Hsp, Hsl⟩
  imod (slots_alloc (F := F)) $$ Hsl with ⟨%κs, Hslots⟩
  imodintro
  iapply (init_end m ⟨κ, κs⟩)
  isplitl [Hinv Hr Hslots]
  · iapply (init_rec m κ κs)
    isplitr; · iexact Hlev
    isplitl [Hinv]; · iexact Hinv
    isplitl [Hr] <;> iassumption
  isplitr [HB]
  · iapply (init_alone (F := F))
    isplitl [Hat]; · iexact Hat
    isplitl [Hopen] <;> iassumption
  iexact HB

/-! ## The program -/

def host0 : Pipeline.HostSeg (Ix := ℕ) (Name := ℕ) (U := UU) (Lvl := ℕ) (pcfgs (F := F)) defs₀ 𝒱₀ L lv :=
  Pipeline.HostSeg.ofOps _ _ _ _ _ (Pipeline.ucRefs τ sig) hostOps0
    (fun op h => Pipeline.sub_ucRefs op (List.forall_iff_forall_mem.1 hostOps0_sub op h))
    (fun op h => List.forall_iff_forall_mem.1 hostOps0_fresh op h) (fun c b => m (c, b)) (Rest m)

def segs : List (Pipeline.Seg (pcfgs (F := F)) adm (pdats m) 0 defs₀ 𝒱₀ L lv) := [.host (host0 m), .region (reg m)]

theorem reg_pre (c : Dev nD) : (host0 m).post c ⊢ (reg m).pre c := by
  show iprop(StableHlo.held (c : Thread nD τ) (Pipeline.ucRefs τ sig) (W₁ m c) ∗ Rest m c)
    ⊢ iprop(StableHlo.held (c : Thread nD τ) (Pipeline.arrRefs (τ := τ) spec0) (W₁ m c) ∗ (∃ r, prngReg c r)
      ∗ (StableHlo.held (c : Thread nD τ) Sr (W₁ m c) ∗ emp) ∗ Tk m c ∗ ∃ Wd, owes (c : Thread nD τ) (0 + owedAll c) Wd)
  rw [StableHlo.held_sub_split (c : Thread nD τ) (Pipeline.arrRefs_sub_ucRefs (τ := τ) spec0 (by decide)) (W₁ m c), zero_add]
  unfold Rest Sr
  iintro ⟨⟨HA, HS⟩, Hp, HT, HO⟩
  isplitl [HA]; · iexact HA
  isplitl [Hp]; · iexact Hp
  isplitl [HS]
  · isplitl [HS]; · iexact HS
    iempintro
  isplitl [HT] <;> iassumption

theorem reg_post (c : Dev nD) : (reg m).post c ⊢ iprop(Tₙ m c ∗ ∃ W, owes (c : Thread nD τ) (0 : CellTallies nD τ sig ℕ) W) := by
  show iprop(StableHlo.held (c : Thread nD τ) (Pipeline.arrRefs (τ := τ) spec0) (W₂ m c) ∗ (∃ r, prngReg c r)
      ∗ (StableHlo.held (c : Thread nD τ) Sr (W₂ m c) ∗ emp) ∗ Yk (F := F) c ∗ ∃ Wd, owes (c : Thread nD τ) (0 : CellTallies nD τ sig ℕ) Wd) ⊢ _
  unfold Tₙ Yk
  iintro ⟨HA, -, -, HY, HO⟩
  isplitr [HO]
  · isplitl [HA] <;> iassumption
  iexact HO

abbrev pt (c : Dev nD) (b : Ref sig .tc) (f : b.ty.Contents (Elt F)) : sProp 𝕄 := (Memref.whole b).view.loc (c : Thread nD τ) ↦{fullShare} f

theorem arrays_eq (c : Dev nD) (W : Valuation τ sig (Elt F)) : (StableHlo.held (c : Thread nD τ) (Pipeline.arrRefs (τ := τ) spec0) W : sProp 𝕄)
    ⊢ iprop(pt c main_arg0 (W main_arg0) ∗ pt c main_arg1 (W main_arg1) ∗ pt c main_arg2 (W main_arg2) ∗ pt c main_arg3 (W main_arg3)
      ∗ pt c main_arg4 (W main_arg4) ∗ pt c main_arg5 (W main_arg5) ∗ pt c main_arg6 (W main_arg6) ∗ pt c main_v3 (W main_v3)) := by
  unfold StableHlo.held
  rw [bigSep_eq_bigSepL_of_eq [Proc.devRef .tc main_arg0, Proc.devRef .tc main_arg1, Proc.devRef .tc main_arg2, Proc.devRef .tc main_arg3,
    Proc.devRef .tc main_arg4, Proc.devRef .tc main_arg5, Proc.devRef .tc main_arg6, Proc.devRef .tc main_v3, Proc.devRef .tc main_v1, Proc.devRef .tc main_v2] (by decide) (by decide)]
  show iprop(pt c main_arg0 (W main_arg0) ∗ pt c main_arg1 (W main_arg1) ∗ pt c main_arg2 (W main_arg2) ∗ pt c main_arg3 (W main_arg3)
      ∗ pt c main_arg4 (W main_arg4) ∗ pt c main_arg5 (W main_arg5) ∗ pt c main_arg6 (W main_arg6) ∗ pt c main_v3 (W main_v3)
      ∗ pt c main_v1 (W main_v1) ∗ pt c main_v2 (W main_v2)) ⊢ _
  iintro ⟨H0, H1, H2, H3, H4, H5, H6, H7, -, -⟩
  isplitl [H0]; · iexact H0
  isplitl [H1]; · iexact H1
  isplitl [H2]; · iexact H2
  isplitl [H3]; · iexact H3
  isplitl [H4]; · iexact H4
  isplitl [H5]; · iexact H5
  isplitl [H6] <;> iassumption

theorem W₂_arg (c : Dev nD) (b : Ref sig .tc) (h : (Proc.devRef .tc b : DevRef τ sig) ≠ Proc.devRef .tc main_v3) (e : V m c b = m ((c : Thread nD τ).loc b)) :
    W₂ m c b = m ((c : Thread nD τ).loc b) := (W₂_ne m c h).trans e

theorem unscoped_eq : ∀ sm : SemLoc sig, sm.isScoped .tc = false → sm = .reg barrier0 := by decide

/-- What the run leaves: the arguments as they were, and each device's result. -/
def Ends (s : MemSt nD τ sig (Elt F)) (c : Dev nD) : Prop :=
  (s.mem ((c : Thread nD τ).loc main_arg0) = m ((c : Thread nD τ).loc main_arg0)
    ∧ s.mem ((c : Thread nD τ).loc main_arg1) = m ((c : Thread nD τ).loc main_arg1)
    ∧ s.mem ((c : Thread nD τ).loc main_arg2) = m ((c : Thread nD τ).loc main_arg2)
    ∧ s.mem ((c : Thread nD τ).loc main_arg3) = m ((c : Thread nD τ).loc main_arg3)
    ∧ s.mem ((c : Thread nD τ).loc main_arg4) = m ((c : Thread nD τ).loc main_arg4)
    ∧ s.mem ((c : Thread nD τ).loc main_arg5) = m ((c : Thread nD τ).loc main_arg5)
    ∧ s.mem ((c : Thread nD τ).loc main_arg6) = m ((c : Thread nD τ).loc main_arg6))
    ∧ s.mem ((c : Thread nD τ).loc main_v3) = outF m c

set_option backward.isDefEq.respectTransparency.types false in
theorem run_main : θ_run defs (onTc (τ := τ) (main (F := F))) ⟨m, fun _ => 0, ρ⟩
    (fun r => (∀ c : Dev nD, Ends m r.2 c) ∧ r.2.sem = fun _ => 0) :=
  Pipeline.θ_run_regions_kit_sems (pcfgs (F := F)) adm (pdats m) 0 cellOf_inj EP defs₀ 𝒱₀ L lv m ρ main (segs m)
    (fun c Q => by rw [main_segs adm (pdats m) 0 𝒱₀ L lv (host0 m) (reg m) rfl c]; rfl)
    (by simp only [segs, Pipeline.Seg.pipes_host, Pipeline.Seg.pipes_region, Pipeline.Seg.pipes_nil]; decide)
    (O₀ := owedAll) (hL := L_of_ne) (G := G) (u₀ := u₀)
    (hu₀ := by
      rw [G_all]
      unfold u₀ pool
      iintro Hu
      ihave H := (ownU_pair _ _) $$ Hu
      icases H with ⟨HP, HX⟩
      imodintro
      isplitl [HP] <;> iassumption)
    (T₀ := T₀ m) (Tₙ := Tₙ m)
    (hch := ⟨fun c => .rfl, fun c => reg_pre m c, fun c => reg_post m c⟩)
    (hinit := init m ρ)
    (QY := fun c s => Ends m s c ∧ s.sem (bar c) = 0)
    (hfin := fun c s' => by
      unfold Tₙ
      iintro ⟨⟨HA, Hb⟩, HSI⟩
      ihave HA := (arrays_eq c (W₂ m c)) $$ HA
      icases HA with ⟨H0, H1, H2, H3, H4, H5, H6, H7⟩
      icombine HSI H0 gives %h0
      icombine HSI H1 gives %h1
      icombine HSI H2 gives %h2
      icombine HSI H3 gives %h3
      icombine HSI H4 gives %h4
      icombine HSI H5 gives %h5
      icombine HSI H6 gives %h6
      icombine HSI H7 gives %h7
      icombine HSI Hb gives %hb
      imodintro
      isplitr
      · ipureintro
        exact ⟨⟨⟨(Buf.eq_of_forall_mem_univ h0).trans (W₂_arg m c main_arg0 (by decide) (V_main_arg0 m c)),
          (Buf.eq_of_forall_mem_univ h1).trans (W₂_arg m c main_arg1 (by decide) (V_main_arg1 m c)),
          (Buf.eq_of_forall_mem_univ h2).trans (W₂_arg m c main_arg2 (by decide) (V_main_arg2 m c)),
          (Buf.eq_of_forall_mem_univ h3).trans (W₂_arg m c main_arg3 (by decide) (V_main_arg3 m c)),
          (Buf.eq_of_forall_mem_univ h4).trans (W₂_arg m c main_arg4 (by decide) (V_main_arg4 m c)),
          (Buf.eq_of_forall_mem_univ h5).trans (W₂_arg m c main_arg5 (by decide) (V_main_arg5 m c)),
          (Buf.eq_of_forall_mem_univ h6).trans (W₂_arg m c main_arg6 (by decide) (V_main_arg6 m c))⟩,
          (Buf.eq_of_forall_mem_univ h7).trans (W₂_v3 m c)⟩, by simpa using hb⟩
      iexact HSI)
    (hQ := fun s h hs => ⟨fun c => (h c).1, sem_eq_zero hs fun c sm hsm => by
      obtain rfl := unscoped_eq sm hsm
      exact (h c).2⟩)

end Cert.KernelIdeal.Mlp
-- ==== Proof.Values.lean ====
/-
The values. Over the reals the running sums of a layer add, for a row block, every device's part once; a part is the
sum over the device's slice of the hidden columns, so the sum of the parts is the sum over all hidden columns, which
is the reference's layer. By layers, each device's result is its row block of the reference's result.
-/
module

public import proofs.«01_k».proof.Proof.Run
public import proofs.«01_k».proof.Proof.Gen.ReferenceIdeal
public import proofs.«01_k».proof.Proof.Gen.ReferenceIdeal.Run
public import Idealize.ShloMosaic.Lib.MatmulPlain
public import Idealize.ShloMosaic.Lib.KernelVsHost
public import Idealize.ShloMosaic.Lib.Layout

@[expose] public section

noncomputable section

namespace Cert.KernelIdeal.Mlp

open Cert.KernelIdeal Cert.KernelIdeal.Gen
open Idealize.ShloMosaic
open Idealize.ShloMosaic.TcCoe
open scoped BigOperators

/-! ## The running sums -/

section Sums
variable (D : Vals Ideal) (X : Dev nD → Row Ideal) (l : ℕ)

/-- The left-going sum adds the parts of the devices from `c` on. -/
theorem sumL_eq (i : S64x1024.Idx) (s : ℕ) : ∀ c : Dev nD,
    (D.sumL X l s c i : EReal) = ∑ k ∈ Finset.range (s + 1), (D.part X l (blk c k) (blk c (16 + s)) i : EReal) := by
  induction s with
  | zero => intro c; rw [Finset.sum_range_one, blk_zero]; rfl
  | succ s ih =>
    intro c
    rw [Finset.sum_range_succ', blk_zero]
    refine (show (D.sumL X l (s + 1) c i : EReal) = D.part X l c (blk c (16 + (s + 1))) i + D.sumL X l s (rt c) i from rfl).trans ?_
    rw [ih (rt c), add_comm]
    refine congrArg₂ (· + ·) (Finset.sum_congr rfl fun k _ => ?_) rfl
    rw [rt, blk_add, blk_add, blk_congr c (show (1 + k) % 32 = (k + 1) % 32 by omega),
      blk_congr c (show (1 + (16 + s)) % 32 = (16 + (s + 1)) % 32 by omega)]

/-- The right-going sum adds the parts of the devices from `c` back. -/
theorem sumR_eq (i : S64x1024.Idx) (s : ℕ) (hs : s ≤ 15) : ∀ c : Dev nD,
    (D.sumR X l s c i : EReal) = ∑ k ∈ Finset.range (s + 1), (D.part X l (blk c (31 * k)) (blk c (47 - s)) i : EReal) := by
  induction s with
  | zero =>
    intro c
    rw [Finset.sum_range_one, Nat.mul_zero, blk_zero, blk_congr c (show (47 - 0) % 32 = 15 % 32 by decide)]; rfl
  | succ s ih =>
    intro c
    rw [Finset.sum_range_succ', Nat.mul_zero, blk_zero]
    refine (show (D.sumR X l (s + 1) c i : EReal) = D.part X l c (blk c (47 - (s + 1))) i + D.sumR X l s (lf c) i from rfl).trans ?_
    rw [ih (by omega) (lf c), add_comm]
    refine congrArg₂ (· + ·) (Finset.sum_congr rfl fun k _ => ?_) rfl
    rw [lf, blk_add, blk_add, blk_congr c (show (31 + 31 * k) % 32 = (31 * (k + 1)) % 32 by omega),
      blk_congr c (show (31 + (47 - s)) % 32 = (47 - (s + 1)) % 32 by omega)]

/-- A sum over the devices walks the ring once. -/
theorem sum_ring (c : Dev nD) (f : Dev nD → EReal) : ∑ d : Dev nD, f d = ∑ k ∈ Finset.range 32, f (blk c k) := by
  symm
  refine Finset.sum_bij (fun k _ => blk c k) (fun _ _ => Finset.mem_univ _) ?_ ?_ (fun _ _ => rfl)
  · intro a ha b hb h
    have h' := blk_inj c h
    rw [Finset.mem_range] at ha hb
    omega
  · intro d _
    refine ⟨(pos d + 32 - pos c) % 32, Finset.mem_range.2 (Nat.mod_lt _ (by decide)), ?_⟩
    have h1 := pos_lt c
    rw [blk, at_congr (k := pos d) (by omega), at_pos]

/-- A finished row block is the sum of all the devices' parts of it. -/
theorem fin_eq (c : Dev nD) (i : S64x1024.Idx) :
    (D.fin X l c i : EReal) = ∑ d : Dev nD, (D.part X l d c i : EReal) := by
  refine (show (D.fin X l c i : EReal) = D.part X l c c i + D.sumR X l 14 (lf c) i + D.sumL X l 15 (rt c) i from rfl).trans ?_
  rw [sumR_eq D X l i 14 (by decide), sumL_eq D X l i 15, sum_ring c]
  have hR : (∑ k ∈ Finset.range (14 + 1), (D.part X l (blk (lf c) (31 * k)) (blk (lf c) (47 - 14)) i : EReal))
      = ∑ k ∈ Finset.range 15, (D.part X l (blk c (17 + k)) c i : EReal) := by
    rw [← Finset.sum_range_reflect]
    refine Finset.sum_congr rfl fun k hk => ?_
    rw [Finset.mem_range] at hk
    rw [lf, blk_add, blk_add, blk_full c (show (31 + (47 - 14)) % 32 = 0 by decide),
      blk_congr c (show (31 + 31 * (14 + 1 - 1 - k)) % 32 = (17 + k) % 32 by omega)]
  have hL : (∑ k ∈ Finset.range (15 + 1), (D.part X l (blk (rt c) k) (blk (rt c) (16 + 15)) i : EReal))
      = ∑ k ∈ Finset.range 16, (D.part X l (blk c (k + 1)) c i : EReal) := by
    refine Finset.sum_congr rfl fun k hk => ?_
    rw [rt, blk_add, blk_add, blk_full c (show (1 + (16 + 15)) % 32 = 0 by decide), Nat.add_comm 1 k]
  rw [hR, hL, show (32 : ℕ) = 17 + 15 from rfl, Finset.sum_range_add, Finset.sum_range_succ' _ 16, blk_zero]
  rw [add_right_comm]
  refine congrArg₂ (· + ·) (add_comm _ _) rfl

end Sums

/-! ## The products -/

/-- A device's part, entry by entry. -/
theorem part_apply (x : S64x1024.Idx → Ideal .bf16) (wi : S1024x2048.Idx → Ideal .bf16) (wo : S2048x1024.Idx → Ideal .bf16)
    (r : Fin 64) (j : Fin 1024) :
    (k0_pay2 (F := Ideal) x wi wo (ValueIdx.ix2 r j) : EReal)
      = ∑ h : Fin 2048, max (∑ k : Fin 1024, x (ValueIdx.ix2 r k) * wi (ValueIdx.ix2 k h)) 0 * wo (ValueIdx.ix2 h j) := by
  unfold k0_pay2
  simp only [shapeCast_self]
  refine (Ideal.matmul_plain_apply none _ _ _ r j).trans ?_
  refine (congrArg₂ (· + ·) Ideal.ofBits_zero_f32 rfl).trans ((zero_add _).trans ?_)
  refine Finset.sum_congr rfl fun h _ => congrArg₂ (· * ·) ?_ rfl
  refine congrArg₂ max ?_ Ideal.ofBits_zero_f32
  refine (Ideal.matmul_plain_apply none _ _ _ r h).trans ?_
  exact (congrArg₂ (· + ·) Ideal.ofBits_zero_f32 rfl).trans (zero_add _)

/-- One layer as the reference computes it. -/
def layer (x : FVec Ideal Cert.ReferenceIdeal.S2048x1024 .f32) (wi : FVec Ideal Cert.ReferenceIdeal.S1024x65536 .bf16)
    (wo : FVec Ideal Cert.ReferenceIdeal.S65536x1024 .bf16) : FVec Ideal Cert.ReferenceIdeal.S2048x1024 .f32 :=
  Host.dotGeneral Cert.ReferenceIdeal.dot_S2048x65536_S65536x1024_S2048x1024_1_0_0_1_n_n none
    (maximumf (Host.dotGeneral Cert.ReferenceIdeal.dot_S2048x1024_S1024x65536_S2048x65536_1_0_0_1_n_n none x (extf .f32 wi Cert.ReferenceIdeal.Gen.bitsLt_bf16_f32))
      (broadcastInDim Cert.ReferenceIdeal.S2048x65536 ![] Cert.ReferenceIdeal.Gen.bcast_S_S2048x65536 (constant Cert.ReferenceIdeal.S_ .f32 0x00000000#32)))
    (extf .f32 wo Cert.ReferenceIdeal.Gen.bitsLt_bf16_f32)

/-- The host's product of two matrices, entry by entry. -/
theorem host_apply {M K N : ℕ} (A : FVec Ideal ⟨2, ![M, K]⟩ .f32) (B : FVec Ideal ⟨2, ![K, N]⟩ .f32) (r : Fin M) (j : Fin N) :
    (Host.dotGeneral (DotDims.plain M K N) none A B (ValueIdx.ix2 r j) : EReal) = ∑ k : Fin K, A (ValueIdx.ix2 r k) * B (ValueIdx.ix2 k j) := by
  rw [← matmul_zero_eq_dotGeneral]
  refine (Ideal.matmul_plain_apply none _ _ _ r j).trans ?_
  exact (congrArg₂ (· + ·) Ideal.ofBits_zero_f32 rfl).trans (zero_add _)

/-- The reference's layer, entry by entry. -/
theorem layer_apply (x : FVec Ideal Cert.ReferenceIdeal.S2048x1024 .f32) (wi : FVec Ideal Cert.ReferenceIdeal.S1024x65536 .bf16)
    (wo : FVec Ideal Cert.ReferenceIdeal.S65536x1024 .bf16) (r : Fin 2048) (j : Fin 1024) :
    (layer x wi wo (ValueIdx.ix2 r j) : EReal)
      = ∑ h : Fin 65536, max (∑ k : Fin 1024, x (ValueIdx.ix2 r k) * wi (ValueIdx.ix2 k h)) 0 * wo (ValueIdx.ix2 h j) := by
  unfold layer
  refine (host_apply (M := 2048) (K := 65536) (N := 1024) _ _ r j).trans ?_
  refine Finset.sum_congr rfl fun h _ => congrArg₂ (· * ·) ?_ rfl
  refine congrArg₂ max ?_ Ideal.ofBits_zero_f32
  exact host_apply (M := 2048) (K := 1024) (N := 65536) _ _ r h

/-! ## The blocks -/

/-- A sum over `m * n` places, `n` at a time. -/
theorem sum_split {m n N : ℕ} (hN : m * n = N) (f : Fin N → EReal) :
    ∑ H : Fin N, f H = ∑ d : Fin m, ∑ h : Fin n, f ⟨d.val * n + h.val, by
      rw [← hN]
      calc d.val * n + h.val < d.val * n + n := Nat.add_lt_add_left h.isLt _
        _ = (d.val + 1) * n := (Nat.succ_mul _ _).symm
        _ ≤ m * n := Nat.mul_le_mul_right _ d.isLt⟩ := by
  subst hN
  rw [← Fintype.sum_prod_type']
  refine (Equiv.sum_comp finProdFinEquiv f).symm.trans (Finset.sum_congr rfl fun p _ => ?_)
  refine congrArg f (Fin.ext ?_)
  show p.2.val + n * p.1.val = p.1.val * n + p.2.val
  rw [Nat.add_comm, Nat.mul_comm]

section Blocks
variable {α : Type}

theorem block_x (c : Fin 32) (v : (⟨2, ![2048, 1024]⟩ : Shape).Idx → α) (r : Fin 64) (k : Fin 1024)
    (h : Layout.Tiles ⟨2, ![64, 1024]⟩ ⟨2, ![2048, 1024]⟩ 0 32) (hr : c.val * 64 + r.val < 2048) :
    Layout.block ⟨2, ![64, 1024]⟩ ⟨2, ![2048, 1024]⟩ 0 32 c v h (ValueIdx.ix2 r k) = v (ValueIdx.ix2 ⟨c.val * 64 + r.val, hr⟩ k) := by
  refine congrArg v ?_
  funext a; apply Fin.ext
  match a with
  | ⟨0, _⟩ => rfl
  | ⟨1, _⟩ => rfl
theorem block_wi (c : Fin 32) (v : (⟨2, ![1024, 65536]⟩ : Shape).Idx → α) (k : Fin 1024) (t : Fin 2048)
    (h : Layout.Tiles ⟨2, ![1024, 2048]⟩ ⟨2, ![1024, 65536]⟩ 1 32) (hr : c.val * 2048 + t.val < 65536) :
    Layout.block ⟨2, ![1024, 2048]⟩ ⟨2, ![1024, 65536]⟩ 1 32 c v h (ValueIdx.ix2 k t) = v (ValueIdx.ix2 k ⟨c.val * 2048 + t.val, hr⟩) := by
  refine congrArg v ?_
  funext a; apply Fin.ext
  match a with
  | ⟨0, _⟩ => rfl
  | ⟨1, _⟩ => rfl
theorem block_wo (c : Fin 32) (v : (⟨2, ![65536, 1024]⟩ : Shape).Idx → α) (t : Fin 2048) (j : Fin 1024)
    (h : Layout.Tiles ⟨2, ![2048, 1024]⟩ ⟨2, ![65536, 1024]⟩ 0 32) (hr : c.val * 2048 + t.val < 65536) :
    Layout.block ⟨2, ![2048, 1024]⟩ ⟨2, ![65536, 1024]⟩ 0 32 c v h (ValueIdx.ix2 t j) = v (ValueIdx.ix2 ⟨c.val * 2048 + t.val, hr⟩ j) := by
  refine congrArg v ?_
  funext a; apply Fin.ext
  match a with
  | ⟨0, _⟩ => rfl
  | ⟨1, _⟩ => rfl
end Blocks

/-- If the devices hold the blocks of a layer's input and weights, each finishes its block of the layer's result. -/
theorem fin_block (D : Vals Ideal) (X : Dev nD → Row Ideal) (l : ℕ)
    (x : (⟨2, ![2048, 1024]⟩ : Shape).Idx → EReal) (wi : (⟨2, ![1024, 65536]⟩ : Shape).Idx → EReal)
    (wo : (⟨2, ![65536, 1024]⟩ : Shape).Idx → EReal)
    (hx : ∀ c : Dev nD, X c = Layout.block ⟨2, ![64, 1024]⟩ ⟨2, ![2048, 1024]⟩ 0 32 c x)
    (hwi : ∀ c : Dev nD, D.wi l c = Layout.block ⟨2, ![1024, 2048]⟩ ⟨2, ![1024, 65536]⟩ 1 32 c wi)
    (hwo : ∀ c : Dev nD, D.wo l c = Layout.block ⟨2, ![2048, 1024]⟩ ⟨2, ![65536, 1024]⟩ 0 32 c wo) (c : Dev nD) :
    D.fin X l c = Layout.block ⟨2, ![64, 1024]⟩ ⟨2, ![2048, 1024]⟩ 0 32 c (layer x wi wo) := by
  funext i
  obtain ⟨r, j, rfl⟩ : ∃ (r : Fin 64) (j : Fin 1024), i = ValueIdx.ix2 r j := ⟨i 0, i 1, ValueIdx.eq_ix2 i⟩
  have hc : c.val < 32 := c.isLt
  have hr : c.val * 64 + r.val < 2048 := by have := r.isLt; omega
  refine (fin_eq D X l c (ValueIdx.ix2 r j)).trans ?_
  rw [block_x c _ r j _ hr, layer_apply]
  refine Eq.trans ?_ (sum_split (m := 32) (n := 2048) (N := 65536) (by decide) _).symm
  refine Finset.sum_congr rfl fun d _ => ?_
  refine (part_apply (X c) (D.wi l d) (D.wo l d) r j).trans (Finset.sum_congr rfl fun t _ => ?_)
  have hd : d.val < 32 := d.isLt
  have ht : d.val * 2048 + t.val < 65536 := by have := t.isLt; omega
  refine congrArg₂ (· * ·) (congrArg₂ max (Finset.sum_congr rfl fun k _ => congrArg₂ (· * ·) ?_ ?_) rfl) ?_
  · rw [hx c]; exact block_x c x r k _ hr
  · rw [hwi d]; exact block_wi d wi k t _ ht
  · rw [hwo d]; exact block_wo d wo t j _ ht

/-- From the blocks of the arguments, each device ends with its block of three layers of the reference. -/
theorem outF_block (m : (ℓ : Loc nD τ sig) → Buf (Elt Ideal) ℓ)
    (x : (⟨2, ![2048, 1024]⟩ : Shape).Idx → EReal) (wi0 wi1 wi2 : (⟨2, ![1024, 65536]⟩ : Shape).Idx → EReal)
    (wo0 wo1 wo2 : (⟨2, ![65536, 1024]⟩ : Shape).Idx → EReal)
    (h0 : ∀ c : Dev nD, (vals m).x c = Layout.block ⟨2, ![64, 1024]⟩ ⟨2, ![2048, 1024]⟩ 0 32 c x)
    (h1 : ∀ c : Dev nD, (vals m).wi 0 c = Layout.block ⟨2, ![1024, 2048]⟩ ⟨2, ![1024, 65536]⟩ 1 32 c wi0)
    (h2 : ∀ c : Dev nD, (vals m).wi 1 c = Layout.block ⟨2, ![1024, 2048]⟩ ⟨2, ![1024, 65536]⟩ 1 32 c wi1)
    (h3 : ∀ c : Dev nD, (vals m).wi 2 c = Layout.block ⟨2, ![1024, 2048]⟩ ⟨2, ![1024, 65536]⟩ 1 32 c wi2)
    (h4 : ∀ c : Dev nD, (vals m).wo 0 c = Layout.block ⟨2, ![2048, 1024]⟩ ⟨2, ![65536, 1024]⟩ 0 32 c wo0)
    (h5 : ∀ c : Dev nD, (vals m).wo 1 c = Layout.block ⟨2, ![2048, 1024]⟩ ⟨2, ![65536, 1024]⟩ 0 32 c wo1)
    (h6 : ∀ c : Dev nD, (vals m).wo 2 c = Layout.block ⟨2, ![2048, 1024]⟩ ⟨2, ![65536, 1024]⟩ 0 32 c wo2) (c : Dev nD) :
    outF m c = Layout.block ⟨2, ![64, 1024]⟩ ⟨2, ![2048, 1024]⟩ 0 32 c (layer (layer (layer x wi0 wo0) wi1 wo1) wi2 wo2) := by
  have e1 : ∀ c, (vals m).X 1 c = Layout.block ⟨2, ![64, 1024]⟩ ⟨2, ![2048, 1024]⟩ 0 32 c (layer x wi0 wo0) := fun c =>
    fin_block (vals m) ((vals m).X 0) 0 x wi0 wo0 h0 h1 h4 c
  have e2 : ∀ c, (vals m).X 2 c = Layout.block ⟨2, ![64, 1024]⟩ ⟨2, ![2048, 1024]⟩ 0 32 c (layer (layer x wi0 wo0) wi1 wo1) := fun c =>
    fin_block (vals m) ((vals m).X 1) 1 (layer x wi0 wo0) wi1 wo1 e1 h2 h5 c
  exact fin_block (vals m) ((vals m).X 2) 2 (layer (layer x wi0 wo0) wi1 wo1) wi2 wo2 e2 h3 h6 c

end Cert.KernelIdeal.Mlp
-- ==== Proof.lean ====
/-
The claim: the kernel runs on the ring of devices, changes nothing it was given, leaves every semaphore at zero,
and over the reals each device's result is its block of the reference's.
-/
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Run
public import proofs.«01_k».proof.Proof.Values

@[expose] public section

noncomputable section

namespace Cert.Proof

open Idealize.ShloMosaic Idealize.SL.Sem

theorem frame_kernel_ideal : Cert.quiescent_KernelIdeal := fun m g _ =>
  (θ_run Cert.KernelIdeal.defs _ _).mono (fun _ h => ⟨fun c => (h.1 c).1, h.2⟩) (Cert.KernelIdeal.Mlp.run_main (F := Ideal) m g)

set_option smartUnfolding false in
set_option maxHeartbeats 8000000 in
/-- The kernel's own text is its idealization's, so the same run, at the machine's floats, is its run. -/
theorem frame_kernel : Cert.quiescent_Kernel := fun m g _ =>
  (θ_run Cert.KernelIdeal.defs _ _).mono (fun _ h => ⟨fun c => (h.1 c).1, h.2⟩) (Cert.KernelIdeal.Mlp.run_main (F := Bits) m g)

theorem frame_reference_ideal : Cert.quiescent_ReferenceIdeal := fun m g _ =>
  (θ_run Cert.ReferenceIdeal.defs _ _).mono (fun _ h => ⟨fun c => (h c).2, sem_eq_zero_of_no_sems (by decide) _⟩) (Cert.ReferenceIdeal.Value.run (F := Ideal) m g)

/-- Each device's result is its block of the reference's result. -/
theorem algebraic : Cert.algebraic_KernelIdeal_ReferenceIdeal := by
  intro m g m' g' _ hin
  refine ⟨_, (θ_run Cert.KernelIdeal.defs _ _).mono (fun r h c => ⟨(h.1 c).2.trans ?_, (h.1 c).1⟩)
      (Cert.KernelIdeal.Mlp.run_main (F := Ideal) m g),
    (θ_run Cert.ReferenceIdeal.defs _ _).mono (fun r h => h 0) (Cert.ReferenceIdeal.Value.run (F := Ideal) m' g')⟩
  exact Cert.KernelIdeal.Mlp.outF_block m _ _ _ _ _ _ _ (fun c => (hin c).1) (fun c => (hin c).2.1) (fun c => (hin c).2.2.1)
    (fun c => (hin c).2.2.2.1) (fun c => (hin c).2.2.2.2.1) (fun c => (hin c).2.2.2.2.2.1) (fun c => (hin c).2.2.2.2.2.2) c

theorem claim : Cert.Claim := ⟨Cert.Kernel.Gen.facts, Cert.KernelIdeal.Gen.facts, Cert.ReferenceIdeal.Gen.facts,
  frame_kernel, frame_kernel_ideal, frame_reference_ideal, trivial, algebraic⟩

end Cert.Proof

end
